-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActIdeal_finite_dact [hPre_finite_dact : Cert.Pre_finite_dact.Facts] (m : (ℓ : Loc Cert.DActIdeal.nD Cert.DActIdeal.τ Cert.DActIdeal.sig) → Buf (Elt Ideal) ℓ) : Prop :=
  ∀ c : Dev Cert.DActIdeal.nD,
    (Cert.Pre_finite_dact.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).1 = (fun _ => 1#1)
    ∧ (Cert.Pre_finite_dact.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.1 = (fun _ => 1#1)
    ∧ (Cert.Pre_finite_dact.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.2 = (fun _ => 1#1)

def Pre_DActRefIdeal (m : (ℓ : Loc Cert.DActRefIdeal.nD Cert.DActRefIdeal.τ Cert.DActRefIdeal.sig) → Buf (Elt Ideal) ℓ) : Prop :=
  True

def Pre_DActRefIdeal_finite_dact [hPre_finite_dact : Cert.Pre_finite_dact.Facts] (m : (ℓ : Loc Cert.DActRefIdeal.nD Cert.DActRefIdeal.τ Cert.DActRefIdeal.sig) → Buf (Elt Ideal) ℓ) : Prop :=
  ∀ c : Dev Cert.DActRefIdeal.nD,
    (Cert.Pre_finite_dact.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).1 = (fun _ => 1#1)
    ∧ (Cert.Pre_finite_dact.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.1 = (fun _ => 1#1)
    ∧ (Cert.Pre_finite_dact.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.2 = (fun _ => 1#1)

def Pre_DDown (m : (ℓ : Loc Cert.DDown.nD Cert.DDown.τ Cert.DDown.sig) → Buf (Elt Bits) ℓ) : Prop :=
  True

def Pre_DDownIdeal (m : (ℓ : Loc Cert.DDownIdeal.nD Cert.DDownIdeal.τ Cert.DDownIdeal.sig) → Buf (Elt Ideal) ℓ) : Prop :=
  True

def Pre_DDownRefIdeal (m : (ℓ : Loc Cert.DDownRefIdeal.nD Cert.DDownRefIdeal.τ Cert.DDownRefIdeal.sig) → Buf (Elt Ideal) ℓ) : Prop :=
  True

def Pre_DGateUp (m : (ℓ : Loc Cert.DGateUp.nD Cert.DGateUp.τ Cert.DGateUp.sig) → Buf (Elt Bits) ℓ) : Prop :=
  True

def Pre_DGateUpIdeal (m : (ℓ : Loc Cert.DGateUpIdeal.nD Cert.DGateUpIdeal.τ Cert.DGateUpIdeal.sig) → Buf (Elt Ideal) ℓ) : Prop :=
  True

def Pre_DGateUpRefIdeal (m : (ℓ : Loc Cert.DGateUpRefIdeal.nD Cert.DGateUpRefIdeal.τ Cert.DGateUpRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_FirstGateUp (m : (ℓ : Loc Cert.FirstGateUp.nD Cert.FirstGateUp.τ Cert.FirstGateUp.sig) → Buf (Elt Bits) ℓ) : Prop :=
  True

def Pre_FirstGateUpIdeal (m : (ℓ : Loc Cert.FirstGateUpIdeal.nD Cert.FirstGateUpIdeal.τ Cert.FirstGateUpIdeal.sig) → Buf (Elt Ideal) ℓ) : Prop :=
  True

def Pre_FirstGateUpRefIdeal (m : (ℓ : Loc Cert.FirstGateUpRefIdeal.nD Cert.FirstGateUpRefIdeal.τ Cert.FirstGateUpRefIdeal.sig) → Buf (Elt Ideal) ℓ) : Prop :=
  True

def Pre_FirstDown (m : (ℓ : Loc Cert.FirstDown.nD Cert.FirstDown.τ Cert.FirstDown.sig) → Buf (Elt Bits) ℓ) : Prop :=
  True

def Pre_FirstDownIdeal (m : (ℓ : Loc Cert.FirstDownIdeal.nD Cert.FirstDownIdeal.τ Cert.FirstDownIdeal.sig) → Buf (Elt Ideal) ℓ) : Prop :=
  True

def Pre_FirstDownRefIdeal (m : (ℓ : Loc Cert.FirstDownRefIdeal.nD Cert.FirstDownRefIdeal.τ Cert.FirstDownRefIdeal.sig) → Buf (Elt Ideal) ℓ) : Prop :=
  True

def Pre_FirstDAct (m : (ℓ : Loc Cert.FirstDAct.nD Cert.FirstDAct.τ Cert.FirstDAct.sig) → Buf (Elt Bits) ℓ) : Prop :=
  True

def Pre_FirstDActIdeal (m : (ℓ : Loc Cert.FirstDActIdeal.nD Cert.FirstDActIdeal.τ Cert.FirstDActIdeal.sig) → Buf (Elt Ideal) ℓ) : Prop :=
  True

def Pre_FirstDActIdeal_finite_first_dact [hPre_finite_first_dact : Cert.Pre_finite_first_dact.Facts] (m : (ℓ : Loc Cert.FirstDActIdeal.nD Cert.FirstDActIdeal.τ Cert.FirstDActIdeal.sig) → Buf (Elt Ideal) ℓ) : Prop :=
  ∀ c : Dev Cert.FirstDActIdeal.nD,
    (Cert.Pre_finite_first_dact.fn (F := Ideal) (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3))).1 = (fun _ => 1#1)
    ∧ (Cert.Pre_finite_first_dact.fn (F := Ideal) (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3))).2.1 = (fun _ => 1#1)
    ∧ (Cert.Pre_finite_first_dact.fn (F := Ideal) (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3))).2.2 = (fun _ => 1#1)

def Pre_FirstDActRefIdeal (m : (ℓ : Loc Cert.FirstDActRefIdeal.nD Cert.FirstDActRefIdeal.τ Cert.FirstDActRefIdeal.sig) → Buf (Elt Ideal) ℓ) : Prop :=
  True

def Pre_FirstDActRefIdeal_finite_first_dact [hPre_finite_first_dact : Cert.Pre_finite_first_dact.Facts] (m : (ℓ : Loc Cert.FirstDActRefIdeal.nD Cert.FirstDActRefIdeal.τ Cert.FirstDActRefIdeal.sig) → Buf (Elt Ideal) ℓ) : Prop :=
  ∀ c : Dev Cert.FirstDActRefIdeal.nD,
    (Cert.Pre_finite_first_dact.fn (F := Ideal) (m ((c.tc : Thread Cert.FirstDActRefIdeal.nD Cert.FirstDActRefIdeal.τ).loc Cert.FirstDActRefIdeal.main_arg0)) (m ((c.tc : Thread Cert.FirstDActRefIdeal.nD Cert.FirstDActRefIdeal.τ).loc Cert.FirstDActRefIdeal.main_arg1)) (m ((c.tc : Thread Cert.FirstDActRefIdeal.nD Cert.FirstDActRefIdeal.τ).loc Cert.FirstDActRefIdeal.main_arg2)) (m ((c.tc : Thread Cert.FirstDActRefIdeal.nD Cert.FirstDActRefIdeal.τ).loc Cert.FirstDActRefIdeal.main_arg3))).1 = (fun _ => 1#1)
    ∧ (Cert.Pre_finite_first_dact.fn (F := Ideal) (m ((c.tc : Thread Cert.FirstDActRefIdeal.nD Cert.FirstDActRefIdeal.τ).loc Cert.FirstDActRefIdeal.main_arg0)) (m ((c.tc : Thread Cert.FirstDActRefIdeal.nD Cert.FirstDActRefIdeal.τ).loc Cert.FirstDActRefIdeal.main_arg1)) (m ((c.tc : Thread Cert.FirstDActRefIdeal.nD Cert.FirstDActRefIdeal.τ).loc Cert.FirstDActRefIdeal.main_arg2)) (m ((c.tc : Thread Cert.FirstDActRefIdeal.nD Cert.FirstDActRefIdeal.τ).loc Cert.FirstDActRefIdeal.main_arg3))).2.1 = (fun _ => 1#1)
    ∧ (Cert.Pre_finite_first_dact.fn (F := Ideal) (m ((c.tc : Thread Cert.FirstDActRefIdeal.nD Cert.FirstDActRefIdeal.τ).loc Cert.FirstDActRefIdeal.main_arg0)) (m ((c.tc : Thread Cert.FirstDActRefIdeal.nD Cert.FirstDActRefIdeal.τ).loc Cert.FirstDActRefIdeal.main_arg1)) (m ((c.tc : Thread Cert.FirstDActRefIdeal.nD Cert.FirstDActRefIdeal.τ).loc Cert.FirstDActRefIdeal.main_arg2)) (m ((c.tc : Thread Cert.FirstDActRefIdeal.nD Cert.FirstDActRefIdeal.τ).loc Cert.FirstDActRefIdeal.main_arg3))).2.2 = (fun _ => 1#1)

def Pre_FirstDDown (m : (ℓ : Loc Cert.FirstDDown.nD Cert.FirstDDown.τ Cert.FirstDDown.sig) → Buf (Elt Bits) ℓ) : Prop :=
  True

def Pre_FirstDDownIdeal (m : (ℓ : Loc Cert.FirstDDownIdeal.nD Cert.FirstDDownIdeal.τ Cert.FirstDDownIdeal.sig) → Buf (Elt Ideal) ℓ) : Prop :=
  True

def Pre_FirstDDownRefIdeal (m : (ℓ : Loc Cert.FirstDDownRefIdeal.nD Cert.FirstDDownRefIdeal.τ Cert.FirstDDownRefIdeal.sig) → Buf (Elt Ideal) ℓ) : Prop :=
  True

def Pre_FirstDGateUp (m : (ℓ : Loc Cert.FirstDGateUp.nD Cert.FirstDGateUp.τ Cert.FirstDGateUp.sig) → Buf (Elt Bits) ℓ) : Prop :=
  True

def Pre_FirstDGateUpIdeal (m : (ℓ : Loc Cert.FirstDGateUpIdeal.nD Cert.FirstDGateUpIdeal.τ Cert.FirstDGateUpIdeal.sig) → Buf (Elt Ideal) ℓ) : Prop :=
  True

def Pre_FirstDGateUpRefIdeal (m : (ℓ : Loc Cert.FirstDGateUpRefIdeal.nD Cert.FirstDGateUpRefIdeal.τ Cert.FirstDGateUpRefIdeal.sig) → Buf (Elt Ideal) ℓ) : Prop :=
  True

def Pre_FirstDNorm (m : (ℓ : Loc Cert.FirstDNorm.nD Cert.FirstDNorm.τ Cert.FirstDNorm.sig) → Buf (Elt Bits) ℓ) : Prop :=
  True

def Pre_FirstDNormIdeal (m : (ℓ : Loc Cert.FirstDNormIdeal.nD Cert.FirstDNormIdeal.τ Cert.FirstDNormIdeal.sig) → Buf (Elt Ideal) ℓ) : Prop :=
  True

def Pre_FirstDNormRefIdeal (m : (ℓ : Loc Cert.FirstDNormRefIdeal.nD Cert.FirstDNormRefIdeal.τ Cert.FirstDNormRefIdeal.sig) → Buf (Elt Ideal) ℓ) : Prop :=
  True

def Pre_AdamFfnColumns (m : (ℓ : Loc Cert.AdamFfnColumns.nD Cert.AdamFfnColumns.τ Cert.AdamFfnColumns.sig) → Buf (Elt Bits) ℓ) : Prop :=
  True

def Pre_AdamFfnColumnsIdeal (m : (ℓ : Loc Cert.AdamFfnColumnsIdeal.nD Cert.AdamFfnColumnsIdeal.τ Cert.AdamFfnColumnsIdeal.sig) → Buf (Elt Ideal) ℓ) : Prop :=
  True

def Pre_AdamFfnColumnsRefIdeal (m : (ℓ : Loc Cert.AdamFfnColumnsRefIdeal.nD Cert.AdamFfnColumnsRefIdeal.τ Cert.AdamFfnColumnsRefIdeal.sig) → Buf (Elt Ideal) ℓ) : Prop :=
  True

def Pre_AdamFfnRows (m : (ℓ : Loc Cert.AdamFfnRows.nD Cert.AdamFfnRows.τ Cert.AdamFfnRows.sig) → Buf (Elt Bits) ℓ) : Prop :=
  True

def Pre_AdamFfnRowsIdeal (m : (ℓ : Loc Cert.AdamFfnRowsIdeal.nD Cert.AdamFfnRowsIdeal.τ Cert.AdamFfnRowsIdeal.sig) → Buf (Elt Ideal) ℓ) : Prop :=
  True

def Pre_AdamFfnRowsRefIdeal (m : (ℓ : Loc Cert.AdamFfnRowsRefIdeal.nD Cert.AdamFfnRowsRefIdeal.τ Cert.AdamFfnRowsRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamNorms (m : (ℓ : Loc Cert.AdamNorms.nD Cert.AdamNorms.τ Cert.AdamNorms.sig) → Buf (Elt Bits) ℓ) : Prop :=
  True

def Pre_AdamNormsIdeal (m : (ℓ : Loc Cert.AdamNormsIdeal.nD Cert.AdamNormsIdeal.τ Cert.AdamNormsIdeal.sig) → Buf (Elt Ideal) ℓ) : Prop :=
  True

def Pre_AdamNormsRefIdeal (m : (ℓ : Loc Cert.AdamNormsRefIdeal.nD Cert.AdamNormsRefIdeal.τ Cert.AdamNormsRefIdeal.sig) → Buf (Elt Ideal) ℓ) : Prop :=
  True

def Pre_AdamMlstmIn (m : (ℓ : Loc Cert.AdamMlstmIn.nD Cert.AdamMlstmIn.τ Cert.AdamMlstmIn.sig) → Buf (Elt Bits) ℓ) : Prop :=
  True

def Pre_AdamMlstmInIdeal (m : (ℓ : Loc Cert.AdamMlstmInIdeal.nD Cert.AdamMlstmInIdeal.τ Cert.AdamMlstmInIdeal.sig) → Buf (Elt Ideal) ℓ) : Prop :=
  True

def Pre_AdamMlstmInRefIdeal (m : (ℓ : Loc Cert.AdamMlstmInRefIdeal.nD Cert.AdamMlstmInRefIdeal.τ Cert.AdamMlstmInRefIdeal.sig) → Buf (Elt Ideal) ℓ) : Prop :=
  True

def Pre_AdamSquareOut (m : (ℓ : Loc Cert.AdamSquareOut.nD Cert.AdamSquareOut.τ Cert.AdamSquareOut.sig) → Buf (Elt Bits) ℓ) : Prop :=
  True

def Pre_AdamSquareOutIdeal (m : (ℓ : Loc Cert.AdamSquareOutIdeal.nD Cert.AdamSquareOutIdeal.τ Cert.AdamSquareOutIdeal.sig) → Buf (Elt Ideal) ℓ) : Prop :=
  True

def Pre_AdamSquareOutRefIdeal (m : (ℓ : Loc Cert.AdamSquareOutRefIdeal.nD Cert.AdamSquareOutRefIdeal.τ Cert.AdamSquareOutRefIdeal.sig) → Buf (Elt Ideal) ℓ) : Prop :=
  True

def Pre_AdamMlstmBias (m : (ℓ : Loc Cert.AdamMlstmBias.nD Cert.AdamMlstmBias.τ Cert.AdamMlstmBias.sig) → Buf (Elt Bits) ℓ) : Prop :=
  True

def Pre_AdamMlstmBiasIdeal (m : (ℓ : Loc Cert.AdamMlstmBiasIdeal.nD Cert.AdamMlstmBiasIdeal.τ Cert.AdamMlstmBiasIdeal.sig) → Buf (Elt Ideal) ℓ) : Prop :=
  True

def Pre_AdamMlstmBiasRefIdeal (m : (ℓ : Loc Cert.AdamMlstmBiasRefIdeal.nD Cert.AdamMlstmBiasRefIdeal.τ Cert.AdamMlstmBiasRefIdeal.sig) → Buf (Elt Ideal) ℓ) : Prop :=
  True

def Pre_AdamRow2048 (m : (ℓ : Loc Cert.AdamRow2048.nD Cert.AdamRow2048.τ Cert.AdamRow2048.sig) → Buf (Elt Bits) ℓ) : Prop :=
  True

def Pre_AdamRow2048Ideal (m : (ℓ : Loc Cert.AdamRow2048Ideal.nD Cert.AdamRow2048Ideal.τ Cert.AdamRow2048Ideal.sig) → Buf (Elt Ideal) ℓ) : Prop :=
  True

def Pre_AdamRow2048RefIdeal (m : (ℓ : Loc Cert.AdamRow2048RefIdeal.nD Cert.AdamRow2048RefIdeal.τ Cert.AdamRow2048RefIdeal.sig) → Buf (Elt Ideal) ℓ) : Prop :=
  True

def Pre_AdamPoolWeight (m : (ℓ : Loc Cert.AdamPoolWeight.nD Cert.AdamPoolWeight.τ Cert.AdamPoolWeight.sig) → Buf (Elt Bits) ℓ) : Prop :=
  True

def Pre_AdamPoolWeightIdeal (m : (ℓ : Loc Cert.AdamPoolWeightIdeal.nD Cert.AdamPoolWeightIdeal.τ Cert.AdamPoolWeightIdeal.sig) → Buf (Elt Ideal) ℓ) : Prop :=
  True

def Pre_AdamPoolWeightRefIdeal (m : (ℓ : Loc Cert.AdamPoolWeightRefIdeal.nD Cert.AdamPoolWeightRefIdeal.τ Cert.AdamPoolWeightRefIdeal.sig) → Buf (Elt Ideal) ℓ) : Prop :=
  True

def Pre_AdamRow512 (m : (ℓ : Loc Cert.AdamRow512.nD Cert.AdamRow512.τ Cert.AdamRow512.sig) → Buf (Elt Bits) ℓ) : Prop :=
  True

def Pre_AdamRow512Ideal (m : (ℓ : Loc Cert.AdamRow512Ideal.nD Cert.AdamRow512Ideal.τ Cert.AdamRow512Ideal.sig) → Buf (Elt Ideal) ℓ) : Prop :=
  True

def Pre_AdamRow512RefIdeal (m : (ℓ : Loc Cert.AdamRow512RefIdeal.nD Cert.AdamRow512RefIdeal.τ Cert.AdamRow512RefIdeal.sig) → Buf (Elt Ideal) ℓ) : Prop :=
  True

def Pre_AdamGdnIn (m : (ℓ : Loc Cert.AdamGdnIn.nD Cert.AdamGdnIn.τ Cert.AdamGdnIn.sig) → Buf (Elt Bits) ℓ) : Prop :=
  True

def Pre_AdamGdnInIdeal (m : (ℓ : Loc Cert.AdamGdnInIdeal.nD Cert.AdamGdnInIdeal.τ Cert.AdamGdnInIdeal.sig) → Buf (Elt Ideal) ℓ) : Prop :=
  True

def Pre_AdamGdnInRefIdeal (m : (ℓ : Loc Cert.AdamGdnInRefIdeal.nD Cert.AdamGdnInRefIdeal.τ Cert.AdamGdnInRefIdeal.sig) → Buf (Elt Ideal) ℓ) : Prop :=
  True

def Pre_AdamGdnConv (m : (ℓ : Loc Cert.AdamGdnConv.nD Cert.AdamGdnConv.τ Cert.AdamGdnConv.sig) → Buf (Elt Bits) ℓ) : Prop :=
  True

def Pre_AdamGdnConvIdeal (m : (ℓ : Loc Cert.AdamGdnConvIdeal.nD Cert.AdamGdnConvIdeal.τ Cert.AdamGdnConvIdeal.sig) → Buf (Elt Ideal) ℓ) : Prop :=
  True

def Pre_AdamGdnConvRefIdeal (m : (ℓ : Loc Cert.AdamGdnConvRefIdeal.nD Cert.AdamGdnConvRefIdeal.τ Cert.AdamGdnConvRefIdeal.sig) → Buf (Elt Ideal) ℓ) : Prop :=
  True

def Pre_AdamRow32 (m : (ℓ : Loc Cert.AdamRow32.nD Cert.AdamRow32.τ Cert.AdamRow32.sig) → Buf (Elt Bits) ℓ) : Prop :=
  True

def Pre_AdamRow32Ideal (m : (ℓ : Loc Cert.AdamRow32Ideal.nD Cert.AdamRow32Ideal.τ Cert.AdamRow32Ideal.sig) → Buf (Elt Ideal) ℓ) : Prop :=
  True

def Pre_AdamRow32RefIdeal (m : (ℓ : Loc Cert.AdamRow32RefIdeal.nD Cert.AdamRow32RefIdeal.τ Cert.AdamRow32RefIdeal.sig) → Buf (Elt Ideal) ℓ) : Prop :=
  True

def Pre_AdamRow128 (m : (ℓ : Loc Cert.AdamRow128.nD Cert.AdamRow128.τ Cert.AdamRow128.sig) → Buf (Elt Bits) ℓ) : Prop :=
  True

def Pre_AdamRow128Ideal (m : (ℓ : Loc Cert.AdamRow128Ideal.nD Cert.AdamRow128Ideal.τ Cert.AdamRow128Ideal.sig) → Buf (Elt Ideal) ℓ) : Prop :=
  True

def Pre_AdamRow128RefIdeal (m : (ℓ : Loc Cert.AdamRow128RefIdeal.nD Cert.AdamRow128RefIdeal.τ Cert.AdamRow128RefIdeal.sig) → Buf (Elt Ideal) ℓ) : Prop :=
  True

def Pre_AdamGdnOut (m : (ℓ : Loc Cert.AdamGdnOut.nD Cert.AdamGdnOut.τ Cert.AdamGdnOut.sig) → Buf (Elt Bits) ℓ) : Prop :=
  True

def Pre_AdamGdnOutIdeal (m : (ℓ : Loc Cert.AdamGdnOutIdeal.nD Cert.AdamGdnOutIdeal.τ Cert.AdamGdnOutIdeal.sig) → Buf (Elt Ideal) ℓ) : Prop :=
  True

def Pre_AdamGdnOutRefIdeal (m : (ℓ : Loc Cert.AdamGdnOutRefIdeal.nD Cert.AdamGdnOutRefIdeal.τ Cert.AdamGdnOutRefIdeal.sig) → Buf (Elt Ideal) ℓ) : Prop :=
  True

def Pre_AdamSwaIn (m : (ℓ : Loc Cert.AdamSwaIn.nD Cert.AdamSwaIn.τ Cert.AdamSwaIn.sig) → Buf (Elt Bits) ℓ) : Prop :=
  True

def Pre_AdamSwaInIdeal (m : (ℓ : Loc Cert.AdamSwaInIdeal.nD Cert.AdamSwaInIdeal.τ Cert.AdamSwaInIdeal.sig) → Buf (Elt Ideal) ℓ) : Prop :=
  True

def Pre_AdamSwaInRefIdeal (m : (ℓ : Loc Cert.AdamSwaInRefIdeal.nD Cert.AdamSwaInRefIdeal.τ Cert.AdamSwaInRefIdeal.sig) → Buf (Elt Ideal) ℓ) : Prop :=
  True

def Pre_AdamRow640 (m : (ℓ : Loc Cert.AdamRow640.nD Cert.AdamRow640.τ Cert.AdamRow640.sig) → Buf (Elt Bits) ℓ) : Prop :=
  True

def Pre_AdamRow640Ideal (m : (ℓ : Loc Cert.AdamRow640Ideal.nD Cert.AdamRow640Ideal.τ Cert.AdamRow640Ideal.sig) → Buf (Elt Ideal) ℓ) : Prop :=
  True

def Pre_AdamRow640RefIdeal (m : (ℓ : Loc Cert.AdamRow640RefIdeal.nD Cert.AdamRow640RefIdeal.τ Cert.AdamRow640RefIdeal.sig) → Buf (Elt Ideal) ℓ) : Prop :=
  True

def Pre_AdamFinalNorm (m : (ℓ : Loc Cert.AdamFinalNorm.nD Cert.AdamFinalNorm.τ Cert.AdamFinalNorm.sig) → Buf (Elt Bits) ℓ) : Prop :=
  True

def Pre_AdamFinalNormIdeal (m : (ℓ : Loc Cert.AdamFinalNormIdeal.nD Cert.AdamFinalNormIdeal.τ Cert.AdamFinalNormIdeal.sig) → Buf (Elt Ideal) ℓ) : Prop :=
  True

def Pre_AdamFinalNormRefIdeal (m : (ℓ : Loc Cert.AdamFinalNormRefIdeal.nD Cert.AdamFinalNormRefIdeal.τ Cert.AdamFinalNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2)
      ∧ r.2.mem ((c.tc : Thread Cert.DAct.nD Cert.DAct.τ).loc Cert.DAct.main_arg3) = m ((c.tc : Thread Cert.DAct.nD Cert.DAct.τ).loc Cert.DAct.main_arg3))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActIdeal_pre_finite_dact [hDActIdeal : Cert.DActIdeal.Facts] [hPre_finite_dact : Cert.Pre_finite_dact.Facts] : Prop :=
  ∀ (m : (ℓ : Loc Cert.DActIdeal.nD Cert.DActIdeal.τ Cert.DActIdeal.sig) → Buf (Elt Ideal) ℓ) (g : Dev Cert.DActIdeal.nD → PrngReg), Pre_DActIdeal_finite_dact m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_DActRefIdeal_pre_finite_dact [hDActRefIdeal : Cert.DActRefIdeal.Facts] [hPre_finite_dact : Cert.Pre_finite_dact.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal_finite_dact m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_DDown [hDDown : Cert.DDown.Facts] : Prop :=
  ∀ (m : (ℓ : Loc Cert.DDown.nD Cert.DDown.τ Cert.DDown.sig) → Buf (Elt Bits) ℓ) (g : Dev Cert.DDown.nD → PrngReg), Pre_DDown m →
    θ_run (Cert.DDown.defs (F := Bits)) (onTc (τ := Cert.DDown.τ) (Cert.DDown.main (F := Bits))) ⟨m, fun _ => 0, g⟩ (fun r => (∀ c : Dev Cert.DDown.nD,
      r.2.mem ((c.tc : Thread Cert.DDown.nD Cert.DDown.τ).loc Cert.DDown.main_arg0) = m ((c.tc : Thread Cert.DDown.nD Cert.DDown.τ).loc Cert.DDown.main_arg0)
      ∧ r.2.mem ((c.tc : Thread Cert.DDown.nD Cert.DDown.τ).loc Cert.DDown.main_arg1) = m ((c.tc : Thread Cert.DDown.nD Cert.DDown.τ).loc Cert.DDown.main_arg1)
      ∧ r.2.mem ((c.tc : Thread Cert.DDown.nD Cert.DDown.τ).loc Cert.DDown.main_arg2) = m ((c.tc : Thread Cert.DDown.nD Cert.DDown.τ).loc Cert.DDown.main_arg2))
      ∧ r.2.sem = fun _ => 0)

def quiescent_DDownIdeal [hDDownIdeal : Cert.DDownIdeal.Facts] : Prop :=
  ∀ (m : (ℓ : Loc Cert.DDownIdeal.nD Cert.DDownIdeal.τ Cert.DDownIdeal.sig) → Buf (Elt Ideal) ℓ) (g : Dev Cert.DDownIdeal.nD → PrngReg), Pre_DDownIdeal m →
    θ_run (Cert.DDownIdeal.defs (F := Ideal)) (onTc (τ := Cert.DDownIdeal.τ) (Cert.DDownIdeal.main (F := Ideal))) ⟨m, fun _ => 0, g⟩ (fun r => (∀ c : Dev Cert.DDownIdeal.nD,
      r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
      ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
      ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2))
      ∧ r.2.sem = fun _ => 0)

def quiescent_DDownRefIdeal [hDDownRefIdeal : Cert.DDownRefIdeal.Facts] : Prop :=
  ∀ (m : (ℓ : Loc Cert.DDownRefIdeal.nD Cert.DDownRefIdeal.τ Cert.DDownRefIdeal.sig) → Buf (Elt Ideal) ℓ) (g : Dev Cert.DDownRefIdeal.nD → PrngReg), Pre_DDownRefIdeal m →
    θ_run (Cert.DDownRefIdeal.defs (F := Ideal)) (onTc (τ := Cert.DDownRefIdeal.τ) (Cert.DDownRefIdeal.main (F := Ideal))) ⟨m, fun _ => 0, g⟩ (fun r => (∀ c : Dev Cert.DDownRefIdeal.nD,
      r.2.mem ((c.tc : Thread Cert.DDownRefIdeal.nD Cert.DDownRefIdeal.τ).loc Cert.DDownRefIdeal.main_arg0) = m ((c.tc : Thread Cert.DDownRefIdeal.nD Cert.DDownRefIdeal.τ).loc Cert.DDownRefIdeal.main_arg0)
      ∧ r.2.mem ((c.tc : Thread Cert.DDownRefIdeal.nD Cert.DDownRefIdeal.τ).loc Cert.DDownRefIdeal.main_arg1) = m ((c.tc : Thread Cert.DDownRefIdeal.nD Cert.DDownRefIdeal.τ).loc Cert.DDownRefIdeal.main_arg1)
      ∧ r.2.mem ((c.tc : Thread Cert.DDownRefIdeal.nD Cert.DDownRefIdeal.τ).loc Cert.DDownRefIdeal.main_arg2) = m ((c.tc : Thread Cert.DDownRefIdeal.nD Cert.DDownRefIdeal.τ).loc Cert.DDownRefIdeal.main_arg2))
      ∧ r.2.sem = fun _ => 0)

def quiescent_DGateUp [hDGateUp : Cert.DGateUp.Facts] : Prop :=
  ∀ (m : (ℓ : Loc Cert.DGateUp.nD Cert.DGateUp.τ Cert.DGateUp.sig) → Buf (Elt Bits) ℓ) (g : Dev Cert.DGateUp.nD → PrngReg), Pre_DGateUp m →
    θ_run (Cert.DGateUp.defs (F := Bits)) (onTc (τ := Cert.DGateUp.τ) (Cert.DGateUp.main (F := Bits))) ⟨m, fun _ => 0, g⟩ (fun r => (∀ c : Dev Cert.DGateUp.nD,
      r.2.mem ((c.tc : Thread Cert.DGateUp.nD Cert.DGateUp.τ).loc Cert.DGateUp.main_arg0) = m ((c.tc : Thread Cert.DGateUp.nD Cert.DGateUp.τ).loc Cert.DGateUp.main_arg0)
      ∧ r.2.mem ((c.tc : Thread Cert.DGateUp.nD Cert.DGateUp.τ).loc Cert.DGateUp.main_arg1) = m ((c.tc : Thread Cert.DGateUp.nD Cert.DGateUp.τ).loc Cert.DGateUp.main_arg1)
      ∧ r.2.mem ((c.tc : Thread Cert.DGateUp.nD Cert.DGateUp.τ).loc Cert.DGateUp.main_arg2) = m ((c.tc : Thread Cert.DGateUp.nD Cert.DGateUp.τ).loc Cert.DGateUp.main_arg2)
      ∧ r.2.mem ((c.tc : Thread Cert.DGateUp.nD Cert.DGateUp.τ).loc Cert.DGateUp.main_arg3) = m ((c.tc : Thread Cert.DGateUp.nD Cert.DGateUp.τ).loc Cert.DGateUp.main_arg3)
      ∧ r.2.mem ((c.tc : Thread Cert.DGateUp.nD Cert.DGateUp.τ).loc Cert.DGateUp.main_arg4) = m ((c.tc : Thread Cert.DGateUp.nD Cert.DGateUp.τ).loc Cert.DGateUp.main_arg4))
      ∧ r.2.sem = fun _ => 0)

def quiescent_DGateUpIdeal [hDGateUpIdeal : Cert.DGateUpIdeal.Facts] : Prop :=
  ∀ (m : (ℓ : Loc Cert.DGateUpIdeal.nD Cert.DGateUpIdeal.τ Cert.DGateUpIdeal.sig) → Buf (Elt Ideal) ℓ) (g : Dev Cert.DGateUpIdeal.nD → PrngReg), Pre_DGateUpIdeal m →
    θ_run (Cert.DGateUpIdeal.defs (F := Ideal)) (onTc (τ := Cert.DGateUpIdeal.τ) (Cert.DGateUpIdeal.main (F := Ideal))) ⟨m, fun _ => 0, g⟩ (fun r => (∀ c : Dev Cert.DGateUpIdeal.nD,
      r.2.mem ((c.tc : Thread Cert.DGateUpIdeal.nD Cert.DGateUpIdeal.τ).loc Cert.DGateUpIdeal.main_arg0) = m ((c.tc : Thread Cert.DGateUpIdeal.nD Cert.DGateUpIdeal.τ).loc Cert.DGateUpIdeal.main_arg0)
      ∧ r.2.mem ((c.tc : Thread Cert.DGateUpIdeal.nD Cert.DGateUpIdeal.τ).loc Cert.DGateUpIdeal.main_arg1) = m ((c.tc : Thread Cert.DGateUpIdeal.nD Cert.DGateUpIdeal.τ).loc Cert.DGateUpIdeal.main_arg1)
      ∧ r.2.mem ((c.tc : Thread Cert.DGateUpIdeal.nD Cert.DGateUpIdeal.τ).loc Cert.DGateUpIdeal.main_arg2) = m ((c.tc : Thread Cert.DGateUpIdeal.nD Cert.DGateUpIdeal.τ).loc Cert.DGateUpIdeal.main_arg2)
      ∧ r.2.mem ((c.tc : Thread Cert.DGateUpIdeal.nD Cert.DGateUpIdeal.τ).loc Cert.DGateUpIdeal.main_arg3) = m ((c.tc : Thread Cert.DGateUpIdeal.nD Cert.DGateUpIdeal.τ).loc Cert.DGateUpIdeal.main_arg3)
      ∧ r.2.mem ((c.tc : Thread Cert.DGateUpIdeal.nD Cert.DGateUpIdeal.τ).loc Cert.DGateUpIdeal.main_arg4) = m ((c.tc : Thread Cert.DGateUpIdeal.nD Cert.DGateUpIdeal.τ).loc Cert.DGateUpIdeal.main_arg4))
      ∧ r.2.sem = fun _ => 0)

def quiescent_DGateUpRefIdeal [hDGateUpRefIdeal : Cert.DGateUpRefIdeal.Facts] : Prop :=
  ∀ (m : (ℓ : Loc Cert.DGateUpRefIdeal.nD Cert.DGateUpRefIdeal.τ Cert.DGateUpRefIdeal.sig) → Buf (Elt Ideal) ℓ) (g : Dev Cert.DGateUpRefIdeal.nD → PrngReg), Pre_DGateUpRefIdeal m →
    θ_run (Cert.DGateUpRefIdeal.defs (F := Ideal)) (onTc (τ := Cert.DGateUpRefIdeal.τ) (Cert.DGateUpRefIdeal.main (F := Ideal))) ⟨m, fun _ => 0, g⟩ (fun r => (∀ c : Dev Cert.DGateUpRefIdeal.nD,
      r.2.mem ((c.tc : Thread Cert.DGateUpRefIdeal.nD Cert.DGateUpRefIdeal.τ).loc Cert.DGateUpRefIdeal.main_arg0) = m ((c.tc : Thread Cert.DGateUpRefIdeal.nD Cert.DGateUpRefIdeal.τ).loc Cert.DGateUpRefIdeal.main_arg0)
      ∧ r.2.mem ((c.tc : Thread Cert.DGateUpRefIdeal.nD Cert.DGateUpRefIdeal.τ).loc Cert.DGateUpRefIdeal.main_arg1) = m ((c.tc : Thread Cert.DGateUpRefIdeal.nD Cert.DGateUpRefIdeal.τ).loc Cert.DGateUpRefIdeal.main_arg1)
      ∧ r.2.mem ((c.tc : Thread Cert.DGateUpRefIdeal.nD Cert.DGateUpRefIdeal.τ).loc Cert.DGateUpRefIdeal.main_arg2) = m ((c.tc : Thread Cert.DGateUpRefIdeal.nD Cert.DGateUpRefIdeal.τ).loc Cert.DGateUpRefIdeal.main_arg2)
      ∧ r.2.mem ((c.tc : Thread Cert.DGateUpRefIdeal.nD Cert.DGateUpRefIdeal.τ).loc Cert.DGateUpRefIdeal.main_arg3) = m ((c.tc : Thread Cert.DGateUpRefIdeal.nD Cert.DGateUpRefIdeal.τ).loc Cert.DGateUpRefIdeal.main_arg3)
      ∧ r.2.mem ((c.tc : Thread Cert.DGateUpRefIdeal.nD Cert.DGateUpRefIdeal.τ).loc Cert.DGateUpRefIdeal.main_arg4) = m ((c.tc : Thread Cert.DGateUpRefIdeal.nD Cert.DGateUpRefIdeal.τ).loc Cert.DGateUpRefIdeal.main_arg4))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1)
      ∧ r.2.mem ((c.tc : Thread Cert.DNorm.nD Cert.DNorm.τ).loc Cert.DNorm.main_arg2) = m ((c.tc : Thread Cert.DNorm.nD Cert.DNorm.τ).loc Cert.DNorm.main_arg2)
      ∧ r.2.mem ((c.tc : Thread Cert.DNorm.nD Cert.DNorm.τ).loc Cert.DNorm.main_arg3) = m ((c.tc : Thread Cert.DNorm.nD Cert.DNorm.τ).loc Cert.DNorm.main_arg3))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
      ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
      ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
      ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
      ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3))
      ∧ r.2.sem = fun _ => 0)

def quiescent_FirstGateUp [hFirstGateUp : Cert.FirstGateUp.Facts] : Prop :=
  ∀ (m : (ℓ : Loc Cert.FirstGateUp.nD Cert.FirstGateUp.τ Cert.FirstGateUp.sig) → Buf (Elt Bits) ℓ) (g : Dev Cert.FirstGateUp.nD → PrngReg), Pre_FirstGateUp m →
    θ_run (Cert.FirstGateUp.defs (F := Bits)) (onTc (τ := Cert.FirstGateUp.τ) (Cert.FirstGateUp.main (F := Bits))) ⟨m, fun _ => 0, g⟩ (fun r => (∀ c : Dev Cert.FirstGateUp.nD,
      r.2.mem ((c.tc : Thread Cert.FirstGateUp.nD Cert.FirstGateUp.τ).loc Cert.FirstGateUp.main_arg0) = m ((c.tc : Thread Cert.FirstGateUp.nD Cert.FirstGateUp.τ).loc Cert.FirstGateUp.main_arg0)
      ∧ r.2.mem ((c.tc : Thread Cert.FirstGateUp.nD Cert.FirstGateUp.τ).loc Cert.FirstGateUp.main_arg1) = m ((c.tc : Thread Cert.FirstGateUp.nD Cert.FirstGateUp.τ).loc Cert.FirstGateUp.main_arg1)
      ∧ r.2.mem ((c.tc : Thread Cert.FirstGateUp.nD Cert.FirstGateUp.τ).loc Cert.FirstGateUp.main_arg2) = m ((c.tc : Thread Cert.FirstGateUp.nD Cert.FirstGateUp.τ).loc Cert.FirstGateUp.main_arg2))
      ∧ r.2.sem = fun _ => 0)

def quiescent_FirstGateUpIdeal [hFirstGateUpIdeal : Cert.FirstGateUpIdeal.Facts] : Prop :=
  ∀ (m : (ℓ : Loc Cert.FirstGateUpIdeal.nD Cert.FirstGateUpIdeal.τ Cert.FirstGateUpIdeal.sig) → Buf (Elt Ideal) ℓ) (g : Dev Cert.FirstGateUpIdeal.nD → PrngReg), Pre_FirstGateUpIdeal m →
    θ_run (Cert.FirstGateUpIdeal.defs (F := Ideal)) (onTc (τ := Cert.FirstGateUpIdeal.τ) (Cert.FirstGateUpIdeal.main (F := Ideal))) ⟨m, fun _ => 0, g⟩ (fun r => (∀ c : Dev Cert.FirstGateUpIdeal.nD,
      r.2.mem ((c.tc : Thread Cert.FirstGateUpIdeal.nD Cert.FirstGateUpIdeal.τ).loc Cert.FirstGateUpIdeal.main_arg0) = m ((c.tc : Thread Cert.FirstGateUpIdeal.nD Cert.FirstGateUpIdeal.τ).loc Cert.FirstGateUpIdeal.main_arg0)
      ∧ r.2.mem ((c.tc : Thread Cert.FirstGateUpIdeal.nD Cert.FirstGateUpIdeal.τ).loc Cert.FirstGateUpIdeal.main_arg1) = m ((c.tc : Thread Cert.FirstGateUpIdeal.nD Cert.FirstGateUpIdeal.τ).loc Cert.FirstGateUpIdeal.main_arg1)
      ∧ r.2.mem ((c.tc : Thread Cert.FirstGateUpIdeal.nD Cert.FirstGateUpIdeal.τ).loc Cert.FirstGateUpIdeal.main_arg2) = m ((c.tc : Thread Cert.FirstGateUpIdeal.nD Cert.FirstGateUpIdeal.τ).loc Cert.FirstGateUpIdeal.main_arg2))
      ∧ r.2.sem = fun _ => 0)

def quiescent_FirstGateUpRefIdeal [hFirstGateUpRefIdeal : Cert.FirstGateUpRefIdeal.Facts] : Prop :=
  ∀ (m : (ℓ : Loc Cert.FirstGateUpRefIdeal.nD Cert.FirstGateUpRefIdeal.τ Cert.FirstGateUpRefIdeal.sig) → Buf (Elt Ideal) ℓ) (g : Dev Cert.FirstGateUpRefIdeal.nD → PrngReg), Pre_FirstGateUpRefIdeal m →
    θ_run (Cert.FirstGateUpRefIdeal.defs (F := Ideal)) (onTc (τ := Cert.FirstGateUpRefIdeal.τ) (Cert.FirstGateUpRefIdeal.main (F := Ideal))) ⟨m, fun _ => 0, g⟩ (fun r => (∀ c : Dev Cert.FirstGateUpRefIdeal.nD,
      r.2.mem ((c.tc : Thread Cert.FirstGateUpRefIdeal.nD Cert.FirstGateUpRefIdeal.τ).loc Cert.FirstGateUpRefIdeal.main_arg0) = m ((c.tc : Thread Cert.FirstGateUpRefIdeal.nD Cert.FirstGateUpRefIdeal.τ).loc Cert.FirstGateUpRefIdeal.main_arg0)
      ∧ r.2.mem ((c.tc : Thread Cert.FirstGateUpRefIdeal.nD Cert.FirstGateUpRefIdeal.τ).loc Cert.FirstGateUpRefIdeal.main_arg1) = m ((c.tc : Thread Cert.FirstGateUpRefIdeal.nD Cert.FirstGateUpRefIdeal.τ).loc Cert.FirstGateUpRefIdeal.main_arg1)
      ∧ r.2.mem ((c.tc : Thread Cert.FirstGateUpRefIdeal.nD Cert.FirstGateUpRefIdeal.τ).loc Cert.FirstGateUpRefIdeal.main_arg2) = m ((c.tc : Thread Cert.FirstGateUpRefIdeal.nD Cert.FirstGateUpRefIdeal.τ).loc Cert.FirstGateUpRefIdeal.main_arg2))
      ∧ r.2.sem = fun _ => 0)

def quiescent_FirstDown [hFirstDown : Cert.FirstDown.Facts] : Prop :=
  ∀ (m : (ℓ : Loc Cert.FirstDown.nD Cert.FirstDown.τ Cert.FirstDown.sig) → Buf (Elt Bits) ℓ) (g : Dev Cert.FirstDown.nD → PrngReg), Pre_FirstDown m →
    θ_run (Cert.FirstDown.defs (F := Bits)) (onTc (τ := Cert.FirstDown.τ) (Cert.FirstDown.main (F := Bits))) ⟨m, fun _ => 0, g⟩ (fun r => (∀ c : Dev Cert.FirstDown.nD,
      r.2.mem ((c.tc : Thread Cert.FirstDown.nD Cert.FirstDown.τ).loc Cert.FirstDown.main_arg0) = m ((c.tc : Thread Cert.FirstDown.nD Cert.FirstDown.τ).loc Cert.FirstDown.main_arg0)
      ∧ r.2.mem ((c.tc : Thread Cert.FirstDown.nD Cert.FirstDown.τ).loc Cert.FirstDown.main_arg1) = m ((c.tc : Thread Cert.FirstDown.nD Cert.FirstDown.τ).loc Cert.FirstDown.main_arg1)
      ∧ r.2.mem ((c.tc : Thread Cert.FirstDown.nD Cert.FirstDown.τ).loc Cert.FirstDown.main_arg2) = m ((c.tc : Thread Cert.FirstDown.nD Cert.FirstDown.τ).loc Cert.FirstDown.main_arg2))
      ∧ r.2.sem = fun _ => 0)

def quiescent_FirstDownIdeal [hFirstDownIdeal : Cert.FirstDownIdeal.Facts] : Prop :=
  ∀ (m : (ℓ : Loc Cert.FirstDownIdeal.nD Cert.FirstDownIdeal.τ Cert.FirstDownIdeal.sig) → Buf (Elt Ideal) ℓ) (g : Dev Cert.FirstDownIdeal.nD → PrngReg), Pre_FirstDownIdeal m →
    θ_run (Cert.FirstDownIdeal.defs (F := Ideal)) (onTc (τ := Cert.FirstDownIdeal.τ) (Cert.FirstDownIdeal.main (F := Ideal))) ⟨m, fun _ => 0, g⟩ (fun r => (∀ c : Dev Cert.FirstDownIdeal.nD,
      r.2.mem ((c.tc : Thread Cert.FirstDownIdeal.nD Cert.FirstDownIdeal.τ).loc Cert.FirstDownIdeal.main_arg0) = m ((c.tc : Thread Cert.FirstDownIdeal.nD Cert.FirstDownIdeal.τ).loc Cert.FirstDownIdeal.main_arg0)
      ∧ r.2.mem ((c.tc : Thread Cert.FirstDownIdeal.nD Cert.FirstDownIdeal.τ).loc Cert.FirstDownIdeal.main_arg1) = m ((c.tc : Thread Cert.FirstDownIdeal.nD Cert.FirstDownIdeal.τ).loc Cert.FirstDownIdeal.main_arg1)
      ∧ r.2.mem ((c.tc : Thread Cert.FirstDownIdeal.nD Cert.FirstDownIdeal.τ).loc Cert.FirstDownIdeal.main_arg2) = m ((c.tc : Thread Cert.FirstDownIdeal.nD Cert.FirstDownIdeal.τ).loc Cert.FirstDownIdeal.main_arg2))
      ∧ r.2.sem = fun _ => 0)

def quiescent_FirstDownRefIdeal [hFirstDownRefIdeal : Cert.FirstDownRefIdeal.Facts] : Prop :=
  ∀ (m : (ℓ : Loc Cert.FirstDownRefIdeal.nD Cert.FirstDownRefIdeal.τ Cert.FirstDownRefIdeal.sig) → Buf (Elt Ideal) ℓ) (g : Dev Cert.FirstDownRefIdeal.nD → PrngReg), Pre_FirstDownRefIdeal m →
    θ_run (Cert.FirstDownRefIdeal.defs (F := Ideal)) (onTc (τ := Cert.FirstDownRefIdeal.τ) (Cert.FirstDownRefIdeal.main (F := Ideal))) ⟨m, fun _ => 0, g⟩ (fun r => (∀ c : Dev Cert.FirstDownRefIdeal.nD,
      r.2.mem ((c.tc : Thread Cert.FirstDownRefIdeal.nD Cert.FirstDownRefIdeal.τ).loc Cert.FirstDownRefIdeal.main_arg0) = m ((c.tc : Thread Cert.FirstDownRefIdeal.nD Cert.FirstDownRefIdeal.τ).loc Cert.FirstDownRefIdeal.main_arg0)
      ∧ r.2.mem ((c.tc : Thread Cert.FirstDownRefIdeal.nD Cert.FirstDownRefIdeal.τ).loc Cert.FirstDownRefIdeal.main_arg1) = m ((c.tc : Thread Cert.FirstDownRefIdeal.nD Cert.FirstDownRefIdeal.τ).loc Cert.FirstDownRefIdeal.main_arg1)
      ∧ r.2.mem ((c.tc : Thread Cert.FirstDownRefIdeal.nD Cert.FirstDownRefIdeal.τ).loc Cert.FirstDownRefIdeal.main_arg2) = m ((c.tc : Thread Cert.FirstDownRefIdeal.nD Cert.FirstDownRefIdeal.τ).loc Cert.FirstDownRefIdeal.main_arg2))
      ∧ r.2.sem = fun _ => 0)

def quiescent_FirstDAct [hFirstDAct : Cert.FirstDAct.Facts] : Prop :=
  ∀ (m : (ℓ : Loc Cert.FirstDAct.nD Cert.FirstDAct.τ Cert.FirstDAct.sig) → Buf (Elt Bits) ℓ) (g : Dev Cert.FirstDAct.nD → PrngReg), Pre_FirstDAct m →
    θ_run (Cert.FirstDAct.defs (F := Bits)) (onTc (τ := Cert.FirstDAct.τ) (Cert.FirstDAct.main (F := Bits))) ⟨m, fun _ => 0, g⟩ (fun r => (∀ c : Dev Cert.FirstDAct.nD,
      r.2.mem ((c.tc : Thread Cert.FirstDAct.nD Cert.FirstDAct.τ).loc Cert.FirstDAct.main_arg0) = m ((c.tc : Thread Cert.FirstDAct.nD Cert.FirstDAct.τ).loc Cert.FirstDAct.main_arg0)
      ∧ r.2.mem ((c.tc : Thread Cert.FirstDAct.nD Cert.FirstDAct.τ).loc Cert.FirstDAct.main_arg1) = m ((c.tc : Thread Cert.FirstDAct.nD Cert.FirstDAct.τ).loc Cert.FirstDAct.main_arg1)
      ∧ r.2.mem ((c.tc : Thread Cert.FirstDAct.nD Cert.FirstDAct.τ).loc Cert.FirstDAct.main_arg2) = m ((c.tc : Thread Cert.FirstDAct.nD Cert.FirstDAct.τ).loc Cert.FirstDAct.main_arg2)
      ∧ r.2.mem ((c.tc : Thread Cert.FirstDAct.nD Cert.FirstDAct.τ).loc Cert.FirstDAct.main_arg3) = m ((c.tc : Thread Cert.FirstDAct.nD Cert.FirstDAct.τ).loc Cert.FirstDAct.main_arg3))
      ∧ r.2.sem = fun _ => 0)

def quiescent_FirstDActIdeal [hFirstDActIdeal : Cert.FirstDActIdeal.Facts] : Prop :=
  ∀ (m : (ℓ : Loc Cert.FirstDActIdeal.nD Cert.FirstDActIdeal.τ Cert.FirstDActIdeal.sig) → Buf (Elt Ideal) ℓ) (g : Dev Cert.FirstDActIdeal.nD → PrngReg), Pre_FirstDActIdeal m →
    θ_run (Cert.FirstDActIdeal.defs (F := Ideal)) (onTc (τ := Cert.FirstDActIdeal.τ) (Cert.FirstDActIdeal.main (F := Ideal))) ⟨m, fun _ => 0, g⟩ (fun r => (∀ c : Dev Cert.FirstDActIdeal.nD,
      r.2.mem ((c.tc : Thread Cert.FirstDActIdeal.nD Cert.FirstDActIdeal.τ).loc Cert.FirstDActIdeal.main_arg0) = m ((c.tc : Thread Cert.FirstDActIdeal.nD Cert.FirstDActIdeal.τ).loc Cert.FirstDActIdeal.main_arg0)
      ∧ r.2.mem ((c.tc : Thread Cert.FirstDActIdeal.nD Cert.FirstDActIdeal.τ).loc Cert.FirstDActIdeal.main_arg1) = m ((c.tc : Thread Cert.FirstDActIdeal.nD Cert.FirstDActIdeal.τ).loc Cert.FirstDActIdeal.main_arg1)
      ∧ r.2.mem ((c.tc : Thread Cert.FirstDActIdeal.nD Cert.FirstDActIdeal.τ).loc Cert.FirstDActIdeal.main_arg2) = m ((c.tc : Thread Cert.FirstDActIdeal.nD Cert.FirstDActIdeal.τ).loc Cert.FirstDActIdeal.main_arg2)
      ∧ r.2.mem ((c.tc : Thread Cert.FirstDActIdeal.nD Cert.FirstDActIdeal.τ).loc Cert.FirstDActIdeal.main_arg3) = m ((c.tc : Thread Cert.FirstDActIdeal.nD Cert.FirstDActIdeal.τ).loc Cert.FirstDActIdeal.main_arg3))
      ∧ r.2.sem = fun _ => 0)

def quiescent_FirstDActIdeal_pre_finite_first_dact [hFirstDActIdeal : Cert.FirstDActIdeal.Facts] [hPre_finite_first_dact : Cert.Pre_finite_first_dact.Facts] : Prop :=
  ∀ (m : (ℓ : Loc Cert.FirstDActIdeal.nD Cert.FirstDActIdeal.τ Cert.FirstDActIdeal.sig) → Buf (Elt Ideal) ℓ) (g : Dev Cert.FirstDActIdeal.nD → PrngReg), Pre_FirstDActIdeal_finite_first_dact m →
    θ_run (Cert.FirstDActIdeal.defs (F := Ideal)) (onTc (τ := Cert.FirstDActIdeal.τ) (Cert.FirstDActIdeal.main (F := Ideal))) ⟨m, fun _ => 0, g⟩ (fun r => (∀ c : Dev Cert.FirstDActIdeal.nD,
      r.2.mem ((c.tc : Thread Cert.FirstDActIdeal.nD Cert.FirstDActIdeal.τ).loc Cert.FirstDActIdeal.main_arg0) = m ((c.tc : Thread Cert.FirstDActIdeal.nD Cert.FirstDActIdeal.τ).loc Cert.FirstDActIdeal.main_arg0)
      ∧ r.2.mem ((c.tc : Thread Cert.FirstDActIdeal.nD Cert.FirstDActIdeal.τ).loc Cert.FirstDActIdeal.main_arg1) = m ((c.tc : Thread Cert.FirstDActIdeal.nD Cert.FirstDActIdeal.τ).loc Cert.FirstDActIdeal.main_arg1)
      ∧ r.2.mem ((c.tc : Thread Cert.FirstDActIdeal.nD Cert.FirstDActIdeal.τ).loc Cert.FirstDActIdeal.main_arg2) = m ((c.tc : Thread Cert.FirstDActIdeal.nD Cert.FirstDActIdeal.τ).loc Cert.FirstDActIdeal.main_arg2)
      ∧ r.2.mem ((c.tc : Thread Cert.FirstDActIdeal.nD Cert.FirstDActIdeal.τ).loc Cert.FirstDActIdeal.main_arg3) = m ((c.tc : Thread Cert.FirstDActIdeal.nD Cert.FirstDActIdeal.τ).loc Cert.FirstDActIdeal.main_arg3))
      ∧ r.2.sem = fun _ => 0)

def quiescent_FirstDActRefIdeal [hFirstDActRefIdeal : Cert.FirstDActRefIdeal.Facts] : Prop :=
  ∀ (m : (ℓ : Loc Cert.FirstDActRefIdeal.nD Cert.FirstDActRefIdeal.τ Cert.FirstDActRefIdeal.sig) → Buf (Elt Ideal) ℓ) (g : Dev Cert.FirstDActRefIdeal.nD → PrngReg), Pre_FirstDActRefIdeal m →
    θ_run (Cert.FirstDActRefIdeal.defs (F := Ideal)) (onTc (τ := Cert.FirstDActRefIdeal.τ) (Cert.FirstDActRefIdeal.main (F := Ideal))) ⟨m, fun _ => 0, g⟩ (fun r => (∀ c : Dev Cert.FirstDActRefIdeal.nD,
      r.2.mem ((c.tc : Thread Cert.FirstDActRefIdeal.nD Cert.FirstDActRefIdeal.τ).loc Cert.FirstDActRefIdeal.main_arg0) = m ((c.tc : Thread Cert.FirstDActRefIdeal.nD Cert.FirstDActRefIdeal.τ).loc Cert.FirstDActRefIdeal.main_arg0)
      ∧ r.2.mem ((c.tc : Thread Cert.FirstDActRefIdeal.nD Cert.FirstDActRefIdeal.τ).loc Cert.FirstDActRefIdeal.main_arg1) = m ((c.tc : Thread Cert.FirstDActRefIdeal.nD Cert.FirstDActRefIdeal.τ).loc Cert.FirstDActRefIdeal.main_arg1)
      ∧ r.2.mem ((c.tc : Thread Cert.FirstDActRefIdeal.nD Cert.FirstDActRefIdeal.τ).loc Cert.FirstDActRefIdeal.main_arg2) = m ((c.tc : Thread Cert.FirstDActRefIdeal.nD Cert.FirstDActRefIdeal.τ).loc Cert.FirstDActRefIdeal.main_arg2)
      ∧ r.2.mem ((c.tc : Thread Cert.FirstDActRefIdeal.nD Cert.FirstDActRefIdeal.τ).loc Cert.FirstDActRefIdeal.main_arg3) = m ((c.tc : Thread Cert.FirstDActRefIdeal.nD Cert.FirstDActRefIdeal.τ).loc Cert.FirstDActRefIdeal.main_arg3))
      ∧ r.2.sem = fun _ => 0)

def quiescent_FirstDActRefIdeal_pre_finite_first_dact [hFirstDActRefIdeal : Cert.FirstDActRefIdeal.Facts] [hPre_finite_first_dact : Cert.Pre_finite_first_dact.Facts] : Prop :=
  ∀ (m : (ℓ : Loc Cert.FirstDActRefIdeal.nD Cert.FirstDActRefIdeal.τ Cert.FirstDActRefIdeal.sig) → Buf (Elt Ideal) ℓ) (g : Dev Cert.FirstDActRefIdeal.nD → PrngReg), Pre_FirstDActRefIdeal_finite_first_dact m →
    θ_run (Cert.FirstDActRefIdeal.defs (F := Ideal)) (onTc (τ := Cert.FirstDActRefIdeal.τ) (Cert.FirstDActRefIdeal.main (F := Ideal))) ⟨m, fun _ => 0, g⟩ (fun r => (∀ c : Dev Cert.FirstDActRefIdeal.nD,
      r.2.mem ((c.tc : Thread Cert.FirstDActRefIdeal.nD Cert.FirstDActRefIdeal.τ).loc Cert.FirstDActRefIdeal.main_arg0) = m ((c.tc : Thread Cert.FirstDActRefIdeal.nD Cert.FirstDActRefIdeal.τ).loc Cert.FirstDActRefIdeal.main_arg0)
      ∧ r.2.mem ((c.tc : Thread Cert.FirstDActRefIdeal.nD Cert.FirstDActRefIdeal.τ).loc Cert.FirstDActRefIdeal.main_arg1) = m ((c.tc : Thread Cert.FirstDActRefIdeal.nD Cert.FirstDActRefIdeal.τ).loc Cert.FirstDActRefIdeal.main_arg1)
      ∧ r.2.mem ((c.tc : Thread Cert.FirstDActRefIdeal.nD Cert.FirstDActRefIdeal.τ).loc Cert.FirstDActRefIdeal.main_arg2) = m ((c.tc : Thread Cert.FirstDActRefIdeal.nD Cert.FirstDActRefIdeal.τ).loc Cert.FirstDActRefIdeal.main_arg2)
      ∧ r.2.mem ((c.tc : Thread Cert.FirstDActRefIdeal.nD Cert.FirstDActRefIdeal.τ).loc Cert.FirstDActRefIdeal.main_arg3) = m ((c.tc : Thread Cert.FirstDActRefIdeal.nD Cert.FirstDActRefIdeal.τ).loc Cert.FirstDActRefIdeal.main_arg3))
      ∧ r.2.sem = fun _ => 0)

def quiescent_FirstDDown [hFirstDDown : Cert.FirstDDown.Facts] : Prop :=
  ∀ (m : (ℓ : Loc Cert.FirstDDown.nD Cert.FirstDDown.τ Cert.FirstDDown.sig) → Buf (Elt Bits) ℓ) (g : Dev Cert.FirstDDown.nD → PrngReg), Pre_FirstDDown m →
    θ_run (Cert.FirstDDown.defs (F := Bits)) (onTc (τ := Cert.FirstDDown.τ) (Cert.FirstDDown.main (F := Bits))) ⟨m, fun _ => 0, g⟩ (fun r => (∀ c : Dev Cert.FirstDDown.nD,
      r.2.mem ((c.tc : Thread Cert.FirstDDown.nD Cert.FirstDDown.τ).loc Cert.FirstDDown.main_arg0) = m ((c.tc : Thread Cert.FirstDDown.nD Cert.FirstDDown.τ).loc Cert.FirstDDown.main_arg0)
      ∧ r.2.mem ((c.tc : Thread Cert.FirstDDown.nD Cert.FirstDDown.τ).loc Cert.FirstDDown.main_arg1) = m ((c.tc : Thread Cert.FirstDDown.nD Cert.FirstDDown.τ).loc Cert.FirstDDown.main_arg1)
      ∧ r.2.mem ((c.tc : Thread Cert.FirstDDown.nD Cert.FirstDDown.τ).loc Cert.FirstDDown.main_arg2) = m ((c.tc : Thread Cert.FirstDDown.nD Cert.FirstDDown.τ).loc Cert.FirstDDown.main_arg2))
      ∧ r.2.sem = fun _ => 0)

def quiescent_FirstDDownIdeal [hFirstDDownIdeal : Cert.FirstDDownIdeal.Facts] : Prop :=
  ∀ (m : (ℓ : Loc Cert.FirstDDownIdeal.nD Cert.FirstDDownIdeal.τ Cert.FirstDDownIdeal.sig) → Buf (Elt Ideal) ℓ) (g : Dev Cert.FirstDDownIdeal.nD → PrngReg), Pre_FirstDDownIdeal m →
    θ_run (Cert.FirstDDownIdeal.defs (F := Ideal)) (onTc (τ := Cert.FirstDDownIdeal.τ) (Cert.FirstDDownIdeal.main (F := Ideal))) ⟨m, fun _ => 0, g⟩ (fun r => (∀ c : Dev Cert.FirstDDownIdeal.nD,
      r.2.mem ((c.tc : Thread Cert.FirstDDownIdeal.nD Cert.FirstDDownIdeal.τ).loc Cert.FirstDDownIdeal.main_arg0) = m ((c.tc : Thread Cert.FirstDDownIdeal.nD Cert.FirstDDownIdeal.τ).loc Cert.FirstDDownIdeal.main_arg0)
      ∧ r.2.mem ((c.tc : Thread Cert.FirstDDownIdeal.nD Cert.FirstDDownIdeal.τ).loc Cert.FirstDDownIdeal.main_arg1) = m ((c.tc : Thread Cert.FirstDDownIdeal.nD Cert.FirstDDownIdeal.τ).loc Cert.FirstDDownIdeal.main_arg1)
      ∧ r.2.mem ((c.tc : Thread Cert.FirstDDownIdeal.nD Cert.FirstDDownIdeal.τ).loc Cert.FirstDDownIdeal.main_arg2) = m ((c.tc : Thread Cert.FirstDDownIdeal.nD Cert.FirstDDownIdeal.τ).loc Cert.FirstDDownIdeal.main_arg2))
      ∧ r.2.sem = fun _ => 0)

def quiescent_FirstDDownRefIdeal [hFirstDDownRefIdeal : Cert.FirstDDownRefIdeal.Facts] : Prop :=
  ∀ (m : (ℓ : Loc Cert.FirstDDownRefIdeal.nD Cert.FirstDDownRefIdeal.τ Cert.FirstDDownRefIdeal.sig) → Buf (Elt Ideal) ℓ) (g : Dev Cert.FirstDDownRefIdeal.nD → PrngReg), Pre_FirstDDownRefIdeal m →
    θ_run (Cert.FirstDDownRefIdeal.defs (F := Ideal)) (onTc (τ := Cert.FirstDDownRefIdeal.τ) (Cert.FirstDDownRefIdeal.main (F := Ideal))) ⟨m, fun _ => 0, g⟩ (fun r => (∀ c : Dev Cert.FirstDDownRefIdeal.nD,
      r.2.mem ((c.tc : Thread Cert.FirstDDownRefIdeal.nD Cert.FirstDDownRefIdeal.τ).loc Cert.FirstDDownRefIdeal.main_arg0) = m ((c.tc : Thread Cert.FirstDDownRefIdeal.nD Cert.FirstDDownRefIdeal.τ).loc Cert.FirstDDownRefIdeal.main_arg0)
      ∧ r.2.mem ((c.tc : Thread Cert.FirstDDownRefIdeal.nD Cert.FirstDDownRefIdeal.τ).loc Cert.FirstDDownRefIdeal.main_arg1) = m ((c.tc : Thread Cert.FirstDDownRefIdeal.nD Cert.FirstDDownRefIdeal.τ).loc Cert.FirstDDownRefIdeal.main_arg1)
      ∧ r.2.mem ((c.tc : Thread Cert.FirstDDownRefIdeal.nD Cert.FirstDDownRefIdeal.τ).loc Cert.FirstDDownRefIdeal.main_arg2) = m ((c.tc : Thread Cert.FirstDDownRefIdeal.nD Cert.FirstDDownRefIdeal.τ).loc Cert.FirstDDownRefIdeal.main_arg2))
      ∧ r.2.sem = fun _ => 0)

def quiescent_FirstDGateUp [hFirstDGateUp : Cert.FirstDGateUp.Facts] : Prop :=
  ∀ (m : (ℓ : Loc Cert.FirstDGateUp.nD Cert.FirstDGateUp.τ Cert.FirstDGateUp.sig) → Buf (Elt Bits) ℓ) (g : Dev Cert.FirstDGateUp.nD → PrngReg), Pre_FirstDGateUp m →
    θ_run (Cert.FirstDGateUp.defs (F := Bits)) (onTc (τ := Cert.FirstDGateUp.τ) (Cert.FirstDGateUp.main (F := Bits))) ⟨m, fun _ => 0, g⟩ (fun r => (∀ c : Dev Cert.FirstDGateUp.nD,
      r.2.mem ((c.tc : Thread Cert.FirstDGateUp.nD Cert.FirstDGateUp.τ).loc Cert.FirstDGateUp.main_arg0) = m ((c.tc : Thread Cert.FirstDGateUp.nD Cert.FirstDGateUp.τ).loc Cert.FirstDGateUp.main_arg0)
      ∧ r.2.mem ((c.tc : Thread Cert.FirstDGateUp.nD Cert.FirstDGateUp.τ).loc Cert.FirstDGateUp.main_arg1) = m ((c.tc : Thread Cert.FirstDGateUp.nD Cert.FirstDGateUp.τ).loc Cert.FirstDGateUp.main_arg1)
      ∧ r.2.mem ((c.tc : Thread Cert.FirstDGateUp.nD Cert.FirstDGateUp.τ).loc Cert.FirstDGateUp.main_arg2) = m ((c.tc : Thread Cert.FirstDGateUp.nD Cert.FirstDGateUp.τ).loc Cert.FirstDGateUp.main_arg2)
      ∧ r.2.mem ((c.tc : Thread Cert.FirstDGateUp.nD Cert.FirstDGateUp.τ).loc Cert.FirstDGateUp.main_arg3) = m ((c.tc : Thread Cert.FirstDGateUp.nD Cert.FirstDGateUp.τ).loc Cert.FirstDGateUp.main_arg3)
      ∧ r.2.mem ((c.tc : Thread Cert.FirstDGateUp.nD Cert.FirstDGateUp.τ).loc Cert.FirstDGateUp.main_arg4) = m ((c.tc : Thread Cert.FirstDGateUp.nD Cert.FirstDGateUp.τ).loc Cert.FirstDGateUp.main_arg4))
      ∧ r.2.sem = fun _ => 0)

def quiescent_FirstDGateUpIdeal [hFirstDGateUpIdeal : Cert.FirstDGateUpIdeal.Facts] : Prop :=
  ∀ (m : (ℓ : Loc Cert.FirstDGateUpIdeal.nD Cert.FirstDGateUpIdeal.τ Cert.FirstDGateUpIdeal.sig) → Buf (Elt Ideal) ℓ) (g : Dev Cert.FirstDGateUpIdeal.nD → PrngReg), Pre_FirstDGateUpIdeal m →
    θ_run (Cert.FirstDGateUpIdeal.defs (F := Ideal)) (onTc (τ := Cert.FirstDGateUpIdeal.τ) (Cert.FirstDGateUpIdeal.main (F := Ideal))) ⟨m, fun _ => 0, g⟩ (fun r => (∀ c : Dev Cert.FirstDGateUpIdeal.nD,
      r.2.mem ((c.tc : Thread Cert.FirstDGateUpIdeal.nD Cert.FirstDGateUpIdeal.τ).loc Cert.FirstDGateUpIdeal.main_arg0) = m ((c.tc : Thread Cert.FirstDGateUpIdeal.nD Cert.FirstDGateUpIdeal.τ).loc Cert.FirstDGateUpIdeal.main_arg0)
      ∧ r.2.mem ((c.tc : Thread Cert.FirstDGateUpIdeal.nD Cert.FirstDGateUpIdeal.τ).loc Cert.FirstDGateUpIdeal.main_arg1) = m ((c.tc : Thread Cert.FirstDGateUpIdeal.nD Cert.FirstDGateUpIdeal.τ).loc Cert.FirstDGateUpIdeal.main_arg1)
      ∧ r.2.mem ((c.tc : Thread Cert.FirstDGateUpIdeal.nD Cert.FirstDGateUpIdeal.τ).loc Cert.FirstDGateUpIdeal.main_arg2) = m ((c.tc : Thread Cert.FirstDGateUpIdeal.nD Cert.FirstDGateUpIdeal.τ).loc Cert.FirstDGateUpIdeal.main_arg2)
      ∧ r.2.mem ((c.tc : Thread Cert.FirstDGateUpIdeal.nD Cert.FirstDGateUpIdeal.τ).loc Cert.FirstDGateUpIdeal.main_arg3) = m ((c.tc : Thread Cert.FirstDGateUpIdeal.nD Cert.FirstDGateUpIdeal.τ).loc Cert.FirstDGateUpIdeal.main_arg3)
      ∧ r.2.mem ((c.tc : Thread Cert.FirstDGateUpIdeal.nD Cert.FirstDGateUpIdeal.τ).loc Cert.FirstDGateUpIdeal.main_arg4) = m ((c.tc : Thread Cert.FirstDGateUpIdeal.nD Cert.FirstDGateUpIdeal.τ).loc Cert.FirstDGateUpIdeal.main_arg4))
      ∧ r.2.sem = fun _ => 0)

def quiescent_FirstDGateUpRefIdeal [hFirstDGateUpRefIdeal : Cert.FirstDGateUpRefIdeal.Facts] : Prop :=
  ∀ (m : (ℓ : Loc Cert.FirstDGateUpRefIdeal.nD Cert.FirstDGateUpRefIdeal.τ Cert.FirstDGateUpRefIdeal.sig) → Buf (Elt Ideal) ℓ) (g : Dev Cert.FirstDGateUpRefIdeal.nD → PrngReg), Pre_FirstDGateUpRefIdeal m →
    θ_run (Cert.FirstDGateUpRefIdeal.defs (F := Ideal)) (onTc (τ := Cert.FirstDGateUpRefIdeal.τ) (Cert.FirstDGateUpRefIdeal.main (F := Ideal))) ⟨m, fun _ => 0, g⟩ (fun r => (∀ c : Dev Cert.FirstDGateUpRefIdeal.nD,
      r.2.mem ((c.tc : Thread Cert.FirstDGateUpRefIdeal.nD Cert.FirstDGateUpRefIdeal.τ).loc Cert.FirstDGateUpRefIdeal.main_arg0) = m ((c.tc : Thread Cert.FirstDGateUpRefIdeal.nD Cert.FirstDGateUpRefIdeal.τ).loc Cert.FirstDGateUpRefIdeal.main_arg0)
      ∧ r.2.mem ((c.tc : Thread Cert.FirstDGateUpRefIdeal.nD Cert.FirstDGateUpRefIdeal.τ).loc Cert.FirstDGateUpRefIdeal.main_arg1) = m ((c.tc : Thread Cert.FirstDGateUpRefIdeal.nD Cert.FirstDGateUpRefIdeal.τ).loc Cert.FirstDGateUpRefIdeal.main_arg1)
      ∧ r.2.mem ((c.tc : Thread Cert.FirstDGateUpRefIdeal.nD Cert.FirstDGateUpRefIdeal.τ).loc Cert.FirstDGateUpRefIdeal.main_arg2) = m ((c.tc : Thread Cert.FirstDGateUpRefIdeal.nD Cert.FirstDGateUpRefIdeal.τ).loc Cert.FirstDGateUpRefIdeal.main_arg2)
      ∧ r.2.mem ((c.tc : Thread Cert.FirstDGateUpRefIdeal.nD Cert.FirstDGateUpRefIdeal.τ).loc Cert.FirstDGateUpRefIdeal.main_arg3) = m ((c.tc : Thread Cert.FirstDGateUpRefIdeal.nD Cert.FirstDGateUpRefIdeal.τ).loc Cert.FirstDGateUpRefIdeal.main_arg3)
      ∧ r.2.mem ((c.tc : Thread Cert.FirstDGateUpRefIdeal.nD Cert.FirstDGateUpRefIdeal.τ).loc Cert.FirstDGateUpRefIdeal.main_arg4) = m ((c.tc : Thread Cert.FirstDGateUpRefIdeal.nD Cert.FirstDGateUpRefIdeal.τ).loc Cert.FirstDGateUpRefIdeal.main_arg4))
      ∧ r.2.sem = fun _ => 0)

def quiescent_FirstDNorm [hFirstDNorm : Cert.FirstDNorm.Facts] : Prop :=
  ∀ (m : (ℓ : Loc Cert.FirstDNorm.nD Cert.FirstDNorm.τ Cert.FirstDNorm.sig) → Buf (Elt Bits) ℓ) (g : Dev Cert.FirstDNorm.nD → PrngReg), Pre_FirstDNorm m →
    θ_run (Cert.FirstDNorm.defs (F := Bits)) (onTc (τ := Cert.FirstDNorm.τ) (Cert.FirstDNorm.main (F := Bits))) ⟨m, fun _ => 0, g⟩ (fun r => (∀ c : Dev Cert.FirstDNorm.nD,
      r.2.mem ((c.tc : Thread Cert.FirstDNorm.nD Cert.FirstDNorm.τ).loc Cert.FirstDNorm.main_arg0) = m ((c.tc : Thread Cert.FirstDNorm.nD Cert.FirstDNorm.τ).loc Cert.FirstDNorm.main_arg0)
      ∧ r.2.mem ((c.tc : Thread Cert.FirstDNorm.nD Cert.FirstDNorm.τ).loc Cert.FirstDNorm.main_arg1) = m ((c.tc : Thread Cert.FirstDNorm.nD Cert.FirstDNorm.τ).loc Cert.FirstDNorm.main_arg1)
      ∧ r.2.mem ((c.tc : Thread Cert.FirstDNorm.nD Cert.FirstDNorm.τ).loc Cert.FirstDNorm.main_arg2) = m ((c.tc : Thread Cert.FirstDNorm.nD Cert.FirstDNorm.τ).loc Cert.FirstDNorm.main_arg2)
      ∧ r.2.mem ((c.tc : Thread Cert.FirstDNorm.nD Cert.FirstDNorm.τ).loc Cert.FirstDNorm.main_arg3) = m ((c.tc : Thread Cert.FirstDNorm.nD Cert.FirstDNorm.τ).loc Cert.FirstDNorm.main_arg3))
      ∧ r.2.sem = fun _ => 0)

def quiescent_FirstDNormIdeal [hFirstDNormIdeal : Cert.FirstDNormIdeal.Facts] : Prop :=
  ∀ (m : (ℓ : Loc Cert.FirstDNormIdeal.nD Cert.FirstDNormIdeal.τ Cert.FirstDNormIdeal.sig) → Buf (Elt Ideal) ℓ) (g : Dev Cert.FirstDNormIdeal.nD → PrngReg), Pre_FirstDNormIdeal m →
    θ_run (Cert.FirstDNormIdeal.defs (F := Ideal)) (onTc (τ := Cert.FirstDNormIdeal.τ) (Cert.FirstDNormIdeal.main (F := Ideal))) ⟨m, fun _ => 0, g⟩ (fun r => (∀ c : Dev Cert.FirstDNormIdeal.nD,
      r.2.mem ((c.tc : Thread Cert.FirstDNormIdeal.nD Cert.FirstDNormIdeal.τ).loc Cert.FirstDNormIdeal.main_arg0) = m ((c.tc : Thread Cert.FirstDNormIdeal.nD Cert.FirstDNormIdeal.τ).loc Cert.FirstDNormIdeal.main_arg0)
      ∧ r.2.mem ((c.tc : Thread Cert.FirstDNormIdeal.nD Cert.FirstDNormIdeal.τ).loc Cert.FirstDNormIdeal.main_arg1) = m ((c.tc : Thread Cert.FirstDNormIdeal.nD Cert.FirstDNormIdeal.τ).loc Cert.FirstDNormIdeal.main_arg1)
      ∧ r.2.mem ((c.tc : Thread Cert.FirstDNormIdeal.nD Cert.FirstDNormIdeal.τ).loc Cert.FirstDNormIdeal.main_arg2) = m ((c.tc : Thread Cert.FirstDNormIdeal.nD Cert.FirstDNormIdeal.τ).loc Cert.FirstDNormIdeal.main_arg2)
      ∧ r.2.mem ((c.tc : Thread Cert.FirstDNormIdeal.nD Cert.FirstDNormIdeal.τ).loc Cert.FirstDNormIdeal.main_arg3) = m ((c.tc : Thread Cert.FirstDNormIdeal.nD Cert.FirstDNormIdeal.τ).loc Cert.FirstDNormIdeal.main_arg3))
      ∧ r.2.sem = fun _ => 0)

def quiescent_FirstDNormRefIdeal [hFirstDNormRefIdeal : Cert.FirstDNormRefIdeal.Facts] : Prop :=
  ∀ (m : (ℓ : Loc Cert.FirstDNormRefIdeal.nD Cert.FirstDNormRefIdeal.τ Cert.FirstDNormRefIdeal.sig) → Buf (Elt Ideal) ℓ) (g : Dev Cert.FirstDNormRefIdeal.nD → PrngReg), Pre_FirstDNormRefIdeal m →
    θ_run (Cert.FirstDNormRefIdeal.defs (F := Ideal)) (onTc (τ := Cert.FirstDNormRefIdeal.τ) (Cert.FirstDNormRefIdeal.main (F := Ideal))) ⟨m, fun _ => 0, g⟩ (fun r => (∀ c : Dev Cert.FirstDNormRefIdeal.nD,
      r.2.mem ((c.tc : Thread Cert.FirstDNormRefIdeal.nD Cert.FirstDNormRefIdeal.τ).loc Cert.FirstDNormRefIdeal.main_arg0) = m ((c.tc : Thread Cert.FirstDNormRefIdeal.nD Cert.FirstDNormRefIdeal.τ).loc Cert.FirstDNormRefIdeal.main_arg0)
      ∧ r.2.mem ((c.tc : Thread Cert.FirstDNormRefIdeal.nD Cert.FirstDNormRefIdeal.τ).loc Cert.FirstDNormRefIdeal.main_arg1) = m ((c.tc : Thread Cert.FirstDNormRefIdeal.nD Cert.FirstDNormRefIdeal.τ).loc Cert.FirstDNormRefIdeal.main_arg1)
      ∧ r.2.mem ((c.tc : Thread Cert.FirstDNormRefIdeal.nD Cert.FirstDNormRefIdeal.τ).loc Cert.FirstDNormRefIdeal.main_arg2) = m ((c.tc : Thread Cert.FirstDNormRefIdeal.nD Cert.FirstDNormRefIdeal.τ).loc Cert.FirstDNormRefIdeal.main_arg2)
      ∧ r.2.mem ((c.tc : Thread Cert.FirstDNormRefIdeal.nD Cert.FirstDNormRefIdeal.τ).loc Cert.FirstDNormRefIdeal.main_arg3) = m ((c.tc : Thread Cert.FirstDNormRefIdeal.nD Cert.FirstDNormRefIdeal.τ).loc Cert.FirstDNormRefIdeal.main_arg3))
      ∧ r.2.sem = fun _ => 0)

def quiescent_AdamFfnColumns [hAdamFfnColumns : Cert.AdamFfnColumns.Facts] : Prop :=
  ∀ (m : (ℓ : Loc Cert.AdamFfnColumns.nD Cert.AdamFfnColumns.τ Cert.AdamFfnColumns.sig) → Buf (Elt Bits) ℓ) (g : Dev Cert.AdamFfnColumns.nD → PrngReg), Pre_AdamFfnColumns m →
    θ_run (Cert.AdamFfnColumns.defs (F := Bits)) (onTc (τ := Cert.AdamFfnColumns.τ) (Cert.AdamFfnColumns.main (F := Bits))) ⟨m, fun _ => 0, g⟩ (fun r => (∀ c : Dev Cert.AdamFfnColumns.nD,
      r.2.mem ((c.tc : Thread Cert.AdamFfnColumns.nD Cert.AdamFfnColumns.τ).loc Cert.AdamFfnColumns.main_arg0) = m ((c.tc : Thread Cert.AdamFfnColumns.nD Cert.AdamFfnColumns.τ).loc Cert.AdamFfnColumns.main_arg0)
      ∧ r.2.mem ((c.tc : Thread Cert.AdamFfnColumns.nD Cert.AdamFfnColumns.τ).loc Cert.AdamFfnColumns.main_arg1) = m ((c.tc : Thread Cert.AdamFfnColumns.nD Cert.AdamFfnColumns.τ).loc Cert.AdamFfnColumns.main_arg1)
      ∧ r.2.mem ((c.tc : Thread Cert.AdamFfnColumns.nD Cert.AdamFfnColumns.τ).loc Cert.AdamFfnColumns.main_arg2) = m ((c.tc : Thread Cert.AdamFfnColumns.nD Cert.AdamFfnColumns.τ).loc Cert.AdamFfnColumns.main_arg2)
      ∧ r.2.mem ((c.tc : Thread Cert.AdamFfnColumns.nD Cert.AdamFfnColumns.τ).loc Cert.AdamFfnColumns.main_arg3) = m ((c.tc : Thread Cert.AdamFfnColumns.nD Cert.AdamFfnColumns.τ).loc Cert.AdamFfnColumns.main_arg3))
      ∧ r.2.sem = fun _ => 0)

def quiescent_AdamFfnColumnsIdeal [hAdamFfnColumnsIdeal : Cert.AdamFfnColumnsIdeal.Facts] : Prop :=
  ∀ (m : (ℓ : Loc Cert.AdamFfnColumnsIdeal.nD Cert.AdamFfnColumnsIdeal.τ Cert.AdamFfnColumnsIdeal.sig) → Buf (Elt Ideal) ℓ) (g : Dev Cert.AdamFfnColumnsIdeal.nD → PrngReg), Pre_AdamFfnColumnsIdeal m →
    θ_run (Cert.AdamFfnColumnsIdeal.defs (F := Ideal)) (onTc (τ := Cert.AdamFfnColumnsIdeal.τ) (Cert.AdamFfnColumnsIdeal.main (F := Ideal))) ⟨m, fun _ => 0, g⟩ (fun r => (∀ c : Dev Cert.AdamFfnColumnsIdeal.nD,
      r.2.mem ((c.tc : Thread Cert.AdamFfnColumnsIdeal.nD Cert.AdamFfnColumnsIdeal.τ).loc Cert.AdamFfnColumnsIdeal.main_arg0) = m ((c.tc : Thread Cert.AdamFfnColumnsIdeal.nD Cert.AdamFfnColumnsIdeal.τ).loc Cert.AdamFfnColumnsIdeal.main_arg0)
      ∧ r.2.mem ((c.tc : Thread Cert.AdamFfnColumnsIdeal.nD Cert.AdamFfnColumnsIdeal.τ).loc Cert.AdamFfnColumnsIdeal.main_arg1) = m ((c.tc : Thread Cert.AdamFfnColumnsIdeal.nD Cert.AdamFfnColumnsIdeal.τ).loc Cert.AdamFfnColumnsIdeal.main_arg1)
      ∧ r.2.mem ((c.tc : Thread Cert.AdamFfnColumnsIdeal.nD Cert.AdamFfnColumnsIdeal.τ).loc Cert.AdamFfnColumnsIdeal.main_arg2) = m ((c.tc : Thread Cert.AdamFfnColumnsIdeal.nD Cert.AdamFfnColumnsIdeal.τ).loc Cert.AdamFfnColumnsIdeal.main_arg2)
      ∧ r.2.mem ((c.tc : Thread Cert.AdamFfnColumnsIdeal.nD Cert.AdamFfnColumnsIdeal.τ).loc Cert.AdamFfnColumnsIdeal.main_arg3) = m ((c.tc : Thread Cert.AdamFfnColumnsIdeal.nD Cert.AdamFfnColumnsIdeal.τ).loc Cert.AdamFfnColumnsIdeal.main_arg3))
      ∧ r.2.sem = fun _ => 0)

def quiescent_AdamFfnColumnsRefIdeal [hAdamFfnColumnsRefIdeal : Cert.AdamFfnColumnsRefIdeal.Facts] : Prop :=
  ∀ (m : (ℓ : Loc Cert.AdamFfnColumnsRefIdeal.nD Cert.AdamFfnColumnsRefIdeal.τ Cert.AdamFfnColumnsRefIdeal.sig) → Buf (Elt Ideal) ℓ) (g : Dev Cert.AdamFfnColumnsRefIdeal.nD → PrngReg), Pre_AdamFfnColumnsRefIdeal m →
    θ_run (Cert.AdamFfnColumnsRefIdeal.defs (F := Ideal)) (onTc (τ := Cert.AdamFfnColumnsRefIdeal.τ) (Cert.AdamFfnColumnsRefIdeal.main (F := Ideal))) ⟨m, fun _ => 0, g⟩ (fun r => (∀ c : Dev Cert.AdamFfnColumnsRefIdeal.nD,
      r.2.mem ((c.tc : Thread Cert.AdamFfnColumnsRefIdeal.nD Cert.AdamFfnColumnsRefIdeal.τ).loc Cert.AdamFfnColumnsRefIdeal.main_arg0) = m ((c.tc : Thread Cert.AdamFfnColumnsRefIdeal.nD Cert.AdamFfnColumnsRefIdeal.τ).loc Cert.AdamFfnColumnsRefIdeal.main_arg0)
      ∧ r.2.mem ((c.tc : Thread Cert.AdamFfnColumnsRefIdeal.nD Cert.AdamFfnColumnsRefIdeal.τ).loc Cert.AdamFfnColumnsRefIdeal.main_arg1) = m ((c.tc : Thread Cert.AdamFfnColumnsRefIdeal.nD Cert.AdamFfnColumnsRefIdeal.τ).loc Cert.AdamFfnColumnsRefIdeal.main_arg1)
      ∧ r.2.mem ((c.tc : Thread Cert.AdamFfnColumnsRefIdeal.nD Cert.AdamFfnColumnsRefIdeal.τ).loc Cert.AdamFfnColumnsRefIdeal.main_arg2) = m ((c.tc : Thread Cert.AdamFfnColumnsRefIdeal.nD Cert.AdamFfnColumnsRefIdeal.τ).loc Cert.AdamFfnColumnsRefIdeal.main_arg2)
      ∧ r.2.mem ((c.tc : Thread Cert.AdamFfnColumnsRefIdeal.nD Cert.AdamFfnColumnsRefIdeal.τ).loc Cert.AdamFfnColumnsRefIdeal.main_arg3) = m ((c.tc : Thread Cert.AdamFfnColumnsRefIdeal.nD Cert.AdamFfnColumnsRefIdeal.τ).loc Cert.AdamFfnColumnsRefIdeal.main_arg3))
      ∧ r.2.sem = fun _ => 0)

def quiescent_AdamFfnRows [hAdamFfnRows : Cert.AdamFfnRows.Facts] : Prop :=
  ∀ (m : (ℓ : Loc Cert.AdamFfnRows.nD Cert.AdamFfnRows.τ Cert.AdamFfnRows.sig) → Buf (Elt Bits) ℓ) (g : Dev Cert.AdamFfnRows.nD → PrngReg), Pre_AdamFfnRows m →
    θ_run (Cert.AdamFfnRows.defs (F := Bits)) (onTc (τ := Cert.AdamFfnRows.τ) (Cert.AdamFfnRows.main (F := Bits))) ⟨m, fun _ => 0, g⟩ (fun r => (∀ c : Dev Cert.AdamFfnRows.nD,
      r.2.mem ((c.tc : Thread Cert.AdamFfnRows.nD Cert.AdamFfnRows.τ).loc Cert.AdamFfnRows.main_arg0) = m ((c.tc : Thread Cert.AdamFfnRows.nD Cert.AdamFfnRows.τ).loc Cert.AdamFfnRows.main_arg0)
      ∧ r.2.mem ((c.tc : Thread Cert.AdamFfnRows.nD Cert.AdamFfnRows.τ).loc Cert.AdamFfnRows.main_arg1) = m ((c.tc : Thread Cert.AdamFfnRows.nD Cert.AdamFfnRows.τ).loc Cert.AdamFfnRows.main_arg1)
      ∧ r.2.mem ((c.tc : Thread Cert.AdamFfnRows.nD Cert.AdamFfnRows.τ).loc Cert.AdamFfnRows.main_arg2) = m ((c.tc : Thread Cert.AdamFfnRows.nD Cert.AdamFfnRows.τ).loc Cert.AdamFfnRows.main_arg2)
      ∧ r.2.mem ((c.tc : Thread Cert.AdamFfnRows.nD Cert.AdamFfnRows.τ).loc Cert.AdamFfnRows.main_arg3) = m ((c.tc : Thread Cert.AdamFfnRows.nD Cert.AdamFfnRows.τ).loc Cert.AdamFfnRows.main_arg3))
      ∧ r.2.sem = fun _ => 0)

def quiescent_AdamFfnRowsIdeal [hAdamFfnRowsIdeal : Cert.AdamFfnRowsIdeal.Facts] : Prop :=
  ∀ (m : (ℓ : Loc Cert.AdamFfnRowsIdeal.nD Cert.AdamFfnRowsIdeal.τ Cert.AdamFfnRowsIdeal.sig) → Buf (Elt Ideal) ℓ) (g : Dev Cert.AdamFfnRowsIdeal.nD → PrngReg), Pre_AdamFfnRowsIdeal m →
    θ_run (Cert.AdamFfnRowsIdeal.defs (F := Ideal)) (onTc (τ := Cert.AdamFfnRowsIdeal.τ) (Cert.AdamFfnRowsIdeal.main (F := Ideal))) ⟨m, fun _ => 0, g⟩ (fun r => (∀ c : Dev Cert.AdamFfnRowsIdeal.nD,
      r.2.mem ((c.tc : Thread Cert.AdamFfnRowsIdeal.nD Cert.AdamFfnRowsIdeal.τ).loc Cert.AdamFfnRowsIdeal.main_arg0) = m ((c.tc : Thread Cert.AdamFfnRowsIdeal.nD Cert.AdamFfnRowsIdeal.τ).loc Cert.AdamFfnRowsIdeal.main_arg0)
      ∧ r.2.mem ((c.tc : Thread Cert.AdamFfnRowsIdeal.nD Cert.AdamFfnRowsIdeal.τ).loc Cert.AdamFfnRowsIdeal.main_arg1) = m ((c.tc : Thread Cert.AdamFfnRowsIdeal.nD Cert.AdamFfnRowsIdeal.τ).loc Cert.AdamFfnRowsIdeal.main_arg1)
      ∧ r.2.mem ((c.tc : Thread Cert.AdamFfnRowsIdeal.nD Cert.AdamFfnRowsIdeal.τ).loc Cert.AdamFfnRowsIdeal.main_arg2) = m ((c.tc : Thread Cert.AdamFfnRowsIdeal.nD Cert.AdamFfnRowsIdeal.τ).loc Cert.AdamFfnRowsIdeal.main_arg2)
      ∧ r.2.mem ((c.tc : Thread Cert.AdamFfnRowsIdeal.nD Cert.AdamFfnRowsIdeal.τ).loc Cert.AdamFfnRowsIdeal.main_arg3) = m ((c.tc : Thread Cert.AdamFfnRowsIdeal.nD Cert.AdamFfnRowsIdeal.τ).loc Cert.AdamFfnRowsIdeal.main_arg3))
      ∧ r.2.sem = fun _ => 0)

def quiescent_AdamFfnRowsRefIdeal [hAdamFfnRowsRefIdeal : Cert.AdamFfnRowsRefIdeal.Facts] : Prop :=
  ∀ (m : (ℓ : Loc Cert.AdamFfnRowsRefIdeal.nD Cert.AdamFfnRowsRefIdeal.τ Cert.AdamFfnRowsRefIdeal.sig) → Buf (Elt Ideal) ℓ) (g : Dev Cert.AdamFfnRowsRefIdeal.nD → PrngReg), Pre_AdamFfnRowsRefIdeal m →
    θ_run (Cert.AdamFfnRowsRefIdeal.defs (F := Ideal)) (onTc (τ := Cert.AdamFfnRowsRefIdeal.τ) (Cert.AdamFfnRowsRefIdeal.main (F := Ideal))) ⟨m, fun _ => 0, g⟩ (fun r => (∀ c : Dev Cert.AdamFfnRowsRefIdeal.nD,
      r.2.mem ((c.tc : Thread Cert.AdamFfnRowsRefIdeal.nD Cert.AdamFfnRowsRefIdeal.τ).loc Cert.AdamFfnRowsRefIdeal.main_arg0) = m ((c.tc : Thread Cert.AdamFfnRowsRefIdeal.nD Cert.AdamFfnRowsRefIdeal.τ).loc Cert.AdamFfnRowsRefIdeal.main_arg0)
      ∧ r.2.mem ((c.tc : Thread Cert.AdamFfnRowsRefIdeal.nD Cert.AdamFfnRowsRefIdeal.τ).loc Cert.AdamFfnRowsRefIdeal.main_arg1) = m ((c.tc : Thread Cert.AdamFfnRowsRefIdeal.nD Cert.AdamFfnRowsRefIdeal.τ).loc Cert.AdamFfnRowsRefIdeal.main_arg1)
      ∧ r.2.mem ((c.tc : Thread Cert.AdamFfnRowsRefIdeal.nD Cert.AdamFfnRowsRefIdeal.τ).loc Cert.AdamFfnRowsRefIdeal.main_arg2) = m ((c.tc : Thread Cert.AdamFfnRowsRefIdeal.nD Cert.AdamFfnRowsRefIdeal.τ).loc Cert.AdamFfnRowsRefIdeal.main_arg2)
      ∧ r.2.mem ((c.tc : Thread Cert.AdamFfnRowsRefIdeal.nD Cert.AdamFfnRowsRefIdeal.τ).loc Cert.AdamFfnRowsRefIdeal.main_arg3) = m ((c.tc : Thread Cert.AdamFfnRowsRefIdeal.nD Cert.AdamFfnRowsRefIdeal.τ).loc Cert.AdamFfnRowsRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamNorms [hAdamNorms : Cert.AdamNorms.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3))
      ∧ r.2.sem = fun _ => 0)

def quiescent_AdamNormsIdeal [hAdamNormsIdeal : Cert.AdamNormsIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ r.2.sem = fun _ => 0)

def quiescent_AdamNormsRefIdeal [hAdamNormsRefIdeal : Cert.AdamNormsRefIdeal.Facts] : Prop :=
  ∀ (m : (ℓ : Loc Cert.AdamNormsRefIdeal.nD Cert.AdamNormsRefIdeal.τ Cert.AdamNormsRefIdeal.sig) → Buf (Elt Ideal) ℓ) (g : Dev Cert.AdamNormsRefIdeal.nD → PrngReg), Pre_AdamNormsRefIdeal m →
    θ_run (Cert.AdamNormsRefIdeal.defs (F := Ideal)) (onTc (τ := Cert.AdamNormsRefIdeal.τ) (Cert.AdamNormsRefIdeal.main (F := Ideal))) ⟨m, fun _ => 0, g⟩ (fun r => (∀ c : Dev Cert.AdamNormsRefIdeal.nD,
      r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
      ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
      ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
      ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3))
      ∧ r.2.sem = fun _ => 0)

def quiescent_AdamMlstmIn [hAdamMlstmIn : Cert.AdamMlstmIn.Facts] : Prop :=
  ∀ (m : (ℓ : Loc Cert.AdamMlstmIn.nD Cert.AdamMlstmIn.τ Cert.AdamMlstmIn.sig) → Buf (Elt Bits) ℓ) (g : Dev Cert.AdamMlstmIn.nD → PrngReg), Pre_AdamMlstmIn m →
    θ_run (Cert.AdamMlstmIn.defs (F := Bits)) (onTc (τ := Cert.AdamMlstmIn.τ) (Cert.AdamMlstmIn.main (F := Bits))) ⟨m, fun _ => 0, g⟩ (fun r => (∀ c : Dev Cert.AdamMlstmIn.nD,
      r.2.mem ((c.tc : Thread Cert.AdamMlstmIn.nD Cert.AdamMlstmIn.τ).loc Cert.AdamMlstmIn.main_arg0) = m ((c.tc : Thread Cert.AdamMlstmIn.nD Cert.AdamMlstmIn.τ).loc Cert.AdamMlstmIn.main_arg0)
      ∧ r.2.mem ((c.tc : Thread Cert.AdamMlstmIn.nD Cert.AdamMlstmIn.τ).loc Cert.AdamMlstmIn.main_arg1) = m ((c.tc : Thread Cert.AdamMlstmIn.nD Cert.AdamMlstmIn.τ).loc Cert.AdamMlstmIn.main_arg1)
      ∧ r.2.mem ((c.tc : Thread Cert.AdamMlstmIn.nD Cert.AdamMlstmIn.τ).loc Cert.AdamMlstmIn.main_arg2) = m ((c.tc : Thread Cert.AdamMlstmIn.nD Cert.AdamMlstmIn.τ).loc Cert.AdamMlstmIn.main_arg2)
      ∧ r.2.mem ((c.tc : Thread Cert.AdamMlstmIn.nD Cert.AdamMlstmIn.τ).loc Cert.AdamMlstmIn.main_arg3) = m ((c.tc : Thread Cert.AdamMlstmIn.nD Cert.AdamMlstmIn.τ).loc Cert.AdamMlstmIn.main_arg3))
      ∧ r.2.sem = fun _ => 0)

def quiescent_AdamMlstmInIdeal [hAdamMlstmInIdeal : Cert.AdamMlstmInIdeal.Facts] : Prop :=
  ∀ (m : (ℓ : Loc Cert.AdamMlstmInIdeal.nD Cert.AdamMlstmInIdeal.τ Cert.AdamMlstmInIdeal.sig) → Buf (Elt Ideal) ℓ) (g : Dev Cert.AdamMlstmInIdeal.nD → PrngReg), Pre_AdamMlstmInIdeal m →
    θ_run (Cert.AdamMlstmInIdeal.defs (F := Ideal)) (onTc (τ := Cert.AdamMlstmInIdeal.τ) (Cert.AdamMlstmInIdeal.main (F := Ideal))) ⟨m, fun _ => 0, g⟩ (fun r => (∀ c : Dev Cert.AdamMlstmInIdeal.nD,
      r.2.mem ((c.tc : Thread Cert.AdamMlstmInIdeal.nD Cert.AdamMlstmInIdeal.τ).loc Cert.AdamMlstmInIdeal.main_arg0) = m ((c.tc : Thread Cert.AdamMlstmInIdeal.nD Cert.AdamMlstmInIdeal.τ).loc Cert.AdamMlstmInIdeal.main_arg0)
      ∧ r.2.mem ((c.tc : Thread Cert.AdamMlstmInIdeal.nD Cert.AdamMlstmInIdeal.τ).loc Cert.AdamMlstmInIdeal.main_arg1) = m ((c.tc : Thread Cert.AdamMlstmInIdeal.nD Cert.AdamMlstmInIdeal.τ).loc Cert.AdamMlstmInIdeal.main_arg1)
      ∧ r.2.mem ((c.tc : Thread Cert.AdamMlstmInIdeal.nD Cert.AdamMlstmInIdeal.τ).loc Cert.AdamMlstmInIdeal.main_arg2) = m ((c.tc : Thread Cert.AdamMlstmInIdeal.nD Cert.AdamMlstmInIdeal.τ).loc Cert.AdamMlstmInIdeal.main_arg2)
      ∧ r.2.mem ((c.tc : Thread Cert.AdamMlstmInIdeal.nD Cert.AdamMlstmInIdeal.τ).loc Cert.AdamMlstmInIdeal.main_arg3) = m ((c.tc : Thread Cert.AdamMlstmInIdeal.nD Cert.AdamMlstmInIdeal.τ).loc Cert.AdamMlstmInIdeal.main_arg3))
      ∧ r.2.sem = fun _ => 0)

def quiescent_AdamMlstmInRefIdeal [hAdamMlstmInRefIdeal : Cert.AdamMlstmInRefIdeal.Facts] : Prop :=
  ∀ (m : (ℓ : Loc Cert.AdamMlstmInRefIdeal.nD Cert.AdamMlstmInRefIdeal.τ Cert.AdamMlstmInRefIdeal.sig) → Buf (Elt Ideal) ℓ) (g : Dev Cert.AdamMlstmInRefIdeal.nD → PrngReg), Pre_AdamMlstmInRefIdeal m →
    θ_run (Cert.AdamMlstmInRefIdeal.defs (F := Ideal)) (onTc (τ := Cert.AdamMlstmInRefIdeal.τ) (Cert.AdamMlstmInRefIdeal.main (F := Ideal))) ⟨m, fun _ => 0, g⟩ (fun r => (∀ c : Dev Cert.AdamMlstmInRefIdeal.nD,
      r.2.mem ((c.tc : Thread Cert.AdamMlstmInRefIdeal.nD Cert.AdamMlstmInRefIdeal.τ).loc Cert.AdamMlstmInRefIdeal.main_arg0) = m ((c.tc : Thread Cert.AdamMlstmInRefIdeal.nD Cert.AdamMlstmInRefIdeal.τ).loc Cert.AdamMlstmInRefIdeal.main_arg0)
      ∧ r.2.mem ((c.tc : Thread Cert.AdamMlstmInRefIdeal.nD Cert.AdamMlstmInRefIdeal.τ).loc Cert.AdamMlstmInRefIdeal.main_arg1) = m ((c.tc : Thread Cert.AdamMlstmInRefIdeal.nD Cert.AdamMlstmInRefIdeal.τ).loc Cert.AdamMlstmInRefIdeal.main_arg1)
      ∧ r.2.mem ((c.tc : Thread Cert.AdamMlstmInRefIdeal.nD Cert.AdamMlstmInRefIdeal.τ).loc Cert.AdamMlstmInRefIdeal.main_arg2) = m ((c.tc : Thread Cert.AdamMlstmInRefIdeal.nD Cert.AdamMlstmInRefIdeal.τ).loc Cert.AdamMlstmInRefIdeal.main_arg2)
      ∧ r.2.mem ((c.tc : Thread Cert.AdamMlstmInRefIdeal.nD Cert.AdamMlstmInRefIdeal.τ).loc Cert.AdamMlstmInRefIdeal.main_arg3) = m ((c.tc : Thread Cert.AdamMlstmInRefIdeal.nD Cert.AdamMlstmInRefIdeal.τ).loc Cert.AdamMlstmInRefIdeal.main_arg3))
      ∧ r.2.sem = fun _ => 0)

def quiescent_AdamSquareOut [hAdamSquareOut : Cert.AdamSquareOut.Facts] : Prop :=
  ∀ (m : (ℓ : Loc Cert.AdamSquareOut.nD Cert.AdamSquareOut.τ Cert.AdamSquareOut.sig) → Buf (Elt Bits) ℓ) (g : Dev Cert.AdamSquareOut.nD → PrngReg), Pre_AdamSquareOut m →
    θ_run (Cert.AdamSquareOut.defs (F := Bits)) (onTc (τ := Cert.AdamSquareOut.τ) (Cert.AdamSquareOut.main (F := Bits))) ⟨m, fun _ => 0, g⟩ (fun r => (∀ c : Dev Cert.AdamSquareOut.nD,
      r.2.mem ((c.tc : Thread Cert.AdamSquareOut.nD Cert.AdamSquareOut.τ).loc Cert.AdamSquareOut.main_arg0) = m ((c.tc : Thread Cert.AdamSquareOut.nD Cert.AdamSquareOut.τ).loc Cert.AdamSquareOut.main_arg0)
      ∧ r.2.mem ((c.tc : Thread Cert.AdamSquareOut.nD Cert.AdamSquareOut.τ).loc Cert.AdamSquareOut.main_arg1) = m ((c.tc : Thread Cert.AdamSquareOut.nD Cert.AdamSquareOut.τ).loc Cert.AdamSquareOut.main_arg1)
      ∧ r.2.mem ((c.tc : Thread Cert.AdamSquareOut.nD Cert.AdamSquareOut.τ).loc Cert.AdamSquareOut.main_arg2) = m ((c.tc : Thread Cert.AdamSquareOut.nD Cert.AdamSquareOut.τ).loc Cert.AdamSquareOut.main_arg2)
      ∧ r.2.mem ((c.tc : Thread Cert.AdamSquareOut.nD Cert.AdamSquareOut.τ).loc Cert.AdamSquareOut.main_arg3) = m ((c.tc : Thread Cert.AdamSquareOut.nD Cert.AdamSquareOut.τ).loc Cert.AdamSquareOut.main_arg3))
      ∧ r.2.sem = fun _ => 0)

def quiescent_AdamSquareOutIdeal [hAdamSquareOutIdeal : Cert.AdamSquareOutIdeal.Facts] : Prop :=
  ∀ (m : (ℓ : Loc Cert.AdamSquareOutIdeal.nD Cert.AdamSquareOutIdeal.τ Cert.AdamSquareOutIdeal.sig) → Buf (Elt Ideal) ℓ) (g : Dev Cert.AdamSquareOutIdeal.nD → PrngReg), Pre_AdamSquareOutIdeal m →
    θ_run (Cert.AdamSquareOutIdeal.defs (F := Ideal)) (onTc (τ := Cert.AdamSquareOutIdeal.τ) (Cert.AdamSquareOutIdeal.main (F := Ideal))) ⟨m, fun _ => 0, g⟩ (fun r => (∀ c : Dev Cert.AdamSquareOutIdeal.nD,
      r.2.mem ((c.tc : Thread Cert.AdamSquareOutIdeal.nD Cert.AdamSquareOutIdeal.τ).loc Cert.AdamSquareOutIdeal.main_arg0) = m ((c.tc : Thread Cert.AdamSquareOutIdeal.nD Cert.AdamSquareOutIdeal.τ).loc Cert.AdamSquareOutIdeal.main_arg0)
      ∧ r.2.mem ((c.tc : Thread Cert.AdamSquareOutIdeal.nD Cert.AdamSquareOutIdeal.τ).loc Cert.AdamSquareOutIdeal.main_arg1) = m ((c.tc : Thread Cert.AdamSquareOutIdeal.nD Cert.AdamSquareOutIdeal.τ).loc Cert.AdamSquareOutIdeal.main_arg1)
      ∧ r.2.mem ((c.tc : Thread Cert.AdamSquareOutIdeal.nD Cert.AdamSquareOutIdeal.τ).loc Cert.AdamSquareOutIdeal.main_arg2) = m ((c.tc : Thread Cert.AdamSquareOutIdeal.nD Cert.AdamSquareOutIdeal.τ).loc Cert.AdamSquareOutIdeal.main_arg2)
      ∧ r.2.mem ((c.tc : Thread Cert.AdamSquareOutIdeal.nD Cert.AdamSquareOutIdeal.τ).loc Cert.AdamSquareOutIdeal.main_arg3) = m ((c.tc : Thread Cert.AdamSquareOutIdeal.nD Cert.AdamSquareOutIdeal.τ).loc Cert.AdamSquareOutIdeal.main_arg3))
      ∧ r.2.sem = fun _ => 0)

def quiescent_AdamSquareOutRefIdeal [hAdamSquareOutRefIdeal : Cert.AdamSquareOutRefIdeal.Facts] : Prop :=
  ∀ (m : (ℓ : Loc Cert.AdamSquareOutRefIdeal.nD Cert.AdamSquareOutRefIdeal.τ Cert.AdamSquareOutRefIdeal.sig) → Buf (Elt Ideal) ℓ) (g : Dev Cert.AdamSquareOutRefIdeal.nD → PrngReg), Pre_AdamSquareOutRefIdeal m →
    θ_run (Cert.AdamSquareOutRefIdeal.defs (F := Ideal)) (onTc (τ := Cert.AdamSquareOutRefIdeal.τ) (Cert.AdamSquareOutRefIdeal.main (F := Ideal))) ⟨m, fun _ => 0, g⟩ (fun r => (∀ c : Dev Cert.AdamSquareOutRefIdeal.nD,
      r.2.mem ((c.tc : Thread Cert.AdamSquareOutRefIdeal.nD Cert.AdamSquareOutRefIdeal.τ).loc Cert.AdamSquareOutRefIdeal.main_arg0) = m ((c.tc : Thread Cert.AdamSquareOutRefIdeal.nD Cert.AdamSquareOutRefIdeal.τ).loc Cert.AdamSquareOutRefIdeal.main_arg0)
      ∧ r.2.mem ((c.tc : Thread Cert.AdamSquareOutRefIdeal.nD Cert.AdamSquareOutRefIdeal.τ).loc Cert.AdamSquareOutRefIdeal.main_arg1) = m ((c.tc : Thread Cert.AdamSquareOutRefIdeal.nD Cert.AdamSquareOutRefIdeal.τ).loc Cert.AdamSquareOutRefIdeal.main_arg1)
      ∧ r.2.mem ((c.tc : Thread Cert.AdamSquareOutRefIdeal.nD Cert.AdamSquareOutRefIdeal.τ).loc Cert.AdamSquareOutRefIdeal.main_arg2) = m ((c.tc : Thread Cert.AdamSquareOutRefIdeal.nD Cert.AdamSquareOutRefIdeal.τ).loc Cert.AdamSquareOutRefIdeal.main_arg2)
      ∧ r.2.mem ((c.tc : Thread Cert.AdamSquareOutRefIdeal.nD Cert.AdamSquareOutRefIdeal.τ).loc Cert.AdamSquareOutRefIdeal.main_arg3) = m ((c.tc : Thread Cert.AdamSquareOutRefIdeal.nD Cert.AdamSquareOutRefIdeal.τ).loc Cert.AdamSquareOutRefIdeal.main_arg3))
      ∧ r.2.sem = fun _ => 0)

def quiescent_AdamMlstmBias [hAdamMlstmBias : Cert.AdamMlstmBias.Facts] : Prop :=
  ∀ (m : (ℓ : Loc Cert.AdamMlstmBias.nD Cert.AdamMlstmBias.τ Cert.AdamMlstmBias.sig) → Buf (Elt Bits) ℓ) (g : Dev Cert.AdamMlstmBias.nD → PrngReg), Pre_AdamMlstmBias m →
    θ_run (Cert.AdamMlstmBias.defs (F := Bits)) (onTc (τ := Cert.AdamMlstmBias.τ) (Cert.AdamMlstmBias.main (F := Bits))) ⟨m, fun _ => 0, g⟩ (fun r => (∀ c : Dev Cert.AdamMlstmBias.nD,
      r.2.mem ((c.tc : Thread Cert.AdamMlstmBias.nD Cert.AdamMlstmBias.τ).loc Cert.AdamMlstmBias.main_arg0) = m ((c.tc : Thread Cert.AdamMlstmBias.nD Cert.AdamMlstmBias.τ).loc Cert.AdamMlstmBias.main_arg0)
      ∧ r.2.mem ((c.tc : Thread Cert.AdamMlstmBias.nD Cert.AdamMlstmBias.τ).loc Cert.AdamMlstmBias.main_arg1) = m ((c.tc : Thread Cert.AdamMlstmBias.nD Cert.AdamMlstmBias.τ).loc Cert.AdamMlstmBias.main_arg1)
      ∧ r.2.mem ((c.tc : Thread Cert.AdamMlstmBias.nD Cert.AdamMlstmBias.τ).loc Cert.AdamMlstmBias.main_arg2) = m ((c.tc : Thread Cert.AdamMlstmBias.nD Cert.AdamMlstmBias.τ).loc Cert.AdamMlstmBias.main_arg2)
      ∧ r.2.mem ((c.tc : Thread Cert.AdamMlstmBias.nD Cert.AdamMlstmBias.τ).loc Cert.AdamMlstmBias.main_arg3) = m ((c.tc : Thread Cert.AdamMlstmBias.nD Cert.AdamMlstmBias.τ).loc Cert.AdamMlstmBias.main_arg3))
      ∧ r.2.sem = fun _ => 0)

def quiescent_AdamMlstmBiasIdeal [hAdamMlstmBiasIdeal : Cert.AdamMlstmBiasIdeal.Facts] : Prop :=
  ∀ (m : (ℓ : Loc Cert.AdamMlstmBiasIdeal.nD Cert.AdamMlstmBiasIdeal.τ Cert.AdamMlstmBiasIdeal.sig) → Buf (Elt Ideal) ℓ) (g : Dev Cert.AdamMlstmBiasIdeal.nD → PrngReg), Pre_AdamMlstmBiasIdeal m →
    θ_run (Cert.AdamMlstmBiasIdeal.defs (F := Ideal)) (onTc (τ := Cert.AdamMlstmBiasIdeal.τ) (Cert.AdamMlstmBiasIdeal.main (F := Ideal))) ⟨m, fun _ => 0, g⟩ (fun r => (∀ c : Dev Cert.AdamMlstmBiasIdeal.nD,
      r.2.mem ((c.tc : Thread Cert.AdamMlstmBiasIdeal.nD Cert.AdamMlstmBiasIdeal.τ).loc Cert.AdamMlstmBiasIdeal.main_arg0) = m ((c.tc : Thread Cert.AdamMlstmBiasIdeal.nD Cert.AdamMlstmBiasIdeal.τ).loc Cert.AdamMlstmBiasIdeal.main_arg0)
      ∧ r.2.mem ((c.tc : Thread Cert.AdamMlstmBiasIdeal.nD Cert.AdamMlstmBiasIdeal.τ).loc Cert.AdamMlstmBiasIdeal.main_arg1) = m ((c.tc : Thread Cert.AdamMlstmBiasIdeal.nD Cert.AdamMlstmBiasIdeal.τ).loc Cert.AdamMlstmBiasIdeal.main_arg1)
      ∧ r.2.mem ((c.tc : Thread Cert.AdamMlstmBiasIdeal.nD Cert.AdamMlstmBiasIdeal.τ).loc Cert.AdamMlstmBiasIdeal.main_arg2) = m ((c.tc : Thread Cert.AdamMlstmBiasIdeal.nD Cert.AdamMlstmBiasIdeal.τ).loc Cert.AdamMlstmBiasIdeal.main_arg2)
      ∧ r.2.mem ((c.tc : Thread Cert.AdamMlstmBiasIdeal.nD Cert.AdamMlstmBiasIdeal.τ).loc Cert.AdamMlstmBiasIdeal.main_arg3) = m ((c.tc : Thread Cert.AdamMlstmBiasIdeal.nD Cert.AdamMlstmBiasIdeal.τ).loc Cert.AdamMlstmBiasIdeal.main_arg3))
      ∧ r.2.sem = fun _ => 0)

def quiescent_AdamMlstmBiasRefIdeal [hAdamMlstmBiasRefIdeal : Cert.AdamMlstmBiasRefIdeal.Facts] : Prop :=
  ∀ (m : (ℓ : Loc Cert.AdamMlstmBiasRefIdeal.nD Cert.AdamMlstmBiasRefIdeal.τ Cert.AdamMlstmBiasRefIdeal.sig) → Buf (Elt Ideal) ℓ) (g : Dev Cert.AdamMlstmBiasRefIdeal.nD → PrngReg), Pre_AdamMlstmBiasRefIdeal m →
    θ_run (Cert.AdamMlstmBiasRefIdeal.defs (F := Ideal)) (onTc (τ := Cert.AdamMlstmBiasRefIdeal.τ) (Cert.AdamMlstmBiasRefIdeal.main (F := Ideal))) ⟨m, fun _ => 0, g⟩ (fun r => (∀ c : Dev Cert.AdamMlstmBiasRefIdeal.nD,
      r.2.mem ((c.tc : Thread Cert.AdamMlstmBiasRefIdeal.nD Cert.AdamMlstmBiasRefIdeal.τ).loc Cert.AdamMlstmBiasRefIdeal.main_arg0) = m ((c.tc : Thread Cert.AdamMlstmBiasRefIdeal.nD Cert.AdamMlstmBiasRefIdeal.τ).loc Cert.AdamMlstmBiasRefIdeal.main_arg0)
      ∧ r.2.mem ((c.tc : Thread Cert.AdamMlstmBiasRefIdeal.nD Cert.AdamMlstmBiasRefIdeal.τ).loc Cert.AdamMlstmBiasRefIdeal.main_arg1) = m ((c.tc : Thread Cert.AdamMlstmBiasRefIdeal.nD Cert.AdamMlstmBiasRefIdeal.τ).loc Cert.AdamMlstmBiasRefIdeal.main_arg1)
      ∧ r.2.mem ((c.tc : Thread Cert.AdamMlstmBiasRefIdeal.nD Cert.AdamMlstmBiasRefIdeal.τ).loc Cert.AdamMlstmBiasRefIdeal.main_arg2) = m ((c.tc : Thread Cert.AdamMlstmBiasRefIdeal.nD Cert.AdamMlstmBiasRefIdeal.τ).loc Cert.AdamMlstmBiasRefIdeal.main_arg2)
      ∧ r.2.mem ((c.tc : Thread Cert.AdamMlstmBiasRefIdeal.nD Cert.AdamMlstmBiasRefIdeal.τ).loc Cert.AdamMlstmBiasRefIdeal.main_arg3) = m ((c.tc : Thread Cert.AdamMlstmBiasRefIdeal.nD Cert.AdamMlstmBiasRefIdeal.τ).loc Cert.AdamMlstmBiasRefIdeal.main_arg3))
      ∧ r.2.sem = fun _ => 0)

def quiescent_AdamRow2048 [hAdamRow2048 : Cert.AdamRow2048.Facts] : Prop :=
  ∀ (m : (ℓ : Loc Cert.AdamRow2048.nD Cert.AdamRow2048.τ Cert.AdamRow2048.sig) → Buf (Elt Bits) ℓ) (g : Dev Cert.AdamRow2048.nD → PrngReg), Pre_AdamRow2048 m →
    θ_run (Cert.AdamRow2048.defs (F := Bits)) (onTc (τ := Cert.AdamRow2048.τ) (Cert.AdamRow2048.main (F := Bits))) ⟨m, fun _ => 0, g⟩ (fun r => (∀ c : Dev Cert.AdamRow2048.nD,
      r.2.mem ((c.tc : Thread Cert.AdamRow2048.nD Cert.AdamRow2048.τ).loc Cert.AdamRow2048.main_arg0) = m ((c.tc : Thread Cert.AdamRow2048.nD Cert.AdamRow2048.τ).loc Cert.AdamRow2048.main_arg0)
      ∧ r.2.mem ((c.tc : Thread Cert.AdamRow2048.nD Cert.AdamRow2048.τ).loc Cert.AdamRow2048.main_arg1) = m ((c.tc : Thread Cert.AdamRow2048.nD Cert.AdamRow2048.τ).loc Cert.AdamRow2048.main_arg1)
      ∧ r.2.mem ((c.tc : Thread Cert.AdamRow2048.nD Cert.AdamRow2048.τ).loc Cert.AdamRow2048.main_arg2) = m ((c.tc : Thread Cert.AdamRow2048.nD Cert.AdamRow2048.τ).loc Cert.AdamRow2048.main_arg2)
      ∧ r.2.mem ((c.tc : Thread Cert.AdamRow2048.nD Cert.AdamRow2048.τ).loc Cert.AdamRow2048.main_arg3) = m ((c.tc : Thread Cert.AdamRow2048.nD Cert.AdamRow2048.τ).loc Cert.AdamRow2048.main_arg3))
      ∧ r.2.sem = fun _ => 0)

def quiescent_AdamRow2048Ideal [hAdamRow2048Ideal : Cert.AdamRow2048Ideal.Facts] : Prop :=
  ∀ (m : (ℓ : Loc Cert.AdamRow2048Ideal.nD Cert.AdamRow2048Ideal.τ Cert.AdamRow2048Ideal.sig) → Buf (Elt Ideal) ℓ) (g : Dev Cert.AdamRow2048Ideal.nD → PrngReg), Pre_AdamRow2048Ideal m →
    θ_run (Cert.AdamRow2048Ideal.defs (F := Ideal)) (onTc (τ := Cert.AdamRow2048Ideal.τ) (Cert.AdamRow2048Ideal.main (F := Ideal))) ⟨m, fun _ => 0, g⟩ (fun r => (∀ c : Dev Cert.AdamRow2048Ideal.nD,
      r.2.mem ((c.tc : Thread Cert.AdamRow2048Ideal.nD Cert.AdamRow2048Ideal.τ).loc Cert.AdamRow2048Ideal.main_arg0) = m ((c.tc : Thread Cert.AdamRow2048Ideal.nD Cert.AdamRow2048Ideal.τ).loc Cert.AdamRow2048Ideal.main_arg0)
      ∧ r.2.mem ((c.tc : Thread Cert.AdamRow2048Ideal.nD Cert.AdamRow2048Ideal.τ).loc Cert.AdamRow2048Ideal.main_arg1) = m ((c.tc : Thread Cert.AdamRow2048Ideal.nD Cert.AdamRow2048Ideal.τ).loc Cert.AdamRow2048Ideal.main_arg1)
      ∧ r.2.mem ((c.tc : Thread Cert.AdamRow2048Ideal.nD Cert.AdamRow2048Ideal.τ).loc Cert.AdamRow2048Ideal.main_arg2) = m ((c.tc : Thread Cert.AdamRow2048Ideal.nD Cert.AdamRow2048Ideal.τ).loc Cert.AdamRow2048Ideal.main_arg2)
      ∧ r.2.mem ((c.tc : Thread Cert.AdamRow2048Ideal.nD Cert.AdamRow2048Ideal.τ).loc Cert.AdamRow2048Ideal.main_arg3) = m ((c.tc : Thread Cert.AdamRow2048Ideal.nD Cert.AdamRow2048Ideal.τ).loc Cert.AdamRow2048Ideal.main_arg3))
      ∧ r.2.sem = fun _ => 0)

def quiescent_AdamRow2048RefIdeal [hAdamRow2048RefIdeal : Cert.AdamRow2048RefIdeal.Facts] : Prop :=
  ∀ (m : (ℓ : Loc Cert.AdamRow2048RefIdeal.nD Cert.AdamRow2048RefIdeal.τ Cert.AdamRow2048RefIdeal.sig) → Buf (Elt Ideal) ℓ) (g : Dev Cert.AdamRow2048RefIdeal.nD → PrngReg), Pre_AdamRow2048RefIdeal m →
    θ_run (Cert.AdamRow2048RefIdeal.defs (F := Ideal)) (onTc (τ := Cert.AdamRow2048RefIdeal.τ) (Cert.AdamRow2048RefIdeal.main (F := Ideal))) ⟨m, fun _ => 0, g⟩ (fun r => (∀ c : Dev Cert.AdamRow2048RefIdeal.nD,
      r.2.mem ((c.tc : Thread Cert.AdamRow2048RefIdeal.nD Cert.AdamRow2048RefIdeal.τ).loc Cert.AdamRow2048RefIdeal.main_arg0) = m ((c.tc : Thread Cert.AdamRow2048RefIdeal.nD Cert.AdamRow2048RefIdeal.τ).loc Cert.AdamRow2048RefIdeal.main_arg0)
      ∧ r.2.mem ((c.tc : Thread Cert.AdamRow2048RefIdeal.nD Cert.AdamRow2048RefIdeal.τ).loc Cert.AdamRow2048RefIdeal.main_arg1) = m ((c.tc : Thread Cert.AdamRow2048RefIdeal.nD Cert.AdamRow2048RefIdeal.τ).loc Cert.AdamRow2048RefIdeal.main_arg1)
      ∧ r.2.mem ((c.tc : Thread Cert.AdamRow2048RefIdeal.nD Cert.AdamRow2048RefIdeal.τ).loc Cert.AdamRow2048RefIdeal.main_arg2) = m ((c.tc : Thread Cert.AdamRow2048RefIdeal.nD Cert.AdamRow2048RefIdeal.τ).loc Cert.AdamRow2048RefIdeal.main_arg2)
      ∧ r.2.mem ((c.tc : Thread Cert.AdamRow2048RefIdeal.nD Cert.AdamRow2048RefIdeal.τ).loc Cert.AdamRow2048RefIdeal.main_arg3) = m ((c.tc : Thread Cert.AdamRow2048RefIdeal.nD Cert.AdamRow2048RefIdeal.τ).loc Cert.AdamRow2048RefIdeal.main_arg3))
      ∧ r.2.sem = fun _ => 0)

def quiescent_AdamPoolWeight [hAdamPoolWeight : Cert.AdamPoolWeight.Facts] : Prop :=
  ∀ (m : (ℓ : Loc Cert.AdamPoolWeight.nD Cert.AdamPoolWeight.τ Cert.AdamPoolWeight.sig) → Buf (Elt Bits) ℓ) (g : Dev Cert.AdamPoolWeight.nD → PrngReg), Pre_AdamPoolWeight m →
    θ_run (Cert.AdamPoolWeight.defs (F := Bits)) (onTc (τ := Cert.AdamPoolWeight.τ) (Cert.AdamPoolWeight.main (F := Bits))) ⟨m, fun _ => 0, g⟩ (fun r => (∀ c : Dev Cert.AdamPoolWeight.nD,
      r.2.mem ((c.tc : Thread Cert.AdamPoolWeight.nD Cert.AdamPoolWeight.τ).loc Cert.AdamPoolWeight.main_arg0) = m ((c.tc : Thread Cert.AdamPoolWeight.nD Cert.AdamPoolWeight.τ).loc Cert.AdamPoolWeight.main_arg0)
      ∧ r.2.mem ((c.tc : Thread Cert.AdamPoolWeight.nD Cert.AdamPoolWeight.τ).loc Cert.AdamPoolWeight.main_arg1) = m ((c.tc : Thread Cert.AdamPoolWeight.nD Cert.AdamPoolWeight.τ).loc Cert.AdamPoolWeight.main_arg1)
      ∧ r.2.mem ((c.tc : Thread Cert.AdamPoolWeight.nD Cert.AdamPoolWeight.τ).loc Cert.AdamPoolWeight.main_arg2) = m ((c.tc : Thread Cert.AdamPoolWeight.nD Cert.AdamPoolWeight.τ).loc Cert.AdamPoolWeight.main_arg2)
      ∧ r.2.mem ((c.tc : Thread Cert.AdamPoolWeight.nD Cert.AdamPoolWeight.τ).loc Cert.AdamPoolWeight.main_arg3) = m ((c.tc : Thread Cert.AdamPoolWeight.nD Cert.AdamPoolWeight.τ).loc Cert.AdamPoolWeight.main_arg3))
      ∧ r.2.sem = fun _ => 0)

def quiescent_AdamPoolWeightIdeal [hAdamPoolWeightIdeal : Cert.AdamPoolWeightIdeal.Facts] : Prop :=
  ∀ (m : (ℓ : Loc Cert.AdamPoolWeightIdeal.nD Cert.AdamPoolWeightIdeal.τ Cert.AdamPoolWeightIdeal.sig) → Buf (Elt Ideal) ℓ) (g : Dev Cert.AdamPoolWeightIdeal.nD → PrngReg), Pre_AdamPoolWeightIdeal m →
    θ_run (Cert.AdamPoolWeightIdeal.defs (F := Ideal)) (onTc (τ := Cert.AdamPoolWeightIdeal.τ) (Cert.AdamPoolWeightIdeal.main (F := Ideal))) ⟨m, fun _ => 0, g⟩ (fun r => (∀ c : Dev Cert.AdamPoolWeightIdeal.nD,
      r.2.mem ((c.tc : Thread Cert.AdamPoolWeightIdeal.nD Cert.AdamPoolWeightIdeal.τ).loc Cert.AdamPoolWeightIdeal.main_arg0) = m ((c.tc : Thread Cert.AdamPoolWeightIdeal.nD Cert.AdamPoolWeightIdeal.τ).loc Cert.AdamPoolWeightIdeal.main_arg0)
      ∧ r.2.mem ((c.tc : Thread Cert.AdamPoolWeightIdeal.nD Cert.AdamPoolWeightIdeal.τ).loc Cert.AdamPoolWeightIdeal.main_arg1) = m ((c.tc : Thread Cert.AdamPoolWeightIdeal.nD Cert.AdamPoolWeightIdeal.τ).loc Cert.AdamPoolWeightIdeal.main_arg1)
      ∧ r.2.mem ((c.tc : Thread Cert.AdamPoolWeightIdeal.nD Cert.AdamPoolWeightIdeal.τ).loc Cert.AdamPoolWeightIdeal.main_arg2) = m ((c.tc : Thread Cert.AdamPoolWeightIdeal.nD Cert.AdamPoolWeightIdeal.τ).loc Cert.AdamPoolWeightIdeal.main_arg2)
      ∧ r.2.mem ((c.tc : Thread Cert.AdamPoolWeightIdeal.nD Cert.AdamPoolWeightIdeal.τ).loc Cert.AdamPoolWeightIdeal.main_arg3) = m ((c.tc : Thread Cert.AdamPoolWeightIdeal.nD Cert.AdamPoolWeightIdeal.τ).loc Cert.AdamPoolWeightIdeal.main_arg3))
      ∧ r.2.sem = fun _ => 0)

def quiescent_AdamPoolWeightRefIdeal [hAdamPoolWeightRefIdeal : Cert.AdamPoolWeightRefIdeal.Facts] : Prop :=
  ∀ (m : (ℓ : Loc Cert.AdamPoolWeightRefIdeal.nD Cert.AdamPoolWeightRefIdeal.τ Cert.AdamPoolWeightRefIdeal.sig) → Buf (Elt Ideal) ℓ) (g : Dev Cert.AdamPoolWeightRefIdeal.nD → PrngReg), Pre_AdamPoolWeightRefIdeal m →
    θ_run (Cert.AdamPoolWeightRefIdeal.defs (F := Ideal)) (onTc (τ := Cert.AdamPoolWeightRefIdeal.τ) (Cert.AdamPoolWeightRefIdeal.main (F := Ideal))) ⟨m, fun _ => 0, g⟩ (fun r => (∀ c : Dev Cert.AdamPoolWeightRefIdeal.nD,
      r.2.mem ((c.tc : Thread Cert.AdamPoolWeightRefIdeal.nD Cert.AdamPoolWeightRefIdeal.τ).loc Cert.AdamPoolWeightRefIdeal.main_arg0) = m ((c.tc : Thread Cert.AdamPoolWeightRefIdeal.nD Cert.AdamPoolWeightRefIdeal.τ).loc Cert.AdamPoolWeightRefIdeal.main_arg0)
      ∧ r.2.mem ((c.tc : Thread Cert.AdamPoolWeightRefIdeal.nD Cert.AdamPoolWeightRefIdeal.τ).loc Cert.AdamPoolWeightRefIdeal.main_arg1) = m ((c.tc : Thread Cert.AdamPoolWeightRefIdeal.nD Cert.AdamPoolWeightRefIdeal.τ).loc Cert.AdamPoolWeightRefIdeal.main_arg1)
      ∧ r.2.mem ((c.tc : Thread Cert.AdamPoolWeightRefIdeal.nD Cert.AdamPoolWeightRefIdeal.τ).loc Cert.AdamPoolWeightRefIdeal.main_arg2) = m ((c.tc : Thread Cert.AdamPoolWeightRefIdeal.nD Cert.AdamPoolWeightRefIdeal.τ).loc Cert.AdamPoolWeightRefIdeal.main_arg2)
      ∧ r.2.mem ((c.tc : Thread Cert.AdamPoolWeightRefIdeal.nD Cert.AdamPoolWeightRefIdeal.τ).loc Cert.AdamPoolWeightRefIdeal.main_arg3) = m ((c.tc : Thread Cert.AdamPoolWeightRefIdeal.nD Cert.AdamPoolWeightRefIdeal.τ).loc Cert.AdamPoolWeightRefIdeal.main_arg3))
      ∧ r.2.sem = fun _ => 0)

def quiescent_AdamRow512 [hAdamRow512 : Cert.AdamRow512.Facts] : Prop :=
  ∀ (m : (ℓ : Loc Cert.AdamRow512.nD Cert.AdamRow512.τ Cert.AdamRow512.sig) → Buf (Elt Bits) ℓ) (g : Dev Cert.AdamRow512.nD → PrngReg), Pre_AdamRow512 m →
    θ_run (Cert.AdamRow512.defs (F := Bits)) (onTc (τ := Cert.AdamRow512.τ) (Cert.AdamRow512.main (F := Bits))) ⟨m, fun _ => 0, g⟩ (fun r => (∀ c : Dev Cert.AdamRow512.nD,
      r.2.mem ((c.tc : Thread Cert.AdamRow512.nD Cert.AdamRow512.τ).loc Cert.AdamRow512.main_arg0) = m ((c.tc : Thread Cert.AdamRow512.nD Cert.AdamRow512.τ).loc Cert.AdamRow512.main_arg0)
      ∧ r.2.mem ((c.tc : Thread Cert.AdamRow512.nD Cert.AdamRow512.τ).loc Cert.AdamRow512.main_arg1) = m ((c.tc : Thread Cert.AdamRow512.nD Cert.AdamRow512.τ).loc Cert.AdamRow512.main_arg1)
      ∧ r.2.mem ((c.tc : Thread Cert.AdamRow512.nD Cert.AdamRow512.τ).loc Cert.AdamRow512.main_arg2) = m ((c.tc : Thread Cert.AdamRow512.nD Cert.AdamRow512.τ).loc Cert.AdamRow512.main_arg2)
      ∧ r.2.mem ((c.tc : Thread Cert.AdamRow512.nD Cert.AdamRow512.τ).loc Cert.AdamRow512.main_arg3) = m ((c.tc : Thread Cert.AdamRow512.nD Cert.AdamRow512.τ).loc Cert.AdamRow512.main_arg3))
      ∧ r.2.sem = fun _ => 0)

def quiescent_AdamRow512Ideal [hAdamRow512Ideal : Cert.AdamRow512Ideal.Facts] : Prop :=
  ∀ (m : (ℓ : Loc Cert.AdamRow512Ideal.nD Cert.AdamRow512Ideal.τ Cert.AdamRow512Ideal.sig) → Buf (Elt Ideal) ℓ) (g : Dev Cert.AdamRow512Ideal.nD → PrngReg), Pre_AdamRow512Ideal m →
    θ_run (Cert.AdamRow512Ideal.defs (F := Ideal)) (onTc (τ := Cert.AdamRow512Ideal.τ) (Cert.AdamRow512Ideal.main (F := Ideal))) ⟨m, fun _ => 0, g⟩ (fun r => (∀ c : Dev Cert.AdamRow512Ideal.nD,
      r.2.mem ((c.tc : Thread Cert.AdamRow512Ideal.nD Cert.AdamRow512Ideal.τ).loc Cert.AdamRow512Ideal.main_arg0) = m ((c.tc : Thread Cert.AdamRow512Ideal.nD Cert.AdamRow512Ideal.τ).loc Cert.AdamRow512Ideal.main_arg0)
      ∧ r.2.mem ((c.tc : Thread Cert.AdamRow512Ideal.nD Cert.AdamRow512Ideal.τ).loc Cert.AdamRow512Ideal.main_arg1) = m ((c.tc : Thread Cert.AdamRow512Ideal.nD Cert.AdamRow512Ideal.τ).loc Cert.AdamRow512Ideal.main_arg1)
      ∧ r.2.mem ((c.tc : Thread Cert.AdamRow512Ideal.nD Cert.AdamRow512Ideal.τ).loc Cert.AdamRow512Ideal.main_arg2) = m ((c.tc : Thread Cert.AdamRow512Ideal.nD Cert.AdamRow512Ideal.τ).loc Cert.AdamRow512Ideal.main_arg2)
      ∧ r.2.mem ((c.tc : Thread Cert.AdamRow512Ideal.nD Cert.AdamRow512Ideal.τ).loc Cert.AdamRow512Ideal.main_arg3) = m ((c.tc : Thread Cert.AdamRow512Ideal.nD Cert.AdamRow512Ideal.τ).loc Cert.AdamRow512Ideal.main_arg3))
      ∧ r.2.sem = fun _ => 0)

def quiescent_AdamRow512RefIdeal [hAdamRow512RefIdeal : Cert.AdamRow512RefIdeal.Facts] : Prop :=
  ∀ (m : (ℓ : Loc Cert.AdamRow512RefIdeal.nD Cert.AdamRow512RefIdeal.τ Cert.AdamRow512RefIdeal.sig) → Buf (Elt Ideal) ℓ) (g : Dev Cert.AdamRow512RefIdeal.nD → PrngReg), Pre_AdamRow512RefIdeal m →
    θ_run (Cert.AdamRow512RefIdeal.defs (F := Ideal)) (onTc (τ := Cert.AdamRow512RefIdeal.τ) (Cert.AdamRow512RefIdeal.main (F := Ideal))) ⟨m, fun _ => 0, g⟩ (fun r => (∀ c : Dev Cert.AdamRow512RefIdeal.nD,
      r.2.mem ((c.tc : Thread Cert.AdamRow512RefIdeal.nD Cert.AdamRow512RefIdeal.τ).loc Cert.AdamRow512RefIdeal.main_arg0) = m ((c.tc : Thread Cert.AdamRow512RefIdeal.nD Cert.AdamRow512RefIdeal.τ).loc Cert.AdamRow512RefIdeal.main_arg0)
      ∧ r.2.mem ((c.tc : Thread Cert.AdamRow512RefIdeal.nD Cert.AdamRow512RefIdeal.τ).loc Cert.AdamRow512RefIdeal.main_arg1) = m ((c.tc : Thread Cert.AdamRow512RefIdeal.nD Cert.AdamRow512RefIdeal.τ).loc Cert.AdamRow512RefIdeal.main_arg1)
      ∧ r.2.mem ((c.tc : Thread Cert.AdamRow512RefIdeal.nD Cert.AdamRow512RefIdeal.τ).loc Cert.AdamRow512RefIdeal.main_arg2) = m ((c.tc : Thread Cert.AdamRow512RefIdeal.nD Cert.AdamRow512RefIdeal.τ).loc Cert.AdamRow512RefIdeal.main_arg2)
      ∧ r.2.mem ((c.tc : Thread Cert.AdamRow512RefIdeal.nD Cert.AdamRow512RefIdeal.τ).loc Cert.AdamRow512RefIdeal.main_arg3) = m ((c.tc : Thread Cert.AdamRow512RefIdeal.nD Cert.AdamRow512RefIdeal.τ).loc Cert.AdamRow512RefIdeal.main_arg3))
      ∧ r.2.sem = fun _ => 0)

def quiescent_AdamGdnIn [hAdamGdnIn : Cert.AdamGdnIn.Facts] : Prop :=
  ∀ (m : (ℓ : Loc Cert.AdamGdnIn.nD Cert.AdamGdnIn.τ Cert.AdamGdnIn.sig) → Buf (Elt Bits) ℓ) (g : Dev Cert.AdamGdnIn.nD → PrngReg), Pre_AdamGdnIn m →
    θ_run (Cert.AdamGdnIn.defs (F := Bits)) (onTc (τ := Cert.AdamGdnIn.τ) (Cert.AdamGdnIn.main (F := Bits))) ⟨m, fun _ => 0, g⟩ (fun r => (∀ c : Dev Cert.AdamGdnIn.nD,
      r.2.mem ((c.tc : Thread Cert.AdamGdnIn.nD Cert.AdamGdnIn.τ).loc Cert.AdamGdnIn.main_arg0) = m ((c.tc : Thread Cert.AdamGdnIn.nD Cert.AdamGdnIn.τ).loc Cert.AdamGdnIn.main_arg0)
      ∧ r.2.mem ((c.tc : Thread Cert.AdamGdnIn.nD Cert.AdamGdnIn.τ).loc Cert.AdamGdnIn.main_arg1) = m ((c.tc : Thread Cert.AdamGdnIn.nD Cert.AdamGdnIn.τ).loc Cert.AdamGdnIn.main_arg1)
      ∧ r.2.mem ((c.tc : Thread Cert.AdamGdnIn.nD Cert.AdamGdnIn.τ).loc Cert.AdamGdnIn.main_arg2) = m ((c.tc : Thread Cert.AdamGdnIn.nD Cert.AdamGdnIn.τ).loc Cert.AdamGdnIn.main_arg2)
      ∧ r.2.mem ((c.tc : Thread Cert.AdamGdnIn.nD Cert.AdamGdnIn.τ).loc Cert.AdamGdnIn.main_arg3) = m ((c.tc : Thread Cert.AdamGdnIn.nD Cert.AdamGdnIn.τ).loc Cert.AdamGdnIn.main_arg3))
      ∧ r.2.sem = fun _ => 0)

def quiescent_AdamGdnInIdeal [hAdamGdnInIdeal : Cert.AdamGdnInIdeal.Facts] : Prop :=
  ∀ (m : (ℓ : Loc Cert.AdamGdnInIdeal.nD Cert.AdamGdnInIdeal.τ Cert.AdamGdnInIdeal.sig) → Buf (Elt Ideal) ℓ) (g : Dev Cert.AdamGdnInIdeal.nD → PrngReg), Pre_AdamGdnInIdeal m →
    θ_run (Cert.AdamGdnInIdeal.defs (F := Ideal)) (onTc (τ := Cert.AdamGdnInIdeal.τ) (Cert.AdamGdnInIdeal.main (F := Ideal))) ⟨m, fun _ => 0, g⟩ (fun r => (∀ c : Dev Cert.AdamGdnInIdeal.nD,
      r.2.mem ((c.tc : Thread Cert.AdamGdnInIdeal.nD Cert.AdamGdnInIdeal.τ).loc Cert.AdamGdnInIdeal.main_arg0) = m ((c.tc : Thread Cert.AdamGdnInIdeal.nD Cert.AdamGdnInIdeal.τ).loc Cert.AdamGdnInIdeal.main_arg0)
      ∧ r.2.mem ((c.tc : Thread Cert.AdamGdnInIdeal.nD Cert.AdamGdnInIdeal.τ).loc Cert.AdamGdnInIdeal.main_arg1) = m ((c.tc : Thread Cert.AdamGdnInIdeal.nD Cert.AdamGdnInIdeal.τ).loc Cert.AdamGdnInIdeal.main_arg1)
      ∧ r.2.mem ((c.tc : Thread Cert.AdamGdnInIdeal.nD Cert.AdamGdnInIdeal.τ).loc Cert.AdamGdnInIdeal.main_arg2) = m ((c.tc : Thread Cert.AdamGdnInIdeal.nD Cert.AdamGdnInIdeal.τ).loc Cert.AdamGdnInIdeal.main_arg2)
      ∧ r.2.mem ((c.tc : Thread Cert.AdamGdnInIdeal.nD Cert.AdamGdnInIdeal.τ).loc Cert.AdamGdnInIdeal.main_arg3) = m ((c.tc : Thread Cert.AdamGdnInIdeal.nD Cert.AdamGdnInIdeal.τ).loc Cert.AdamGdnInIdeal.main_arg3))
      ∧ r.2.sem = fun _ => 0)

def quiescent_AdamGdnInRefIdeal [hAdamGdnInRefIdeal : Cert.AdamGdnInRefIdeal.Facts] : Prop :=
  ∀ (m : (ℓ : Loc Cert.AdamGdnInRefIdeal.nD Cert.AdamGdnInRefIdeal.τ Cert.AdamGdnInRefIdeal.sig) → Buf (Elt Ideal) ℓ) (g : Dev Cert.AdamGdnInRefIdeal.nD → PrngReg), Pre_AdamGdnInRefIdeal m →
    θ_run (Cert.AdamGdnInRefIdeal.defs (F := Ideal)) (onTc (τ := Cert.AdamGdnInRefIdeal.τ) (Cert.AdamGdnInRefIdeal.main (F := Ideal))) ⟨m, fun _ => 0, g⟩ (fun r => (∀ c : Dev Cert.AdamGdnInRefIdeal.nD,
      r.2.mem ((c.tc : Thread Cert.AdamGdnInRefIdeal.nD Cert.AdamGdnInRefIdeal.τ).loc Cert.AdamGdnInRefIdeal.main_arg0) = m ((c.tc : Thread Cert.AdamGdnInRefIdeal.nD Cert.AdamGdnInRefIdeal.τ).loc Cert.AdamGdnInRefIdeal.main_arg0)
      ∧ r.2.mem ((c.tc : Thread Cert.AdamGdnInRefIdeal.nD Cert.AdamGdnInRefIdeal.τ).loc Cert.AdamGdnInRefIdeal.main_arg1) = m ((c.tc : Thread Cert.AdamGdnInRefIdeal.nD Cert.AdamGdnInRefIdeal.τ).loc Cert.AdamGdnInRefIdeal.main_arg1)
      ∧ r.2.mem ((c.tc : Thread Cert.AdamGdnInRefIdeal.nD Cert.AdamGdnInRefIdeal.τ).loc Cert.AdamGdnInRefIdeal.main_arg2) = m ((c.tc : Thread Cert.AdamGdnInRefIdeal.nD Cert.AdamGdnInRefIdeal.τ).loc Cert.AdamGdnInRefIdeal.main_arg2)
      ∧ r.2.mem ((c.tc : Thread Cert.AdamGdnInRefIdeal.nD Cert.AdamGdnInRefIdeal.τ).loc Cert.AdamGdnInRefIdeal.main_arg3) = m ((c.tc : Thread Cert.AdamGdnInRefIdeal.nD Cert.AdamGdnInRefIdeal.τ).loc Cert.AdamGdnInRefIdeal.main_arg3))
      ∧ r.2.sem = fun _ => 0)

def quiescent_AdamGdnConv [hAdamGdnConv : Cert.AdamGdnConv.Facts] : Prop :=
  ∀ (m : (ℓ : Loc Cert.AdamGdnConv.nD Cert.AdamGdnConv.τ Cert.AdamGdnConv.sig) → Buf (Elt Bits) ℓ) (g : Dev Cert.AdamGdnConv.nD → PrngReg), Pre_AdamGdnConv m →
    θ_run (Cert.AdamGdnConv.defs (F := Bits)) (onTc (τ := Cert.AdamGdnConv.τ) (Cert.AdamGdnConv.main (F := Bits))) ⟨m, fun _ => 0, g⟩ (fun r => (∀ c : Dev Cert.AdamGdnConv.nD,
      r.2.mem ((c.tc : Thread Cert.AdamGdnConv.nD Cert.AdamGdnConv.τ).loc Cert.AdamGdnConv.main_arg0) = m ((c.tc : Thread Cert.AdamGdnConv.nD Cert.AdamGdnConv.τ).loc Cert.AdamGdnConv.main_arg0)
      ∧ r.2.mem ((c.tc : Thread Cert.AdamGdnConv.nD Cert.AdamGdnConv.τ).loc Cert.AdamGdnConv.main_arg1) = m ((c.tc : Thread Cert.AdamGdnConv.nD Cert.AdamGdnConv.τ).loc Cert.AdamGdnConv.main_arg1)
      ∧ r.2.mem ((c.tc : Thread Cert.AdamGdnConv.nD Cert.AdamGdnConv.τ).loc Cert.AdamGdnConv.main_arg2) = m ((c.tc : Thread Cert.AdamGdnConv.nD Cert.AdamGdnConv.τ).loc Cert.AdamGdnConv.main_arg2)
      ∧ r.2.mem ((c.tc : Thread Cert.AdamGdnConv.nD Cert.AdamGdnConv.τ).loc Cert.AdamGdnConv.main_arg3) = m ((c.tc : Thread Cert.AdamGdnConv.nD Cert.AdamGdnConv.τ).loc Cert.AdamGdnConv.main_arg3))
      ∧ r.2.sem = fun _ => 0)

def quiescent_AdamGdnConvIdeal [hAdamGdnConvIdeal : Cert.AdamGdnConvIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg), Pre_AdamGdnConvIdeal m →
    θ_run (Cert.AdamGdnConvIdeal.defs (F := Ideal)) (onTc (τ := Cert.AdamGdnConvIdeal.τ) (Cert.AdamGdnConvIdeal.main (F := Ideal))) ⟨m, fun _ => 0, g⟩ (fun r => (∀ c : Dev Cert.AdamGdnConvIdeal.nD,
      r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
      ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
      ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
      ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ r.2.sem = fun _ => 0)

def quiescent_AdamGdnConvRefIdeal [hAdamGdnConvRefIdeal : Cert.AdamGdnConvRefIdeal.Facts] : Prop :=
  ∀ (m : (ℓ : Loc Cert.AdamGdnConvRefIdeal.nD Cert.AdamGdnConvRefIdeal.τ Cert.AdamGdnConvRefIdeal.sig) → Buf (Elt Ideal) ℓ) (g : Dev Cert.AdamGdnConvRefIdeal.nD → PrngReg), Pre_AdamGdnConvRefIdeal m →
    θ_run (Cert.AdamGdnConvRefIdeal.defs (F := Ideal)) (onTc (τ := Cert.AdamGdnConvRefIdeal.τ) (Cert.AdamGdnConvRefIdeal.main (F := Ideal))) ⟨m, fun _ => 0, g⟩ (fun r => (∀ c : Dev Cert.AdamGdnConvRefIdeal.nD,
      r.2.mem ((c.tc : Thread Cert.AdamGdnConvRefIdeal.nD Cert.AdamGdnConvRefIdeal.τ).loc Cert.AdamGdnConvRefIdeal.main_arg0) = m ((c.tc : Thread Cert.AdamGdnConvRefIdeal.nD Cert.AdamGdnConvRefIdeal.τ).loc Cert.AdamGdnConvRefIdeal.main_arg0)
      ∧ r.2.mem ((c.tc : Thread Cert.AdamGdnConvRefIdeal.nD Cert.AdamGdnConvRefIdeal.τ).loc Cert.AdamGdnConvRefIdeal.main_arg1) = m ((c.tc : Thread Cert.AdamGdnConvRefIdeal.nD Cert.AdamGdnConvRefIdeal.τ).loc Cert.AdamGdnConvRefIdeal.main_arg1)
      ∧ r.2.mem ((c.tc : Thread Cert.AdamGdnConvRefIdeal.nD Cert.AdamGdnConvRefIdeal.τ).loc Cert.AdamGdnConvRefIdeal.main_arg2) = m ((c.tc : Thread Cert.AdamGdnConvRefIdeal.nD Cert.AdamGdnConvRefIdeal.τ).loc Cert.AdamGdnConvRefIdeal.main_arg2)
      ∧ r.2.mem ((c.tc : Thread Cert.AdamGdnConvRefIdeal.nD Cert.AdamGdnConvRefIdeal.τ).loc Cert.AdamGdnConvRefIdeal.main_arg3) = m ((c.tc : Thread Cert.AdamGdnConvRefIdeal.nD Cert.AdamGdnConvRefIdeal.τ).loc Cert.AdamGdnConvRefIdeal.main_arg3))
      ∧ r.2.sem = fun _ => 0)

def quiescent_AdamRow32 [hAdamRow32 : Cert.AdamRow32.Facts] : Prop :=
  ∀ (m : (ℓ : Loc Cert.AdamRow32.nD Cert.AdamRow32.τ Cert.AdamRow32.sig) → Buf (Elt Bits) ℓ) (g : Dev Cert.AdamRow32.nD → PrngReg), Pre_AdamRow32 m →
    θ_run (Cert.AdamRow32.defs (F := Bits)) (onTc (τ := Cert.AdamRow32.τ) (Cert.AdamRow32.main (F := Bits))) ⟨m, fun _ => 0, g⟩ (fun r => (∀ c : Dev Cert.AdamRow32.nD,
      r.2.mem ((c.tc : Thread Cert.AdamRow32.nD Cert.AdamRow32.τ).loc Cert.AdamRow32.main_arg0) = m ((c.tc : Thread Cert.AdamRow32.nD Cert.AdamRow32.τ).loc Cert.AdamRow32.main_arg0)
      ∧ r.2.mem ((c.tc : Thread Cert.AdamRow32.nD Cert.AdamRow32.τ).loc Cert.AdamRow32.main_arg1) = m ((c.tc : Thread Cert.AdamRow32.nD Cert.AdamRow32.τ).loc Cert.AdamRow32.main_arg1)
      ∧ r.2.mem ((c.tc : Thread Cert.AdamRow32.nD Cert.AdamRow32.τ).loc Cert.AdamRow32.main_arg2) = m ((c.tc : Thread Cert.AdamRow32.nD Cert.AdamRow32.τ).loc Cert.AdamRow32.main_arg2)
      ∧ r.2.mem ((c.tc : Thread Cert.AdamRow32.nD Cert.AdamRow32.τ).loc Cert.AdamRow32.main_arg3) = m ((c.tc : Thread Cert.AdamRow32.nD Cert.AdamRow32.τ).loc Cert.AdamRow32.main_arg3))
      ∧ r.2.sem = fun _ => 0)

def quiescent_AdamRow32Ideal [hAdamRow32Ideal : Cert.AdamRow32Ideal.Facts] : Prop :=
  ∀ (m : (ℓ : Loc Cert.AdamRow32Ideal.nD Cert.AdamRow32Ideal.τ Cert.AdamRow32Ideal.sig) → Buf (Elt Ideal) ℓ) (g : Dev Cert.AdamRow32Ideal.nD → PrngReg), Pre_AdamRow32Ideal m →
    θ_run (Cert.AdamRow32Ideal.defs (F := Ideal)) (onTc (τ := Cert.AdamRow32Ideal.τ) (Cert.AdamRow32Ideal.main (F := Ideal))) ⟨m, fun _ => 0, g⟩ (fun r => (∀ c : Dev Cert.AdamRow32Ideal.nD,
      r.2.mem ((c.tc : Thread Cert.AdamRow32Ideal.nD Cert.AdamRow32Ideal.τ).loc Cert.AdamRow32Ideal.main_arg0) = m ((c.tc : Thread Cert.AdamRow32Ideal.nD Cert.AdamRow32Ideal.τ).loc Cert.AdamRow32Ideal.main_arg0)
      ∧ r.2.mem ((c.tc : Thread Cert.AdamRow32Ideal.nD Cert.AdamRow32Ideal.τ).loc Cert.AdamRow32Ideal.main_arg1) = m ((c.tc : Thread Cert.AdamRow32Ideal.nD Cert.AdamRow32Ideal.τ).loc Cert.AdamRow32Ideal.main_arg1)
      ∧ r.2.mem ((c.tc : Thread Cert.AdamRow32Ideal.nD Cert.AdamRow32Ideal.τ).loc Cert.AdamRow32Ideal.main_arg2) = m ((c.tc : Thread Cert.AdamRow32Ideal.nD Cert.AdamRow32Ideal.τ).loc Cert.AdamRow32Ideal.main_arg2)
      ∧ r.2.mem ((c.tc : Thread Cert.AdamRow32Ideal.nD Cert.AdamRow32Ideal.τ).loc Cert.AdamRow32Ideal.main_arg3) = m ((c.tc : Thread Cert.AdamRow32Ideal.nD Cert.AdamRow32Ideal.τ).loc Cert.AdamRow32Ideal.main_arg3))
      ∧ r.2.sem = fun _ => 0)

def quiescent_AdamRow32RefIdeal [hAdamRow32RefIdeal : Cert.AdamRow32RefIdeal.Facts] : Prop :=
  ∀ (m : (ℓ : Loc Cert.AdamRow32RefIdeal.nD Cert.AdamRow32RefIdeal.τ Cert.AdamRow32RefIdeal.sig) → Buf (Elt Ideal) ℓ) (g : Dev Cert.AdamRow32RefIdeal.nD → PrngReg), Pre_AdamRow32RefIdeal m →
    θ_run (Cert.AdamRow32RefIdeal.defs (F := Ideal)) (onTc (τ := Cert.AdamRow32RefIdeal.τ) (Cert.AdamRow32RefIdeal.main (F := Ideal))) ⟨m, fun _ => 0, g⟩ (fun r => (∀ c : Dev Cert.AdamRow32RefIdeal.nD,
      r.2.mem ((c.tc : Thread Cert.AdamRow32RefIdeal.nD Cert.AdamRow32RefIdeal.τ).loc Cert.AdamRow32RefIdeal.main_arg0) = m ((c.tc : Thread Cert.AdamRow32RefIdeal.nD Cert.AdamRow32RefIdeal.τ).loc Cert.AdamRow32RefIdeal.main_arg0)
      ∧ r.2.mem ((c.tc : Thread Cert.AdamRow32RefIdeal.nD Cert.AdamRow32RefIdeal.τ).loc Cert.AdamRow32RefIdeal.main_arg1) = m ((c.tc : Thread Cert.AdamRow32RefIdeal.nD Cert.AdamRow32RefIdeal.τ).loc Cert.AdamRow32RefIdeal.main_arg1)
      ∧ r.2.mem ((c.tc : Thread Cert.AdamRow32RefIdeal.nD Cert.AdamRow32RefIdeal.τ).loc Cert.AdamRow32RefIdeal.main_arg2) = m ((c.tc : Thread Cert.AdamRow32RefIdeal.nD Cert.AdamRow32RefIdeal.τ).loc Cert.AdamRow32RefIdeal.main_arg2)
      ∧ r.2.mem ((c.tc : Thread Cert.AdamRow32RefIdeal.nD Cert.AdamRow32RefIdeal.τ).loc Cert.AdamRow32RefIdeal.main_arg3) = m ((c.tc : Thread Cert.AdamRow32RefIdeal.nD Cert.AdamRow32RefIdeal.τ).loc Cert.AdamRow32RefIdeal.main_arg3))
      ∧ r.2.sem = fun _ => 0)

def quiescent_AdamRow128 [hAdamRow128 : Cert.AdamRow128.Facts] : Prop :=
  ∀ (m : (ℓ : Loc Cert.AdamRow128.nD Cert.AdamRow128.τ Cert.AdamRow128.sig) → Buf (Elt Bits) ℓ) (g : Dev Cert.AdamRow128.nD → PrngReg), Pre_AdamRow128 m →
    θ_run (Cert.AdamRow128.defs (F := Bits)) (onTc (τ := Cert.AdamRow128.τ) (Cert.AdamRow128.main (F := Bits))) ⟨m, fun _ => 0, g⟩ (fun r => (∀ c : Dev Cert.AdamRow128.nD,
      r.2.mem ((c.tc : Thread Cert.AdamRow128.nD Cert.AdamRow128.τ).loc Cert.AdamRow128.main_arg0) = m ((c.tc : Thread Cert.AdamRow128.nD Cert.AdamRow128.τ).loc Cert.AdamRow128.main_arg0)
      ∧ r.2.mem ((c.tc : Thread Cert.AdamRow128.nD Cert.AdamRow128.τ).loc Cert.AdamRow128.main_arg1) = m ((c.tc : Thread Cert.AdamRow128.nD Cert.AdamRow128.τ).loc Cert.AdamRow128.main_arg1)
      ∧ r.2.mem ((c.tc : Thread Cert.AdamRow128.nD Cert.AdamRow128.τ).loc Cert.AdamRow128.main_arg2) = m ((c.tc : Thread Cert.AdamRow128.nD Cert.AdamRow128.τ).loc Cert.AdamRow128.main_arg2)
      ∧ r.2.mem ((c.tc : Thread Cert.AdamRow128.nD Cert.AdamRow128.τ).loc Cert.AdamRow128.main_arg3) = m ((c.tc : Thread Cert.AdamRow128.nD Cert.AdamRow128.τ).loc Cert.AdamRow128.main_arg3))
      ∧ r.2.sem = fun _ => 0)

def quiescent_AdamRow128Ideal [hAdamRow128Ideal : Cert.AdamRow128Ideal.Facts] : Prop :=
  ∀ (m : (ℓ : Loc Cert.AdamRow128Ideal.nD Cert.AdamRow128Ideal.τ Cert.AdamRow128Ideal.sig) → Buf (Elt Ideal) ℓ) (g : Dev Cert.AdamRow128Ideal.nD → PrngReg), Pre_AdamRow128Ideal m →
    θ_run (Cert.AdamRow128Ideal.defs (F := Ideal)) (onTc (τ := Cert.AdamRow128Ideal.τ) (Cert.AdamRow128Ideal.main (F := Ideal))) ⟨m, fun _ => 0, g⟩ (fun r => (∀ c : Dev Cert.AdamRow128Ideal.nD,
      r.2.mem ((c.tc : Thread Cert.AdamRow128Ideal.nD Cert.AdamRow128Ideal.τ).loc Cert.AdamRow128Ideal.main_arg0) = m ((c.tc : Thread Cert.AdamRow128Ideal.nD Cert.AdamRow128Ideal.τ).loc Cert.AdamRow128Ideal.main_arg0)
      ∧ r.2.mem ((c.tc : Thread Cert.AdamRow128Ideal.nD Cert.AdamRow128Ideal.τ).loc Cert.AdamRow128Ideal.main_arg1) = m ((c.tc : Thread Cert.AdamRow128Ideal.nD Cert.AdamRow128Ideal.τ).loc Cert.AdamRow128Ideal.main_arg1)
      ∧ r.2.mem ((c.tc : Thread Cert.AdamRow128Ideal.nD Cert.AdamRow128Ideal.τ).loc Cert.AdamRow128Ideal.main_arg2) = m ((c.tc : Thread Cert.AdamRow128Ideal.nD Cert.AdamRow128Ideal.τ).loc Cert.AdamRow128Ideal.main_arg2)
      ∧ r.2.mem ((c.tc : Thread Cert.AdamRow128Ideal.nD Cert.AdamRow128Ideal.τ).loc Cert.AdamRow128Ideal.main_arg3) = m ((c.tc : Thread Cert.AdamRow128Ideal.nD Cert.AdamRow128Ideal.τ).loc Cert.AdamRow128Ideal.main_arg3))
      ∧ r.2.sem = fun _ => 0)

def quiescent_AdamRow128RefIdeal [hAdamRow128RefIdeal : Cert.AdamRow128RefIdeal.Facts] : Prop :=
  ∀ (m : (ℓ : Loc Cert.AdamRow128RefIdeal.nD Cert.AdamRow128RefIdeal.τ Cert.AdamRow128RefIdeal.sig) → Buf (Elt Ideal) ℓ) (g : Dev Cert.AdamRow128RefIdeal.nD → PrngReg), Pre_AdamRow128RefIdeal m →
    θ_run (Cert.AdamRow128RefIdeal.defs (F := Ideal)) (onTc (τ := Cert.AdamRow128RefIdeal.τ) (Cert.AdamRow128RefIdeal.main (F := Ideal))) ⟨m, fun _ => 0, g⟩ (fun r => (∀ c : Dev Cert.AdamRow128RefIdeal.nD,
      r.2.mem ((c.tc : Thread Cert.AdamRow128RefIdeal.nD Cert.AdamRow128RefIdeal.τ).loc Cert.AdamRow128RefIdeal.main_arg0) = m ((c.tc : Thread Cert.AdamRow128RefIdeal.nD Cert.AdamRow128RefIdeal.τ).loc Cert.AdamRow128RefIdeal.main_arg0)
      ∧ r.2.mem ((c.tc : Thread Cert.AdamRow128RefIdeal.nD Cert.AdamRow128RefIdeal.τ).loc Cert.AdamRow128RefIdeal.main_arg1) = m ((c.tc : Thread Cert.AdamRow128RefIdeal.nD Cert.AdamRow128RefIdeal.τ).loc Cert.AdamRow128RefIdeal.main_arg1)
      ∧ r.2.mem ((c.tc : Thread Cert.AdamRow128RefIdeal.nD Cert.AdamRow128RefIdeal.τ).loc Cert.AdamRow128RefIdeal.main_arg2) = m ((c.tc : Thread Cert.AdamRow128RefIdeal.nD Cert.AdamRow128RefIdeal.τ).loc Cert.AdamRow128RefIdeal.main_arg2)
      ∧ r.2.mem ((c.tc : Thread Cert.AdamRow128RefIdeal.nD Cert.AdamRow128RefIdeal.τ).loc Cert.AdamRow128RefIdeal.main_arg3) = m ((c.tc : Thread Cert.AdamRow128RefIdeal.nD Cert.AdamRow128RefIdeal.τ).loc Cert.AdamRow128RefIdeal.main_arg3))
      ∧ r.2.sem = fun _ => 0)

def quiescent_AdamGdnOut [hAdamGdnOut : Cert.AdamGdnOut.Facts] : Prop :=
  ∀ (m : (ℓ : Loc Cert.AdamGdnOut.nD Cert.AdamGdnOut.τ Cert.AdamGdnOut.sig) → Buf (Elt Bits) ℓ) (g : Dev Cert.AdamGdnOut.nD → PrngReg), Pre_AdamGdnOut m →
    θ_run (Cert.AdamGdnOut.defs (F := Bits)) (onTc (τ := Cert.AdamGdnOut.τ) (Cert.AdamGdnOut.main (F := Bits))) ⟨m, fun _ => 0, g⟩ (fun r => (∀ c : Dev Cert.AdamGdnOut.nD,
      r.2.mem ((c.tc : Thread Cert.AdamGdnOut.nD Cert.AdamGdnOut.τ).loc Cert.AdamGdnOut.main_arg0) = m ((c.tc : Thread Cert.AdamGdnOut.nD Cert.AdamGdnOut.τ).loc Cert.AdamGdnOut.main_arg0)
      ∧ r.2.mem ((c.tc : Thread Cert.AdamGdnOut.nD Cert.AdamGdnOut.τ).loc Cert.AdamGdnOut.main_arg1) = m ((c.tc : Thread Cert.AdamGdnOut.nD Cert.AdamGdnOut.τ).loc Cert.AdamGdnOut.main_arg1)
      ∧ r.2.mem ((c.tc : Thread Cert.AdamGdnOut.nD Cert.AdamGdnOut.τ).loc Cert.AdamGdnOut.main_arg2) = m ((c.tc : Thread Cert.AdamGdnOut.nD Cert.AdamGdnOut.τ).loc Cert.AdamGdnOut.main_arg2)
      ∧ r.2.mem ((c.tc : Thread Cert.AdamGdnOut.nD Cert.AdamGdnOut.τ).loc Cert.AdamGdnOut.main_arg3) = m ((c.tc : Thread Cert.AdamGdnOut.nD Cert.AdamGdnOut.τ).loc Cert.AdamGdnOut.main_arg3))
      ∧ r.2.sem = fun _ => 0)

def quiescent_AdamGdnOutIdeal [hAdamGdnOutIdeal : Cert.AdamGdnOutIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg), Pre_AdamGdnOutIdeal m →
    θ_run (Cert.AdamGdnOutIdeal.defs (F := Ideal)) (onTc (τ := Cert.AdamGdnOutIdeal.τ) (Cert.AdamGdnOutIdeal.main (F := Ideal))) ⟨m, fun _ => 0, g⟩ (fun r => (∀ c : Dev Cert.AdamGdnOutIdeal.nD,
      r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
      ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
      ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
      ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ r.2.sem = fun _ => 0)

def quiescent_AdamGdnOutRefIdeal [hAdamGdnOutRefIdeal : Cert.AdamGdnOutRefIdeal.Facts] : Prop :=
  ∀ (m : (ℓ : Loc Cert.AdamGdnOutRefIdeal.nD Cert.AdamGdnOutRefIdeal.τ Cert.AdamGdnOutRefIdeal.sig) → Buf (Elt Ideal) ℓ) (g : Dev Cert.AdamGdnOutRefIdeal.nD → PrngReg), Pre_AdamGdnOutRefIdeal m →
    θ_run (Cert.AdamGdnOutRefIdeal.defs (F := Ideal)) (onTc (τ := Cert.AdamGdnOutRefIdeal.τ) (Cert.AdamGdnOutRefIdeal.main (F := Ideal))) ⟨m, fun _ => 0, g⟩ (fun r => (∀ c : Dev Cert.AdamGdnOutRefIdeal.nD,
      r.2.mem ((c.tc : Thread Cert.AdamGdnOutRefIdeal.nD Cert.AdamGdnOutRefIdeal.τ).loc Cert.AdamGdnOutRefIdeal.main_arg0) = m ((c.tc : Thread Cert.AdamGdnOutRefIdeal.nD Cert.AdamGdnOutRefIdeal.τ).loc Cert.AdamGdnOutRefIdeal.main_arg0)
      ∧ r.2.mem ((c.tc : Thread Cert.AdamGdnOutRefIdeal.nD Cert.AdamGdnOutRefIdeal.τ).loc Cert.AdamGdnOutRefIdeal.main_arg1) = m ((c.tc : Thread Cert.AdamGdnOutRefIdeal.nD Cert.AdamGdnOutRefIdeal.τ).loc Cert.AdamGdnOutRefIdeal.main_arg1)
      ∧ r.2.mem ((c.tc : Thread Cert.AdamGdnOutRefIdeal.nD Cert.AdamGdnOutRefIdeal.τ).loc Cert.AdamGdnOutRefIdeal.main_arg2) = m ((c.tc : Thread Cert.AdamGdnOutRefIdeal.nD Cert.AdamGdnOutRefIdeal.τ).loc Cert.AdamGdnOutRefIdeal.main_arg2)
      ∧ r.2.mem ((c.tc : Thread Cert.AdamGdnOutRefIdeal.nD Cert.AdamGdnOutRefIdeal.τ).loc Cert.AdamGdnOutRefIdeal.main_arg3) = m ((c.tc : Thread Cert.AdamGdnOutRefIdeal.nD Cert.AdamGdnOutRefIdeal.τ).loc Cert.AdamGdnOutRefIdeal.main_arg3))
      ∧ r.2.sem = fun _ => 0)

def quiescent_AdamSwaIn [hAdamSwaIn : Cert.AdamSwaIn.Facts] : Prop :=
  ∀ (m : (ℓ : Loc Cert.AdamSwaIn.nD Cert.AdamSwaIn.τ Cert.AdamSwaIn.sig) → Buf (Elt Bits) ℓ) (g : Dev Cert.AdamSwaIn.nD → PrngReg), Pre_AdamSwaIn m →
    θ_run (Cert.AdamSwaIn.defs (F := Bits)) (onTc (τ := Cert.AdamSwaIn.τ) (Cert.AdamSwaIn.main (F := Bits))) ⟨m, fun _ => 0, g⟩ (fun r => (∀ c : Dev Cert.AdamSwaIn.nD,
      r.2.mem ((c.tc : Thread Cert.AdamSwaIn.nD Cert.AdamSwaIn.τ).loc Cert.AdamSwaIn.main_arg0) = m ((c.tc : Thread Cert.AdamSwaIn.nD Cert.AdamSwaIn.τ).loc Cert.AdamSwaIn.main_arg0)
      ∧ r.2.mem ((c.tc : Thread Cert.AdamSwaIn.nD Cert.AdamSwaIn.τ).loc Cert.AdamSwaIn.main_arg1) = m ((c.tc : Thread Cert.AdamSwaIn.nD Cert.AdamSwaIn.τ).loc Cert.AdamSwaIn.main_arg1)
      ∧ r.2.mem ((c.tc : Thread Cert.AdamSwaIn.nD Cert.AdamSwaIn.τ).loc Cert.AdamSwaIn.main_arg2) = m ((c.tc : Thread Cert.AdamSwaIn.nD Cert.AdamSwaIn.τ).loc Cert.AdamSwaIn.main_arg2)
      ∧ r.2.mem ((c.tc : Thread Cert.AdamSwaIn.nD Cert.AdamSwaIn.τ).loc Cert.AdamSwaIn.main_arg3) = m ((c.tc : Thread Cert.AdamSwaIn.nD Cert.AdamSwaIn.τ).loc Cert.AdamSwaIn.main_arg3))
      ∧ r.2.sem = fun _ => 0)

def quiescent_AdamSwaInIdeal [hAdamSwaInIdeal : Cert.AdamSwaInIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg), Pre_AdamSwaInIdeal m →
    θ_run (Cert.AdamSwaInIdeal.defs (F := Ideal)) (onTc (τ := Cert.AdamSwaInIdeal.τ) (Cert.AdamSwaInIdeal.main (F := Ideal))) ⟨m, fun _ => 0, g⟩ (fun r => (∀ c : Dev Cert.AdamSwaInIdeal.nD,
      r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
      ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
      ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
      ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3))
      ∧ r.2.sem = fun _ => 0)

def quiescent_AdamSwaInRefIdeal [hAdamSwaInRefIdeal : Cert.AdamSwaInRefIdeal.Facts] : Prop :=
  ∀ (m : (ℓ : Loc Cert.AdamSwaInRefIdeal.nD Cert.AdamSwaInRefIdeal.τ Cert.AdamSwaInRefIdeal.sig) → Buf (Elt Ideal) ℓ) (g : Dev Cert.AdamSwaInRefIdeal.nD → PrngReg), Pre_AdamSwaInRefIdeal m →
    θ_run (Cert.AdamSwaInRefIdeal.defs (F := Ideal)) (onTc (τ := Cert.AdamSwaInRefIdeal.τ) (Cert.AdamSwaInRefIdeal.main (F := Ideal))) ⟨m, fun _ => 0, g⟩ (fun r => (∀ c : Dev Cert.AdamSwaInRefIdeal.nD,
      r.2.mem ((c.tc : Thread Cert.AdamSwaInRefIdeal.nD Cert.AdamSwaInRefIdeal.τ).loc Cert.AdamSwaInRefIdeal.main_arg0) = m ((c.tc : Thread Cert.AdamSwaInRefIdeal.nD Cert.AdamSwaInRefIdeal.τ).loc Cert.AdamSwaInRefIdeal.main_arg0)
      ∧ r.2.mem ((c.tc : Thread Cert.AdamSwaInRefIdeal.nD Cert.AdamSwaInRefIdeal.τ).loc Cert.AdamSwaInRefIdeal.main_arg1) = m ((c.tc : Thread Cert.AdamSwaInRefIdeal.nD Cert.AdamSwaInRefIdeal.τ).loc Cert.AdamSwaInRefIdeal.main_arg1)
      ∧ r.2.mem ((c.tc : Thread Cert.AdamSwaInRefIdeal.nD Cert.AdamSwaInRefIdeal.τ).loc Cert.AdamSwaInRefIdeal.main_arg2) = m ((c.tc : Thread Cert.AdamSwaInRefIdeal.nD Cert.AdamSwaInRefIdeal.τ).loc Cert.AdamSwaInRefIdeal.main_arg2)
      ∧ r.2.mem ((c.tc : Thread Cert.AdamSwaInRefIdeal.nD Cert.AdamSwaInRefIdeal.τ).loc Cert.AdamSwaInRefIdeal.main_arg3) = m ((c.tc : Thread Cert.AdamSwaInRefIdeal.nD Cert.AdamSwaInRefIdeal.τ).loc Cert.AdamSwaInRefIdeal.main_arg3))
      ∧ r.2.sem = fun _ => 0)

def quiescent_AdamRow640 [hAdamRow640 : Cert.AdamRow640.Facts] : Prop :=
  ∀ (m : (ℓ : Loc Cert.AdamRow640.nD Cert.AdamRow640.τ Cert.AdamRow640.sig) → Buf (Elt Bits) ℓ) (g : Dev Cert.AdamRow640.nD → PrngReg), Pre_AdamRow640 m →
    θ_run (Cert.AdamRow640.defs (F := Bits)) (onTc (τ := Cert.AdamRow640.τ) (Cert.AdamRow640.main (F := Bits))) ⟨m, fun _ => 0, g⟩ (fun r => (∀ c : Dev Cert.AdamRow640.nD,
      r.2.mem ((c.tc : Thread Cert.AdamRow640.nD Cert.AdamRow640.τ).loc Cert.AdamRow640.main_arg0) = m ((c.tc : Thread Cert.AdamRow640.nD Cert.AdamRow640.τ).loc Cert.AdamRow640.main_arg0)
      ∧ r.2.mem ((c.tc : Thread Cert.AdamRow640.nD Cert.AdamRow640.τ).loc Cert.AdamRow640.main_arg1) = m ((c.tc : Thread Cert.AdamRow640.nD Cert.AdamRow640.τ).loc Cert.AdamRow640.main_arg1)
      ∧ r.2.mem ((c.tc : Thread Cert.AdamRow640.nD Cert.AdamRow640.τ).loc Cert.AdamRow640.main_arg2) = m ((c.tc : Thread Cert.AdamRow640.nD Cert.AdamRow640.τ).loc Cert.AdamRow640.main_arg2)
      ∧ r.2.mem ((c.tc : Thread Cert.AdamRow640.nD Cert.AdamRow640.τ).loc Cert.AdamRow640.main_arg3) = m ((c.tc : Thread Cert.AdamRow640.nD Cert.AdamRow640.τ).loc Cert.AdamRow640.main_arg3))
      ∧ r.2.sem = fun _ => 0)

def quiescent_AdamRow640Ideal [hAdamRow640Ideal : Cert.AdamRow640Ideal.Facts] : Prop :=
  ∀ (m : (ℓ : Loc Cert.AdamRow640Ideal.nD Cert.AdamRow640Ideal.τ Cert.AdamRow640Ideal.sig) → Buf (Elt Ideal) ℓ) (g : Dev Cert.AdamRow640Ideal.nD → PrngReg), Pre_AdamRow640Ideal m →
    θ_run (Cert.AdamRow640Ideal.defs (F := Ideal)) (onTc (τ := Cert.AdamRow640Ideal.τ) (Cert.AdamRow640Ideal.main (F := Ideal))) ⟨m, fun _ => 0, g⟩ (fun r => (∀ c : Dev Cert.AdamRow640Ideal.nD,
      r.2.mem ((c.tc : Thread Cert.AdamRow640Ideal.nD Cert.AdamRow640Ideal.τ).loc Cert.AdamRow640Ideal.main_arg0) = m ((c.tc : Thread Cert.AdamRow640Ideal.nD Cert.AdamRow640Ideal.τ).loc Cert.AdamRow640Ideal.main_arg0)
      ∧ r.2.mem ((c.tc : Thread Cert.AdamRow640Ideal.nD Cert.AdamRow640Ideal.τ).loc Cert.AdamRow640Ideal.main_arg1) = m ((c.tc : Thread Cert.AdamRow640Ideal.nD Cert.AdamRow640Ideal.τ).loc Cert.AdamRow640Ideal.main_arg1)
      ∧ r.2.mem ((c.tc : Thread Cert.AdamRow640Ideal.nD Cert.AdamRow640Ideal.τ).loc Cert.AdamRow640Ideal.main_arg2) = m ((c.tc : Thread Cert.AdamRow640Ideal.nD Cert.AdamRow640Ideal.τ).loc Cert.AdamRow640Ideal.main_arg2)
      ∧ r.2.mem ((c.tc : Thread Cert.AdamRow640Ideal.nD Cert.AdamRow640Ideal.τ).loc Cert.AdamRow640Ideal.main_arg3) = m ((c.tc : Thread Cert.AdamRow640Ideal.nD Cert.AdamRow640Ideal.τ).loc Cert.AdamRow640Ideal.main_arg3))
      ∧ r.2.sem = fun _ => 0)

def quiescent_AdamRow640RefIdeal [hAdamRow640RefIdeal : Cert.AdamRow640RefIdeal.Facts] : Prop :=
  ∀ (m : (ℓ : Loc Cert.AdamRow640RefIdeal.nD Cert.AdamRow640RefIdeal.τ Cert.AdamRow640RefIdeal.sig) → Buf (Elt Ideal) ℓ) (g : Dev Cert.AdamRow640RefIdeal.nD → PrngReg), Pre_AdamRow640RefIdeal m →
    θ_run (Cert.AdamRow640RefIdeal.defs (F := Ideal)) (onTc (τ := Cert.AdamRow640RefIdeal.τ) (Cert.AdamRow640RefIdeal.main (F := Ideal))) ⟨m, fun _ => 0, g⟩ (fun r => (∀ c : Dev Cert.AdamRow640RefIdeal.nD,
      r.2.mem ((c.tc : Thread Cert.AdamRow640RefIdeal.nD Cert.AdamRow640RefIdeal.τ).loc Cert.AdamRow640RefIdeal.main_arg0) = m ((c.tc : Thread Cert.AdamRow640RefIdeal.nD Cert.AdamRow640RefIdeal.τ).loc Cert.AdamRow640RefIdeal.main_arg0)
      ∧ r.2.mem ((c.tc : Thread Cert.AdamRow640RefIdeal.nD Cert.AdamRow640RefIdeal.τ).loc Cert.AdamRow640RefIdeal.main_arg1) = m ((c.tc : Thread Cert.AdamRow640RefIdeal.nD Cert.AdamRow640RefIdeal.τ).loc Cert.AdamRow640RefIdeal.main_arg1)
      ∧ r.2.mem ((c.tc : Thread Cert.AdamRow640RefIdeal.nD Cert.AdamRow640RefIdeal.τ).loc Cert.AdamRow640RefIdeal.main_arg2) = m ((c.tc : Thread Cert.AdamRow640RefIdeal.nD Cert.AdamRow640RefIdeal.τ).loc Cert.AdamRow640RefIdeal.main_arg2)
      ∧ r.2.mem ((c.tc : Thread Cert.AdamRow640RefIdeal.nD Cert.AdamRow640RefIdeal.τ).loc Cert.AdamRow640RefIdeal.main_arg3) = m ((c.tc : Thread Cert.AdamRow640RefIdeal.nD Cert.AdamRow640RefIdeal.τ).loc Cert.AdamRow640RefIdeal.main_arg3))
      ∧ r.2.sem = fun _ => 0)

def quiescent_AdamFinalNorm [hAdamFinalNorm : Cert.AdamFinalNorm.Facts] : Prop :=
  ∀ (m : (ℓ : Loc Cert.AdamFinalNorm.nD Cert.AdamFinalNorm.τ Cert.AdamFinalNorm.sig) → Buf (Elt Bits) ℓ) (g : Dev Cert.AdamFinalNorm.nD → PrngReg), Pre_AdamFinalNorm m →
    θ_run (Cert.AdamFinalNorm.defs (F := Bits)) (onTc (τ := Cert.AdamFinalNorm.τ) (Cert.AdamFinalNorm.main (F := Bits))) ⟨m, fun _ => 0, g⟩ (fun r => (∀ c : Dev Cert.AdamFinalNorm.nD,
      r.2.mem ((c.tc : Thread Cert.AdamFinalNorm.nD Cert.AdamFinalNorm.τ).loc Cert.AdamFinalNorm.main_arg0) = m ((c.tc : Thread Cert.AdamFinalNorm.nD Cert.AdamFinalNorm.τ).loc Cert.AdamFinalNorm.main_arg0)
      ∧ r.2.mem ((c.tc : Thread Cert.AdamFinalNorm.nD Cert.AdamFinalNorm.τ).loc Cert.AdamFinalNorm.main_arg1) = m ((c.tc : Thread Cert.AdamFinalNorm.nD Cert.AdamFinalNorm.τ).loc Cert.AdamFinalNorm.main_arg1)
      ∧ r.2.mem ((c.tc : Thread Cert.AdamFinalNorm.nD Cert.AdamFinalNorm.τ).loc Cert.AdamFinalNorm.main_arg2) = m ((c.tc : Thread Cert.AdamFinalNorm.nD Cert.AdamFinalNorm.τ).loc Cert.AdamFinalNorm.main_arg2)
      ∧ r.2.mem ((c.tc : Thread Cert.AdamFinalNorm.nD Cert.AdamFinalNorm.τ).loc Cert.AdamFinalNorm.main_arg3) = m ((c.tc : Thread Cert.AdamFinalNorm.nD Cert.AdamFinalNorm.τ).loc Cert.AdamFinalNorm.main_arg3))
      ∧ r.2.sem = fun _ => 0)

def quiescent_AdamFinalNormIdeal [hAdamFinalNormIdeal : Cert.AdamFinalNormIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg), Pre_AdamFinalNormIdeal m →
    θ_run (Cert.AdamFinalNormIdeal.defs (F := Ideal)) (onTc (τ := Cert.AdamFinalNormIdeal.τ) (Cert.AdamFinalNormIdeal.main (F := Ideal))) ⟨m, fun _ => 0, g⟩ (fun r => (∀ c : Dev Cert.AdamFinalNormIdeal.nD,
      r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
      ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
      ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
      ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ r.2.sem = fun _ => 0)

def quiescent_AdamFinalNormRefIdeal [hAdamFinalNormRefIdeal : Cert.AdamFinalNormRefIdeal.Facts] : Prop :=
  ∀ (m : (ℓ : Loc Cert.AdamFinalNormRefIdeal.nD Cert.AdamFinalNormRefIdeal.τ Cert.AdamFinalNormRefIdeal.sig) → Buf (Elt Ideal) ℓ) (g : Dev Cert.AdamFinalNormRefIdeal.nD → PrngReg), Pre_AdamFinalNormRefIdeal m →
    θ_run (Cert.AdamFinalNormRefIdeal.defs (F := Ideal)) (onTc (τ := Cert.AdamFinalNormRefIdeal.τ) (Cert.AdamFinalNormRefIdeal.main (F := Ideal))) ⟨m, fun _ => 0, g⟩ (fun r => (∀ c : Dev Cert.AdamFinalNormRefIdeal.nD,
      r.2.mem ((c.tc : Thread Cert.AdamFinalNormRefIdeal.nD Cert.AdamFinalNormRefIdeal.τ).loc Cert.AdamFinalNormRefIdeal.main_arg0) = m ((c.tc : Thread Cert.AdamFinalNormRefIdeal.nD Cert.AdamFinalNormRefIdeal.τ).loc Cert.AdamFinalNormRefIdeal.main_arg0)
      ∧ r.2.mem ((c.tc : Thread Cert.AdamFinalNormRefIdeal.nD Cert.AdamFinalNormRefIdeal.τ).loc Cert.AdamFinalNormRefIdeal.main_arg1) = m ((c.tc : Thread Cert.AdamFinalNormRefIdeal.nD Cert.AdamFinalNormRefIdeal.τ).loc Cert.AdamFinalNormRefIdeal.main_arg1)
      ∧ r.2.mem ((c.tc : Thread Cert.AdamFinalNormRefIdeal.nD Cert.AdamFinalNormRefIdeal.τ).loc Cert.AdamFinalNormRefIdeal.main_arg2) = m ((c.tc : Thread Cert.AdamFinalNormRefIdeal.nD Cert.AdamFinalNormRefIdeal.τ).loc Cert.AdamFinalNormRefIdeal.main_arg2)
      ∧ r.2.mem ((c.tc : Thread Cert.AdamFinalNormRefIdeal.nD Cert.AdamFinalNormRefIdeal.τ).loc Cert.AdamFinalNormRefIdeal.main_arg3) = m ((c.tc : Thread Cert.AdamFinalNormRefIdeal.nD Cert.AdamFinalNormRefIdeal.τ).loc Cert.AdamFinalNormRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v13) = v0 c
          ∧ r.2.mem ((c.tc : Thread Cert.GateUpRefIdeal.nD Cert.GateUpRefIdeal.τ).loc Cert.GateUpRefIdeal.main_v14) = v1 c
          ∧ r.2.mem ((c.tc : Thread Cert.GateUpRefIdeal.nD Cert.GateUpRefIdeal.τ).loc Cert.GateUpRefIdeal.main_v17) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DAct_DActIdeal : Prop :=
  True

def algebraic_DActIdeal_DActRefIdeal_pre_finite_dact [hDActIdeal : Cert.DActIdeal.Facts] [hDActRefIdeal : Cert.DActRefIdeal.Facts] [hPre_finite_dact : Cert.Pre_finite_dact.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal_finite_dact m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)
      ∧ m' ((c.tc : Thread Cert.DActRefIdeal.nD Cert.DActRefIdeal.τ).loc Cert.DActRefIdeal.main_arg3) = m ((c.tc : Thread Cert.DActIdeal.nD Cert.DActIdeal.τ).loc Cert.DActIdeal.main_arg3)) →
    ∃ (v0 : (c : Dev Cert.DActIdeal.nD) → Buf (Elt Ideal) ((c.tc : Thread Cert.DActIdeal.nD Cert.DActIdeal.τ).loc Cert.DActIdeal.main_v0_0)) (v1 : (c : Dev Cert.DActIdeal.nD) → Buf (Elt Ideal) ((c.tc : Thread Cert.DActIdeal.nD Cert.DActIdeal.τ).loc Cert.DActIdeal.main_v0_1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0_0) = v0 c
          ∧ r.2.mem ((c.tc : Thread Cert.DActIdeal.nD Cert.DActIdeal.τ).loc Cert.DActIdeal.main_v0_1) = v1 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
          ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v17) = v0 c
          ∧ r.2.mem ((c.tc : Thread Cert.DActRefIdeal.nD Cert.DActRefIdeal.τ).loc Cert.DActRefIdeal.main_v18) = v1 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2)
          ∧ r.2.mem ((c.tc : Thread Cert.DActRefIdeal.nD Cert.DActRefIdeal.τ).loc Cert.DActRefIdeal.main_arg3) = m' ((c.tc : Thread Cert.DActRefIdeal.nD Cert.DActRefIdeal.τ).loc Cert.DActRefIdeal.main_arg3))

def preserves_DDown_DDownIdeal : Prop :=
  True

def algebraic_DDownIdeal_DDownRefIdeal [hDDownIdeal : Cert.DDownIdeal.Facts] [hDDownRefIdeal : Cert.DDownRefIdeal.Facts] : Prop :=
  ∀ (m : (ℓ : Loc Cert.DDownIdeal.nD Cert.DDownIdeal.τ Cert.DDownIdeal.sig) → Buf (Elt Ideal) ℓ) (g : Dev Cert.DDownIdeal.nD → PrngReg)
    (m' : (ℓ : Loc Cert.DDownRefIdeal.nD Cert.DDownRefIdeal.τ Cert.DDownRefIdeal.sig) → Buf (Elt Ideal) ℓ) (g' : Dev Cert.DDownRefIdeal.nD → PrngReg), Pre_DDownIdeal m →
    (∀ c : Dev Cert.DDownIdeal.nD,
      m' ((c.tc : Thread Cert.DDownRefIdeal.nD Cert.DDownRefIdeal.τ).loc Cert.DDownRefIdeal.main_arg0) = m ((c.tc : Thread Cert.DDownIdeal.nD Cert.DDownIdeal.τ).loc Cert.DDownIdeal.main_arg0)
      ∧ m' ((c.tc : Thread Cert.DDownRefIdeal.nD Cert.DDownRefIdeal.τ).loc Cert.DDownRefIdeal.main_arg1) = m ((c.tc : Thread Cert.DDownIdeal.nD Cert.DDownIdeal.τ).loc Cert.DDownIdeal.main_arg1)
      ∧ m' ((c.tc : Thread Cert.DDownRefIdeal.nD Cert.DDownRefIdeal.τ).loc Cert.DDownRefIdeal.main_arg2) = m ((c.tc : Thread Cert.DDownIdeal.nD Cert.DDownIdeal.τ).loc Cert.DDownIdeal.main_arg2)) →
    ∃ (v0 : (c : Dev Cert.DDownIdeal.nD) → Buf (Elt Ideal) ((c.tc : Thread Cert.DDownIdeal.nD Cert.DDownIdeal.τ).loc Cert.DDownIdeal.main_v0)),
      θ_run (Cert.DDownIdeal.defs (F := Ideal)) (onTc (τ := Cert.DDownIdeal.τ) (Cert.DDownIdeal.main (F := Ideal))) ⟨m, fun _ => 0, g⟩ (fun r => ∀ c : Dev Cert.DDownIdeal.nD,
          r.2.mem ((c.tc : Thread Cert.DDownIdeal.nD Cert.DDownIdeal.τ).loc Cert.DDownIdeal.main_v0) = v0 c
          ∧ r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
          ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
          ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2))
      ∧ θ_run (Cert.DDownRefIdeal.defs (F := Ideal)) (onTc (τ := Cert.DDownRefIdeal.τ) (Cert.DDownRefIdeal.main (F := Ideal))) ⟨m', fun _ => 0, g'⟩ (fun r => ∀ c : Dev Cert.DDownRefIdeal.nD,
          r.2.mem ((c.tc : Thread Cert.DDownRefIdeal.nD Cert.DDownRefIdeal.τ).loc Cert.DDownRefIdeal.main_v15) = v0 c
          ∧ r.2.mem ((c.tc : Thread Cert.DDownRefIdeal.nD Cert.DDownRefIdeal.τ).loc Cert.DDownRefIdeal.main_arg0) = m' ((c.tc : Thread Cert.DDownRefIdeal.nD Cert.DDownRefIdeal.τ).loc Cert.DDownRefIdeal.main_arg0)
          ∧ r.2.mem ((c.tc : Thread Cert.DDownRefIdeal.nD Cert.DDownRefIdeal.τ).loc Cert.DDownRefIdeal.main_arg1) = m' ((c.tc : Thread Cert.DDownRefIdeal.nD Cert.DDownRefIdeal.τ).loc Cert.DDownRefIdeal.main_arg1)
          ∧ r.2.mem ((c.tc : Thread Cert.DDownRefIdeal.nD Cert.DDownRefIdeal.τ).loc Cert.DDownRefIdeal.main_arg2) = m' ((c.tc : Thread Cert.DDownRefIdeal.nD Cert.DDownRefIdeal.τ).loc Cert.DDownRefIdeal.main_arg2))

def preserves_DGateUp_DGateUpIdeal : Prop :=
  True

def algebraic_DGateUpIdeal_DGateUpRefIdeal [hDGateUpIdeal : Cert.DGateUpIdeal.Facts] [hDGateUpRefIdeal : Cert.DGateUpRefIdeal.Facts] : Prop :=
  ∀ (m : (ℓ : Loc Cert.DGateUpIdeal.nD Cert.DGateUpIdeal.τ Cert.DGateUpIdeal.sig) → Buf (Elt Ideal) ℓ) (g : Dev Cert.DGateUpIdeal.nD → PrngReg)
    (m' : (ℓ : Loc Cert.DGateUpRefIdeal.nD Cert.DGateUpRefIdeal.τ Cert.DGateUpRefIdeal.sig) → Buf (Elt Ideal) ℓ) (g' : Dev Cert.DGateUpRefIdeal.nD → PrngReg), Pre_DGateUpIdeal m →
    (∀ c : Dev Cert.DGateUpIdeal.nD,
      m' ((c.tc : Thread Cert.DGateUpRefIdeal.nD Cert.DGateUpRefIdeal.τ).loc Cert.DGateUpRefIdeal.main_arg0) = m ((c.tc : Thread Cert.DGateUpIdeal.nD Cert.DGateUpIdeal.τ).loc Cert.DGateUpIdeal.main_arg0)
      ∧ m' ((c.tc : Thread Cert.DGateUpRefIdeal.nD Cert.DGateUpRefIdeal.τ).loc Cert.DGateUpRefIdeal.main_arg1) = m ((c.tc : Thread Cert.DGateUpIdeal.nD Cert.DGateUpIdeal.τ).loc Cert.DGateUpIdeal.main_arg1)
      ∧ m' ((c.tc : Thread Cert.DGateUpRefIdeal.nD Cert.DGateUpRefIdeal.τ).loc Cert.DGateUpRefIdeal.main_arg2) = m ((c.tc : Thread Cert.DGateUpIdeal.nD Cert.DGateUpIdeal.τ).loc Cert.DGateUpIdeal.main_arg2)
      ∧ m' ((c.tc : Thread Cert.DGateUpRefIdeal.nD Cert.DGateUpRefIdeal.τ).loc Cert.DGateUpRefIdeal.main_arg3) = m ((c.tc : Thread Cert.DGateUpIdeal.nD Cert.DGateUpIdeal.τ).loc Cert.DGateUpIdeal.main_arg3)
      ∧ m' ((c.tc : Thread Cert.DGateUpRefIdeal.nD Cert.DGateUpRefIdeal.τ).loc Cert.DGateUpRefIdeal.main_arg4) = m ((c.tc : Thread Cert.DGateUpIdeal.nD Cert.DGateUpIdeal.τ).loc Cert.DGateUpIdeal.main_arg4)) →
    ∃ (v0 : (c : Dev Cert.DGateUpIdeal.nD) → Buf (Elt Ideal) ((c.tc : Thread Cert.DGateUpIdeal.nD Cert.DGateUpIdeal.τ).loc Cert.DGateUpIdeal.main_v0_0)) (v1 : (c : Dev Cert.DGateUpIdeal.nD) → Buf (Elt Ideal) ((c.tc : Thread Cert.DGateUpIdeal.nD Cert.DGateUpIdeal.τ).loc Cert.DGateUpIdeal.main_v0_1)),
      θ_run (Cert.DGateUpIdeal.defs (F := Ideal)) (onTc (τ := Cert.DGateUpIdeal.τ) (Cert.DGateUpIdeal.main (F := Ideal))) ⟨m, fun _ => 0, g⟩ (fun r => ∀ c : Dev Cert.DGateUpIdeal.nD,
          r.2.mem ((c.tc : Thread Cert.DGateUpIdeal.nD Cert.DGateUpIdeal.τ).loc Cert.DGateUpIdeal.main_v0_0) = v0 c
          ∧ r.2.mem ((c.tc : Thread Cert.DGateUpIdeal.nD Cert.DGateUpIdeal.τ).loc Cert.DGateUpIdeal.main_v0_1) = v1 c
          ∧ r.2.mem ((c.tc : Thread Cert.DGateUpIdeal.nD Cert.DGateUpIdeal.τ).loc Cert.DGateUpIdeal.main_arg0) = m ((c.tc : Thread Cert.DGateUpIdeal.nD Cert.DGateUpIdeal.τ).loc Cert.DGateUpIdeal.main_arg0)
          ∧ r.2.mem ((c.tc : Thread Cert.DGateUpIdeal.nD Cert.DGateUpIdeal.τ).loc Cert.DGateUpIdeal.main_arg1) = m ((c.tc : Thread Cert.DGateUpIdeal.nD Cert.DGateUpIdeal.τ).loc Cert.DGateUpIdeal.main_arg1)
          ∧ r.2.mem ((c.tc : Thread Cert.DGateUpIdeal.nD Cert.DGateUpIdeal.τ).loc Cert.DGateUpIdeal.main_arg2) = m ((c.tc : Thread Cert.DGateUpIdeal.nD Cert.DGateUpIdeal.τ).loc Cert.DGateUpIdeal.main_arg2)
          ∧ r.2.mem ((c.tc : Thread Cert.DGateUpIdeal.nD Cert.DGateUpIdeal.τ).loc Cert.DGateUpIdeal.main_arg3) = m ((c.tc : Thread Cert.DGateUpIdeal.nD Cert.DGateUpIdeal.τ).loc Cert.DGateUpIdeal.main_arg3)
          ∧ r.2.mem ((c.tc : Thread Cert.DGateUpIdeal.nD Cert.DGateUpIdeal.τ).loc Cert.DGateUpIdeal.main_arg4) = m ((c.tc : Thread Cert.DGateUpIdeal.nD Cert.DGateUpIdeal.τ).loc Cert.DGateUpIdeal.main_arg4))
      ∧ θ_run (Cert.DGateUpRefIdeal.defs (F := Ideal)) (onTc (τ := Cert.DGateUpRefIdeal.τ) (Cert.DGateUpRefIdeal.main (F := Ideal))) ⟨m', fun _ => 0, g'⟩ (fun r => ∀ c : Dev Cert.DGateUpRefIdeal.nD,
          r.2.mem ((c.tc : Thread Cert.DGateUpRefIdeal.nD Cert.DGateUpRefIdeal.τ).loc Cert.DGateUpRefIdeal.main_v17) = v0 c
          ∧ r.2.mem ((c.tc : Thread Cert.DGateUpRefIdeal.nD Cert.DGateUpRefIdeal.τ).loc Cert.DGateUpRefIdeal.main_v25) = v1 c
          ∧ r.2.mem ((c.tc : Thread Cert.DGateUpRefIdeal.nD Cert.DGateUpRefIdeal.τ).loc Cert.DGateUpRefIdeal.main_arg0) = m' ((c.tc : Thread Cert.DGateUpRefIdeal.nD Cert.DGateUpRefIdeal.τ).loc Cert.DGateUpRefIdeal.main_arg0)
          ∧ r.2.mem ((c.tc : Thread Cert.DGateUpRefIdeal.nD Cert.DGateUpRefIdeal.τ).loc Cert.DGateUpRefIdeal.main_arg1) = m' ((c.tc : Thread Cert.DGateUpRefIdeal.nD Cert.DGateUpRefIdeal.τ).loc Cert.DGateUpRefIdeal.main_arg1)
          ∧ r.2.mem ((c.tc : Thread Cert.DGateUpRefIdeal.nD Cert.DGateUpRefIdeal.τ).loc Cert.DGateUpRefIdeal.main_arg2) = m' ((c.tc : Thread Cert.DGateUpRefIdeal.nD Cert.DGateUpRefIdeal.τ).loc Cert.DGateUpRefIdeal.main_arg2)
          ∧ r.2.mem ((c.tc : Thread Cert.DGateUpRefIdeal.nD Cert.DGateUpRefIdeal.τ).loc Cert.DGateUpRefIdeal.main_arg3) = m' ((c.tc : Thread Cert.DGateUpRefIdeal.nD Cert.DGateUpRefIdeal.τ).loc Cert.DGateUpRefIdeal.main_arg3)
          ∧ r.2.mem ((c.tc : Thread Cert.DGateUpRefIdeal.nD Cert.DGateUpRefIdeal.τ).loc Cert.DGateUpRefIdeal.main_arg4) = m' ((c.tc : Thread Cert.DGateUpRefIdeal.nD Cert.DGateUpRefIdeal.τ).loc Cert.DGateUpRefIdeal.main_arg4))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)
      ∧ m' ((c.tc : Thread Cert.DNormRefIdeal.nD Cert.DNormRefIdeal.τ).loc Cert.DNormRefIdeal.main_arg2) = m ((c.tc : Thread Cert.DNormIdeal.nD Cert.DNormIdeal.τ).loc Cert.DNormIdeal.main_arg2)
      ∧ m' ((c.tc : Thread Cert.DNormRefIdeal.nD Cert.DNormRefIdeal.τ).loc Cert.DNormRefIdeal.main_arg3) = m ((c.tc : Thread Cert.DNormIdeal.nD Cert.DNormIdeal.τ).loc Cert.DNormIdeal.main_arg3)) →
    ∃ (v0 : (c : Dev Cert.DNormIdeal.nD) → Buf (Elt Ideal) ((c.tc : Thread Cert.DNormIdeal.nD Cert.DNormIdeal.τ).loc Cert.DNormIdeal.main_v0)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v0) = v0 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
          ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
          ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v17) = v0 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1)
          ∧ r.2.mem ((c.tc : Thread Cert.DNormRefIdeal.nD Cert.DNormRefIdeal.τ).loc Cert.DNormRefIdeal.main_arg2) = m' ((c.tc : Thread Cert.DNormRefIdeal.nD Cert.DNormRefIdeal.τ).loc Cert.DNormRefIdeal.main_arg2)
          ∧ r.2.mem ((c.tc : Thread Cert.DNormRefIdeal.nD Cert.DNormRefIdeal.τ).loc Cert.DNormRefIdeal.main_arg3) = m' ((c.tc : Thread Cert.DNormRefIdeal.nD Cert.DNormRefIdeal.τ).loc Cert.DNormRefIdeal.main_arg3))

def preserves_FirstGateUp_FirstGateUpIdeal : Prop :=
  True

def algebraic_FirstGateUpIdeal_FirstGateUpRefIdeal [hFirstGateUpIdeal : Cert.FirstGateUpIdeal.Facts] [hFirstGateUpRefIdeal : Cert.FirstGateUpRefIdeal.Facts] : Prop :=
  ∀ (m : (ℓ : Loc Cert.FirstGateUpIdeal.nD Cert.FirstGateUpIdeal.τ Cert.FirstGateUpIdeal.sig) → Buf (Elt Ideal) ℓ) (g : Dev Cert.FirstGateUpIdeal.nD → PrngReg)
    (m' : (ℓ : Loc Cert.FirstGateUpRefIdeal.nD Cert.FirstGateUpRefIdeal.τ Cert.FirstGateUpRefIdeal.sig) → Buf (Elt Ideal) ℓ) (g' : Dev Cert.FirstGateUpRefIdeal.nD → PrngReg), Pre_FirstGateUpIdeal m →
    (∀ c : Dev Cert.FirstGateUpIdeal.nD,
      m' ((c.tc : Thread Cert.FirstGateUpRefIdeal.nD Cert.FirstGateUpRefIdeal.τ).loc Cert.FirstGateUpRefIdeal.main_arg0) = m ((c.tc : Thread Cert.FirstGateUpIdeal.nD Cert.FirstGateUpIdeal.τ).loc Cert.FirstGateUpIdeal.main_arg0)
      ∧ m' ((c.tc : Thread Cert.FirstGateUpRefIdeal.nD Cert.FirstGateUpRefIdeal.τ).loc Cert.FirstGateUpRefIdeal.main_arg1) = m ((c.tc : Thread Cert.FirstGateUpIdeal.nD Cert.FirstGateUpIdeal.τ).loc Cert.FirstGateUpIdeal.main_arg1)
      ∧ m' ((c.tc : Thread Cert.FirstGateUpRefIdeal.nD Cert.FirstGateUpRefIdeal.τ).loc Cert.FirstGateUpRefIdeal.main_arg2) = m ((c.tc : Thread Cert.FirstGateUpIdeal.nD Cert.FirstGateUpIdeal.τ).loc Cert.FirstGateUpIdeal.main_arg2)) →
    ∃ (v0 : (c : Dev Cert.FirstGateUpIdeal.nD) → Buf (Elt Ideal) ((c.tc : Thread Cert.FirstGateUpIdeal.nD Cert.FirstGateUpIdeal.τ).loc Cert.FirstGateUpIdeal.main_v0_0)) (v1 : (c : Dev Cert.FirstGateUpIdeal.nD) → Buf (Elt Ideal) ((c.tc : Thread Cert.FirstGateUpIdeal.nD Cert.FirstGateUpIdeal.τ).loc Cert.FirstGateUpIdeal.main_v0_1)) (v2 : (c : Dev Cert.FirstGateUpIdeal.nD) → Buf (Elt Ideal) ((c.tc : Thread Cert.FirstGateUpIdeal.nD Cert.FirstGateUpIdeal.τ).loc Cert.FirstGateUpIdeal.main_v0_2)),
      θ_run (Cert.FirstGateUpIdeal.defs (F := Ideal)) (onTc (τ := Cert.FirstGateUpIdeal.τ) (Cert.FirstGateUpIdeal.main (F := Ideal))) ⟨m, fun _ => 0, g⟩ (fun r => ∀ c : Dev Cert.FirstGateUpIdeal.nD,
          r.2.mem ((c.tc : Thread Cert.FirstGateUpIdeal.nD Cert.FirstGateUpIdeal.τ).loc Cert.FirstGateUpIdeal.main_v0_0) = v0 c
          ∧ r.2.mem ((c.tc : Thread Cert.FirstGateUpIdeal.nD Cert.FirstGateUpIdeal.τ).loc Cert.FirstGateUpIdeal.main_v0_1) = v1 c
          ∧ r.2.mem ((c.tc : Thread Cert.FirstGateUpIdeal.nD Cert.FirstGateUpIdeal.τ).loc Cert.FirstGateUpIdeal.main_v0_2) = v2 c
          ∧ r.2.mem ((c.tc : Thread Cert.FirstGateUpIdeal.nD Cert.FirstGateUpIdeal.τ).loc Cert.FirstGateUpIdeal.main_arg0) = m ((c.tc : Thread Cert.FirstGateUpIdeal.nD Cert.FirstGateUpIdeal.τ).loc Cert.FirstGateUpIdeal.main_arg0)
          ∧ r.2.mem ((c.tc : Thread Cert.FirstGateUpIdeal.nD Cert.FirstGateUpIdeal.τ).loc Cert.FirstGateUpIdeal.main_arg1) = m ((c.tc : Thread Cert.FirstGateUpIdeal.nD Cert.FirstGateUpIdeal.τ).loc Cert.FirstGateUpIdeal.main_arg1)
          ∧ r.2.mem ((c.tc : Thread Cert.FirstGateUpIdeal.nD Cert.FirstGateUpIdeal.τ).loc Cert.FirstGateUpIdeal.main_arg2) = m ((c.tc : Thread Cert.FirstGateUpIdeal.nD Cert.FirstGateUpIdeal.τ).loc Cert.FirstGateUpIdeal.main_arg2))
      ∧ θ_run (Cert.FirstGateUpRefIdeal.defs (F := Ideal)) (onTc (τ := Cert.FirstGateUpRefIdeal.τ) (Cert.FirstGateUpRefIdeal.main (F := Ideal))) ⟨m', fun _ => 0, g'⟩ (fun r => ∀ c : Dev Cert.FirstGateUpRefIdeal.nD,
          r.2.mem ((c.tc : Thread Cert.FirstGateUpRefIdeal.nD Cert.FirstGateUpRefIdeal.τ).loc Cert.FirstGateUpRefIdeal.main_v13) = v0 c
          ∧ r.2.mem ((c.tc : Thread Cert.FirstGateUpRefIdeal.nD Cert.FirstGateUpRefIdeal.τ).loc Cert.FirstGateUpRefIdeal.main_v14) = v1 c
          ∧ r.2.mem ((c.tc : Thread Cert.FirstGateUpRefIdeal.nD Cert.FirstGateUpRefIdeal.τ).loc Cert.FirstGateUpRefIdeal.main_v17) = v2 c
          ∧ r.2.mem ((c.tc : Thread Cert.FirstGateUpRefIdeal.nD Cert.FirstGateUpRefIdeal.τ).loc Cert.FirstGateUpRefIdeal.main_arg0) = m' ((c.tc : Thread Cert.FirstGateUpRefIdeal.nD Cert.FirstGateUpRefIdeal.τ).loc Cert.FirstGateUpRefIdeal.main_arg0)
          ∧ r.2.mem ((c.tc : Thread Cert.FirstGateUpRefIdeal.nD Cert.FirstGateUpRefIdeal.τ).loc Cert.FirstGateUpRefIdeal.main_arg1) = m' ((c.tc : Thread Cert.FirstGateUpRefIdeal.nD Cert.FirstGateUpRefIdeal.τ).loc Cert.FirstGateUpRefIdeal.main_arg1)
          ∧ r.2.mem ((c.tc : Thread Cert.FirstGateUpRefIdeal.nD Cert.FirstGateUpRefIdeal.τ).loc Cert.FirstGateUpRefIdeal.main_arg2) = m' ((c.tc : Thread Cert.FirstGateUpRefIdeal.nD Cert.FirstGateUpRefIdeal.τ).loc Cert.FirstGateUpRefIdeal.main_arg2))

def preserves_FirstDown_FirstDownIdeal : Prop :=
  True

def algebraic_FirstDownIdeal_FirstDownRefIdeal [hFirstDownIdeal : Cert.FirstDownIdeal.Facts] [hFirstDownRefIdeal : Cert.FirstDownRefIdeal.Facts] : Prop :=
  ∀ (m : (ℓ : Loc Cert.FirstDownIdeal.nD Cert.FirstDownIdeal.τ Cert.FirstDownIdeal.sig) → Buf (Elt Ideal) ℓ) (g : Dev Cert.FirstDownIdeal.nD → PrngReg)
    (m' : (ℓ : Loc Cert.FirstDownRefIdeal.nD Cert.FirstDownRefIdeal.τ Cert.FirstDownRefIdeal.sig) → Buf (Elt Ideal) ℓ) (g' : Dev Cert.FirstDownRefIdeal.nD → PrngReg), Pre_FirstDownIdeal m →
    (∀ c : Dev Cert.FirstDownIdeal.nD,
      m' ((c.tc : Thread Cert.FirstDownRefIdeal.nD Cert.FirstDownRefIdeal.τ).loc Cert.FirstDownRefIdeal.main_arg0) = m ((c.tc : Thread Cert.FirstDownIdeal.nD Cert.FirstDownIdeal.τ).loc Cert.FirstDownIdeal.main_arg0)
      ∧ m' ((c.tc : Thread Cert.FirstDownRefIdeal.nD Cert.FirstDownRefIdeal.τ).loc Cert.FirstDownRefIdeal.main_arg1) = m ((c.tc : Thread Cert.FirstDownIdeal.nD Cert.FirstDownIdeal.τ).loc Cert.FirstDownIdeal.main_arg1)
      ∧ m' ((c.tc : Thread Cert.FirstDownRefIdeal.nD Cert.FirstDownRefIdeal.τ).loc Cert.FirstDownRefIdeal.main_arg2) = m ((c.tc : Thread Cert.FirstDownIdeal.nD Cert.FirstDownIdeal.τ).loc Cert.FirstDownIdeal.main_arg2)) →
    ∃ (v0 : (c : Dev Cert.FirstDownIdeal.nD) → Buf (Elt Ideal) ((c.tc : Thread Cert.FirstDownIdeal.nD Cert.FirstDownIdeal.τ).loc Cert.FirstDownIdeal.main_v0)),
      θ_run (Cert.FirstDownIdeal.defs (F := Ideal)) (onTc (τ := Cert.FirstDownIdeal.τ) (Cert.FirstDownIdeal.main (F := Ideal))) ⟨m, fun _ => 0, g⟩ (fun r => ∀ c : Dev Cert.FirstDownIdeal.nD,
          r.2.mem ((c.tc : Thread Cert.FirstDownIdeal.nD Cert.FirstDownIdeal.τ).loc Cert.FirstDownIdeal.main_v0) = v0 c
          ∧ r.2.mem ((c.tc : Thread Cert.FirstDownIdeal.nD Cert.FirstDownIdeal.τ).loc Cert.FirstDownIdeal.main_arg0) = m ((c.tc : Thread Cert.FirstDownIdeal.nD Cert.FirstDownIdeal.τ).loc Cert.FirstDownIdeal.main_arg0)
          ∧ r.2.mem ((c.tc : Thread Cert.FirstDownIdeal.nD Cert.FirstDownIdeal.τ).loc Cert.FirstDownIdeal.main_arg1) = m ((c.tc : Thread Cert.FirstDownIdeal.nD Cert.FirstDownIdeal.τ).loc Cert.FirstDownIdeal.main_arg1)
          ∧ r.2.mem ((c.tc : Thread Cert.FirstDownIdeal.nD Cert.FirstDownIdeal.τ).loc Cert.FirstDownIdeal.main_arg2) = m ((c.tc : Thread Cert.FirstDownIdeal.nD Cert.FirstDownIdeal.τ).loc Cert.FirstDownIdeal.main_arg2))
      ∧ θ_run (Cert.FirstDownRefIdeal.defs (F := Ideal)) (onTc (τ := Cert.FirstDownRefIdeal.τ) (Cert.FirstDownRefIdeal.main (F := Ideal))) ⟨m', fun _ => 0, g'⟩ (fun r => ∀ c : Dev Cert.FirstDownRefIdeal.nD,
          r.2.mem ((c.tc : Thread Cert.FirstDownRefIdeal.nD Cert.FirstDownRefIdeal.τ).loc Cert.FirstDownRefIdeal.main_v8) = v0 c
          ∧ r.2.mem ((c.tc : Thread Cert.FirstDownRefIdeal.nD Cert.FirstDownRefIdeal.τ).loc Cert.FirstDownRefIdeal.main_arg0) = m' ((c.tc : Thread Cert.FirstDownRefIdeal.nD Cert.FirstDownRefIdeal.τ).loc Cert.FirstDownRefIdeal.main_arg0)
          ∧ r.2.mem ((c.tc : Thread Cert.FirstDownRefIdeal.nD Cert.FirstDownRefIdeal.τ).loc Cert.FirstDownRefIdeal.main_arg1) = m' ((c.tc : Thread Cert.FirstDownRefIdeal.nD Cert.FirstDownRefIdeal.τ).loc Cert.FirstDownRefIdeal.main_arg1)
          ∧ r.2.mem ((c.tc : Thread Cert.FirstDownRefIdeal.nD Cert.FirstDownRefIdeal.τ).loc Cert.FirstDownRefIdeal.main_arg2) = m' ((c.tc : Thread Cert.FirstDownRefIdeal.nD Cert.FirstDownRefIdeal.τ).loc Cert.FirstDownRefIdeal.main_arg2))

def preserves_FirstDAct_FirstDActIdeal : Prop :=
  True

def algebraic_FirstDActIdeal_FirstDActRefIdeal_pre_finite_first_dact [hFirstDActIdeal : Cert.FirstDActIdeal.Facts] [hFirstDActRefIdeal : Cert.FirstDActRefIdeal.Facts] [hPre_finite_first_dact : Cert.Pre_finite_first_dact.Facts] : Prop :=
  ∀ (m : (ℓ : Loc Cert.FirstDActIdeal.nD Cert.FirstDActIdeal.τ Cert.FirstDActIdeal.sig) → Buf (Elt Ideal) ℓ) (g : Dev Cert.FirstDActIdeal.nD → PrngReg)
    (m' : (ℓ : Loc Cert.FirstDActRefIdeal.nD Cert.FirstDActRefIdeal.τ Cert.FirstDActRefIdeal.sig) → Buf (Elt Ideal) ℓ) (g' : Dev Cert.FirstDActRefIdeal.nD → PrngReg), Pre_FirstDActIdeal_finite_first_dact m →
    (∀ c : Dev Cert.FirstDActIdeal.nD,
      m' ((c.tc : Thread Cert.FirstDActRefIdeal.nD Cert.FirstDActRefIdeal.τ).loc Cert.FirstDActRefIdeal.main_arg0) = m ((c.tc : Thread Cert.FirstDActIdeal.nD Cert.FirstDActIdeal.τ).loc Cert.FirstDActIdeal.main_arg0)
      ∧ m' ((c.tc : Thread Cert.FirstDActRefIdeal.nD Cert.FirstDActRefIdeal.τ).loc Cert.FirstDActRefIdeal.main_arg1) = m ((c.tc : Thread Cert.FirstDActIdeal.nD Cert.FirstDActIdeal.τ).loc Cert.FirstDActIdeal.main_arg1)
      ∧ m' ((c.tc : Thread Cert.FirstDActRefIdeal.nD Cert.FirstDActRefIdeal.τ).loc Cert.FirstDActRefIdeal.main_arg2) = m ((c.tc : Thread Cert.FirstDActIdeal.nD Cert.FirstDActIdeal.τ).loc Cert.FirstDActIdeal.main_arg2)
      ∧ m' ((c.tc : Thread Cert.FirstDActRefIdeal.nD Cert.FirstDActRefIdeal.τ).loc Cert.FirstDActRefIdeal.main_arg3) = m ((c.tc : Thread Cert.FirstDActIdeal.nD Cert.FirstDActIdeal.τ).loc Cert.FirstDActIdeal.main_arg3)) →
    ∃ (v0 : (c : Dev Cert.FirstDActIdeal.nD) → Buf (Elt Ideal) ((c.tc : Thread Cert.FirstDActIdeal.nD Cert.FirstDActIdeal.τ).loc Cert.FirstDActIdeal.main_v0_0)) (v1 : (c : Dev Cert.FirstDActIdeal.nD) → Buf (Elt Ideal) ((c.tc : Thread Cert.FirstDActIdeal.nD Cert.FirstDActIdeal.τ).loc Cert.FirstDActIdeal.main_v0_1)),
      θ_run (Cert.FirstDActIdeal.defs (F := Ideal)) (onTc (τ := Cert.FirstDActIdeal.τ) (Cert.FirstDActIdeal.main (F := Ideal))) ⟨m, fun _ => 0, g⟩ (fun r => ∀ c : Dev Cert.FirstDActIdeal.nD,
          r.2.mem ((c.tc : Thread Cert.FirstDActIdeal.nD Cert.FirstDActIdeal.τ).loc Cert.FirstDActIdeal.main_v0_0) = v0 c
          ∧ r.2.mem ((c.tc : Thread Cert.FirstDActIdeal.nD Cert.FirstDActIdeal.τ).loc Cert.FirstDActIdeal.main_v0_1) = v1 c
          ∧ r.2.mem ((c.tc : Thread Cert.FirstDActIdeal.nD Cert.FirstDActIdeal.τ).loc Cert.FirstDActIdeal.main_arg0) = m ((c.tc : Thread Cert.FirstDActIdeal.nD Cert.FirstDActIdeal.τ).loc Cert.FirstDActIdeal.main_arg0)
          ∧ r.2.mem ((c.tc : Thread Cert.FirstDActIdeal.nD Cert.FirstDActIdeal.τ).loc Cert.FirstDActIdeal.main_arg1) = m ((c.tc : Thread Cert.FirstDActIdeal.nD Cert.FirstDActIdeal.τ).loc Cert.FirstDActIdeal.main_arg1)
          ∧ r.2.mem ((c.tc : Thread Cert.FirstDActIdeal.nD Cert.FirstDActIdeal.τ).loc Cert.FirstDActIdeal.main_arg2) = m ((c.tc : Thread Cert.FirstDActIdeal.nD Cert.FirstDActIdeal.τ).loc Cert.FirstDActIdeal.main_arg2)
          ∧ r.2.mem ((c.tc : Thread Cert.FirstDActIdeal.nD Cert.FirstDActIdeal.τ).loc Cert.FirstDActIdeal.main_arg3) = m ((c.tc : Thread Cert.FirstDActIdeal.nD Cert.FirstDActIdeal.τ).loc Cert.FirstDActIdeal.main_arg3))
      ∧ θ_run (Cert.FirstDActRefIdeal.defs (F := Ideal)) (onTc (τ := Cert.FirstDActRefIdeal.τ) (Cert.FirstDActRefIdeal.main (F := Ideal))) ⟨m', fun _ => 0, g'⟩ (fun r => ∀ c : Dev Cert.FirstDActRefIdeal.nD,
          r.2.mem ((c.tc : Thread Cert.FirstDActRefIdeal.nD Cert.FirstDActRefIdeal.τ).loc Cert.FirstDActRefIdeal.main_v17) = v0 c
          ∧ r.2.mem ((c.tc : Thread Cert.FirstDActRefIdeal.nD Cert.FirstDActRefIdeal.τ).loc Cert.FirstDActRefIdeal.main_v18) = v1 c
          ∧ r.2.mem ((c.tc : Thread Cert.FirstDActRefIdeal.nD Cert.FirstDActRefIdeal.τ).loc Cert.FirstDActRefIdeal.main_arg0) = m' ((c.tc : Thread Cert.FirstDActRefIdeal.nD Cert.FirstDActRefIdeal.τ).loc Cert.FirstDActRefIdeal.main_arg0)
          ∧ r.2.mem ((c.tc : Thread Cert.FirstDActRefIdeal.nD Cert.FirstDActRefIdeal.τ).loc Cert.FirstDActRefIdeal.main_arg1) = m' ((c.tc : Thread Cert.FirstDActRefIdeal.nD Cert.FirstDActRefIdeal.τ).loc Cert.FirstDActRefIdeal.main_arg1)
          ∧ r.2.mem ((c.tc : Thread Cert.FirstDActRefIdeal.nD Cert.FirstDActRefIdeal.τ).loc Cert.FirstDActRefIdeal.main_arg2) = m' ((c.tc : Thread Cert.FirstDActRefIdeal.nD Cert.FirstDActRefIdeal.τ).loc Cert.FirstDActRefIdeal.main_arg2)
          ∧ r.2.mem ((c.tc : Thread Cert.FirstDActRefIdeal.nD Cert.FirstDActRefIdeal.τ).loc Cert.FirstDActRefIdeal.main_arg3) = m' ((c.tc : Thread Cert.FirstDActRefIdeal.nD Cert.FirstDActRefIdeal.τ).loc Cert.FirstDActRefIdeal.main_arg3))

def preserves_FirstDDown_FirstDDownIdeal : Prop :=
  True

def algebraic_FirstDDownIdeal_FirstDDownRefIdeal [hFirstDDownIdeal : Cert.FirstDDownIdeal.Facts] [hFirstDDownRefIdeal : Cert.FirstDDownRefIdeal.Facts] : Prop :=
  ∀ (m : (ℓ : Loc Cert.FirstDDownIdeal.nD Cert.FirstDDownIdeal.τ Cert.FirstDDownIdeal.sig) → Buf (Elt Ideal) ℓ) (g : Dev Cert.FirstDDownIdeal.nD → PrngReg)
    (m' : (ℓ : Loc Cert.FirstDDownRefIdeal.nD Cert.FirstDDownRefIdeal.τ Cert.FirstDDownRefIdeal.sig) → Buf (Elt Ideal) ℓ) (g' : Dev Cert.FirstDDownRefIdeal.nD → PrngReg), Pre_FirstDDownIdeal m →
    (∀ c : Dev Cert.FirstDDownIdeal.nD,
      m' ((c.tc : Thread Cert.FirstDDownRefIdeal.nD Cert.FirstDDownRefIdeal.τ).loc Cert.FirstDDownRefIdeal.main_arg0) = m ((c.tc : Thread Cert.FirstDDownIdeal.nD Cert.FirstDDownIdeal.τ).loc Cert.FirstDDownIdeal.main_arg0)
      ∧ m' ((c.tc : Thread Cert.FirstDDownRefIdeal.nD Cert.FirstDDownRefIdeal.τ).loc Cert.FirstDDownRefIdeal.main_arg1) = m ((c.tc : Thread Cert.FirstDDownIdeal.nD Cert.FirstDDownIdeal.τ).loc Cert.FirstDDownIdeal.main_arg1)
      ∧ m' ((c.tc : Thread Cert.FirstDDownRefIdeal.nD Cert.FirstDDownRefIdeal.τ).loc Cert.FirstDDownRefIdeal.main_arg2) = m ((c.tc : Thread Cert.FirstDDownIdeal.nD Cert.FirstDDownIdeal.τ).loc Cert.FirstDDownIdeal.main_arg2)) →
    ∃ (v0 : (c : Dev Cert.FirstDDownIdeal.nD) → Buf (Elt Ideal) ((c.tc : Thread Cert.FirstDDownIdeal.nD Cert.FirstDDownIdeal.τ).loc Cert.FirstDDownIdeal.main_v0)),
      θ_run (Cert.FirstDDownIdeal.defs (F := Ideal)) (onTc (τ := Cert.FirstDDownIdeal.τ) (Cert.FirstDDownIdeal.main (F := Ideal))) ⟨m, fun _ => 0, g⟩ (fun r => ∀ c : Dev Cert.FirstDDownIdeal.nD,
          r.2.mem ((c.tc : Thread Cert.FirstDDownIdeal.nD Cert.FirstDDownIdeal.τ).loc Cert.FirstDDownIdeal.main_v0) = v0 c
          ∧ r.2.mem ((c.tc : Thread Cert.FirstDDownIdeal.nD Cert.FirstDDownIdeal.τ).loc Cert.FirstDDownIdeal.main_arg0) = m ((c.tc : Thread Cert.FirstDDownIdeal.nD Cert.FirstDDownIdeal.τ).loc Cert.FirstDDownIdeal.main_arg0)
          ∧ r.2.mem ((c.tc : Thread Cert.FirstDDownIdeal.nD Cert.FirstDDownIdeal.τ).loc Cert.FirstDDownIdeal.main_arg1) = m ((c.tc : Thread Cert.FirstDDownIdeal.nD Cert.FirstDDownIdeal.τ).loc Cert.FirstDDownIdeal.main_arg1)
          ∧ r.2.mem ((c.tc : Thread Cert.FirstDDownIdeal.nD Cert.FirstDDownIdeal.τ).loc Cert.FirstDDownIdeal.main_arg2) = m ((c.tc : Thread Cert.FirstDDownIdeal.nD Cert.FirstDDownIdeal.τ).loc Cert.FirstDDownIdeal.main_arg2))
      ∧ θ_run (Cert.FirstDDownRefIdeal.defs (F := Ideal)) (onTc (τ := Cert.FirstDDownRefIdeal.τ) (Cert.FirstDDownRefIdeal.main (F := Ideal))) ⟨m', fun _ => 0, g'⟩ (fun r => ∀ c : Dev Cert.FirstDDownRefIdeal.nD,
          r.2.mem ((c.tc : Thread Cert.FirstDDownRefIdeal.nD Cert.FirstDDownRefIdeal.τ).loc Cert.FirstDDownRefIdeal.main_v15) = v0 c
          ∧ r.2.mem ((c.tc : Thread Cert.FirstDDownRefIdeal.nD Cert.FirstDDownRefIdeal.τ).loc Cert.FirstDDownRefIdeal.main_arg0) = m' ((c.tc : Thread Cert.FirstDDownRefIdeal.nD Cert.FirstDDownRefIdeal.τ).loc Cert.FirstDDownRefIdeal.main_arg0)
          ∧ r.2.mem ((c.tc : Thread Cert.FirstDDownRefIdeal.nD Cert.FirstDDownRefIdeal.τ).loc Cert.FirstDDownRefIdeal.main_arg1) = m' ((c.tc : Thread Cert.FirstDDownRefIdeal.nD Cert.FirstDDownRefIdeal.τ).loc Cert.FirstDDownRefIdeal.main_arg1)
          ∧ r.2.mem ((c.tc : Thread Cert.FirstDDownRefIdeal.nD Cert.FirstDDownRefIdeal.τ).loc Cert.FirstDDownRefIdeal.main_arg2) = m' ((c.tc : Thread Cert.FirstDDownRefIdeal.nD Cert.FirstDDownRefIdeal.τ).loc Cert.FirstDDownRefIdeal.main_arg2))

def preserves_FirstDGateUp_FirstDGateUpIdeal : Prop :=
  True

def algebraic_FirstDGateUpIdeal_FirstDGateUpRefIdeal [hFirstDGateUpIdeal : Cert.FirstDGateUpIdeal.Facts] [hFirstDGateUpRefIdeal : Cert.FirstDGateUpRefIdeal.Facts] : Prop :=
  ∀ (m : (ℓ : Loc Cert.FirstDGateUpIdeal.nD Cert.FirstDGateUpIdeal.τ Cert.FirstDGateUpIdeal.sig) → Buf (Elt Ideal) ℓ) (g : Dev Cert.FirstDGateUpIdeal.nD → PrngReg)
    (m' : (ℓ : Loc Cert.FirstDGateUpRefIdeal.nD Cert.FirstDGateUpRefIdeal.τ Cert.FirstDGateUpRefIdeal.sig) → Buf (Elt Ideal) ℓ) (g' : Dev Cert.FirstDGateUpRefIdeal.nD → PrngReg), Pre_FirstDGateUpIdeal m →
    (∀ c : Dev Cert.FirstDGateUpIdeal.nD,
      m' ((c.tc : Thread Cert.FirstDGateUpRefIdeal.nD Cert.FirstDGateUpRefIdeal.τ).loc Cert.FirstDGateUpRefIdeal.main_arg0) = m ((c.tc : Thread Cert.FirstDGateUpIdeal.nD Cert.FirstDGateUpIdeal.τ).loc Cert.FirstDGateUpIdeal.main_arg0)
      ∧ m' ((c.tc : Thread Cert.FirstDGateUpRefIdeal.nD Cert.FirstDGateUpRefIdeal.τ).loc Cert.FirstDGateUpRefIdeal.main_arg1) = m ((c.tc : Thread Cert.FirstDGateUpIdeal.nD Cert.FirstDGateUpIdeal.τ).loc Cert.FirstDGateUpIdeal.main_arg1)
      ∧ m' ((c.tc : Thread Cert.FirstDGateUpRefIdeal.nD Cert.FirstDGateUpRefIdeal.τ).loc Cert.FirstDGateUpRefIdeal.main_arg2) = m ((c.tc : Thread Cert.FirstDGateUpIdeal.nD Cert.FirstDGateUpIdeal.τ).loc Cert.FirstDGateUpIdeal.main_arg2)
      ∧ m' ((c.tc : Thread Cert.FirstDGateUpRefIdeal.nD Cert.FirstDGateUpRefIdeal.τ).loc Cert.FirstDGateUpRefIdeal.main_arg3) = m ((c.tc : Thread Cert.FirstDGateUpIdeal.nD Cert.FirstDGateUpIdeal.τ).loc Cert.FirstDGateUpIdeal.main_arg3)
      ∧ m' ((c.tc : Thread Cert.FirstDGateUpRefIdeal.nD Cert.FirstDGateUpRefIdeal.τ).loc Cert.FirstDGateUpRefIdeal.main_arg4) = m ((c.tc : Thread Cert.FirstDGateUpIdeal.nD Cert.FirstDGateUpIdeal.τ).loc Cert.FirstDGateUpIdeal.main_arg4)) →
    ∃ (v0 : (c : Dev Cert.FirstDGateUpIdeal.nD) → Buf (Elt Ideal) ((c.tc : Thread Cert.FirstDGateUpIdeal.nD Cert.FirstDGateUpIdeal.τ).loc Cert.FirstDGateUpIdeal.main_v0_0)) (v1 : (c : Dev Cert.FirstDGateUpIdeal.nD) → Buf (Elt Ideal) ((c.tc : Thread Cert.FirstDGateUpIdeal.nD Cert.FirstDGateUpIdeal.τ).loc Cert.FirstDGateUpIdeal.main_v0_1)),
      θ_run (Cert.FirstDGateUpIdeal.defs (F := Ideal)) (onTc (τ := Cert.FirstDGateUpIdeal.τ) (Cert.FirstDGateUpIdeal.main (F := Ideal))) ⟨m, fun _ => 0, g⟩ (fun r => ∀ c : Dev Cert.FirstDGateUpIdeal.nD,
          r.2.mem ((c.tc : Thread Cert.FirstDGateUpIdeal.nD Cert.FirstDGateUpIdeal.τ).loc Cert.FirstDGateUpIdeal.main_v0_0) = v0 c
          ∧ r.2.mem ((c.tc : Thread Cert.FirstDGateUpIdeal.nD Cert.FirstDGateUpIdeal.τ).loc Cert.FirstDGateUpIdeal.main_v0_1) = v1 c
          ∧ r.2.mem ((c.tc : Thread Cert.FirstDGateUpIdeal.nD Cert.FirstDGateUpIdeal.τ).loc Cert.FirstDGateUpIdeal.main_arg0) = m ((c.tc : Thread Cert.FirstDGateUpIdeal.nD Cert.FirstDGateUpIdeal.τ).loc Cert.FirstDGateUpIdeal.main_arg0)
          ∧ r.2.mem ((c.tc : Thread Cert.FirstDGateUpIdeal.nD Cert.FirstDGateUpIdeal.τ).loc Cert.FirstDGateUpIdeal.main_arg1) = m ((c.tc : Thread Cert.FirstDGateUpIdeal.nD Cert.FirstDGateUpIdeal.τ).loc Cert.FirstDGateUpIdeal.main_arg1)
          ∧ r.2.mem ((c.tc : Thread Cert.FirstDGateUpIdeal.nD Cert.FirstDGateUpIdeal.τ).loc Cert.FirstDGateUpIdeal.main_arg2) = m ((c.tc : Thread Cert.FirstDGateUpIdeal.nD Cert.FirstDGateUpIdeal.τ).loc Cert.FirstDGateUpIdeal.main_arg2)
          ∧ r.2.mem ((c.tc : Thread Cert.FirstDGateUpIdeal.nD Cert.FirstDGateUpIdeal.τ).loc Cert.FirstDGateUpIdeal.main_arg3) = m ((c.tc : Thread Cert.FirstDGateUpIdeal.nD Cert.FirstDGateUpIdeal.τ).loc Cert.FirstDGateUpIdeal.main_arg3)
          ∧ r.2.mem ((c.tc : Thread Cert.FirstDGateUpIdeal.nD Cert.FirstDGateUpIdeal.τ).loc Cert.FirstDGateUpIdeal.main_arg4) = m ((c.tc : Thread Cert.FirstDGateUpIdeal.nD Cert.FirstDGateUpIdeal.τ).loc Cert.FirstDGateUpIdeal.main_arg4))
      ∧ θ_run (Cert.FirstDGateUpRefIdeal.defs (F := Ideal)) (onTc (τ := Cert.FirstDGateUpRefIdeal.τ) (Cert.FirstDGateUpRefIdeal.main (F := Ideal))) ⟨m', fun _ => 0, g'⟩ (fun r => ∀ c : Dev Cert.FirstDGateUpRefIdeal.nD,
          r.2.mem ((c.tc : Thread Cert.FirstDGateUpRefIdeal.nD Cert.FirstDGateUpRefIdeal.τ).loc Cert.FirstDGateUpRefIdeal.main_v17) = v0 c
          ∧ r.2.mem ((c.tc : Thread Cert.FirstDGateUpRefIdeal.nD Cert.FirstDGateUpRefIdeal.τ).loc Cert.FirstDGateUpRefIdeal.main_v25) = v1 c
          ∧ r.2.mem ((c.tc : Thread Cert.FirstDGateUpRefIdeal.nD Cert.FirstDGateUpRefIdeal.τ).loc Cert.FirstDGateUpRefIdeal.main_arg0) = m' ((c.tc : Thread Cert.FirstDGateUpRefIdeal.nD Cert.FirstDGateUpRefIdeal.τ).loc Cert.FirstDGateUpRefIdeal.main_arg0)
          ∧ r.2.mem ((c.tc : Thread Cert.FirstDGateUpRefIdeal.nD Cert.FirstDGateUpRefIdeal.τ).loc Cert.FirstDGateUpRefIdeal.main_arg1) = m' ((c.tc : Thread Cert.FirstDGateUpRefIdeal.nD Cert.FirstDGateUpRefIdeal.τ).loc Cert.FirstDGateUpRefIdeal.main_arg1)
          ∧ r.2.mem ((c.tc : Thread Cert.FirstDGateUpRefIdeal.nD Cert.FirstDGateUpRefIdeal.τ).loc Cert.FirstDGateUpRefIdeal.main_arg2) = m' ((c.tc : Thread Cert.FirstDGateUpRefIdeal.nD Cert.FirstDGateUpRefIdeal.τ).loc Cert.FirstDGateUpRefIdeal.main_arg2)
          ∧ r.2.mem ((c.tc : Thread Cert.FirstDGateUpRefIdeal.nD Cert.FirstDGateUpRefIdeal.τ).loc Cert.FirstDGateUpRefIdeal.main_arg3) = m' ((c.tc : Thread Cert.FirstDGateUpRefIdeal.nD Cert.FirstDGateUpRefIdeal.τ).loc Cert.FirstDGateUpRefIdeal.main_arg3)
          ∧ r.2.mem ((c.tc : Thread Cert.FirstDGateUpRefIdeal.nD Cert.FirstDGateUpRefIdeal.τ).loc Cert.FirstDGateUpRefIdeal.main_arg4) = m' ((c.tc : Thread Cert.FirstDGateUpRefIdeal.nD Cert.FirstDGateUpRefIdeal.τ).loc Cert.FirstDGateUpRefIdeal.main_arg4))

def preserves_FirstDNorm_FirstDNormIdeal : Prop :=
  True

def algebraic_FirstDNormIdeal_FirstDNormRefIdeal [hFirstDNormIdeal : Cert.FirstDNormIdeal.Facts] [hFirstDNormRefIdeal : Cert.FirstDNormRefIdeal.Facts] : Prop :=
  ∀ (m : (ℓ : Loc Cert.FirstDNormIdeal.nD Cert.FirstDNormIdeal.τ Cert.FirstDNormIdeal.sig) → Buf (Elt Ideal) ℓ) (g : Dev Cert.FirstDNormIdeal.nD → PrngReg)
    (m' : (ℓ : Loc Cert.FirstDNormRefIdeal.nD Cert.FirstDNormRefIdeal.τ Cert.FirstDNormRefIdeal.sig) → Buf (Elt Ideal) ℓ) (g' : Dev Cert.FirstDNormRefIdeal.nD → PrngReg), Pre_FirstDNormIdeal m →
    (∀ c : Dev Cert.FirstDNormIdeal.nD,
      m' ((c.tc : Thread Cert.FirstDNormRefIdeal.nD Cert.FirstDNormRefIdeal.τ).loc Cert.FirstDNormRefIdeal.main_arg0) = m ((c.tc : Thread Cert.FirstDNormIdeal.nD Cert.FirstDNormIdeal.τ).loc Cert.FirstDNormIdeal.main_arg0)
      ∧ m' ((c.tc : Thread Cert.FirstDNormRefIdeal.nD Cert.FirstDNormRefIdeal.τ).loc Cert.FirstDNormRefIdeal.main_arg1) = m ((c.tc : Thread Cert.FirstDNormIdeal.nD Cert.FirstDNormIdeal.τ).loc Cert.FirstDNormIdeal.main_arg1)
      ∧ m' ((c.tc : Thread Cert.FirstDNormRefIdeal.nD Cert.FirstDNormRefIdeal.τ).loc Cert.FirstDNormRefIdeal.main_arg2) = m ((c.tc : Thread Cert.FirstDNormIdeal.nD Cert.FirstDNormIdeal.τ).loc Cert.FirstDNormIdeal.main_arg2)
      ∧ m' ((c.tc : Thread Cert.FirstDNormRefIdeal.nD Cert.FirstDNormRefIdeal.τ).loc Cert.FirstDNormRefIdeal.main_arg3) = m ((c.tc : Thread Cert.FirstDNormIdeal.nD Cert.FirstDNormIdeal.τ).loc Cert.FirstDNormIdeal.main_arg3)) →
    ∃ (v0 : (c : Dev Cert.FirstDNormIdeal.nD) → Buf (Elt Ideal) ((c.tc : Thread Cert.FirstDNormIdeal.nD Cert.FirstDNormIdeal.τ).loc Cert.FirstDNormIdeal.main_v0)),
      θ_run (Cert.FirstDNormIdeal.defs (F := Ideal)) (onTc (τ := Cert.FirstDNormIdeal.τ) (Cert.FirstDNormIdeal.main (F := Ideal))) ⟨m, fun _ => 0, g⟩ (fun r => ∀ c : Dev Cert.FirstDNormIdeal.nD,
          r.2.mem ((c.tc : Thread Cert.FirstDNormIdeal.nD Cert.FirstDNormIdeal.τ).loc Cert.FirstDNormIdeal.main_v0) = v0 c
          ∧ r.2.mem ((c.tc : Thread Cert.FirstDNormIdeal.nD Cert.FirstDNormIdeal.τ).loc Cert.FirstDNormIdeal.main_arg0) = m ((c.tc : Thread Cert.FirstDNormIdeal.nD Cert.FirstDNormIdeal.τ).loc Cert.FirstDNormIdeal.main_arg0)
          ∧ r.2.mem ((c.tc : Thread Cert.FirstDNormIdeal.nD Cert.FirstDNormIdeal.τ).loc Cert.FirstDNormIdeal.main_arg1) = m ((c.tc : Thread Cert.FirstDNormIdeal.nD Cert.FirstDNormIdeal.τ).loc Cert.FirstDNormIdeal.main_arg1)
          ∧ r.2.mem ((c.tc : Thread Cert.FirstDNormIdeal.nD Cert.FirstDNormIdeal.τ).loc Cert.FirstDNormIdeal.main_arg2) = m ((c.tc : Thread Cert.FirstDNormIdeal.nD Cert.FirstDNormIdeal.τ).loc Cert.FirstDNormIdeal.main_arg2)
          ∧ r.2.mem ((c.tc : Thread Cert.FirstDNormIdeal.nD Cert.FirstDNormIdeal.τ).loc Cert.FirstDNormIdeal.main_arg3) = m ((c.tc : Thread Cert.FirstDNormIdeal.nD Cert.FirstDNormIdeal.τ).loc Cert.FirstDNormIdeal.main_arg3))
      ∧ θ_run (Cert.FirstDNormRefIdeal.defs (F := Ideal)) (onTc (τ := Cert.FirstDNormRefIdeal.τ) (Cert.FirstDNormRefIdeal.main (F := Ideal))) ⟨m', fun _ => 0, g'⟩ (fun r => ∀ c : Dev Cert.FirstDNormRefIdeal.nD,
          r.2.mem ((c.tc : Thread Cert.FirstDNormRefIdeal.nD Cert.FirstDNormRefIdeal.τ).loc Cert.FirstDNormRefIdeal.main_v17) = v0 c
          ∧ r.2.mem ((c.tc : Thread Cert.FirstDNormRefIdeal.nD Cert.FirstDNormRefIdeal.τ).loc Cert.FirstDNormRefIdeal.main_arg0) = m' ((c.tc : Thread Cert.FirstDNormRefIdeal.nD Cert.FirstDNormRefIdeal.τ).loc Cert.FirstDNormRefIdeal.main_arg0)
          ∧ r.2.mem ((c.tc : Thread Cert.FirstDNormRefIdeal.nD Cert.FirstDNormRefIdeal.τ).loc Cert.FirstDNormRefIdeal.main_arg1) = m' ((c.tc : Thread Cert.FirstDNormRefIdeal.nD Cert.FirstDNormRefIdeal.τ).loc Cert.FirstDNormRefIdeal.main_arg1)
          ∧ r.2.mem ((c.tc : Thread Cert.FirstDNormRefIdeal.nD Cert.FirstDNormRefIdeal.τ).loc Cert.FirstDNormRefIdeal.main_arg2) = m' ((c.tc : Thread Cert.FirstDNormRefIdeal.nD Cert.FirstDNormRefIdeal.τ).loc Cert.FirstDNormRefIdeal.main_arg2)
          ∧ r.2.mem ((c.tc : Thread Cert.FirstDNormRefIdeal.nD Cert.FirstDNormRefIdeal.τ).loc Cert.FirstDNormRefIdeal.main_arg3) = m' ((c.tc : Thread Cert.FirstDNormRefIdeal.nD Cert.FirstDNormRefIdeal.τ).loc Cert.FirstDNormRefIdeal.main_arg3))

def preserves_AdamFfnColumns_AdamFfnColumnsIdeal : Prop :=
  True

def algebraic_AdamFfnColumnsIdeal_AdamFfnColumnsRefIdeal [hAdamFfnColumnsIdeal : Cert.AdamFfnColumnsIdeal.Facts] [hAdamFfnColumnsRefIdeal : Cert.AdamFfnColumnsRefIdeal.Facts] : Prop :=
  ∀ (m : (ℓ : Loc Cert.AdamFfnColumnsIdeal.nD Cert.AdamFfnColumnsIdeal.τ Cert.AdamFfnColumnsIdeal.sig) → Buf (Elt Ideal) ℓ) (g : Dev Cert.AdamFfnColumnsIdeal.nD → PrngReg)
    (m' : (ℓ : Loc Cert.AdamFfnColumnsRefIdeal.nD Cert.AdamFfnColumnsRefIdeal.τ Cert.AdamFfnColumnsRefIdeal.sig) → Buf (Elt Ideal) ℓ) (g' : Dev Cert.AdamFfnColumnsRefIdeal.nD → PrngReg), Pre_AdamFfnColumnsIdeal m →
    (∀ c : Dev Cert.AdamFfnColumnsIdeal.nD,
      m' ((c.tc : Thread Cert.AdamFfnColumnsRefIdeal.nD Cert.AdamFfnColumnsRefIdeal.τ).loc Cert.AdamFfnColumnsRefIdeal.main_arg0) = m ((c.tc : Thread Cert.AdamFfnColumnsIdeal.nD Cert.AdamFfnColumnsIdeal.τ).loc Cert.AdamFfnColumnsIdeal.main_arg0)
      ∧ m' ((c.tc : Thread Cert.AdamFfnColumnsRefIdeal.nD Cert.AdamFfnColumnsRefIdeal.τ).loc Cert.AdamFfnColumnsRefIdeal.main_arg1) = m ((c.tc : Thread Cert.AdamFfnColumnsIdeal.nD Cert.AdamFfnColumnsIdeal.τ).loc Cert.AdamFfnColumnsIdeal.main_arg1)
      ∧ m' ((c.tc : Thread Cert.AdamFfnColumnsRefIdeal.nD Cert.AdamFfnColumnsRefIdeal.τ).loc Cert.AdamFfnColumnsRefIdeal.main_arg2) = m ((c.tc : Thread Cert.AdamFfnColumnsIdeal.nD Cert.AdamFfnColumnsIdeal.τ).loc Cert.AdamFfnColumnsIdeal.main_arg2)
      ∧ m' ((c.tc : Thread Cert.AdamFfnColumnsRefIdeal.nD Cert.AdamFfnColumnsRefIdeal.τ).loc Cert.AdamFfnColumnsRefIdeal.main_arg3) = m ((c.tc : Thread Cert.AdamFfnColumnsIdeal.nD Cert.AdamFfnColumnsIdeal.τ).loc Cert.AdamFfnColumnsIdeal.main_arg3)) →
    ∃ (v0 : (c : Dev Cert.AdamFfnColumnsIdeal.nD) → Buf (Elt Ideal) ((c.tc : Thread Cert.AdamFfnColumnsIdeal.nD Cert.AdamFfnColumnsIdeal.τ).loc Cert.AdamFfnColumnsIdeal.main_v4_0)) (v1 : (c : Dev Cert.AdamFfnColumnsIdeal.nD) → Buf (Elt Ideal) ((c.tc : Thread Cert.AdamFfnColumnsIdeal.nD Cert.AdamFfnColumnsIdeal.τ).loc Cert.AdamFfnColumnsIdeal.main_v4_1)) (v2 : (c : Dev Cert.AdamFfnColumnsIdeal.nD) → Buf (Elt Ideal) ((c.tc : Thread Cert.AdamFfnColumnsIdeal.nD Cert.AdamFfnColumnsIdeal.τ).loc Cert.AdamFfnColumnsIdeal.main_v4_2)),
      θ_run (Cert.AdamFfnColumnsIdeal.defs (F := Ideal)) (onTc (τ := Cert.AdamFfnColumnsIdeal.τ) (Cert.AdamFfnColumnsIdeal.main (F := Ideal))) ⟨m, fun _ => 0, g⟩ (fun r => ∀ c : Dev Cert.AdamFfnColumnsIdeal.nD,
          r.2.mem ((c.tc : Thread Cert.AdamFfnColumnsIdeal.nD Cert.AdamFfnColumnsIdeal.τ).loc Cert.AdamFfnColumnsIdeal.main_v4_0) = v0 c
          ∧ r.2.mem ((c.tc : Thread Cert.AdamFfnColumnsIdeal.nD Cert.AdamFfnColumnsIdeal.τ).loc Cert.AdamFfnColumnsIdeal.main_v4_1) = v1 c
          ∧ r.2.mem ((c.tc : Thread Cert.AdamFfnColumnsIdeal.nD Cert.AdamFfnColumnsIdeal.τ).loc Cert.AdamFfnColumnsIdeal.main_v4_2) = v2 c
          ∧ r.2.mem ((c.tc : Thread Cert.AdamFfnColumnsIdeal.nD Cert.AdamFfnColumnsIdeal.τ).loc Cert.AdamFfnColumnsIdeal.main_arg0) = m ((c.tc : Thread Cert.AdamFfnColumnsIdeal.nD Cert.AdamFfnColumnsIdeal.τ).loc Cert.AdamFfnColumnsIdeal.main_arg0)
          ∧ r.2.mem ((c.tc : Thread Cert.AdamFfnColumnsIdeal.nD Cert.AdamFfnColumnsIdeal.τ).loc Cert.AdamFfnColumnsIdeal.main_arg1) = m ((c.tc : Thread Cert.AdamFfnColumnsIdeal.nD Cert.AdamFfnColumnsIdeal.τ).loc Cert.AdamFfnColumnsIdeal.main_arg1)
          ∧ r.2.mem ((c.tc : Thread Cert.AdamFfnColumnsIdeal.nD Cert.AdamFfnColumnsIdeal.τ).loc Cert.AdamFfnColumnsIdeal.main_arg2) = m ((c.tc : Thread Cert.AdamFfnColumnsIdeal.nD Cert.AdamFfnColumnsIdeal.τ).loc Cert.AdamFfnColumnsIdeal.main_arg2)
          ∧ r.2.mem ((c.tc : Thread Cert.AdamFfnColumnsIdeal.nD Cert.AdamFfnColumnsIdeal.τ).loc Cert.AdamFfnColumnsIdeal.main_arg3) = m ((c.tc : Thread Cert.AdamFfnColumnsIdeal.nD Cert.AdamFfnColumnsIdeal.τ).loc Cert.AdamFfnColumnsIdeal.main_arg3))
      ∧ θ_run (Cert.AdamFfnColumnsRefIdeal.defs (F := Ideal)) (onTc (τ := Cert.AdamFfnColumnsRefIdeal.τ) (Cert.AdamFfnColumnsRefIdeal.main (F := Ideal))) ⟨m', fun _ => 0, g'⟩ (fun r => ∀ c : Dev Cert.AdamFfnColumnsRefIdeal.nD,
          r.2.mem ((c.tc : Thread Cert.AdamFfnColumnsRefIdeal.nD Cert.AdamFfnColumnsRefIdeal.τ).loc Cert.AdamFfnColumnsRefIdeal.main_v24) = v0 c
          ∧ r.2.mem ((c.tc : Thread Cert.AdamFfnColumnsRefIdeal.nD Cert.AdamFfnColumnsRefIdeal.τ).loc Cert.AdamFfnColumnsRefIdeal.main_v25) = v1 c
          ∧ r.2.mem ((c.tc : Thread Cert.AdamFfnColumnsRefIdeal.nD Cert.AdamFfnColumnsRefIdeal.τ).loc Cert.AdamFfnColumnsRefIdeal.main_v26) = v2 c
          ∧ r.2.mem ((c.tc : Thread Cert.AdamFfnColumnsRefIdeal.nD Cert.AdamFfnColumnsRefIdeal.τ).loc Cert.AdamFfnColumnsRefIdeal.main_arg0) = m' ((c.tc : Thread Cert.AdamFfnColumnsRefIdeal.nD Cert.AdamFfnColumnsRefIdeal.τ).loc Cert.AdamFfnColumnsRefIdeal.main_arg0)
          ∧ r.2.mem ((c.tc : Thread Cert.AdamFfnColumnsRefIdeal.nD Cert.AdamFfnColumnsRefIdeal.τ).loc Cert.AdamFfnColumnsRefIdeal.main_arg1) = m' ((c.tc : Thread Cert.AdamFfnColumnsRefIdeal.nD Cert.AdamFfnColumnsRefIdeal.τ).loc Cert.AdamFfnColumnsRefIdeal.main_arg1)
          ∧ r.2.mem ((c.tc : Thread Cert.AdamFfnColumnsRefIdeal.nD Cert.AdamFfnColumnsRefIdeal.τ).loc Cert.AdamFfnColumnsRefIdeal.main_arg2) = m' ((c.tc : Thread Cert.AdamFfnColumnsRefIdeal.nD Cert.AdamFfnColumnsRefIdeal.τ).loc Cert.AdamFfnColumnsRefIdeal.main_arg2)
          ∧ r.2.mem ((c.tc : Thread Cert.AdamFfnColumnsRefIdeal.nD Cert.AdamFfnColumnsRefIdeal.τ).loc Cert.AdamFfnColumnsRefIdeal.main_arg3) = m' ((c.tc : Thread Cert.AdamFfnColumnsRefIdeal.nD Cert.AdamFfnColumnsRefIdeal.τ).loc Cert.AdamFfnColumnsRefIdeal.main_arg3))

def preserves_AdamFfnRows_AdamFfnRowsIdeal : Prop :=
  True

def algebraic_AdamFfnRowsIdeal_AdamFfnRowsRefIdeal [hAdamFfnRowsIdeal : Cert.AdamFfnRowsIdeal.Facts] [hAdamFfnRowsRefIdeal : Cert.AdamFfnRowsRefIdeal.Facts] : Prop :=
  ∀ (m : (ℓ : Loc Cert.AdamFfnRowsIdeal.nD Cert.AdamFfnRowsIdeal.τ Cert.AdamFfnRowsIdeal.sig) → Buf (Elt Ideal) ℓ) (g : Dev Cert.AdamFfnRowsIdeal.nD → PrngReg)
    (m' : (ℓ : Loc Cert.AdamFfnRowsRefIdeal.nD Cert.AdamFfnRowsRefIdeal.τ Cert.AdamFfnRowsRefIdeal.sig) → Buf (Elt Ideal) ℓ) (g' : Dev Cert.AdamFfnRowsRefIdeal.nD → PrngReg), Pre_AdamFfnRowsIdeal m →
    (∀ c : Dev Cert.AdamFfnRowsIdeal.nD,
      m' ((c.tc : Thread Cert.AdamFfnRowsRefIdeal.nD Cert.AdamFfnRowsRefIdeal.τ).loc Cert.AdamFfnRowsRefIdeal.main_arg0) = m ((c.tc : Thread Cert.AdamFfnRowsIdeal.nD Cert.AdamFfnRowsIdeal.τ).loc Cert.AdamFfnRowsIdeal.main_arg0)
      ∧ m' ((c.tc : Thread Cert.AdamFfnRowsRefIdeal.nD Cert.AdamFfnRowsRefIdeal.τ).loc Cert.AdamFfnRowsRefIdeal.main_arg1) = m ((c.tc : Thread Cert.AdamFfnRowsIdeal.nD Cert.AdamFfnRowsIdeal.τ).loc Cert.AdamFfnRowsIdeal.main_arg1)
      ∧ m' ((c.tc : Thread Cert.AdamFfnRowsRefIdeal.nD Cert.AdamFfnRowsRefIdeal.τ).loc Cert.AdamFfnRowsRefIdeal.main_arg2) = m ((c.tc : Thread Cert.AdamFfnRowsIdeal.nD Cert.AdamFfnRowsIdeal.τ).loc Cert.AdamFfnRowsIdeal.main_arg2)
      ∧ m' ((c.tc : Thread Cert.AdamFfnRowsRefIdeal.nD Cert.AdamFfnRowsRefIdeal.τ).loc Cert.AdamFfnRowsRefIdeal.main_arg3) = m ((c.tc : Thread Cert.AdamFfnRowsIdeal.nD Cert.AdamFfnRowsIdeal.τ).loc Cert.AdamFfnRowsIdeal.main_arg3)) →
    ∃ (v0 : (c : Dev Cert.AdamFfnRowsIdeal.nD) → Buf (Elt Ideal) ((c.tc : Thread Cert.AdamFfnRowsIdeal.nD Cert.AdamFfnRowsIdeal.τ).loc Cert.AdamFfnRowsIdeal.main_v4_0)) (v1 : (c : Dev Cert.AdamFfnRowsIdeal.nD) → Buf (Elt Ideal) ((c.tc : Thread Cert.AdamFfnRowsIdeal.nD Cert.AdamFfnRowsIdeal.τ).loc Cert.AdamFfnRowsIdeal.main_v4_1)) (v2 : (c : Dev Cert.AdamFfnRowsIdeal.nD) → Buf (Elt Ideal) ((c.tc : Thread Cert.AdamFfnRowsIdeal.nD Cert.AdamFfnRowsIdeal.τ).loc Cert.AdamFfnRowsIdeal.main_v4_2)),
      θ_run (Cert.AdamFfnRowsIdeal.defs (F := Ideal)) (onTc (τ := Cert.AdamFfnRowsIdeal.τ) (Cert.AdamFfnRowsIdeal.main (F := Ideal))) ⟨m, fun _ => 0, g⟩ (fun r => ∀ c : Dev Cert.AdamFfnRowsIdeal.nD,
          r.2.mem ((c.tc : Thread Cert.AdamFfnRowsIdeal.nD Cert.AdamFfnRowsIdeal.τ).loc Cert.AdamFfnRowsIdeal.main_v4_0) = v0 c
          ∧ r.2.mem ((c.tc : Thread Cert.AdamFfnRowsIdeal.nD Cert.AdamFfnRowsIdeal.τ).loc Cert.AdamFfnRowsIdeal.main_v4_1) = v1 c
          ∧ r.2.mem ((c.tc : Thread Cert.AdamFfnRowsIdeal.nD Cert.AdamFfnRowsIdeal.τ).loc Cert.AdamFfnRowsIdeal.main_v4_2) = v2 c
          ∧ r.2.mem ((c.tc : Thread Cert.AdamFfnRowsIdeal.nD Cert.AdamFfnRowsIdeal.τ).loc Cert.AdamFfnRowsIdeal.main_arg0) = m ((c.tc : Thread Cert.AdamFfnRowsIdeal.nD Cert.AdamFfnRowsIdeal.τ).loc Cert.AdamFfnRowsIdeal.main_arg0)
          ∧ r.2.mem ((c.tc : Thread Cert.AdamFfnRowsIdeal.nD Cert.AdamFfnRowsIdeal.τ).loc Cert.AdamFfnRowsIdeal.main_arg1) = m ((c.tc : Thread Cert.AdamFfnRowsIdeal.nD Cert.AdamFfnRowsIdeal.τ).loc Cert.AdamFfnRowsIdeal.main_arg1)
          ∧ r.2.mem ((c.tc : Thread Cert.AdamFfnRowsIdeal.nD Cert.AdamFfnRowsIdeal.τ).loc Cert.AdamFfnRowsIdeal.main_arg2) = m ((c.tc : Thread Cert.AdamFfnRowsIdeal.nD Cert.AdamFfnRowsIdeal.τ).loc Cert.AdamFfnRowsIdeal.main_arg2)
          ∧ r.2.mem ((c.tc : Thread Cert.AdamFfnRowsIdeal.nD Cert.AdamFfnRowsIdeal.τ).loc Cert.AdamFfnRowsIdeal.main_arg3) = m ((c.tc : Thread Cert.AdamFfnRowsIdeal.nD Cert.AdamFfnRowsIdeal.τ).loc Cert.AdamFfnRowsIdeal.main_arg3))
      ∧ θ_run (Cert.AdamFfnRowsRefIdeal.defs (F := Ideal)) (onTc (τ := Cert.AdamFfnRowsRefIdeal.τ) (Cert.AdamFfnRowsRefIdeal.main (F := Ideal))) ⟨m', fun _ => 0, g'⟩ (fun r => ∀ c : Dev Cert.AdamFfnRowsRefIdeal.nD,
          r.2.mem ((c.tc : Thread Cert.AdamFfnRowsRefIdeal.nD Cert.AdamFfnRowsRefIdeal.τ).loc Cert.AdamFfnRowsRefIdeal.main_v24) = v0 c
          ∧ r.2.mem ((c.tc : Thread Cert.AdamFfnRowsRefIdeal.nD Cert.AdamFfnRowsRefIdeal.τ).loc Cert.AdamFfnRowsRefIdeal.main_v25) = v1 c
          ∧ r.2.mem ((c.tc : Thread Cert.AdamFfnRowsRefIdeal.nD Cert.AdamFfnRowsRefIdeal.τ).loc Cert.AdamFfnRowsRefIdeal.main_v26) = v2 c
          ∧ r.2.mem ((c.tc : Thread Cert.AdamFfnRowsRefIdeal.nD Cert.AdamFfnRowsRefIdeal.τ).loc Cert.AdamFfnRowsRefIdeal.main_arg0) = m' ((c.tc : Thread Cert.AdamFfnRowsRefIdeal.nD Cert.AdamFfnRowsRefIdeal.τ).loc Cert.AdamFfnRowsRefIdeal.main_arg0)
          ∧ r.2.mem ((c.tc : Thread Cert.AdamFfnRowsRefIdeal.nD Cert.AdamFfnRowsRefIdeal.τ).loc Cert.AdamFfnRowsRefIdeal.main_arg1) = m' ((c.tc : Thread Cert.AdamFfnRowsRefIdeal.nD Cert.AdamFfnRowsRefIdeal.τ).loc Cert.AdamFfnRowsRefIdeal.main_arg1)
          ∧ r.2.mem ((c.tc : Thread Cert.AdamFfnRowsRefIdeal.nD Cert.AdamFfnRowsRefIdeal.τ).loc Cert.AdamFfnRowsRefIdeal.main_arg2) = m' ((c.tc : Thread Cert.AdamFfnRowsRefIdeal.nD Cert.AdamFfnRowsRefIdeal.τ).loc Cert.AdamFfnRowsRefIdeal.main_arg2)
          ∧ r.2.mem ((c.tc : Thread Cert.AdamFfnRowsRefIdeal.nD Cert.AdamFfnRowsRefIdeal.τ).loc Cert.AdamFfnRowsRefIdeal.main_arg3) = m' ((c.tc : Thread Cert.AdamFfnRowsRefIdeal.nD Cert.AdamFfnRowsRefIdeal.τ).loc Cert.AdamFfnRowsRefIdeal.main_arg3))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v23) = v0 c
          ∧ r.2.mem ((c.tc : Thread Cert.AdamMetaRefIdeal.nD Cert.AdamMetaRefIdeal.τ).loc Cert.AdamMetaRefIdeal.main_v4) = v1 c
          ∧ r.2.mem ((c.tc : Thread Cert.AdamMetaRefIdeal.nD Cert.AdamMetaRefIdeal.τ).loc Cert.AdamMetaRefIdeal.main_v10) = v2 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamNorms_AdamNormsIdeal : Prop :=
  True

def algebraic_AdamNormsIdeal_AdamNormsRefIdeal [hAdamNormsIdeal : Cert.AdamNormsIdeal.Facts] [hAdamNormsRefIdeal : Cert.AdamNormsRefIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsRefIdeal.nD Cert.AdamNormsRefIdeal.τ Cert.AdamNormsRefIdeal.sig) → Buf (Elt Ideal) ℓ) (g' : Dev Cert.AdamNormsRefIdeal.nD → PrngReg), Pre_AdamNormsIdeal m →
    (∀ c : Dev Cert.AdamNormsIdeal.nD,
      m' ((c.tc : Thread Cert.AdamNormsRefIdeal.nD Cert.AdamNormsRefIdeal.τ).loc Cert.AdamNormsRefIdeal.main_arg0) = m ((c.tc : Thread Cert.AdamNormsIdeal.nD Cert.AdamNormsIdeal.τ).loc Cert.AdamNormsIdeal.main_arg0)
      ∧ m' ((c.tc : Thread Cert.AdamNormsRefIdeal.nD Cert.AdamNormsRefIdeal.τ).loc Cert.AdamNormsRefIdeal.main_arg1) = m ((c.tc : Thread Cert.AdamNormsIdeal.nD Cert.AdamNormsIdeal.τ).loc Cert.AdamNormsIdeal.main_arg1)
      ∧ m' ((c.tc : Thread Cert.AdamNormsRefIdeal.nD Cert.AdamNormsRefIdeal.τ).loc Cert.AdamNormsRefIdeal.main_arg2) = m ((c.tc : Thread Cert.AdamNormsIdeal.nD Cert.AdamNormsIdeal.τ).loc Cert.AdamNormsIdeal.main_arg2)
      ∧ m' ((c.tc : Thread Cert.AdamNormsRefIdeal.nD Cert.AdamNormsRefIdeal.τ).loc Cert.AdamNormsRefIdeal.main_arg3) = m ((c.tc : Thread Cert.AdamNormsIdeal.nD Cert.AdamNormsIdeal.τ).loc Cert.AdamNormsIdeal.main_arg3)) →
    ∃ (v0 : (c : Dev Cert.AdamNormsIdeal.nD) → Buf (Elt Ideal) ((c.tc : Thread Cert.AdamNormsIdeal.nD Cert.AdamNormsIdeal.τ).loc Cert.AdamNormsIdeal.main_v4_0)) (v1 : (c : Dev Cert.AdamNormsIdeal.nD) → Buf (Elt Ideal) ((c.tc : Thread Cert.AdamNormsIdeal.nD Cert.AdamNormsIdeal.τ).loc Cert.AdamNormsIdeal.main_v4_1)) (v2 : (c : Dev Cert.AdamNormsIdeal.nD) → Buf (Elt Ideal) ((c.tc : Thread Cert.AdamNormsIdeal.nD Cert.AdamNormsIdeal.τ).loc Cert.AdamNormsIdeal.main_v4_2)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v4_0) = v0 c
          ∧ r.2.mem ((c.tc : Thread Cert.AdamNormsIdeal.nD Cert.AdamNormsIdeal.τ).loc Cert.AdamNormsIdeal.main_v4_1) = v1 c
          ∧ r.2.mem ((c.tc : Thread Cert.AdamNormsIdeal.nD Cert.AdamNormsIdeal.τ).loc Cert.AdamNormsIdeal.main_v4_2) = v2 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ θ_run (Cert.AdamNormsRefIdeal.defs (F := Ideal)) (onTc (τ := Cert.AdamNormsRefIdeal.τ) (Cert.AdamNormsRefIdeal.main (F := Ideal))) ⟨m', fun _ => 0, g'⟩ (fun r => ∀ c : Dev Cert.AdamNormsRefIdeal.nD,
          r.2.mem ((c.tc : Thread Cert.AdamNormsRefIdeal.nD Cert.AdamNormsRefIdeal.τ).loc Cert.AdamNormsRefIdeal.main_v24) = v0 c
          ∧ r.2.mem ((c.tc : Thread Cert.AdamNormsRefIdeal.nD Cert.AdamNormsRefIdeal.τ).loc Cert.AdamNormsRefIdeal.main_v25) = v1 c
          ∧ r.2.mem ((c.tc : Thread Cert.AdamNormsRefIdeal.nD Cert.AdamNormsRefIdeal.τ).loc Cert.AdamNormsRefIdeal.main_v26) = v2 c
          ∧ r.2.mem ((c.tc : Thread Cert.AdamNormsRefIdeal.nD Cert.AdamNormsRefIdeal.τ).loc Cert.AdamNormsRefIdeal.main_arg0) = m' ((c.tc : Thread Cert.AdamNormsRefIdeal.nD Cert.AdamNormsRefIdeal.τ).loc Cert.AdamNormsRefIdeal.main_arg0)
          ∧ r.2.mem ((c.tc : Thread Cert.AdamNormsRefIdeal.nD Cert.AdamNormsRefIdeal.τ).loc Cert.AdamNormsRefIdeal.main_arg1) = m' ((c.tc : Thread Cert.AdamNormsRefIdeal.nD Cert.AdamNormsRefIdeal.τ).loc Cert.AdamNormsRefIdeal.main_arg1)
          ∧ r.2.mem ((c.tc : Thread Cert.AdamNormsRefIdeal.nD Cert.AdamNormsRefIdeal.τ).loc Cert.AdamNormsRefIdeal.main_arg2) = m' ((c.tc : Thread Cert.AdamNormsRefIdeal.nD Cert.AdamNormsRefIdeal.τ).loc Cert.AdamNormsRefIdeal.main_arg2)
          ∧ r.2.mem ((c.tc : Thread Cert.AdamNormsRefIdeal.nD Cert.AdamNormsRefIdeal.τ).loc Cert.AdamNormsRefIdeal.main_arg3) = m' ((c.tc : Thread Cert.AdamNormsRefIdeal.nD Cert.AdamNormsRefIdeal.τ).loc Cert.AdamNormsRefIdeal.main_arg3))

def preserves_AdamMlstmIn_AdamMlstmInIdeal : Prop :=
  True

def algebraic_AdamMlstmInIdeal_AdamMlstmInRefIdeal [hAdamMlstmInIdeal : Cert.AdamMlstmInIdeal.Facts] [hAdamMlstmInRefIdeal : Cert.AdamMlstmInRefIdeal.Facts] : Prop :=
  ∀ (m : (ℓ : Loc Cert.AdamMlstmInIdeal.nD Cert.AdamMlstmInIdeal.τ Cert.AdamMlstmInIdeal.sig) → Buf (Elt Ideal) ℓ) (g : Dev Cert.AdamMlstmInIdeal.nD → PrngReg)
    (m' : (ℓ : Loc Cert.AdamMlstmInRefIdeal.nD Cert.AdamMlstmInRefIdeal.τ Cert.AdamMlstmInRefIdeal.sig) → Buf (Elt Ideal) ℓ) (g' : Dev Cert.AdamMlstmInRefIdeal.nD → PrngReg), Pre_AdamMlstmInIdeal m →
    (∀ c : Dev Cert.AdamMlstmInIdeal.nD,
      m' ((c.tc : Thread Cert.AdamMlstmInRefIdeal.nD Cert.AdamMlstmInRefIdeal.τ).loc Cert.AdamMlstmInRefIdeal.main_arg0) = m ((c.tc : Thread Cert.AdamMlstmInIdeal.nD Cert.AdamMlstmInIdeal.τ).loc Cert.AdamMlstmInIdeal.main_arg0)
      ∧ m' ((c.tc : Thread Cert.AdamMlstmInRefIdeal.nD Cert.AdamMlstmInRefIdeal.τ).loc Cert.AdamMlstmInRefIdeal.main_arg1) = m ((c.tc : Thread Cert.AdamMlstmInIdeal.nD Cert.AdamMlstmInIdeal.τ).loc Cert.AdamMlstmInIdeal.main_arg1)
      ∧ m' ((c.tc : Thread Cert.AdamMlstmInRefIdeal.nD Cert.AdamMlstmInRefIdeal.τ).loc Cert.AdamMlstmInRefIdeal.main_arg2) = m ((c.tc : Thread Cert.AdamMlstmInIdeal.nD Cert.AdamMlstmInIdeal.τ).loc Cert.AdamMlstmInIdeal.main_arg2)
      ∧ m' ((c.tc : Thread Cert.AdamMlstmInRefIdeal.nD Cert.AdamMlstmInRefIdeal.τ).loc Cert.AdamMlstmInRefIdeal.main_arg3) = m ((c.tc : Thread Cert.AdamMlstmInIdeal.nD Cert.AdamMlstmInIdeal.τ).loc Cert.AdamMlstmInIdeal.main_arg3)) →
    ∃ (v0 : (c : Dev Cert.AdamMlstmInIdeal.nD) → Buf (Elt Ideal) ((c.tc : Thread Cert.AdamMlstmInIdeal.nD Cert.AdamMlstmInIdeal.τ).loc Cert.AdamMlstmInIdeal.main_v4_0)) (v1 : (c : Dev Cert.AdamMlstmInIdeal.nD) → Buf (Elt Ideal) ((c.tc : Thread Cert.AdamMlstmInIdeal.nD Cert.AdamMlstmInIdeal.τ).loc Cert.AdamMlstmInIdeal.main_v4_1)) (v2 : (c : Dev Cert.AdamMlstmInIdeal.nD) → Buf (Elt Ideal) ((c.tc : Thread Cert.AdamMlstmInIdeal.nD Cert.AdamMlstmInIdeal.τ).loc Cert.AdamMlstmInIdeal.main_v4_2)),
      θ_run (Cert.AdamMlstmInIdeal.defs (F := Ideal)) (onTc (τ := Cert.AdamMlstmInIdeal.τ) (Cert.AdamMlstmInIdeal.main (F := Ideal))) ⟨m, fun _ => 0, g⟩ (fun r => ∀ c : Dev Cert.AdamMlstmInIdeal.nD,
          r.2.mem ((c.tc : Thread Cert.AdamMlstmInIdeal.nD Cert.AdamMlstmInIdeal.τ).loc Cert.AdamMlstmInIdeal.main_v4_0) = v0 c
          ∧ r.2.mem ((c.tc : Thread Cert.AdamMlstmInIdeal.nD Cert.AdamMlstmInIdeal.τ).loc Cert.AdamMlstmInIdeal.main_v4_1) = v1 c
          ∧ r.2.mem ((c.tc : Thread Cert.AdamMlstmInIdeal.nD Cert.AdamMlstmInIdeal.τ).loc Cert.AdamMlstmInIdeal.main_v4_2) = v2 c
          ∧ r.2.mem ((c.tc : Thread Cert.AdamMlstmInIdeal.nD Cert.AdamMlstmInIdeal.τ).loc Cert.AdamMlstmInIdeal.main_arg0) = m ((c.tc : Thread Cert.AdamMlstmInIdeal.nD Cert.AdamMlstmInIdeal.τ).loc Cert.AdamMlstmInIdeal.main_arg0)
          ∧ r.2.mem ((c.tc : Thread Cert.AdamMlstmInIdeal.nD Cert.AdamMlstmInIdeal.τ).loc Cert.AdamMlstmInIdeal.main_arg1) = m ((c.tc : Thread Cert.AdamMlstmInIdeal.nD Cert.AdamMlstmInIdeal.τ).loc Cert.AdamMlstmInIdeal.main_arg1)
          ∧ r.2.mem ((c.tc : Thread Cert.AdamMlstmInIdeal.nD Cert.AdamMlstmInIdeal.τ).loc Cert.AdamMlstmInIdeal.main_arg2) = m ((c.tc : Thread Cert.AdamMlstmInIdeal.nD Cert.AdamMlstmInIdeal.τ).loc Cert.AdamMlstmInIdeal.main_arg2)
          ∧ r.2.mem ((c.tc : Thread Cert.AdamMlstmInIdeal.nD Cert.AdamMlstmInIdeal.τ).loc Cert.AdamMlstmInIdeal.main_arg3) = m ((c.tc : Thread Cert.AdamMlstmInIdeal.nD Cert.AdamMlstmInIdeal.τ).loc Cert.AdamMlstmInIdeal.main_arg3))
      ∧ θ_run (Cert.AdamMlstmInRefIdeal.defs (F := Ideal)) (onTc (τ := Cert.AdamMlstmInRefIdeal.τ) (Cert.AdamMlstmInRefIdeal.main (F := Ideal))) ⟨m', fun _ => 0, g'⟩ (fun r => ∀ c : Dev Cert.AdamMlstmInRefIdeal.nD,
          r.2.mem ((c.tc : Thread Cert.AdamMlstmInRefIdeal.nD Cert.AdamMlstmInRefIdeal.τ).loc Cert.AdamMlstmInRefIdeal.main_v24) = v0 c
          ∧ r.2.mem ((c.tc : Thread Cert.AdamMlstmInRefIdeal.nD Cert.AdamMlstmInRefIdeal.τ).loc Cert.AdamMlstmInRefIdeal.main_v25) = v1 c
          ∧ r.2.mem ((c.tc : Thread Cert.AdamMlstmInRefIdeal.nD Cert.AdamMlstmInRefIdeal.τ).loc Cert.AdamMlstmInRefIdeal.main_v26) = v2 c
          ∧ r.2.mem ((c.tc : Thread Cert.AdamMlstmInRefIdeal.nD Cert.AdamMlstmInRefIdeal.τ).loc Cert.AdamMlstmInRefIdeal.main_arg0) = m' ((c.tc : Thread Cert.AdamMlstmInRefIdeal.nD Cert.AdamMlstmInRefIdeal.τ).loc Cert.AdamMlstmInRefIdeal.main_arg0)
          ∧ r.2.mem ((c.tc : Thread Cert.AdamMlstmInRefIdeal.nD Cert.AdamMlstmInRefIdeal.τ).loc Cert.AdamMlstmInRefIdeal.main_arg1) = m' ((c.tc : Thread Cert.AdamMlstmInRefIdeal.nD Cert.AdamMlstmInRefIdeal.τ).loc Cert.AdamMlstmInRefIdeal.main_arg1)
          ∧ r.2.mem ((c.tc : Thread Cert.AdamMlstmInRefIdeal.nD Cert.AdamMlstmInRefIdeal.τ).loc Cert.AdamMlstmInRefIdeal.main_arg2) = m' ((c.tc : Thread Cert.AdamMlstmInRefIdeal.nD Cert.AdamMlstmInRefIdeal.τ).loc Cert.AdamMlstmInRefIdeal.main_arg2)
          ∧ r.2.mem ((c.tc : Thread Cert.AdamMlstmInRefIdeal.nD Cert.AdamMlstmInRefIdeal.τ).loc Cert.AdamMlstmInRefIdeal.main_arg3) = m' ((c.tc : Thread Cert.AdamMlstmInRefIdeal.nD Cert.AdamMlstmInRefIdeal.τ).loc Cert.AdamMlstmInRefIdeal.main_arg3))

def preserves_AdamSquareOut_AdamSquareOutIdeal : Prop :=
  True

def algebraic_AdamSquareOutIdeal_AdamSquareOutRefIdeal [hAdamSquareOutIdeal : Cert.AdamSquareOutIdeal.Facts] [hAdamSquareOutRefIdeal : Cert.AdamSquareOutRefIdeal.Facts] : Prop :=
  ∀ (m : (ℓ : Loc Cert.AdamSquareOutIdeal.nD Cert.AdamSquareOutIdeal.τ Cert.AdamSquareOutIdeal.sig) → Buf (Elt Ideal) ℓ) (g : Dev Cert.AdamSquareOutIdeal.nD → PrngReg)
    (m' : (ℓ : Loc Cert.AdamSquareOutRefIdeal.nD Cert.AdamSquareOutRefIdeal.τ Cert.AdamSquareOutRefIdeal.sig) → Buf (Elt Ideal) ℓ) (g' : Dev Cert.AdamSquareOutRefIdeal.nD → PrngReg), Pre_AdamSquareOutIdeal m →
    (∀ c : Dev Cert.AdamSquareOutIdeal.nD,
      m' ((c.tc : Thread Cert.AdamSquareOutRefIdeal.nD Cert.AdamSquareOutRefIdeal.τ).loc Cert.AdamSquareOutRefIdeal.main_arg0) = m ((c.tc : Thread Cert.AdamSquareOutIdeal.nD Cert.AdamSquareOutIdeal.τ).loc Cert.AdamSquareOutIdeal.main_arg0)
      ∧ m' ((c.tc : Thread Cert.AdamSquareOutRefIdeal.nD Cert.AdamSquareOutRefIdeal.τ).loc Cert.AdamSquareOutRefIdeal.main_arg1) = m ((c.tc : Thread Cert.AdamSquareOutIdeal.nD Cert.AdamSquareOutIdeal.τ).loc Cert.AdamSquareOutIdeal.main_arg1)
      ∧ m' ((c.tc : Thread Cert.AdamSquareOutRefIdeal.nD Cert.AdamSquareOutRefIdeal.τ).loc Cert.AdamSquareOutRefIdeal.main_arg2) = m ((c.tc : Thread Cert.AdamSquareOutIdeal.nD Cert.AdamSquareOutIdeal.τ).loc Cert.AdamSquareOutIdeal.main_arg2)
      ∧ m' ((c.tc : Thread Cert.AdamSquareOutRefIdeal.nD Cert.AdamSquareOutRefIdeal.τ).loc Cert.AdamSquareOutRefIdeal.main_arg3) = m ((c.tc : Thread Cert.AdamSquareOutIdeal.nD Cert.AdamSquareOutIdeal.τ).loc Cert.AdamSquareOutIdeal.main_arg3)) →
    ∃ (v0 : (c : Dev Cert.AdamSquareOutIdeal.nD) → Buf (Elt Ideal) ((c.tc : Thread Cert.AdamSquareOutIdeal.nD Cert.AdamSquareOutIdeal.τ).loc Cert.AdamSquareOutIdeal.main_v4_0)) (v1 : (c : Dev Cert.AdamSquareOutIdeal.nD) → Buf (Elt Ideal) ((c.tc : Thread Cert.AdamSquareOutIdeal.nD Cert.AdamSquareOutIdeal.τ).loc Cert.AdamSquareOutIdeal.main_v4_1)) (v2 : (c : Dev Cert.AdamSquareOutIdeal.nD) → Buf (Elt Ideal) ((c.tc : Thread Cert.AdamSquareOutIdeal.nD Cert.AdamSquareOutIdeal.τ).loc Cert.AdamSquareOutIdeal.main_v4_2)),
      θ_run (Cert.AdamSquareOutIdeal.defs (F := Ideal)) (onTc (τ := Cert.AdamSquareOutIdeal.τ) (Cert.AdamSquareOutIdeal.main (F := Ideal))) ⟨m, fun _ => 0, g⟩ (fun r => ∀ c : Dev Cert.AdamSquareOutIdeal.nD,
          r.2.mem ((c.tc : Thread Cert.AdamSquareOutIdeal.nD Cert.AdamSquareOutIdeal.τ).loc Cert.AdamSquareOutIdeal.main_v4_0) = v0 c
          ∧ r.2.mem ((c.tc : Thread Cert.AdamSquareOutIdeal.nD Cert.AdamSquareOutIdeal.τ).loc Cert.AdamSquareOutIdeal.main_v4_1) = v1 c
          ∧ r.2.mem ((c.tc : Thread Cert.AdamSquareOutIdeal.nD Cert.AdamSquareOutIdeal.τ).loc Cert.AdamSquareOutIdeal.main_v4_2) = v2 c
          ∧ r.2.mem ((c.tc : Thread Cert.AdamSquareOutIdeal.nD Cert.AdamSquareOutIdeal.τ).loc Cert.AdamSquareOutIdeal.main_arg0) = m ((c.tc : Thread Cert.AdamSquareOutIdeal.nD Cert.AdamSquareOutIdeal.τ).loc Cert.AdamSquareOutIdeal.main_arg0)
          ∧ r.2.mem ((c.tc : Thread Cert.AdamSquareOutIdeal.nD Cert.AdamSquareOutIdeal.τ).loc Cert.AdamSquareOutIdeal.main_arg1) = m ((c.tc : Thread Cert.AdamSquareOutIdeal.nD Cert.AdamSquareOutIdeal.τ).loc Cert.AdamSquareOutIdeal.main_arg1)
          ∧ r.2.mem ((c.tc : Thread Cert.AdamSquareOutIdeal.nD Cert.AdamSquareOutIdeal.τ).loc Cert.AdamSquareOutIdeal.main_arg2) = m ((c.tc : Thread Cert.AdamSquareOutIdeal.nD Cert.AdamSquareOutIdeal.τ).loc Cert.AdamSquareOutIdeal.main_arg2)
          ∧ r.2.mem ((c.tc : Thread Cert.AdamSquareOutIdeal.nD Cert.AdamSquareOutIdeal.τ).loc Cert.AdamSquareOutIdeal.main_arg3) = m ((c.tc : Thread Cert.AdamSquareOutIdeal.nD Cert.AdamSquareOutIdeal.τ).loc Cert.AdamSquareOutIdeal.main_arg3))
      ∧ θ_run (Cert.AdamSquareOutRefIdeal.defs (F := Ideal)) (onTc (τ := Cert.AdamSquareOutRefIdeal.τ) (Cert.AdamSquareOutRefIdeal.main (F := Ideal))) ⟨m', fun _ => 0, g'⟩ (fun r => ∀ c : Dev Cert.AdamSquareOutRefIdeal.nD,
          r.2.mem ((c.tc : Thread Cert.AdamSquareOutRefIdeal.nD Cert.AdamSquareOutRefIdeal.τ).loc Cert.AdamSquareOutRefIdeal.main_v24) = v0 c
          ∧ r.2.mem ((c.tc : Thread Cert.AdamSquareOutRefIdeal.nD Cert.AdamSquareOutRefIdeal.τ).loc Cert.AdamSquareOutRefIdeal.main_v25) = v1 c
          ∧ r.2.mem ((c.tc : Thread Cert.AdamSquareOutRefIdeal.nD Cert.AdamSquareOutRefIdeal.τ).loc Cert.AdamSquareOutRefIdeal.main_v26) = v2 c
          ∧ r.2.mem ((c.tc : Thread Cert.AdamSquareOutRefIdeal.nD Cert.AdamSquareOutRefIdeal.τ).loc Cert.AdamSquareOutRefIdeal.main_arg0) = m' ((c.tc : Thread Cert.AdamSquareOutRefIdeal.nD Cert.AdamSquareOutRefIdeal.τ).loc Cert.AdamSquareOutRefIdeal.main_arg0)
          ∧ r.2.mem ((c.tc : Thread Cert.AdamSquareOutRefIdeal.nD Cert.AdamSquareOutRefIdeal.τ).loc Cert.AdamSquareOutRefIdeal.main_arg1) = m' ((c.tc : Thread Cert.AdamSquareOutRefIdeal.nD Cert.AdamSquareOutRefIdeal.τ).loc Cert.AdamSquareOutRefIdeal.main_arg1)
          ∧ r.2.mem ((c.tc : Thread Cert.AdamSquareOutRefIdeal.nD Cert.AdamSquareOutRefIdeal.τ).loc Cert.AdamSquareOutRefIdeal.main_arg2) = m' ((c.tc : Thread Cert.AdamSquareOutRefIdeal.nD Cert.AdamSquareOutRefIdeal.τ).loc Cert.AdamSquareOutRefIdeal.main_arg2)
          ∧ r.2.mem ((c.tc : Thread Cert.AdamSquareOutRefIdeal.nD Cert.AdamSquareOutRefIdeal.τ).loc Cert.AdamSquareOutRefIdeal.main_arg3) = m' ((c.tc : Thread Cert.AdamSquareOutRefIdeal.nD Cert.AdamSquareOutRefIdeal.τ).loc Cert.AdamSquareOutRefIdeal.main_arg3))

def preserves_AdamMlstmBias_AdamMlstmBiasIdeal : Prop :=
  True

def algebraic_AdamMlstmBiasIdeal_AdamMlstmBiasRefIdeal [hAdamMlstmBiasIdeal : Cert.AdamMlstmBiasIdeal.Facts] [hAdamMlstmBiasRefIdeal : Cert.AdamMlstmBiasRefIdeal.Facts] : Prop :=
  ∀ (m : (ℓ : Loc Cert.AdamMlstmBiasIdeal.nD Cert.AdamMlstmBiasIdeal.τ Cert.AdamMlstmBiasIdeal.sig) → Buf (Elt Ideal) ℓ) (g : Dev Cert.AdamMlstmBiasIdeal.nD → PrngReg)
    (m' : (ℓ : Loc Cert.AdamMlstmBiasRefIdeal.nD Cert.AdamMlstmBiasRefIdeal.τ Cert.AdamMlstmBiasRefIdeal.sig) → Buf (Elt Ideal) ℓ) (g' : Dev Cert.AdamMlstmBiasRefIdeal.nD → PrngReg), Pre_AdamMlstmBiasIdeal m →
    (∀ c : Dev Cert.AdamMlstmBiasIdeal.nD,
      m' ((c.tc : Thread Cert.AdamMlstmBiasRefIdeal.nD Cert.AdamMlstmBiasRefIdeal.τ).loc Cert.AdamMlstmBiasRefIdeal.main_arg0) = m ((c.tc : Thread Cert.AdamMlstmBiasIdeal.nD Cert.AdamMlstmBiasIdeal.τ).loc Cert.AdamMlstmBiasIdeal.main_arg0)
      ∧ m' ((c.tc : Thread Cert.AdamMlstmBiasRefIdeal.nD Cert.AdamMlstmBiasRefIdeal.τ).loc Cert.AdamMlstmBiasRefIdeal.main_arg1) = m ((c.tc : Thread Cert.AdamMlstmBiasIdeal.nD Cert.AdamMlstmBiasIdeal.τ).loc Cert.AdamMlstmBiasIdeal.main_arg1)
      ∧ m' ((c.tc : Thread Cert.AdamMlstmBiasRefIdeal.nD Cert.AdamMlstmBiasRefIdeal.τ).loc Cert.AdamMlstmBiasRefIdeal.main_arg2) = m ((c.tc : Thread Cert.AdamMlstmBiasIdeal.nD Cert.AdamMlstmBiasIdeal.τ).loc Cert.AdamMlstmBiasIdeal.main_arg2)
      ∧ m' ((c.tc : Thread Cert.AdamMlstmBiasRefIdeal.nD Cert.AdamMlstmBiasRefIdeal.τ).loc Cert.AdamMlstmBiasRefIdeal.main_arg3) = m ((c.tc : Thread Cert.AdamMlstmBiasIdeal.nD Cert.AdamMlstmBiasIdeal.τ).loc Cert.AdamMlstmBiasIdeal.main_arg3)) →
    ∃ (v0 : (c : Dev Cert.AdamMlstmBiasIdeal.nD) → Buf (Elt Ideal) ((c.tc : Thread Cert.AdamMlstmBiasIdeal.nD Cert.AdamMlstmBiasIdeal.τ).loc Cert.AdamMlstmBiasIdeal.main_v0_0)) (v1 : (c : Dev Cert.AdamMlstmBiasIdeal.nD) → Buf (Elt Ideal) ((c.tc : Thread Cert.AdamMlstmBiasIdeal.nD Cert.AdamMlstmBiasIdeal.τ).loc Cert.AdamMlstmBiasIdeal.main_v0_1)) (v2 : (c : Dev Cert.AdamMlstmBiasIdeal.nD) → Buf (Elt Ideal) ((c.tc : Thread Cert.AdamMlstmBiasIdeal.nD Cert.AdamMlstmBiasIdeal.τ).loc Cert.AdamMlstmBiasIdeal.main_v0_2)),
      θ_run (Cert.AdamMlstmBiasIdeal.defs (F := Ideal)) (onTc (τ := Cert.AdamMlstmBiasIdeal.τ) (Cert.AdamMlstmBiasIdeal.main (F := Ideal))) ⟨m, fun _ => 0, g⟩ (fun r => ∀ c : Dev Cert.AdamMlstmBiasIdeal.nD,
          r.2.mem ((c.tc : Thread Cert.AdamMlstmBiasIdeal.nD Cert.AdamMlstmBiasIdeal.τ).loc Cert.AdamMlstmBiasIdeal.main_v0_0) = v0 c
          ∧ r.2.mem ((c.tc : Thread Cert.AdamMlstmBiasIdeal.nD Cert.AdamMlstmBiasIdeal.τ).loc Cert.AdamMlstmBiasIdeal.main_v0_1) = v1 c
          ∧ r.2.mem ((c.tc : Thread Cert.AdamMlstmBiasIdeal.nD Cert.AdamMlstmBiasIdeal.τ).loc Cert.AdamMlstmBiasIdeal.main_v0_2) = v2 c
          ∧ r.2.mem ((c.tc : Thread Cert.AdamMlstmBiasIdeal.nD Cert.AdamMlstmBiasIdeal.τ).loc Cert.AdamMlstmBiasIdeal.main_arg0) = m ((c.tc : Thread Cert.AdamMlstmBiasIdeal.nD Cert.AdamMlstmBiasIdeal.τ).loc Cert.AdamMlstmBiasIdeal.main_arg0)
          ∧ r.2.mem ((c.tc : Thread Cert.AdamMlstmBiasIdeal.nD Cert.AdamMlstmBiasIdeal.τ).loc Cert.AdamMlstmBiasIdeal.main_arg1) = m ((c.tc : Thread Cert.AdamMlstmBiasIdeal.nD Cert.AdamMlstmBiasIdeal.τ).loc Cert.AdamMlstmBiasIdeal.main_arg1)
          ∧ r.2.mem ((c.tc : Thread Cert.AdamMlstmBiasIdeal.nD Cert.AdamMlstmBiasIdeal.τ).loc Cert.AdamMlstmBiasIdeal.main_arg2) = m ((c.tc : Thread Cert.AdamMlstmBiasIdeal.nD Cert.AdamMlstmBiasIdeal.τ).loc Cert.AdamMlstmBiasIdeal.main_arg2)
          ∧ r.2.mem ((c.tc : Thread Cert.AdamMlstmBiasIdeal.nD Cert.AdamMlstmBiasIdeal.τ).loc Cert.AdamMlstmBiasIdeal.main_arg3) = m ((c.tc : Thread Cert.AdamMlstmBiasIdeal.nD Cert.AdamMlstmBiasIdeal.τ).loc Cert.AdamMlstmBiasIdeal.main_arg3))
      ∧ θ_run (Cert.AdamMlstmBiasRefIdeal.defs (F := Ideal)) (onTc (τ := Cert.AdamMlstmBiasRefIdeal.τ) (Cert.AdamMlstmBiasRefIdeal.main (F := Ideal))) ⟨m', fun _ => 0, g'⟩ (fun r => ∀ c : Dev Cert.AdamMlstmBiasRefIdeal.nD,
          r.2.mem ((c.tc : Thread Cert.AdamMlstmBiasRefIdeal.nD Cert.AdamMlstmBiasRefIdeal.τ).loc Cert.AdamMlstmBiasRefIdeal.main_v23) = v0 c
          ∧ r.2.mem ((c.tc : Thread Cert.AdamMlstmBiasRefIdeal.nD Cert.AdamMlstmBiasRefIdeal.τ).loc Cert.AdamMlstmBiasRefIdeal.main_v4) = v1 c
          ∧ r.2.mem ((c.tc : Thread Cert.AdamMlstmBiasRefIdeal.nD Cert.AdamMlstmBiasRefIdeal.τ).loc Cert.AdamMlstmBiasRefIdeal.main_v10) = v2 c
          ∧ r.2.mem ((c.tc : Thread Cert.AdamMlstmBiasRefIdeal.nD Cert.AdamMlstmBiasRefIdeal.τ).loc Cert.AdamMlstmBiasRefIdeal.main_arg0) = m' ((c.tc : Thread Cert.AdamMlstmBiasRefIdeal.nD Cert.AdamMlstmBiasRefIdeal.τ).loc Cert.AdamMlstmBiasRefIdeal.main_arg0)
          ∧ r.2.mem ((c.tc : Thread Cert.AdamMlstmBiasRefIdeal.nD Cert.AdamMlstmBiasRefIdeal.τ).loc Cert.AdamMlstmBiasRefIdeal.main_arg1) = m' ((c.tc : Thread Cert.AdamMlstmBiasRefIdeal.nD Cert.AdamMlstmBiasRefIdeal.τ).loc Cert.AdamMlstmBiasRefIdeal.main_arg1)
          ∧ r.2.mem ((c.tc : Thread Cert.AdamMlstmBiasRefIdeal.nD Cert.AdamMlstmBiasRefIdeal.τ).loc Cert.AdamMlstmBiasRefIdeal.main_arg2) = m' ((c.tc : Thread Cert.AdamMlstmBiasRefIdeal.nD Cert.AdamMlstmBiasRefIdeal.τ).loc Cert.AdamMlstmBiasRefIdeal.main_arg2)
          ∧ r.2.mem ((c.tc : Thread Cert.AdamMlstmBiasRefIdeal.nD Cert.AdamMlstmBiasRefIdeal.τ).loc Cert.AdamMlstmBiasRefIdeal.main_arg3) = m' ((c.tc : Thread Cert.AdamMlstmBiasRefIdeal.nD Cert.AdamMlstmBiasRefIdeal.τ).loc Cert.AdamMlstmBiasRefIdeal.main_arg3))

def preserves_AdamRow2048_AdamRow2048Ideal : Prop :=
  True

def algebraic_AdamRow2048Ideal_AdamRow2048RefIdeal [hAdamRow2048Ideal : Cert.AdamRow2048Ideal.Facts] [hAdamRow2048RefIdeal : Cert.AdamRow2048RefIdeal.Facts] : Prop :=
  ∀ (m : (ℓ : Loc Cert.AdamRow2048Ideal.nD Cert.AdamRow2048Ideal.τ Cert.AdamRow2048Ideal.sig) → Buf (Elt Ideal) ℓ) (g : Dev Cert.AdamRow2048Ideal.nD → PrngReg)
    (m' : (ℓ : Loc Cert.AdamRow2048RefIdeal.nD Cert.AdamRow2048RefIdeal.τ Cert.AdamRow2048RefIdeal.sig) → Buf (Elt Ideal) ℓ) (g' : Dev Cert.AdamRow2048RefIdeal.nD → PrngReg), Pre_AdamRow2048Ideal m →
    (∀ c : Dev Cert.AdamRow2048Ideal.nD,
      m' ((c.tc : Thread Cert.AdamRow2048RefIdeal.nD Cert.AdamRow2048RefIdeal.τ).loc Cert.AdamRow2048RefIdeal.main_arg0) = m ((c.tc : Thread Cert.AdamRow2048Ideal.nD Cert.AdamRow2048Ideal.τ).loc Cert.AdamRow2048Ideal.main_arg0)
      ∧ m' ((c.tc : Thread Cert.AdamRow2048RefIdeal.nD Cert.AdamRow2048RefIdeal.τ).loc Cert.AdamRow2048RefIdeal.main_arg1) = m ((c.tc : Thread Cert.AdamRow2048Ideal.nD Cert.AdamRow2048Ideal.τ).loc Cert.AdamRow2048Ideal.main_arg1)
      ∧ m' ((c.tc : Thread Cert.AdamRow2048RefIdeal.nD Cert.AdamRow2048RefIdeal.τ).loc Cert.AdamRow2048RefIdeal.main_arg2) = m ((c.tc : Thread Cert.AdamRow2048Ideal.nD Cert.AdamRow2048Ideal.τ).loc Cert.AdamRow2048Ideal.main_arg2)
      ∧ m' ((c.tc : Thread Cert.AdamRow2048RefIdeal.nD Cert.AdamRow2048RefIdeal.τ).loc Cert.AdamRow2048RefIdeal.main_arg3) = m ((c.tc : Thread Cert.AdamRow2048Ideal.nD Cert.AdamRow2048Ideal.τ).loc Cert.AdamRow2048Ideal.main_arg3)) →
    ∃ (v0 : (c : Dev Cert.AdamRow2048Ideal.nD) → Buf (Elt Ideal) ((c.tc : Thread Cert.AdamRow2048Ideal.nD Cert.AdamRow2048Ideal.τ).loc Cert.AdamRow2048Ideal.main_v0_0)) (v1 : (c : Dev Cert.AdamRow2048Ideal.nD) → Buf (Elt Ideal) ((c.tc : Thread Cert.AdamRow2048Ideal.nD Cert.AdamRow2048Ideal.τ).loc Cert.AdamRow2048Ideal.main_v0_1)) (v2 : (c : Dev Cert.AdamRow2048Ideal.nD) → Buf (Elt Ideal) ((c.tc : Thread Cert.AdamRow2048Ideal.nD Cert.AdamRow2048Ideal.τ).loc Cert.AdamRow2048Ideal.main_v0_2)),
      θ_run (Cert.AdamRow2048Ideal.defs (F := Ideal)) (onTc (τ := Cert.AdamRow2048Ideal.τ) (Cert.AdamRow2048Ideal.main (F := Ideal))) ⟨m, fun _ => 0, g⟩ (fun r => ∀ c : Dev Cert.AdamRow2048Ideal.nD,
          r.2.mem ((c.tc : Thread Cert.AdamRow2048Ideal.nD Cert.AdamRow2048Ideal.τ).loc Cert.AdamRow2048Ideal.main_v0_0) = v0 c
          ∧ r.2.mem ((c.tc : Thread Cert.AdamRow2048Ideal.nD Cert.AdamRow2048Ideal.τ).loc Cert.AdamRow2048Ideal.main_v0_1) = v1 c
          ∧ r.2.mem ((c.tc : Thread Cert.AdamRow2048Ideal.nD Cert.AdamRow2048Ideal.τ).loc Cert.AdamRow2048Ideal.main_v0_2) = v2 c
          ∧ r.2.mem ((c.tc : Thread Cert.AdamRow2048Ideal.nD Cert.AdamRow2048Ideal.τ).loc Cert.AdamRow2048Ideal.main_arg0) = m ((c.tc : Thread Cert.AdamRow2048Ideal.nD Cert.AdamRow2048Ideal.τ).loc Cert.AdamRow2048Ideal.main_arg0)
          ∧ r.2.mem ((c.tc : Thread Cert.AdamRow2048Ideal.nD Cert.AdamRow2048Ideal.τ).loc Cert.AdamRow2048Ideal.main_arg1) = m ((c.tc : Thread Cert.AdamRow2048Ideal.nD Cert.AdamRow2048Ideal.τ).loc Cert.AdamRow2048Ideal.main_arg1)
          ∧ r.2.mem ((c.tc : Thread Cert.AdamRow2048Ideal.nD Cert.AdamRow2048Ideal.τ).loc Cert.AdamRow2048Ideal.main_arg2) = m ((c.tc : Thread Cert.AdamRow2048Ideal.nD Cert.AdamRow2048Ideal.τ).loc Cert.AdamRow2048Ideal.main_arg2)
          ∧ r.2.mem ((c.tc : Thread Cert.AdamRow2048Ideal.nD Cert.AdamRow2048Ideal.τ).loc Cert.AdamRow2048Ideal.main_arg3) = m ((c.tc : Thread Cert.AdamRow2048Ideal.nD Cert.AdamRow2048Ideal.τ).loc Cert.AdamRow2048Ideal.main_arg3))
      ∧ θ_run (Cert.AdamRow2048RefIdeal.defs (F := Ideal)) (onTc (τ := Cert.AdamRow2048RefIdeal.τ) (Cert.AdamRow2048RefIdeal.main (F := Ideal))) ⟨m', fun _ => 0, g'⟩ (fun r => ∀ c : Dev Cert.AdamRow2048RefIdeal.nD,
          r.2.mem ((c.tc : Thread Cert.AdamRow2048RefIdeal.nD Cert.AdamRow2048RefIdeal.τ).loc Cert.AdamRow2048RefIdeal.main_v23) = v0 c
          ∧ r.2.mem ((c.tc : Thread Cert.AdamRow2048RefIdeal.nD Cert.AdamRow2048RefIdeal.τ).loc Cert.AdamRow2048RefIdeal.main_v4) = v1 c
          ∧ r.2.mem ((c.tc : Thread Cert.AdamRow2048RefIdeal.nD Cert.AdamRow2048RefIdeal.τ).loc Cert.AdamRow2048RefIdeal.main_v10) = v2 c
          ∧ r.2.mem ((c.tc : Thread Cert.AdamRow2048RefIdeal.nD Cert.AdamRow2048RefIdeal.τ).loc Cert.AdamRow2048RefIdeal.main_arg0) = m' ((c.tc : Thread Cert.AdamRow2048RefIdeal.nD Cert.AdamRow2048RefIdeal.τ).loc Cert.AdamRow2048RefIdeal.main_arg0)
          ∧ r.2.mem ((c.tc : Thread Cert.AdamRow2048RefIdeal.nD Cert.AdamRow2048RefIdeal.τ).loc Cert.AdamRow2048RefIdeal.main_arg1) = m' ((c.tc : Thread Cert.AdamRow2048RefIdeal.nD Cert.AdamRow2048RefIdeal.τ).loc Cert.AdamRow2048RefIdeal.main_arg1)
          ∧ r.2.mem ((c.tc : Thread Cert.AdamRow2048RefIdeal.nD Cert.AdamRow2048RefIdeal.τ).loc Cert.AdamRow2048RefIdeal.main_arg2) = m' ((c.tc : Thread Cert.AdamRow2048RefIdeal.nD Cert.AdamRow2048RefIdeal.τ).loc Cert.AdamRow2048RefIdeal.main_arg2)
          ∧ r.2.mem ((c.tc : Thread Cert.AdamRow2048RefIdeal.nD Cert.AdamRow2048RefIdeal.τ).loc Cert.AdamRow2048RefIdeal.main_arg3) = m' ((c.tc : Thread Cert.AdamRow2048RefIdeal.nD Cert.AdamRow2048RefIdeal.τ).loc Cert.AdamRow2048RefIdeal.main_arg3))

def preserves_AdamPoolWeight_AdamPoolWeightIdeal : Prop :=
  True

def algebraic_AdamPoolWeightIdeal_AdamPoolWeightRefIdeal [hAdamPoolWeightIdeal : Cert.AdamPoolWeightIdeal.Facts] [hAdamPoolWeightRefIdeal : Cert.AdamPoolWeightRefIdeal.Facts] : Prop :=
  ∀ (m : (ℓ : Loc Cert.AdamPoolWeightIdeal.nD Cert.AdamPoolWeightIdeal.τ Cert.AdamPoolWeightIdeal.sig) → Buf (Elt Ideal) ℓ) (g : Dev Cert.AdamPoolWeightIdeal.nD → PrngReg)
    (m' : (ℓ : Loc Cert.AdamPoolWeightRefIdeal.nD Cert.AdamPoolWeightRefIdeal.τ Cert.AdamPoolWeightRefIdeal.sig) → Buf (Elt Ideal) ℓ) (g' : Dev Cert.AdamPoolWeightRefIdeal.nD → PrngReg), Pre_AdamPoolWeightIdeal m →
    (∀ c : Dev Cert.AdamPoolWeightIdeal.nD,
      m' ((c.tc : Thread Cert.AdamPoolWeightRefIdeal.nD Cert.AdamPoolWeightRefIdeal.τ).loc Cert.AdamPoolWeightRefIdeal.main_arg0) = m ((c.tc : Thread Cert.AdamPoolWeightIdeal.nD Cert.AdamPoolWeightIdeal.τ).loc Cert.AdamPoolWeightIdeal.main_arg0)
      ∧ m' ((c.tc : Thread Cert.AdamPoolWeightRefIdeal.nD Cert.AdamPoolWeightRefIdeal.τ).loc Cert.AdamPoolWeightRefIdeal.main_arg1) = m ((c.tc : Thread Cert.AdamPoolWeightIdeal.nD Cert.AdamPoolWeightIdeal.τ).loc Cert.AdamPoolWeightIdeal.main_arg1)
      ∧ m' ((c.tc : Thread Cert.AdamPoolWeightRefIdeal.nD Cert.AdamPoolWeightRefIdeal.τ).loc Cert.AdamPoolWeightRefIdeal.main_arg2) = m ((c.tc : Thread Cert.AdamPoolWeightIdeal.nD Cert.AdamPoolWeightIdeal.τ).loc Cert.AdamPoolWeightIdeal.main_arg2)
      ∧ m' ((c.tc : Thread Cert.AdamPoolWeightRefIdeal.nD Cert.AdamPoolWeightRefIdeal.τ).loc Cert.AdamPoolWeightRefIdeal.main_arg3) = m ((c.tc : Thread Cert.AdamPoolWeightIdeal.nD Cert.AdamPoolWeightIdeal.τ).loc Cert.AdamPoolWeightIdeal.main_arg3)) →
    ∃ (v0 : (c : Dev Cert.AdamPoolWeightIdeal.nD) → Buf (Elt Ideal) ((c.tc : Thread Cert.AdamPoolWeightIdeal.nD Cert.AdamPoolWeightIdeal.τ).loc Cert.AdamPoolWeightIdeal.main_v4_0)) (v1 : (c : Dev Cert.AdamPoolWeightIdeal.nD) → Buf (Elt Ideal) ((c.tc : Thread Cert.AdamPoolWeightIdeal.nD Cert.AdamPoolWeightIdeal.τ).loc Cert.AdamPoolWeightIdeal.main_v4_1)) (v2 : (c : Dev Cert.AdamPoolWeightIdeal.nD) → Buf (Elt Ideal) ((c.tc : Thread Cert.AdamPoolWeightIdeal.nD Cert.AdamPoolWeightIdeal.τ).loc Cert.AdamPoolWeightIdeal.main_v4_2)),
      θ_run (Cert.AdamPoolWeightIdeal.defs (F := Ideal)) (onTc (τ := Cert.AdamPoolWeightIdeal.τ) (Cert.AdamPoolWeightIdeal.main (F := Ideal))) ⟨m, fun _ => 0, g⟩ (fun r => ∀ c : Dev Cert.AdamPoolWeightIdeal.nD,
          r.2.mem ((c.tc : Thread Cert.AdamPoolWeightIdeal.nD Cert.AdamPoolWeightIdeal.τ).loc Cert.AdamPoolWeightIdeal.main_v4_0) = v0 c
          ∧ r.2.mem ((c.tc : Thread Cert.AdamPoolWeightIdeal.nD Cert.AdamPoolWeightIdeal.τ).loc Cert.AdamPoolWeightIdeal.main_v4_1) = v1 c
          ∧ r.2.mem ((c.tc : Thread Cert.AdamPoolWeightIdeal.nD Cert.AdamPoolWeightIdeal.τ).loc Cert.AdamPoolWeightIdeal.main_v4_2) = v2 c
          ∧ r.2.mem ((c.tc : Thread Cert.AdamPoolWeightIdeal.nD Cert.AdamPoolWeightIdeal.τ).loc Cert.AdamPoolWeightIdeal.main_arg0) = m ((c.tc : Thread Cert.AdamPoolWeightIdeal.nD Cert.AdamPoolWeightIdeal.τ).loc Cert.AdamPoolWeightIdeal.main_arg0)
          ∧ r.2.mem ((c.tc : Thread Cert.AdamPoolWeightIdeal.nD Cert.AdamPoolWeightIdeal.τ).loc Cert.AdamPoolWeightIdeal.main_arg1) = m ((c.tc : Thread Cert.AdamPoolWeightIdeal.nD Cert.AdamPoolWeightIdeal.τ).loc Cert.AdamPoolWeightIdeal.main_arg1)
          ∧ r.2.mem ((c.tc : Thread Cert.AdamPoolWeightIdeal.nD Cert.AdamPoolWeightIdeal.τ).loc Cert.AdamPoolWeightIdeal.main_arg2) = m ((c.tc : Thread Cert.AdamPoolWeightIdeal.nD Cert.AdamPoolWeightIdeal.τ).loc Cert.AdamPoolWeightIdeal.main_arg2)
          ∧ r.2.mem ((c.tc : Thread Cert.AdamPoolWeightIdeal.nD Cert.AdamPoolWeightIdeal.τ).loc Cert.AdamPoolWeightIdeal.main_arg3) = m ((c.tc : Thread Cert.AdamPoolWeightIdeal.nD Cert.AdamPoolWeightIdeal.τ).loc Cert.AdamPoolWeightIdeal.main_arg3))
      ∧ θ_run (Cert.AdamPoolWeightRefIdeal.defs (F := Ideal)) (onTc (τ := Cert.AdamPoolWeightRefIdeal.τ) (Cert.AdamPoolWeightRefIdeal.main (F := Ideal))) ⟨m', fun _ => 0, g'⟩ (fun r => ∀ c : Dev Cert.AdamPoolWeightRefIdeal.nD,
          r.2.mem ((c.tc : Thread Cert.AdamPoolWeightRefIdeal.nD Cert.AdamPoolWeightRefIdeal.τ).loc Cert.AdamPoolWeightRefIdeal.main_v24) = v0 c
          ∧ r.2.mem ((c.tc : Thread Cert.AdamPoolWeightRefIdeal.nD Cert.AdamPoolWeightRefIdeal.τ).loc Cert.AdamPoolWeightRefIdeal.main_v25) = v1 c
          ∧ r.2.mem ((c.tc : Thread Cert.AdamPoolWeightRefIdeal.nD Cert.AdamPoolWeightRefIdeal.τ).loc Cert.AdamPoolWeightRefIdeal.main_v26) = v2 c
          ∧ r.2.mem ((c.tc : Thread Cert.AdamPoolWeightRefIdeal.nD Cert.AdamPoolWeightRefIdeal.τ).loc Cert.AdamPoolWeightRefIdeal.main_arg0) = m' ((c.tc : Thread Cert.AdamPoolWeightRefIdeal.nD Cert.AdamPoolWeightRefIdeal.τ).loc Cert.AdamPoolWeightRefIdeal.main_arg0)
          ∧ r.2.mem ((c.tc : Thread Cert.AdamPoolWeightRefIdeal.nD Cert.AdamPoolWeightRefIdeal.τ).loc Cert.AdamPoolWeightRefIdeal.main_arg1) = m' ((c.tc : Thread Cert.AdamPoolWeightRefIdeal.nD Cert.AdamPoolWeightRefIdeal.τ).loc Cert.AdamPoolWeightRefIdeal.main_arg1)
          ∧ r.2.mem ((c.tc : Thread Cert.AdamPoolWeightRefIdeal.nD Cert.AdamPoolWeightRefIdeal.τ).loc Cert.AdamPoolWeightRefIdeal.main_arg2) = m' ((c.tc : Thread Cert.AdamPoolWeightRefIdeal.nD Cert.AdamPoolWeightRefIdeal.τ).loc Cert.AdamPoolWeightRefIdeal.main_arg2)
          ∧ r.2.mem ((c.tc : Thread Cert.AdamPoolWeightRefIdeal.nD Cert.AdamPoolWeightRefIdeal.τ).loc Cert.AdamPoolWeightRefIdeal.main_arg3) = m' ((c.tc : Thread Cert.AdamPoolWeightRefIdeal.nD Cert.AdamPoolWeightRefIdeal.τ).loc Cert.AdamPoolWeightRefIdeal.main_arg3))

def preserves_AdamRow512_AdamRow512Ideal : Prop :=
  True

def algebraic_AdamRow512Ideal_AdamRow512RefIdeal [hAdamRow512Ideal : Cert.AdamRow512Ideal.Facts] [hAdamRow512RefIdeal : Cert.AdamRow512RefIdeal.Facts] : Prop :=
  ∀ (m : (ℓ : Loc Cert.AdamRow512Ideal.nD Cert.AdamRow512Ideal.τ Cert.AdamRow512Ideal.sig) → Buf (Elt Ideal) ℓ) (g : Dev Cert.AdamRow512Ideal.nD → PrngReg)
    (m' : (ℓ : Loc Cert.AdamRow512RefIdeal.nD Cert.AdamRow512RefIdeal.τ Cert.AdamRow512RefIdeal.sig) → Buf (Elt Ideal) ℓ) (g' : Dev Cert.AdamRow512RefIdeal.nD → PrngReg), Pre_AdamRow512Ideal m →
    (∀ c : Dev Cert.AdamRow512Ideal.nD,
      m' ((c.tc : Thread Cert.AdamRow512RefIdeal.nD Cert.AdamRow512RefIdeal.τ).loc Cert.AdamRow512RefIdeal.main_arg0) = m ((c.tc : Thread Cert.AdamRow512Ideal.nD Cert.AdamRow512Ideal.τ).loc Cert.AdamRow512Ideal.main_arg0)
      ∧ m' ((c.tc : Thread Cert.AdamRow512RefIdeal.nD Cert.AdamRow512RefIdeal.τ).loc Cert.AdamRow512RefIdeal.main_arg1) = m ((c.tc : Thread Cert.AdamRow512Ideal.nD Cert.AdamRow512Ideal.τ).loc Cert.AdamRow512Ideal.main_arg1)
      ∧ m' ((c.tc : Thread Cert.AdamRow512RefIdeal.nD Cert.AdamRow512RefIdeal.τ).loc Cert.AdamRow512RefIdeal.main_arg2) = m ((c.tc : Thread Cert.AdamRow512Ideal.nD Cert.AdamRow512Ideal.τ).loc Cert.AdamRow512Ideal.main_arg2)
      ∧ m' ((c.tc : Thread Cert.AdamRow512RefIdeal.nD Cert.AdamRow512RefIdeal.τ).loc Cert.AdamRow512RefIdeal.main_arg3) = m ((c.tc : Thread Cert.AdamRow512Ideal.nD Cert.AdamRow512Ideal.τ).loc Cert.AdamRow512Ideal.main_arg3)) →
    ∃ (v0 : (c : Dev Cert.AdamRow512Ideal.nD) → Buf (Elt Ideal) ((c.tc : Thread Cert.AdamRow512Ideal.nD Cert.AdamRow512Ideal.τ).loc Cert.AdamRow512Ideal.main_v0_0)) (v1 : (c : Dev Cert.AdamRow512Ideal.nD) → Buf (Elt Ideal) ((c.tc : Thread Cert.AdamRow512Ideal.nD Cert.AdamRow512Ideal.τ).loc Cert.AdamRow512Ideal.main_v0_1)) (v2 : (c : Dev Cert.AdamRow512Ideal.nD) → Buf (Elt Ideal) ((c.tc : Thread Cert.AdamRow512Ideal.nD Cert.AdamRow512Ideal.τ).loc Cert.AdamRow512Ideal.main_v0_2)),
      θ_run (Cert.AdamRow512Ideal.defs (F := Ideal)) (onTc (τ := Cert.AdamRow512Ideal.τ) (Cert.AdamRow512Ideal.main (F := Ideal))) ⟨m, fun _ => 0, g⟩ (fun r => ∀ c : Dev Cert.AdamRow512Ideal.nD,
          r.2.mem ((c.tc : Thread Cert.AdamRow512Ideal.nD Cert.AdamRow512Ideal.τ).loc Cert.AdamRow512Ideal.main_v0_0) = v0 c
          ∧ r.2.mem ((c.tc : Thread Cert.AdamRow512Ideal.nD Cert.AdamRow512Ideal.τ).loc Cert.AdamRow512Ideal.main_v0_1) = v1 c
          ∧ r.2.mem ((c.tc : Thread Cert.AdamRow512Ideal.nD Cert.AdamRow512Ideal.τ).loc Cert.AdamRow512Ideal.main_v0_2) = v2 c
          ∧ r.2.mem ((c.tc : Thread Cert.AdamRow512Ideal.nD Cert.AdamRow512Ideal.τ).loc Cert.AdamRow512Ideal.main_arg0) = m ((c.tc : Thread Cert.AdamRow512Ideal.nD Cert.AdamRow512Ideal.τ).loc Cert.AdamRow512Ideal.main_arg0)
          ∧ r.2.mem ((c.tc : Thread Cert.AdamRow512Ideal.nD Cert.AdamRow512Ideal.τ).loc Cert.AdamRow512Ideal.main_arg1) = m ((c.tc : Thread Cert.AdamRow512Ideal.nD Cert.AdamRow512Ideal.τ).loc Cert.AdamRow512Ideal.main_arg1)
          ∧ r.2.mem ((c.tc : Thread Cert.AdamRow512Ideal.nD Cert.AdamRow512Ideal.τ).loc Cert.AdamRow512Ideal.main_arg2) = m ((c.tc : Thread Cert.AdamRow512Ideal.nD Cert.AdamRow512Ideal.τ).loc Cert.AdamRow512Ideal.main_arg2)
          ∧ r.2.mem ((c.tc : Thread Cert.AdamRow512Ideal.nD Cert.AdamRow512Ideal.τ).loc Cert.AdamRow512Ideal.main_arg3) = m ((c.tc : Thread Cert.AdamRow512Ideal.nD Cert.AdamRow512Ideal.τ).loc Cert.AdamRow512Ideal.main_arg3))
      ∧ θ_run (Cert.AdamRow512RefIdeal.defs (F := Ideal)) (onTc (τ := Cert.AdamRow512RefIdeal.τ) (Cert.AdamRow512RefIdeal.main (F := Ideal))) ⟨m', fun _ => 0, g'⟩ (fun r => ∀ c : Dev Cert.AdamRow512RefIdeal.nD,
          r.2.mem ((c.tc : Thread Cert.AdamRow512RefIdeal.nD Cert.AdamRow512RefIdeal.τ).loc Cert.AdamRow512RefIdeal.main_v23) = v0 c
          ∧ r.2.mem ((c.tc : Thread Cert.AdamRow512RefIdeal.nD Cert.AdamRow512RefIdeal.τ).loc Cert.AdamRow512RefIdeal.main_v4) = v1 c
          ∧ r.2.mem ((c.tc : Thread Cert.AdamRow512RefIdeal.nD Cert.AdamRow512RefIdeal.τ).loc Cert.AdamRow512RefIdeal.main_v10) = v2 c
          ∧ r.2.mem ((c.tc : Thread Cert.AdamRow512RefIdeal.nD Cert.AdamRow512RefIdeal.τ).loc Cert.AdamRow512RefIdeal.main_arg0) = m' ((c.tc : Thread Cert.AdamRow512RefIdeal.nD Cert.AdamRow512RefIdeal.τ).loc Cert.AdamRow512RefIdeal.main_arg0)
          ∧ r.2.mem ((c.tc : Thread Cert.AdamRow512RefIdeal.nD Cert.AdamRow512RefIdeal.τ).loc Cert.AdamRow512RefIdeal.main_arg1) = m' ((c.tc : Thread Cert.AdamRow512RefIdeal.nD Cert.AdamRow512RefIdeal.τ).loc Cert.AdamRow512RefIdeal.main_arg1)
          ∧ r.2.mem ((c.tc : Thread Cert.AdamRow512RefIdeal.nD Cert.AdamRow512RefIdeal.τ).loc Cert.AdamRow512RefIdeal.main_arg2) = m' ((c.tc : Thread Cert.AdamRow512RefIdeal.nD Cert.AdamRow512RefIdeal.τ).loc Cert.AdamRow512RefIdeal.main_arg2)
          ∧ r.2.mem ((c.tc : Thread Cert.AdamRow512RefIdeal.nD Cert.AdamRow512RefIdeal.τ).loc Cert.AdamRow512RefIdeal.main_arg3) = m' ((c.tc : Thread Cert.AdamRow512RefIdeal.nD Cert.AdamRow512RefIdeal.τ).loc Cert.AdamRow512RefIdeal.main_arg3))

def preserves_AdamGdnIn_AdamGdnInIdeal : Prop :=
  True

def algebraic_AdamGdnInIdeal_AdamGdnInRefIdeal [hAdamGdnInIdeal : Cert.AdamGdnInIdeal.Facts] [hAdamGdnInRefIdeal : Cert.AdamGdnInRefIdeal.Facts] : Prop :=
  ∀ (m : (ℓ : Loc Cert.AdamGdnInIdeal.nD Cert.AdamGdnInIdeal.τ Cert.AdamGdnInIdeal.sig) → Buf (Elt Ideal) ℓ) (g : Dev Cert.AdamGdnInIdeal.nD → PrngReg)
    (m' : (ℓ : Loc Cert.AdamGdnInRefIdeal.nD Cert.AdamGdnInRefIdeal.τ Cert.AdamGdnInRefIdeal.sig) → Buf (Elt Ideal) ℓ) (g' : Dev Cert.AdamGdnInRefIdeal.nD → PrngReg), Pre_AdamGdnInIdeal m →
    (∀ c : Dev Cert.AdamGdnInIdeal.nD,
      m' ((c.tc : Thread Cert.AdamGdnInRefIdeal.nD Cert.AdamGdnInRefIdeal.τ).loc Cert.AdamGdnInRefIdeal.main_arg0) = m ((c.tc : Thread Cert.AdamGdnInIdeal.nD Cert.AdamGdnInIdeal.τ).loc Cert.AdamGdnInIdeal.main_arg0)
      ∧ m' ((c.tc : Thread Cert.AdamGdnInRefIdeal.nD Cert.AdamGdnInRefIdeal.τ).loc Cert.AdamGdnInRefIdeal.main_arg1) = m ((c.tc : Thread Cert.AdamGdnInIdeal.nD Cert.AdamGdnInIdeal.τ).loc Cert.AdamGdnInIdeal.main_arg1)
      ∧ m' ((c.tc : Thread Cert.AdamGdnInRefIdeal.nD Cert.AdamGdnInRefIdeal.τ).loc Cert.AdamGdnInRefIdeal.main_arg2) = m ((c.tc : Thread Cert.AdamGdnInIdeal.nD Cert.AdamGdnInIdeal.τ).loc Cert.AdamGdnInIdeal.main_arg2)
      ∧ m' ((c.tc : Thread Cert.AdamGdnInRefIdeal.nD Cert.AdamGdnInRefIdeal.τ).loc Cert.AdamGdnInRefIdeal.main_arg3) = m ((c.tc : Thread Cert.AdamGdnInIdeal.nD Cert.AdamGdnInIdeal.τ).loc Cert.AdamGdnInIdeal.main_arg3)) →
    ∃ (v0 : (c : Dev Cert.AdamGdnInIdeal.nD) → Buf (Elt Ideal) ((c.tc : Thread Cert.AdamGdnInIdeal.nD Cert.AdamGdnInIdeal.τ).loc Cert.AdamGdnInIdeal.main_v4_0)) (v1 : (c : Dev Cert.AdamGdnInIdeal.nD) → Buf (Elt Ideal) ((c.tc : Thread Cert.AdamGdnInIdeal.nD Cert.AdamGdnInIdeal.τ).loc Cert.AdamGdnInIdeal.main_v4_1)) (v2 : (c : Dev Cert.AdamGdnInIdeal.nD) → Buf (Elt Ideal) ((c.tc : Thread Cert.AdamGdnInIdeal.nD Cert.AdamGdnInIdeal.τ).loc Cert.AdamGdnInIdeal.main_v4_2)),
      θ_run (Cert.AdamGdnInIdeal.defs (F := Ideal)) (onTc (τ := Cert.AdamGdnInIdeal.τ) (Cert.AdamGdnInIdeal.main (F := Ideal))) ⟨m, fun _ => 0, g⟩ (fun r => ∀ c : Dev Cert.AdamGdnInIdeal.nD,
          r.2.mem ((c.tc : Thread Cert.AdamGdnInIdeal.nD Cert.AdamGdnInIdeal.τ).loc Cert.AdamGdnInIdeal.main_v4_0) = v0 c
          ∧ r.2.mem ((c.tc : Thread Cert.AdamGdnInIdeal.nD Cert.AdamGdnInIdeal.τ).loc Cert.AdamGdnInIdeal.main_v4_1) = v1 c
          ∧ r.2.mem ((c.tc : Thread Cert.AdamGdnInIdeal.nD Cert.AdamGdnInIdeal.τ).loc Cert.AdamGdnInIdeal.main_v4_2) = v2 c
          ∧ r.2.mem ((c.tc : Thread Cert.AdamGdnInIdeal.nD Cert.AdamGdnInIdeal.τ).loc Cert.AdamGdnInIdeal.main_arg0) = m ((c.tc : Thread Cert.AdamGdnInIdeal.nD Cert.AdamGdnInIdeal.τ).loc Cert.AdamGdnInIdeal.main_arg0)
          ∧ r.2.mem ((c.tc : Thread Cert.AdamGdnInIdeal.nD Cert.AdamGdnInIdeal.τ).loc Cert.AdamGdnInIdeal.main_arg1) = m ((c.tc : Thread Cert.AdamGdnInIdeal.nD Cert.AdamGdnInIdeal.τ).loc Cert.AdamGdnInIdeal.main_arg1)
          ∧ r.2.mem ((c.tc : Thread Cert.AdamGdnInIdeal.nD Cert.AdamGdnInIdeal.τ).loc Cert.AdamGdnInIdeal.main_arg2) = m ((c.tc : Thread Cert.AdamGdnInIdeal.nD Cert.AdamGdnInIdeal.τ).loc Cert.AdamGdnInIdeal.main_arg2)
          ∧ r.2.mem ((c.tc : Thread Cert.AdamGdnInIdeal.nD Cert.AdamGdnInIdeal.τ).loc Cert.AdamGdnInIdeal.main_arg3) = m ((c.tc : Thread Cert.AdamGdnInIdeal.nD Cert.AdamGdnInIdeal.τ).loc Cert.AdamGdnInIdeal.main_arg3))
      ∧ θ_run (Cert.AdamGdnInRefIdeal.defs (F := Ideal)) (onTc (τ := Cert.AdamGdnInRefIdeal.τ) (Cert.AdamGdnInRefIdeal.main (F := Ideal))) ⟨m', fun _ => 0, g'⟩ (fun r => ∀ c : Dev Cert.AdamGdnInRefIdeal.nD,
          r.2.mem ((c.tc : Thread Cert.AdamGdnInRefIdeal.nD Cert.AdamGdnInRefIdeal.τ).loc Cert.AdamGdnInRefIdeal.main_v24) = v0 c
          ∧ r.2.mem ((c.tc : Thread Cert.AdamGdnInRefIdeal.nD Cert.AdamGdnInRefIdeal.τ).loc Cert.AdamGdnInRefIdeal.main_v25) = v1 c
          ∧ r.2.mem ((c.tc : Thread Cert.AdamGdnInRefIdeal.nD Cert.AdamGdnInRefIdeal.τ).loc Cert.AdamGdnInRefIdeal.main_v26) = v2 c
          ∧ r.2.mem ((c.tc : Thread Cert.AdamGdnInRefIdeal.nD Cert.AdamGdnInRefIdeal.τ).loc Cert.AdamGdnInRefIdeal.main_arg0) = m' ((c.tc : Thread Cert.AdamGdnInRefIdeal.nD Cert.AdamGdnInRefIdeal.τ).loc Cert.AdamGdnInRefIdeal.main_arg0)
          ∧ r.2.mem ((c.tc : Thread Cert.AdamGdnInRefIdeal.nD Cert.AdamGdnInRefIdeal.τ).loc Cert.AdamGdnInRefIdeal.main_arg1) = m' ((c.tc : Thread Cert.AdamGdnInRefIdeal.nD Cert.AdamGdnInRefIdeal.τ).loc Cert.AdamGdnInRefIdeal.main_arg1)
          ∧ r.2.mem ((c.tc : Thread Cert.AdamGdnInRefIdeal.nD Cert.AdamGdnInRefIdeal.τ).loc Cert.AdamGdnInRefIdeal.main_arg2) = m' ((c.tc : Thread Cert.AdamGdnInRefIdeal.nD Cert.AdamGdnInRefIdeal.τ).loc Cert.AdamGdnInRefIdeal.main_arg2)
          ∧ r.2.mem ((c.tc : Thread Cert.AdamGdnInRefIdeal.nD Cert.AdamGdnInRefIdeal.τ).loc Cert.AdamGdnInRefIdeal.main_arg3) = m' ((c.tc : Thread Cert.AdamGdnInRefIdeal.nD Cert.AdamGdnInRefIdeal.τ).loc Cert.AdamGdnInRefIdeal.main_arg3))

def preserves_AdamGdnConv_AdamGdnConvIdeal : Prop :=
  True

def algebraic_AdamGdnConvIdeal_AdamGdnConvRefIdeal [hAdamGdnConvIdeal : Cert.AdamGdnConvIdeal.Facts] [hAdamGdnConvRefIdeal : Cert.AdamGdnConvRefIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg)
    (m' : (ℓ : Loc Cert.AdamGdnConvRefIdeal.nD Cert.AdamGdnConvRefIdeal.τ Cert.AdamGdnConvRefIdeal.sig) → Buf (Elt Ideal) ℓ) (g' : Dev Cert.AdamGdnConvRefIdeal.nD → PrngReg), Pre_AdamGdnConvIdeal m →
    (∀ c : Dev Cert.AdamGdnConvIdeal.nD,
      m' ((c.tc : Thread Cert.AdamGdnConvRefIdeal.nD Cert.AdamGdnConvRefIdeal.τ).loc Cert.AdamGdnConvRefIdeal.main_arg0) = m ((c.tc : Thread Cert.AdamGdnConvIdeal.nD Cert.AdamGdnConvIdeal.τ).loc Cert.AdamGdnConvIdeal.main_arg0)
      ∧ m' ((c.tc : Thread Cert.AdamGdnConvRefIdeal.nD Cert.AdamGdnConvRefIdeal.τ).loc Cert.AdamGdnConvRefIdeal.main_arg1) = m ((c.tc : Thread Cert.AdamGdnConvIdeal.nD Cert.AdamGdnConvIdeal.τ).loc Cert.AdamGdnConvIdeal.main_arg1)
      ∧ m' ((c.tc : Thread Cert.AdamGdnConvRefIdeal.nD Cert.AdamGdnConvRefIdeal.τ).loc Cert.AdamGdnConvRefIdeal.main_arg2) = m ((c.tc : Thread Cert.AdamGdnConvIdeal.nD Cert.AdamGdnConvIdeal.τ).loc Cert.AdamGdnConvIdeal.main_arg2)
      ∧ m' ((c.tc : Thread Cert.AdamGdnConvRefIdeal.nD Cert.AdamGdnConvRefIdeal.τ).loc Cert.AdamGdnConvRefIdeal.main_arg3) = m ((c.tc : Thread Cert.AdamGdnConvIdeal.nD Cert.AdamGdnConvIdeal.τ).loc Cert.AdamGdnConvIdeal.main_arg3)) →
    ∃ (v0 : (c : Dev Cert.AdamGdnConvIdeal.nD) → Buf (Elt Ideal) ((c.tc : Thread Cert.AdamGdnConvIdeal.nD Cert.AdamGdnConvIdeal.τ).loc Cert.AdamGdnConvIdeal.main_v4_0)) (v1 : (c : Dev Cert.AdamGdnConvIdeal.nD) → Buf (Elt Ideal) ((c.tc : Thread Cert.AdamGdnConvIdeal.nD Cert.AdamGdnConvIdeal.τ).loc Cert.AdamGdnConvIdeal.main_v4_1)) (v2 : (c : Dev Cert.AdamGdnConvIdeal.nD) → Buf (Elt Ideal) ((c.tc : Thread Cert.AdamGdnConvIdeal.nD Cert.AdamGdnConvIdeal.τ).loc Cert.AdamGdnConvIdeal.main_v4_2)),
      θ_run (Cert.AdamGdnConvIdeal.defs (F := Ideal)) (onTc (τ := Cert.AdamGdnConvIdeal.τ) (Cert.AdamGdnConvIdeal.main (F := Ideal))) ⟨m, fun _ => 0, g⟩ (fun r => ∀ c : Dev Cert.AdamGdnConvIdeal.nD,
          r.2.mem ((c.tc : Thread Cert.AdamGdnConvIdeal.nD Cert.AdamGdnConvIdeal.τ).loc Cert.AdamGdnConvIdeal.main_v4_0) = v0 c
          ∧ r.2.mem ((c.tc : Thread Cert.AdamGdnConvIdeal.nD Cert.AdamGdnConvIdeal.τ).loc Cert.AdamGdnConvIdeal.main_v4_1) = v1 c
          ∧ r.2.mem ((c.tc : Thread Cert.AdamGdnConvIdeal.nD Cert.AdamGdnConvIdeal.τ).loc Cert.AdamGdnConvIdeal.main_v4_2) = v2 c
          ∧ r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
          ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
          ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
          ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ θ_run (Cert.AdamGdnConvRefIdeal.defs (F := Ideal)) (onTc (τ := Cert.AdamGdnConvRefIdeal.τ) (Cert.AdamGdnConvRefIdeal.main (F := Ideal))) ⟨m', fun _ => 0, g'⟩ (fun r => ∀ c : Dev Cert.AdamGdnConvRefIdeal.nD,
          r.2.mem ((c.tc : Thread Cert.AdamGdnConvRefIdeal.nD Cert.AdamGdnConvRefIdeal.τ).loc Cert.AdamGdnConvRefIdeal.main_v24) = v0 c
          ∧ r.2.mem ((c.tc : Thread Cert.AdamGdnConvRefIdeal.nD Cert.AdamGdnConvRefIdeal.τ).loc Cert.AdamGdnConvRefIdeal.main_v25) = v1 c
          ∧ r.2.mem ((c.tc : Thread Cert.AdamGdnConvRefIdeal.nD Cert.AdamGdnConvRefIdeal.τ).loc Cert.AdamGdnConvRefIdeal.main_v26) = v2 c
          ∧ r.2.mem ((c.tc : Thread Cert.AdamGdnConvRefIdeal.nD Cert.AdamGdnConvRefIdeal.τ).loc Cert.AdamGdnConvRefIdeal.main_arg0) = m' ((c.tc : Thread Cert.AdamGdnConvRefIdeal.nD Cert.AdamGdnConvRefIdeal.τ).loc Cert.AdamGdnConvRefIdeal.main_arg0)
          ∧ r.2.mem ((c.tc : Thread Cert.AdamGdnConvRefIdeal.nD Cert.AdamGdnConvRefIdeal.τ).loc Cert.AdamGdnConvRefIdeal.main_arg1) = m' ((c.tc : Thread Cert.AdamGdnConvRefIdeal.nD Cert.AdamGdnConvRefIdeal.τ).loc Cert.AdamGdnConvRefIdeal.main_arg1)
          ∧ r.2.mem ((c.tc : Thread Cert.AdamGdnConvRefIdeal.nD Cert.AdamGdnConvRefIdeal.τ).loc Cert.AdamGdnConvRefIdeal.main_arg2) = m' ((c.tc : Thread Cert.AdamGdnConvRefIdeal.nD Cert.AdamGdnConvRefIdeal.τ).loc Cert.AdamGdnConvRefIdeal.main_arg2)
          ∧ r.2.mem ((c.tc : Thread Cert.AdamGdnConvRefIdeal.nD Cert.AdamGdnConvRefIdeal.τ).loc Cert.AdamGdnConvRefIdeal.main_arg3) = m' ((c.tc : Thread Cert.AdamGdnConvRefIdeal.nD Cert.AdamGdnConvRefIdeal.τ).loc Cert.AdamGdnConvRefIdeal.main_arg3))

def preserves_AdamRow32_AdamRow32Ideal : Prop :=
  True

def algebraic_AdamRow32Ideal_AdamRow32RefIdeal [hAdamRow32Ideal : Cert.AdamRow32Ideal.Facts] [hAdamRow32RefIdeal : Cert.AdamRow32RefIdeal.Facts] : Prop :=
  ∀ (m : (ℓ : Loc Cert.AdamRow32Ideal.nD Cert.AdamRow32Ideal.τ Cert.AdamRow32Ideal.sig) → Buf (Elt Ideal) ℓ) (g : Dev Cert.AdamRow32Ideal.nD → PrngReg)
    (m' : (ℓ : Loc Cert.AdamRow32RefIdeal.nD Cert.AdamRow32RefIdeal.τ Cert.AdamRow32RefIdeal.sig) → Buf (Elt Ideal) ℓ) (g' : Dev Cert.AdamRow32RefIdeal.nD → PrngReg), Pre_AdamRow32Ideal m →
    (∀ c : Dev Cert.AdamRow32Ideal.nD,
      m' ((c.tc : Thread Cert.AdamRow32RefIdeal.nD Cert.AdamRow32RefIdeal.τ).loc Cert.AdamRow32RefIdeal.main_arg0) = m ((c.tc : Thread Cert.AdamRow32Ideal.nD Cert.AdamRow32Ideal.τ).loc Cert.AdamRow32Ideal.main_arg0)
      ∧ m' ((c.tc : Thread Cert.AdamRow32RefIdeal.nD Cert.AdamRow32RefIdeal.τ).loc Cert.AdamRow32RefIdeal.main_arg1) = m ((c.tc : Thread Cert.AdamRow32Ideal.nD Cert.AdamRow32Ideal.τ).loc Cert.AdamRow32Ideal.main_arg1)
      ∧ m' ((c.tc : Thread Cert.AdamRow32RefIdeal.nD Cert.AdamRow32RefIdeal.τ).loc Cert.AdamRow32RefIdeal.main_arg2) = m ((c.tc : Thread Cert.AdamRow32Ideal.nD Cert.AdamRow32Ideal.τ).loc Cert.AdamRow32Ideal.main_arg2)
      ∧ m' ((c.tc : Thread Cert.AdamRow32RefIdeal.nD Cert.AdamRow32RefIdeal.τ).loc Cert.AdamRow32RefIdeal.main_arg3) = m ((c.tc : Thread Cert.AdamRow32Ideal.nD Cert.AdamRow32Ideal.τ).loc Cert.AdamRow32Ideal.main_arg3)) →
    ∃ (v0 : (c : Dev Cert.AdamRow32Ideal.nD) → Buf (Elt Ideal) ((c.tc : Thread Cert.AdamRow32Ideal.nD Cert.AdamRow32Ideal.τ).loc Cert.AdamRow32Ideal.main_v0_0)) (v1 : (c : Dev Cert.AdamRow32Ideal.nD) → Buf (Elt Ideal) ((c.tc : Thread Cert.AdamRow32Ideal.nD Cert.AdamRow32Ideal.τ).loc Cert.AdamRow32Ideal.main_v0_1)) (v2 : (c : Dev Cert.AdamRow32Ideal.nD) → Buf (Elt Ideal) ((c.tc : Thread Cert.AdamRow32Ideal.nD Cert.AdamRow32Ideal.τ).loc Cert.AdamRow32Ideal.main_v0_2)),
      θ_run (Cert.AdamRow32Ideal.defs (F := Ideal)) (onTc (τ := Cert.AdamRow32Ideal.τ) (Cert.AdamRow32Ideal.main (F := Ideal))) ⟨m, fun _ => 0, g⟩ (fun r => ∀ c : Dev Cert.AdamRow32Ideal.nD,
          r.2.mem ((c.tc : Thread Cert.AdamRow32Ideal.nD Cert.AdamRow32Ideal.τ).loc Cert.AdamRow32Ideal.main_v0_0) = v0 c
          ∧ r.2.mem ((c.tc : Thread Cert.AdamRow32Ideal.nD Cert.AdamRow32Ideal.τ).loc Cert.AdamRow32Ideal.main_v0_1) = v1 c
          ∧ r.2.mem ((c.tc : Thread Cert.AdamRow32Ideal.nD Cert.AdamRow32Ideal.τ).loc Cert.AdamRow32Ideal.main_v0_2) = v2 c
          ∧ r.2.mem ((c.tc : Thread Cert.AdamRow32Ideal.nD Cert.AdamRow32Ideal.τ).loc Cert.AdamRow32Ideal.main_arg0) = m ((c.tc : Thread Cert.AdamRow32Ideal.nD Cert.AdamRow32Ideal.τ).loc Cert.AdamRow32Ideal.main_arg0)
          ∧ r.2.mem ((c.tc : Thread Cert.AdamRow32Ideal.nD Cert.AdamRow32Ideal.τ).loc Cert.AdamRow32Ideal.main_arg1) = m ((c.tc : Thread Cert.AdamRow32Ideal.nD Cert.AdamRow32Ideal.τ).loc Cert.AdamRow32Ideal.main_arg1)
          ∧ r.2.mem ((c.tc : Thread Cert.AdamRow32Ideal.nD Cert.AdamRow32Ideal.τ).loc Cert.AdamRow32Ideal.main_arg2) = m ((c.tc : Thread Cert.AdamRow32Ideal.nD Cert.AdamRow32Ideal.τ).loc Cert.AdamRow32Ideal.main_arg2)
          ∧ r.2.mem ((c.tc : Thread Cert.AdamRow32Ideal.nD Cert.AdamRow32Ideal.τ).loc Cert.AdamRow32Ideal.main_arg3) = m ((c.tc : Thread Cert.AdamRow32Ideal.nD Cert.AdamRow32Ideal.τ).loc Cert.AdamRow32Ideal.main_arg3))
      ∧ θ_run (Cert.AdamRow32RefIdeal.defs (F := Ideal)) (onTc (τ := Cert.AdamRow32RefIdeal.τ) (Cert.AdamRow32RefIdeal.main (F := Ideal))) ⟨m', fun _ => 0, g'⟩ (fun r => ∀ c : Dev Cert.AdamRow32RefIdeal.nD,
          r.2.mem ((c.tc : Thread Cert.AdamRow32RefIdeal.nD Cert.AdamRow32RefIdeal.τ).loc Cert.AdamRow32RefIdeal.main_v23) = v0 c
          ∧ r.2.mem ((c.tc : Thread Cert.AdamRow32RefIdeal.nD Cert.AdamRow32RefIdeal.τ).loc Cert.AdamRow32RefIdeal.main_v4) = v1 c
          ∧ r.2.mem ((c.tc : Thread Cert.AdamRow32RefIdeal.nD Cert.AdamRow32RefIdeal.τ).loc Cert.AdamRow32RefIdeal.main_v10) = v2 c
          ∧ r.2.mem ((c.tc : Thread Cert.AdamRow32RefIdeal.nD Cert.AdamRow32RefIdeal.τ).loc Cert.AdamRow32RefIdeal.main_arg0) = m' ((c.tc : Thread Cert.AdamRow32RefIdeal.nD Cert.AdamRow32RefIdeal.τ).loc Cert.AdamRow32RefIdeal.main_arg0)
          ∧ r.2.mem ((c.tc : Thread Cert.AdamRow32RefIdeal.nD Cert.AdamRow32RefIdeal.τ).loc Cert.AdamRow32RefIdeal.main_arg1) = m' ((c.tc : Thread Cert.AdamRow32RefIdeal.nD Cert.AdamRow32RefIdeal.τ).loc Cert.AdamRow32RefIdeal.main_arg1)
          ∧ r.2.mem ((c.tc : Thread Cert.AdamRow32RefIdeal.nD Cert.AdamRow32RefIdeal.τ).loc Cert.AdamRow32RefIdeal.main_arg2) = m' ((c.tc : Thread Cert.AdamRow32RefIdeal.nD Cert.AdamRow32RefIdeal.τ).loc Cert.AdamRow32RefIdeal.main_arg2)
          ∧ r.2.mem ((c.tc : Thread Cert.AdamRow32RefIdeal.nD Cert.AdamRow32RefIdeal.τ).loc Cert.AdamRow32RefIdeal.main_arg3) = m' ((c.tc : Thread Cert.AdamRow32RefIdeal.nD Cert.AdamRow32RefIdeal.τ).loc Cert.AdamRow32RefIdeal.main_arg3))

def preserves_AdamRow128_AdamRow128Ideal : Prop :=
  True

def algebraic_AdamRow128Ideal_AdamRow128RefIdeal [hAdamRow128Ideal : Cert.AdamRow128Ideal.Facts] [hAdamRow128RefIdeal : Cert.AdamRow128RefIdeal.Facts] : Prop :=
  ∀ (m : (ℓ : Loc Cert.AdamRow128Ideal.nD Cert.AdamRow128Ideal.τ Cert.AdamRow128Ideal.sig) → Buf (Elt Ideal) ℓ) (g : Dev Cert.AdamRow128Ideal.nD → PrngReg)
    (m' : (ℓ : Loc Cert.AdamRow128RefIdeal.nD Cert.AdamRow128RefIdeal.τ Cert.AdamRow128RefIdeal.sig) → Buf (Elt Ideal) ℓ) (g' : Dev Cert.AdamRow128RefIdeal.nD → PrngReg), Pre_AdamRow128Ideal m →
    (∀ c : Dev Cert.AdamRow128Ideal.nD,
      m' ((c.tc : Thread Cert.AdamRow128RefIdeal.nD Cert.AdamRow128RefIdeal.τ).loc Cert.AdamRow128RefIdeal.main_arg0) = m ((c.tc : Thread Cert.AdamRow128Ideal.nD Cert.AdamRow128Ideal.τ).loc Cert.AdamRow128Ideal.main_arg0)
      ∧ m' ((c.tc : Thread Cert.AdamRow128RefIdeal.nD Cert.AdamRow128RefIdeal.τ).loc Cert.AdamRow128RefIdeal.main_arg1) = m ((c.tc : Thread Cert.AdamRow128Ideal.nD Cert.AdamRow128Ideal.τ).loc Cert.AdamRow128Ideal.main_arg1)
      ∧ m' ((c.tc : Thread Cert.AdamRow128RefIdeal.nD Cert.AdamRow128RefIdeal.τ).loc Cert.AdamRow128RefIdeal.main_arg2) = m ((c.tc : Thread Cert.AdamRow128Ideal.nD Cert.AdamRow128Ideal.τ).loc Cert.AdamRow128Ideal.main_arg2)
      ∧ m' ((c.tc : Thread Cert.AdamRow128RefIdeal.nD Cert.AdamRow128RefIdeal.τ).loc Cert.AdamRow128RefIdeal.main_arg3) = m ((c.tc : Thread Cert.AdamRow128Ideal.nD Cert.AdamRow128Ideal.τ).loc Cert.AdamRow128Ideal.main_arg3)) →
    ∃ (v0 : (c : Dev Cert.AdamRow128Ideal.nD) → Buf (Elt Ideal) ((c.tc : Thread Cert.AdamRow128Ideal.nD Cert.AdamRow128Ideal.τ).loc Cert.AdamRow128Ideal.main_v0_0)) (v1 : (c : Dev Cert.AdamRow128Ideal.nD) → Buf (Elt Ideal) ((c.tc : Thread Cert.AdamRow128Ideal.nD Cert.AdamRow128Ideal.τ).loc Cert.AdamRow128Ideal.main_v0_1)) (v2 : (c : Dev Cert.AdamRow128Ideal.nD) → Buf (Elt Ideal) ((c.tc : Thread Cert.AdamRow128Ideal.nD Cert.AdamRow128Ideal.τ).loc Cert.AdamRow128Ideal.main_v0_2)),
      θ_run (Cert.AdamRow128Ideal.defs (F := Ideal)) (onTc (τ := Cert.AdamRow128Ideal.τ) (Cert.AdamRow128Ideal.main (F := Ideal))) ⟨m, fun _ => 0, g⟩ (fun r => ∀ c : Dev Cert.AdamRow128Ideal.nD,
          r.2.mem ((c.tc : Thread Cert.AdamRow128Ideal.nD Cert.AdamRow128Ideal.τ).loc Cert.AdamRow128Ideal.main_v0_0) = v0 c
          ∧ r.2.mem ((c.tc : Thread Cert.AdamRow128Ideal.nD Cert.AdamRow128Ideal.τ).loc Cert.AdamRow128Ideal.main_v0_1) = v1 c
          ∧ r.2.mem ((c.tc : Thread Cert.AdamRow128Ideal.nD Cert.AdamRow128Ideal.τ).loc Cert.AdamRow128Ideal.main_v0_2) = v2 c
          ∧ r.2.mem ((c.tc : Thread Cert.AdamRow128Ideal.nD Cert.AdamRow128Ideal.τ).loc Cert.AdamRow128Ideal.main_arg0) = m ((c.tc : Thread Cert.AdamRow128Ideal.nD Cert.AdamRow128Ideal.τ).loc Cert.AdamRow128Ideal.main_arg0)
          ∧ r.2.mem ((c.tc : Thread Cert.AdamRow128Ideal.nD Cert.AdamRow128Ideal.τ).loc Cert.AdamRow128Ideal.main_arg1) = m ((c.tc : Thread Cert.AdamRow128Ideal.nD Cert.AdamRow128Ideal.τ).loc Cert.AdamRow128Ideal.main_arg1)
          ∧ r.2.mem ((c.tc : Thread Cert.AdamRow128Ideal.nD Cert.AdamRow128Ideal.τ).loc Cert.AdamRow128Ideal.main_arg2) = m ((c.tc : Thread Cert.AdamRow128Ideal.nD Cert.AdamRow128Ideal.τ).loc Cert.AdamRow128Ideal.main_arg2)
          ∧ r.2.mem ((c.tc : Thread Cert.AdamRow128Ideal.nD Cert.AdamRow128Ideal.τ).loc Cert.AdamRow128Ideal.main_arg3) = m ((c.tc : Thread Cert.AdamRow128Ideal.nD Cert.AdamRow128Ideal.τ).loc Cert.AdamRow128Ideal.main_arg3))
      ∧ θ_run (Cert.AdamRow128RefIdeal.defs (F := Ideal)) (onTc (τ := Cert.AdamRow128RefIdeal.τ) (Cert.AdamRow128RefIdeal.main (F := Ideal))) ⟨m', fun _ => 0, g'⟩ (fun r => ∀ c : Dev Cert.AdamRow128RefIdeal.nD,
          r.2.mem ((c.tc : Thread Cert.AdamRow128RefIdeal.nD Cert.AdamRow128RefIdeal.τ).loc Cert.AdamRow128RefIdeal.main_v23) = v0 c
          ∧ r.2.mem ((c.tc : Thread Cert.AdamRow128RefIdeal.nD Cert.AdamRow128RefIdeal.τ).loc Cert.AdamRow128RefIdeal.main_v4) = v1 c
          ∧ r.2.mem ((c.tc : Thread Cert.AdamRow128RefIdeal.nD Cert.AdamRow128RefIdeal.τ).loc Cert.AdamRow128RefIdeal.main_v10) = v2 c
          ∧ r.2.mem ((c.tc : Thread Cert.AdamRow128RefIdeal.nD Cert.AdamRow128RefIdeal.τ).loc Cert.AdamRow128RefIdeal.main_arg0) = m' ((c.tc : Thread Cert.AdamRow128RefIdeal.nD Cert.AdamRow128RefIdeal.τ).loc Cert.AdamRow128RefIdeal.main_arg0)
          ∧ r.2.mem ((c.tc : Thread Cert.AdamRow128RefIdeal.nD Cert.AdamRow128RefIdeal.τ).loc Cert.AdamRow128RefIdeal.main_arg1) = m' ((c.tc : Thread Cert.AdamRow128RefIdeal.nD Cert.AdamRow128RefIdeal.τ).loc Cert.AdamRow128RefIdeal.main_arg1)
          ∧ r.2.mem ((c.tc : Thread Cert.AdamRow128RefIdeal.nD Cert.AdamRow128RefIdeal.τ).loc Cert.AdamRow128RefIdeal.main_arg2) = m' ((c.tc : Thread Cert.AdamRow128RefIdeal.nD Cert.AdamRow128RefIdeal.τ).loc Cert.AdamRow128RefIdeal.main_arg2)
          ∧ r.2.mem ((c.tc : Thread Cert.AdamRow128RefIdeal.nD Cert.AdamRow128RefIdeal.τ).loc Cert.AdamRow128RefIdeal.main_arg3) = m' ((c.tc : Thread Cert.AdamRow128RefIdeal.nD Cert.AdamRow128RefIdeal.τ).loc Cert.AdamRow128RefIdeal.main_arg3))

def preserves_AdamGdnOut_AdamGdnOutIdeal : Prop :=
  True

def algebraic_AdamGdnOutIdeal_AdamGdnOutRefIdeal [hAdamGdnOutIdeal : Cert.AdamGdnOutIdeal.Facts] [hAdamGdnOutRefIdeal : Cert.AdamGdnOutRefIdeal.Facts] : Prop :=
  ∀ (m : (ℓ : Loc Cert.AdamGdnOutIdeal.nD Cert.AdamGdnOutIdeal.τ Cert.AdamGdnOutIdeal.sig) → Buf (Elt Ideal) ℓ) (g : Dev Cert.AdamGdnOutIdeal.nD → PrngReg)
    (m' : (ℓ : Loc Cert.AdamGdnOutRefIdeal.nD Cert.AdamGdnOutRefIdeal.τ Cert.AdamGdnOutRefIdeal.sig) → Buf (Elt Ideal) ℓ) (g' : Dev Cert.AdamGdnOutRefIdeal.nD → PrngReg), Pre_AdamGdnOutIdeal m →
    (∀ c : Dev Cert.AdamGdnOutIdeal.nD,
      m' ((c.tc : Thread Cert.AdamGdnOutRefIdeal.nD Cert.AdamGdnOutRefIdeal.τ).loc Cert.AdamGdnOutRefIdeal.main_arg0) = m ((c.tc : Thread Cert.AdamGdnOutIdeal.nD Cert.AdamGdnOutIdeal.τ).loc Cert.AdamGdnOutIdeal.main_arg0)
      ∧ m' ((c.tc : Thread Cert.AdamGdnOutRefIdeal.nD Cert.AdamGdnOutRefIdeal.τ).loc Cert.AdamGdnOutRefIdeal.main_arg1) = m ((c.tc : Thread Cert.AdamGdnOutIdeal.nD Cert.AdamGdnOutIdeal.τ).loc Cert.AdamGdnOutIdeal.main_arg1)
      ∧ m' ((c.tc : Thread Cert.AdamGdnOutRefIdeal.nD Cert.AdamGdnOutRefIdeal.τ).loc Cert.AdamGdnOutRefIdeal.main_arg2) = m ((c.tc : Thread Cert.AdamGdnOutIdeal.nD Cert.AdamGdnOutIdeal.τ).loc Cert.AdamGdnOutIdeal.main_arg2)
      ∧ m' ((c.tc : Thread Cert.AdamGdnOutRefIdeal.nD Cert.AdamGdnOutRefIdeal.τ).loc Cert.AdamGdnOutRefIdeal.main_arg3) = m ((c.tc : Thread Cert.AdamGdnOutIdeal.nD Cert.AdamGdnOutIdeal.τ).loc Cert.AdamGdnOutIdeal.main_arg3)) →
    ∃ (v0 : (c : Dev Cert.AdamGdnOutIdeal.nD) → Buf (Elt Ideal) ((c.tc : Thread Cert.AdamGdnOutIdeal.nD Cert.AdamGdnOutIdeal.τ).loc Cert.AdamGdnOutIdeal.main_v4_0)) (v1 : (c : Dev Cert.AdamGdnOutIdeal.nD) → Buf (Elt Ideal) ((c.tc : Thread Cert.AdamGdnOutIdeal.nD Cert.AdamGdnOutIdeal.τ).loc Cert.AdamGdnOutIdeal.main_v4_1)) (v2 : (c : Dev Cert.AdamGdnOutIdeal.nD) → Buf (Elt Ideal) ((c.tc : Thread Cert.AdamGdnOutIdeal.nD Cert.AdamGdnOutIdeal.τ).loc Cert.AdamGdnOutIdeal.main_v4_2)),
      θ_run (Cert.AdamGdnOutIdeal.defs (F := Ideal)) (onTc (τ := Cert.AdamGdnOutIdeal.τ) (Cert.AdamGdnOutIdeal.main (F := Ideal))) ⟨m, fun _ => 0, g⟩ (fun r => ∀ c : Dev Cert.AdamGdnOutIdeal.nD,
          r.2.mem ((c.tc : Thread Cert.AdamGdnOutIdeal.nD Cert.AdamGdnOutIdeal.τ).loc Cert.AdamGdnOutIdeal.main_v4_0) = v0 c
          ∧ r.2.mem ((c.tc : Thread Cert.AdamGdnOutIdeal.nD Cert.AdamGdnOutIdeal.τ).loc Cert.AdamGdnOutIdeal.main_v4_1) = v1 c
          ∧ r.2.mem ((c.tc : Thread Cert.AdamGdnOutIdeal.nD Cert.AdamGdnOutIdeal.τ).loc Cert.AdamGdnOutIdeal.main_v4_2) = v2 c
          ∧ r.2.mem ((c.tc : Thread Cert.AdamGdnOutIdeal.nD Cert.AdamGdnOutIdeal.τ).loc Cert.AdamGdnOutIdeal.main_arg0) = m ((c.tc : Thread Cert.AdamGdnOutIdeal.nD Cert.AdamGdnOutIdeal.τ).loc Cert.AdamGdnOutIdeal.main_arg0)
          ∧ r.2.mem ((c.tc : Thread Cert.AdamGdnOutIdeal.nD Cert.AdamGdnOutIdeal.τ).loc Cert.AdamGdnOutIdeal.main_arg1) = m ((c.tc : Thread Cert.AdamGdnOutIdeal.nD Cert.AdamGdnOutIdeal.τ).loc Cert.AdamGdnOutIdeal.main_arg1)
          ∧ r.2.mem ((c.tc : Thread Cert.AdamGdnOutIdeal.nD Cert.AdamGdnOutIdeal.τ).loc Cert.AdamGdnOutIdeal.main_arg2) = m ((c.tc : Thread Cert.AdamGdnOutIdeal.nD Cert.AdamGdnOutIdeal.τ).loc Cert.AdamGdnOutIdeal.main_arg2)
          ∧ r.2.mem ((c.tc : Thread Cert.AdamGdnOutIdeal.nD Cert.AdamGdnOutIdeal.τ).loc Cert.AdamGdnOutIdeal.main_arg3) = m ((c.tc : Thread Cert.AdamGdnOutIdeal.nD Cert.AdamGdnOutIdeal.τ).loc Cert.AdamGdnOutIdeal.main_arg3))
      ∧ θ_run (Cert.AdamGdnOutRefIdeal.defs (F := Ideal)) (onTc (τ := Cert.AdamGdnOutRefIdeal.τ) (Cert.AdamGdnOutRefIdeal.main (F := Ideal))) ⟨m', fun _ => 0, g'⟩ (fun r => ∀ c : Dev Cert.AdamGdnOutRefIdeal.nD,
          r.2.mem ((c.tc : Thread Cert.AdamGdnOutRefIdeal.nD Cert.AdamGdnOutRefIdeal.τ).loc Cert.AdamGdnOutRefIdeal.main_v24) = v0 c
          ∧ r.2.mem ((c.tc : Thread Cert.AdamGdnOutRefIdeal.nD Cert.AdamGdnOutRefIdeal.τ).loc Cert.AdamGdnOutRefIdeal.main_v25) = v1 c
          ∧ r.2.mem ((c.tc : Thread Cert.AdamGdnOutRefIdeal.nD Cert.AdamGdnOutRefIdeal.τ).loc Cert.AdamGdnOutRefIdeal.main_v26) = v2 c
          ∧ r.2.mem ((c.tc : Thread Cert.AdamGdnOutRefIdeal.nD Cert.AdamGdnOutRefIdeal.τ).loc Cert.AdamGdnOutRefIdeal.main_arg0) = m' ((c.tc : Thread Cert.AdamGdnOutRefIdeal.nD Cert.AdamGdnOutRefIdeal.τ).loc Cert.AdamGdnOutRefIdeal.main_arg0)
          ∧ r.2.mem ((c.tc : Thread Cert.AdamGdnOutRefIdeal.nD Cert.AdamGdnOutRefIdeal.τ).loc Cert.AdamGdnOutRefIdeal.main_arg1) = m' ((c.tc : Thread Cert.AdamGdnOutRefIdeal.nD Cert.AdamGdnOutRefIdeal.τ).loc Cert.AdamGdnOutRefIdeal.main_arg1)
          ∧ r.2.mem ((c.tc : Thread Cert.AdamGdnOutRefIdeal.nD Cert.AdamGdnOutRefIdeal.τ).loc Cert.AdamGdnOutRefIdeal.main_arg2) = m' ((c.tc : Thread Cert.AdamGdnOutRefIdeal.nD Cert.AdamGdnOutRefIdeal.τ).loc Cert.AdamGdnOutRefIdeal.main_arg2)
          ∧ r.2.mem ((c.tc : Thread Cert.AdamGdnOutRefIdeal.nD Cert.AdamGdnOutRefIdeal.τ).loc Cert.AdamGdnOutRefIdeal.main_arg3) = m' ((c.tc : Thread Cert.AdamGdnOutRefIdeal.nD Cert.AdamGdnOutRefIdeal.τ).loc Cert.AdamGdnOutRefIdeal.main_arg3))

def preserves_AdamSwaIn_AdamSwaInIdeal : Prop :=
  True

def algebraic_AdamSwaInIdeal_AdamSwaInRefIdeal [hAdamSwaInIdeal : Cert.AdamSwaInIdeal.Facts] [hAdamSwaInRefIdeal : Cert.AdamSwaInRefIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg)
    (m' : (ℓ : Loc Cert.AdamSwaInRefIdeal.nD Cert.AdamSwaInRefIdeal.τ Cert.AdamSwaInRefIdeal.sig) → Buf (Elt Ideal) ℓ) (g' : Dev Cert.AdamSwaInRefIdeal.nD → PrngReg), Pre_AdamSwaInIdeal m →
    (∀ c : Dev Cert.AdamSwaInIdeal.nD,
      m' ((c.tc : Thread Cert.AdamSwaInRefIdeal.nD Cert.AdamSwaInRefIdeal.τ).loc Cert.AdamSwaInRefIdeal.main_arg0) = m ((c.tc : Thread Cert.AdamSwaInIdeal.nD Cert.AdamSwaInIdeal.τ).loc Cert.AdamSwaInIdeal.main_arg0)
      ∧ m' ((c.tc : Thread Cert.AdamSwaInRefIdeal.nD Cert.AdamSwaInRefIdeal.τ).loc Cert.AdamSwaInRefIdeal.main_arg1) = m ((c.tc : Thread Cert.AdamSwaInIdeal.nD Cert.AdamSwaInIdeal.τ).loc Cert.AdamSwaInIdeal.main_arg1)
      ∧ m' ((c.tc : Thread Cert.AdamSwaInRefIdeal.nD Cert.AdamSwaInRefIdeal.τ).loc Cert.AdamSwaInRefIdeal.main_arg2) = m ((c.tc : Thread Cert.AdamSwaInIdeal.nD Cert.AdamSwaInIdeal.τ).loc Cert.AdamSwaInIdeal.main_arg2)
      ∧ m' ((c.tc : Thread Cert.AdamSwaInRefIdeal.nD Cert.AdamSwaInRefIdeal.τ).loc Cert.AdamSwaInRefIdeal.main_arg3) = m ((c.tc : Thread Cert.AdamSwaInIdeal.nD Cert.AdamSwaInIdeal.τ).loc Cert.AdamSwaInIdeal.main_arg3)) →
    ∃ (v0 : (c : Dev Cert.AdamSwaInIdeal.nD) → Buf (Elt Ideal) ((c.tc : Thread Cert.AdamSwaInIdeal.nD Cert.AdamSwaInIdeal.τ).loc Cert.AdamSwaInIdeal.main_v4_0)) (v1 : (c : Dev Cert.AdamSwaInIdeal.nD) → Buf (Elt Ideal) ((c.tc : Thread Cert.AdamSwaInIdeal.nD Cert.AdamSwaInIdeal.τ).loc Cert.AdamSwaInIdeal.main_v4_1)) (v2 : (c : Dev Cert.AdamSwaInIdeal.nD) → Buf (Elt Ideal) ((c.tc : Thread Cert.AdamSwaInIdeal.nD Cert.AdamSwaInIdeal.τ).loc Cert.AdamSwaInIdeal.main_v4_2)),
      θ_run (Cert.AdamSwaInIdeal.defs (F := Ideal)) (onTc (τ := Cert.AdamSwaInIdeal.τ) (Cert.AdamSwaInIdeal.main (F := Ideal))) ⟨m, fun _ => 0, g⟩ (fun r => ∀ c : Dev Cert.AdamSwaInIdeal.nD,
          r.2.mem ((c.tc : Thread Cert.AdamSwaInIdeal.nD Cert.AdamSwaInIdeal.τ).loc Cert.AdamSwaInIdeal.main_v4_0) = v0 c
          ∧ r.2.mem ((c.tc : Thread Cert.AdamSwaInIdeal.nD Cert.AdamSwaInIdeal.τ).loc Cert.AdamSwaInIdeal.main_v4_1) = v1 c
          ∧ r.2.mem ((c.tc : Thread Cert.AdamSwaInIdeal.nD Cert.AdamSwaInIdeal.τ).loc Cert.AdamSwaInIdeal.main_v4_2) = v2 c
          ∧ r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
          ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
          ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
          ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3))
      ∧ θ_run (Cert.AdamSwaInRefIdeal.defs (F := Ideal)) (onTc (τ := Cert.AdamSwaInRefIdeal.τ) (Cert.AdamSwaInRefIdeal.main (F := Ideal))) ⟨m', fun _ => 0, g'⟩ (fun r => ∀ c : Dev Cert.AdamSwaInRefIdeal.nD,
          r.2.mem ((c.tc : Thread Cert.AdamSwaInRefIdeal.nD Cert.AdamSwaInRefIdeal.τ).loc Cert.AdamSwaInRefIdeal.main_v24) = v0 c
          ∧ r.2.mem ((c.tc : Thread Cert.AdamSwaInRefIdeal.nD Cert.AdamSwaInRefIdeal.τ).loc Cert.AdamSwaInRefIdeal.main_v25) = v1 c
          ∧ r.2.mem ((c.tc : Thread Cert.AdamSwaInRefIdeal.nD Cert.AdamSwaInRefIdeal.τ).loc Cert.AdamSwaInRefIdeal.main_v26) = v2 c
          ∧ r.2.mem ((c.tc : Thread Cert.AdamSwaInRefIdeal.nD Cert.AdamSwaInRefIdeal.τ).loc Cert.AdamSwaInRefIdeal.main_arg0) = m' ((c.tc : Thread Cert.AdamSwaInRefIdeal.nD Cert.AdamSwaInRefIdeal.τ).loc Cert.AdamSwaInRefIdeal.main_arg0)
          ∧ r.2.mem ((c.tc : Thread Cert.AdamSwaInRefIdeal.nD Cert.AdamSwaInRefIdeal.τ).loc Cert.AdamSwaInRefIdeal.main_arg1) = m' ((c.tc : Thread Cert.AdamSwaInRefIdeal.nD Cert.AdamSwaInRefIdeal.τ).loc Cert.AdamSwaInRefIdeal.main_arg1)
          ∧ r.2.mem ((c.tc : Thread Cert.AdamSwaInRefIdeal.nD Cert.AdamSwaInRefIdeal.τ).loc Cert.AdamSwaInRefIdeal.main_arg2) = m' ((c.tc : Thread Cert.AdamSwaInRefIdeal.nD Cert.AdamSwaInRefIdeal.τ).loc Cert.AdamSwaInRefIdeal.main_arg2)
          ∧ r.2.mem ((c.tc : Thread Cert.AdamSwaInRefIdeal.nD Cert.AdamSwaInRefIdeal.τ).loc Cert.AdamSwaInRefIdeal.main_arg3) = m' ((c.tc : Thread Cert.AdamSwaInRefIdeal.nD Cert.AdamSwaInRefIdeal.τ).loc Cert.AdamSwaInRefIdeal.main_arg3))

def preserves_AdamRow640_AdamRow640Ideal : Prop :=
  True

def algebraic_AdamRow640Ideal_AdamRow640RefIdeal [hAdamRow640Ideal : Cert.AdamRow640Ideal.Facts] [hAdamRow640RefIdeal : Cert.AdamRow640RefIdeal.Facts] : Prop :=
  ∀ (m : (ℓ : Loc Cert.AdamRow640Ideal.nD Cert.AdamRow640Ideal.τ Cert.AdamRow640Ideal.sig) → Buf (Elt Ideal) ℓ) (g : Dev Cert.AdamRow640Ideal.nD → PrngReg)
    (m' : (ℓ : Loc Cert.AdamRow640RefIdeal.nD Cert.AdamRow640RefIdeal.τ Cert.AdamRow640RefIdeal.sig) → Buf (Elt Ideal) ℓ) (g' : Dev Cert.AdamRow640RefIdeal.nD → PrngReg), Pre_AdamRow640Ideal m →
    (∀ c : Dev Cert.AdamRow640Ideal.nD,
      m' ((c.tc : Thread Cert.AdamRow640RefIdeal.nD Cert.AdamRow640RefIdeal.τ).loc Cert.AdamRow640RefIdeal.main_arg0) = m ((c.tc : Thread Cert.AdamRow640Ideal.nD Cert.AdamRow640Ideal.τ).loc Cert.AdamRow640Ideal.main_arg0)
      ∧ m' ((c.tc : Thread Cert.AdamRow640RefIdeal.nD Cert.AdamRow640RefIdeal.τ).loc Cert.AdamRow640RefIdeal.main_arg1) = m ((c.tc : Thread Cert.AdamRow640Ideal.nD Cert.AdamRow640Ideal.τ).loc Cert.AdamRow640Ideal.main_arg1)
      ∧ m' ((c.tc : Thread Cert.AdamRow640RefIdeal.nD Cert.AdamRow640RefIdeal.τ).loc Cert.AdamRow640RefIdeal.main_arg2) = m ((c.tc : Thread Cert.AdamRow640Ideal.nD Cert.AdamRow640Ideal.τ).loc Cert.AdamRow640Ideal.main_arg2)
      ∧ m' ((c.tc : Thread Cert.AdamRow640RefIdeal.nD Cert.AdamRow640RefIdeal.τ).loc Cert.AdamRow640RefIdeal.main_arg3) = m ((c.tc : Thread Cert.AdamRow640Ideal.nD Cert.AdamRow640Ideal.τ).loc Cert.AdamRow640Ideal.main_arg3)) →
    ∃ (v0 : (c : Dev Cert.AdamRow640Ideal.nD) → Buf (Elt Ideal) ((c.tc : Thread Cert.AdamRow640Ideal.nD Cert.AdamRow640Ideal.τ).loc Cert.AdamRow640Ideal.main_v0_0)) (v1 : (c : Dev Cert.AdamRow640Ideal.nD) → Buf (Elt Ideal) ((c.tc : Thread Cert.AdamRow640Ideal.nD Cert.AdamRow640Ideal.τ).loc Cert.AdamRow640Ideal.main_v0_1)) (v2 : (c : Dev Cert.AdamRow640Ideal.nD) → Buf (Elt Ideal) ((c.tc : Thread Cert.AdamRow640Ideal.nD Cert.AdamRow640Ideal.τ).loc Cert.AdamRow640Ideal.main_v0_2)),
      θ_run (Cert.AdamRow640Ideal.defs (F := Ideal)) (onTc (τ := Cert.AdamRow640Ideal.τ) (Cert.AdamRow640Ideal.main (F := Ideal))) ⟨m, fun _ => 0, g⟩ (fun r => ∀ c : Dev Cert.AdamRow640Ideal.nD,
          r.2.mem ((c.tc : Thread Cert.AdamRow640Ideal.nD Cert.AdamRow640Ideal.τ).loc Cert.AdamRow640Ideal.main_v0_0) = v0 c
          ∧ r.2.mem ((c.tc : Thread Cert.AdamRow640Ideal.nD Cert.AdamRow640Ideal.τ).loc Cert.AdamRow640Ideal.main_v0_1) = v1 c
          ∧ r.2.mem ((c.tc : Thread Cert.AdamRow640Ideal.nD Cert.AdamRow640Ideal.τ).loc Cert.AdamRow640Ideal.main_v0_2) = v2 c
          ∧ r.2.mem ((c.tc : Thread Cert.AdamRow640Ideal.nD Cert.AdamRow640Ideal.τ).loc Cert.AdamRow640Ideal.main_arg0) = m ((c.tc : Thread Cert.AdamRow640Ideal.nD Cert.AdamRow640Ideal.τ).loc Cert.AdamRow640Ideal.main_arg0)
          ∧ r.2.mem ((c.tc : Thread Cert.AdamRow640Ideal.nD Cert.AdamRow640Ideal.τ).loc Cert.AdamRow640Ideal.main_arg1) = m ((c.tc : Thread Cert.AdamRow640Ideal.nD Cert.AdamRow640Ideal.τ).loc Cert.AdamRow640Ideal.main_arg1)
          ∧ r.2.mem ((c.tc : Thread Cert.AdamRow640Ideal.nD Cert.AdamRow640Ideal.τ).loc Cert.AdamRow640Ideal.main_arg2) = m ((c.tc : Thread Cert.AdamRow640Ideal.nD Cert.AdamRow640Ideal.τ).loc Cert.AdamRow640Ideal.main_arg2)
          ∧ r.2.mem ((c.tc : Thread Cert.AdamRow640Ideal.nD Cert.AdamRow640Ideal.τ).loc Cert.AdamRow640Ideal.main_arg3) = m ((c.tc : Thread Cert.AdamRow640Ideal.nD Cert.AdamRow640Ideal.τ).loc Cert.AdamRow640Ideal.main_arg3))
      ∧ θ_run (Cert.AdamRow640RefIdeal.defs (F := Ideal)) (onTc (τ := Cert.AdamRow640RefIdeal.τ) (Cert.AdamRow640RefIdeal.main (F := Ideal))) ⟨m', fun _ => 0, g'⟩ (fun r => ∀ c : Dev Cert.AdamRow640RefIdeal.nD,
          r.2.mem ((c.tc : Thread Cert.AdamRow640RefIdeal.nD Cert.AdamRow640RefIdeal.τ).loc Cert.AdamRow640RefIdeal.main_v23) = v0 c
          ∧ r.2.mem ((c.tc : Thread Cert.AdamRow640RefIdeal.nD Cert.AdamRow640RefIdeal.τ).loc Cert.AdamRow640RefIdeal.main_v4) = v1 c
          ∧ r.2.mem ((c.tc : Thread Cert.AdamRow640RefIdeal.nD Cert.AdamRow640RefIdeal.τ).loc Cert.AdamRow640RefIdeal.main_v10) = v2 c
          ∧ r.2.mem ((c.tc : Thread Cert.AdamRow640RefIdeal.nD Cert.AdamRow640RefIdeal.τ).loc Cert.AdamRow640RefIdeal.main_arg0) = m' ((c.tc : Thread Cert.AdamRow640RefIdeal.nD Cert.AdamRow640RefIdeal.τ).loc Cert.AdamRow640RefIdeal.main_arg0)
          ∧ r.2.mem ((c.tc : Thread Cert.AdamRow640RefIdeal.nD Cert.AdamRow640RefIdeal.τ).loc Cert.AdamRow640RefIdeal.main_arg1) = m' ((c.tc : Thread Cert.AdamRow640RefIdeal.nD Cert.AdamRow640RefIdeal.τ).loc Cert.AdamRow640RefIdeal.main_arg1)
          ∧ r.2.mem ((c.tc : Thread Cert.AdamRow640RefIdeal.nD Cert.AdamRow640RefIdeal.τ).loc Cert.AdamRow640RefIdeal.main_arg2) = m' ((c.tc : Thread Cert.AdamRow640RefIdeal.nD Cert.AdamRow640RefIdeal.τ).loc Cert.AdamRow640RefIdeal.main_arg2)
          ∧ r.2.mem ((c.tc : Thread Cert.AdamRow640RefIdeal.nD Cert.AdamRow640RefIdeal.τ).loc Cert.AdamRow640RefIdeal.main_arg3) = m' ((c.tc : Thread Cert.AdamRow640RefIdeal.nD Cert.AdamRow640RefIdeal.τ).loc Cert.AdamRow640RefIdeal.main_arg3))

def preserves_AdamFinalNorm_AdamFinalNormIdeal : Prop :=
  True

def algebraic_AdamFinalNormIdeal_AdamFinalNormRefIdeal [hAdamFinalNormIdeal : Cert.AdamFinalNormIdeal.Facts] [hAdamFinalNormRefIdeal : Cert.AdamFinalNormRefIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg)
    (m' : (ℓ : Loc Cert.AdamFinalNormRefIdeal.nD Cert.AdamFinalNormRefIdeal.τ Cert.AdamFinalNormRefIdeal.sig) → Buf (Elt Ideal) ℓ) (g' : Dev Cert.AdamFinalNormRefIdeal.nD → PrngReg), Pre_AdamFinalNormIdeal m →
    (∀ c : Dev Cert.AdamFinalNormIdeal.nD,
      m' ((c.tc : Thread Cert.AdamFinalNormRefIdeal.nD Cert.AdamFinalNormRefIdeal.τ).loc Cert.AdamFinalNormRefIdeal.main_arg0) = m ((c.tc : Thread Cert.AdamFinalNormIdeal.nD Cert.AdamFinalNormIdeal.τ).loc Cert.AdamFinalNormIdeal.main_arg0)
      ∧ m' ((c.tc : Thread Cert.AdamFinalNormRefIdeal.nD Cert.AdamFinalNormRefIdeal.τ).loc Cert.AdamFinalNormRefIdeal.main_arg1) = m ((c.tc : Thread Cert.AdamFinalNormIdeal.nD Cert.AdamFinalNormIdeal.τ).loc Cert.AdamFinalNormIdeal.main_arg1)
      ∧ m' ((c.tc : Thread Cert.AdamFinalNormRefIdeal.nD Cert.AdamFinalNormRefIdeal.τ).loc Cert.AdamFinalNormRefIdeal.main_arg2) = m ((c.tc : Thread Cert.AdamFinalNormIdeal.nD Cert.AdamFinalNormIdeal.τ).loc Cert.AdamFinalNormIdeal.main_arg2)
      ∧ m' ((c.tc : Thread Cert.AdamFinalNormRefIdeal.nD Cert.AdamFinalNormRefIdeal.τ).loc Cert.AdamFinalNormRefIdeal.main_arg3) = m ((c.tc : Thread Cert.AdamFinalNormIdeal.nD Cert.AdamFinalNormIdeal.τ).loc Cert.AdamFinalNormIdeal.main_arg3)) →
    ∃ (v0 : (c : Dev Cert.AdamFinalNormIdeal.nD) → Buf (Elt Ideal) ((c.tc : Thread Cert.AdamFinalNormIdeal.nD Cert.AdamFinalNormIdeal.τ).loc Cert.AdamFinalNormIdeal.main_v4_0)) (v1 : (c : Dev Cert.AdamFinalNormIdeal.nD) → Buf (Elt Ideal) ((c.tc : Thread Cert.AdamFinalNormIdeal.nD Cert.AdamFinalNormIdeal.τ).loc Cert.AdamFinalNormIdeal.main_v4_1)) (v2 : (c : Dev Cert.AdamFinalNormIdeal.nD) → Buf (Elt Ideal) ((c.tc : Thread Cert.AdamFinalNormIdeal.nD Cert.AdamFinalNormIdeal.τ).loc Cert.AdamFinalNormIdeal.main_v4_2)),
      θ_run (Cert.AdamFinalNormIdeal.defs (F := Ideal)) (onTc (τ := Cert.AdamFinalNormIdeal.τ) (Cert.AdamFinalNormIdeal.main (F := Ideal))) ⟨m, fun _ => 0, g⟩ (fun r => ∀ c : Dev Cert.AdamFinalNormIdeal.nD,
          r.2.mem ((c.tc : Thread Cert.AdamFinalNormIdeal.nD Cert.AdamFinalNormIdeal.τ).loc Cert.AdamFinalNormIdeal.main_v4_0) = v0 c
          ∧ r.2.mem ((c.tc : Thread Cert.AdamFinalNormIdeal.nD Cert.AdamFinalNormIdeal.τ).loc Cert.AdamFinalNormIdeal.main_v4_1) = v1 c
          ∧ r.2.mem ((c.tc : Thread Cert.AdamFinalNormIdeal.nD Cert.AdamFinalNormIdeal.τ).loc Cert.AdamFinalNormIdeal.main_v4_2) = v2 c
          ∧ r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
          ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
          ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
          ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ θ_run (Cert.AdamFinalNormRefIdeal.defs (F := Ideal)) (onTc (τ := Cert.AdamFinalNormRefIdeal.τ) (Cert.AdamFinalNormRefIdeal.main (F := Ideal))) ⟨m', fun _ => 0, g'⟩ (fun r => ∀ c : Dev Cert.AdamFinalNormRefIdeal.nD,
          r.2.mem ((c.tc : Thread Cert.AdamFinalNormRefIdeal.nD Cert.AdamFinalNormRefIdeal.τ).loc Cert.AdamFinalNormRefIdeal.main_v24) = v0 c
          ∧ r.2.mem ((c.tc : Thread Cert.AdamFinalNormRefIdeal.nD Cert.AdamFinalNormRefIdeal.τ).loc Cert.AdamFinalNormRefIdeal.main_v25) = v1 c
          ∧ r.2.mem ((c.tc : Thread Cert.AdamFinalNormRefIdeal.nD Cert.AdamFinalNormRefIdeal.τ).loc Cert.AdamFinalNormRefIdeal.main_v26) = v2 c
          ∧ r.2.mem ((c.tc : Thread Cert.AdamFinalNormRefIdeal.nD Cert.AdamFinalNormRefIdeal.τ).loc Cert.AdamFinalNormRefIdeal.main_arg0) = m' ((c.tc : Thread Cert.AdamFinalNormRefIdeal.nD Cert.AdamFinalNormRefIdeal.τ).loc Cert.AdamFinalNormRefIdeal.main_arg0)
          ∧ r.2.mem ((c.tc : Thread Cert.AdamFinalNormRefIdeal.nD Cert.AdamFinalNormRefIdeal.τ).loc Cert.AdamFinalNormRefIdeal.main_arg1) = m' ((c.tc : Thread Cert.AdamFinalNormRefIdeal.nD Cert.AdamFinalNormRefIdeal.τ).loc Cert.AdamFinalNormRefIdeal.main_arg1)
          ∧ r.2.mem ((c.tc : Thread Cert.AdamFinalNormRefIdeal.nD Cert.AdamFinalNormRefIdeal.τ).loc Cert.AdamFinalNormRefIdeal.main_arg2) = m' ((c.tc : Thread Cert.AdamFinalNormRefIdeal.nD Cert.AdamFinalNormRefIdeal.τ).loc Cert.AdamFinalNormRefIdeal.main_arg2)
          ∧ r.2.mem ((c.tc : Thread Cert.AdamFinalNormRefIdeal.nD Cert.AdamFinalNormRefIdeal.τ).loc Cert.AdamFinalNormRefIdeal.main_arg3) = m' ((c.tc : Thread Cert.AdamFinalNormRefIdeal.nD Cert.AdamFinalNormRefIdeal.τ).loc Cert.AdamFinalNormRefIdeal.main_arg3))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDAct : Cert.DAct.Facts) (hDActIdeal : Cert.DActIdeal.Facts) (hDActRefIdeal : Cert.DActRefIdeal.Facts) (hDDown : Cert.DDown.Facts) (hDDownIdeal : Cert.DDownIdeal.Facts) (hDDownRefIdeal : Cert.DDownRefIdeal.Facts) (hDGateUp : Cert.DGateUp.Facts) (hDGateUpIdeal : Cert.DGateUpIdeal.Facts) (hDGateUpRefIdeal : Cert.DGateUpRefIdeal.Facts) (hDNorm : Cert.DNorm.Facts) (hDNormIdeal : Cert.DNormIdeal.Facts) (hDNormRefIdeal : Cert.DNormRefIdeal.Facts) (hFirstGateUp : Cert.FirstGateUp.Facts) (hFirstGateUpIdeal : Cert.FirstGateUpIdeal.Facts) (hFirstGateUpRefIdeal : Cert.FirstGateUpRefIdeal.Facts) (hFirstDown : Cert.FirstDown.Facts) (hFirstDownIdeal : Cert.FirstDownIdeal.Facts) (hFirstDownRefIdeal : Cert.FirstDownRefIdeal.Facts) (hFirstDAct : Cert.FirstDAct.Facts) (hFirstDActIdeal : Cert.FirstDActIdeal.Facts) (hFirstDActRefIdeal : Cert.FirstDActRefIdeal.Facts) (hFirstDDown : Cert.FirstDDown.Facts) (hFirstDDownIdeal : Cert.FirstDDownIdeal.Facts) (hFirstDDownRefIdeal : Cert.FirstDDownRefIdeal.Facts) (hFirstDGateUp : Cert.FirstDGateUp.Facts) (hFirstDGateUpIdeal : Cert.FirstDGateUpIdeal.Facts) (hFirstDGateUpRefIdeal : Cert.FirstDGateUpRefIdeal.Facts) (hFirstDNorm : Cert.FirstDNorm.Facts) (hFirstDNormIdeal : Cert.FirstDNormIdeal.Facts) (hFirstDNormRefIdeal : Cert.FirstDNormRefIdeal.Facts) (hAdamFfnColumns : Cert.AdamFfnColumns.Facts) (hAdamFfnColumnsIdeal : Cert.AdamFfnColumnsIdeal.Facts) (hAdamFfnColumnsRefIdeal : Cert.AdamFfnColumnsRefIdeal.Facts) (hAdamFfnRows : Cert.AdamFfnRows.Facts) (hAdamFfnRowsIdeal : Cert.AdamFfnRowsIdeal.Facts) (hAdamFfnRowsRefIdeal : Cert.AdamFfnRowsRefIdeal.Facts) (hAdamMeta : Cert.AdamMeta.Facts) (hAdamMetaIdeal : Cert.AdamMetaIdeal.Facts) (hAdamMetaRefIdeal : Cert.AdamMetaRefIdeal.Facts) (hAdamNorms : Cert.AdamNorms.Facts) (hAdamNormsIdeal : Cert.AdamNormsIdeal.Facts) (hAdamNormsRefIdeal : Cert.AdamNormsRefIdeal.Facts) (hAdamMlstmIn : Cert.AdamMlstmIn.Facts) (hAdamMlstmInIdeal : Cert.AdamMlstmInIdeal.Facts) (hAdamMlstmInRefIdeal : Cert.AdamMlstmInRefIdeal.Facts) (hAdamSquareOut : Cert.AdamSquareOut.Facts) (hAdamSquareOutIdeal : Cert.AdamSquareOutIdeal.Facts) (hAdamSquareOutRefIdeal : Cert.AdamSquareOutRefIdeal.Facts) (hAdamMlstmBias : Cert.AdamMlstmBias.Facts) (hAdamMlstmBiasIdeal : Cert.AdamMlstmBiasIdeal.Facts) (hAdamMlstmBiasRefIdeal : Cert.AdamMlstmBiasRefIdeal.Facts) (hAdamRow2048 : Cert.AdamRow2048.Facts) (hAdamRow2048Ideal : Cert.AdamRow2048Ideal.Facts) (hAdamRow2048RefIdeal : Cert.AdamRow2048RefIdeal.Facts) (hAdamPoolWeight : Cert.AdamPoolWeight.Facts) (hAdamPoolWeightIdeal : Cert.AdamPoolWeightIdeal.Facts) (hAdamPoolWeightRefIdeal : Cert.AdamPoolWeightRefIdeal.Facts) (hAdamRow512 : Cert.AdamRow512.Facts) (hAdamRow512Ideal : Cert.AdamRow512Ideal.Facts) (hAdamRow512RefIdeal : Cert.AdamRow512RefIdeal.Facts) (hAdamGdnIn : Cert.AdamGdnIn.Facts) (hAdamGdnInIdeal : Cert.AdamGdnInIdeal.Facts) (hAdamGdnInRefIdeal : Cert.AdamGdnInRefIdeal.Facts) (hAdamGdnConv : Cert.AdamGdnConv.Facts) (hAdamGdnConvIdeal : Cert.AdamGdnConvIdeal.Facts) (hAdamGdnConvRefIdeal : Cert.AdamGdnConvRefIdeal.Facts) (hAdamRow32 : Cert.AdamRow32.Facts) (hAdamRow32Ideal : Cert.AdamRow32Ideal.Facts) (hAdamRow32RefIdeal : Cert.AdamRow32RefIdeal.Facts) (hAdamRow128 : Cert.AdamRow128.Facts) (hAdamRow128Ideal : Cert.AdamRow128Ideal.Facts) (hAdamRow128RefIdeal : Cert.AdamRow128RefIdeal.Facts) (hAdamGdnOut : Cert.AdamGdnOut.Facts) (hAdamGdnOutIdeal : Cert.AdamGdnOutIdeal.Facts) (hAdamGdnOutRefIdeal : Cert.AdamGdnOutRefIdeal.Facts) (hAdamSwaIn : Cert.AdamSwaIn.Facts) (hAdamSwaInIdeal : Cert.AdamSwaInIdeal.Facts) (hAdamSwaInRefIdeal : Cert.AdamSwaInRefIdeal.Facts) (hAdamRow640 : Cert.AdamRow640.Facts) (hAdamRow640Ideal : Cert.AdamRow640Ideal.Facts) (hAdamRow640RefIdeal : Cert.AdamRow640RefIdeal.Facts) (hAdamFinalNorm : Cert.AdamFinalNorm.Facts) (hAdamFinalNormIdeal : Cert.AdamFinalNormIdeal.Facts) (hAdamFinalNormRefIdeal : Cert.AdamFinalNormRefIdeal.Facts) (hPre_finite : Cert.Pre_finite.Facts) (hPre_finite_dact : Cert.Pre_finite_dact.Facts) (hPre_finite_first_dact : Cert.Pre_finite_first_dact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DAct (hDAct := hDAct)
    ∧ quiescent_DActIdeal (hDActIdeal := hDActIdeal)
    ∧ quiescent_DActIdeal_pre_finite_dact (hDActIdeal := hDActIdeal) (hPre_finite_dact := hPre_finite_dact)
    ∧ quiescent_DActRefIdeal (hDActRefIdeal := hDActRefIdeal)
    ∧ quiescent_DActRefIdeal_pre_finite_dact (hDActRefIdeal := hDActRefIdeal) (hPre_finite_dact := hPre_finite_dact)
    ∧ quiescent_DDown (hDDown := hDDown)
    ∧ quiescent_DDownIdeal (hDDownIdeal := hDDownIdeal)
    ∧ quiescent_DDownRefIdeal (hDDownRefIdeal := hDDownRefIdeal)
    ∧ quiescent_DGateUp (hDGateUp := hDGateUp)
    ∧ quiescent_DGateUpIdeal (hDGateUpIdeal := hDGateUpIdeal)
    ∧ quiescent_DGateUpRefIdeal (hDGateUpRefIdeal := hDGateUpRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_FirstGateUp (hFirstGateUp := hFirstGateUp)
    ∧ quiescent_FirstGateUpIdeal (hFirstGateUpIdeal := hFirstGateUpIdeal)
    ∧ quiescent_FirstGateUpRefIdeal (hFirstGateUpRefIdeal := hFirstGateUpRefIdeal)
    ∧ quiescent_FirstDown (hFirstDown := hFirstDown)
    ∧ quiescent_FirstDownIdeal (hFirstDownIdeal := hFirstDownIdeal)
    ∧ quiescent_FirstDownRefIdeal (hFirstDownRefIdeal := hFirstDownRefIdeal)
    ∧ quiescent_FirstDAct (hFirstDAct := hFirstDAct)
    ∧ quiescent_FirstDActIdeal (hFirstDActIdeal := hFirstDActIdeal)
    ∧ quiescent_FirstDActIdeal_pre_finite_first_dact (hFirstDActIdeal := hFirstDActIdeal) (hPre_finite_first_dact := hPre_finite_first_dact)
    ∧ quiescent_FirstDActRefIdeal (hFirstDActRefIdeal := hFirstDActRefIdeal)
    ∧ quiescent_FirstDActRefIdeal_pre_finite_first_dact (hFirstDActRefIdeal := hFirstDActRefIdeal) (hPre_finite_first_dact := hPre_finite_first_dact)
    ∧ quiescent_FirstDDown (hFirstDDown := hFirstDDown)
    ∧ quiescent_FirstDDownIdeal (hFirstDDownIdeal := hFirstDDownIdeal)
    ∧ quiescent_FirstDDownRefIdeal (hFirstDDownRefIdeal := hFirstDDownRefIdeal)
    ∧ quiescent_FirstDGateUp (hFirstDGateUp := hFirstDGateUp)
    ∧ quiescent_FirstDGateUpIdeal (hFirstDGateUpIdeal := hFirstDGateUpIdeal)
    ∧ quiescent_FirstDGateUpRefIdeal (hFirstDGateUpRefIdeal := hFirstDGateUpRefIdeal)
    ∧ quiescent_FirstDNorm (hFirstDNorm := hFirstDNorm)
    ∧ quiescent_FirstDNormIdeal (hFirstDNormIdeal := hFirstDNormIdeal)
    ∧ quiescent_FirstDNormRefIdeal (hFirstDNormRefIdeal := hFirstDNormRefIdeal)
    ∧ quiescent_AdamFfnColumns (hAdamFfnColumns := hAdamFfnColumns)
    ∧ quiescent_AdamFfnColumnsIdeal (hAdamFfnColumnsIdeal := hAdamFfnColumnsIdeal)
    ∧ quiescent_AdamFfnColumnsRefIdeal (hAdamFfnColumnsRefIdeal := hAdamFfnColumnsRefIdeal)
    ∧ quiescent_AdamFfnRows (hAdamFfnRows := hAdamFfnRows)
    ∧ quiescent_AdamFfnRowsIdeal (hAdamFfnRowsIdeal := hAdamFfnRowsIdeal)
    ∧ quiescent_AdamFfnRowsRefIdeal (hAdamFfnRowsRefIdeal := hAdamFfnRowsRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamNorms (hAdamNorms := hAdamNorms)
    ∧ quiescent_AdamNormsIdeal (hAdamNormsIdeal := hAdamNormsIdeal)
    ∧ quiescent_AdamNormsRefIdeal (hAdamNormsRefIdeal := hAdamNormsRefIdeal)
    ∧ quiescent_AdamMlstmIn (hAdamMlstmIn := hAdamMlstmIn)
    ∧ quiescent_AdamMlstmInIdeal (hAdamMlstmInIdeal := hAdamMlstmInIdeal)
    ∧ quiescent_AdamMlstmInRefIdeal (hAdamMlstmInRefIdeal := hAdamMlstmInRefIdeal)
    ∧ quiescent_AdamSquareOut (hAdamSquareOut := hAdamSquareOut)
    ∧ quiescent_AdamSquareOutIdeal (hAdamSquareOutIdeal := hAdamSquareOutIdeal)
    ∧ quiescent_AdamSquareOutRefIdeal (hAdamSquareOutRefIdeal := hAdamSquareOutRefIdeal)
    ∧ quiescent_AdamMlstmBias (hAdamMlstmBias := hAdamMlstmBias)
    ∧ quiescent_AdamMlstmBiasIdeal (hAdamMlstmBiasIdeal := hAdamMlstmBiasIdeal)
    ∧ quiescent_AdamMlstmBiasRefIdeal (hAdamMlstmBiasRefIdeal := hAdamMlstmBiasRefIdeal)
    ∧ quiescent_AdamRow2048 (hAdamRow2048 := hAdamRow2048)
    ∧ quiescent_AdamRow2048Ideal (hAdamRow2048Ideal := hAdamRow2048Ideal)
    ∧ quiescent_AdamRow2048RefIdeal (hAdamRow2048RefIdeal := hAdamRow2048RefIdeal)
    ∧ quiescent_AdamPoolWeight (hAdamPoolWeight := hAdamPoolWeight)
    ∧ quiescent_AdamPoolWeightIdeal (hAdamPoolWeightIdeal := hAdamPoolWeightIdeal)
    ∧ quiescent_AdamPoolWeightRefIdeal (hAdamPoolWeightRefIdeal := hAdamPoolWeightRefIdeal)
    ∧ quiescent_AdamRow512 (hAdamRow512 := hAdamRow512)
    ∧ quiescent_AdamRow512Ideal (hAdamRow512Ideal := hAdamRow512Ideal)
    ∧ quiescent_AdamRow512RefIdeal (hAdamRow512RefIdeal := hAdamRow512RefIdeal)
    ∧ quiescent_AdamGdnIn (hAdamGdnIn := hAdamGdnIn)
    ∧ quiescent_AdamGdnInIdeal (hAdamGdnInIdeal := hAdamGdnInIdeal)
    ∧ quiescent_AdamGdnInRefIdeal (hAdamGdnInRefIdeal := hAdamGdnInRefIdeal)
    ∧ quiescent_AdamGdnConv (hAdamGdnConv := hAdamGdnConv)
    ∧ quiescent_AdamGdnConvIdeal (hAdamGdnConvIdeal := hAdamGdnConvIdeal)
    ∧ quiescent_AdamGdnConvRefIdeal (hAdamGdnConvRefIdeal := hAdamGdnConvRefIdeal)
    ∧ quiescent_AdamRow32 (hAdamRow32 := hAdamRow32)
    ∧ quiescent_AdamRow32Ideal (hAdamRow32Ideal := hAdamRow32Ideal)
    ∧ quiescent_AdamRow32RefIdeal (hAdamRow32RefIdeal := hAdamRow32RefIdeal)
    ∧ quiescent_AdamRow128 (hAdamRow128 := hAdamRow128)
    ∧ quiescent_AdamRow128Ideal (hAdamRow128Ideal := hAdamRow128Ideal)
    ∧ quiescent_AdamRow128RefIdeal (hAdamRow128RefIdeal := hAdamRow128RefIdeal)
    ∧ quiescent_AdamGdnOut (hAdamGdnOut := hAdamGdnOut)
    ∧ quiescent_AdamGdnOutIdeal (hAdamGdnOutIdeal := hAdamGdnOutIdeal)
    ∧ quiescent_AdamGdnOutRefIdeal (hAdamGdnOutRefIdeal := hAdamGdnOutRefIdeal)
    ∧ quiescent_AdamSwaIn (hAdamSwaIn := hAdamSwaIn)
    ∧ quiescent_AdamSwaInIdeal (hAdamSwaInIdeal := hAdamSwaInIdeal)
    ∧ quiescent_AdamSwaInRefIdeal (hAdamSwaInRefIdeal := hAdamSwaInRefIdeal)
    ∧ quiescent_AdamRow640 (hAdamRow640 := hAdamRow640)
    ∧ quiescent_AdamRow640Ideal (hAdamRow640Ideal := hAdamRow640Ideal)
    ∧ quiescent_AdamRow640RefIdeal (hAdamRow640RefIdeal := hAdamRow640RefIdeal)
    ∧ quiescent_AdamFinalNorm (hAdamFinalNorm := hAdamFinalNorm)
    ∧ quiescent_AdamFinalNormIdeal (hAdamFinalNormIdeal := hAdamFinalNormIdeal)
    ∧ quiescent_AdamFinalNormRefIdeal (hAdamFinalNormRefIdeal := hAdamFinalNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_DAct_DActIdeal
    ∧ algebraic_DActIdeal_DActRefIdeal_pre_finite_dact (hDActIdeal := hDActIdeal) (hDActRefIdeal := hDActRefIdeal) (hPre_finite_dact := hPre_finite_dact)
    ∧ preserves_DDown_DDownIdeal
    ∧ algebraic_DDownIdeal_DDownRefIdeal (hDDownIdeal := hDDownIdeal) (hDDownRefIdeal := hDDownRefIdeal)
    ∧ preserves_DGateUp_DGateUpIdeal
    ∧ algebraic_DGateUpIdeal_DGateUpRefIdeal (hDGateUpIdeal := hDGateUpIdeal) (hDGateUpRefIdeal := hDGateUpRefIdeal)
    ∧ preserves_DNorm_DNormIdeal
    ∧ algebraic_DNormIdeal_DNormRefIdeal (hDNormIdeal := hDNormIdeal) (hDNormRefIdeal := hDNormRefIdeal)
    ∧ preserves_FirstGateUp_FirstGateUpIdeal
    ∧ algebraic_FirstGateUpIdeal_FirstGateUpRefIdeal (hFirstGateUpIdeal := hFirstGateUpIdeal) (hFirstGateUpRefIdeal := hFirstGateUpRefIdeal)
    ∧ preserves_FirstDown_FirstDownIdeal
    ∧ algebraic_FirstDownIdeal_FirstDownRefIdeal (hFirstDownIdeal := hFirstDownIdeal) (hFirstDownRefIdeal := hFirstDownRefIdeal)
    ∧ preserves_FirstDAct_FirstDActIdeal
    ∧ algebraic_FirstDActIdeal_FirstDActRefIdeal_pre_finite_first_dact (hFirstDActIdeal := hFirstDActIdeal) (hFirstDActRefIdeal := hFirstDActRefIdeal) (hPre_finite_first_dact := hPre_finite_first_dact)
    ∧ preserves_FirstDDown_FirstDDownIdeal
    ∧ algebraic_FirstDDownIdeal_FirstDDownRefIdeal (hFirstDDownIdeal := hFirstDDownIdeal) (hFirstDDownRefIdeal := hFirstDDownRefIdeal)
    ∧ preserves_FirstDGateUp_FirstDGateUpIdeal
    ∧ algebraic_FirstDGateUpIdeal_FirstDGateUpRefIdeal (hFirstDGateUpIdeal := hFirstDGateUpIdeal) (hFirstDGateUpRefIdeal := hFirstDGateUpRefIdeal)
    ∧ preserves_FirstDNorm_FirstDNormIdeal
    ∧ algebraic_FirstDNormIdeal_FirstDNormRefIdeal (hFirstDNormIdeal := hFirstDNormIdeal) (hFirstDNormRefIdeal := hFirstDNormRefIdeal)
    ∧ preserves_AdamFfnColumns_AdamFfnColumnsIdeal
    ∧ algebraic_AdamFfnColumnsIdeal_AdamFfnColumnsRefIdeal (hAdamFfnColumnsIdeal := hAdamFfnColumnsIdeal) (hAdamFfnColumnsRefIdeal := hAdamFfnColumnsRefIdeal)
    ∧ preserves_AdamFfnRows_AdamFfnRowsIdeal
    ∧ algebraic_AdamFfnRowsIdeal_AdamFfnRowsRefIdeal (hAdamFfnRowsIdeal := hAdamFfnRowsIdeal) (hAdamFfnRowsRefIdeal := hAdamFfnRowsRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamNorms_AdamNormsIdeal
    ∧ algebraic_AdamNormsIdeal_AdamNormsRefIdeal (hAdamNormsIdeal := hAdamNormsIdeal) (hAdamNormsRefIdeal := hAdamNormsRefIdeal)
    ∧ preserves_AdamMlstmIn_AdamMlstmInIdeal
    ∧ algebraic_AdamMlstmInIdeal_AdamMlstmInRefIdeal (hAdamMlstmInIdeal := hAdamMlstmInIdeal) (hAdamMlstmInRefIdeal := hAdamMlstmInRefIdeal)
    ∧ preserves_AdamSquareOut_AdamSquareOutIdeal
    ∧ algebraic_AdamSquareOutIdeal_AdamSquareOutRefIdeal (hAdamSquareOutIdeal := hAdamSquareOutIdeal) (hAdamSquareOutRefIdeal := hAdamSquareOutRefIdeal)
    ∧ preserves_AdamMlstmBias_AdamMlstmBiasIdeal
    ∧ algebraic_AdamMlstmBiasIdeal_AdamMlstmBiasRefIdeal (hAdamMlstmBiasIdeal := hAdamMlstmBiasIdeal) (hAdamMlstmBiasRefIdeal := hAdamMlstmBiasRefIdeal)
    ∧ preserves_AdamRow2048_AdamRow2048Ideal
    ∧ algebraic_AdamRow2048Ideal_AdamRow2048RefIdeal (hAdamRow2048Ideal := hAdamRow2048Ideal) (hAdamRow2048RefIdeal := hAdamRow2048RefIdeal)
    ∧ preserves_AdamPoolWeight_AdamPoolWeightIdeal
    ∧ algebraic_AdamPoolWeightIdeal_AdamPoolWeightRefIdeal (hAdamPoolWeightIdeal := hAdamPoolWeightIdeal) (hAdamPoolWeightRefIdeal := hAdamPoolWeightRefIdeal)
    ∧ preserves_AdamRow512_AdamRow512Ideal
    ∧ algebraic_AdamRow512Ideal_AdamRow512RefIdeal (hAdamRow512Ideal := hAdamRow512Ideal) (hAdamRow512RefIdeal := hAdamRow512RefIdeal)
    ∧ preserves_AdamGdnIn_AdamGdnInIdeal
    ∧ algebraic_AdamGdnInIdeal_AdamGdnInRefIdeal (hAdamGdnInIdeal := hAdamGdnInIdeal) (hAdamGdnInRefIdeal := hAdamGdnInRefIdeal)
    ∧ preserves_AdamGdnConv_AdamGdnConvIdeal
    ∧ algebraic_AdamGdnConvIdeal_AdamGdnConvRefIdeal (hAdamGdnConvIdeal := hAdamGdnConvIdeal) (hAdamGdnConvRefIdeal := hAdamGdnConvRefIdeal)
    ∧ preserves_AdamRow32_AdamRow32Ideal
    ∧ algebraic_AdamRow32Ideal_AdamRow32RefIdeal (hAdamRow32Ideal := hAdamRow32Ideal) (hAdamRow32RefIdeal := hAdamRow32RefIdeal)
    ∧ preserves_AdamRow128_AdamRow128Ideal
    ∧ algebraic_AdamRow128Ideal_AdamRow128RefIdeal (hAdamRow128Ideal := hAdamRow128Ideal) (hAdamRow128RefIdeal := hAdamRow128RefIdeal)
    ∧ preserves_AdamGdnOut_AdamGdnOutIdeal
    ∧ algebraic_AdamGdnOutIdeal_AdamGdnOutRefIdeal (hAdamGdnOutIdeal := hAdamGdnOutIdeal) (hAdamGdnOutRefIdeal := hAdamGdnOutRefIdeal)
    ∧ preserves_AdamSwaIn_AdamSwaInIdeal
    ∧ algebraic_AdamSwaInIdeal_AdamSwaInRefIdeal (hAdamSwaInIdeal := hAdamSwaInIdeal) (hAdamSwaInRefIdeal := hAdamSwaInRefIdeal)
    ∧ preserves_AdamRow640_AdamRow640Ideal
    ∧ algebraic_AdamRow640Ideal_AdamRow640RefIdeal (hAdamRow640Ideal := hAdamRow640Ideal) (hAdamRow640RefIdeal := hAdamRow640RefIdeal)
    ∧ preserves_AdamFinalNorm_AdamFinalNormIdeal
    ∧ algebraic_AdamFinalNormIdeal_AdamFinalNormRefIdeal (hAdamFinalNormIdeal := hAdamFinalNormIdeal) (hAdamFinalNormRefIdeal := hAdamFinalNormRefIdeal)
-- ==== Pre_finite.lean ====
abbrev S4x8x4224x64 : Shape := ⟨4, ![4, 8, 4224, 64]⟩
abbrev S4x4224x64 : Shape := ⟨3, ![4, 4224, 64]⟩
abbrev S1x32 : Shape := ⟨2, ![1, 32]⟩
abbrev S4x8x4112x64 : Shape := ⟨4, ![4, 8, 4112, 64]⟩
abbrev S_ : Shape := ⟨0, ![]⟩

class Facts : Prop where
  bcast_S_S4x8x4224x64 : S_.BroadcastsInDim S4x8x4224x64 (![] : Fin 0 → Fin S4x8x4224x64.rank)
  bcast_S_S4x4224x64 : S_.BroadcastsInDim S4x4224x64 (![] : Fin 0 → Fin S4x4224x64.rank)
  bcast_S_S1x32 : S_.BroadcastsInDim S1x32 (![] : Fin 0 → Fin S1x32.rank)
  bcast_S_S4x8x4112x64 : S_.BroadcastsInDim S4x8x4112x64 (![] : Fin 0 → Fin S4x8x4112x64.rank)

variable [Facts]

def fn {F : FTy → Type} [FloatOps F] (main_arg0 : FVec F S4x8x4224x64 .f32) (main_arg1 : FVec F S4x4224x64 .f32) (main_arg2 : FVec F S4x4224x64 .f32) (main_arg3 : FVec F S1x32 .f32) (main_arg4 : FVec F S4x8x4112x64 .f32) : IVec S4x8x4224x64 1 × IVec S4x4224x64 1 × IVec S4x4224x64 1 × IVec S1x32 1 × IVec S4x8x4112x64 1 :=
  let main_v0 : FVec F S4x8x4224x64 .f32 := Host.absf main_arg0
  let main_cst : FVec F S_ .f32 := constant S_ .f32 0x7F800000#32
  let main_v1 : FVec F S4x8x4224x64 .f32 := broadcastInDim S4x8x4224x64 ![] bcast_S_S4x8x4224x64 main_cst
  let main_v2 : IVec S4x8x4224x64 1 := cmpf .olt main_v0 main_v1
  let main_v3 : FVec F S4x4224x64 .f32 := Host.absf main_arg1
  let main_cst_0 : FVec F S_ .f32 := constant S_ .f32 0x7F800000#32
  let main_v4 : FVec F S4x4224x64 .f32 := broadcastInDim S4x4224x64 ![] bcast_S_S4x4224x64 main_cst_0
  let main_v5 : IVec S4x4224x64 1 := cmpf .olt main_v3 main_v4
  let main_v6 : FVec F S4x4224x64 .f32 := Host.absf main_arg2
  let main_cst_1 : FVec F S_ .f32 := constant S_ .f32 0x7F800000#32
  let main_v7 : FVec F S4x4224x64 .f32 := broadcastInDim S4x4224x64 ![] bcast_S_S4x4224x64 main_cst_1
  let main_v8 : IVec S4x4224x64 1 := cmpf .olt main_v6 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_v12 : FVec F S4x8x4112x64 .f32 := Host.absf main_arg4
  let main_cst_3 : FVec F S_ .f32 := constant S_ .f32 0x7F800000#32
  let main_v13 : FVec F S4x8x4112x64 .f32 := broadcastInDim S4x8x4112x64 ![] bcast_S_S4x8x4112x64 main_cst_3
  let main_v14 : IVec S4x8x4112x64 1 := cmpf .olt main_v12 main_v13
  (main_v2, main_v5, main_v8, main_v11, main_v14)
-- ==== Pre_finite_dact.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S4x1x1408x2048 : Shape := ⟨4, ![4, 1, 1408, 2048]⟩
abbrev S_ : Shape := ⟨0, ![]⟩

class Facts : Prop where
  slices_S4x2x1408x2048_S4x1x1408x2048_0_1_0_0 : S4x2x1408x2048.Slices ![0, 1, 0, 0] S4x1x1408x2048
  bcast_S_S4224x2048 : S_.BroadcastsInDim S4224x2048 (![] : Fin 0 → Fin S4224x2048.rank)
  bitsLt_bf16_f32 : FTy.bits .bf16 < FTy.bits .f32
  bcast_S_S4x1x1408x2048 : S_.BroadcastsInDim S4x1x1408x2048 (![] : Fin 0 → Fin S4x1x1408x2048.rank)
  bcast_S_S4224x5632 : S_.BroadcastsInDim S4224x5632 (![] : Fin 0 → Fin S4224x5632.rank)

variable [Facts]

def fn {F : FTy → Type} [FloatOps F] (main_arg0 : FVec F S4224x2048 .f32) (main_arg1 : FVec F S4x2x1408x2048 .bf16) (main_arg2 : FVec F S4224x5632 .bf16) (main_arg3 : FVec F S4224x5632 .bf16) : IVec S4224x2048 1 × IVec S4x1x1408x2048 1 × IVec S4224x5632 1 :=
  let main_v0 : FVec F S4x1x1408x2048 .bf16 := (extractStridedSlice S4x1x1408x2048 ![0, 1, 0, 0] · slices_S4x2x1408x2048_S4x1x1408x2048_0_1_0_0) main_arg1
  let main_v1 : FVec F S4224x2048 .f32 := Host.absf main_arg0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4x1x1408x2048 .f32 := (extf .f32 · bitsLt_bf16_f32) main_v0
  let main_v5 : FVec F S4x1x1408x2048 .f32 := Host.absf main_v4
  let main_cst_0 : FVec F S_ .f32 := constant S_ .f32 0x7F800000#32
  let main_v6 : FVec F S4x1x1408x2048 .f32 := broadcastInDim S4x1x1408x2048 ![] bcast_S_S4x1x1408x2048 main_cst_0
  let main_v7 : IVec S4x1x1408x2048 1 := cmpf .olt main_v5 main_v6
  let main_v8 : FVec F S4224x5632 .f32 := (extf .f32 · bitsLt_bf16_f32) main_arg3
  let main_v9 : FVec F S4224x5632 .f32 := Host.absf main_v8
  let main_cst_1 : FVec F S_ .f32 := constant S_ .f32 0x7F800000#32
  let main_v10 : FVec F S4224x5632 .f32 := broadcastInDim S4224x5632 ![] bcast_S_S4224x5632 main_cst_1
  let main_v11 : IVec S4224x5632 1 := cmpf .olt main_v9 main_v10
  (main_v3, main_v7, main_v11)
-- ==== Pre_finite_first_dact.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S4x1x1408x2048 : Shape := ⟨4, ![4, 1, 1408, 2048]⟩
abbrev S_ : Shape := ⟨0, ![]⟩

class Facts : Prop where
  slices_S4x2x1408x2048_S4x1x1408x2048_0_0_0_0 : S4x2x1408x2048.Slices ![0, 0, 0, 0] S4x1x1408x2048
  bcast_S_S4224x2048 : S_.BroadcastsInDim S4224x2048 (![] : Fin 0 → Fin S4224x2048.rank)
  bitsLt_bf16_f32 : FTy.bits .bf16 < FTy.bits .f32
  bcast_S_S4x1x1408x2048 : S_.BroadcastsInDim S4x1x1408x2048 (![] : Fin 0 → Fin S4x1x1408x2048.rank)
  bcast_S_S4224x5632 : S_.BroadcastsInDim S4224x5632 (![] : Fin 0 → Fin S4224x5632.rank)

variable [Facts]

def fn {F : FTy → Type} [FloatOps F] (main_arg0 : FVec F S4224x2048 .f32) (main_arg1 : FVec F S4x2x1408x2048 .bf16) (main_arg2 : FVec F S4224x5632 .bf16) (main_arg3 : FVec F S4224x5632 .bf16) : IVec S4224x2048 1 × IVec S4x1x1408x2048 1 × IVec S4224x5632 1 :=
  let main_v0 : FVec F S4x1x1408x2048 .bf16 := (extractStridedSlice S4x1x1408x2048 ![0, 0, 0, 0] · slices_S4x2x1408x2048_S4x1x1408x2048_0_0_0_0) main_arg1
  let main_v1 : FVec F S4224x2048 .f32 := Host.absf main_arg0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4x1x1408x2048 .f32 := (extf .f32 · bitsLt_bf16_f32) main_v0
  let main_v5 : FVec F S4x1x1408x2048 .f32 := Host.absf main_v4
  let main_cst_0 : FVec F S_ .f32 := constant S_ .f32 0x7F800000#32
  let main_v6 : FVec F S4x1x1408x2048 .f32 := broadcastInDim S4x1x1408x2048 ![] bcast_S_S4x1x1408x2048 main_cst_0
  let main_v7 : IVec S4x1x1408x2048 1 := cmpf .olt main_v5 main_v6
  let main_v8 : FVec F S4224x5632 .f32 := (extf .f32 · bitsLt_bf16_f32) main_arg3
  let main_v9 : FVec F S4224x5632 .f32 := Host.absf main_v8
  let main_cst_1 : FVec F S_ .f32 := constant S_ .f32 0x7F800000#32
  let main_v10 : FVec F S4224x5632 .f32 := broadcastInDim S4224x5632 ![] bcast_S_S4224x5632 main_cst_1
  let main_v11 : IVec S4224x5632 1 := cmpf .olt main_v9 main_v10
  (main_v3, main_v7, main_v11)
-- ==== Kernel.lean ====
abbrev S4x8x4224x64 : Shape := ⟨4, ![4, 8, 4224, 64]⟩
abbrev S4x4224x64 : Shape := ⟨3, ![4, 4224, 64]⟩
abbrev S1x32 : Shape := ⟨2, ![1, 32]⟩
abbrev S4x8x4112x64 : Shape := ⟨4, ![4, 8, 4112, 64]⟩
abbrev S32 : Shape := ⟨1, ![32]⟩
abbrev S_ : Shape := ⟨0, ![]⟩
abbrev S4224 : Shape := ⟨1, ![4224]⟩
abbrev S4224x1 : Shape := ⟨2, ![4224, 1]⟩
abbrev S4224x32 : Shape := ⟨2, ![4224, 32]⟩
abbrev S4224x64 : Shape := ⟨2, ![4224, 64]⟩
abbrev S4x8 : Shape := ⟨2, ![4, 8]⟩
abbrev S4x8x128 : Shape := ⟨3, ![4, 8, 128]⟩
abbrev S4x1024 : Shape := ⟨2, ![4, 1024]⟩
abbrev S4x1024x1 : Shape := ⟨3, ![4, 1024, 1]⟩
abbrev S1x8x128x64 : Shape := ⟨4, ![1, 8, 128, 64]⟩
abbrev S1x128x64 : Shape := ⟨3, ![1, 128, 64]⟩
abbrev S128x64 : Shape := ⟨2, ![128, 64]⟩
abbrev S1x1024x1 : Shape := ⟨3, ![1, 1024, 1]⟩
abbrev S8x128x64 : Shape := ⟨3, ![8, 128, 64]⟩
abbrev S1024x64 : Shape := ⟨2, ![1024, 64]⟩
abbrev S1024x1 : Shape := ⟨2, ![1024, 1]⟩
abbrev S64x64 : Shape := ⟨2, ![64, 64]⟩
abbrev S256x64 : Shape := ⟨2, ![256, 64]⟩
abbrev S1024x256 : Shape := ⟨2, ![1024, 256]⟩
abbrev S1024 : Shape := ⟨1, ![1024]⟩
abbrev S4x4096x64 : Shape := ⟨3, ![4, 4096, 64]⟩
abbrev S4x128x64 : Shape := ⟨3, ![4, 128, 64]⟩

abbrev nBuf : Space → Nat
  | .hbm => 57
  | .vmem => 34
  | .smem => 0
  | _ => 0

abbrev bufTy : (tb : Table) → Fin (tcTables nBuf tb) → BufTy
  | .hbm, ⟨0, _⟩ => ⟨S4x8x4224x64, .f32⟩
  | .hbm, ⟨1, _⟩ => ⟨S4x4224x64, .f32⟩
  | .hbm, ⟨2, _⟩ => ⟨S4x4224x64, .f32⟩
  | .hbm, ⟨3, _⟩ => ⟨S1x32, .f32⟩
  | .hbm, ⟨4, _⟩ => ⟨S4x8x4112x64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4224, .f32⟩
  | .hbm, ⟨20, _⟩ => ⟨S4224x1, .f32⟩
  | .hbm, ⟨21, _⟩ => ⟨S1x32, .f32⟩
  | .hbm, ⟨22, _⟩ => ⟨S4224x32, .f32⟩
  | .hbm, ⟨23, _⟩ => ⟨S4224x32, .f32⟩
  | .hbm, ⟨24, _⟩ => ⟨S4224x32, .f32⟩
  | .hbm, ⟨25, _⟩ => ⟨S4224x64, .f32⟩
  | .hbm, ⟨26, _⟩ => ⟨S4224x64, .f32⟩
  | .hbm, ⟨27, _⟩ => ⟨S4224x64, .f32⟩
  | .hbm, ⟨28, _⟩ => ⟨S4x8, .f32⟩
  | .hbm, ⟨29, _⟩ => ⟨S4x8x128, .f32⟩
  | .hbm, ⟨30, _⟩ => ⟨S4x1024, .f32⟩
  | .hbm, ⟨31, _⟩ => ⟨S4x1024x1, .f32⟩
  | .hbm, ⟨32, _⟩ => ⟨S_, .i32⟩
  | .hbm, ⟨33, _⟩ => ⟨S_, .f32⟩
  | .hbm, ⟨34, _⟩ => ⟨S4x8x4224x64, .f32⟩
  | .hbm, ⟨35, _⟩ => ⟨S4x8x4224x64, .f32⟩
  | .hbm, ⟨36, _⟩ => ⟨S4x4224x64, .f32⟩
  | .hbm, ⟨37, _⟩ => ⟨S4x4224x64, .f32⟩
  | .hbm, ⟨38, _⟩ => ⟨S4x4224x64, .f32⟩
  | .hbm, ⟨39, _⟩ => ⟨S4x4224x64, .f32⟩
  | .hbm, ⟨40, _⟩ => ⟨S4x1024x1, .f32⟩
  | .hbm, ⟨41, _⟩ => ⟨S4x4096x64, .f32⟩
  | .hbm, ⟨42, _⟩ => ⟨S4x128x64, .f32⟩
  | .hbm, ⟨43, _⟩ => ⟨S_, .f32⟩
  | .hbm, ⟨44, _⟩ => ⟨S4x128x64, .f32⟩
  | .hbm, ⟨45, _⟩ => ⟨S4x4224x64, .f32⟩
  | .hbm, ⟨46, _⟩ => ⟨S4x4224x64, .f32⟩
  | .hbm, ⟨47, _⟩ => ⟨S4x4096x64, .f32⟩
  | .hbm, ⟨48, _⟩ => ⟨S4x128x64, .f32⟩
  | .hbm, ⟨49, _⟩ => ⟨S_, .f32⟩
  | .hbm, ⟨50, _⟩ => ⟨S4x128x64, .f32⟩
  | .hbm, ⟨51, _⟩ => ⟨S4x4224x64, .f32⟩
  | .hbm, ⟨52, _⟩ => ⟨S4x4224x64, .f32⟩
  | .hbm, ⟨53, _⟩ => ⟨S4x8x128, .f32⟩
  | .hbm, ⟨54, _⟩ => ⟨S_, .f32⟩
  | .hbm, ⟨55, _⟩ => ⟨S4x8, .f32⟩
  | .hbm, ⟨56, _⟩ => ⟨S1x32, .f32⟩
  | .local _ .vmem, ⟨0, _⟩ => ⟨S1x8x128x64, .f32⟩
  | .local _ .vmem, ⟨1, _⟩ => ⟨S1x8x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | .local _ .vmem, ⟨18, _⟩ => ⟨S1x1024x1, .f32⟩
  | .local _ .vmem, ⟨19, _⟩ => ⟨S1x1024x1, .f32⟩
  | .local _ .vmem, ⟨20, _⟩ => ⟨S1x8x128x64, .f32⟩
  | .local _ .vmem, ⟨21, _⟩ => ⟨S1x8x128x64, .f32⟩
  | .local _ .vmem, ⟨22, _⟩ => ⟨S1x8x128x64, .f32⟩
  | .local _ .vmem, ⟨23, _⟩ => ⟨S1x8x128x64, .f32⟩
  | .local _ .vmem, ⟨24, _⟩ => ⟨S1x128x64, .f32⟩
  | .local _ .vmem, ⟨25, _⟩ => ⟨S1x128x64, .f32⟩
  | .local _ .vmem, ⟨26, _⟩ => ⟨S1x128x64, .f32⟩
  | .local _ .vmem, ⟨27, _⟩ => ⟨S1x128x64, .f32⟩
  | .local _ .vmem, ⟨28, _⟩ => ⟨S1x128x64, .f32⟩
  | .local _ .vmem, ⟨29, _⟩ => ⟨S1x128x64, .f32⟩
  | .local _ .vmem, ⟨30, _⟩ => ⟨S1x128x64, .f32⟩
  | .local _ .vmem, ⟨31, _⟩ => ⟨S1x128x64, .f32⟩
  | .local _ .vmem, ⟨32, _⟩ => ⟨S1x1024x1, .f32⟩
  | .local _ .vmem, ⟨33, _⟩ => ⟨S1x1024x1, .f32⟩
  | _, _ => ⟨S4x8x4224x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v24_4 : Ref sig .tc := ⟨.hbm, 39, rfl⟩
abbrev main_v24_5 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 33], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S4x8x4224x64 : Shape := ⟨4, ![4, 8, 4224, 64]⟩
abbrev S4x4224x64 : Shape := ⟨3, ![4, 4224, 64]⟩
abbrev S1x32 : Shape := ⟨2, ![1, 32]⟩
abbrev S4x8x4112x64 : Shape := ⟨4, ![4, 8, 4112, 64]⟩
abbrev S4112x4x8x64 : Shape := ⟨4, ![4112, 4, 8, 64]⟩
abbrev S1x4112x2048 : Shape := ⟨3, ![1, 4112, 2048]⟩
abbrev S1x4112x4x8x64 : Shape := ⟨5, ![1, 4112, 4, 8, 64]⟩
abbrev S4x4112x64 : Shape := ⟨3, ![4, 4112, 64]⟩
abbrev S4112x4x64 : Shape := ⟨3, ![4112, 4, 64]⟩
abbrev S1x4112x4x64 : Shape := ⟨4, ![1, 4112, 4, 64]⟩
abbrev S32 : Shape := ⟨1, ![32]⟩
abbrev S_ : Shape := ⟨0, ![]⟩
abbrev S4112 : Shape := ⟨1, ![4112]⟩
abbrev S4112x1 : Shape := ⟨2, ![4112, 1]⟩
abbrev S4112x32 : Shape := ⟨2, ![4112, 32]⟩
abbrev S4112x64 : Shape := ⟨2, ![4112, 64]⟩
abbrev S1x4112x1x1x64 : Shape := ⟨5, ![1, 4112, 1, 1, 64]⟩
abbrev S1x4112x4x8x32 : Shape := ⟨5, ![1, 4112, 4, 8, 32]⟩
abbrev S1x4112x1x64 : Shape := ⟨4, ![1, 4112, 1, 64]⟩
abbrev S1x4112x4x32 : Shape := ⟨4, ![1, 4112, 4, 32]⟩
abbrev S1x112x4x8x64 : Shape := ⟨5, ![1, 112, 4, 8, 64]⟩
abbrev S1x4224x4x8x64 : Shape := ⟨5, ![1, 4224, 4, 8, 64]⟩
abbrev S1x112x4x64 : Shape := ⟨4, ![1, 112, 4, 64]⟩
abbrev S1x4224x4x64 : Shape := ⟨4, ![1, 4224, 4, 64]⟩
abbrev S1x33x128x4x8x64 : Shape := ⟨6, ![1, 33, 128, 4, 8, 64]⟩
abbrev S1x128x4x64 : Shape := ⟨4, ![1, 128, 4, 64]⟩
abbrev S1x4352x4x64 : Shape := ⟨4, ![1, 4352, 4, 64]⟩
abbrev S1x33x128x4x64 : Shape := ⟨5, ![1, 33, 128, 4, 64]⟩
abbrev S1x33x256x4x64 : Shape := ⟨5, ![1, 33, 256, 4, 64]⟩
abbrev S1x33x4x256x128x8 : Shape := ⟨6, ![1, 33, 4, 256, 128, 8]⟩
abbrev S1x33x4x8x128x256 : Shape := ⟨6, ![1, 33, 4, 8, 128, 256]⟩
abbrev S33 : Shape := ⟨1, ![33]⟩
abbrev S33x1x1 : Shape := ⟨3, ![33, 1, 1]⟩
abbrev S128 : Shape := ⟨1, ![128]⟩
abbrev S1x128x1 : Shape := ⟨3, ![1, 128, 1]⟩
abbrev S33x128x1 : Shape := ⟨3, ![33, 128, 1]⟩
abbrev S256 : Shape := ⟨1, ![256]⟩
abbrev S1x1x256 : Shape := ⟨3, ![1, 1, 256]⟩
abbrev S33x1x256 : Shape := ⟨3, ![33, 1, 256]⟩
abbrev S33x128x256 : Shape := ⟨3, ![33, 128, 256]⟩
abbrev S1x33x1x1x128x256 : Shape := ⟨6, ![1, 33, 1, 1, 128, 256]⟩
abbrev S1x1x4x8x1x1 : Shape := ⟨6, ![1, 1, 4, 8, 1, 1]⟩
abbrev S1x33x4x8x128x1 : Shape := ⟨6, ![1, 33, 4, 8, 128, 1]⟩
abbrev S1x33x4x8x128x257 : Shape := ⟨6, ![1, 33, 4, 8, 128, 257]⟩
abbrev S1x33x4x8x128 : Shape := ⟨5, ![1, 33, 4, 8, 128]⟩
abbrev S1x33x4x64x8x128 : Shape := ⟨6, ![1, 33, 4, 64, 8, 128]⟩
abbrev S1x4224x2048 : Shape := ⟨3, ![1, 4224, 2048]⟩
abbrev S1x33x4x64x256 : Shape := ⟨5, ![1, 33, 4, 64, 256]⟩
abbrev S33x4x8x128 : Shape := ⟨4, ![33, 4, 8, 128]⟩
abbrev S4x8 : Shape := ⟨2, ![4, 8]⟩
abbrev S1x33x4x128x8x64 : Shape := ⟨6, ![1, 33, 4, 128, 8, 64]⟩
abbrev S1x33x4x256x64 : Shape := ⟨5, ![1, 33, 4, 256, 64]⟩

abbrev nBuf : Space → Nat
  | .hbm => 268
  | .vmem => 0
  | .smem => 0
  | _ => 0

abbrev hbmTy0_0 (i : Nat) : BufTy := match i % 128 with
  | 0 => ⟨S4x8x4224x64, .f32⟩
  | 1 => ⟨S4x4224x64, .f32⟩
  | 2 => ⟨S4x4224x64, .f32⟩
  | 3 => ⟨S1x32, .f32⟩
  | 4 => ⟨S4x8x4112x64, .f32⟩
  | 5 => ⟨S4112x4x8x64, .f32⟩
  | 6 => ⟨S1x4112x2048, .f32⟩
  | 7 => ⟨S4x8x4112x64, .f32⟩
  | 8 => ⟨S4112x4x8x64, .f32⟩
  | 9 => ⟨S1x4112x4x8x64, .f32⟩
  | 10 => ⟨S4x4112x64, .f32⟩
  | 11 => ⟨S4112x4x64, .f32⟩
  | 12 => ⟨S1x4112x4x64, .f32⟩
  | 13 => ⟨S4x4112x64, .f32⟩
  | 14 => ⟨S4112x4x64, .f32⟩
  | 15 => ⟨S1x4112x4x64, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4112, .f32⟩
  | 31 => ⟨S4112x1, .f32⟩
  | 32 => ⟨S1x32, .f32⟩
  | 33 => ⟨S4112x32, .f32⟩
  | 34 => ⟨S4112x32, .f32⟩
  | 35 => ⟨S4112x32, .f32⟩
  | 36 => ⟨S4112x64, .f32⟩
  | 37 => ⟨S4112x64, .f32⟩
  | 38 => ⟨S4112x64, .f32⟩
  | 39 => ⟨S1x4112x1x1x64, .f32⟩
  | 40 => ⟨S1x4112x1x1x64, .f32⟩
  | 41 => ⟨S1x4112x4x8x32, .f32⟩
  | 42 => ⟨S1x4112x4x8x32, .f32⟩
  | 43 => ⟨S1x4112x4x8x64, .f32⟩
  | 44 => ⟨S1x4112x4x8x64, .f32⟩
  | 45 => ⟨S1x4112x4x8x32, .f32⟩
  | 46 => ⟨S1x4112x4x8x64, .f32⟩
  | 47 => ⟨S1x4112x4x8x64, .f32⟩
  | 48 => ⟨S1x4112x4x8x64, .f32⟩
  | 49 => ⟨S1x4112x4x8x64, .f32⟩
  | 50 => ⟨S1x4112x1x64, .f32⟩
  | 51 => ⟨S1x4112x1x64, .f32⟩
  | 52 => ⟨S1x4112x4x32, .f32⟩
  | 53 => ⟨S1x4112x4x32, .f32⟩
  | 54 => ⟨S1x4112x4x64, .f32⟩
  | 55 => ⟨S1x4112x4x64, .f32⟩
  | 56 => ⟨S1x4112x4x32, .f32⟩
  | 57 => ⟨S1x4112x4x64, .f32⟩
  | 58 => ⟨S1x4112x4x64, .f32⟩
  | 59 => ⟨S1x4112x4x64, .f32⟩
  | 60 => ⟨S1x4112x4x64, .f32⟩
  | 61 => ⟨S_, .f32⟩
  | 62 => ⟨S1x112x4x8x64, .f32⟩
  | 63 => ⟨S1x4224x4x8x64, .f32⟩
  | 64 => ⟨S_, .f32⟩
  | 65 => ⟨S1x112x4x8x64, .f32⟩
  | 66 => ⟨S_, .f32⟩
  | 67 => ⟨S1x112x4x64, .f32⟩
  | 68 => ⟨S1x4224x4x64, .f32⟩
  | 69 => ⟨S_, .f32⟩
  | 70 => ⟨S1x112x4x64, .f32⟩
  | 71 => ⟨S_, .f32⟩
  | 72 => ⟨S1x112x4x64, .f32⟩
  | 73 => ⟨S1x4224x4x64, .f32⟩
  | 74 => ⟨S_, .f32⟩
  | 75 => ⟨S1x112x4x64, .f32⟩
  | 76 => ⟨S1x33x128x4x8x64, .f32⟩
  | 77 => ⟨S_, .f32⟩
  | 78 => ⟨S1x128x4x64, .f32⟩
  | 79 => ⟨S1x4352x4x64, .f32⟩
  | 80 => ⟨S_, .f32⟩
  | 81 => ⟨S1x128x4x64, .f32⟩
  | 82 => ⟨S1x4224x4x64, .f32⟩
  | 83 => ⟨S1x33x128x4x64, .f32⟩
  | 84 => ⟨S1x4224x4x64, .f32⟩
  | 85 => ⟨S1x33x128x4x64, .f32⟩
  | 86 => ⟨S1x33x256x4x64, .f32⟩
  | 87 => ⟨S_, .f32⟩
  | 88 => ⟨S1x128x4x64, .f32⟩
  | 89 => ⟨S1x4352x4x64, .f32⟩
  | 90 => ⟨S_, .f32⟩
  | 91 => ⟨S1x128x4x64, .f32⟩
  | 92 => ⟨S1x4224x4x64, .f32⟩
  | 93 => ⟨S1x33x128x4x64, .f32⟩
  | 94 => ⟨S1x4224x4x64, .f32⟩
  | 95 => ⟨S1x33x128x4x64, .f32⟩
  | 96 => ⟨S1x33x256x4x64, .f32⟩
  | 97 => ⟨S1x33x4x256x128x8, .f32⟩
  | 98 => ⟨S1x33x4x8x128x256, .f32⟩
  | 99 => ⟨S_, .f32⟩
  | 100 => ⟨S1x33x4x8x128x256, .f32⟩
  | 101 => ⟨S1x33x4x8x128x256, .f32⟩
  | 102 => ⟨S33, .i32⟩
  | 103 => ⟨S33x1x1, .i32⟩
  | 104 => ⟨S_, .i32⟩
  | 105 => ⟨S33x1x1, .i32⟩
  | 106 => ⟨S33x1x1, .i32⟩
  | 107 => ⟨S128, .i32⟩
  | 108 => ⟨S1x128x1, .i32⟩
  | 109 => ⟨S33x128x1, .i32⟩
  | 110 => ⟨S33x128x1, .i32⟩
  | 111 => ⟨S33x128x1, .i32⟩
  | 112 => ⟨S_, .i32⟩
  | 113 => ⟨S33x1x1, .i32⟩
  | 114 => ⟨S33x1x1, .i32⟩
  | 115 => ⟨S256, .i32⟩
  | 116 => ⟨S1x1x256, .i32⟩
  | 117 => ⟨S33x1x256, .i32⟩
  | 118 => ⟨S33x1x256, .i32⟩
  | 119 => ⟨S33x1x256, .i32⟩
  | 120 => ⟨S33x128x256, .i32⟩
  | 121 => ⟨S33x128x256, .i32⟩
  | 122 => ⟨S33x128x256, .i1⟩
  | 123 => ⟨S33x128x256, .i32⟩
  | 124 => ⟨S33x128x256, .i32⟩
  | 125 => ⟨S33x128x256, .i32⟩
  | 126 => ⟨S_, .i32⟩
  | 127 => ⟨S33x128x256, .i32⟩
  | _ => ⟨S4x8x4224x64, .f32⟩

abbrev hbmTy0_1 (i : Nat) : BufTy := match i % 128 with
  | 0 => ⟨S33x128x256, .i1⟩
  | 1 => ⟨S33x128x256, .i1⟩
  | 2 => ⟨S_, .i32⟩
  | 3 => ⟨S33x1x256, .i32⟩
  | 4 => ⟨S33x1x256, .i1⟩
  | 5 => ⟨S33x128x256, .i1⟩
  | 6 => ⟨S33x128x256, .i1⟩
  | 7 => ⟨S1x33x1x1x128x256, .i1⟩
  | 8 => ⟨S1x33x4x8x128x256, .i1⟩
  | 9 => ⟨S_, .f32⟩
  | 10 => ⟨S1x33x4x8x128x256, .f32⟩
  | 11 => ⟨S1x33x4x8x128x256, .f32⟩
  | 12 => ⟨S_, .f32⟩
  | 13 => ⟨S1x33x4x8x128x256, .f32⟩
  | 14 => ⟨S1x1x4x8x1x1, .f32⟩
  | 15 => ⟨S1x33x4x8x128x1, .f32⟩
  | 16 => ⟨S1x33x4x8x128x257, .f32⟩
  | 17 => ⟨S_, .f32⟩
  | 18 => ⟨S1x33x4x8x128, .f32⟩
  | 19 => ⟨S1x33x4x8x128x1, .f32⟩
  | 20 => ⟨S1x33x4x8x128x257, .f32⟩
  | 21 => ⟨S1x33x4x8x128x257, .f32⟩
  | 22 => ⟨S1x33x4x8x128x257, .f32⟩
  | 23 => ⟨S_, .f32⟩
  | 24 => ⟨S1x33x4x8x128, .f32⟩
  | 25 => ⟨S1x33x4x8x128x1, .f32⟩
  | 26 => ⟨S1x33x4x8x128x257, .f32⟩
  | 27 => ⟨S1x33x4x8x128x257, .f32⟩
  | 28 => ⟨S1x33x4x8x128x1, .f32⟩
  | 29 => ⟨S_, .f32⟩
  | 30 => ⟨S1x33x4x8x128x1, .f32⟩
  | 31 => ⟨S1x33x4x8x128x1, .f32⟩
  | 32 => ⟨S1x33x4x8x128x256, .f32⟩
  | 33 => ⟨S1x33x4x64x8x128, .f32⟩
  | 34 => ⟨S1x33x128x4x8x64, .f32⟩
  | 35 => ⟨S1x4224x2048, .f32⟩
  | 36 => ⟨S1x4112x2048, .f32⟩
  | 37 => ⟨S_, .f32⟩
  | 38 => ⟨S1x4224x2048, .f32⟩
  | 39 => ⟨S1x33x128x4x8x64, .f32⟩
  | 40 => ⟨S1x33x4x64x8x128, .f32⟩
  | 41 => ⟨S1x33x4x8x128x256, .f32⟩
  | 42 => ⟨S1x33x4x64x256, .f32⟩
  | 43 => ⟨S1x33x256x4x64, .f32⟩
  | 44 => ⟨S_, .f32⟩
  | 45 => ⟨S1x33x4x8x128x257, .f32⟩
  | 46 => ⟨S1x33x4x8x128x257, .f32⟩
  | 47 => ⟨S1x33x4x8x128x257, .f32⟩
  | 48 => ⟨S1x33x4x8x128x257, .f32⟩
  | 49 => ⟨S_, .f32⟩
  | 50 => ⟨S1x33x4x8x128, .f32⟩
  | 51 => ⟨S1x33x4x8x128x1, .f32⟩
  | 52 => ⟨S1x33x4x8x128x1, .f32⟩
  | 53 => ⟨S1x33x4x8x128x257, .f32⟩
  | 54 => ⟨S1x33x4x8x128x257, .f32⟩
  | 55 => ⟨S_, .f32⟩
  | 56 => ⟨S33x4x8x128, .f32⟩
  | 57 => ⟨S1x33x4x8x128, .f32⟩
  | 58 => ⟨S1x33x4x8x128x257, .f32⟩
  | 59 => ⟨S1x33x4x8x128x257, .f32⟩
  | 60 => ⟨S1x33x4x8x128x257, .f32⟩
  | 61 => ⟨S1x33x4x8x128x256, .f32⟩
  | 62 => ⟨S1x33x4x8x128x1, .f32⟩
  | 63 => ⟨S_, .f32⟩
  | 64 => ⟨S4x8, .f32⟩
  | 65 => ⟨S1x1x4x8x1x1, .f32⟩
  | 66 => ⟨S1x32, .f32⟩
  | 67 => ⟨S_, .f32⟩
  | 68 => ⟨S1x33x4x8x128x256, .f32⟩
  | 69 => ⟨S1x33x4x8x128x256, .f32⟩
  | 70 => ⟨S_, .f32⟩
  | 71 => ⟨S1x33x4x8x128x256, .f32⟩
  | 72 => ⟨S1x33x4x8x128x256, .f32⟩
  | 73 => ⟨S1x33x4x256x128x8, .f32⟩
  | 74 => ⟨S1x33x4x128x8x64, .f32⟩
  | 75 => ⟨S1x33x128x4x8x64, .f32⟩
  | 76 => ⟨S1x33x4x256x64, .f32⟩
  | 77 => ⟨S1x33x256x4x64, .f32⟩
  | 78 => ⟨S1x33x128x4x64, .f32⟩
  | 79 => ⟨S1x33x128x4x64, .f32⟩
  | 80 => ⟨S1x4224x4x64, .f32⟩
  | 81 => ⟨S_, .f32⟩
  | 82 => ⟨S1x4352x4x64, .f32⟩
  | 83 => ⟨S1x4224x4x64, .f32⟩
  | 84 => ⟨S_, .f32⟩
  | 85 => ⟨S1x4352x4x64, .f32⟩
  | 86 => ⟨S1x4352x4x64, .f32⟩
  | 87 => ⟨S1x128x4x64, .f32⟩
  | 88 => ⟨S1x4224x4x64, .f32⟩
  | 89 => ⟨S1x33x128x4x64, .f32⟩
  | 90 => ⟨S1x33x128x4x64, .f32⟩
  | 91 => ⟨S1x4224x4x64, .f32⟩
  | 92 => ⟨S_, .f32⟩
  | 93 => ⟨S1x4352x4x64, .f32⟩
  | 94 => ⟨S1x4224x4x64, .f32⟩
  | 95 => ⟨S_, .f32⟩
  | 96 => ⟨S1x4352x4x64, .f32⟩
  | 97 => ⟨S1x4352x4x64, .f32⟩
  | 98 => ⟨S1x128x4x64, .f32⟩
  | 99 => ⟨S1x4224x4x64, .f32⟩
  | 100 => ⟨S1x4224x4x8x64, .f32⟩
  | 101 => ⟨S1x4112x4x64, .f32⟩
  | 102 => ⟨S1x112x4x64, .f32⟩
  | 103 => ⟨S1x4112x4x64, .f32⟩
  | 104 => ⟨S1x112x4x64, .f32⟩
  | 105 => ⟨S1x4112x4x8x64, .f32⟩
  | 106 => ⟨S1x112x4x8x64, .f32⟩
  | 107 => ⟨S1x4112x4x64, .f32⟩
  | 108 => ⟨S1x4112x4x64, .f32⟩
  | 109 => ⟨S1x4112x4x32, .f32⟩
  | 110 => ⟨S1x4112x4x32, .f32⟩
  | 111 => ⟨S1x4112x4x32, .f32⟩
  | 112 => ⟨S1x4112x4x64, .f32⟩
  | 113 => ⟨S1x4112x4x64, .f32⟩
  | 114 => ⟨S1x4112x4x64, .f32⟩
  | 115 => ⟨S1x4112x4x64, .f32⟩
  | 116 => ⟨S1x4112x4x8x64, .f32⟩
  | 117 => ⟨S1x4112x4x8x64, .f32⟩
  | 118 => ⟨S1x4112x4x8x32, .f32⟩
  | 119 => ⟨S1x4112x4x8x32, .f32⟩
  | 120 => ⟨S1x4112x4x8x32, .f32⟩
  | 121 => ⟨S1x4112x4x8x64, .f32⟩
  | 122 => ⟨S1x4112x4x8x64, .f32⟩
  | 123 => ⟨S1x4112x4x8x64, .f32⟩
  | 124 => ⟨S1x4112x4x8x64, .f32⟩
  | 125 => ⟨S_, .f32⟩
  | 126 => ⟨S4112x4x64, .f32⟩
  | 127 => ⟨S4x4112x64, .f32⟩
  | _ => ⟨S4x8x4224x64, .f32⟩

abbrev hbmTy0_2 (i : Nat) : BufTy := match i % 128 with
  | 0 => ⟨S_, .f32⟩
  | 1 => ⟨S4x4224x64, .f32⟩
  | 2 => ⟨S_, .f32⟩
  | 3 => ⟨S4112x4x64, .f32⟩
  | 4 => ⟨S4x4112x64, .f32⟩
  | 5 => ⟨S_, .f32⟩
  | 6 => ⟨S4x4224x64, .f32⟩
  | 7 => ⟨S_, .f32⟩
  | 8 => ⟨S4112x4x8x64, .f32⟩
  | 9 => ⟨S4x8x4112x64, .f32⟩
  | 10 => ⟨S_, .f32⟩
  | 11 => ⟨S4x8x4224x64, .f32⟩
  | _ => ⟨S4x8x4224x64, .f32⟩

abbrev hbmTy (i : Nat) : BufTy := match i / 128 with
  | 0 => hbmTy0_0 i
  | 1 => hbmTy0_1 i
  | 2 => hbmTy0_2 i
  | _ => ⟨S4x8x4224x64, .f32⟩

abbrev bufTy : (tb : Table) → Fin (tcTables nBuf tb) → BufTy
  | .hbm, ⟨i, _⟩ => hbmTy i
  | _, _ => ⟨S4x8x4224x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_c_15 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_c_16 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_17 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_19 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_20 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_21 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_22 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_23 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_24 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_25 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_26 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_27 : Ref sig .tc := ⟨.hbm, 195, rfl⟩
abbrev main_v161 : Ref sig .tc := ⟨.hbm, 196, rfl⟩
abbrev main_v162 : Ref sig .tc := ⟨.hbm, 197, rfl⟩
abbrev main_cst_28 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_29 : Ref sig .tc := ⟨.hbm, 209, rfl⟩
abbrev main_v173 : Ref sig .tc := ⟨.hbm, 210, rfl⟩
abbrev main_v174 : Ref sig .tc := ⟨.hbm, 211, rfl⟩
abbrev main_cst_30 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_31 : Ref sig .tc := ⟨.hbm, 220, rfl⟩
abbrev main_v182 : Ref sig .tc := ⟨.hbm, 221, rfl⟩
abbrev main_v183 : Ref sig .tc := ⟨.hbm, 222, rfl⟩
abbrev main_cst_32 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_cst_33 : Ref sig .tc := ⟨.hbm, 253, rfl⟩
abbrev main_v213 : Ref sig .tc := ⟨.hbm, 254, rfl⟩
abbrev main_v214 : Ref sig .tc := ⟨.hbm, 255, rfl⟩
abbrev main_cst_34 : Ref sig .tc := ⟨.hbm, 256, rfl⟩
abbrev main_v215 : Ref sig .tc := ⟨.hbm, 257, rfl⟩
abbrev main_cst_35 : Ref sig .tc := ⟨.hbm, 258, rfl⟩
abbrev main_v216 : Ref sig .tc := ⟨.hbm, 259, rfl⟩
abbrev main_v217 : Ref sig .tc := ⟨.hbm, 260, rfl⟩
abbrev main_cst_36 : Ref sig .tc := ⟨.hbm, 261, rfl⟩
abbrev main_v218 : Ref sig .tc := ⟨.hbm, 262, rfl⟩
abbrev main_cst_37 : Ref sig .tc := ⟨.hbm, 263, rfl⟩
abbrev main_v219 : Ref sig .tc := ⟨.hbm, 264, rfl⟩
abbrev main_v220 : Ref sig .tc := ⟨.hbm, 265, rfl⟩
abbrev main_cst_38 : Ref sig .tc := ⟨.hbm, 266, rfl⟩
abbrev main_v221 : Ref sig .tc := ⟨.hbm, 267, rfl⟩

abbrev nD : Nat := 1
abbrev τ : Topo := Topo.v7x

variable {F : FTy → Type} [FloatOps F]
-- ==== GateUp.lean ====
abbrev S4224x2048 : Shape := ⟨2, ![4224, 2048]⟩
abbrev S4x2x2048x1408 : Shape := ⟨4, ![4, 2, 2048, 1408]⟩
abbrev S4224x5632 : Shape := ⟨2, ![4224, 5632]⟩
abbrev S704x512 : Shape := ⟨2, ![704, 512]⟩
abbrev S1x1x512x1408 : Shape := ⟨4, ![1, 1, 512, 1408]⟩
abbrev S704x1408 : Shape := ⟨2, ![704, 1408]⟩
abbrev S2x704x1408 : Shape := ⟨3, ![2, 704, 1408]⟩
abbrev S1x704x1408 : Shape := ⟨3, ![1, 704, 1408]⟩
abbrev S512x1408 : Shape := ⟨2, ![512, 1408]⟩

abbrev nBuf : Space → Nat
  | .hbm => 6
  | .vmem => 15
  | .smem => 0
  | _ => 0

abbrev bufTy : (tb : Table) → Fin (tcTables nBuf tb) → BufTy
  | .hbm, ⟨0, _⟩ => ⟨S4224x2048, .bf16⟩
  | .hbm, ⟨1, _⟩ => ⟨S4x2x2048x1408, .bf16⟩
  | .hbm, ⟨2, _⟩ => ⟨S4x2x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x512, .bf16⟩
  | .local _ .vmem, ⟨1, _⟩ => ⟨S704x512, .bf16⟩
  | .local _ .vmem, ⟨2, _⟩ => ⟨S704x512, .bf16⟩
  | .local _ .vmem, ⟨3, _⟩ => ⟨S704x512, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S1x1x512x1408, .bf16⟩
  | .local _ .vmem, ⟨7, _⟩ => ⟨S1x1x512x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .vmem, ⟨13, _⟩ => ⟨S704x1408, .bf16⟩
  | .local _ .vmem, ⟨14, _⟩ => ⟨S2x704x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_24 : BitVec 32 := 0#32
  let v25 : BitVec 1 := Scalar.cmpi .ne v24 c0_i32_24
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateUpIdeal.lean ====
abbrev S4224x2048 : Shape := ⟨2, ![4224, 2048]⟩
abbrev S4x2x2048x1408 : Shape := ⟨4, ![4, 2, 2048, 1408]⟩
abbrev S4224x5632 : Shape := ⟨2, ![4224, 5632]⟩
abbrev S704x512 : Shape := ⟨2, ![704, 512]⟩
abbrev S1x1x512x1408 : Shape := ⟨4, ![1, 1, 512, 1408]⟩
abbrev S704x1408 : Shape := ⟨2, ![704, 1408]⟩
abbrev S2x704x1408 : Shape := ⟨3, ![2, 704, 1408]⟩
abbrev S1x704x1408 : Shape := ⟨3, ![1, 704, 1408]⟩
abbrev S512x1408 : Shape := ⟨2, ![512, 1408]⟩

abbrev nBuf : Space → Nat
  | .hbm => 6
  | .vmem => 15
  | .smem => 0
  | _ => 0

abbrev bufTy : (tb : Table) → Fin (tcTables nBuf tb) → BufTy
  | .hbm, ⟨0, _⟩ => ⟨S4224x2048, .bf16⟩
  | .hbm, ⟨1, _⟩ => ⟨S4x2x2048x1408, .bf16⟩
  | .hbm, ⟨2, _⟩ => ⟨S4x2x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x512, .bf16⟩
  | .local _ .vmem, ⟨1, _⟩ => ⟨S704x512, .bf16⟩
  | .local _ .vmem, ⟨2, _⟩ => ⟨S704x512, .bf16⟩
  | .local _ .vmem, ⟨3, _⟩ => ⟨S704x512, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S1x1x512x1408, .bf16⟩
  | .local _ .vmem, ⟨7, _⟩ => ⟨S1x1x512x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .vmem, ⟨13, _⟩ => ⟨S704x1408, .bf16⟩
  | .local _ .vmem, ⟨14, _⟩ => ⟨S2x704x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_24 : BitVec 32 := 0#32
  let v25 : BitVec 1 := Scalar.cmpi .ne v24 c0_i32_24
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateUpRefIdeal.lean ====
abbrev S4224x2048 : Shape := ⟨2, ![4224, 2048]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4224x5632 : Shape := ⟨2, ![4224, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2x2048x1408, .bf16⟩
  | .hbm, ⟨2, _⟩ => ⟨S4x2x2048x1408, .bf16⟩
  | .hbm, ⟨3, _⟩ => ⟨S4224x2048, .f32⟩
  | .hbm, ⟨4, _⟩ => ⟨S4x1x2048x1408, .bf16⟩
  | .hbm, ⟨5, _⟩ => ⟨S4x2048x1408, .bf16⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S4x1x2048x1408, .bf16⟩
  | .hbm, ⟨10, _⟩ => ⟨S4x2048x1408, .bf16⟩
  | .hbm, ⟨11, _⟩ => ⟨S4x2048x1408, .f32⟩
  | .hbm, ⟨12, _⟩ => ⟨S2048x4x1408, .f32⟩
  | .hbm, ⟨13, _⟩ => ⟨S2048x5632, .f32⟩
  | .hbm, ⟨14, _⟩ => ⟨S4224x5632, .f32⟩
  | .hbm, ⟨15, _⟩ => ⟨S4224x5632, .f32⟩
  | .hbm, ⟨16, _⟩ => ⟨S4224x5632, .bf16⟩
  | .hbm, ⟨17, _⟩ => ⟨S4224x5632, .bf16⟩
  | .hbm, ⟨18, _⟩ => ⟨S4224x5632, .f32⟩
  | .hbm, ⟨19, _⟩ => ⟨S4224x5632, .f32⟩
  | .hbm, ⟨20, _⟩ => ⟨S_, .f32⟩
  | .hbm, ⟨21, _⟩ => ⟨S4224x5632, .f32⟩
  | .hbm, ⟨22, _⟩ => ⟨S4224x5632, .f32⟩
  | .hbm, ⟨23, _⟩ => ⟨S_, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Down.lean ====
abbrev S4224x2048 : Shape := ⟨2, ![4224, 2048]⟩
abbrev S4224x5632 : Shape := ⟨2, ![4224, 5632]⟩
abbrev S4x2x1408x2048 : Shape := ⟨4, ![4, 2, 1408, 2048]⟩
abbrev S1056x1408 : Shape := ⟨2, ![1056, 1408]⟩
abbrev S1x1x1408x1024 : Shape := ⟨4, ![1, 1, 1408, 1024]⟩
abbrev S1056x1024 : Shape := ⟨2, ![1056, 1024]⟩
abbrev S1x1056x1024 : Shape := ⟨3, ![1, 1056, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x5632, .bf16⟩
  | .hbm, ⟨2, _⟩ => ⟨S4x2x1408x2048, .bf16⟩
  | .hbm, ⟨3, _⟩ => ⟨S4224x2048, .f32⟩
  | .local _ .vmem, ⟨0, _⟩ => ⟨S1056x1408, .bf16⟩
  | .local _ .vmem, ⟨1, _⟩ => ⟨S1056x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1x1056x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
  let c1_i32_11 : BitVec 32 := 1#32
  ![v16.toNat, c1_i32_11.toNat, v26.toNat, arg1.toNat]
-- ==== DownRefIdeal.lean ====
abbrev S4224x2048 : Shape := ⟨2, ![4224, 2048]⟩
abbrev S4224x5632 : Shape := ⟨2, ![4224, 5632]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x5632, .bf16⟩
  | .hbm, ⟨2, _⟩ => ⟨S4x2x1408x2048, .bf16⟩
  | .hbm, ⟨3, _⟩ => ⟨S4224x5632, .f32⟩
  | .hbm, ⟨4, _⟩ => ⟨S4x1x1408x2048, .bf16⟩
  | .hbm, ⟨5, _⟩ => ⟨S4x1408x2048, .bf16⟩
  | .hbm, ⟨6, _⟩ => ⟨S4x1408x2048, .f32⟩
  | .hbm, ⟨7, _⟩ => ⟨S5632x2048, .f32⟩
  | .hbm, ⟨8, _⟩ => ⟨S4224x2048, .f32⟩
  | .hbm, ⟨9, _⟩ => ⟨S_, .f32⟩
  | .hbm, ⟨10, _⟩ => ⟨S4224x2048, .f32⟩
  | .hbm, ⟨11, _⟩ => ⟨S4224x2048, .f32⟩
  | .hbm, ⟨12, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DAct.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S704x1024 : Shape := ⟨2, ![704, 1024]⟩
abbrev S1x1x1408x1024 : Shape := ⟨4, ![1, 1, 1408, 1024]⟩
abbrev S704x1408 : Shape := ⟨2, ![704, 1408]⟩
abbrev S1x704x1408 : Shape := ⟨3, ![1, 704, 1408]⟩
abbrev S1408x1024 : Shape := ⟨2, ![1408, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4224x2048, .f32⟩
  | .hbm, ⟨1, _⟩ => ⟨S4x2x1408x2048, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x1024, .f32⟩
  | .local _ .vmem, ⟨1, _⟩ => ⟨S704x1024, .f32⟩
  | .local _ .vmem, ⟨2, _⟩ => ⟨S1x1x1408x1024, .bf16⟩
  | .local _ .vmem, ⟨3, _⟩ => ⟨S1x1x1408x1024, .bf16⟩
  | .local _ .vmem, ⟨4, _⟩ => ⟨S704x1408, .bf16⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S1x704x1408, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DActIdeal.lean ====
  let c1_i32 : BitVec 32 := 1#32
  ![arg1.toNat, c1_i32.toNat, c0_i32.toNat, arg2.toNat]
-- ==== DActRefIdeal.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S_ : Shape := ⟨0, ![]⟩
abbrev S4x1x1408x2048 : Shape := ⟨4, ![4, 1, 1408, 2048]⟩
abbrev S4x1408x2048 : Shape := ⟨3, ![4, 1408, 2048]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4x2x1408x2048, .bf16⟩
  | .hbm, ⟨2, _⟩ => ⟨S4224x5632, .bf16⟩
  | .hbm, ⟨3, _⟩ => ⟨S4224x5632, .bf16⟩
  | .hbm, ⟨4, _⟩ => ⟨S4224x5632, .f32⟩
  | .hbm, ⟨5, _⟩ => ⟨S4224x5632, .f32⟩
  | .hbm, ⟨6, _⟩ => ⟨S4224x5632, .f32⟩
  | .hbm, ⟨7, _⟩ => ⟨S4224x5632, .f32⟩
  | .hbm, ⟨8, _⟩ => ⟨S_, .f32⟩
  | .hbm, ⟨9, _⟩ => ⟨S4224x5632, .f32⟩
  | .hbm, ⟨10, _⟩ => ⟨S4224x5632, .f32⟩
  | .hbm, ⟨11, _⟩ => ⟨S_, .f32⟩
  | .hbm, ⟨12, _⟩ => ⟨S4224x5632, .f32⟩
  | .hbm, ⟨13, _⟩ => ⟨S4224x5632, .f32⟩
  | .hbm, ⟨14, _⟩ => ⟨S_, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4x1x1408x2048, .bf16⟩
  | .hbm, ⟨21, _⟩ => ⟨S4x1408x2048, .bf16⟩
  | .hbm, ⟨22, _⟩ => ⟨S4x1408x2048, .f32⟩
  | .hbm, ⟨23, _⟩ => ⟨S5632x2048, .f32⟩
  | .hbm, ⟨24, _⟩ => ⟨S4224x2048, .f32⟩
  | .hbm, ⟨25, _⟩ => ⟨S_, .f32⟩
  | .hbm, ⟨26, _⟩ => ⟨S4224x2048, .f32⟩
  | .hbm, ⟨27, _⟩ => ⟨S4224x2048, .f32⟩
  | .hbm, ⟨28, _⟩ => ⟨S_, .f32⟩
  | .hbm, ⟨29, _⟩ => ⟨S4224x2048, .f32⟩
  | .hbm, ⟨30, _⟩ => ⟨S4224x2048, .f32⟩
  | .hbm, ⟨31, _⟩ => ⟨S4224x5632, .f32⟩
  | .hbm, ⟨32, _⟩ => ⟨S4224x5632, .f32⟩
  | .hbm, ⟨33, _⟩ => ⟨S4224x5632, .f32⟩
  | .hbm, ⟨34, _⟩ => ⟨S4224x5632, .f32⟩
  | .hbm, ⟨35, _⟩ => ⟨S4224x5632, .f32⟩
  | .hbm, ⟨36, _⟩ => ⟨S4224x5632, .f32⟩
  | .hbm, ⟨37, _⟩ => ⟨S4224x5632, .f32⟩
  | .hbm, ⟨38, _⟩ => ⟨S4224x5632, .bf16⟩
  | .hbm, ⟨39, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== DDown.lean ====
abbrev S4224x5632 : Shape := ⟨2, ![4224, 5632]⟩
abbrev S4224x2048 : Shape := ⟨2, ![4224, 2048]⟩
abbrev S4x2x1408x2048 : Shape := ⟨4, ![4, 2, 1408, 2048]⟩
abbrev S1408x1408 : Shape := ⟨2, ![1408, 1408]⟩
abbrev S1408x1024 : Shape := ⟨2, ![1408, 1024]⟩
abbrev S1x1x1408x1024 : Shape := ⟨4, ![1, 1, 1408, 1024]⟩
abbrev S1x1408x1024 : Shape := ⟨3, ![1, 1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .f32⟩
  | .hbm, ⟨2, _⟩ => ⟨S4x2x1408x2048, .bf16⟩
  | .hbm, ⟨3, _⟩ => ⟨S4x2x1408x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1x1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DDownIdeal.lean ====
  let c1_i32 : BitVec 32 := 1#32
  ![arg0.toNat, c1_i32.toNat, c0_i32.toNat, arg1.toNat]
-- ==== DDownRefIdeal.lean ====
abbrev S4224x5632 : Shape := ⟨2, ![4224, 5632]⟩
abbrev S4224x2048 : Shape := ⟨2, ![4224, 2048]⟩
abbrev S4x2x1408x2048 : Shape := ⟨4, ![4, 2, 1408, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S4x1x1408x2048 : Shape := ⟨4, ![4, 1, 1408, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .f32⟩
  | .hbm, ⟨2, _⟩ => ⟨S4x2x1408x2048, .bf16⟩
  | .hbm, ⟨3, _⟩ => ⟨S_, .f32⟩
  | .hbm, ⟨4, _⟩ => ⟨S5632x2048, .f32⟩
  | .hbm, ⟨5, _⟩ => ⟨S4224x5632, .f32⟩
  | .hbm, ⟨6, _⟩ => ⟨S4224x2048, .f32⟩
  | .hbm, ⟨7, _⟩ => ⟨S_, .f32⟩
  | .hbm, ⟨8, _⟩ => ⟨S4224x2048, .f32⟩
  | .hbm, ⟨9, _⟩ => ⟨S4224x2048, .f32⟩
  | .hbm, ⟨10, _⟩ => ⟨S_, .f32⟩
  | .hbm, ⟨11, _⟩ => ⟨S4224x2048, .f32⟩
  | .hbm, ⟨12, _⟩ => ⟨S4224x2048, .f32⟩
  | .hbm, ⟨13, _⟩ => ⟨S2048x5632, .f32⟩
  | .hbm, ⟨14, _⟩ => ⟨S5632x2048, .f32⟩
  | .hbm, ⟨15, _⟩ => ⟨S4x1408x2048, .f32⟩
  | .hbm, ⟨16, _⟩ => ⟨S4x1408x2048, .bf16⟩
  | .hbm, ⟨17, _⟩ => ⟨S4x1x1408x2048, .bf16⟩
  | .hbm, ⟨18, _⟩ => ⟨S4x1408x2048, .bf16⟩
  | .hbm, ⟨19, _⟩ => ⟨S4x1x1408x2048, .bf16⟩
  | .hbm, ⟨20, _⟩ => ⟨S4x1x1408x2048, .bf16⟩
  | .hbm, ⟨21, _⟩ => ⟨S4x2x1408x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DGateUp.lean ====
abbrev S4224x2048 : Shape := ⟨2, ![4224, 2048]⟩
abbrev S4224x5632 : Shape := ⟨2, ![4224, 5632]⟩
abbrev S4x2x2048x1408 : Shape := ⟨4, ![4, 2, 2048, 1408]⟩
abbrev S1408x512 : Shape := ⟨2, ![1408, 512]⟩
abbrev S1408x1408 : Shape := ⟨2, ![1408, 1408]⟩
abbrev S1x1x512x1408 : Shape := ⟨4, ![1, 1, 512, 1408]⟩
abbrev S2x512x1408 : Shape := ⟨3, ![2, 512, 1408]⟩
abbrev S1x512x1408 : Shape := ⟨3, ![1, 512, 1408]⟩
abbrev S512x1408 : Shape := ⟨2, ![512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4224x5632, .bf16⟩
  | .hbm, ⟨3, _⟩ => ⟨S4x2x2048x1408, .bf16⟩
  | .hbm, ⟨4, _⟩ => ⟨S4x2x2048x1408, .bf16⟩
  | .hbm, ⟨5, _⟩ => ⟨S4x2x2048x1408, .bf16⟩
  | .hbm, ⟨6, _⟩ => ⟨S4x2x2048x1408, .bf16⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .bf16⟩
  | .local _ .vmem, ⟨7, _⟩ => ⟨S1408x1408, .bf16⟩
  | .local _ .vmem, ⟨8, _⟩ => ⟨S1x1x512x1408, .bf16⟩
  | .local _ .vmem, ⟨9, _⟩ => ⟨S1x1x512x1408, .bf16⟩
  | .local _ .vmem, ⟨10, _⟩ => ⟨S1x1x512x1408, .bf16⟩
  | .local _ .vmem, ⟨11, _⟩ => ⟨S1x1x512x1408, .bf16⟩
  | .local _ .vmem, ⟨12, _⟩ => ⟨S2x512x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v21 : BitVec 1 := Scalar.cmpi .eq arg2 c2_i32
  let v22 : BitVec 32 := Scalar.extui v21
  let c0_i32_20 : BitVec 32 := 0#32
  let v23 : BitVec 1 := Scalar.cmpi .ne v22 c0_i32_20
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DGateUpIdeal.lean ====
abbrev S4224x2048 : Shape := ⟨2, ![4224, 2048]⟩
abbrev S4224x5632 : Shape := ⟨2, ![4224, 5632]⟩
abbrev S4x2x2048x1408 : Shape := ⟨4, ![4, 2, 2048, 1408]⟩
abbrev S1408x512 : Shape := ⟨2, ![1408, 512]⟩
abbrev S1408x1408 : Shape := ⟨2, ![1408, 1408]⟩
abbrev S1x1x512x1408 : Shape := ⟨4, ![1, 1, 512, 1408]⟩
abbrev S2x512x1408 : Shape := ⟨3, ![2, 512, 1408]⟩
abbrev S1x512x1408 : Shape := ⟨3, ![1, 512, 1408]⟩
abbrev S512x1408 : Shape := ⟨2, ![512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4224x5632, .bf16⟩
  | .hbm, ⟨3, _⟩ => ⟨S4x2x2048x1408, .bf16⟩
  | .hbm, ⟨4, _⟩ => ⟨S4x2x2048x1408, .bf16⟩
  | .hbm, ⟨5, _⟩ => ⟨S4x2x2048x1408, .bf16⟩
  | .hbm, ⟨6, _⟩ => ⟨S4x2x2048x1408, .bf16⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .bf16⟩
  | .local _ .vmem, ⟨7, _⟩ => ⟨S1408x1408, .bf16⟩
  | .local _ .vmem, ⟨8, _⟩ => ⟨S1x1x512x1408, .bf16⟩
  | .local _ .vmem, ⟨9, _⟩ => ⟨S1x1x512x1408, .bf16⟩
  | .local _ .vmem, ⟨10, _⟩ => ⟨S1x1x512x1408, .bf16⟩
  | .local _ .vmem, ⟨11, _⟩ => ⟨S1x1x512x1408, .bf16⟩
  | .local _ .vmem, ⟨12, _⟩ => ⟨S2x512x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v21 : BitVec 1 := Scalar.cmpi .eq arg2 c2_i32
  let v22 : BitVec 32 := Scalar.extui v21
  let c0_i32_20 : BitVec 32 := 0#32
  let v23 : BitVec 1 := Scalar.cmpi .ne v22 c0_i32_20
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DGateUpRefIdeal.lean ====
abbrev S4224x2048 : Shape := ⟨2, ![4224, 2048]⟩
abbrev S4224x5632 : Shape := ⟨2, ![4224, 5632]⟩
abbrev S4x2x2048x1408 : Shape := ⟨4, ![4, 2, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩

abbrev nBuf : Space → Nat
  | .hbm => 32
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4224x5632, .bf16⟩
  | .hbm, ⟨3, _⟩ => ⟨S4x2x2048x1408, .bf16⟩
  | .hbm, ⟨4, _⟩ => ⟨S4x2x2048x1408, .bf16⟩
  | .hbm, ⟨5, _⟩ => ⟨S_, .f32⟩
  | .hbm, ⟨6, _⟩ => ⟨S2048x5632, .f32⟩
  | .hbm, ⟨7, _⟩ => ⟨S4224x2048, .f32⟩
  | .hbm, ⟨8, _⟩ => ⟨S4224x5632, .f32⟩
  | .hbm, ⟨9, _⟩ => ⟨S4224x5632, .f32⟩
  | .hbm, ⟨10, _⟩ => ⟨S4224x5632, .f32⟩
  | .hbm, ⟨11, _⟩ => ⟨S4224x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S2048x5632, .f32⟩
  | .hbm, ⟨16, _⟩ => ⟨S2048x4x1408, .f32⟩
  | .hbm, ⟨17, _⟩ => ⟨S4x2048x1408, .f32⟩
  | .hbm, ⟨18, _⟩ => ⟨S4x2048x1408, .bf16⟩
  | .hbm, ⟨19, _⟩ => ⟨S4x1x2048x1408, .bf16⟩
  | .hbm, ⟨20, _⟩ => ⟨S4x2048x1408, .bf16⟩
  | .hbm, ⟨21, _⟩ => ⟨S4x1x2048x1408, .bf16⟩
  | .hbm, ⟨22, _⟩ => ⟨S4x1x2048x1408, .bf16⟩
  | .hbm, ⟨23, _⟩ => ⟨S4x2x2048x1408, .bf16⟩
  | .hbm, ⟨24, _⟩ => ⟨S2048x4x1408, .f32⟩
  | .hbm, ⟨25, _⟩ => ⟨S4x2048x1408, .f32⟩
  | .hbm, ⟨26, _⟩ => ⟨S4x2048x1408, .bf16⟩
  | .hbm, ⟨27, _⟩ => ⟨S4x1x2048x1408, .bf16⟩
  | .hbm, ⟨28, _⟩ => ⟨S4x2048x1408, .bf16⟩
  | .hbm, ⟨29, _⟩ => ⟨S4x1x2048x1408, .bf16⟩
  | .hbm, ⟨30, _⟩ => ⟨S4x1x2048x1408, .bf16⟩
  | .hbm, ⟨31, _⟩ => ⟨S4x2x2048x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== DNorm.lean ====
abbrev S4224x5632 : Shape := ⟨2, ![4224, 5632]⟩
abbrev S4x2x2048x1408 : Shape := ⟨4, ![4, 2, 2048, 1408]⟩
abbrev S4224x2048 : Shape := ⟨2, ![4224, 2048]⟩
abbrev S704x1408 : Shape := ⟨2, ![704, 1408]⟩
abbrev S1x1x1024x1408 : Shape := ⟨4, ![1, 1, 1024, 1408]⟩
abbrev S704x1024 : Shape := ⟨2, ![704, 1024]⟩
abbrev S1x704x1024 : Shape := ⟨3, ![1, 704, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2x2048x1408, .bf16⟩
  | .hbm, ⟨3, _⟩ => ⟨S4x2x2048x1408, .bf16⟩
  | .hbm, ⟨4, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S704x1408, .bf16⟩
  | .local _ .vmem, ⟨3, _⟩ => ⟨S704x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S704x1024, .f32⟩
  | .local _ .vmem, ⟨9, _⟩ => ⟨S704x1024, .f32⟩
  | .local _ .vmem, ⟨10, _⟩ => ⟨S1x704x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_25 : BitVec 32 := 0#32
  let v25 : BitVec 1 := Scalar.cmpi .ne v24 c0_i32_25
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DNormIdeal.lean ====
abbrev S4224x5632 : Shape := ⟨2, ![4224, 5632]⟩
abbrev S4x2x2048x1408 : Shape := ⟨4, ![4, 2, 2048, 1408]⟩
abbrev S4224x2048 : Shape := ⟨2, ![4224, 2048]⟩
abbrev S704x1408 : Shape := ⟨2, ![704, 1408]⟩
abbrev S1x1x1024x1408 : Shape := ⟨4, ![1, 1, 1024, 1408]⟩
abbrev S704x1024 : Shape := ⟨2, ![704, 1024]⟩
abbrev S1x704x1024 : Shape := ⟨3, ![1, 704, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2x2048x1408, .bf16⟩
  | .hbm, ⟨3, _⟩ => ⟨S4x2x2048x1408, .bf16⟩
  | .hbm, ⟨4, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S704x1408, .bf16⟩
  | .local _ .vmem, ⟨3, _⟩ => ⟨S704x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S704x1024, .f32⟩
  | .local _ .vmem, ⟨9, _⟩ => ⟨S704x1024, .f32⟩
  | .local _ .vmem, ⟨10, _⟩ => ⟨S1x704x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_25 : BitVec 32 := 0#32
  let v25 : BitVec 1 := Scalar.cmpi .ne v24 c0_i32_25
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DNormRefIdeal.lean ====
abbrev S4224x5632 : Shape := ⟨2, ![4224, 5632]⟩
abbrev S4x2x2048x1408 : Shape := ⟨4, ![4, 2, 2048, 1408]⟩
abbrev S_ : Shape := ⟨0, ![]⟩
abbrev S4224x2048 : Shape := ⟨2, ![4224, 2048]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2x2048x1408, .bf16⟩
  | .hbm, ⟨3, _⟩ => ⟨S4x2x2048x1408, .bf16⟩
  | .hbm, ⟨4, _⟩ => ⟨S_, .f32⟩
  | .hbm, ⟨5, _⟩ => ⟨S4224x2048, .f32⟩
  | .hbm, ⟨6, _⟩ => ⟨S4x1x2048x1408, .bf16⟩
  | .hbm, ⟨7, _⟩ => ⟨S4x2048x1408, .bf16⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S4x1x2048x1408, .bf16⟩
  | .hbm, ⟨12, _⟩ => ⟨S4x2048x1408, .bf16⟩
  | .hbm, ⟨13, _⟩ => ⟨S4x2048x1408, .f32⟩
  | .hbm, ⟨14, _⟩ => ⟨S2048x4x1408, .f32⟩
  | .hbm, ⟨15, _⟩ => ⟨S2048x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x2048, .f32⟩
  | .hbm, ⟨21, _⟩ => ⟨S4224x2048, .f32⟩
  | .hbm, ⟨22, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== FirstGateUp.lean ====
abbrev S4224x2048 : Shape := ⟨2, ![4224, 2048]⟩
abbrev S4x2x2048x1408 : Shape := ⟨4, ![4, 2, 2048, 1408]⟩
abbrev S4224x5632 : Shape := ⟨2, ![4224, 5632]⟩
abbrev S704x512 : Shape := ⟨2, ![704, 512]⟩
abbrev S1x1x512x1408 : Shape := ⟨4, ![1, 1, 512, 1408]⟩
abbrev S704x1408 : Shape := ⟨2, ![704, 1408]⟩
abbrev S2x704x1408 : Shape := ⟨3, ![2, 704, 1408]⟩
abbrev S1x704x1408 : Shape := ⟨3, ![1, 704, 1408]⟩
abbrev S512x1408 : Shape := ⟨2, ![512, 1408]⟩

abbrev nBuf : Space → Nat
  | .hbm => 6
  | .vmem => 15
  | .smem => 0
  | _ => 0

abbrev bufTy : (tb : Table) → Fin (tcTables nBuf tb) → BufTy
  | .hbm, ⟨0, _⟩ => ⟨S4224x2048, .bf16⟩
  | .hbm, ⟨1, _⟩ => ⟨S4x2x2048x1408, .bf16⟩
  | .hbm, ⟨2, _⟩ => ⟨S4x2x2048x1408, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x512, .bf16⟩
  | .local _ .vmem, ⟨1, _⟩ => ⟨S704x512, .bf16⟩
  | .local _ .vmem, ⟨2, _⟩ => ⟨S704x512, .bf16⟩
  | .local _ .vmem, ⟨3, _⟩ => ⟨S704x512, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S1x1x512x1408, .bf16⟩
  | .local _ .vmem, ⟨7, _⟩ => ⟨S1x1x512x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S704x1408, .bf16⟩
  | .local _ .vmem, ⟨13, _⟩ => ⟨S704x1408, .bf16⟩
  | .local _ .vmem, ⟨14, _⟩ => ⟨S2x704x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_24 : BitVec 32 := 0#32
  let v25 : BitVec 1 := Scalar.cmpi .ne v24 c0_i32_24
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S704x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FirstGateUpRefIdeal.lean ====
abbrev S4224x2048 : Shape := ⟨2, ![4224, 2048]⟩
abbrev S4x2x2048x1408 : Shape := ⟨4, ![4, 2, 2048, 1408]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4224x5632 : Shape := ⟨2, ![4224, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2x2048x1408, .bf16⟩
  | .hbm, ⟨2, _⟩ => ⟨S4x2x2048x1408, .bf16⟩
  | .hbm, ⟨3, _⟩ => ⟨S4224x2048, .f32⟩
  | .hbm, ⟨4, _⟩ => ⟨S4x1x2048x1408, .bf16⟩
  | .hbm, ⟨5, _⟩ => ⟨S4x2048x1408, .bf16⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S4x1x2048x1408, .bf16⟩
  | .hbm, ⟨10, _⟩ => ⟨S4x2048x1408, .bf16⟩
  | .hbm, ⟨11, _⟩ => ⟨S4x2048x1408, .f32⟩
  | .hbm, ⟨12, _⟩ => ⟨S2048x4x1408, .f32⟩
  | .hbm, ⟨13, _⟩ => ⟨S2048x5632, .f32⟩
  | .hbm, ⟨14, _⟩ => ⟨S4224x5632, .f32⟩
  | .hbm, ⟨15, _⟩ => ⟨S4224x5632, .f32⟩
  | .hbm, ⟨16, _⟩ => ⟨S4224x5632, .bf16⟩
  | .hbm, ⟨17, _⟩ => ⟨S4224x5632, .bf16⟩
  | .hbm, ⟨18, _⟩ => ⟨S4224x5632, .f32⟩
  | .hbm, ⟨19, _⟩ => ⟨S4224x5632, .f32⟩
  | .hbm, ⟨20, _⟩ => ⟨S_, .f32⟩
  | .hbm, ⟨21, _⟩ => ⟨S4224x5632, .f32⟩
  | .hbm, ⟨22, _⟩ => ⟨S4224x5632, .f32⟩
  | .hbm, ⟨23, _⟩ => ⟨S_, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== FirstDown.lean ====
abbrev S4224x2048 : Shape := ⟨2, ![4224, 2048]⟩
abbrev S4224x5632 : Shape := ⟨2, ![4224, 5632]⟩
abbrev S4x2x1408x2048 : Shape := ⟨4, ![4, 2, 1408, 2048]⟩
abbrev S1056x1408 : Shape := ⟨2, ![1056, 1408]⟩
abbrev S1x1x1408x1024 : Shape := ⟨4, ![1, 1, 1408, 1024]⟩
abbrev S1056x1024 : Shape := ⟨2, ![1056, 1024]⟩
abbrev S1x1056x1024 : Shape := ⟨3, ![1, 1056, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4224x5632, .bf16⟩
  | .hbm, ⟨2, _⟩ => ⟨S4x2x1408x2048, .bf16⟩
  | .hbm, ⟨3, _⟩ => ⟨S4224x2048, .f32⟩
  | .local _ .vmem, ⟨0, _⟩ => ⟨S1056x1408, .bf16⟩
  | .local _ .vmem, ⟨1, _⟩ => ⟨S1056x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1x1056x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FirstDownRefIdeal.lean ====
abbrev S4224x2048 : Shape := ⟨2, ![4224, 2048]⟩
abbrev S4224x5632 : Shape := ⟨2, ![4224, 5632]⟩
abbrev S4x2x1408x2048 : Shape := ⟨4, ![4, 2, 1408, 2048]⟩
abbrev S4x1x1408x2048 : Shape := ⟨4, ![4, 1, 1408, 2048]⟩
abbrev S4x1408x2048 : Shape := ⟨3, ![4, 1408, 2048]⟩
abbrev S5632x2048 : Shape := ⟨2, ![5632, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x5632, .bf16⟩
  | .hbm, ⟨2, _⟩ => ⟨S4x2x1408x2048, .bf16⟩
  | .hbm, ⟨3, _⟩ => ⟨S4224x5632, .f32⟩
  | .hbm, ⟨4, _⟩ => ⟨S4x1x1408x2048, .bf16⟩
  | .hbm, ⟨5, _⟩ => ⟨S4x1408x2048, .bf16⟩
  | .hbm, ⟨6, _⟩ => ⟨S4x1408x2048, .f32⟩
  | .hbm, ⟨7, _⟩ => ⟨S5632x2048, .f32⟩
  | .hbm, ⟨8, _⟩ => ⟨S4224x2048, .f32⟩
  | .hbm, ⟨9, _⟩ => ⟨S_, .f32⟩
  | .hbm, ⟨10, _⟩ => ⟨S4224x2048, .f32⟩
  | .hbm, ⟨11, _⟩ => ⟨S4224x2048, .f32⟩
  | .hbm, ⟨12, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FirstDAct.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S704x1024 : Shape := ⟨2, ![704, 1024]⟩
abbrev S1x1x1408x1024 : Shape := ⟨4, ![1, 1, 1408, 1024]⟩
abbrev S704x1408 : Shape := ⟨2, ![704, 1408]⟩
abbrev S1x704x1408 : Shape := ⟨3, ![1, 704, 1408]⟩
abbrev S1408x1024 : Shape := ⟨2, ![1408, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4224x2048, .f32⟩
  | .hbm, ⟨1, _⟩ => ⟨S4x2x1408x2048, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x1024, .f32⟩
  | .local _ .vmem, ⟨1, _⟩ => ⟨S704x1024, .f32⟩
  | .local _ .vmem, ⟨2, _⟩ => ⟨S1x1x1408x1024, .bf16⟩
  | .local _ .vmem, ⟨3, _⟩ => ⟨S1x1x1408x1024, .bf16⟩
  | .local _ .vmem, ⟨4, _⟩ => ⟨S704x1408, .bf16⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | .local _ .vmem, ⟨12, _⟩ => ⟨S1x704x1408, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FirstDActRefIdeal.lean ====
abbrev S4224x2048 : Shape := ⟨2, ![4224, 2048]⟩
abbrev S4x2x1408x2048 : Shape := ⟨4, ![4, 2, 1408, 2048]⟩
abbrev S4224x5632 : Shape := ⟨2, ![4224, 5632]⟩
abbrev S_ : Shape := ⟨0, ![]⟩
abbrev S4x1x1408x2048 : Shape := ⟨4, ![4, 1, 1408, 2048]⟩
abbrev S4x1408x2048 : Shape := ⟨3, ![4, 1408, 2048]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4x2x1408x2048, .bf16⟩
  | .hbm, ⟨2, _⟩ => ⟨S4224x5632, .bf16⟩
  | .hbm, ⟨3, _⟩ => ⟨S4224x5632, .bf16⟩
  | .hbm, ⟨4, _⟩ => ⟨S4224x5632, .f32⟩
  | .hbm, ⟨5, _⟩ => ⟨S4224x5632, .f32⟩
  | .hbm, ⟨6, _⟩ => ⟨S4224x5632, .f32⟩
  | .hbm, ⟨7, _⟩ => ⟨S4224x5632, .f32⟩
  | .hbm, ⟨8, _⟩ => ⟨S_, .f32⟩
  | .hbm, ⟨9, _⟩ => ⟨S4224x5632, .f32⟩
  | .hbm, ⟨10, _⟩ => ⟨S4224x5632, .f32⟩
  | .hbm, ⟨11, _⟩ => ⟨S_, .f32⟩
  | .hbm, ⟨12, _⟩ => ⟨S4224x5632, .f32⟩
  | .hbm, ⟨13, _⟩ => ⟨S4224x5632, .f32⟩
  | .hbm, ⟨14, _⟩ => ⟨S_, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4x1x1408x2048, .bf16⟩
  | .hbm, ⟨21, _⟩ => ⟨S4x1408x2048, .bf16⟩
  | .hbm, ⟨22, _⟩ => ⟨S4x1408x2048, .f32⟩
  | .hbm, ⟨23, _⟩ => ⟨S5632x2048, .f32⟩
  | .hbm, ⟨24, _⟩ => ⟨S4224x2048, .f32⟩
  | .hbm, ⟨25, _⟩ => ⟨S_, .f32⟩
  | .hbm, ⟨26, _⟩ => ⟨S4224x2048, .f32⟩
  | .hbm, ⟨27, _⟩ => ⟨S4224x2048, .f32⟩
  | .hbm, ⟨28, _⟩ => ⟨S_, .f32⟩
  | .hbm, ⟨29, _⟩ => ⟨S4224x2048, .f32⟩
  | .hbm, ⟨30, _⟩ => ⟨S4224x2048, .f32⟩
  | .hbm, ⟨31, _⟩ => ⟨S4224x5632, .f32⟩
  | .hbm, ⟨32, _⟩ => ⟨S4224x5632, .f32⟩
  | .hbm, ⟨33, _⟩ => ⟨S4224x5632, .f32⟩
  | .hbm, ⟨34, _⟩ => ⟨S4224x5632, .f32⟩
  | .hbm, ⟨35, _⟩ => ⟨S4224x5632, .f32⟩
  | .hbm, ⟨36, _⟩ => ⟨S4224x5632, .f32⟩
  | .hbm, ⟨37, _⟩ => ⟨S4224x5632, .f32⟩
  | .hbm, ⟨38, _⟩ => ⟨S4224x5632, .bf16⟩
  | .hbm, ⟨39, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== FirstDDown.lean ====
abbrev S4224x5632 : Shape := ⟨2, ![4224, 5632]⟩
abbrev S4224x2048 : Shape := ⟨2, ![4224, 2048]⟩
abbrev S4x2x1408x2048 : Shape := ⟨4, ![4, 2, 1408, 2048]⟩
abbrev S1408x1408 : Shape := ⟨2, ![1408, 1408]⟩
abbrev S1408x1024 : Shape := ⟨2, ![1408, 1024]⟩
abbrev S1x1x1408x1024 : Shape := ⟨4, ![1, 1, 1408, 1024]⟩
abbrev S1x1408x1024 : Shape := ⟨3, ![1, 1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .f32⟩
  | .hbm, ⟨2, _⟩ => ⟨S4x2x1408x2048, .bf16⟩
  | .hbm, ⟨3, _⟩ => ⟨S4x2x1408x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1x1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FirstDDownRefIdeal.lean ====
abbrev S4224x5632 : Shape := ⟨2, ![4224, 5632]⟩
abbrev S4224x2048 : Shape := ⟨2, ![4224, 2048]⟩
abbrev S4x2x1408x2048 : Shape := ⟨4, ![4, 2, 1408, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S4x1x1408x2048 : Shape := ⟨4, ![4, 1, 1408, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .f32⟩
  | .hbm, ⟨2, _⟩ => ⟨S4x2x1408x2048, .bf16⟩
  | .hbm, ⟨3, _⟩ => ⟨S_, .f32⟩
  | .hbm, ⟨4, _⟩ => ⟨S5632x2048, .f32⟩
  | .hbm, ⟨5, _⟩ => ⟨S4224x5632, .f32⟩
  | .hbm, ⟨6, _⟩ => ⟨S4224x2048, .f32⟩
  | .hbm, ⟨7, _⟩ => ⟨S_, .f32⟩
  | .hbm, ⟨8, _⟩ => ⟨S4224x2048, .f32⟩
  | .hbm, ⟨9, _⟩ => ⟨S4224x2048, .f32⟩
  | .hbm, ⟨10, _⟩ => ⟨S_, .f32⟩
  | .hbm, ⟨11, _⟩ => ⟨S4224x2048, .f32⟩
  | .hbm, ⟨12, _⟩ => ⟨S4224x2048, .f32⟩
  | .hbm, ⟨13, _⟩ => ⟨S2048x5632, .f32⟩
  | .hbm, ⟨14, _⟩ => ⟨S5632x2048, .f32⟩
  | .hbm, ⟨15, _⟩ => ⟨S4x1408x2048, .f32⟩
  | .hbm, ⟨16, _⟩ => ⟨S4x1408x2048, .bf16⟩
  | .hbm, ⟨17, _⟩ => ⟨S4x1x1408x2048, .bf16⟩
  | .hbm, ⟨18, _⟩ => ⟨S4x1408x2048, .bf16⟩
  | .hbm, ⟨19, _⟩ => ⟨S4x1x1408x2048, .bf16⟩
  | .hbm, ⟨20, _⟩ => ⟨S4x1x1408x2048, .bf16⟩
  | .hbm, ⟨21, _⟩ => ⟨S4x2x1408x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FirstDGateUp.lean ====
abbrev S4224x2048 : Shape := ⟨2, ![4224, 2048]⟩
abbrev S4224x5632 : Shape := ⟨2, ![4224, 5632]⟩
abbrev S4x2x2048x1408 : Shape := ⟨4, ![4, 2, 2048, 1408]⟩
abbrev S1408x512 : Shape := ⟨2, ![1408, 512]⟩
abbrev S1408x1408 : Shape := ⟨2, ![1408, 1408]⟩
abbrev S1x1x512x1408 : Shape := ⟨4, ![1, 1, 512, 1408]⟩
abbrev S2x512x1408 : Shape := ⟨3, ![2, 512, 1408]⟩
abbrev S1x512x1408 : Shape := ⟨3, ![1, 512, 1408]⟩
abbrev S512x1408 : Shape := ⟨2, ![512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4224x5632, .bf16⟩
  | .hbm, ⟨3, _⟩ => ⟨S4x2x2048x1408, .bf16⟩
  | .hbm, ⟨4, _⟩ => ⟨S4x2x2048x1408, .bf16⟩
  | .hbm, ⟨5, _⟩ => ⟨S4x2x2048x1408, .bf16⟩
  | .hbm, ⟨6, _⟩ => ⟨S4x2x2048x1408, .bf16⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .bf16⟩
  | .local _ .vmem, ⟨7, _⟩ => ⟨S1408x1408, .bf16⟩
  | .local _ .vmem, ⟨8, _⟩ => ⟨S1x1x512x1408, .bf16⟩
  | .local _ .vmem, ⟨9, _⟩ => ⟨S1x1x512x1408, .bf16⟩
  | .local _ .vmem, ⟨10, _⟩ => ⟨S1x1x512x1408, .bf16⟩
  | .local _ .vmem, ⟨11, _⟩ => ⟨S1x1x512x1408, .bf16⟩
  | .local _ .vmem, ⟨12, _⟩ => ⟨S2x512x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v21 : BitVec 1 := Scalar.cmpi .eq arg2 c2_i32
  let v22 : BitVec 32 := Scalar.extui v21
  let c0_i32_20 : BitVec 32 := 0#32
  let v23 : BitVec 1 := Scalar.cmpi .ne v22 c0_i32_20
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FirstDGateUpRefIdeal.lean ====
abbrev S4224x2048 : Shape := ⟨2, ![4224, 2048]⟩
abbrev S4224x5632 : Shape := ⟨2, ![4224, 5632]⟩
abbrev S4x2x2048x1408 : Shape := ⟨4, ![4, 2, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩

abbrev nBuf : Space → Nat
  | .hbm => 32
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S4224x5632, .bf16⟩
  | .hbm, ⟨3, _⟩ => ⟨S4x2x2048x1408, .bf16⟩
  | .hbm, ⟨4, _⟩ => ⟨S4x2x2048x1408, .bf16⟩
  | .hbm, ⟨5, _⟩ => ⟨S_, .f32⟩
  | .hbm, ⟨6, _⟩ => ⟨S2048x5632, .f32⟩
  | .hbm, ⟨7, _⟩ => ⟨S4224x2048, .f32⟩
  | .hbm, ⟨8, _⟩ => ⟨S4224x5632, .f32⟩
  | .hbm, ⟨9, _⟩ => ⟨S4224x5632, .f32⟩
  | .hbm, ⟨10, _⟩ => ⟨S4224x5632, .f32⟩
  | .hbm, ⟨11, _⟩ => ⟨S4224x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S2048x5632, .f32⟩
  | .hbm, ⟨16, _⟩ => ⟨S2048x4x1408, .f32⟩
  | .hbm, ⟨17, _⟩ => ⟨S4x2048x1408, .f32⟩
  | .hbm, ⟨18, _⟩ => ⟨S4x2048x1408, .bf16⟩
  | .hbm, ⟨19, _⟩ => ⟨S4x1x2048x1408, .bf16⟩
  | .hbm, ⟨20, _⟩ => ⟨S4x2048x1408, .bf16⟩
  | .hbm, ⟨21, _⟩ => ⟨S4x1x2048x1408, .bf16⟩
  | .hbm, ⟨22, _⟩ => ⟨S4x1x2048x1408, .bf16⟩
  | .hbm, ⟨23, _⟩ => ⟨S4x2x2048x1408, .bf16⟩
  | .hbm, ⟨24, _⟩ => ⟨S2048x4x1408, .f32⟩
  | .hbm, ⟨25, _⟩ => ⟨S4x2048x1408, .f32⟩
  | .hbm, ⟨26, _⟩ => ⟨S4x2048x1408, .bf16⟩
  | .hbm, ⟨27, _⟩ => ⟨S4x1x2048x1408, .bf16⟩
  | .hbm, ⟨28, _⟩ => ⟨S4x2048x1408, .bf16⟩
  | .hbm, ⟨29, _⟩ => ⟨S4x1x2048x1408, .bf16⟩
  | .hbm, ⟨30, _⟩ => ⟨S4x1x2048x1408, .bf16⟩
  | .hbm, ⟨31, _⟩ => ⟨S4x2x2048x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== FirstDNorm.lean ====
abbrev S4224x5632 : Shape := ⟨2, ![4224, 5632]⟩
abbrev S4x2x2048x1408 : Shape := ⟨4, ![4, 2, 2048, 1408]⟩
abbrev S4224x2048 : Shape := ⟨2, ![4224, 2048]⟩
abbrev S704x1408 : Shape := ⟨2, ![704, 1408]⟩
abbrev S1x1x1024x1408 : Shape := ⟨4, ![1, 1, 1024, 1408]⟩
abbrev S704x1024 : Shape := ⟨2, ![704, 1024]⟩
abbrev S1x704x1024 : Shape := ⟨3, ![1, 704, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2x2048x1408, .bf16⟩
  | .hbm, ⟨3, _⟩ => ⟨S4x2x2048x1408, .bf16⟩
  | .hbm, ⟨4, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S704x1408, .bf16⟩
  | .local _ .vmem, ⟨3, _⟩ => ⟨S704x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S704x1024, .f32⟩
  | .local _ .vmem, ⟨9, _⟩ => ⟨S704x1024, .f32⟩
  | .local _ .vmem, ⟨10, _⟩ => ⟨S1x704x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_25 : BitVec 32 := 0#32
  let v25 : BitVec 1 := Scalar.cmpi .ne v24 c0_i32_25
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FirstDNormRefIdeal.lean ====
abbrev S4224x5632 : Shape := ⟨2, ![4224, 5632]⟩
abbrev S4x2x2048x1408 : Shape := ⟨4, ![4, 2, 2048, 1408]⟩
abbrev S_ : Shape := ⟨0, ![]⟩
abbrev S4224x2048 : Shape := ⟨2, ![4224, 2048]⟩
abbrev S4x1x2048x1408 : Shape := ⟨4, ![4, 1, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x5632, .bf16⟩
  | .hbm, ⟨2, _⟩ => ⟨S4x2x2048x1408, .bf16⟩
  | .hbm, ⟨3, _⟩ => ⟨S4x2x2048x1408, .bf16⟩
  | .hbm, ⟨4, _⟩ => ⟨S_, .f32⟩
  | .hbm, ⟨5, _⟩ => ⟨S4224x2048, .f32⟩
  | .hbm, ⟨6, _⟩ => ⟨S4x1x2048x1408, .bf16⟩
  | .hbm, ⟨7, _⟩ => ⟨S4x2048x1408, .bf16⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S4x1x2048x1408, .bf16⟩
  | .hbm, ⟨12, _⟩ => ⟨S4x2048x1408, .bf16⟩
  | .hbm, ⟨13, _⟩ => ⟨S4x2048x1408, .f32⟩
  | .hbm, ⟨14, _⟩ => ⟨S2048x4x1408, .f32⟩
  | .hbm, ⟨15, _⟩ => ⟨S2048x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x2048, .f32⟩
  | .hbm, ⟨21, _⟩ => ⟨S4224x2048, .f32⟩
  | .hbm, ⟨22, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== AdamFfnColumns.lean ====
abbrev S4x2x2048x1408 : Shape := ⟨4, ![4, 2, 2048, 1408]⟩
abbrev S16384x1408 : Shape := ⟨2, ![16384, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x1408, .f32⟩
  | .hbm, ⟨9, _⟩ => ⟨S16384x1408, .f32⟩
  | .hbm, ⟨10, _⟩ => ⟨S16384x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnColumnsIdeal.lean ====
abbrev S4x2x2048x1408 : Shape := ⟨4, ![4, 2, 2048, 1408]⟩
abbrev S16384x1408 : Shape := ⟨2, ![16384, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x1408, .f32⟩
  | .hbm, ⟨9, _⟩ => ⟨S16384x1408, .f32⟩
  | .hbm, ⟨10, _⟩ => ⟨S16384x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnColumnsRefIdeal.lean ====
abbrev S4x2x2048x1408 : Shape := ⟨4, ![4, 2, 2048, 1408]⟩
abbrev S_ : Shape := ⟨0, ![]⟩
abbrev S16384x1408 : Shape := ⟨2, ![16384, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S_, .f32⟩
  | .hbm, ⟨5, _⟩ => ⟨S4x2x2048x1408, .f32⟩
  | .hbm, ⟨6, _⟩ => ⟨S4x2x2048x1408, .f32⟩
  | .hbm, ⟨7, _⟩ => ⟨S_, .f32⟩
  | .hbm, ⟨8, _⟩ => ⟨S4x2x2048x1408, .f32⟩
  | .hbm, ⟨9, _⟩ => ⟨S4x2x2048x1408, .f32⟩
  | .hbm, ⟨10, _⟩ => ⟨S4x2x2048x1408, .f32⟩
  | .hbm, ⟨11, _⟩ => ⟨S_, .f32⟩
  | .hbm, ⟨12, _⟩ => ⟨S4x2x2048x1408, .f32⟩
  | .hbm, ⟨13, _⟩ => ⟨S4x2x2048x1408, .f32⟩
  | .hbm, ⟨14, _⟩ => ⟨S4x2x2048x1408, .f32⟩
  | .hbm, ⟨15, _⟩ => ⟨S_, .f32⟩
  | .hbm, ⟨16, _⟩ => ⟨S4x2x2048x1408, .f32⟩
  | .hbm, ⟨17, _⟩ => ⟨S4x2x2048x1408, .f32⟩
  | .hbm, ⟨18, _⟩ => ⟨S4x2x2048x1408, .f32⟩
  | .hbm, ⟨19, _⟩ => ⟨S_, .f32⟩
  | .hbm, ⟨20, _⟩ => ⟨S4x2x2048x1408, .f32⟩
  | .hbm, ⟨21, _⟩ => ⟨S4x2x2048x1408, .f32⟩
  | .hbm, ⟨22, _⟩ => ⟨S_, .f32⟩
  | .hbm, ⟨23, _⟩ => ⟨S4x2x2048x1408, .f32⟩
  | .hbm, ⟨24, _⟩ => ⟨S4x2x2048x1408, .f32⟩
  | .hbm, ⟨25, _⟩ => ⟨S4x2x2048x1408, .f32⟩
  | .hbm, ⟨26, _⟩ => ⟨S_, .f32⟩
  | .hbm, ⟨27, _⟩ => ⟨S4x2x2048x1408, .f32⟩
  | .hbm, ⟨28, _⟩ => ⟨S4x2x2048x1408, .f32⟩
  | .hbm, ⟨29, _⟩ => ⟨S4x2x2048x1408, .f32⟩
  | .hbm, ⟨30, _⟩ => ⟨S_, .f32⟩
  | .hbm, ⟨31, _⟩ => ⟨S4x2x2048x1408, .f32⟩
  | .hbm, ⟨32, _⟩ => ⟨S4x2x2048x1408, .f32⟩
  | .hbm, ⟨33, _⟩ => ⟨S4x2x2048x1408, .f32⟩
  | .hbm, ⟨34, _⟩ => ⟨S_, .f32⟩
  | .hbm, ⟨35, _⟩ => ⟨S4x2x2048x1408, .f32⟩
  | .hbm, ⟨36, _⟩ => ⟨S4x2x2048x1408, .f32⟩
  | .hbm, ⟨37, _⟩ => ⟨S16384x1408, .f32⟩
  | .hbm, ⟨38, _⟩ => ⟨S16384x1408, .f32⟩
  | .hbm, ⟨39, _⟩ => ⟨S16384x1408, .f32⟩
  | _, _ => ⟨S4x2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnRows.lean ====
abbrev S4x2x1408x2048 : Shape := ⟨4, ![4, 2, 1408, 2048]⟩
abbrev S11264x2048 : Shape := ⟨2, ![11264, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S11264x2048, .f32⟩
  | .hbm, ⟨5, _⟩ => ⟨S11264x2048, .f32⟩
  | .hbm, ⟨6, _⟩ => ⟨S11264x2048, .f32⟩
  | .hbm, ⟨7, _⟩ => ⟨S11264x2048, .f32⟩
  | .hbm, ⟨8, _⟩ => ⟨S11264x2048, .f32⟩
  | .hbm, ⟨9, _⟩ => ⟨S11264x2048, .f32⟩
  | .hbm, ⟨10, _⟩ => ⟨S11264x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRowsIdeal.lean ====
abbrev S4x2x1408x2048 : Shape := ⟨4, ![4, 2, 1408, 2048]⟩
abbrev S11264x2048 : Shape := ⟨2, ![11264, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S11264x2048, .f32⟩
  | .hbm, ⟨5, _⟩ => ⟨S11264x2048, .f32⟩
  | .hbm, ⟨6, _⟩ => ⟨S11264x2048, .f32⟩
  | .hbm, ⟨7, _⟩ => ⟨S11264x2048, .f32⟩
  | .hbm, ⟨8, _⟩ => ⟨S11264x2048, .f32⟩
  | .hbm, ⟨9, _⟩ => ⟨S11264x2048, .f32⟩
  | .hbm, ⟨10, _⟩ => ⟨S11264x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRowsRefIdeal.lean ====
abbrev S4x2x1408x2048 : Shape := ⟨4, ![4, 2, 1408, 2048]⟩
abbrev S_ : Shape := ⟨0, ![]⟩
abbrev S11264x2048 : Shape := ⟨2, ![11264, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S_, .f32⟩
  | .hbm, ⟨5, _⟩ => ⟨S4x2x1408x2048, .f32⟩
  | .hbm, ⟨6, _⟩ => ⟨S4x2x1408x2048, .f32⟩
  | .hbm, ⟨7, _⟩ => ⟨S_, .f32⟩
  | .hbm, ⟨8, _⟩ => ⟨S4x2x1408x2048, .f32⟩
  | .hbm, ⟨9, _⟩ => ⟨S4x2x1408x2048, .f32⟩
  | .hbm, ⟨10, _⟩ => ⟨S4x2x1408x2048, .f32⟩
  | .hbm, ⟨11, _⟩ => ⟨S_, .f32⟩
  | .hbm, ⟨12, _⟩ => ⟨S4x2x1408x2048, .f32⟩
  | .hbm, ⟨13, _⟩ => ⟨S4x2x1408x2048, .f32⟩
  | .hbm, ⟨14, _⟩ => ⟨S4x2x1408x2048, .f32⟩
  | .hbm, ⟨15, _⟩ => ⟨S_, .f32⟩
  | .hbm, ⟨16, _⟩ => ⟨S4x2x1408x2048, .f32⟩
  | .hbm, ⟨17, _⟩ => ⟨S4x2x1408x2048, .f32⟩
  | .hbm, ⟨18, _⟩ => ⟨S4x2x1408x2048, .f32⟩
  | .hbm, ⟨19, _⟩ => ⟨S_, .f32⟩
  | .hbm, ⟨20, _⟩ => ⟨S4x2x1408x2048, .f32⟩
  | .hbm, ⟨21, _⟩ => ⟨S4x2x1408x2048, .f32⟩
  | .hbm, ⟨22, _⟩ => ⟨S_, .f32⟩
  | .hbm, ⟨23, _⟩ => ⟨S4x2x1408x2048, .f32⟩
  | .hbm, ⟨24, _⟩ => ⟨S4x2x1408x2048, .f32⟩
  | .hbm, ⟨25, _⟩ => ⟨S4x2x1408x2048, .f32⟩
  | .hbm, ⟨26, _⟩ => ⟨S_, .f32⟩
  | .hbm, ⟨27, _⟩ => ⟨S4x2x1408x2048, .f32⟩
  | .hbm, ⟨28, _⟩ => ⟨S4x2x1408x2048, .f32⟩
  | .hbm, ⟨29, _⟩ => ⟨S4x2x1408x2048, .f32⟩
  | .hbm, ⟨30, _⟩ => ⟨S_, .f32⟩
  | .hbm, ⟨31, _⟩ => ⟨S4x2x1408x2048, .f32⟩
  | .hbm, ⟨32, _⟩ => ⟨S4x2x1408x2048, .f32⟩
  | .hbm, ⟨33, _⟩ => ⟨S4x2x1408x2048, .f32⟩
  | .hbm, ⟨34, _⟩ => ⟨S_, .f32⟩
  | .hbm, ⟨35, _⟩ => ⟨S4x2x1408x2048, .f32⟩
  | .hbm, ⟨36, _⟩ => ⟨S4x2x1408x2048, .f32⟩
  | .hbm, ⟨37, _⟩ => ⟨S11264x2048, .f32⟩
  | .hbm, ⟨38, _⟩ => ⟨S11264x2048, .f32⟩
  | .hbm, ⟨39, _⟩ => ⟨S11264x2048, .f32⟩
  | _, _ => ⟨S4x2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMeta.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaIdeal.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaRefIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorms.lean ====
abbrev S4x3x512 : Shape := ⟨3, ![4, 3, 512]⟩
abbrev S12x512 : Shape := ⟨2, ![12, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x3x512, .f32⟩
  | .hbm, ⟨1, _⟩ => ⟨S4x3x512, .f32⟩
  | .hbm, ⟨2, _⟩ => ⟨S4x3x512, .f32⟩
  | .hbm, ⟨3, _⟩ => ⟨S4x3x512, .f32⟩
  | .hbm, ⟨4, _⟩ => ⟨S12x512, .f32⟩
  | .hbm, ⟨5, _⟩ => ⟨S12x512, .f32⟩
  | .hbm, ⟨6, _⟩ => ⟨S12x512, .f32⟩
  | .hbm, ⟨7, _⟩ => ⟨S12x512, .f32⟩
  | .hbm, ⟨8, _⟩ => ⟨S12x512, .f32⟩
  | .hbm, ⟨9, _⟩ => ⟨S12x512, .f32⟩
  | .hbm, ⟨10, _⟩ => ⟨S12x512, .f32⟩
  | .local _ .vmem, ⟨0, _⟩ => ⟨S12x512, .f32⟩
  | .local _ .vmem, ⟨1, _⟩ => ⟨S12x512, .f32⟩
  | .local _ .vmem, ⟨2, _⟩ => ⟨S12x512, .f32⟩
  | .local _ .vmem, ⟨3, _⟩ => ⟨S12x512, .f32⟩
  | .local _ .vmem, ⟨4, _⟩ => ⟨S12x512, .f32⟩
  | .local _ .vmem, ⟨5, _⟩ => ⟨S12x512, .f32⟩
  | .local _ .vmem, ⟨6, _⟩ => ⟨S12x512, .f32⟩
  | _, _ => ⟨S4x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsIdeal.lean ====
abbrev S4x3x512 : Shape := ⟨3, ![4, 3, 512]⟩
abbrev S12x512 : Shape := ⟨2, ![12, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x3x512, .f32⟩
  | .hbm, ⟨1, _⟩ => ⟨S4x3x512, .f32⟩
  | .hbm, ⟨2, _⟩ => ⟨S4x3x512, .f32⟩
  | .hbm, ⟨3, _⟩ => ⟨S4x3x512, .f32⟩
  | .hbm, ⟨4, _⟩ => ⟨S12x512, .f32⟩
  | .hbm, ⟨5, _⟩ => ⟨S12x512, .f32⟩
  | .hbm, ⟨6, _⟩ => ⟨S12x512, .f32⟩
  | .hbm, ⟨7, _⟩ => ⟨S12x512, .f32⟩
  | .hbm, ⟨8, _⟩ => ⟨S12x512, .f32⟩
  | .hbm, ⟨9, _⟩ => ⟨S12x512, .f32⟩
  | .hbm, ⟨10, _⟩ => ⟨S12x512, .f32⟩
  | .local _ .vmem, ⟨0, _⟩ => ⟨S12x512, .f32⟩
  | .local _ .vmem, ⟨1, _⟩ => ⟨S12x512, .f32⟩
  | .local _ .vmem, ⟨2, _⟩ => ⟨S12x512, .f32⟩
  | .local _ .vmem, ⟨3, _⟩ => ⟨S12x512, .f32⟩
  | .local _ .vmem, ⟨4, _⟩ => ⟨S12x512, .f32⟩
  | .local _ .vmem, ⟨5, _⟩ => ⟨S12x512, .f32⟩
  | .local _ .vmem, ⟨6, _⟩ => ⟨S12x512, .f32⟩
  | _, _ => ⟨S4x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsRefIdeal.lean ====
abbrev S4x3x512 : Shape := ⟨3, ![4, 3, 512]⟩
abbrev S_ : Shape := ⟨0, ![]⟩
abbrev S12x512 : Shape := ⟨2, ![12, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x3x512, .f32⟩
  | .hbm, ⟨1, _⟩ => ⟨S4x3x512, .f32⟩
  | .hbm, ⟨2, _⟩ => ⟨S4x3x512, .f32⟩
  | .hbm, ⟨3, _⟩ => ⟨S4x3x512, .f32⟩
  | .hbm, ⟨4, _⟩ => ⟨S_, .f32⟩
  | .hbm, ⟨5, _⟩ => ⟨S4x3x512, .f32⟩
  | .hbm, ⟨6, _⟩ => ⟨S4x3x512, .f32⟩
  | .hbm, ⟨7, _⟩ => ⟨S_, .f32⟩
  | .hbm, ⟨8, _⟩ => ⟨S4x3x512, .f32⟩
  | .hbm, ⟨9, _⟩ => ⟨S4x3x512, .f32⟩
  | .hbm, ⟨10, _⟩ => ⟨S4x3x512, .f32⟩
  | .hbm, ⟨11, _⟩ => ⟨S_, .f32⟩
  | .hbm, ⟨12, _⟩ => ⟨S4x3x512, .f32⟩
  | .hbm, ⟨13, _⟩ => ⟨S4x3x512, .f32⟩
  | .hbm, ⟨14, _⟩ => ⟨S4x3x512, .f32⟩
  | .hbm, ⟨15, _⟩ => ⟨S_, .f32⟩
  | .hbm, ⟨16, _⟩ => ⟨S4x3x512, .f32⟩
  | .hbm, ⟨17, _⟩ => ⟨S4x3x512, .f32⟩
  | .hbm, ⟨18, _⟩ => ⟨S4x3x512, .f32⟩
  | .hbm, ⟨19, _⟩ => ⟨S_, .f32⟩
  | .hbm, ⟨20, _⟩ => ⟨S4x3x512, .f32⟩
  | .hbm, ⟨21, _⟩ => ⟨S4x3x512, .f32⟩
  | .hbm, ⟨22, _⟩ => ⟨S_, .f32⟩
  | .hbm, ⟨23, _⟩ => ⟨S4x3x512, .f32⟩
  | .hbm, ⟨24, _⟩ => ⟨S4x3x512, .f32⟩
  | .hbm, ⟨25, _⟩ => ⟨S4x3x512, .f32⟩
  | .hbm, ⟨26, _⟩ => ⟨S_, .f32⟩
  | .hbm, ⟨27, _⟩ => ⟨S4x3x512, .f32⟩
  | .hbm, ⟨28, _⟩ => ⟨S4x3x512, .f32⟩
  | .hbm, ⟨29, _⟩ => ⟨S4x3x512, .f32⟩
  | .hbm, ⟨30, _⟩ => ⟨S_, .f32⟩
  | .hbm, ⟨31, _⟩ => ⟨S4x3x512, .f32⟩
  | .hbm, ⟨32, _⟩ => ⟨S4x3x512, .f32⟩
  | .hbm, ⟨33, _⟩ => ⟨S4x3x512, .f32⟩
  | .hbm, ⟨34, _⟩ => ⟨S_, .f32⟩
  | .hbm, ⟨35, _⟩ => ⟨S4x3x512, .f32⟩
  | .hbm, ⟨36, _⟩ => ⟨S4x3x512, .f32⟩
  | .hbm, ⟨37, _⟩ => ⟨S12x512, .f32⟩
  | .hbm, ⟨38, _⟩ => ⟨S12x512, .f32⟩
  | .hbm, ⟨39, _⟩ => ⟨S12x512, .f32⟩
  | _, _ => ⟨S4x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlstmIn.lean ====
abbrev S1x2048x1540 : Shape := ⟨3, ![1, 2048, 1540]⟩
abbrev S2048x1540 : Shape := ⟨2, ![2048, 1540]⟩
abbrev S128x1540 : Shape := ⟨2, ![128, 1540]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .local _ .vmem, ⟨0, _⟩ => ⟨S128x1540, .f32⟩
  | .local _ .vmem, ⟨1, _⟩ => ⟨S128x1540, .f32⟩
  | .local _ .vmem, ⟨2, _⟩ => ⟨S128x1540, .f32⟩
  | .local _ .vmem, ⟨3, _⟩ => ⟨S128x1540, .f32⟩
  | .local _ .vmem, ⟨4, _⟩ => ⟨S128x1540, .f32⟩
  | .local _ .vmem, ⟨5, _⟩ => ⟨S128x1540, .f32⟩
  | .local _ .vmem, ⟨6, _⟩ => ⟨S128x1540, .f32⟩
  | .local _ .vmem, ⟨7, _⟩ => ⟨S128x1540, .f32⟩
  | .local _ .vmem, ⟨8, _⟩ => ⟨S128x1540, .f32⟩
  | .local _ .vmem, ⟨9, _⟩ => ⟨S128x1540, .f32⟩
  | .local _ .vmem, ⟨10, _⟩ => ⟨S128x1540, .f32⟩
  | .local _ .vmem, ⟨11, _⟩ => ⟨S128x1540, .f32⟩
  | .local _ .vmem, ⟨12, _⟩ => ⟨S128x1540, .f32⟩
  | .local _ .vmem, ⟨13, _⟩ => ⟨S128x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlstmInIdeal.lean ====
abbrev S1x2048x1540 : Shape := ⟨3, ![1, 2048, 1540]⟩
abbrev S2048x1540 : Shape := ⟨2, ![2048, 1540]⟩
abbrev S128x1540 : Shape := ⟨2, ![128, 1540]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .local _ .vmem, ⟨0, _⟩ => ⟨S128x1540, .f32⟩
  | .local _ .vmem, ⟨1, _⟩ => ⟨S128x1540, .f32⟩
  | .local _ .vmem, ⟨2, _⟩ => ⟨S128x1540, .f32⟩
  | .local _ .vmem, ⟨3, _⟩ => ⟨S128x1540, .f32⟩
  | .local _ .vmem, ⟨4, _⟩ => ⟨S128x1540, .f32⟩
  | .local _ .vmem, ⟨5, _⟩ => ⟨S128x1540, .f32⟩
  | .local _ .vmem, ⟨6, _⟩ => ⟨S128x1540, .f32⟩
  | .local _ .vmem, ⟨7, _⟩ => ⟨S128x1540, .f32⟩
  | .local _ .vmem, ⟨8, _⟩ => ⟨S128x1540, .f32⟩
  | .local _ .vmem, ⟨9, _⟩ => ⟨S128x1540, .f32⟩
  | .local _ .vmem, ⟨10, _⟩ => ⟨S128x1540, .f32⟩
  | .local _ .vmem, ⟨11, _⟩ => ⟨S128x1540, .f32⟩
  | .local _ .vmem, ⟨12, _⟩ => ⟨S128x1540, .f32⟩
  | .local _ .vmem, ⟨13, _⟩ => ⟨S128x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlstmInRefIdeal.lean ====
abbrev S1x2048x1540 : Shape := ⟨3, ![1, 2048, 1540]⟩
abbrev S_ : Shape := ⟨0, ![]⟩
abbrev S2048x1540 : Shape := ⟨2, ![2048, 1540]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S_, .f32⟩
  | .hbm, ⟨5, _⟩ => ⟨S1x2048x1540, .f32⟩
  | .hbm, ⟨6, _⟩ => ⟨S1x2048x1540, .f32⟩
  | .hbm, ⟨7, _⟩ => ⟨S_, .f32⟩
  | .hbm, ⟨8, _⟩ => ⟨S1x2048x1540, .f32⟩
  | .hbm, ⟨9, _⟩ => ⟨S1x2048x1540, .f32⟩
  | .hbm, ⟨10, _⟩ => ⟨S1x2048x1540, .f32⟩
  | .hbm, ⟨11, _⟩ => ⟨S_, .f32⟩
  | .hbm, ⟨12, _⟩ => ⟨S1x2048x1540, .f32⟩
  | .hbm, ⟨13, _⟩ => ⟨S1x2048x1540, .f32⟩
  | .hbm, ⟨14, _⟩ => ⟨S1x2048x1540, .f32⟩
  | .hbm, ⟨15, _⟩ => ⟨S_, .f32⟩
  | .hbm, ⟨16, _⟩ => ⟨S1x2048x1540, .f32⟩
  | .hbm, ⟨17, _⟩ => ⟨S1x2048x1540, .f32⟩
  | .hbm, ⟨18, _⟩ => ⟨S1x2048x1540, .f32⟩
  | .hbm, ⟨19, _⟩ => ⟨S_, .f32⟩
  | .hbm, ⟨20, _⟩ => ⟨S1x2048x1540, .f32⟩
  | .hbm, ⟨21, _⟩ => ⟨S1x2048x1540, .f32⟩
  | .hbm, ⟨22, _⟩ => ⟨S_, .f32⟩
  | .hbm, ⟨23, _⟩ => ⟨S1x2048x1540, .f32⟩
  | .hbm, ⟨24, _⟩ => ⟨S1x2048x1540, .f32⟩
  | .hbm, ⟨25, _⟩ => ⟨S1x2048x1540, .f32⟩
  | .hbm, ⟨26, _⟩ => ⟨S_, .f32⟩
  | .hbm, ⟨27, _⟩ => ⟨S1x2048x1540, .f32⟩
  | .hbm, ⟨28, _⟩ => ⟨S1x2048x1540, .f32⟩
  | .hbm, ⟨29, _⟩ => ⟨S1x2048x1540, .f32⟩
  | .hbm, ⟨30, _⟩ => ⟨S_, .f32⟩
  | .hbm, ⟨31, _⟩ => ⟨S1x2048x1540, .f32⟩
  | .hbm, ⟨32, _⟩ => ⟨S1x2048x1540, .f32⟩
  | .hbm, ⟨33, _⟩ => ⟨S1x2048x1540, .f32⟩
  | .hbm, ⟨34, _⟩ => ⟨S_, .f32⟩
  | .hbm, ⟨35, _⟩ => ⟨S1x2048x1540, .f32⟩
  | .hbm, ⟨36, _⟩ => ⟨S1x2048x1540, .f32⟩
  | .hbm, ⟨37, _⟩ => ⟨S2048x1540, .f32⟩
  | .hbm, ⟨38, _⟩ => ⟨S2048x1540, .f32⟩
  | .hbm, ⟨39, _⟩ => ⟨S2048x1540, .f32⟩
  | _, _ => ⟨S1x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSquareOut.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareOutIdeal.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareOutRefIdeal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlstmBias.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMlstmBiasIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMlstmBiasRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow2048.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow2048Ideal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow2048RefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolWeight.lean ====
abbrev S1x4x128x512 : Shape := ⟨4, ![1, 4, 128, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S1x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWeightIdeal.lean ====
abbrev S1x4x128x512 : Shape := ⟨4, ![1, 4, 128, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S1x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWeightRefIdeal.lean ====
abbrev S1x4x128x512 : Shape := ⟨4, ![1, 4, 128, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S_, .f32⟩
  | .hbm, ⟨5, _⟩ => ⟨S1x4x128x512, .f32⟩
  | .hbm, ⟨6, _⟩ => ⟨S1x4x128x512, .f32⟩
  | .hbm, ⟨7, _⟩ => ⟨S_, .f32⟩
  | .hbm, ⟨8, _⟩ => ⟨S1x4x128x512, .f32⟩
  | .hbm, ⟨9, _⟩ => ⟨S1x4x128x512, .f32⟩
  | .hbm, ⟨10, _⟩ => ⟨S1x4x128x512, .f32⟩
  | .hbm, ⟨11, _⟩ => ⟨S_, .f32⟩
  | .hbm, ⟨12, _⟩ => ⟨S1x4x128x512, .f32⟩
  | .hbm, ⟨13, _⟩ => ⟨S1x4x128x512, .f32⟩
  | .hbm, ⟨14, _⟩ => ⟨S1x4x128x512, .f32⟩
  | .hbm, ⟨15, _⟩ => ⟨S_, .f32⟩
  | .hbm, ⟨16, _⟩ => ⟨S1x4x128x512, .f32⟩
  | .hbm, ⟨17, _⟩ => ⟨S1x4x128x512, .f32⟩
  | .hbm, ⟨18, _⟩ => ⟨S1x4x128x512, .f32⟩
  | .hbm, ⟨19, _⟩ => ⟨S_, .f32⟩
  | .hbm, ⟨20, _⟩ => ⟨S1x4x128x512, .f32⟩
  | .hbm, ⟨21, _⟩ => ⟨S1x4x128x512, .f32⟩
  | .hbm, ⟨22, _⟩ => ⟨S_, .f32⟩
  | .hbm, ⟨23, _⟩ => ⟨S1x4x128x512, .f32⟩
  | .hbm, ⟨24, _⟩ => ⟨S1x4x128x512, .f32⟩
  | .hbm, ⟨25, _⟩ => ⟨S1x4x128x512, .f32⟩
  | .hbm, ⟨26, _⟩ => ⟨S_, .f32⟩
  | .hbm, ⟨27, _⟩ => ⟨S1x4x128x512, .f32⟩
  | .hbm, ⟨28, _⟩ => ⟨S1x4x128x512, .f32⟩
  | .hbm, ⟨29, _⟩ => ⟨S1x4x128x512, .f32⟩
  | .hbm, ⟨30, _⟩ => ⟨S_, .f32⟩
  | .hbm, ⟨31, _⟩ => ⟨S1x4x128x512, .f32⟩
  | .hbm, ⟨32, _⟩ => ⟨S1x4x128x512, .f32⟩
  | .hbm, ⟨33, _⟩ => ⟨S1x4x128x512, .f32⟩
  | .hbm, ⟨34, _⟩ => ⟨S_, .f32⟩
  | .hbm, ⟨35, _⟩ => ⟨S1x4x128x512, .f32⟩
  | .hbm, ⟨36, _⟩ => ⟨S1x4x128x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S1x4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRow512.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow512Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow512RefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGdnIn.lean ====
abbrev S1x2048x3088 : Shape := ⟨3, ![1, 2048, 3088]⟩
abbrev S2048x3088 : Shape := ⟨2, ![2048, 3088]⟩
abbrev S64x3088 : Shape := ⟨2, ![64, 3088]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x3088, .f32⟩
  | .hbm, ⟨1, _⟩ => ⟨S1x2048x3088, .f32⟩
  | .hbm, ⟨2, _⟩ => ⟨S1x2048x3088, .f32⟩
  | .hbm, ⟨3, _⟩ => ⟨S1x2048x3088, .f32⟩
  | .hbm, ⟨4, _⟩ => ⟨S2048x3088, .f32⟩
  | .hbm, ⟨5, _⟩ => ⟨S2048x3088, .f32⟩
  | .hbm, ⟨6, _⟩ => ⟨S2048x3088, .f32⟩
  | .hbm, ⟨7, _⟩ => ⟨S2048x3088, .f32⟩
  | .hbm, ⟨8, _⟩ => ⟨S2048x3088, .f32⟩
  | .hbm, ⟨9, _⟩ => ⟨S2048x3088, .f32⟩
  | .hbm, ⟨10, _⟩ => ⟨S2048x3088, .f32⟩
  | .local _ .vmem, ⟨0, _⟩ => ⟨S64x3088, .f32⟩
  | .local _ .vmem, ⟨1, _⟩ => ⟨S64x3088, .f32⟩
  | .local _ .vmem, ⟨2, _⟩ => ⟨S64x3088, .f32⟩
  | .local _ .vmem, ⟨3, _⟩ => ⟨S64x3088, .f32⟩
  | .local _ .vmem, ⟨4, _⟩ => ⟨S64x3088, .f32⟩
  | .local _ .vmem, ⟨5, _⟩ => ⟨S64x3088, .f32⟩
  | .local _ .vmem, ⟨6, _⟩ => ⟨S64x3088, .f32⟩
  | .local _ .vmem, ⟨7, _⟩ => ⟨S64x3088, .f32⟩
  | .local _ .vmem, ⟨8, _⟩ => ⟨S64x3088, .f32⟩
  | .local _ .vmem, ⟨9, _⟩ => ⟨S64x3088, .f32⟩
  | .local _ .vmem, ⟨10, _⟩ => ⟨S64x3088, .f32⟩
  | .local _ .vmem, ⟨11, _⟩ => ⟨S64x3088, .f32⟩
  | .local _ .vmem, ⟨12, _⟩ => ⟨S64x3088, .f32⟩
  | .local _ .vmem, ⟨13, _⟩ => ⟨S64x3088, .f32⟩
  | _, _ => ⟨S1x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGdnInIdeal.lean ====
abbrev S1x2048x3088 : Shape := ⟨3, ![1, 2048, 3088]⟩
abbrev S2048x3088 : Shape := ⟨2, ![2048, 3088]⟩
abbrev S64x3088 : Shape := ⟨2, ![64, 3088]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x3088, .f32⟩
  | .hbm, ⟨1, _⟩ => ⟨S1x2048x3088, .f32⟩
  | .hbm, ⟨2, _⟩ => ⟨S1x2048x3088, .f32⟩
  | .hbm, ⟨3, _⟩ => ⟨S1x2048x3088, .f32⟩
  | .hbm, ⟨4, _⟩ => ⟨S2048x3088, .f32⟩
  | .hbm, ⟨5, _⟩ => ⟨S2048x3088, .f32⟩
  | .hbm, ⟨6, _⟩ => ⟨S2048x3088, .f32⟩
  | .hbm, ⟨7, _⟩ => ⟨S2048x3088, .f32⟩
  | .hbm, ⟨8, _⟩ => ⟨S2048x3088, .f32⟩
  | .hbm, ⟨9, _⟩ => ⟨S2048x3088, .f32⟩
  | .hbm, ⟨10, _⟩ => ⟨S2048x3088, .f32⟩
  | .local _ .vmem, ⟨0, _⟩ => ⟨S64x3088, .f32⟩
  | .local _ .vmem, ⟨1, _⟩ => ⟨S64x3088, .f32⟩
  | .local _ .vmem, ⟨2, _⟩ => ⟨S64x3088, .f32⟩
  | .local _ .vmem, ⟨3, _⟩ => ⟨S64x3088, .f32⟩
  | .local _ .vmem, ⟨4, _⟩ => ⟨S64x3088, .f32⟩
  | .local _ .vmem, ⟨5, _⟩ => ⟨S64x3088, .f32⟩
  | .local _ .vmem, ⟨6, _⟩ => ⟨S64x3088, .f32⟩
  | .local _ .vmem, ⟨7, _⟩ => ⟨S64x3088, .f32⟩
  | .local _ .vmem, ⟨8, _⟩ => ⟨S64x3088, .f32⟩
  | .local _ .vmem, ⟨9, _⟩ => ⟨S64x3088, .f32⟩
  | .local _ .vmem, ⟨10, _⟩ => ⟨S64x3088, .f32⟩
  | .local _ .vmem, ⟨11, _⟩ => ⟨S64x3088, .f32⟩
  | .local _ .vmem, ⟨12, _⟩ => ⟨S64x3088, .f32⟩
  | .local _ .vmem, ⟨13, _⟩ => ⟨S64x3088, .f32⟩
  | _, _ => ⟨S1x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGdnInRefIdeal.lean ====
abbrev S1x2048x3088 : Shape := ⟨3, ![1, 2048, 3088]⟩
abbrev S_ : Shape := ⟨0, ![]⟩
abbrev S2048x3088 : Shape := ⟨2, ![2048, 3088]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x3088, .f32⟩
  | .hbm, ⟨1, _⟩ => ⟨S1x2048x3088, .f32⟩
  | .hbm, ⟨2, _⟩ => ⟨S1x2048x3088, .f32⟩
  | .hbm, ⟨3, _⟩ => ⟨S1x2048x3088, .f32⟩
  | .hbm, ⟨4, _⟩ => ⟨S_, .f32⟩
  | .hbm, ⟨5, _⟩ => ⟨S1x2048x3088, .f32⟩
  | .hbm, ⟨6, _⟩ => ⟨S1x2048x3088, .f32⟩
  | .hbm, ⟨7, _⟩ => ⟨S_, .f32⟩
  | .hbm, ⟨8, _⟩ => ⟨S1x2048x3088, .f32⟩
  | .hbm, ⟨9, _⟩ => ⟨S1x2048x3088, .f32⟩
  | .hbm, ⟨10, _⟩ => ⟨S1x2048x3088, .f32⟩
  | .hbm, ⟨11, _⟩ => ⟨S_, .f32⟩
  | .hbm, ⟨12, _⟩ => ⟨S1x2048x3088, .f32⟩
  | .hbm, ⟨13, _⟩ => ⟨S1x2048x3088, .f32⟩
  | .hbm, ⟨14, _⟩ => ⟨S1x2048x3088, .f32⟩
  | .hbm, ⟨15, _⟩ => ⟨S_, .f32⟩
  | .hbm, ⟨16, _⟩ => ⟨S1x2048x3088, .f32⟩
  | .hbm, ⟨17, _⟩ => ⟨S1x2048x3088, .f32⟩
  | .hbm, ⟨18, _⟩ => ⟨S1x2048x3088, .f32⟩
  | .hbm, ⟨19, _⟩ => ⟨S_, .f32⟩
  | .hbm, ⟨20, _⟩ => ⟨S1x2048x3088, .f32⟩
  | .hbm, ⟨21, _⟩ => ⟨S1x2048x3088, .f32⟩
  | .hbm, ⟨22, _⟩ => ⟨S_, .f32⟩
  | .hbm, ⟨23, _⟩ => ⟨S1x2048x3088, .f32⟩
  | .hbm, ⟨24, _⟩ => ⟨S1x2048x3088, .f32⟩
  | .hbm, ⟨25, _⟩ => ⟨S1x2048x3088, .f32⟩
  | .hbm, ⟨26, _⟩ => ⟨S_, .f32⟩
  | .hbm, ⟨27, _⟩ => ⟨S1x2048x3088, .f32⟩
  | .hbm, ⟨28, _⟩ => ⟨S1x2048x3088, .f32⟩
  | .hbm, ⟨29, _⟩ => ⟨S1x2048x3088, .f32⟩
  | .hbm, ⟨30, _⟩ => ⟨S_, .f32⟩
  | .hbm, ⟨31, _⟩ => ⟨S1x2048x3088, .f32⟩
  | .hbm, ⟨32, _⟩ => ⟨S1x2048x3088, .f32⟩
  | .hbm, ⟨33, _⟩ => ⟨S1x2048x3088, .f32⟩
  | .hbm, ⟨34, _⟩ => ⟨S_, .f32⟩
  | .hbm, ⟨35, _⟩ => ⟨S1x2048x3088, .f32⟩
  | .hbm, ⟨36, _⟩ => ⟨S1x2048x3088, .f32⟩
  | .hbm, ⟨37, _⟩ => ⟨S2048x3088, .f32⟩
  | .hbm, ⟨38, _⟩ => ⟨S2048x3088, .f32⟩
  | .hbm, ⟨39, _⟩ => ⟨S2048x3088, .f32⟩
  | _, _ => ⟨S1x2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGdnConv.lean ====
abbrev S1x4x2048 : Shape := ⟨3, ![1, 4, 2048]⟩
abbrev S4x2048 : Shape := ⟨2, ![4, 2048]⟩

abbrev nBuf : Space → Nat
  | .hbm => 11
  | .vmem => 7
  | .smem => 0
  | _ => 0

abbrev bufTy : (tb : Table) → Fin (tcTables nBuf tb) → BufTy
  | .hbm, ⟨0, _⟩ => ⟨S1x4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S1x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGdnConvIdeal.lean ====
abbrev S1x4x2048 : Shape := ⟨3, ![1, 4, 2048]⟩
abbrev S4x2048 : Shape := ⟨2, ![4, 2048]⟩

abbrev nBuf : Space → Nat
  | .hbm => 11
  | .vmem => 7
  | .smem => 0
  | _ => 0

abbrev bufTy : (tb : Table) → Fin (tcTables nBuf tb) → BufTy
  | .hbm, ⟨0, _⟩ => ⟨S1x4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S1x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGdnConvRefIdeal.lean ====
abbrev S1x4x2048 : Shape := ⟨3, ![1, 4, 2048]⟩
abbrev S_ : Shape := ⟨0, ![]⟩
abbrev S4x2048 : Shape := ⟨2, ![4, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S_, .f32⟩
  | .hbm, ⟨5, _⟩ => ⟨S1x4x2048, .f32⟩
  | .hbm, ⟨6, _⟩ => ⟨S1x4x2048, .f32⟩
  | .hbm, ⟨7, _⟩ => ⟨S_, .f32⟩
  | .hbm, ⟨8, _⟩ => ⟨S1x4x2048, .f32⟩
  | .hbm, ⟨9, _⟩ => ⟨S1x4x2048, .f32⟩
  | .hbm, ⟨10, _⟩ => ⟨S1x4x2048, .f32⟩
  | .hbm, ⟨11, _⟩ => ⟨S_, .f32⟩
  | .hbm, ⟨12, _⟩ => ⟨S1x4x2048, .f32⟩
  | .hbm, ⟨13, _⟩ => ⟨S1x4x2048, .f32⟩
  | .hbm, ⟨14, _⟩ => ⟨S1x4x2048, .f32⟩
  | .hbm, ⟨15, _⟩ => ⟨S_, .f32⟩
  | .hbm, ⟨16, _⟩ => ⟨S1x4x2048, .f32⟩
  | .hbm, ⟨17, _⟩ => ⟨S1x4x2048, .f32⟩
  | .hbm, ⟨18, _⟩ => ⟨S1x4x2048, .f32⟩
  | .hbm, ⟨19, _⟩ => ⟨S_, .f32⟩
  | .hbm, ⟨20, _⟩ => ⟨S1x4x2048, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S1x4x2048, .f32⟩
  | .hbm, ⟨26, _⟩ => ⟨S_, .f32⟩
  | .hbm, ⟨27, _⟩ => ⟨S1x4x2048, .f32⟩
  | .hbm, ⟨28, _⟩ => ⟨S1x4x2048, .f32⟩
  | .hbm, ⟨29, _⟩ => ⟨S1x4x2048, .f32⟩
  | .hbm, ⟨30, _⟩ => ⟨S_, .f32⟩
  | .hbm, ⟨31, _⟩ => ⟨S1x4x2048, .f32⟩
  | .hbm, ⟨32, _⟩ => ⟨S1x4x2048, .f32⟩
  | .hbm, ⟨33, _⟩ => ⟨S1x4x2048, .f32⟩
  | .hbm, ⟨34, _⟩ => ⟨S_, .f32⟩
  | .hbm, ⟨35, _⟩ => ⟨S1x4x2048, .f32⟩
  | .hbm, ⟨36, _⟩ => ⟨S1x4x2048, .f32⟩
  | .hbm, ⟨37, _⟩ => ⟨S4x2048, .f32⟩
  | .hbm, ⟨38, _⟩ => ⟨S4x2048, .f32⟩
  | .hbm, ⟨39, _⟩ => ⟨S4x2048, .f32⟩
  | _, _ => ⟨S1x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRow32.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow32Ideal.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow32RefIdeal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow128.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow128Ideal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow128RefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGdnOut.lean ====
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGdnOutIdeal.lean ====
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGdnOutRefIdeal.lean ====
abbrev S1x1024x2048 : Shape := ⟨3, ![1, 1024, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSwaIn.lean ====
abbrev S1x2048x640 : Shape := ⟨3, ![1, 2048, 640]⟩
abbrev S2048x640 : Shape := ⟨2, ![2048, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x640, .f32⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSwaInIdeal.lean ====
abbrev S1x2048x640 : Shape := ⟨3, ![1, 2048, 640]⟩
abbrev S2048x640 : Shape := ⟨2, ![2048, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x640, .f32⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSwaInRefIdeal.lean ====
abbrev S1x2048x640 : Shape := ⟨3, ![1, 2048, 640]⟩
abbrev S_ : Shape := ⟨0, ![]⟩
abbrev S2048x640 : Shape := ⟨2, ![2048, 640]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x640, .f32⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S_, .f32⟩
  | .hbm, ⟨5, _⟩ => ⟨S1x2048x640, .f32⟩
  | .hbm, ⟨6, _⟩ => ⟨S1x2048x640, .f32⟩
  | .hbm, ⟨7, _⟩ => ⟨S_, .f32⟩
  | .hbm, ⟨8, _⟩ => ⟨S1x2048x640, .f32⟩
  | .hbm, ⟨9, _⟩ => ⟨S1x2048x640, .f32⟩
  | .hbm, ⟨10, _⟩ => ⟨S1x2048x640, .f32⟩
  | .hbm, ⟨11, _⟩ => ⟨S_, .f32⟩
  | .hbm, ⟨12, _⟩ => ⟨S1x2048x640, .f32⟩
  | .hbm, ⟨13, _⟩ => ⟨S1x2048x640, .f32⟩
  | .hbm, ⟨14, _⟩ => ⟨S1x2048x640, .f32⟩
  | .hbm, ⟨15, _⟩ => ⟨S_, .f32⟩
  | .hbm, ⟨16, _⟩ => ⟨S1x2048x640, .f32⟩
  | .hbm, ⟨17, _⟩ => ⟨S1x2048x640, .f32⟩
  | .hbm, ⟨18, _⟩ => ⟨S1x2048x640, .f32⟩
  | .hbm, ⟨19, _⟩ => ⟨S_, .f32⟩
  | .hbm, ⟨20, _⟩ => ⟨S1x2048x640, .f32⟩
  | .hbm, ⟨21, _⟩ => ⟨S1x2048x640, .f32⟩
  | .hbm, ⟨22, _⟩ => ⟨S_, .f32⟩
  | .hbm, ⟨23, _⟩ => ⟨S1x2048x640, .f32⟩
  | .hbm, ⟨24, _⟩ => ⟨S1x2048x640, .f32⟩
  | .hbm, ⟨25, _⟩ => ⟨S1x2048x640, .f32⟩
  | .hbm, ⟨26, _⟩ => ⟨S_, .f32⟩
  | .hbm, ⟨27, _⟩ => ⟨S1x2048x640, .f32⟩
  | .hbm, ⟨28, _⟩ => ⟨S1x2048x640, .f32⟩
  | .hbm, ⟨29, _⟩ => ⟨S1x2048x640, .f32⟩
  | .hbm, ⟨30, _⟩ => ⟨S_, .f32⟩
  | .hbm, ⟨31, _⟩ => ⟨S1x2048x640, .f32⟩
  | .hbm, ⟨32, _⟩ => ⟨S1x2048x640, .f32⟩
  | .hbm, ⟨33, _⟩ => ⟨S1x2048x640, .f32⟩
  | .hbm, ⟨34, _⟩ => ⟨S_, .f32⟩
  | .hbm, ⟨35, _⟩ => ⟨S1x2048x640, .f32⟩
  | .hbm, ⟨36, _⟩ => ⟨S1x2048x640, .f32⟩
  | .hbm, ⟨37, _⟩ => ⟨S2048x640, .f32⟩
  | .hbm, ⟨38, _⟩ => ⟨S2048x640, .f32⟩
  | .hbm, ⟨39, _⟩ => ⟨S2048x640, .f32⟩
  | _, _ => ⟨S1x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRow640.lean ====
abbrev S1x640 : Shape := ⟨2, ![1, 640]⟩

abbrev nBuf : Space → Nat
  | .hbm => 7
  | .vmem => 7
  | .smem => 0
  | _ => 0

abbrev bufTy : (tb : Table) → Fin (tcTables nBuf tb) → BufTy
  | .hbm, ⟨0, _⟩ => ⟨S1x640, .f32⟩
  | .hbm, ⟨1, _⟩ => ⟨S1x640, .f32⟩
  | .hbm, ⟨2, _⟩ => ⟨S1x640, .f32⟩
  | .hbm, ⟨3, _⟩ => ⟨S1x640, .f32⟩
  | .hbm, ⟨4, _⟩ => ⟨S1x640, .f32⟩
  | .hbm, ⟨5, _⟩ => ⟨S1x640, .f32⟩
  | .hbm, ⟨6, _⟩ => ⟨S1x640, .f32⟩
  | .local _ .vmem, ⟨0, _⟩ => ⟨S1x640, .f32⟩
  | .local _ .vmem, ⟨1, _⟩ => ⟨S1x640, .f32⟩
  | .local _ .vmem, ⟨2, _⟩ => ⟨S1x640, .f32⟩
  | .local _ .vmem, ⟨3, _⟩ => ⟨S1x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | _, _ => ⟨S1x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow640Ideal.lean ====
abbrev S1x640 : Shape := ⟨2, ![1, 640]⟩

abbrev nBuf : Space → Nat
  | .hbm => 7
  | .vmem => 7
  | .smem => 0
  | _ => 0

abbrev bufTy : (tb : Table) → Fin (tcTables nBuf tb) → BufTy
  | .hbm, ⟨0, _⟩ => ⟨S1x640, .f32⟩
  | .hbm, ⟨1, _⟩ => ⟨S1x640, .f32⟩
  | .hbm, ⟨2, _⟩ => ⟨S1x640, .f32⟩
  | .hbm, ⟨3, _⟩ => ⟨S1x640, .f32⟩
  | .hbm, ⟨4, _⟩ => ⟨S1x640, .f32⟩
  | .hbm, ⟨5, _⟩ => ⟨S1x640, .f32⟩
  | .hbm, ⟨6, _⟩ => ⟨S1x640, .f32⟩
  | .local _ .vmem, ⟨0, _⟩ => ⟨S1x640, .f32⟩
  | .local _ .vmem, ⟨1, _⟩ => ⟨S1x640, .f32⟩
  | .local _ .vmem, ⟨2, _⟩ => ⟨S1x640, .f32⟩
  | .local _ .vmem, ⟨3, _⟩ => ⟨S1x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | _, _ => ⟨S1x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRow640RefIdeal.lean ====
abbrev S1x640 : Shape := ⟨2, ![1, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x640, .f32⟩
  | .hbm, ⟨1, _⟩ => ⟨S1x640, .f32⟩
  | .hbm, ⟨2, _⟩ => ⟨S1x640, .f32⟩
  | .hbm, ⟨3, _⟩ => ⟨S1x640, .f32⟩
  | .hbm, ⟨4, _⟩ => ⟨S_, .f32⟩
  | .hbm, ⟨5, _⟩ => ⟨S1x640, .f32⟩
  | .hbm, ⟨6, _⟩ => ⟨S1x640, .f32⟩
  | .hbm, ⟨7, _⟩ => ⟨S_, .f32⟩
  | .hbm, ⟨8, _⟩ => ⟨S1x640, .f32⟩
  | .hbm, ⟨9, _⟩ => ⟨S1x640, .f32⟩
  | .hbm, ⟨10, _⟩ => ⟨S1x640, .f32⟩
  | .hbm, ⟨11, _⟩ => ⟨S_, .f32⟩
  | .hbm, ⟨12, _⟩ => ⟨S1x640, .f32⟩
  | .hbm, ⟨13, _⟩ => ⟨S1x640, .f32⟩
  | .hbm, ⟨14, _⟩ => ⟨S1x640, .f32⟩
  | .hbm, ⟨15, _⟩ => ⟨S_, .f32⟩
  | .hbm, ⟨16, _⟩ => ⟨S1x640, .f32⟩
  | .hbm, ⟨17, _⟩ => ⟨S1x640, .f32⟩
  | .hbm, ⟨18, _⟩ => ⟨S1x640, .f32⟩
  | .hbm, ⟨19, _⟩ => ⟨S_, .f32⟩
  | .hbm, ⟨20, _⟩ => ⟨S1x640, .f32⟩
  | .hbm, ⟨21, _⟩ => ⟨S1x640, .f32⟩
  | .hbm, ⟨22, _⟩ => ⟨S_, .f32⟩
  | .hbm, ⟨23, _⟩ => ⟨S1x640, .f32⟩
  | .hbm, ⟨24, _⟩ => ⟨S1x640, .f32⟩
  | .hbm, ⟨25, _⟩ => ⟨S1x640, .f32⟩
  | .hbm, ⟨26, _⟩ => ⟨S_, .f32⟩
  | .hbm, ⟨27, _⟩ => ⟨S1x640, .f32⟩
  | .hbm, ⟨28, _⟩ => ⟨S1x640, .f32⟩
  | .hbm, ⟨29, _⟩ => ⟨S1x640, .f32⟩
  | .hbm, ⟨30, _⟩ => ⟨S_, .f32⟩
  | .hbm, ⟨31, _⟩ => ⟨S1x640, .f32⟩
  | .hbm, ⟨32, _⟩ => ⟨S1x640, .f32⟩
  | .hbm, ⟨33, _⟩ => ⟨S1x640, .f32⟩
  | .hbm, ⟨34, _⟩ => ⟨S_, .f32⟩
  | .hbm, ⟨35, _⟩ => ⟨S1x640, .f32⟩
  | .hbm, ⟨36, _⟩ => ⟨S1x640, .f32⟩
  | _, _ => ⟨S1x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinalNorm.lean ====
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalNormRefIdeal.lean ====
abbrev S2048 : Shape := ⟨1, ![2048]⟩
abbrev S_ : Shape := ⟨0, ![]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Row.lean ====
/- One row of an attention with a sink, over the real numbers: the weights, and the gradient of the weights.

   `prob` is the weight of a key, `dscore` the gradient of the score of a key and `dsink` that of the sink, all as
   functions of the scores themselves. The lemmas say that the formulas in which a constant `μ` has first been
   subtracted from every score give the same numbers, whatever `μ` is. -/
module

public import Idealize.ShloMosaic.Lib.Pipeline.ValueKit
public import Mathlib.Analysis.SpecialFunctions.Exp

@[expose] public section

set_option maxRecDepth 16384

noncomputable section

open Idealize.ShloMosaic

namespace Cert.Attn

open scoped Classical in
/-- The exponential of a key's score where the key is seen, zero elsewhere. -/
def ex {n : ℕ} (M : Fin n → Prop) (s : Fin n → ℝ) (j : Fin n) : ℝ := if M j then Real.exp (s j) else 0

/-- The sum of the row's exponentials and the sink's. -/
def tot {n : ℕ} (M : Fin n → Prop) (s : Fin n → ℝ) (k : ℝ) : ℝ := (∑ j, ex M s j) + Real.exp k

/-- The weight of key `j`. -/
def prob {n : ℕ} (M : Fin n → Prop) (s : Fin n → ℝ) (k : ℝ) (j : Fin n) : ℝ := ex M s j / tot M s k

/-- The mean, by the row's weights, of the gradients `dp` of the weights. -/
def dmean {n : ℕ} (M : Fin n → Prop) (s : Fin n → ℝ) (k : ℝ) (dp : Fin n → ℝ) : ℝ := ∑ j, prob M s k j * dp j

/-- The gradient of the score of key `j`. -/
def dscore {n : ℕ} (M : Fin n → Prop) (s : Fin n → ℝ) (k : ℝ) (dp : Fin n → ℝ) (j : Fin n) : ℝ :=
  prob M s k j * (dp j - dmean M s k dp)

/-- The row's part of the gradient of the sink. -/
def dsink {n : ℕ} (M : Fin n → Prop) (s : Fin n → ℝ) (k : ℝ) (dp : Fin n → ℝ) : ℝ :=
  -(dmean M s k dp) * (Real.exp k / tot M s k)

theorem ex_nonneg {n : ℕ} (M : Fin n → Prop) (s : Fin n → ℝ) (j : Fin n) : 0 ≤ ex M s j := by
  unfold ex; split
  · exact (Real.exp_pos _).le
  · exact le_rfl

theorem tot_pos {n : ℕ} (M : Fin n → Prop) (s : Fin n → ℝ) (k : ℝ) : 0 < tot M s k :=
  add_pos_of_nonneg_of_pos (Finset.sum_nonneg fun j _ => ex_nonneg M s j) (Real.exp_pos k)

/-- A constant subtracted from every score scales the exponentials. -/
theorem ex_shift {n : ℕ} (M : Fin n → Prop) (s : Fin n → ℝ) (μ : ℝ) (j : Fin n) :
    ex M (fun j => s j - μ) j = ex M s j * Real.exp (-μ) := by
  unfold ex; split
  · show Real.exp (s j - μ) = _
    rw [sub_eq_add_neg, Real.exp_add]
  · rw [zero_mul]

/-- And their sum. -/
theorem tot_shift {n : ℕ} (M : Fin n → Prop) (s : Fin n → ℝ) (k μ : ℝ) :
    tot M (fun j => s j - μ) (k - μ) = tot M s k * Real.exp (-μ) := by
  unfold tot
  simp only [ex_shift, ← Finset.sum_mul]
  rw [sub_eq_add_neg, Real.exp_add]; ring

/-- The weights do not see the constant. -/
theorem prob_shift {n : ℕ} (M : Fin n → Prop) (s : Fin n → ℝ) (k μ : ℝ) (j : Fin n) :
    prob M (fun j => s j - μ) (k - μ) j = prob M s k j := by
  unfold prob
  rw [ex_shift, tot_shift, mul_div_mul_right _ _ (Real.exp_pos _).ne']

theorem dmean_shift {n : ℕ} (M : Fin n → Prop) (s : Fin n → ℝ) (k μ : ℝ) (dp : Fin n → ℝ) :
    dmean M (fun j => s j - μ) (k - μ) dp = dmean M s k dp := by
  unfold dmean; simp only [prob_shift]

/-- The mean, as the sum of the gradients over the square of the total times the exponentials. -/
theorem dmean_eq {n : ℕ} (M : Fin n → Prop) (s : Fin n → ℝ) (k : ℝ) (dp : Fin n → ℝ) :
    ∑ j, dp j * (1 / (tot M s k * tot M s k)) * ex M s j = dmean M s k dp / tot M s k := by
  unfold dmean prob
  rw [Finset.sum_div]
  refine Finset.sum_congr rfl fun j _ => ?_
  have h := (tot_pos M s k).ne'
  field_simp

/-- The gradient of a seen key's score, from the shifted exponentials. -/
theorem dscore_form {n : ℕ} (M : Fin n → Prop) (s : Fin n → ℝ) (k μ : ℝ) (dp : Fin n → ℝ) (j : Fin n) :
    (dp j / tot M (fun j => s j - μ) (k - μ)
        + -(∑ j, dp j * (1 / (tot M (fun j => s j - μ) (k - μ) * tot M (fun j => s j - μ) (k - μ))) * ex M (fun j => s j - μ) j))
      * ex M (fun j => s j - μ) j = dscore M s k dp j := by
  rw [dmean_eq, dmean_shift]
  unfold dscore
  rw [← prob_shift M s k μ j]
  unfold prob
  have h := (tot_pos M (fun j => s j - μ) (k - μ)).ne'
  field_simp
  ring

/-- The gradient of the sink, from the shifted exponentials. -/
theorem dsink_form {n : ℕ} (M : Fin n → Prop) (s : Fin n → ℝ) (k μ : ℝ) (dp : Fin n → ℝ) :
    -(∑ j, dp j * (1 / (tot M (fun j => s j - μ) (k - μ) * tot M (fun j => s j - μ) (k - μ))) * ex M (fun j => s j - μ) j)
      * Real.exp (k - μ) = dsink M s k dp := by
  rw [dmean_eq, dmean_shift, tot_shift]
  unfold dsink
  have h := (tot_pos M s k).ne'
  have h' := (Real.exp_pos (-μ)).ne'
  rw [sub_eq_add_neg, Real.exp_add]
  field_simp

/-- A key that is not seen has weight zero, and its score gradient zero. -/
theorem prob_off {n : ℕ} {M : Fin n → Prop} {j : Fin n} (h : ¬ M j) (s : Fin n → ℝ) (k : ℝ) : prob M s k j = 0 := by
  unfold prob ex; rw [if_neg h, zero_div]

theorem dscore_off {n : ℕ} {M : Fin n → Prop} {j : Fin n} (h : ¬ M j) (s : Fin n → ℝ) (k : ℝ) (dp : Fin n → ℝ) :
    dscore M s k dp j = 0 := by
  unfold dscore; rw [prob_off h, zero_mul]

/-- A row whose weights have gradient zero has gradient zero. -/
theorem dscore_zero {n : ℕ} (M : Fin n → Prop) (s : Fin n → ℝ) (k : ℝ) (j : Fin n) : dscore M s k (fun _ => 0) j = 0 := by
  unfold dscore dmean; simp

theorem dsink_zero {n : ℕ} (M : Fin n → Prop) (s : Fin n → ℝ) (k : ℝ) : dsink M s k (fun _ => 0) = 0 := by
  unfold dsink dmean; simp

section congr

variable {n : ℕ} {M M' : Fin n → Prop} {s s' dp dp' : Fin n → ℝ}

theorem ex_congr (hM : ∀ j, M j ↔ M' j) (hs : ∀ j, M j → s j = s' j) (j : Fin n) : ex M s j = ex M' s' j := by
  unfold ex
  by_cases h : M j
  · rw [if_pos h, if_pos ((hM j).mp h), hs j h]
  · rw [if_neg h, if_neg fun h' => h ((hM j).mpr h')]

theorem prob_congr (hM : ∀ j, M j ↔ M' j) (hs : ∀ j, M j → s j = s' j) (k : ℝ) (j : Fin n) : prob M s k j = prob M' s' k j := by
  unfold prob tot
  simp only [ex_congr hM hs]

/-- A row's gradients depend on the scores, and on the gradients of the weights, of its seen keys only. -/
theorem dmean_congr (hM : ∀ j, M j ↔ M' j) (hs : ∀ j, M j → s j = s' j) (hd : ∀ j, M j → dp j = dp' j) (k : ℝ) :
    dmean M s k dp = dmean M' s' k dp' := by
  unfold dmean
  refine Finset.sum_congr rfl fun j _ => ?_
  by_cases h : M j
  · rw [prob_congr hM hs, hd j h]
  · rw [prob_off h, prob_off fun h' => h ((hM j).mpr h'), zero_mul, zero_mul]

theorem dscore_congr (hM : ∀ j, M j ↔ M' j) (hs : ∀ j, M j → s j = s' j) (hd : ∀ j, M j → dp j = dp' j) (k : ℝ) (j : Fin n) :
    dscore M s k dp j = dscore M' s' k dp' j := by
  by_cases h : M j
  · unfold dscore; rw [prob_congr hM hs, dmean_congr hM hs hd, hd j h]
  · rw [dscore_off h, dscore_off fun h' => h ((hM j).mpr h')]

theorem dsink_congr (hM : ∀ j, M j ↔ M' j) (hs : ∀ j, M j → s j = s' j) (hd : ∀ j, M j → dp j = dp' j) (k : ℝ) :
    dsink M s k dp = dsink M' s' k dp' := by
  unfold dsink tot
  rw [dmean_congr hM hs hd]
  simp only [ex_congr hM hs]

end congr

/-! ## Real numbers among the extended reals -/

/-- A sum of real numbers is the real number that is their sum. -/
theorem coe_sum {ι : Type} [Fintype ι] (f : ι → ℝ) : (∑ i, ((f i : ℝ) : EReal)) = ((∑ i, f i : ℝ) : EReal) := by
  classical
  refine Finset.induction_on (Finset.univ : Finset ι) ?_ ?_
  · simp
  · intro a s ha ih
    rw [Finset.sum_insert ha, Finset.sum_insert ha, ih, EReal.coe_add]

/-- A quotient of real numbers, the divisor not zero. -/
theorem coe_div (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem coe_exp (a : ℝ) : Ideal.exp (a : EReal) = ((Real.exp a : ℝ) : EReal) := rfl

/-- The greatest of −∞ and finitely many numbers, none of them +∞ and one of them not −∞, is a real number. -/
theorem fold_max_real {ι : Type} [Fintype ι] (f : ι → EReal) (ht : ∀ i, f i ≠ ⊤) (i₀ : ι) (hb : f i₀ ≠ ⊥) :
    ∃ μ : ℝ, Finset.univ.fold (max : EReal → EReal → EReal) ⊥ f = (μ : EReal) := by
  classical
  have h1 : Finset.univ.fold (max : EReal → EReal → EReal) ⊥ f = Finset.univ.sup f := rfl
  have h2 : Finset.univ.sup f ≠ ⊤ := by
    have : Finset.univ.sup f < ⊤ := (Finset.sup_lt_iff (by exact bot_lt_top)).2 fun i _ => lt_top_iff_ne_top.2 (ht i)
    exact this.ne
  have h3 : Finset.univ.sup f ≠ ⊥ := fun h => hb (le_bot_iff.1 (h ▸ Finset.le_sup (f := f) (Finset.mem_univ i₀)))
  exact ⟨(Finset.univ.sup f).toReal, by rw [h1, EReal.coe_toReal h2 h3]⟩

end Cert.Attn

end
-- ==== Proof.Spec.lean ====
/- A block of 128 query positions of the sliding-window attention, over the real numbers: eight query heads that share
   one key head, so 1024 rows; 256 keys, those of the block before and those of the block itself; one sink a row.

   `Blk` holds what the block reads. The definitions after it are the block's gradients, written with `Row`'s formulas:
   `dq` of the queries, `dkp` and `dkc` of the two halves of the keys, `dvb` of the values and `dsk` of the sinks. -/
module

public import proofs.«01_k».proof.Proof.Row

@[expose] public section

set_option maxRecDepth 16384

noncomputable section

open Idealize.ShloMosaic

namespace Cert.Attn

/-! ## The rotary turn -/

/-- The quarter turn of a head's 64 coordinates: the second half with its sign changed, then the first half. -/
def turn (x : Fin 64 → ℝ) (d : Fin 64) : ℝ :=
  if h : d.1 < 32 then -(x ⟨d.1 + 32, by omega⟩) else x ⟨d.1 - 32, by omega⟩

/-- Its transpose. -/
def turnT (x : Fin 64 → ℝ) (d : Fin 64) : ℝ :=
  if h : d.1 < 32 then x ⟨d.1 + 32, by omega⟩ else -(x ⟨d.1 - 32, by omega⟩)

/-- A head's coordinates turned by the angles whose cosines and sines are `c` and `s`. -/
def rope (x c s : Fin 64 → ℝ) (d : Fin 64) : ℝ := x d * c d + turn x d * s d

/-- The gradient of `rope` in its first argument. -/
def unrope (y c s : Fin 64 → ℝ) (d : Fin 64) : ℝ := turnT (fun e => y e * s e) d + y d * c d

/-- The matrix of the quarter turn. -/
def rotR (a b : Fin 64) : ℝ := (if a.1 = b.1 + 32 then -1 else 0) + (if a.1 + 32 = b.1 then 1 else 0)

theorem sum_rot (x : Fin 64 → ℝ) (d : Fin 64) : ∑ e, x e * rotR e d = turn x d := by
  unfold turn
  split
  · rename_i h
    rw [Finset.sum_eq_single ⟨d.1 + 32, by omega⟩]
    · unfold rotR
      rw [if_pos rfl, if_neg (by show ¬ _ = _; dsimp only; omega)]; ring
    · intro e _ he
      have h1 : ¬ e.1 = d.1 + 32 := fun h' => he (Fin.ext h')
      unfold rotR
      rw [if_neg h1, if_neg (by omega)]; ring
    · intro h'; exact absurd (Finset.mem_univ _) h'
  · rename_i h
    rw [Finset.sum_eq_single ⟨d.1 - 32, by omega⟩]
    · unfold rotR
      rw [if_neg (by show ¬ _ = _; dsimp only; omega), if_pos (by show _ = _; dsimp only; omega)]; ring
    · intro e _ he
      have h1 : ¬ e.1 + 32 = d.1 := fun h' => he (Fin.ext (by show e.1 = d.1 - 32; omega))
      have := e.2
      have := d.2
      unfold rotR
      rw [if_neg (by omega), if_neg h1]; ring
    · intro h'; exact absurd (Finset.mem_univ _) h'

theorem sum_rotT (x : Fin 64 → ℝ) (d : Fin 64) : ∑ e, x e * rotR d e = turnT x d := by
  unfold turnT
  split
  · rename_i h
    rw [Finset.sum_eq_single ⟨d.1 + 32, by omega⟩]
    · unfold rotR
      rw [if_neg (by show ¬ _ = _; dsimp only; omega), if_pos rfl]; ring
    · intro e _ he
      have h1 : ¬ d.1 + 32 = e.1 := fun h' => he (Fin.ext h'.symm)
      unfold rotR
      rw [if_neg (by omega), if_neg h1]; ring
    · intro h'; exact absurd (Finset.mem_univ _) h'
  · rename_i h
    rw [Finset.sum_eq_single ⟨d.1 - 32, by omega⟩]
    · unfold rotR
      rw [if_pos (by show _ = _; dsimp only; omega), if_neg (by show ¬ _ = _; dsimp only; omega)]; ring
    · intro e _ he
      have h1 : ¬ d.1 = e.1 + 32 := fun h' => he (Fin.ext (by show e.1 = d.1 - 32; omega))
      have := e.2
      have := d.2
      unfold rotR
      rw [if_neg h1, if_neg (by omega)]; ring
    · intro h'; exact absurd (Finset.mem_univ _) h'

/-- `unrope` of a sum is the sum of the `unrope`s. -/
theorem unrope_add (y z c s : Fin 64 → ℝ) (d : Fin 64) :
    unrope (fun e => y e + z e) c s d = unrope y c s d + unrope z c s d := by
  unfold unrope turnT
  split <;> ring

theorem unrope_zero (c s : Fin 64 → ℝ) (d : Fin 64) : unrope (fun _ => 0) c s d = 0 := by
  unfold unrope turnT
  split <;> ring

theorem rope_zero (c s : Fin 64 → ℝ) (d : Fin 64) : rope (fun _ => 0) c s d = 0 := by
  unfold rope turn
  split <;> ring

/-! ## The block -/

/-- What a block reads: the queries `Q` and the gradient `DO` of the result, a row each of eight heads' 128 positions;
    keys and values of the block before (`KP`, `VP`) and of the block itself (`KC`, `VC`); the cosines and sines of the
    block's positions (`CQ`, `SQ`) and of those of the block before (`CP`, `SP`); the sinks `SK`; and which row sees which
    key, `M`. -/
structure Blk where
  Q : Fin 1024 → Fin 64 → ℝ
  DO : Fin 1024 → Fin 64 → ℝ
  KP : Fin 128 → Fin 64 → ℝ
  KC : Fin 128 → Fin 64 → ℝ
  VP : Fin 128 → Fin 64 → ℝ
  VC : Fin 128 → Fin 64 → ℝ
  CQ : Fin 128 → Fin 64 → ℝ
  SQ : Fin 128 → Fin 64 → ℝ
  CP : Fin 128 → Fin 64 → ℝ
  SP : Fin 128 → Fin 64 → ℝ
  SK : Fin 1024 → ℝ
  M : Fin 1024 → Fin 256 → Prop

/-- The position of a row within the block. -/
def posn (r : Fin 1024) : Fin 128 := ⟨r.1 % 128, Nat.mod_lt _ (by decide)⟩

namespace Blk

variable (B : Blk)

/-- The turned queries. -/
def qr (r : Fin 1024) (d : Fin 64) : ℝ := rope (B.Q r) (B.CQ (posn r)) (B.SQ (posn r)) d

/-- The turned keys, the block before first. -/
def kr (j : Fin 256) (d : Fin 64) : ℝ :=
  if h : j.1 < 128 then rope (B.KP ⟨j.1, h⟩) (B.CP ⟨j.1, h⟩) (B.SP ⟨j.1, h⟩) d
  else rope (B.KC ⟨j.1 - 128, by omega⟩) (B.CQ ⟨j.1 - 128, by omega⟩) (B.SQ ⟨j.1 - 128, by omega⟩) d

/-- The values, the block before first. -/
def vb (j : Fin 256) (d : Fin 64) : ℝ :=
  if h : j.1 < 128 then B.VP ⟨j.1, h⟩ d else B.VC ⟨j.1 - 128, by omega⟩ d

/-- The scores. -/
def sc (r : Fin 1024) (j : Fin 256) : ℝ := (∑ d, B.qr r d * B.kr j d) * (1 / 8)

/-- The gradients of the weights. -/
def dp (r : Fin 1024) (j : Fin 256) : ℝ := ∑ d, B.DO r d * B.vb j d

/-- The weights. -/
def pr (r : Fin 1024) (j : Fin 256) : ℝ := prob (B.M r) (B.sc r) (B.SK r) j

/-- The gradients of the products of query and key: those of the scores, an eighth of them. -/
def ds (r : Fin 1024) (j : Fin 256) : ℝ := dscore (B.M r) (B.sc r) (B.SK r) (B.dp r) j * (1 / 8)

/-- The gradients of the turned queries. -/
def dqr (r : Fin 1024) (d : Fin 64) : ℝ := ∑ j, B.ds r j * B.kr j d

/-- The gradients of the queries. -/
def dq (r : Fin 1024) (d : Fin 64) : ℝ := unrope (B.dqr r) (B.CQ (posn r)) (B.SQ (posn r)) d

/-- The gradients of the turned keys. -/
def dkr (j : Fin 256) (d : Fin 64) : ℝ := ∑ r, B.ds r j * B.qr r d

/-- The gradients of the keys of the block before. -/
def dkp (a : Fin 128) (d : Fin 64) : ℝ := unrope (B.dkr ⟨a.1, by omega⟩) (B.CP a) (B.SP a) d

/-- The gradients of the block's own keys. -/
def dkc (a : Fin 128) (d : Fin 64) : ℝ := unrope (B.dkr ⟨a.1 + 128, by omega⟩) (B.CQ a) (B.SQ a) d

/-- The gradients of the values. -/
def dvb (j : Fin 256) (d : Fin 64) : ℝ := ∑ r, B.pr r j * B.DO r d

/-- The gradients of the rows' sinks. -/
def dsk (r : Fin 1024) : ℝ := dsink (B.M r) (B.sc r) (B.SK r) (B.dp r)

/-! ## Two blocks that agree on what is seen -/

/-- Two blocks agree: in every row either the gradient of the result is zero in both, or the same keys are seen; and where
    a row is not such a zero row, its query and sink, and the seen keys and values, are the same. -/
structure Agree (B B' : Blk) : Prop where
  cq : B.CQ = B'.CQ
  sq : B.SQ = B'.SQ
  dO : B.DO = B'.DO
  row : ∀ r, (∀ d, B.DO r d = 0) ∨ (B.Q r = B'.Q r ∧ B.SK r = B'.SK r ∧ (∀ j, B.M r j ↔ B'.M r j)
    ∧ ∀ j, B.M r j → B.kr j = B'.kr j ∧ B.vb j = B'.vb j)

variable {B} {B' : Blk}

theorem dp_zero {r : Fin 1024} (h : ∀ d, B.DO r d = 0) : B.dp r = fun _ => 0 := by
  funext j; unfold dp
  exact Finset.sum_eq_zero fun d _ => by rw [h d, zero_mul]

theorem ds_zero {r : Fin 1024} (h : ∀ d, B.DO r d = 0) (j : Fin 256) : B.ds r j = 0 := by
  unfold ds; rw [dp_zero h, dscore_zero, zero_mul]

theorem dsk_zero {r : Fin 1024} (h : ∀ d, B.DO r d = 0) : B.dsk r = 0 := by
  unfold dsk; rw [dp_zero h, dsink_zero]

/-- A key that no row sees has no gradient. -/
theorem ds_off {r : Fin 1024} {j : Fin 256} (h : ¬ B.M r j) : B.ds r j = 0 := by
  unfold ds; rw [dscore_off h, zero_mul]

namespace Agree

theorem qr_eq (A : Agree B B') {r : Fin 1024} (h : B.Q r = B'.Q r) : B.qr r = B'.qr r := by
  funext d; unfold qr; rw [h, A.cq, A.sq]

theorem ds_eq (A : Agree B B') (r : Fin 1024) (j : Fin 256) : B.ds r j = B'.ds r j := by
  rcases A.row r with h | ⟨hq, hs, hM, hk⟩
  · rw [ds_zero h, ds_zero (by rw [← A.dO]; exact h)]
  · unfold ds
    rw [hs, dscore_congr (M' := B'.M r) (s' := B'.sc r) (dp' := B'.dp r) hM ?_ ?_]
    · intro j hj; unfold sc; rw [A.qr_eq hq, (hk j hj).1]
    · intro j hj; unfold dp; rw [A.dO, (hk j hj).2]

theorem dsk_eq (A : Agree B B') (r : Fin 1024) : B.dsk r = B'.dsk r := by
  rcases A.row r with h | ⟨hq, hs, hM, hk⟩
  · rw [dsk_zero h, dsk_zero (by rw [← A.dO]; exact h)]
  · unfold dsk
    rw [hs, dsink_congr (M' := B'.M r) (s' := B'.sc r) (dp' := B'.dp r) hM ?_ ?_]
    · intro j hj; unfold sc; rw [A.qr_eq hq, (hk j hj).1]
    · intro j hj; unfold dp; rw [A.dO, (hk j hj).2]

theorem dqr_eq (A : Agree B B') (r : Fin 1024) : B.dqr r = B'.dqr r := by
  funext d; unfold dqr
  refine Finset.sum_congr rfl fun j _ => ?_
  rcases A.row r with h | ⟨_, _, _, hk⟩
  · rw [← A.ds_eq, ds_zero h, zero_mul, zero_mul]
  · by_cases hj : B.M r j
    · rw [A.ds_eq, (hk j hj).1]
    · rw [← A.ds_eq, ds_off hj, zero_mul, zero_mul]

theorem dq_eq (A : Agree B B') (r : Fin 1024) (d : Fin 64) : B.dq r d = B'.dq r d := by
  unfold dq; rw [A.dqr_eq, A.cq, A.sq]

theorem dkr_eq (A : Agree B B') (j : Fin 256) : B.dkr j = B'.dkr j := by
  funext d; unfold dkr
  refine Finset.sum_congr rfl fun r _ => ?_
  rcases A.row r with h | ⟨hq, _, _, _⟩
  · rw [← A.ds_eq, ds_zero h, zero_mul, zero_mul]
  · rw [A.ds_eq, A.qr_eq hq]

theorem dvb_eq (A : Agree B B') (j : Fin 256) (d : Fin 64) : B.dvb j d = B'.dvb j d := by
  unfold dvb
  refine Finset.sum_congr rfl fun r _ => ?_
  rcases A.row r with h | ⟨hq, hs, hM, hk⟩
  · rw [← A.dO, h d, mul_zero, mul_zero]
  · unfold pr
    rw [hs, prob_congr (M' := B'.M r) (s' := B'.sc r) hM ?_, A.dO]
    intro j hj; unfold sc; rw [A.qr_eq hq, (hk j hj).1]

end Agree

end Blk

end Cert.Attn

end
-- ==== Proof.Data.lean ====
/- The sliding-window attention's backward call as a whole, over the real numbers: its arguments by position, the block
   of 128 positions that the blocked computation reads (`blkK`) and the one that the plain computation reads (`blkR`),
   and the four gradients.

   The two blocks differ where a position lies outside the sequence of 4112: the plain computation has zeros there and
   sees them, the blocked one has whatever the array holds and does not see it. `agree` is the theorem that this makes no
   difference. -/
module

public import proofs.«01_k».proof.Proof.Spec

@[expose] public section

set_option maxRecDepth 16384

noncomputable section

open Idealize.ShloMosaic

namespace Cert.Attn

/-- The arguments: by key head, query head within it, position and coordinate. The gradient of the result is zero
    outside the sequence. -/
structure Data where
  q : Fin 4 → Fin 8 → ℕ → Fin 64 → ℝ
  k : Fin 4 → ℕ → Fin 64 → ℝ
  v : Fin 4 → ℕ → Fin 64 → ℝ
  s : Fin 4 → Fin 8 → ℝ
  dO : Fin 4 → Fin 8 → ℕ → Fin 64 → ℝ
  dO_off : ∀ h g t d, 4112 ≤ t → dO h g t d = 0

/-- The angle by which one position turns coordinate `d`. -/
def freq (d : Fin 64) : ℝ := Real.rpow 10000 (-(0 + 2 * ((d.1 % 32 : ℕ) : ℝ)) / 64)

/-- The cosines and sines of a position's angles. -/
def cs (t : ℕ) (d : Fin 64) : ℝ := Real.cos ((t : ℝ) * freq d)
def sn (t : ℕ) (d : Fin 64) : ℝ := Real.sin ((t : ℝ) * freq d)

/-- The head of a row and the row of a head and position. -/
def hd (r : Fin 1024) : Fin 8 := ⟨r.1 / 128, by omega⟩
def row (g : Fin 8) (a : Fin 128) : Fin 1024 := ⟨g.1 * 128 + a.1, by omega⟩

theorem hd_row (g : Fin 8) (a : Fin 128) : hd (row g a) = g := Fin.ext (by show (g.1 * 128 + a.1) / 128 = g.1; omega)
theorem posn_row (g : Fin 8) (a : Fin 128) : posn (row g a) = a :=
  Fin.ext (by show (g.1 * 128 + a.1) % 128 = a.1; omega)
theorem row_hd (r : Fin 1024) : row (hd r) (posn r) = r :=
  Fin.ext (by show r.1 / 128 * 128 + r.1 % 128 = r.1; omega)

namespace Data

variable (D : Data)

/-- Block `i` of key head `h` as the blocked computation reads it: the arrays as they are, and a row sees the keys of the
    last 128 positions up to its own that lie in the sequence. -/
def blkK (h : Fin 4) (i : ℕ) : Blk where
  Q r d := D.q h (hd r) (128 * i + (posn r).1) d
  DO r d := D.dO h (hd r) (128 * i + (posn r).1) d
  KP a d := D.k h (128 * (i - 1) + a.1) d
  KC a d := D.k h (128 * i + a.1) d
  VP a d := D.v h (128 * (i - 1) + a.1) d
  VC a d := D.v h (128 * i + a.1) d
  CQ a d := cs (128 * i + a.1) d
  SQ a d := sn (128 * i + a.1) d
  CP a d := cs (128 * (i - 1) + a.1) d
  SP a d := sn (128 * (i - 1) + a.1) d
  SK r := D.s h (hd r)
  M r j := r.1 % 128 < j.1 ∧ j.1 ≤ r.1 % 128 + 128 ∧ 128 ≤ 128 * i + j.1 ∧ 128 * i + j.1 < 4240

/-- The same block as the plain computation reads it: zeros outside the sequence. -/
def blkR (h : Fin 4) (i : ℕ) : Blk where
  Q r d := if 128 * i + (posn r).1 < 4112 then D.q h (hd r) (128 * i + (posn r).1) d else 0
  DO r d := D.dO h (hd r) (128 * i + (posn r).1) d
  KP a d := if i = 0 then 0 else D.k h (128 * (i - 1) + a.1) d
  KC a d := if 128 * i + a.1 < 4112 then D.k h (128 * i + a.1) d else 0
  VP a d := if i = 0 then 0 else D.v h (128 * (i - 1) + a.1) d
  VC a d := if 128 * i + a.1 < 4112 then D.v h (128 * i + a.1) d else 0
  CQ a d := cs (128 * i + a.1) d
  SQ a d := sn (128 * i + a.1) d
  CP a d := cs (128 * (i - 1) + a.1) d
  SP a d := sn (128 * (i - 1) + a.1) d
  SK r := D.s h (hd r)
  M r j := r.1 % 128 < j.1 ∧ j.1 ≤ r.1 % 128 + 128 ∧ 128 ≤ 128 * i + j.1

/-- The two blocks agree. -/
theorem agree (h : Fin 4) (i : ℕ) : Blk.Agree (D.blkK h i) (D.blkR h i) where
  cq := rfl
  sq := rfl
  dO := rfl
  row r := by
    by_cases ht : 128 * i + (posn r).1 < 4112
    · right
      have ht' : 128 * i + r.1 % 128 < 4112 := ht
      refine ⟨?_, rfl, fun j => ?_, fun j hj => ?_⟩
      · funext d
        show D.q h (hd r) (128 * i + (posn r).1) d = if _ then _ else _
        rw [if_pos ht]
      · show (_ ∧ _ ∧ _ ∧ _) ↔ (_ ∧ _ ∧ _)
        have := j.2
        omega
      · obtain ⟨h1, h2, h3, h4⟩ : r.1 % 128 < j.1 ∧ j.1 ≤ r.1 % 128 + 128 ∧ 128 ≤ 128 * i + j.1 ∧ 128 * i + j.1 < 4240 := hj
        have hp : ∀ hlt : j.1 < 128, ¬ i = 0 := fun hlt => by omega
        have hc : ∀ hge : ¬ j.1 < 128, 128 * i + (j.1 - 128) < 4112 := fun hge => by omega
        constructor
        · funext d
          unfold Blk.kr
          split
          · rename_i hlt
            have : (D.blkK h i).KP ⟨j.1, hlt⟩ = (D.blkR h i).KP ⟨j.1, hlt⟩ := by
              funext d
              show _ = if _ then _ else _
              rw [if_neg (hp hlt)]; rfl
            rw [this]; rfl
          · rename_i hge
            have : (D.blkK h i).KC ⟨j.1 - 128, by omega⟩ = (D.blkR h i).KC ⟨j.1 - 128, by omega⟩ := by
              funext d
              show _ = if _ then _ else _
              rw [if_pos (hc hge)]; rfl
            rw [this]; rfl
        · funext d
          unfold Blk.vb
          split
          · rename_i hlt
            show _ = if _ then _ else _
            rw [if_neg (hp hlt)]; rfl
          · rename_i hge
            show _ = if _ then _ else _
            rw [if_pos (hc hge)]; rfl
    · left
      intro d
      exact D.dO_off _ _ _ _ (by omega)

/-! ## The gradients -/

/-- The gradient of the queries. -/
def gq (h : Fin 4) (g : Fin 8) (t : ℕ) (d : Fin 64) : ℝ :=
  if t < 4112 then (D.blkR h (t / 128)).dq (row g ⟨t % 128, Nat.mod_lt _ (by decide)⟩) d else 0

/-- The gradient of the turned keys: the position's own block and the block after it. -/
def gkr (h : Fin 4) (t : ℕ) (d : Fin 64) : ℝ :=
  (D.blkR h (t / 128)).dkr ⟨t % 128 + 128, by omega⟩ d
    + if t < 4096 then (D.blkR h (t / 128 + 1)).dkr ⟨t % 128, by omega⟩ d else 0

/-- The gradient of the keys. -/
def gk (h : Fin 4) (t : ℕ) (d : Fin 64) : ℝ := if t < 4112 then unrope (D.gkr h t) (cs t) (sn t) d else 0

/-- The gradient of the values. -/
def gv (h : Fin 4) (t : ℕ) (d : Fin 64) : ℝ :=
  if t < 4112 then (D.blkR h (t / 128)).dvb ⟨t % 128 + 128, by omega⟩ d
    + (if t < 4096 then (D.blkR h (t / 128 + 1)).dvb ⟨t % 128, by omega⟩ d else 0) else 0

/-- The gradient of the sinks. -/
def gs (h : Fin 4) (g : Fin 8) : ℝ := ∑ i : Fin 33, ∑ a : Fin 128, (D.blkR h i.1).dsk (row g a)

/-! ## The blocked computation has the same gradients -/

theorem gq_eq (h : Fin 4) (g : Fin 8) (t : ℕ) (d : Fin 64) :
    (D.blkK h (t / 128)).dq (row g ⟨t % 128, Nat.mod_lt _ (by decide)⟩) d = D.gq h g t d := by
  unfold gq
  split
  · exact (D.agree h _).dq_eq _ d
  · rename_i ht
    have h0 : ∀ d, (D.blkK h (t / 128)).DO (row g ⟨t % 128, Nat.mod_lt _ (by decide)⟩) d = 0 := fun d => by
      refine D.dO_off _ _ _ _ ?_
      rw [posn_row]
      show 4112 ≤ 128 * (t / 128) + t % 128
      omega
    have : (D.blkK h (t / 128)).dqr (row g ⟨t % 128, Nat.mod_lt _ (by decide)⟩) = fun _ => 0 := by
      funext d
      exact Finset.sum_eq_zero fun j _ => by rw [Blk.ds_zero h0, zero_mul]
    unfold Blk.dq
    rw [this, unrope_zero]

/-- A position outside the sequence is no row's key. -/
theorem unseen (h : Fin 4) (t : ℕ) (ht : ¬ t < 4112) (r : Fin 1024) :
    ¬ (D.blkK h (t / 128)).M r ⟨t % 128 + 128, by omega⟩ := fun hM => by
  have := hM.2.2.2
  dsimp only at this
  omega

theorem cs_add (t : ℕ) : cs (128 * (t / 128) + t % 128) = cs t := by rw [Nat.div_add_mod]
theorem sn_add (t : ℕ) : sn (128 * (t / 128) + t % 128) = sn t := by rw [Nat.div_add_mod]

theorem gk_eq (h : Fin 4) (t : ℕ) (d : Fin 64) :
    (D.blkK h (t / 128)).dkc ⟨t % 128, Nat.mod_lt _ (by decide)⟩ d
      + (if t < 4096 then (D.blkK h (t / 128 + 1)).dkp ⟨t % 128, Nat.mod_lt _ (by decide)⟩ d else 0) = D.gk h t d := by
  have hc : (D.blkK h (t / 128)).dkc ⟨t % 128, Nat.mod_lt _ (by decide)⟩ d
      = unrope ((D.blkK h (t / 128)).dkr ⟨t % 128 + 128, by omega⟩) (cs t) (sn t) d := by
    conv_rhs => rw [← cs_add t, ← sn_add t]
    rfl
  have hp : (D.blkK h (t / 128 + 1)).dkp ⟨t % 128, Nat.mod_lt _ (by decide)⟩ d
      = unrope ((D.blkK h (t / 128 + 1)).dkr ⟨t % 128, by omega⟩) (cs t) (sn t) d := by
    conv_rhs => rw [← cs_add t, ← sn_add t]
    rfl
  unfold gk
  by_cases ht : t < 4112
  · rw [if_pos ht, hc]
    have hg : D.gkr h t = fun e => (D.blkK h (t / 128)).dkr ⟨t % 128 + 128, by omega⟩ e
        + (if t < 4096 then (D.blkK h (t / 128 + 1)).dkr ⟨t % 128, by omega⟩ e else 0) := by
      funext e; unfold gkr; rw [(D.agree h _).dkr_eq, (D.agree h _).dkr_eq]
    rw [hg, unrope_add]
    congr 1
    split
    · exact hp
    · exact (unrope_zero _ _ _).symm
  · rw [if_neg ht, if_neg (by omega), add_zero, hc]
    have : (D.blkK h (t / 128)).dkr ⟨t % 128 + 128, by omega⟩ = fun _ => 0 := by
      funext e
      exact Finset.sum_eq_zero fun r _ => by rw [Blk.ds_off (D.unseen h t ht r), zero_mul]
    rw [this, unrope_zero]

theorem gv_eq (h : Fin 4) (t : ℕ) (d : Fin 64) :
    (D.blkK h (t / 128)).dvb ⟨t % 128 + 128, by omega⟩ d
      + (if t < 4096 then (D.blkK h (t / 128 + 1)).dvb ⟨t % 128, by omega⟩ d else 0) = D.gv h t d := by
  unfold gv
  by_cases ht : t < 4112
  · rw [if_pos ht, (D.agree h _).dvb_eq, (D.agree h _).dvb_eq]
  · rw [if_neg ht, if_neg (by omega), add_zero]
    exact Finset.sum_eq_zero fun r _ => by
      show prob _ _ _ _ * _ = 0
      rw [prob_off (D.unseen h t ht r), zero_mul]

theorem gs_eq (h : Fin 4) (g : Fin 8) : ∑ a : Fin 128, ∑ i : Fin 33, (D.blkK h i.1).dsk (row g a) = D.gs h g := by
  unfold gs
  rw [Finset.sum_comm]
  refine Finset.sum_congr rfl fun i _ => Finset.sum_congr rfl fun a _ => ?_
  exact (D.agree h _).dsk_eq _

end Data

end Cert.Attn

end
-- ==== Proof.Words.lean ====
/- The constants of the two programs as real numbers. -/
module

public import proofs.«01_k».proof.Proof.Data

@[expose] public section

set_option maxRecDepth 16384

noncomputable section

open Idealize.ShloMosaic

namespace Cert.Attn

theorem nat_val (n : ℕ) (h : n < 2 ^ 31) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

theorem ten_thousand_word : Ideal.ofBits .f32 1176256512#32 = ((10000 : ℝ) : EReal) := by
  simp [Ideal.ofBits, Ideal.ieee, -EReal.coe_mul, -EReal.coe_neg]; norm_num
theorem two_word : Ideal.ofBits .f32 1073741824#32 = ((2 : ℝ) : EReal) := by
  simp [Ideal.ofBits, Ideal.ieee, -EReal.coe_mul, -EReal.coe_neg]; norm_num
theorem sixty_four_word : Ideal.ofBits .f32 1115684864#32 = ((64 : ℝ) : EReal) := by
  simp [Ideal.ofBits, Ideal.ieee, -EReal.coe_mul, -EReal.coe_neg]; norm_num

/-- One position's angle in coordinate `d`. -/
theorem freq_val (e : ℕ) (d : Fin 64) (he : d.1 % 32 = e) :
    Ideal.pow (Ideal.ofBits FTy.f32 1176256512#32)
      (Ideal.div (-(Ideal.ofBits FTy.f32 1073741824#32 * FloatOps.sitofp (F := Ideal) FTy.f32 (BitVec.ofNat 32 e)))
        (Ideal.ofBits FTy.f32 1115684864#32)) = ((freq d : ℝ) : EReal) := by
  rw [nat_val e (by omega), ten_thousand_word, two_word, sixty_four_word, ← EReal.coe_mul, ← EReal.coe_neg,
    coe_div _ _ (by norm_num)]
  unfold freq
  rw [he, zero_add]
  rfl

end Cert.Attn

end
-- ==== Proof.KMask.lean ====
/- The words of one block of the kernel: the matrix of the quarter turn, and which row sees which key. -/
module

public import proofs.«01_k».proof.Proof.Gen.KernelIdeal.Skeleton
public import proofs.«01_k».proof.Proof.Spec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.WordCmp

namespace Cert.KernelIdeal.Value

open Cert.KernelIdeal Cert.KernelIdeal.Gen Cert.Attn

/-- The row numbers and the column numbers of a 64 × 64 matrix. -/
abbrev iota0 : IVec S64x64 32 := iota .tc S64x64 32 [0] iota_S64x64_d0_w32
abbrev iota1 : IVec S64x64 32 := iota .tc S64x64 32 [1] iota_S64x64_d1_w32

theorem neg_one_word : Ideal.ofBits .f32 3212836864#32 = ((-1 : ℝ) : EReal) := by
  simp [Ideal.ofBits, Ideal.ieee, -EReal.coe_mul, -EReal.coe_neg]; norm_num

theorem eighth_word : Ideal.ofBits .f32 1040187392#32 = ((1 / 8 : ℝ) : EReal) := by
  simp [Ideal.ofBits, Ideal.ieee, -EReal.coe_mul, -EReal.coe_neg]; norm_num

theorem bot_word : Ideal.ofBits .f32 4286578688#32 = ⊥ := by
  simp [Ideal.ofBits, Ideal.ieee]

/-- The number that stands for a score that is not seen is a real number. -/
theorem neg_word : ∃ x : ℝ, Ideal.ofBits .f32 4048155338#32 = (x : EReal) := by
  simp [Ideal.ofBits, Ideal.ieee, -EReal.coe_mul, -EReal.coe_neg]

set_option maxHeartbeats 4000000 in
theorem rot_words : ∀ a b : Fin 64,
    (IntOp.cmpi CmpIPredicate.eq (BitVec.ofNat 32 a.1) (IntOp.addi (BitVec.ofNat 32 b.1) 32#32)
        = BitVec.ofBool (decide (a.1 = b.1 + 32))) ∧
      IntOp.cmpi CmpIPredicate.eq (BitVec.ofNat 32 a.1) (IntOp.subi (BitVec.ofNat 32 b.1) 32#32)
        = BitVec.ofBool (decide (a.1 + 32 = b.1)) := by decide +kernel

/-- The matrix that the block builds is the matrix of the quarter turn. -/
theorem rot_val (a b : Fin 64) : k0_pay21 (F := Ideal) iota0 iota1 k0_pay18 k0_pay19 k0_pay20 (ix2 a b) = ((rotR a b : ℝ) : EReal) := by
  pointwise [k0_pay21, k0_pay18, k0_pay19, k0_pay20]
  rw [(rot_words a b).1, (rot_words a b).2, select_decide, select_decide, neg_one_word]
  unfold rotR
  rw [EReal.coe_add]
  congr 1 <;> split <;> simp

/-- A row's position within the block, as the block computes it. -/
theorem pos_words : ∀ r : Fin 1024,
    Scalar.select
      (IntOp.andi
        (IntOp.xori
          (IntOp.cmpi CmpIPredicate.slt
            (IntOp.remsi ArithUnit.vector (BitVec.ofNat 32 r.1)
              (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 r.1)
            (Scalar.select (Scalar.cmpi CmpIPredicate.eq 128#32 0#32) 1#32 128#32)) 0#32))
      (IntOp.addi
        (IntOp.remsi ArithUnit.vector (BitVec.ofNat 32 r.1)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.1)
        (Scalar.select (Scalar.cmpi CmpIPredicate.eq 128#32 0#32) 1#32 128#32))
      = BitVec.ofNat 32 (r.1 % 128) := by decide +kernel

theorem key_words : ∀ (i : Fin 33) (j : Fin 256),
    (IntOp.addi (Scalar.muli (Scalar.subi (BitVec.ofNat 32 i.1) 1#32) 128#32) (BitVec.ofNat 32 j.1)).toInt
      = 128 * (i.1 : ℤ) + j.1 - 128 := by decide +kernel

theorem query_words : ∀ (i : Fin 33) (q : Fin 128),
    (IntOp.addi (Scalar.muli (BitVec.ofNat 32 i.1) 128#32) (BitVec.ofNat 32 q.1)).toInt = 128 * (i.1 : ℤ) + q.1 := by decide +kernel

/-- The keys that row `r` of block `i` sees: those of its window, not before the first and before the 4112th position. -/
def seen (i : ℕ) (r : Fin 1024) (j : Fin 256) : Prop :=
  r.1 % 128 < j.1 ∧ j.1 ≤ r.1 % 128 + 128 ∧ 128 ≤ 128 * i + j.1 ∧ 128 * i + j.1 < 4240

/-- The block's mask. -/
abbrev kmask (i : ℕ) : IVec S1024x256 1 :=
  k0_pay31 (BitVec.ofNat 32 i) (Scalar.muli (BitVec.ofNat 32 i) 128#32) k0_pay28 k0_pay29 k0_pay30

theorem mask_val (i : ℕ) (hi : i < 33) (r : Fin 1024) (j : Fin 256) : kmask i (ix2 r j) = 1#1 ↔ seen i r j := by
  unfold kmask seen
  pointwise [k0_pay31, k0_pay28, k0_pay29, k0_pay30]
  rw [pos_words]
  have hk := key_words ⟨i, hi⟩ j
  have hq := query_words ⟨i, hi⟩ (posn r)
  have hr : r.1 % 128 < 128 := Nat.mod_lt _ (by decide)
  unfold posn at hq
  dsimp only at hk hq
  generalize IntOp.addi (Scalar.muli (Scalar.subi (BitVec.ofNat 32 i) 1#32) 128#32) (BitVec.ofNat 32 j.1) = kw at *
  generalize IntOp.addi (Scalar.muli (BitVec.ofNat 32 i) 128#32) (BitVec.ofNat 32 (r.1 % 128)) = qw at *
  have hs : (IntOp.subi qw kw).toInt = qw.toInt - kw.toInt := by
    show (qw - kw).toInt = _
    rw [BitVec.toInt_sub]
    have := j.2
    apply Int.bmod_eq_of_le <;> omega
  rw [cmpi_sle_eq, cmpi_slt_eq, cmpi_sge_eq, cmpi_slt_eq, hs, hk, hq, andi_ofBool, andi_ofBool, andi_ofBool, ofBool_eq_one_iff]
  simp only [Bool.and_eq_true, decide_eq_true_eq]
  rw [show (128#32 : BitVec 32).toInt = 128 from by decide, show (0#32 : BitVec 32).toInt = 0 from by decide,
    show (4112#32 : BitVec 32).toInt = 4112 from by decide]
  omega

end Cert.KernelIdeal.Value

end
-- ==== Proof.KBlock.lean ====
/- One block of the kernel, payload by payload, at real operands: what each holds is the number of `Spec` of its name. -/
module

public import proofs.«01_k».proof.Proof.KMask

@[expose] public section

set_option maxRecDepth 16384

noncomputable section

open Idealize.ShloMosaic Idealize.ShloMosaic.TcCoe Idealize.SL.Sem
open Idealize.ShloMosaic.WordCmp

namespace Cert.KernelIdeal.Value

open Cert.KernelIdeal Cert.KernelIdeal.Gen Cert.Attn

theorem select_off {α : Type} {c : BitVec 1} (h : ¬ c = 1#1) (x y : α) : Scalar.select c x y = y := if_neg h

/-! ## Turned queries and keys, values, scores -/

/-- The table of cosines or sines, once for each of the eight heads. -/
theorem rep22 (v : FVec Ideal S128x64 .f32) (r : Fin 1024) (d : Fin 64) : k0_pay22 v (ix2 r d) = v (ix2 (posn r) d) := by
  unfold posn
  pointwise [k0_pay22]
  split_ifs <;> (congr 2; apply Fin.ext; show (_ : ℕ) = _ ; simp only []; omega)

theorem rep23 (v : FVec Ideal S128x64 .f32) (r : Fin 1024) (d : Fin 64) : k0_pay23 v (ix2 r d) = v (ix2 (posn r) d) := by
  unfold posn
  pointwise [k0_pay23]
  split_ifs <;> (congr 2; apply Fin.ext; show (_ : ℕ) = _ ; simp only []; omega)

/-- A real row times the matrix of the quarter turn. -/
theorem sum_rotK (x : Fin 64 → ℝ) (d : Fin 64) :
    (∑ e, ((x e : ℝ) : EReal) * k0_pay21 (F := Ideal) iota0 iota1 k0_pay18 k0_pay19 k0_pay20 (ix2 e d)) = ((turn x d : ℝ) : EReal) := by
  simp only [rot_val, ← EReal.coe_mul]
  rw [coe_sum, sum_rot]

/-- A real row times its transpose. -/
theorem sum_rotKT (x : Fin 64 → ℝ) (d : Fin 64) :
    (∑ e, ((x e : ℝ) : EReal) * k0_pay21 (F := Ideal) iota0 iota1 k0_pay18 k0_pay19 k0_pay20 (ix2 d e)) = ((turnT x d : ℝ) : EReal) := by
  simp only [rot_val, ← EReal.coe_mul]
  rw [coe_sum, sum_rotT]

theorem qr_val (B : Blk) {v2 : FVec Ideal S1024x64 .f32} {v12 v14 : FVec Ideal S128x64 .f32}
    (h2 : ∀ r d, v2 (ix2 r d) = ((B.Q r d : ℝ) : EReal)) (h12 : ∀ a d, v12 (ix2 a d) = ((B.CQ a d : ℝ) : EReal))
    (h14 : ∀ a d, v14 (ix2 a d) = ((B.SQ a d : ℝ) : EReal)) (r : Fin 1024) (d : Fin 64) :
    k0_pay24 v2 v12 v14 iota0 iota1 k0_pay18 k0_pay19 k0_pay20 (ix2 r d) = ((B.qr r d : ℝ) : EReal) := by
  pointwise [k0_pay24]
  rw [rep22, rep23]
  simp only [h2, h12, h14, sum_rotK]
  rfl

theorem kr_val (B : Blk) {v4 v6 v12 v14 v16 v18 : FVec Ideal S128x64 .f32}
    (h4 : ∀ a d, v4 (ix2 a d) = ((B.KP a d : ℝ) : EReal)) (h6 : ∀ a d, v6 (ix2 a d) = ((B.KC a d : ℝ) : EReal))
    (h12 : ∀ a d, v12 (ix2 a d) = ((B.CQ a d : ℝ) : EReal)) (h14 : ∀ a d, v14 (ix2 a d) = ((B.SQ a d : ℝ) : EReal))
    (h16 : ∀ a d, v16 (ix2 a d) = ((B.CP a d : ℝ) : EReal)) (h18 : ∀ a d, v18 (ix2 a d) = ((B.SP a d : ℝ) : EReal))
    (j : Fin 256) (d : Fin 64) :
    k0_pay25 v4 v6 v12 v14 v16 v18 iota0 iota1 k0_pay18 k0_pay19 k0_pay20 (ix2 j d) = ((B.kr j d : ℝ) : EReal) := by
  pointwise [k0_pay25]
  simp only [h4, h6, h12, h14, h16, h18, sum_rotK]
  unfold Blk.kr
  split <;> rfl

theorem vb_val (B : Blk) {v8 v10 : FVec Ideal S128x64 .f32}
    (h8 : ∀ a d, v8 (ix2 a d) = ((B.VP a d : ℝ) : EReal)) (h10 : ∀ a d, v10 (ix2 a d) = ((B.VC a d : ℝ) : EReal))
    (j : Fin 256) (d : Fin 64) : k0_pay42 (k0_pay26 v8 v10) (ix2 j d) = ((B.vb j d : ℝ) : EReal) := by
  pointwise [k0_pay26, k0_pay42]
  simp only [h8, h10]
  unfold Blk.vb
  split <;> rfl

theorem sc_val (B : Blk) {v2 : FVec Ideal S1024x64 .f32} {v4 v6 v12 v14 v16 v18 : FVec Ideal S128x64 .f32}
    (h2 : ∀ r d, v2 (ix2 r d) = ((B.Q r d : ℝ) : EReal))
    (h4 : ∀ a d, v4 (ix2 a d) = ((B.KP a d : ℝ) : EReal)) (h6 : ∀ a d, v6 (ix2 a d) = ((B.KC a d : ℝ) : EReal))
    (h12 : ∀ a d, v12 (ix2 a d) = ((B.CQ a d : ℝ) : EReal)) (h14 : ∀ a d, v14 (ix2 a d) = ((B.SQ a d : ℝ) : EReal))
    (h16 : ∀ a d, v16 (ix2 a d) = ((B.CP a d : ℝ) : EReal)) (h18 : ∀ a d, v18 (ix2 a d) = ((B.SP a d : ℝ) : EReal))
    (r : Fin 1024) (j : Fin 256) :
    k0_pay27 v2 v4 v6 v12 v14 v16 v18 iota0 iota1 k0_pay18 k0_pay19 k0_pay20 (ix2 r j) = ((B.sc r j : ℝ) : EReal) := by
  pointwise [k0_pay27]
  simp only [qr_val B h2 h12 h14, kr_val B h4 h6 h12 h14 h16 h18, ← EReal.coe_mul]
  rw [coe_sum, eighth_word, ← EReal.coe_mul]
  rfl

/-! ## The weights -/

section soft

variable (B : Blk) {i : ℕ} {v20 : FVec Ideal S1024x1 .f32} {v56 : FVec Ideal S1024x256 .f32}

/-- The row's greatest score or sink is a real number. -/
theorem max_val (h20 : ∀ r, v20 (ix2 r 0) = ((B.SK r : ℝ) : EReal)) (h56 : ∀ r j, v56 (ix2 r j) = ((B.sc r j : ℝ) : EReal)) :
    ∃ μ : Fin 1024 → ℝ, ∀ r, k0_pay33 (BitVec.ofNat 32 i) v20 v56 (Scalar.muli (BitVec.ofNat 32 i) 128#32) k0_pay28 k0_pay29 k0_pay30
      (ix2 r 0) = ((μ r : ℝ) : EReal) := by
  have : ∀ r, ∃ x : ℝ, k0_pay33 (BitVec.ofNat 32 i) v20 v56 (Scalar.muli (BitVec.ofNat 32 i) 128#32) k0_pay28 k0_pay29 k0_pay30
      (ix2 r 0) = (x : EReal) := by
    intro r
    pointwise [k0_pay33, k0_pay32]
    rw [bot_word, h20]
    obtain ⟨n, hn⟩ := neg_word
    have hf : ∀ x : Fin 256, ∃ y : ℝ, Scalar.select (kmask i (ix2 r x)) (v56 (ix2 r x)) (Ideal.ofBits .f32 4048155338#32) = (y : EReal) := by
      intro x
      rw [Scalar.select]
      split
      · exact ⟨_, h56 r x⟩
      · exact ⟨_, hn⟩
    obtain ⟨μ, hμ⟩ := fold_max_real (fun x : Fin 256 => Scalar.select (kmask i (ix2 r x)) (v56 (ix2 r x)) (Ideal.ofBits .f32 4048155338#32))
      (fun x => by obtain ⟨y, hy⟩ := hf x; rw [hy]; exact EReal.coe_ne_top y) 0
      (by obtain ⟨y, hy⟩ := hf 0; rw [hy]; exact EReal.coe_ne_bot y)
    exact ⟨max μ (B.SK r), by rw [hμ]; exact (EReal.coe_strictMono.monotone.map_max).symm⟩
  choose μ hμ using this
  exact ⟨μ, hμ⟩

variable {μ : Fin 1024 → ℝ}
  (h20 : ∀ r, v20 (ix2 r 0) = ((B.SK r : ℝ) : EReal)) (h56 : ∀ r j, v56 (ix2 r j) = ((B.sc r j : ℝ) : EReal))
  (hM : ∀ r j, kmask i (ix2 r j) = 1#1 ↔ B.M r j)
  (hμ : ∀ r, k0_pay33 (BitVec.ofNat 32 i) v20 v56 (Scalar.muli (BitVec.ofNat 32 i) 128#32) k0_pay28 k0_pay29 k0_pay30
      (ix2 r 0) = ((μ r : ℝ) : EReal))

include h56 hM hμ

/-- The exponential of a seen key's shifted score. -/
theorem e_val (r : Fin 1024) (j : Fin 256) (h : B.M r j) :
    k0_pay34 (BitVec.ofNat 32 i) v20 v56 (Scalar.muli (BitVec.ofNat 32 i) 128#32) k0_pay28 k0_pay29 k0_pay30 (ix2 r j)
      = ((Real.exp (B.sc r j - μ r) : ℝ) : EReal) := by
  pointwise [k0_pay34, k0_pay32]
  rw [hμ, select_of_eq_one ((hM r j).mpr h), h56, ← EReal.coe_sub, coe_exp]

/-- The exponentials, zero where not seen. -/
theorem ex_val (r : Fin 1024) (j : Fin 256) :
    k0_pay35 (BitVec.ofNat 32 i) v20 v56 (Scalar.muli (BitVec.ofNat 32 i) 128#32) k0_pay28 k0_pay29 k0_pay30 (ix2 r j)
      = ((ex (B.M r) (fun j => B.sc r j - μ r) j : ℝ) : EReal) := by
  pointwise [k0_pay35]
  unfold ex
  by_cases h : B.M r j
  · rw [if_pos h, select_of_eq_one ((hM r j).mpr h), e_val B h56 hM hμ r j h]
  · rw [if_neg h, select_off fun h' => h ((hM r j).mp h')]; rfl

include h20

omit h56 hM in
theorem es_val (r : Fin 1024) :
    k0_pay36 (BitVec.ofNat 32 i) v20 v56 (Scalar.muli (BitVec.ofNat 32 i) 128#32) k0_pay28 k0_pay29 k0_pay30 (ix2 r 0)
      = ((Real.exp (B.SK r - μ r) : ℝ) : EReal) := by
  pointwise [k0_pay36]
  rw [hμ, h20, ← EReal.coe_sub, coe_exp]

/-- The row's total. -/
theorem tot_val (r : Fin 1024) :
    k0_pay37 (BitVec.ofNat 32 i) v20 v56 (Scalar.muli (BitVec.ofNat 32 i) 128#32) k0_pay28 k0_pay29 k0_pay30 (ix2 r 0)
      = ((tot (B.M r) (fun j => B.sc r j - μ r) (B.SK r - μ r) : ℝ) : EReal) := by
  pointwise [k0_pay37]
  rw [es_val B h20 hμ]
  simp only [ex_val B h56 hM hμ]
  rw [coe_sum, ← EReal.coe_add]
  rfl

theorem pr_val (r : Fin 1024) (j : Fin 256) :
    k0_pay38 (BitVec.ofNat 32 i) v20 v56 (Scalar.muli (BitVec.ofNat 32 i) 128#32) k0_pay28 k0_pay29 k0_pay30 (ix2 r j)
      = ((B.pr r j : ℝ) : EReal) := by
  pointwise [k0_pay38]
  rw [tot_val B h20 h56 hM hμ, ex_val B h56 hM hμ, coe_div _ _ (tot_pos _ _ _).ne']
  unfold Blk.pr
  rw [← prob_shift _ _ _ (μ r)]
  rfl

theorem inv_val (r : Fin 1024) :
    k0_pay39 (BitVec.ofNat 32 i) v20 v56 (Scalar.muli (BitVec.ofNat 32 i) 128#32) k0_pay28 k0_pay29 k0_pay30 (ix2 r 0)
      = ((1 / (tot (B.M r) (fun j => B.sc r j - μ r) (B.SK r - μ r) * tot (B.M r) (fun j => B.sc r j - μ r) (B.SK r - μ r)) : ℝ) : EReal) := by
  pointwise [k0_pay39]
  rw [tot_val B h20 h56 hM hμ, ← EReal.coe_mul, ← EReal.coe_one,
    coe_div _ _ (mul_pos (tot_pos _ _ _) (tot_pos _ _ _)).ne']

end soft

/-! ## The gradients -/

section grads

variable (B : Blk) {μ : Fin 1024 → ℝ} {v92 : IVec S1024x256 1} {v100 v102 v109 : FVec Ideal S1024x256 .f32}
  {v106 v107 v112 : FVec Ideal S1024x1 .f32} {v116 : FVec Ideal S1024x64 .bf16} {v117 : FVec Ideal S256x64 .bf16}
  (h92 : ∀ r j, v92 (ix2 r j) = 1#1 ↔ B.M r j)
  (h100 : ∀ r j, B.M r j → v100 (ix2 r j) = ((Real.exp (B.sc r j - μ r) : ℝ) : EReal))
  (h102 : ∀ r j, v102 (ix2 r j) = ((ex (B.M r) (fun j => B.sc r j - μ r) j : ℝ) : EReal))
  (h106 : ∀ r, v106 (ix2 r 0) = ((Real.exp (B.SK r - μ r) : ℝ) : EReal))
  (h107 : ∀ r, v107 (ix2 r 0) = ((tot (B.M r) (fun j => B.sc r j - μ r) (B.SK r - μ r) : ℝ) : EReal))
  (h112 : ∀ r, v112 (ix2 r 0) = ((1 / (tot (B.M r) (fun j => B.sc r j - μ r) (B.SK r - μ r)
    * tot (B.M r) (fun j => B.sc r j - μ r) (B.SK r - μ r)) : ℝ) : EReal))
  (h116 : ∀ r d, v116 (ix2 r d) = ((B.DO r d : ℝ) : EReal))
  (h117 : ∀ j d, v117 (ix2 j d) = ((B.vb j d : ℝ) : EReal))

/-- The zero that the product is added to. -/
abbrev czero : FVec Ideal S1024x256 .f32 := constant S1024x256 .f32 0x00000000#32

include h116 h117 in
theorem dp_val (r : Fin 1024) (j : Fin 256) : k0_pay43 v116 v117 czero (ix2 r j) = ((B.dp r j : ℝ) : EReal) := by
  pointwise [k0_pay43]
  simp only [h116, h117, ← EReal.coe_mul]
  rw [coe_sum]
  simp [Blk.dp]

include h102 h112 h116 h117 in
theorem mean_val (r : Fin 1024) : k0_pay45 v102 v112 v116 v117 czero (ix2 r 0)
    = ((-(∑ j, B.dp r j * (1 / (tot (B.M r) (fun j => B.sc r j - μ r) (B.SK r - μ r)
        * tot (B.M r) (fun j => B.sc r j - μ r) (B.SK r - μ r))) * ex (B.M r) (fun j => B.sc r j - μ r) j) : ℝ) : EReal) := by
  pointwise [k0_pay45]
  simp only [dp_val B h116 h117, h102, h112, ← EReal.coe_mul]
  rw [coe_sum, ← EReal.coe_zero, ← EReal.coe_sub, zero_sub]

include h102 h106 h112 h116 h117 in
theorem dsk_val (r : Fin 1024) : k0_pay46 v102 v106 v112 v116 v117 czero (ix2 r 0) = ((B.dsk r : ℝ) : EReal) := by
  have h : k0_pay46 v102 v106 v112 v116 v117 czero (ix2 r 0) = k0_pay45 v102 v112 v116 v117 czero (ix2 r 0) * v106 (ix2 r 0) := by
    pointwise [k0_pay46, k0_pay45]
  rw [h, mean_val B h102 h112 h116 h117, h106, ← EReal.coe_mul, dsink_form]
  rfl

include h92 h100 h102 h107 h112 h116 h117

theorem ds_val (r : Fin 1024) (j : Fin 256) :
    k0_pay47 v92 v100 v102 v107 v112 v116 v117 czero (ix2 r j) = ((B.ds r j : ℝ) : EReal) := by
  pointwise [k0_pay47]
  by_cases h : B.M r j
  · rw [select_of_eq_one ((h92 r j).mpr h), select_of_eq_one ((h92 r j).mpr h)]
    simp only [dp_val B h116 h117, mean_val B h102 h112 h116 h117, h107, h100 r j h, eighth_word]
    rw [coe_div _ _ (tot_pos _ _ _).ne']
    simp only [Finset.univ_unique, Finset.sum_singleton, Fin.default_eq_zero, Fin.isValue]
    rw [mean_val B h102 h112 h116 h117]
    rw [← EReal.coe_add, ← EReal.coe_mul, ← EReal.coe_mul]
    unfold Blk.ds
    rw [← dscore_form _ _ _ (μ r)]
    have he : ex (B.M r) (fun j => B.sc r j - μ r) j = Real.exp (B.sc r j - μ r) := if_pos h
    rw [he]
  · rw [Blk.ds_off h, select_off fun h' => h ((h92 r j).mp h')]; rfl

variable {v12 v14 v16 v18 : FVec Ideal S128x64 .f32} {v36 v37 v41 : FVec Ideal S1024x64 .f32} {v50 : FVec Ideal S256x64 .f32}

theorem dkr_val (h41 : ∀ r d, v41 (ix2 r d) = ((B.qr r d : ℝ) : EReal)) (j : Fin 256) (d : Fin 64) :
    k0_pay48 v41 v92 v100 v102 v107 v112 v116 v117 czero (ix2 j d) = ((B.dkr j d : ℝ) : EReal) := by
  pointwise [k0_pay48]
  simp only [ds_val B h92 h100 h102 h107 h112 h116 h117, h41, ← EReal.coe_mul]
  rw [coe_sum]
  rfl

theorem dkc_val (h41 : ∀ r d, v41 (ix2 r d) = ((B.qr r d : ℝ) : EReal))
    (h12 : ∀ a d, v12 (ix2 a d) = ((B.CQ a d : ℝ) : EReal)) (h14 : ∀ a d, v14 (ix2 a d) = ((B.SQ a d : ℝ) : EReal))
    (a : Fin 128) (d : Fin 64) :
    k0_pay3 (k0_pay51 v12 v14 (k0_pay21 iota0 iota1 k0_pay18 k0_pay19 k0_pay20) v41 v92 v100 v102 v107 v112 v116 v117 czero) (ix3 0 a d)
      = ((B.dkc a d : ℝ) : EReal) := by
  pointwise [k0_pay51, k0_pay3]
  simp only [dkr_val B h92 h100 h102 h107 h112 h116 h117 h41, h12, h14, ← EReal.coe_mul]
  rw [sum_rotKT, ← EReal.coe_add]
  unfold Blk.dkc unrope
  simp only [Nat.add_comm]

theorem dkp_val (h41 : ∀ r d, v41 (ix2 r d) = ((B.qr r d : ℝ) : EReal))
    (h16 : ∀ a d, v16 (ix2 a d) = ((B.CP a d : ℝ) : EReal)) (h18 : ∀ a d, v18 (ix2 a d) = ((B.SP a d : ℝ) : EReal))
    (a : Fin 128) (d : Fin 64) :
    k0_pay2 (k0_pay52 v16 v18 (k0_pay21 iota0 iota1 k0_pay18 k0_pay19 k0_pay20) v41 v92 v100 v102 v107 v112 v116 v117 czero) (ix3 0 a d)
      = ((B.dkp a d : ℝ) : EReal) := by
  pointwise [k0_pay52, k0_pay2]
  simp only [dkr_val B h92 h100 h102 h107 h112 h116 h117 h41, h16, h18, ← EReal.coe_mul]
  rw [sum_rotKT, ← EReal.coe_add]
  rfl

theorem dq_val (h36 : ∀ r d, v36 (ix2 r d) = ((B.CQ (posn r) d : ℝ) : EReal))
    (h37 : ∀ r d, v37 (ix2 r d) = ((B.SQ (posn r) d : ℝ) : EReal)) (h50 : ∀ j d, v50 (ix2 j d) = ((B.kr j d : ℝ) : EReal))
    (g : Fin 8) (a : Fin 128) (d : Fin 64) :
    k0_pay1 (k0_pay53 (k0_pay21 iota0 iota1 k0_pay18 k0_pay19 k0_pay20) v36 v37 v50 v92 v100 v102 v107 v112 v116 v117 czero) (ix4 0 g a d)
      = ((B.dq ⟨g.1 * 128 + a.1, by omega⟩ d : ℝ) : EReal) := by
  pointwise [k0_pay53, k0_pay1]
  simp only [ds_val B h92 h100 h102 h107 h112 h116 h117, h36, h37, h50, ← EReal.coe_mul, coe_sum]
  rw [sum_rotKT, ← EReal.coe_add]
  rfl

end grads

section values

variable (B : Blk) {v109 : FVec Ideal S1024x256 .f32} {v115 : FVec Ideal S1024x64 .f32}
  (h109 : ∀ r j, v109 (ix2 r j) = ((B.pr r j : ℝ) : EReal)) (h115 : ∀ r d, v115 (ix2 r d) = ((B.DO r d : ℝ) : EReal))

include h109 h115

theorem dvb_val (j : Fin 256) (d : Fin 64) : k0_pay44 v109 v115 (ix2 j d) = ((B.dvb j d : ℝ) : EReal) := by
  pointwise [k0_pay44]
  simp only [h109, h115, ← EReal.coe_mul]
  rw [coe_sum]
  rfl

theorem dvp_val (a : Fin 128) (d : Fin 64) :
    k0_pay4 (k0_pay49 v109 v115) (ix3 0 a d) = ((B.dvb ⟨a.1, by omega⟩ d : ℝ) : EReal) := by
  pointwise [k0_pay4, k0_pay49]
  exact dvb_val B h109 h115 _ d

theorem dvc_val (a : Fin 128) (d : Fin 64) :
    k0_pay5 (k0_pay50 v109 v115) (ix3 0 a d) = ((B.dvb ⟨a.1 + 128, by omega⟩ d : ℝ) : EReal) := by
  pointwise [k0_pay5, k0_pay50]
  rw [dvb_val B h109 h115 _ d]
  simp only [Nat.add_comm]

end values

end Cert.KernelIdeal.Value

end
-- ==== Proof.KIn.lean ====
/- What the kernel's windows hold at a grid point, where the arguments are real numbers: the blocks of `Data.blkK`. -/
module

public import proofs.«01_k».proof.Proof.Words
public import proofs.«01_k».proof.Proof.KBlock
public import proofs.«01_k».proof.Proof.Gen.KernelIdeal.Frame

@[expose] public section

set_option maxRecDepth 16384

noncomputable section

open Idealize.ShloMosaic Idealize.ShloMosaic.TcCoe Idealize.SL.Sem
open Idealize.ShloMosaic.WordCmp

namespace Cert.KernelIdeal.Value

open Cert.KernelIdeal Cert.KernelIdeal.Gen Cert.Attn

variable (m : (ℓ : Loc nD τ sig) → Buf (Elt Ideal) ℓ) (c : Dev nD) (D : Data)

/-- The arguments hold the real numbers of `D`. -/
structure Holds : Prop where
  q : ∀ h g (t : Fin 4224) d, m ((c : Thread nD τ).loc main_arg0) (ix4 h g t d) = ((D.q h g t.1 d : ℝ) : EReal)
  k : ∀ h (t : Fin 4224) d, m ((c : Thread nD τ).loc main_arg1) (ix3 h t d) = ((D.k h t.1 d : ℝ) : EReal)
  v : ∀ h (t : Fin 4224) d, m ((c : Thread nD τ).loc main_arg2) (ix3 h t d) = ((D.v h t.1 d : ℝ) : EReal)
  s : ∀ (h : Fin 4) (g : Fin 8), m ((c : Thread nD τ).loc main_arg3) (ix2 0 ⟨h.1 * 8 + g.1, by omega⟩) = ((D.s h g : ℝ) : EReal)
  dO : ∀ h g (t : Fin 4112) d, m ((c : Thread nD τ).loc main_arg4) (ix4 h g t d) = ((D.dO h g t.1 d : ℝ) : EReal)

/-- The blocks that the windows are at, at point `t` of the grid: key head `t / 33`, block `t % 33`. -/
theorem idx : ∀ t : Fin cfg0.N,
    win0_0.index t = ![t.val / 33, 0, t.val % 33, 0] ∧ win0_1.index t = ![t.val / 33, t.val % 33 - 1, 0]
      ∧ win0_2.index t = ![t.val / 33, t.val % 33, 0] ∧ win0_3.index t = ![t.val / 33, t.val % 33 - 1, 0]
      ∧ win0_4.index t = ![t.val / 33, t.val % 33, 0] ∧ win0_5.index t = ![t.val % 33, 0]
      ∧ win0_6.index t = ![t.val % 33, 0] ∧ win0_7.index t = ![t.val % 33 - 1, 0]
      ∧ win0_8.index t = ![t.val % 33 - 1, 0] ∧ win0_9.index t = ![t.val / 33, 0, 0]
      ∧ win0_10.index t = ![t.val / 33, 0, t.val % 33, 0] := (by decide +kernel : ∀ t : Fin grid0.N, _)

theorem idxO : ∀ t : Fin cfg0.N,
    win0_11.index t = ![t.val / 33, 0, t.val % 33, 0] ∧ win0_12.index t = ![t.val / 33, t.val % 33, 0]
      ∧ win0_13.index t = ![t.val / 33, t.val % 33, 0] ∧ win0_14.index t = ![t.val / 33, t.val % 33, 0]
      ∧ win0_15.index t = ![t.val / 33, t.val % 33, 0] ∧ win0_16.index t = ![t.val / 33, 0, 0] :=
  (by decide +kernel : ∀ t : Fin grid0.N, _)

/-- The grid's second coordinate is the block's number. -/
theorem coord1 : ∀ t : Fin cfg0.N, (grid0.coords t 1).val = t.val % 33 := (by decide +kernel : ∀ t : Fin grid0.N, _)

theorem lt4 (t : Fin cfg0.N) : t.val / 33 < 4 := by
  have h : cfg0.N = 132 := N_0
  have := t.2
  omega

/-- The key head of a point. -/
def hh (t : Fin cfg0.N) : Fin 4 := ⟨t.val / 33, lt4 t⟩

/-- The block of a point. -/
abbrev bk (t : Fin cfg0.N) : Blk := D.blkK (hh t) (t.val % 33)

/-! ## The operands that are computed before the launch -/

theorem cos_at (a : Fin 4224) (d : Fin 64) : V m c main_v17 (ix2 a d) = ((cs a.1 d : ℝ) : EReal) := by
  unfold_abbrev_sides
  simp only [hostOps0, hostOps0_1, List.flatten_cons, List.flatten_nil, List.append_nil, List.cons_append, List.nil_append]
  after_results
  pointwise
  rw [nat_val a.1 (by omega)]
  split
  · rw [freq_val d.1 d (by omega), ← EReal.coe_mul]; rfl
  · rw [freq_val (d.1 - 32) d (by omega), ← EReal.coe_mul]; rfl

theorem sin_at (a : Fin 4224) (d : Fin 64) : V m c main_v18 (ix2 a d) = ((sn a.1 d : ℝ) : EReal) := by
  unfold_abbrev_sides
  simp only [hostOps0, hostOps0_1, List.flatten_cons, List.flatten_nil, List.append_nil, List.cons_append, List.nil_append]
  after_results
  pointwise
  rw [nat_val a.1 (by omega)]
  split
  · rw [freq_val d.1 d (by omega), ← EReal.coe_mul]; rfl
  · rw [freq_val (d.1 - 32) d (by omega), ← EReal.coe_mul]; rfl

theorem sink_at (h : Fin 4) (r : Fin 1024) : V m c main_v22 (ix3 h r 0) = m ((c : Thread nD τ).loc main_arg3) (ix2 0 ⟨h.1 * 8 + r.1 / 128, by omega⟩) := by
  unfold_abbrev_sides
  simp only [hostOps0, hostOps0_1, List.flatten_cons, List.flatten_nil, List.append_nil, List.cons_append, List.nil_append]
  after_results
  pointwise

theorem V_main_v23 : V m c main_v23 = pad S4x8x4224x64 ![0, 0, 0, 0] ![0, 0, 112, 0] ![0, 0, 0, 0]
    (m ((c : Thread nD τ).loc main_arg4)) (sitofp (F := Ideal) .f32 (constantI S_ 32 0#32)) pads_S4x8x4112x64_S4x8x4224x64_000_000_01120_000 h_S_ := by
  unfold_abbrev_sides
  simp only [hostOps0, hostOps0_1, List.flatten_cons, List.flatten_nil, List.append_nil, List.cons_append, List.nil_append]
  after_results
  rfl

/-- An array padded with zeros at the end of its positions, at an index. -/
theorem pad_at (X : FVec Ideal S4x8x4112x64 .f32) (h : Fin 4) (g : Fin 8) (a : Fin 4224) (d : Fin 64) :
    pad S4x8x4224x64 ![0, 0, 0, 0] ![0, 0, 112, 0] ![0, 0, 0, 0] X (sitofp (F := Ideal) .f32 (constantI S_ 32 0#32))
      pads_S4x8x4112x64_S4x8x4224x64_000_000_01120_000 h_S_ (ix4 h g a d)
      = if ha : a.1 < 4112 then X (ix4 h g ⟨a.1, ha⟩ d) else ((0 : ℝ) : EReal) := by
  pointwise
  split
  · rfl
  · exact (nat_val 0 (by norm_num)).trans (by rw [Nat.cast_zero])

theorem do_at (h : Fin 4) (g : Fin 8) (a : Fin 4224) (d : Fin 64) : V m c main_v23 (ix4 h g a d) = if ha : a.1 < 4112 then
    m ((c : Thread nD τ).loc main_arg4) (ix4 h g ⟨a.1, ha⟩ d) else ((0 : ℝ) : EReal) := by
  rw [V_main_v23]
  exact pad_at _ h g a d

/-! ## The blocks -/

variable {m c D}

section blocks

variable (hD : Holds m c D) (t : Fin cfg0.N)
include hD

theorem q_blk (g : Fin 8) (a : Fin 128) (d : Fin 64) : iblk m c 0 t (ix4 0 g a d) = (((bk D t).Q (row g a) d : ℝ) : EReal) := by
  have h : iblk m c 0 t (ix4 0 g a d) = m ((c : Thread nD τ).loc main_arg0) (ix4 (hh t) g ⟨128 * (t.val % 33) + a.1, by omega⟩ d) := by
    unfold hh
    blk_ext [iblk, V, idx t]
  rw [h, hD.q]
  show _ = ((D.q (hh t) (hd (row g a)) (128 * (t.val % 33) + (posn (row g a)).1) d : ℝ) : EReal)
  rw [hd_row, posn_row]

theorem do_blk (g : Fin 8) (a : Fin 128) (d : Fin 64) : iblk m c 10 t (ix4 0 g a d) = (((bk D t).DO (row g a) d : ℝ) : EReal) := by
  have h : iblk m c 10 t (ix4 0 g a d) = V m c main_v23 (ix4 (hh t) g ⟨128 * (t.val % 33) + a.1, by omega⟩ d) := by
    unfold hh
    blk_ext [iblk, idx t]
  rw [h, do_at]
  show _ = ((D.dO (hh t) (hd (row g a)) (128 * (t.val % 33) + (posn (row g a)).1) d : ℝ) : EReal)
  rw [hd_row, posn_row]
  split
  · exact hD.dO _ _ _ _
  · rename_i hn
    rw [D.dO_off _ _ _ _ (by dsimp only at hn; omega)]

theorem kp_blk (a : Fin 128) (d : Fin 64) : iblk m c 1 t (ix3 0 a d) = (((bk D t).KP a d : ℝ) : EReal) := by
  have h : iblk m c 1 t (ix3 0 a d) = m ((c : Thread nD τ).loc main_arg1) (ix3 (hh t) ⟨128 * (t.val % 33 - 1) + a.1, by omega⟩ d) := by
    unfold hh
    blk_ext [iblk, V, idx t]
  rw [h, hD.k]; rfl

theorem kc_blk (a : Fin 128) (d : Fin 64) : iblk m c 2 t (ix3 0 a d) = (((bk D t).KC a d : ℝ) : EReal) := by
  have h : iblk m c 2 t (ix3 0 a d) = m ((c : Thread nD τ).loc main_arg1) (ix3 (hh t) ⟨128 * (t.val % 33) + a.1, by omega⟩ d) := by
    unfold hh
    blk_ext [iblk, V, idx t]
  rw [h, hD.k]; rfl

theorem vp_blk (a : Fin 128) (d : Fin 64) : iblk m c 3 t (ix3 0 a d) = (((bk D t).VP a d : ℝ) : EReal) := by
  have h : iblk m c 3 t (ix3 0 a d) = m ((c : Thread nD τ).loc main_arg2) (ix3 (hh t) ⟨128 * (t.val % 33 - 1) + a.1, by omega⟩ d) := by
    unfold hh
    blk_ext [iblk, V, idx t]
  rw [h, hD.v]; rfl

theorem vc_blk (a : Fin 128) (d : Fin 64) : iblk m c 4 t (ix3 0 a d) = (((bk D t).VC a d : ℝ) : EReal) := by
  have h : iblk m c 4 t (ix3 0 a d) = m ((c : Thread nD τ).loc main_arg2) (ix3 (hh t) ⟨128 * (t.val % 33) + a.1, by omega⟩ d) := by
    unfold hh
    blk_ext [iblk, V, idx t]
  rw [h, hD.v]; rfl

omit hD

theorem cq_blk (a : Fin 128) (d : Fin 64) : iblk m c 5 t (ix2 a d) = (((bk D t).CQ a d : ℝ) : EReal) := by
  have h : iblk m c 5 t (ix2 a d) = V m c main_v17 (ix2 ⟨128 * (t.val % 33) + a.1, by omega⟩ d) := by
    blk_ext [iblk, idx t]
  rw [h, cos_at]; rfl

theorem sq_blk (a : Fin 128) (d : Fin 64) : iblk m c 6 t (ix2 a d) = (((bk D t).SQ a d : ℝ) : EReal) := by
  have h : iblk m c 6 t (ix2 a d) = V m c main_v18 (ix2 ⟨128 * (t.val % 33) + a.1, by omega⟩ d) := by
    blk_ext [iblk, idx t]
  rw [h, sin_at]; rfl

theorem cp_blk (a : Fin 128) (d : Fin 64) : iblk m c 7 t (ix2 a d) = (((bk D t).CP a d : ℝ) : EReal) := by
  have h : iblk m c 7 t (ix2 a d) = V m c main_v17 (ix2 ⟨128 * (t.val % 33 - 1) + a.1, by omega⟩ d) := by
    blk_ext [iblk, idx t]
  rw [h, cos_at]; rfl

theorem sp_blk (a : Fin 128) (d : Fin 64) : iblk m c 8 t (ix2 a d) = (((bk D t).SP a d : ℝ) : EReal) := by
  have h : iblk m c 8 t (ix2 a d) = V m c main_v18 (ix2 ⟨128 * (t.val % 33 - 1) + a.1, by omega⟩ d) := by
    blk_ext [iblk, idx t]
  rw [h, sin_at]; rfl

include hD

theorem sk_blk (r : Fin 1024) : iblk m c 9 t (ix3 0 r 0) = (((bk D t).SK r : ℝ) : EReal) := by
  have h : iblk m c 9 t (ix3 0 r 0) = V m c main_v22 (ix3 (hh t) r 0) := by
    unfold hh
    blk_ext [iblk, idx t]
  rw [h, sink_at]
  exact hD.s (hh t) (hd r)

end blocks

end Cert.KernelIdeal.Value

end
-- ==== Proof.KStep.lean ====
/- What the kernel computes at a grid point, where the arguments are real numbers: the gradients of the point's block. -/
module

public import proofs.«01_k».proof.Proof.KIn

@[expose] public section

set_option maxRecDepth 16384

noncomputable section

open Idealize.ShloMosaic Idealize.ShloMosaic.TcCoe Idealize.SL.Sem
open Idealize.ShloMosaic.WordCmp

namespace Cert.KernelIdeal.Value

open Cert.KernelIdeal Cert.KernelIdeal.Gen Cert.Attn

/-! ## The point's operands -/

section operands

variable (m : (ℓ : Loc nD τ sig) → Buf (Elt Ideal) ℓ) (c : Dev nD) (t : Fin cfg0.N)

abbrev p2 : FVec Ideal S1024x64 .f32 := k0_pay8 (iblk m c 0 t)
abbrev p4 : FVec Ideal S128x64 .f32 := k0_pay9 (iblk m c 1 t)
abbrev p6 : FVec Ideal S128x64 .f32 := k0_pay10 (iblk m c 2 t)
abbrev p8 : FVec Ideal S128x64 .f32 := k0_pay11 (iblk m c 3 t)
abbrev p10 : FVec Ideal S128x64 .f32 := k0_pay12 (iblk m c 4 t)
abbrev p12 : FVec Ideal S128x64 .f32 := k0_pay13 (iblk m c 5 t)
abbrev p14 : FVec Ideal S128x64 .f32 := k0_pay14 (iblk m c 6 t)
abbrev p16 : FVec Ideal S128x64 .f32 := k0_pay15 (iblk m c 7 t)
abbrev p18 : FVec Ideal S128x64 .f32 := k0_pay16 (iblk m c 8 t)
abbrev p20 : FVec Ideal S1024x1 .f32 := k0_pay17 (iblk m c 9 t)

/-- The point's block number, as a word. -/
abbrev num : BitVec 32 := BitVec.ofNat 32 (grid0.coords t 1).val

/-- The scores. -/
abbrev p56 : FVec Ideal S1024x256 .f32 := k0_pay27 (p2 m c t) (p4 m c t) (p6 m c t) (p12 m c t) (p14 m c t) (p16 m c t) (p18 m c t)
  iota0 iota1 k0_pay18 k0_pay19 k0_pay20

abbrev p36 : FVec Ideal S1024x64 .f32 := k0_pay22 (p12 m c t)
abbrev p37 : FVec Ideal S1024x64 .f32 := k0_pay23 (p14 m c t)
abbrev p41 : FVec Ideal S1024x64 .f32 := k0_pay24 (p2 m c t) (p12 m c t) (p14 m c t) iota0 iota1 k0_pay18 k0_pay19 k0_pay20
abbrev p50 : FVec Ideal S256x64 .f32 := k0_pay25 (p4 m c t) (p6 m c t) (p12 m c t) (p14 m c t) (p16 m c t) (p18 m c t)
  iota0 iota1 k0_pay18 k0_pay19 k0_pay20
abbrev p100 : FVec Ideal S1024x256 .f32 := k0_pay34 (num t) (p20 m c t) (p56 m c t) (Scalar.muli (num t) 128#32) k0_pay28 k0_pay29 k0_pay30
abbrev p102 : FVec Ideal S1024x256 .f32 := k0_pay35 (num t) (p20 m c t) (p56 m c t) (Scalar.muli (num t) 128#32) k0_pay28 k0_pay29 k0_pay30
abbrev p106 : FVec Ideal S1024x1 .f32 := k0_pay36 (num t) (p20 m c t) (p56 m c t) (Scalar.muli (num t) 128#32) k0_pay28 k0_pay29 k0_pay30
abbrev p107 : FVec Ideal S1024x1 .f32 := k0_pay37 (num t) (p20 m c t) (p56 m c t) (Scalar.muli (num t) 128#32) k0_pay28 k0_pay29 k0_pay30
abbrev p109 : FVec Ideal S1024x256 .f32 := k0_pay38 (num t) (p20 m c t) (p56 m c t) (Scalar.muli (num t) 128#32) k0_pay28 k0_pay29 k0_pay30
abbrev p112 : FVec Ideal S1024x1 .f32 := k0_pay39 (num t) (p20 m c t) (p56 m c t) (Scalar.muli (num t) 128#32) k0_pay28 k0_pay29 k0_pay30
abbrev p115 : FVec Ideal S1024x64 .f32 := k0_pay40 (iblk m c 10 t)
abbrev p116 : FVec Ideal S1024x64 .bf16 := k0_pay41 (iblk m c 10 t)
abbrev p117 : FVec Ideal S256x64 .bf16 := k0_pay42 (k0_pay26 (p8 m c t) (p10 m c t))
abbrev p92 : IVec S1024x256 1 := kmask (grid0.coords t 1).val
abbrev pR : FVec Ideal S64x64 .f32 := k0_pay21 iota0 iota1 k0_pay18 k0_pay19 k0_pay20

/-- What the point writes into each of its six windows. -/
abbrev wq := k0_pay1 (k0_pay53 pR (p36 m c t) (p37 m c t) (p50 m c t) (p92 t) (p100 m c t) (p102 m c t) (p107 m c t) (p112 m c t)
  (p116 m c t) (p117 m c t) czero)
abbrev wkp := k0_pay2 (k0_pay52 (p16 m c t) (p18 m c t) pR (p41 m c t) (p92 t) (p100 m c t) (p102 m c t) (p107 m c t) (p112 m c t)
  (p116 m c t) (p117 m c t) czero)
abbrev wkc := k0_pay3 (k0_pay51 (p12 m c t) (p14 m c t) pR (p41 m c t) (p92 t) (p100 m c t) (p102 m c t) (p107 m c t) (p112 m c t)
  (p116 m c t) (p117 m c t) czero)
abbrev wvp := k0_pay4 (k0_pay49 (p109 m c t) (p115 m c t))
abbrev wvc := k0_pay5 (k0_pay50 (p109 m c t) (p115 m c t))
abbrev ws := k0_pay46 (p102 m c t) (p106 m c t) (p112 m c t) (p116 m c t) (p117 m c t) czero

end operands

/-! ## Their values -/

section values

variable {m : (ℓ : Loc nD τ sig) → Buf (Elt Ideal) ℓ} {c : Dev nD} {D : Data} (hD : Holds m c D) (t : Fin cfg0.N)
include hD

theorem p2_val (r : Fin 1024) (d : Fin 64) : p2 m c t (ix2 r d) = (((bk D t).Q r d : ℝ) : EReal) := by
  have h := q_blk hD t (hd r) (posn r) d
  rw [row_hd] at h
  rw [← h]
  unfold hd posn
  pointwise [k0_pay8]

theorem p115_val (r : Fin 1024) (d : Fin 64) : p115 m c t (ix2 r d) = (((bk D t).DO r d : ℝ) : EReal) := by
  have h := do_blk hD t (hd r) (posn r) d
  rw [row_hd] at h
  rw [← h]
  unfold hd posn
  pointwise [k0_pay40]

theorem p116_val (r : Fin 1024) (d : Fin 64) : p116 m c t (ix2 r d) = (((bk D t).DO r d : ℝ) : EReal) := by
  have h := do_blk hD t (hd r) (posn r) d
  rw [row_hd] at h
  rw [← h]
  unfold hd posn
  pointwise [k0_pay41, k0_pay40]

theorem p4_val (a : Fin 128) (d : Fin 64) : p4 m c t (ix2 a d) = (((bk D t).KP a d : ℝ) : EReal) := by
  rw [← kp_blk hD t a d]; pointwise [k0_pay9]
theorem p6_val (a : Fin 128) (d : Fin 64) : p6 m c t (ix2 a d) = (((bk D t).KC a d : ℝ) : EReal) := by
  rw [← kc_blk hD t a d]; pointwise [k0_pay10]
theorem p8_val (a : Fin 128) (d : Fin 64) : p8 m c t (ix2 a d) = (((bk D t).VP a d : ℝ) : EReal) := by
  rw [← vp_blk hD t a d]; pointwise [k0_pay11]
theorem p10_val (a : Fin 128) (d : Fin 64) : p10 m c t (ix2 a d) = (((bk D t).VC a d : ℝ) : EReal) := by
  rw [← vc_blk hD t a d]; pointwise [k0_pay12]
theorem p20_val (r : Fin 1024) : p20 m c t (ix2 r 0) = (((bk D t).SK r : ℝ) : EReal) := by
  rw [← sk_blk hD t r]; pointwise [k0_pay17]
omit hD in
theorem p12_val (a : Fin 128) (d : Fin 64) : p12 m c t (ix2 a d) = (((bk D t).CQ a d : ℝ) : EReal) := by
  rw [← cq_blk (m := m) (c := c) t a d]; pointwise [k0_pay13]
omit hD in
theorem p14_val (a : Fin 128) (d : Fin 64) : p14 m c t (ix2 a d) = (((bk D t).SQ a d : ℝ) : EReal) := by
  rw [← sq_blk (m := m) (c := c) t a d]; pointwise [k0_pay14]
omit hD in
theorem p16_val (a : Fin 128) (d : Fin 64) : p16 m c t (ix2 a d) = (((bk D t).CP a d : ℝ) : EReal) := by
  rw [← cp_blk (m := m) (c := c) t a d]; pointwise [k0_pay15]
omit hD in
theorem p18_val (a : Fin 128) (d : Fin 64) : p18 m c t (ix2 a d) = (((bk D t).SP a d : ℝ) : EReal) := by
  rw [← sp_blk (m := m) (c := c) t a d]; pointwise [k0_pay16]

omit hD in
theorem p92_val (r : Fin 1024) (j : Fin 256) : p92 t (ix2 r j) = 1#1 ↔ (bk D t).M r j := by
  rw [mask_val _ (by rw [coord1]; omega)]
  unfold seen
  rw [coord1]
  exact Iff.rfl

theorem p56_val (r : Fin 1024) (j : Fin 256) : p56 m c t (ix2 r j) = (((bk D t).sc r j : ℝ) : EReal) :=
  sc_val (bk D t) (p2_val hD t) (p4_val hD t) (p6_val hD t) (p12_val t) (p14_val t) (p16_val t) (p18_val t) r j
theorem p41_val (r : Fin 1024) (d : Fin 64) : p41 m c t (ix2 r d) = (((bk D t).qr r d : ℝ) : EReal) :=
  qr_val (bk D t) (p2_val hD t) (p12_val t) (p14_val t) r d
theorem p50_val (j : Fin 256) (d : Fin 64) : p50 m c t (ix2 j d) = (((bk D t).kr j d : ℝ) : EReal) :=
  kr_val (bk D t) (p4_val hD t) (p6_val hD t) (p12_val t) (p14_val t) (p16_val t) (p18_val t) j d
theorem p117_val (j : Fin 256) (d : Fin 64) : p117 m c t (ix2 j d) = (((bk D t).vb j d : ℝ) : EReal) :=
  vb_val (bk D t) (p8_val hD t) (p10_val hD t) j d
omit hD in
theorem p36_val (r : Fin 1024) (d : Fin 64) : p36 m c t (ix2 r d) = (((bk D t).CQ (posn r) d : ℝ) : EReal) :=
  (rep22 _ r d).trans (p12_val t _ d)
omit hD in
theorem p37_val (r : Fin 1024) (d : Fin 64) : p37 m c t (ix2 r d) = (((bk D t).SQ (posn r) d : ℝ) : EReal) :=
  (rep23 _ r d).trans (p14_val t _ d)

theorem wq_val (g : Fin 8) (a : Fin 128) (d : Fin 64) : wq m c t (ix4 0 g a d) = (((bk D t).dq (row g a) d : ℝ) : EReal) := by
  obtain ⟨μ, hμ⟩ := max_val (bk D t) (i := (grid0.coords t 1).val) (p20_val hD t) (p56_val hD t)
  exact dq_val (bk D t) (p92_val t) (e_val (bk D t) (p56_val hD t) (p92_val t) hμ) (ex_val (bk D t) (p56_val hD t) (p92_val t) hμ)
    (tot_val (bk D t) (p20_val hD t) (p56_val hD t) (p92_val t) hμ) (inv_val (bk D t) (p20_val hD t) (p56_val hD t) (p92_val t) hμ)
    (p116_val hD t) (p117_val hD t) (p36_val t) (p37_val t) (p50_val hD t) g a d

theorem wkp_val (a : Fin 128) (d : Fin 64) : wkp m c t (ix3 0 a d) = (((bk D t).dkp a d : ℝ) : EReal) := by
  obtain ⟨μ, hμ⟩ := max_val (bk D t) (i := (grid0.coords t 1).val) (p20_val hD t) (p56_val hD t)
  exact dkp_val (bk D t) (p92_val t) (e_val (bk D t) (p56_val hD t) (p92_val t) hμ) (ex_val (bk D t) (p56_val hD t) (p92_val t) hμ)
    (tot_val (bk D t) (p20_val hD t) (p56_val hD t) (p92_val t) hμ) (inv_val (bk D t) (p20_val hD t) (p56_val hD t) (p92_val t) hμ)
    (p116_val hD t) (p117_val hD t) (p41_val hD t) (p16_val t) (p18_val t) a d

theorem wkc_val (a : Fin 128) (d : Fin 64) : wkc m c t (ix3 0 a d) = (((bk D t).dkc a d : ℝ) : EReal) := by
  obtain ⟨μ, hμ⟩ := max_val (bk D t) (i := (grid0.coords t 1).val) (p20_val hD t) (p56_val hD t)
  exact dkc_val (bk D t) (p92_val t) (e_val (bk D t) (p56_val hD t) (p92_val t) hμ) (ex_val (bk D t) (p56_val hD t) (p92_val t) hμ)
    (tot_val (bk D t) (p20_val hD t) (p56_val hD t) (p92_val t) hμ) (inv_val (bk D t) (p20_val hD t) (p56_val hD t) (p92_val t) hμ)
    (p116_val hD t) (p117_val hD t) (p41_val hD t) (p12_val t) (p14_val t) a d

theorem wvp_val (a : Fin 128) (d : Fin 64) : wvp m c t (ix3 0 a d) = (((bk D t).dvb ⟨a.1, by omega⟩ d : ℝ) : EReal) := by
  obtain ⟨μ, hμ⟩ := max_val (bk D t) (i := (grid0.coords t 1).val) (p20_val hD t) (p56_val hD t)
  exact dvp_val (bk D t) (pr_val (bk D t) (p20_val hD t) (p56_val hD t) (p92_val t) hμ) (p115_val hD t) a d

theorem wvc_val (a : Fin 128) (d : Fin 64) : wvc m c t (ix3 0 a d) = (((bk D t).dvb ⟨a.1 + 128, by omega⟩ d : ℝ) : EReal) := by
  obtain ⟨μ, hμ⟩ := max_val (bk D t) (i := (grid0.coords t 1).val) (p20_val hD t) (p56_val hD t)
  exact dvc_val (bk D t) (pr_val (bk D t) (p20_val hD t) (p56_val hD t) (p92_val t) hμ) (p115_val hD t) a d

theorem ws_val (r : Fin 1024) : ws m c t (ix2 r 0) = (((bk D t).dsk r : ℝ) : EReal) := by
  obtain ⟨μ, hμ⟩ := max_val (bk D t) (i := (grid0.coords t 1).val) (p20_val hD t) (p56_val hD t)
  exact dsk_val (bk D t) (ex_val (bk D t) (p56_val hD t) (p92_val t) hμ) (es_val (bk D t) (p20_val hD t) hμ)
    (inv_val (bk D t) (p20_val hD t) (p56_val hD t) (p92_val t) hμ) (p116_val hD t) (p117_val hD t) r

end values

end Cert.KernelIdeal.Value

end
-- ==== Proof.KOut.lean ====
/- The kernel's six output arrays after the run, where the arguments are real numbers: each entry is its block's gradient. -/
module

public import proofs.«01_k».proof.Proof.KStep

@[expose] public section

set_option maxRecDepth 16384

noncomputable section

open Idealize.ShloMosaic Idealize.ShloMosaic.TcCoe Idealize.SL.Sem
open Idealize.ShloMosaic.WordCmp

namespace Cert.KernelIdeal.Value

open Cert.KernelIdeal Cert.KernelIdeal.Gen Cert.Attn

/-! ## The arrays -/

section arrays

variable (D : Data)

def aq : FVec Ideal S4x8x4224x64 .f32 := fun x =>
  (((D.blkK (x 0) ((x 2).1 / 128)).dq (row (x 1) ⟨(x 2).1 % 128, Nat.mod_lt _ (by decide)⟩) (x 3) : ℝ) : EReal)
def akp : FVec Ideal S4x4224x64 .f32 := fun x =>
  (((D.blkK (x 0) ((x 1).1 / 128)).dkp ⟨(x 1).1 % 128, Nat.mod_lt _ (by decide)⟩ (x 2) : ℝ) : EReal)
def akc : FVec Ideal S4x4224x64 .f32 := fun x =>
  (((D.blkK (x 0) ((x 1).1 / 128)).dkc ⟨(x 1).1 % 128, Nat.mod_lt _ (by decide)⟩ (x 2) : ℝ) : EReal)
def avp : FVec Ideal S4x4224x64 .f32 := fun x =>
  (((D.blkK (x 0) ((x 1).1 / 128)).dvb ⟨(x 1).1 % 128, by omega⟩ (x 2) : ℝ) : EReal)
def avc : FVec Ideal S4x4224x64 .f32 := fun x =>
  (((D.blkK (x 0) ((x 1).1 / 128)).dvb ⟨(x 1).1 % 128 + 128, by omega⟩ (x 2) : ℝ) : EReal)
def asink : FVec Ideal S4x1024x1 .f32 := fun x => ((∑ i : Fin 33, (D.blkK (x 0) i.1).dsk (x 1) : ℝ) : EReal)

theorem div_block (i a : ℕ) (h : a < 128) : (128 * i + a) / 128 = i := by omega
theorem mod_block (i a : ℕ) (h : a < 128) : (128 * i + a) % 128 = a := by omega

theorem aq_at (h : Fin 4) (g : Fin 8) (i : ℕ) (a : Fin 128) (hi : 128 * i + a.1 < 4224) (d : Fin 64) :
    aq D (ix4 h g ⟨128 * i + a.1, hi⟩ d) = (((D.blkK h i).dq (row g a) d : ℝ) : EReal) := by
  show (((D.blkK h ((128 * i + a.1) / 128)).dq (row g ⟨(128 * i + a.1) % 128, _⟩) d : ℝ) : EReal) = _
  simp only [div_block _ _ a.2, mod_block _ _ a.2]
theorem akp_at (h : Fin 4) (i : ℕ) (a : Fin 128) (hi : 128 * i + a.1 < 4224) (d : Fin 64) :
    akp D (ix3 h ⟨128 * i + a.1, hi⟩ d) = (((D.blkK h i).dkp a d : ℝ) : EReal) := by
  show (((D.blkK h ((128 * i + a.1) / 128)).dkp ⟨(128 * i + a.1) % 128, _⟩ d : ℝ) : EReal) = _
  simp only [div_block _ _ a.2, mod_block _ _ a.2]
theorem akc_at (h : Fin 4) (i : ℕ) (a : Fin 128) (hi : 128 * i + a.1 < 4224) (d : Fin 64) :
    akc D (ix3 h ⟨128 * i + a.1, hi⟩ d) = (((D.blkK h i).dkc a d : ℝ) : EReal) := by
  show (((D.blkK h ((128 * i + a.1) / 128)).dkc ⟨(128 * i + a.1) % 128, _⟩ d : ℝ) : EReal) = _
  simp only [div_block _ _ a.2, mod_block _ _ a.2]
theorem avp_at (h : Fin 4) (i : ℕ) (a : Fin 128) (hi : 128 * i + a.1 < 4224) (d : Fin 64) :
    avp D (ix3 h ⟨128 * i + a.1, hi⟩ d) = (((D.blkK h i).dvb ⟨a.1, by omega⟩ d : ℝ) : EReal) := by
  show (((D.blkK h ((128 * i + a.1) / 128)).dvb ⟨(128 * i + a.1) % 128, _⟩ d : ℝ) : EReal) = _
  simp only [div_block _ _ a.2, mod_block _ _ a.2]
theorem avc_at (h : Fin 4) (i : ℕ) (a : Fin 128) (hi : 128 * i + a.1 < 4224) (d : Fin 64) :
    avc D (ix3 h ⟨128 * i + a.1, hi⟩ d) = (((D.blkK h i).dvb ⟨a.1 + 128, by omega⟩ d : ℝ) : EReal) := by
  show (((D.blkK h ((128 * i + a.1) / 128)).dvb ⟨(128 * i + a.1) % 128 + 128, _⟩ d : ℝ) : EReal) = _
  simp only [div_block _ _ a.2, mod_block _ _ a.2]

end arrays

/-! ## The run leaves them -/

variable {m : (ℓ : Loc nD τ sig) → Buf (Elt Ideal) ℓ} {c : Dev nD} {D : Data} (hD : Holds m c D)
include hD

theorem q_out : (dats m 0 c).arrAt 11 cfg0.N = aq D := by
  refine (dats m 0 c).arrAt_eq_of_covers 11 _ (by decide +kernel) fun t hf y => ?_
  blk_simp
  rw [after0_11]
  have key : ∀ y : S1x8x128x64.Idx, wq m c t y = aq D (((View.whole main_v24_0).slice (win0_11.rect t)).emb y) := by
    intro y
    idx_vars y
    obtain rfl : y0 = 0 := Subsingleton.elim _ _
    have e : aq D (((View.whole main_v24_0).slice (win0_11.rect t)).emb (ix4 0 y1 y2 y3))
        = aq D (ix4 (hh t) y1 ⟨128 * (t.val % 33) + y2.1, by omega⟩ y3) := by
      unfold hh
      blk_ext [idxO t]
    rw [e, aq_at, wq_val hD]
  by_cases h : t.val % 33 = 0
  · rw [outsAt0_A m c t h]
    frame_out
    exact key y
  · rw [outsAt0_B m c t h]
    frame_out
    exact key y

theorem kp_out : (dats m 0 c).arrAt 12 cfg0.N = akp D := by
  refine (dats m 0 c).arrAt_eq_of_covers 12 _ (by decide +kernel) fun t hf y => ?_
  blk_simp
  rw [after0_12]
  have key : ∀ y : S1x128x64.Idx, wkp m c t y = akp D (((View.whole main_v24_1).slice (win0_12.rect t)).emb y) := by
    intro y
    idx_vars y
    obtain rfl : y0 = 0 := Subsingleton.elim _ _
    have e : akp D (((View.whole main_v24_1).slice (win0_12.rect t)).emb (ix3 0 y1 y2))
        = akp D (ix3 (hh t) ⟨128 * (t.val % 33) + y1.1, by omega⟩ y2) := by
      unfold hh
      blk_ext [idxO t]
    rw [e, akp_at, wkp_val hD]
  by_cases h : t.val % 33 = 0
  · rw [outsAt0_A m c t h]
    frame_out
    exact key y
  · rw [outsAt0_B m c t h]
    frame_out
    exact key y

theorem kc_out : (dats m 0 c).arrAt 13 cfg0.N = akc D := by
  refine (dats m 0 c).arrAt_eq_of_covers 13 _ (by decide +kernel) fun t hf y => ?_
  blk_simp
  rw [after0_13]
  have key : ∀ y : S1x128x64.Idx, wkc m c t y = akc D (((View.whole main_v24_2).slice (win0_13.rect t)).emb y) := by
    intro y
    idx_vars y
    obtain rfl : y0 = 0 := Subsingleton.elim _ _
    have e : akc D (((View.whole main_v24_2).slice (win0_13.rect t)).emb (ix3 0 y1 y2))
        = akc D (ix3 (hh t) ⟨128 * (t.val % 33) + y1.1, by omega⟩ y2) := by
      unfold hh
      blk_ext [idxO t]
    rw [e, akc_at, wkc_val hD]
  by_cases h : t.val % 33 = 0
  · rw [outsAt0_A m c t h]
    frame_out
    exact key y
  · rw [outsAt0_B m c t h]
    frame_out
    exact key y

theorem vp_out : (dats m 0 c).arrAt 14 cfg0.N = avp D := by
  refine (dats m 0 c).arrAt_eq_of_covers 14 _ (by decide +kernel) fun t hf y => ?_
  blk_simp
  rw [after0_14]
  have key : ∀ y : S1x128x64.Idx, wvp m c t y = avp D (((View.whole main_v24_3).slice (win0_14.rect t)).emb y) := by
    intro y
    idx_vars y
    obtain rfl : y0 = 0 := Subsingleton.elim _ _
    have e : avp D (((View.whole main_v24_3).slice (win0_14.rect t)).emb (ix3 0 y1 y2))
        = avp D (ix3 (hh t) ⟨128 * (t.val % 33) + y1.1, by omega⟩ y2) := by
      unfold hh
      blk_ext [idxO t]
    rw [e, avp_at, wvp_val hD]
  by_cases h : t.val % 33 = 0
  · rw [outsAt0_A m c t h]
    frame_out
    exact key y
  · rw [outsAt0_B m c t h]
    frame_out
    exact key y

theorem vc_out : (dats m 0 c).arrAt 15 cfg0.N = avc D := by
  refine (dats m 0 c).arrAt_eq_of_covers 15 _ (by decide +kernel) fun t hf y => ?_
  blk_simp
  rw [after0_15]
  have key : ∀ y : S1x128x64.Idx, wvc m c t y = avc D (((View.whole main_v24_4).slice (win0_15.rect t)).emb y) := by
    intro y
    idx_vars y
    obtain rfl : y0 = 0 := Subsingleton.elim _ _
    have e : avc D (((View.whole main_v24_4).slice (win0_15.rect t)).emb (ix3 0 y1 y2))
        = avc D (ix3 (hh t) ⟨128 * (t.val % 33) + y1.1, by omega⟩ y2) := by
      unfold hh
      blk_ext [idxO t]
    rw [e, avc_at, wvc_val hD]
  by_cases h : t.val % 33 = 0
  · rw [outsAt0_A m c t h]
    frame_out
    exact key y
  · rw [outsAt0_B m c t h]
    frame_out
    exact key y

omit hD in
theorem pay7_at (w : FVec Ideal S1024x1 .f32) (p : FVec Ideal S1x1024x1 .f32) (j : S1x1024x1.Idx) :
    k0_pay7 w p j = p j + w (ix2 (j 1) 0) := by
  idx_vars j
  obtain rfl : j0 = 0 := Subsingleton.elim _ _
  obtain rfl : j2 = 0 := Subsingleton.elim _ _
  pointwise [k0_pay7]

omit hD in
theorem pay6_at (j : S1x1024x1.Idx) : k0_pay6 (F := Ideal) j = (0 : EReal) := by
  pointwise [k0_pay6]

theorem s_out : (dats m 0 c).arrAt 16 cfg0.N = asink D := by
  refine (dats m 0 c).arrAt_eq_of_covers 16 _ (by decide +kernel) fun t hf y => ?_
  blk_simp
  rw [after0_16, Pipeline.eq_sum_fin_of_reset_step_apply_of_flush (fun n h => (outsAt0 m c n h).2.2.2.2.2) 33 (fun _ => 0)
    (fun t j => ws m c t (ix2 (j 1) 0))
    (fun t h j => by rw [outsAt0_A m c t h]; frame_out; rw [pay7_at, pay6_at])
    (fun t h j => by rw [outsAt0_B m c t h]; frame_out; rw [pay7_at]) t ((flush0_16 t).mp hf) _, zero_add]
  have ht : t.val % 33 = 32 := (flush0_16 t).mp hf
  have key : ∀ y : S1x1024x1.Idx, (∑ s : Fin 33, ws m c ⟨33 * (t.val / 33) + s.1, Pipeline.run_point_lt_of_flush t ((flush0_16 t).mp hf) s⟩ (ix2 (y 1) 0) : EReal)
      = asink D (((View.whole main_v24_5).slice (win0_16.rect t)).emb y) := by
    intro y
    idx_vars y
    obtain rfl : y0 = 0 := Subsingleton.elim _ _
    obtain rfl : y2 = 0 := Subsingleton.elim _ _
    have e : asink D (((View.whole main_v24_5).slice (win0_16.rect t)).emb (ix3 0 y1 0)) = asink D (ix3 (hh t) y1 0) := by
      unfold hh
      blk_ext [idxO t]
    rw [e]
    show _ = ((∑ i : Fin 33, (D.blkK (hh t) i.1).dsk y1 : ℝ) : EReal)
    rw [← coe_sum]
    refine Finset.sum_congr rfl fun s _ => ?_
    refine (ws_val hD _ y1).trans ?_
    have h1 : hh ⟨33 * (t.val / 33) + s.1, Pipeline.run_point_lt_of_flush t ((flush0_16 t).mp hf) s⟩ = hh t :=
      Fin.ext (by show (33 * (t.val / 33) + s.1) / 33 = t.val / 33; omega)
    have h2 : (33 * (t.val / 33) + s.1) % 33 = s.1 := by omega
    unfold bk
    rw [h1]
    simp only [h2]
  exact key y

end Cert.KernelIdeal.Value

end
-- ==== Proof.KTail.lean ====
/- The kernel's four results, after the host's sums of the two halves, where the arguments are real numbers. -/
module

public import proofs.«01_k».proof.Proof.KOut

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn

/-- An array moved up by one block, zeros after it. -/
abbrev up (x : FVec Ideal S4x4224x64 .f32) : FVec Ideal S4x4224x64 .f32 :=
  concatenate S4x4224x64 1 [⟨S4x4096x64, extractStridedSlice S4x4096x64 ![0, 128, 0] x slices_S4x4224x64_S4x4096x64_0_128_0⟩,
    ⟨S4x128x64, broadcastInDim S4x128x64 ![] bcast_S_S4x128x64 (constant S_ .f32 0x00000000#32)⟩]
    concatenates_S4x4096x64_S4x128x64_S4x4224x64_d1

/-- The sinks' gradients summed over a head's positions. -/
abbrev heads (x : FVec Ideal S4x1024x1 .f32) : FVec Ideal S1x32 .f32 :=
  shapeCast _ (Host.reduceAdd (shapeCast S4x8x128 x shapeCasts_S4x1024x1_S4x8x128) (constant S_ .f32 0x00000000#32)
    reducesTo_S4x8x128_S4x8_d2 h_S_) shapeCasts_S4x8_S1x32

variable (W : Valuation τ sig (Elt Ideal))

theorem tail_k : StableHlo.after (List.flatten [hostOps1]) W (Proc.devRef .tc main_v29)
    = addf (W (Proc.devRef .tc main_v24_2) : FVec Ideal S4x4224x64 .f32) (up (W (Proc.devRef .tc main_v24_1))) := by
  simp only [hostOps1, List.flatten_cons, List.flatten_nil, List.append_nil, List.cons_append, List.nil_append]
  after_results

theorem tail_v : StableHlo.after (List.flatten [hostOps1]) W (Proc.devRef .tc main_v34)
    = addf (W (Proc.devRef .tc main_v24_4) : FVec Ideal S4x4224x64 .f32) (up (W (Proc.devRef .tc main_v24_3))) := by
  simp only [hostOps1, List.flatten_cons, List.flatten_nil, List.append_nil, List.cons_append, List.nil_append]
  after_results

theorem tail_s : StableHlo.after (List.flatten [hostOps1]) W (Proc.devRef .tc main_v37)
    = heads (W (Proc.devRef .tc main_v24_5)) := by
  simp only [hostOps1, List.flatten_cons, List.flatten_nil, List.append_nil, List.cons_append, List.nil_append]
  after_results
  rfl

theorem up_at (x : FVec Ideal S4x4224x64 .f32) (h : Fin 4) (t : Fin 4224) (d : Fin 64) :
    up x (ix3 h t d) = if ht : t.1 < 4096 then x (ix3 h ⟨128 + t.1, by omega⟩ d) else ((0 : ℝ) : EReal) := by
  unfold up
  pointwise
  rfl

variable (D : Data)

theorem k_sum (h : Fin 4) (t : Fin 4224) (d : Fin 64) :
    addf (akc D) (up (akp D)) (ix3 h t d) = ((D.gk h t.1 d : ℝ) : EReal) := by
  show akc D (ix3 h t d) + up (akp D) (ix3 h t d) = _
  rw [up_at, ← D.gk_eq h t.1 d, EReal.coe_add]
  congr 1
  by_cases ht : t.1 < 4096
  · rw [dif_pos ht, if_pos ht]
    show (((D.blkK h ((128 + t.1) / 128)).dkp ⟨(128 + t.1) % 128, _⟩ d : ℝ) : EReal) = _
    have h1 : (128 + t.1) / 128 = t.1 / 128 + 1 := by omega
    have h2 : (128 + t.1) % 128 = t.1 % 128 := by omega
    simp only [h1, h2]
  · rw [dif_neg ht, if_neg ht]

theorem v_sum (h : Fin 4) (t : Fin 4224) (d : Fin 64) :
    addf (avc D) (up (avp D)) (ix3 h t d) = ((D.gv h t.1 d : ℝ) : EReal) := by
  show avc D (ix3 h t d) + up (avp D) (ix3 h t d) = _
  rw [up_at, ← D.gv_eq h t.1 d, EReal.coe_add]
  congr 1
  by_cases ht : t.1 < 4096
  · rw [dif_pos ht, if_pos ht]
    show (((D.blkK h ((128 + t.1) / 128)).dvb ⟨(128 + t.1) % 128, _⟩ d : ℝ) : EReal) = _
    have h1 : (128 + t.1) / 128 = t.1 / 128 + 1 := by omega
    have h2 : (128 + t.1) % 128 = t.1 % 128 := by omega
    simp only [h1, h2]
  · rw [dif_neg ht, if_neg ht]

theorem s_sum (h : Fin 4) (g : Fin 8) : heads (asink D) (ix2 0 ⟨h.1 * 8 + g.1, by omega⟩) = ((D.gs h g : ℝ) : EReal) := by
  unfold heads
  pointwise
  exact (coe_sum fun a : Fin 128 => ∑ i : Fin 33, (D.blkK h i.1).dsk (row g a)).trans (congrArg (fun x : ℝ => (x : EReal)) (D.gs_eq h g))

/-! ## The run's results -/

variable {D} {m : (ℓ : Loc nD τ sig) → Buf (Elt Ideal) ℓ} {c : Dev nD} (hD : Holds m c D)

/-- The contents of the arrays when the host's last operations begin. -/
abbrev mid (m : (ℓ : Loc nD τ sig) → Buf (Elt Ideal) ℓ) (c : Dev nD) : Valuation τ sig (Elt Ideal) :=
  Pipeline.withArrays cfg0.spec c (V0 m c) fun w => (dats m 0 c).arrAt w cfg0.N

theorem mid_at (w : Fin cfg0.W) : mid m c (Proc.devRef .tc (Pipeline.arrRef cfg0.spec w)) = (dats m 0 c).arrAt w cfg0.N :=
  (dats m 0 c).withArrays_arrAt sharedIn0 _ (fun w => A_eq m c w) w

/-- The four gradients as arrays. -/
def outQ (D : Data) : FVec Ideal S4x8x4224x64 .f32 := fun x => ((D.gq (x 0) (x 1) (x 2).1 (x 3) : ℝ) : EReal)
def outK (D : Data) : FVec Ideal S4x4224x64 .f32 := fun x => ((D.gk (x 0) (x 1).1 (x 2) : ℝ) : EReal)
def outV (D : Data) : FVec Ideal S4x4224x64 .f32 := fun x => ((D.gv (x 0) (x 1).1 (x 2) : ℝ) : EReal)
def outS (D : Data) : FVec Ideal S1x32 .f32 := fun x =>
  ((D.gs ⟨(x 1).1 / 8, Nat.div_lt_of_lt_mul (x 1).2⟩ ⟨(x 1).1 % 8, Nat.mod_lt _ (by decide)⟩ : ℝ) : EReal)

/-- An array of sinks is known by its heads. -/
theorem sinks_ext (x : FVec Ideal S1x32 .f32)
    (hx : ∀ (h : Fin 4) (g : Fin 8), x (ix2 0 ⟨h.1 * 8 + g.1, by omega⟩) = ((D.gs h g : ℝ) : EReal)) : x = outS D := by
  funext j
  have h1 : (j 1).1 < 32 := (j 1).2
  have e : j = ix2 0 ⟨(⟨(j 1).1 / 8, by omega⟩ : Fin 4).1 * 8 + (⟨(j 1).1 % 8, by omega⟩ : Fin 8).1, by dsimp only; omega⟩ := by
    funext b
    match b with
    | ⟨0, _⟩ => exact Subsingleton.elim (α := Fin 1) _ _
    | ⟨1, _⟩ => exact Fin.ext (by show (j 1).1 = (j 1).1 / 8 * 8 + (j 1).1 % 8; omega)
  exact (congrArg x e).trans (hx ⟨(j 1).1 / 8, by omega⟩ ⟨(j 1).1 % 8, by omega⟩)

include hD

theorem q_res : (dats m 0 c).arrAt 11 cfg0.N = outQ D := by
  rw [q_out hD]
  funext x
  exact congrArg (fun x : ℝ => (x : EReal)) (D.gq_eq (x 0) (x 1) (x 2).1 (x 3))

theorem k_res : Pipeline.afterTail₀ cfgs (dats m) 0 (V0 m) [hostOps1] c main_v29 = outK D := by
  refine (tail_k (mid m c)).trans ?_
  have e1 : mid m c (Proc.devRef .tc main_v24_1) = akp D := (mid_at (m := m) (c := c) 12).trans (kp_out hD)
  have e2 : mid m c (Proc.devRef .tc main_v24_2) = akc D := (mid_at (m := m) (c := c) 13).trans (kc_out hD)
  rw [e1, e2]
  funext x
  idx_vars x
  exact k_sum D _ _ _

theorem v_res : Pipeline.afterTail₀ cfgs (dats m) 0 (V0 m) [hostOps1] c main_v34 = outV D := by
  refine (tail_v (mid m c)).trans ?_
  have e1 : mid m c (Proc.devRef .tc main_v24_3) = avp D := (mid_at (m := m) (c := c) 14).trans (vp_out hD)
  have e2 : mid m c (Proc.devRef .tc main_v24_4) = avc D := (mid_at (m := m) (c := c) 15).trans (vc_out hD)
  rw [e1, e2]
  funext x
  idx_vars x
  exact v_sum D _ _ _

theorem s_res : Pipeline.afterTail₀ cfgs (dats m) 0 (V0 m) [hostOps1] c main_v37 = outS D := by
  refine (tail_s (mid m c)).trans ?_
  have e1 : mid m c (Proc.devRef .tc main_v24_5) = asink D := (mid_at (m := m) (c := c) 16).trans (s_out hD)
  rw [e1]
  exact sinks_ext _ fun h g => s_sum D h g

omit hD in
/-- The run leaves the four gradients, and the arguments as they were. -/
theorem run (ρ : Dev nD → PrngReg) (D : Dev nD → Data) (hD : ∀ c : Dev nD, Holds m c (D c)) :
    θ_run defs (onTc (τ := τ) (main (F := Ideal))) ⟨m, fun _ => 0, ρ⟩ (fun r => ∀ c : Dev nD,
      r.2.mem ((c.tc : Thread nD τ).loc main_v24_0) = outQ (D c)
      ∧ r.2.mem ((c.tc : Thread nD τ).loc main_v29) = outK (D c)
      ∧ r.2.mem ((c.tc : Thread nD τ).loc main_v34) = outV (D c)
      ∧ r.2.mem ((c.tc : Thread nD τ).loc main_v37) = outS (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.2 c).1 11).trans (q_res (hD c)),
      ((h.2 c).2 main_v29 (Pipeline.mem_restRefs_of main_v29 (by decide) (by decide))).trans (k_res (hD c)),
      ((h.2 c).2 main_v34 (Pipeline.mem_restRefs_of main_v34 (by decide) (by decide))).trans (v_res (hD c)),
      ((h.2 c).2 main_v37 (Pipeline.mem_restRefs_of main_v37 (by decide) (by decide))).trans (s_res (hD c)),
      h.1 c⟩)
    (θ_run_and (unchanged m ρ) (run_main m ρ))

end Cert.KernelIdeal.Value

end
-- ==== Proof.RIn.lean ====
/- What the reference's operands hold where its arguments are real numbers: turned queries and keys, values, the gradient of the result and the mask, by block. -/
module

public import proofs.«01_k».proof.Proof.Words
public import Idealize.ShloMosaic.Lib.Tactic.CleanTypes
public import proofs.«01_k».proof.Proof.Gen.ReferenceIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem Idealize.ShloMosaic.StableHlo
open Idealize.ShloMosaic.WordCmp

namespace Cert.ReferenceIdeal.Value

open Cert.ReferenceIdeal Cert.ReferenceIdeal.Gen Cert.Attn

variable (V0 : Valuation τ sig (Elt Ideal)) (D : Data)

/-- The arguments hold the real numbers of `D`. -/
structure Holds : Prop where
  q : ∀ h g (t : Fin 4224) d, V0 (Proc.devRef .tc main_arg0) (ix4 h g t d) = ((D.q h g t.1 d : ℝ) : EReal)
  k : ∀ h (t : Fin 4224) d, V0 (Proc.devRef .tc main_arg1) (ix3 h t d) = ((D.k h t.1 d : ℝ) : EReal)
  v : ∀ h (t : Fin 4224) d, V0 (Proc.devRef .tc main_arg2) (ix3 h t d) = ((D.v h t.1 d : ℝ) : EReal)
  s : ∀ (h : Fin 4) (g : Fin 8), V0 (Proc.devRef .tc main_arg3) (ix2 0 ⟨h.1 * 8 + g.1, by omega⟩) = ((D.s h g : ℝ) : EReal)
  dO : ∀ h g (t : Fin 4112) d, V0 (Proc.devRef .tc main_arg4) (ix4 h g t d) = ((D.dO h g t.1 d : ℝ) : EReal)

theorem eighth_word : Ideal.ofBits .f32 1040187392#32 = ((1 / 8 : ℝ) : EReal) := by
  simp [Ideal.ofBits, Ideal.ieee, -EReal.coe_mul, -EReal.coe_neg]; norm_num

theorem ang_val (t : Fin 4112) (d : Fin 64) : res_main_v27 V0 (ix2 t d) = ((((t.1 : ℕ) : ℝ) * freq d : ℝ) : EReal) := by
  unfold res_main_v27 res_main_v26
  clean_types
  pointwise
  rw [nat_val t.1 (by omega)]
  split
  · rw [freq_val d.1 d (by omega), ← EReal.coe_mul]
  · rw [freq_val (d.1 - 32) d (by omega), ← EReal.coe_mul]

theorem cos_val (t : Fin 4112) (d : Fin 64) : res_main_v28 V0 (ix2 t d) = ((cs t.1 d : ℝ) : EReal) := by
  unfold res_main_v28
  clean_types
  pointwise
  rw [ang_val]; rfl

theorem sin_val (t : Fin 4112) (d : Fin 64) : res_main_v29 V0 (ix2 t d) = ((sn t.1 d : ℝ) : EReal) := by
  unfold res_main_v29
  clean_types
  pointwise
  rw [ang_val]; rfl

/-- One coordinate of a turned row. -/
theorem rope_coe (x c s : Fin 64 → ℝ) (d : Fin 64) :
    ((x d : ℝ) : EReal) * ((c d : ℝ) : EReal) + (if h : d.1 < 32 then -((x ⟨32 + d.1, by omega⟩ : ℝ) : EReal)
      else ((x ⟨d.1 - 32, by omega⟩ : ℝ) : EReal)) * ((s d : ℝ) : EReal) = ((rope x c s d : ℝ) : EReal) := by
  unfold rope turn
  split
  · rw [← EReal.coe_neg, ← EReal.coe_mul, ← EReal.coe_mul, ← EReal.coe_add]
    simp only [Nat.add_comm]
  · rw [← EReal.coe_mul, ← EReal.coe_mul, ← EReal.coe_add]

theorem CQ_at (h : Fin 4) (i : ℕ) (a : Fin 128) : (D.blkR h i).CQ a = cs (i * 128 + a.1) := by
  rw [Nat.mul_comm]; rfl
theorem SQ_at (h : Fin 4) (i : ℕ) (a : Fin 128) : (D.blkR h i).SQ a = sn (i * 128 + a.1) := by
  rw [Nat.mul_comm]; rfl
theorem Q_at (h : Fin 4) (i : ℕ) (g : Fin 8) (a : Fin 128) : (D.blkR h i).Q (row g a)
    = if i * 128 + a.1 < 4112 then D.q h g (i * 128 + a.1) else fun _ => 0 := by
  funext d
  show (if 128 * i + (posn (row g a)).1 < 4112 then D.q h (hd (row g a)) (128 * i + (posn (row g a)).1) d else 0) = _
  rw [posn_row, hd_row, Nat.mul_comm]
  split <;> rfl
theorem DO_at (h : Fin 4) (i : ℕ) (g : Fin 8) (a : Fin 128) : (D.blkR h i).DO (row g a) = D.dO h g (i * 128 + a.1) := by
  funext d
  show D.dO h (hd (row g a)) (128 * i + (posn (row g a)).1) d = _
  rw [posn_row, hd_row, Nat.mul_comm]
theorem KC_at (h : Fin 4) (i : ℕ) (a : Fin 128) : (D.blkR h i).KC a
    = if i * 128 + a.1 < 4112 then D.k h (i * 128 + a.1) else fun _ => 0 := by
  funext d
  show (if 128 * i + a.1 < 4112 then D.k h (128 * i + a.1) d else 0) = _
  rw [Nat.mul_comm]
  split <;> rfl
theorem VC_at (h : Fin 4) (i : ℕ) (a : Fin 128) (d : Fin 64) : (D.blkR h i).VC a d
    = if i * 128 + a.1 < 4112 then D.v h (i * 128 + a.1) d else 0 := by
  show (if 128 * i + a.1 < 4112 then D.v h (128 * i + a.1) d else 0) = _
  rw [Nat.mul_comm]
theorem P_pos (i a : ℕ) (hi : ¬ i * 128 + a < 128) (ha : a < 128) : 128 * (i - 1) + a = i * 128 + a - 128 := by omega
theorem KP_at (h : Fin 4) (i : ℕ) (a : Fin 128) : (D.blkR h i).KP a
    = if i * 128 + a.1 < 128 then (fun _ => 0) else D.k h (i * 128 + a.1 - 128) := by
  funext d
  show (if i = 0 then 0 else D.k h (128 * (i - 1) + a.1) d) = _
  by_cases hi : i = 0
  · rw [if_pos hi, if_pos (by omega)]
  · rw [if_neg hi, if_neg (by omega), P_pos i a.1 (by omega) a.2]
theorem VP_at (h : Fin 4) (i : ℕ) (a : Fin 128) (d : Fin 64) : (D.blkR h i).VP a d
    = if i * 128 + a.1 < 128 then 0 else D.v h (i * 128 + a.1 - 128) d := by
  show (if i = 0 then 0 else D.v h (128 * (i - 1) + a.1) d) = _
  by_cases hi : i = 0
  · rw [if_pos hi, if_pos (by omega)]
  · rw [if_neg hi, if_neg (by omega), P_pos i a.1 (by omega) a.2]
theorem CP_at (h : Fin 4) (i : ℕ) (a : Fin 128) (hi : ¬ i * 128 + a.1 < 128) : (D.blkR h i).CP a = cs (i * 128 + a.1 - 128) := by
  rw [← P_pos i a.1 hi a.2]; rfl
theorem SP_at (h : Fin 4) (i : ℕ) (a : Fin 128) (hi : ¬ i * 128 + a.1 < 128) : (D.blkR h i).SP a = sn (i * 128 + a.1 - 128) := by
  rw [← P_pos i a.1 hi a.2]; rfl

/-- The turned keys of the block before. -/
theorem kr_before (i : ℕ) (h : Fin 4) (j : Fin 256) (d : Fin 64) (hj : j.1 < 128) : (D.blkR h i).kr j d
    = rope (if i * 128 + j.1 < 128 then fun _ => 0 else D.k h (i * 128 + j.1 - 128))
        (cs (i * 128 + j.1 - 128)) (sn (i * 128 + j.1 - 128)) d := by
  unfold Blk.kr
  rw [dif_pos hj, KP_at]
  by_cases h1 : i * 128 + j.1 < 128
  · rw [if_pos h1, rope_zero, rope_zero]
  · rw [if_neg h1, CP_at _ _ _ _ h1, SP_at _ _ _ _ h1]

/-- The turned keys of the block itself. -/
theorem kr_own (i : ℕ) (h : Fin 4) (j : Fin 256) (d : Fin 64) (hj : ¬ j.1 < 128) : (D.blkR h i).kr j d
    = rope (if i * 128 + (j.1 - 128) < 4112 then D.k h (i * 128 + (j.1 - 128)) else fun _ => 0)
        (cs (i * 128 + (j.1 - 128))) (sn (i * 128 + (j.1 - 128))) d := by
  unfold Blk.kr
  rw [dif_neg hj, KC_at, CQ_at, SQ_at]

/-- One coordinate of a turned key, as the reference spells it: by the key's place in the block, and by whether its
    position lies in the sequence. -/
theorem kr_form (i : Fin 33) (j : Fin 256) (h : Fin 4) (d : Fin 64) :
    (if _ : j.1 < 128 then
      if _ : i.1 * 128 + j.1 < 128 then ((0 : ℝ) : EReal)
      else
        if _ : i.1 * 128 + j.1 - 128 < 4112 then
          ((D.k h (i.1 * 128 + j.1 - 128) d : ℝ) : EReal) * ((cs (i.1 * 128 + j.1 - 128) d : ℝ) : EReal) +
            (if h_3 : d.1 < 32 then -((D.k h (i.1 * 128 + j.1 - 128) ⟨32 + d.1, by omega⟩ : ℝ) : EReal)
              else ((D.k h (i.1 * 128 + j.1 - 128) ⟨d.1 - 32, by omega⟩ : ℝ) : EReal)) *
              ((sn (i.1 * 128 + j.1 - 128) d : ℝ) : EReal)
        else ((0 : ℝ) : EReal)
    else
      if _ : i.1 * 128 + (j.1 - 128) < 4112 then
        ((D.k h (i.1 * 128 + (j.1 - 128)) d : ℝ) : EReal) * ((cs (i.1 * 128 + (j.1 - 128)) d : ℝ) : EReal) +
          (if h_3 : d.1 < 32 then -((D.k h (i.1 * 128 + (j.1 - 128)) ⟨32 + d.1, by omega⟩ : ℝ) : EReal)
            else ((D.k h (i.1 * 128 + (j.1 - 128)) ⟨d.1 - 32, by omega⟩ : ℝ) : EReal)) *
            ((sn (i.1 * 128 + (j.1 - 128)) d : ℝ) : EReal)
      else ((0 : ℝ) : EReal)) =
    (((D.blkR h i.1).kr j d : ℝ) : EReal) := by
  split
  · rename_i hj
    refine Eq.trans ?_ (congrArg (fun x : ℝ => (x : EReal)) (kr_before D i.1 h j d hj).symm)
    split
    · rename_i h1
      rw [rope_zero]
    · rename_i h1
      rw [dif_pos (by omega)]
      exact rope_coe (D.k h (i.1 * 128 + j.1 - 128)) _ _ d
  · rename_i hj
    refine Eq.trans ?_ (congrArg (fun x : ℝ => (x : EReal)) (kr_own D i.1 h j d hj).symm)
    split
    · rename_i h1
      exact rope_coe (D.k h (i.1 * 128 + (j.1 - 128))) _ _ d
    · rename_i h1
      rw [rope_zero]

variable {V0 D} (hD : Holds V0 D)
include hD

theorem q_val (t : Fin 4112) (h : Fin 4) (g : Fin 8) (d : Fin 64) : res_main_v4 V0 (ix5 0 t h g d) = ((D.q h g t.1 d : ℝ) : EReal) := by
  unfold res_main_v4
  clean_types
  pointwise
  exact hD.q h g ⟨t.1, by omega⟩ d

theorem k_val (t : Fin 4112) (h : Fin 4) (d : Fin 64) : res_main_v7 V0 (ix4 0 t h d) = ((D.k h t.1 d : ℝ) : EReal) := by
  unfold res_main_v7
  clean_types
  pointwise
  exact hD.k h ⟨t.1, by omega⟩ d

theorem qr_val (i : Fin 33) (a : Fin 128) (h : Fin 4) (g : Fin 8) (d : Fin 64) :
    res_main_v61 V0 (ix6 0 i a h g d) = (((D.blkR h i.1).qr (row g a) d : ℝ) : EReal) := by
  unfold res_main_v61 res_main_v30 res_main_v31
  clean_types
  pointwise
  simp only [q_val hD, cos_val, sin_val]
  unfold Blk.qr
  rw [posn_row, CQ_at, SQ_at, Q_at]
  split
  · exact rope_coe (D.q h g (i.1 * 128 + a.1)) _ _ d
  · rw [rope_zero]; rfl

theorem kr_val (i : Fin 33) (j : Fin 256) (h : Fin 4) (d : Fin 64) :
    res_main_v69 V0 (ix5 0 i j h d) = (((D.blkR h i.1).kr j d : ℝ) : EReal) := by
  unfold res_main_v69 res_main_v63 res_main_v41 res_main_v42
  clean_types
  pointwise
  simp only [k_val hD, cos_val, sin_val]
  exact kr_form D i j h d

theorem vb_val (i : Fin 33) (j : Fin 256) (h : Fin 4) (d : Fin 64) :
    res_main_v77 V0 (ix5 0 i j h d) = (((D.blkR h i.1).vb j d : ℝ) : EReal) := by
  unfold res_main_v77 res_main_v71
  clean_types
  pointwise
  simp only [hD.v]
  unfold Blk.vb
  by_cases hj : j.1 < 128
  · rw [dif_pos hj, dif_pos hj, VP_at]
    by_cases h1 : i.1 * 128 + j.1 < 128
    · rw [dif_pos h1, if_pos h1]; rfl
    · rw [dif_neg h1, if_neg h1, dif_pos (by omega)]
  · rw [dif_neg hj, dif_neg hj, VC_at]
    dsimp only
    split <;> rfl

theorem do_val (i : Fin 33) (a : Fin 128) (h : Fin 4) (g : Fin 8) (d : Fin 64) :
    res_main_v138 V0 (ix6 0 i h d g a) = (((D.blkR h i.1).DO (row g a) d : ℝ) : EReal) := by
  unfold res_main_v138
  clean_types
  pointwise
  simp only [hD.dO]
  rw [DO_at]
  split
  · rfl
  · rename_i hn
    rw [D.dO_off _ _ _ _ (by omega)]; rfl

omit hD in
theorem pos_words : ∀ (i : Fin 33) (a : Fin 128),
    (IntOp.addi (IntOp.muli (BitVec.ofNat 32 i.1) 128#32) (BitVec.ofNat 32 a.1)).toInt = 128 * (i.1 : ℤ) + a.1 := by decide +kernel

omit hD in
theorem key_words : ∀ (i : Fin 33) (j : Fin 256),
    (IntOp.addi (IntOp.subi (IntOp.muli (BitVec.ofNat 32 i.1) 128#32) 128#32) (BitVec.ofNat 32 j.1)).toInt
      = 128 * (i.1 : ℤ) + j.1 - 128 := by decide +kernel

omit hD in
/-- The reference's mask. -/
theorem mask_val (i : Fin 33) (h : Fin 4) (g : Fin 8) (a : Fin 128) (j : Fin 256) :
    res_main_v112 V0 (ix6 0 i h g a j) = 1#1 ↔ (D.blkR h i.1).M (row g a) j := by
  unfold res_main_v112 res_main_v97 res_main_v90 res_main_v85
  clean_types
  pointwise
  show _ ↔ ((g.1 * 128 + a.1) % 128 < j.1 ∧ j.1 ≤ (g.1 * 128 + a.1) % 128 + 128 ∧ 128 ≤ 128 * i.1 + j.1)
  rw [show (g.1 * 128 + a.1) % 128 = a.1 from by omega]
  have hk := key_words i j
  have hq := pos_words i a
  generalize IntOp.addi (IntOp.subi (IntOp.muli (BitVec.ofNat 32 i.1) 128#32) 128#32) (BitVec.ofNat 32 j.1) = kw at *
  generalize IntOp.addi (IntOp.muli (BitVec.ofNat 32 i.1) 128#32) (BitVec.ofNat 32 a.1) = qw at *
  have hs : (IntOp.subi qw kw).toInt = qw.toInt - kw.toInt := by
    show (qw - kw).toInt = _
    rw [BitVec.toInt_sub]
    have := j.2
    apply Int.bmod_eq_of_le <;> omega
  rw [cmpi_sle_eq, cmpi_slt_eq, cmpi_sge_eq, hs, hk, hq, andi_ofBool, andi_ofBool, ofBool_eq_one_iff]
  simp only [Bool.and_eq_true, decide_eq_true_eq]
  rw [show (128#32 : BitVec 32).toInt = 128 from by decide, show (0#32 : BitVec 32).toInt = 0 from by decide]
  omega

end Cert.ReferenceIdeal.Value

end
-- ==== Proof.RRed.lean ====
/- The reference's sums and maxima over axes of its arrays of six axes, as sums and maxima over the axes' numbers. -/
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen

/-- The entries that are taken together into one row of 257. -/
theorem fiber_row (hr : S1x33x4x8x128x257.ReducesTo [5] S1x33x4x8x128) (i : Fin 33) (h : Fin 4) (g : Fin 8) (a : Fin 128)
    (x : S1x33x4x8x128x257.Idx) : hr.drop x = ix5 0 i h g a ↔ ∃ k : Fin 257, (ix6 0 i h g a k : S1x33x4x8x128x257.Idx) = x := by
  constructor
  · intro e
    refine ⟨x 5, ?_⟩
    funext b
    apply Fin.ext
    match b with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem row_inj (i : Fin 33) (h : Fin 4) (g : Fin 8) (a : Fin 128) :
    Function.Injective fun k : Fin 257 => (ix6 0 i h g a k : S1x33x4x8x128x257.Idx) := fun _ _ e => congrFun e 5

/-- The sum of a row. -/
theorem sum_row (v : S1x33x4x8x128x257.Idx → EReal) (z : EReal) (i : Fin 33) (h : Fin 4) (g : Fin 8) (a : Fin 128) :
    Ideal.hostReduceAdd reducesTo_S1x33x4x8x128x257_S1x33x4x8x128_d5 v z (ix5 0 i h g a)
      = z + ∑ k : Fin 257, v (ix6 0 i h g a k) := by
  unfold Ideal.hostReduceAdd
  rw [Finset.sum_filter_eq_sum_of_fiber _ _ (row_inj i h g a) (fiber_row _ i h g a)]

/-- The maximum of a row. -/
theorem max_row (v : S1x33x4x8x128x257.Idx → EReal) (z : EReal) (i : Fin 33) (h : Fin 4) (g : Fin 8) (a : Fin 128) :
    (Finset.univ.filter fun x => reducesTo_S1x33x4x8x128x257_S1x33x4x8x128_d5.drop x = ix5 0 i h g a).fold max z v
      = (Finset.univ : Finset (Fin 257)).fold max z fun k => v (ix6 0 i h g a k) :=
  Finset.fold_filter_eq_fold_of_fiber max _ _ (row_inj i h g a) (fiber_row _ i h g a) z v

theorem fiber_one (hr : S1x33x4x8x128x1.ReducesTo [0, 5] S33x4x8x128) (i : Fin 33) (h : Fin 4) (g : Fin 8) (a : Fin 128)
    (x : S1x33x4x8x128x1.Idx) : hr.drop x = ix4 i h g a ↔ ∃ k : Fin 1, (ix6 0 i h g a k : S1x33x4x8x128x1.Idx) = x := by
  constructor
  · intro e
    refine ⟨x 5, ?_⟩
    funext b
    apply Fin.ext
    match b with
    | ⟨0, _⟩ => exact (Nat.lt_one_iff.mp (x 0).2).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl

/-- The sum over axes of one number. -/
theorem sum_one (v : S1x33x4x8x128x1.Idx → EReal) (z : EReal) (i : Fin 33) (h : Fin 4) (g : Fin 8) (a : Fin 128) :
    Ideal.hostReduceAdd reducesTo_S1x33x4x8x128x1_S33x4x8x128_d0_5 v z (ix4 i h g a) = z + v (ix6 0 i h g a 0) := by
  unfold Ideal.hostReduceAdd
  rw [Finset.sum_filter_eq_sum_of_fiber _ (fun k : Fin 1 => (ix6 0 i h g a k : S1x33x4x8x128x1.Idx))
    (fun _ _ e => congrFun e 5) (fiber_one _ i h g a), Finset.univ_unique, Finset.sum_singleton]
  rfl

theorem fiber_head (hr : S1x33x4x8x128x1.ReducesTo [0, 1, 4, 5] S4x8) (h : Fin 4) (g : Fin 8)
    (x : S1x33x4x8x128x1.Idx) : hr.drop x = ix2 h g
      ↔ ∃ k : Fin 33 × Fin 128, (ix6 0 k.1 h g k.2 0 : S1x33x4x8x128x1.Idx) = x := by
  constructor
  · intro e
    refine ⟨(x 1, x 4), ?_⟩
    funext b
    apply Fin.ext
    match b with
    | ⟨0, _⟩ => exact (Nat.lt_one_iff.mp (x 0).2).symm
    | ⟨1, _⟩ => rfl
    | ⟨2, _⟩ => exact (congrArg Fin.val (congrFun e ⟨0, by decide⟩)).symm
    | ⟨3, _⟩ => exact (congrArg Fin.val (congrFun e ⟨1, by decide⟩)).symm
    | ⟨4, _⟩ => rfl
    | ⟨5, _⟩ => exact (Nat.lt_one_iff.mp (x 5).2).symm
  · rintro ⟨k, rfl⟩
    funext b
    apply Fin.ext
    match b with
    | ⟨0, _⟩ => rfl
    | ⟨1, _⟩ => rfl

/-- The sum over blocks and positions. -/
theorem sum_head (v : S1x33x4x8x128x1.Idx → EReal) (z : EReal) (h : Fin 4) (g : Fin 8) :
    Ideal.hostReduceAdd reducesTo_S1x33x4x8x128x1_S4x8_d0_1_4_5 v z (ix2 h g)
      = z + ∑ i : Fin 33, ∑ a : Fin 128, v (ix6 0 i h g a 0) := by
  unfold Ideal.hostReduceAdd
  rw [Finset.sum_filter_eq_sum_of_fiber _ (fun k : Fin 33 × Fin 128 => (ix6 0 k.1 h g k.2 0 : S1x33x4x8x128x1.Idx))
    (fun _ _ e => Prod.ext (congrFun e 1) (congrFun e 4)) (fiber_head _ h g), Fintype.sum_prod_type]

end Cert.ReferenceIdeal.Value

end
-- ==== Proof.RVal.lean ====
/- The reference's softmax and its gradients where the arguments are real numbers: block by block, the quantities of
   `Cert.Attn.Blk`. -/
module

public import proofs.«01_k».proof.Proof.RIn
public import proofs.«01_k».proof.Proof.RRed

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Attn

theorem select_on {α : Type} {c : BitVec 1} (h : c = 1#1) (x y : α) : Scalar.select c x y = x := if_pos h

theorem select_off {α : Type} {c : BitVec 1} (h : ¬ c = 1#1) (x y : α) : Scalar.select c x y = y := if_neg h

theorem bot_word : Ideal.ofBits .f32 4286578688#32 = ⊥ := by
  simp [Ideal.ofBits, Ideal.ieee]

/-- A key of the block among the row's keys and its sink, and the sink's place. -/
abbrev key (j : Fin 256) : Fin 257 := ⟨j.1, by omega⟩
abbrev snk : Fin 257 := ⟨256, by omega⟩

/-- A row's sum: its keys' and the sink's. -/
theorem sum_keys (f : Fin 257 → EReal) : ∑ k, f k = (∑ j : Fin 256, f (key j)) + f snk := Fin.sum_univ_castSucc f

/-- The sums over head and position are those over the block's rows. -/
theorem sum_rows (f : Fin 1024 → ℝ) : ∑ g : Fin 8, ∑ a : Fin 128, f (row g a) = ∑ r, f r := by
  rw [← Fintype.sum_prod_type' (f := fun (g : Fin 8) (a : Fin 128) => f (row g a))]
  exact Fintype.sum_bijective (fun x : Fin 8 × Fin 128 => row x.1 x.2)
    ⟨fun x y e => by
      have h1 := congrArg hd e
      have h2 := congrArg posn e
      simp only [hd_row, posn_row] at h1 h2
      exact Prod.ext h1 h2, fun r => ⟨(hd r, posn r), row_hd r⟩⟩ _ _ fun _ => rfl

variable {V0 : Valuation τ sig (Elt Ideal)} {D : Data} (hD : Holds V0 D)
include hD

/-- The scores of seen keys. -/
theorem z_on (i : Fin 33) (h : Fin 4) (g : Fin 8) (a : Fin 128) (j : Fin 256) (hM : (D.blkR h i.1).M (row g a) j) :
    res_main_v118 V0 (ix6 0 i h g a (key j)) = (((D.blkR h i.1).sc (row g a) j : ℝ) : EReal) := by
  have hj : (key j).1 < 256 := j.2
  unfold res_main_v118
  clean_types
  pointwise
  rw [select_on ((mask_val i h g a j).mpr hM)]
  simp only [kr_val hD, qr_val hD, ← EReal.coe_mul]
  rw [coe_sum, eighth_word, ← EReal.coe_mul]
  unfold Blk.sc
  simp only [mul_comm]

/-- The scores of the others. -/
theorem z_off (i : Fin 33) (h : Fin 4) (g : Fin 8) (a : Fin 128) (j : Fin 256) (hM : ¬ (D.blkR h i.1).M (row g a) j) :
    res_main_v118 V0 (ix6 0 i h g a (key j)) = (⊥ : EReal) := by
  have hj : (key j).1 < 256 := j.2
  unfold res_main_v118
  clean_types
  pointwise
  rw [select_off fun h' => hM ((mask_val i h g a j).mp h'), bot_word]

/-- The sink. -/
theorem z_sink (i : Fin 33) (h : Fin 4) (g : Fin 8) (a : Fin 128) :
    res_main_v118 V0 (ix6 0 i h g a snk) = (((D.blkR h i.1).SK (row g a) : ℝ) : EReal) := by
  unfold res_main_v118
  clean_types
  pointwise
  rw [hD.s]
  show _ = ((D.s h (hd (row g a)) : ℝ) : EReal)
  rw [hd_row]

/-- The greatest of a row is a real number. -/
theorem max_val : ∃ μ : Fin 33 → Fin 4 → Fin 8 → Fin 128 → ℝ, ∀ i h g a,
    (Finset.univ : Finset (Fin 257)).fold (max : EReal → EReal → EReal) ⊥ (fun k => res_main_v118 V0 (ix6 0 i h g a k))
      = ((μ i h g a : ℝ) : EReal) := by
  have : ∀ i h g a, ∃ μ : ℝ,
      (Finset.univ : Finset (Fin 257)).fold (max : EReal → EReal → EReal) ⊥ (fun k => res_main_v118 V0 (ix6 0 i h g a k))
        = ((μ : ℝ) : EReal) := by
    intro i h g a
    refine fold_max_real _ (fun k => ?_) snk ?_
    · by_cases hk : k.1 < 256
      · by_cases hM : (D.blkR h i.1).M (row g a) ⟨k.1, hk⟩
        · have := z_on hD i h g a ⟨k.1, hk⟩ hM
          rw [show k = key ⟨k.1, hk⟩ from rfl, this]; exact EReal.coe_ne_top _
        · have := z_off hD i h g a ⟨k.1, hk⟩ hM
          rw [show k = key ⟨k.1, hk⟩ from rfl, this]; exact bot_ne_top
      · rw [show k = snk from Fin.ext (by show k.1 = 256; omega), z_sink hD]; exact EReal.coe_ne_top _
    · rw [z_sink hD]; exact EReal.coe_ne_bot _
  choose μ hμ using this
  exact ⟨μ, hμ⟩

variable {μ : Fin 33 → Fin 4 → Fin 8 → Fin 128 → ℝ} (hμ : ∀ i h g a,
    (Finset.univ : Finset (Fin 257)).fold (max : EReal → EReal → EReal) ⊥ (fun k => res_main_v118 V0 (ix6 0 i h g a k))
      = ((μ i h g a : ℝ) : EReal))
include hμ

omit hD in
theorem e_form (i : Fin 33) (h : Fin 4) (g : Fin 8) (a : Fin 128) (k : Fin 257) :
    res_main_v123 V0 (ix6 0 i h g a k) = Ideal.exp (@HSub.hSub EReal EReal EReal _ (res_main_v118 V0 (ix6 0 i h g a k)) ((μ i h g a : ℝ) : EReal)) := by
  unfold res_main_v123
  clean_types
  pointwise
  rw [bot_word, max_row, hμ]

/-- The exponentials. -/
theorem e_val (i : Fin 33) (h : Fin 4) (g : Fin 8) (a : Fin 128) (j : Fin 256) :
    res_main_v123 V0 (ix6 0 i h g a (key j))
      = ((ex ((D.blkR h i.1).M (row g a)) (fun j => (D.blkR h i.1).sc (row g a) j - μ i h g a) j : ℝ) : EReal) := by
  rw [e_form hμ]
  unfold ex
  by_cases hM : (D.blkR h i.1).M (row g a) j
  · rw [z_on hD i h g a j hM, if_pos hM, ← EReal.coe_sub, coe_exp]
  · rw [z_off hD i h g a j hM, if_neg hM, EReal.bot_sub]; rfl

theorem e_sink (i : Fin 33) (h : Fin 4) (g : Fin 8) (a : Fin 128) :
    res_main_v123 V0 (ix6 0 i h g a snk) = ((Real.exp ((D.blkR h i.1).SK (row g a) - μ i h g a) : ℝ) : EReal) := by
  rw [e_form hμ, z_sink hD, ← EReal.coe_sub, coe_exp]

/-- A row's total, with the greatest score taken off. -/
abbrev total (D : Data) (μ : Fin 33 → Fin 4 → Fin 8 → Fin 128 → ℝ) (i : Fin 33) (h : Fin 4) (g : Fin 8) (a : Fin 128) : ℝ :=
  tot ((D.blkR h i.1).M (row g a)) (fun j => (D.blkR h i.1).sc (row g a) j - μ i h g a) ((D.blkR h i.1).SK (row g a) - μ i h g a)

theorem tot_val (i : Fin 33) (h : Fin 4) (g : Fin 8) (a : Fin 128) :
    res_main_v125 V0 (ix6 0 i h g a 0) = ((total D μ i h g a : ℝ) : EReal) := by
  unfold res_main_v125
  clean_types
  pointwise
  rw [sum_row, sum_keys, e_sink hD hμ]
  simp only [e_val hD hμ]
  rw [coe_sum, ← EReal.coe_add]
  exact zero_add _

/-- The weights. -/
theorem pr_val (i : Fin 33) (h : Fin 4) (g : Fin 8) (a : Fin 128) (j : Fin 256) :
    res_main_v131 V0 (ix6 0 i h g a j) = (((D.blkR h i.1).pr (row g a) j : ℝ) : EReal) := by
  unfold res_main_v131
  clean_types
  pointwise
  rw [tot_val hD hμ, e_val hD hμ, coe_div _ _ (tot_pos _ _ _).ne']
  unfold Blk.pr
  rw [← prob_shift _ _ _ (μ i h g a)]
  rfl

/-- The gradients of the values. -/
theorem dvb_val (i : Fin 33) (j : Fin 256) (h : Fin 4) (d : Fin 64) :
    res_main_v141 V0 (ix5 0 i j h d) = (((D.blkR h i.1).dvb j d : ℝ) : EReal) := by
  unfold res_main_v141
  clean_types
  pointwise
  simp only [do_val hD, pr_val hD hμ, ← EReal.coe_mul, coe_sum]
  unfold Blk.dvb
  rw [← sum_rows]
  simp only [mul_comm]

omit hμ in
/-- The gradients of the weights. -/
theorem dp_val (i : Fin 33) (h : Fin 4) (g : Fin 8) (a : Fin 128) (j : Fin 256) :
    res_main_v142 V0 (ix6 0 i h g a (key j)) = (((D.blkR h i.1).dp (row g a) j : ℝ) : EReal) := by
  have hj : (key j).1 < 256 := j.2
  unfold res_main_v142
  clean_types
  pointwise
  simp only [do_val hD, vb_val hD, ← EReal.coe_mul, coe_sum]
  rfl

omit hμ hD in
theorem dp_sink (i : Fin 33) (h : Fin 4) (g : Fin 8) (a : Fin 128) :
    res_main_v142 V0 (ix6 0 i h g a snk) = ((0 : ℝ) : EReal) := by
  unfold res_main_v142
  clean_types
  pointwise
  rfl

omit hμ hD in
theorem one_word : Ideal.ofBits .f32 1065353216#32 = ((1 : ℝ) : EReal) := by
  simp [Ideal.ofBits, Ideal.ieee, -EReal.coe_mul, -EReal.coe_neg]; norm_num

/-- The mean of a row's gradients. -/
abbrev mean (D : Data) (μ : Fin 33 → Fin 4 → Fin 8 → Fin 128 → ℝ) (i : Fin 33) (h : Fin 4) (g : Fin 8) (a : Fin 128) : ℝ :=
  -(∑ j, (D.blkR h i.1).dp (row g a) j * (1 / (total D μ i h g a * total D μ i h g a))
      * ex ((D.blkR h i.1).M (row g a)) (fun j => (D.blkR h i.1).sc (row g a) j - μ i h g a) j)

theorem dz_form (i : Fin 33) (h : Fin 4) (g : Fin 8) (a : Fin 128) (k : Fin 257) :
    res_main_v155 V0 (ix6 0 i h g a k)
      = (Ideal.div (res_main_v142 V0 (ix6 0 i h g a k)) ((total D μ i h g a : ℝ) : EReal) + ((mean D μ i h g a : ℝ) : EReal))
        * res_main_v123 V0 (ix6 0 i h g a k) := by
  unfold res_main_v155
  clean_types
  pointwise
  rw [sum_one, tot_val hD hμ]
  pointwise
  rw [sum_row, sum_keys]
  pointwise
  simp only [tot_val hD hμ, e_val hD hμ, dp_val hD, one_word, ← EReal.coe_mul]
  rw [dp_sink, e_sink hD hμ, ← EReal.coe_one, coe_div _ _ (mul_pos (tot_pos _ _ _) (tot_pos _ _ _)).ne']
  simp only [← EReal.coe_mul]
  rw [coe_sum, ← EReal.coe_add, ← EReal.coe_neg, zero_mul, zero_mul, add_zero]

/-- The gradients of the products of query and key. -/
theorem ds_val (i : Fin 33) (h : Fin 4) (g : Fin 8) (a : Fin 128) (j : Fin 256) :
    res_main_v165 V0 (ix6 0 i h j a g) = (((D.blkR h i.1).ds (row g a) j : ℝ) : EReal) := by
  unfold res_main_v165
  clean_types
  pointwise
  by_cases hM : (D.blkR h i.1).M (row g a) j
  · rw [select_on ((mask_val i h g a j).mpr hM), dz_form hD hμ, e_val hD hμ, dp_val hD, coe_div _ _ (tot_pos _ _ _).ne',
      eighth_word, ← EReal.coe_add, ← EReal.coe_mul, ← EReal.coe_mul]
    unfold Blk.ds
    rw [← dscore_form _ _ _ (μ i h g a)]
  · rw [select_off fun h' => hM ((mask_val i h g a j).mp h'), Blk.ds_off hM]
    rfl

/-- The gradients of the rows' sinks. -/
theorem dsk_val (i : Fin 33) (h : Fin 4) (g : Fin 8) (a : Fin 128) :
    res_main_v155 V0 (ix6 0 i h g a snk) = (((D.blkR h i.1).dsk (row g a) : ℝ) : EReal) := by
  rw [dz_form hD hμ, e_sink hD hμ, dp_sink, coe_div _ _ (tot_pos _ _ _).ne', ← EReal.coe_add, ← EReal.coe_mul, zero_div, zero_add]
  unfold Blk.dsk
  rw [← dsink_form _ _ _ (μ i h g a)]

/-- The gradients of the turned keys, block by block. -/
theorem dkr_val (i : Fin 33) (j : Fin 256) (h : Fin 4) (d : Fin 64) :
    res_main_v169 V0 (ix5 0 i j h d) = (((D.blkR h i.1).dkr j d : ℝ) : EReal) := by
  unfold res_main_v169
  clean_types
  pointwise
  simp only [ds_val hD hμ, qr_val hD, ← EReal.coe_mul, coe_sum]
  unfold Blk.dkr
  rw [← sum_rows, Finset.sum_comm]

/-- The gradients of the turned queries. -/
theorem dqr_val (t : Fin 4224) (h : Fin 4) (g : Fin 8) (d : Fin 64) :
    res_main_v188 V0 (ix5 0 t h g d)
      = (((D.blkR h (t.1 / 128)).dqr (row g ⟨t.1 % 128, Nat.mod_lt _ (by decide)⟩) d : ℝ) : EReal) := by
  unfold res_main_v188
  clean_types
  pointwise
  simp only [ds_val hD hμ, kr_val hD, ← EReal.coe_mul, coe_sum]
  rfl

/-- The gradients of the turned keys: a position's own block and the block after it. -/
theorem dkt_val (t : Fin 4224) (h : Fin 4) (d : Fin 64) :
    res_main_v187 V0 (ix4 0 t h d) = ((D.gkr h t.1 d : ℝ) : EReal) := by
  unfold res_main_v187 res_main_v185
  clean_types
  pointwise
  unfold Data.gkr
  rw [dkr_val hD hμ, EReal.coe_add]
  congr 1
  · simp only [Nat.add_comm]
  · by_cases ht : t.1 < 4096
    · rw [dif_pos (by omega), if_pos ht, dkr_val hD hμ]
      have h1 : (128 + t.1) / 128 = t.1 / 128 + 1 := by omega
      have h2 : (128 + t.1) % 128 = t.1 % 128 := by omega
      simp only [h1, h2]
    · rw [dif_neg (by omega), if_neg ht]; rfl

/-- The gradients of the values: a position's own block and the block after it. -/
theorem dvt_val (t : Fin 4224) (h : Fin 4) (d : Fin 64) (ht' : t.1 < 4112) :
    res_main_v178 V0 (ix4 0 t h d) = ((D.gv h t.1 d : ℝ) : EReal) := by
  unfold res_main_v178 res_main_v176
  clean_types
  pointwise
  unfold Data.gv
  rw [dvb_val hD hμ, if_pos ht', EReal.coe_add]
  congr 1
  · simp only [Nat.add_comm]
  · by_cases ht : t.1 < 4096
    · rw [dif_pos (by omega), if_pos ht, dvb_val hD hμ]
      have h1 : (128 + t.1) / 128 = t.1 / 128 + 1 := by omega
      have h2 : (128 + t.1) % 128 = t.1 % 128 := by omega
      simp only [h1, h2]
    · rw [dif_neg (by omega), if_neg ht]; rfl

end Cert.ReferenceIdeal.Value

end
-- ==== Proof.ROutQ.lean ====
/- The reference's four results where the arguments are real numbers. -/
module

public import proofs.«01_k».proof.Proof.RVal

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Attn

/-- The gradient of the queries before its axes are put in place and it is filled up with zeros. -/
abbrev rqi (V0 : Valuation τ sig (Elt Ideal)) : FVec Ideal S1x4112x4x8x64 .f32 :=
  addf (mulf (res_main_v193 V0) (broadcastInDim S1x4112x4x8x64 ![0, 1, 2, 3, 4] bcast_S1x4112x1x1x64_S1x4112x4x8x64_0_1_2_3_4 (res_main_v30 V0))) (concatenate S1x4112x4x8x64 4 [⟨S1x4112x4x8x32, (extractStridedSlice S1x4112x4x8x32 ![0, 0, 0, 0, 32] (res_main_v205 V0) slices_S1x4112x4x8x64_S1x4112x4x8x32_0_0_0_0_32)⟩, ⟨S1x4112x4x8x32, (Host.negf (extractStridedSlice S1x4112x4x8x32 ![0, 0, 0, 0, 0] (res_main_v205 V0) slices_S1x4112x4x8x64_S1x4112x4x8x32_0_0_0_0_0))⟩] concatenates_S1x4112x4x8x32_S1x4112x4x8x32_S1x4112x4x8x64_d4)

/-- The gradient of the queries. -/
abbrev rq (V0 : Valuation τ sig (Elt Ideal)) : FVec Ideal S4x8x4224x64 .f32 :=
  pad S4x8x4224x64 ![0, 0, 0, 0] ![0, 0, 112, 0] ![0, 0, 0, 0] (transpose S4x8x4112x64 [1, 2, 0, 3] (Host.reduceAdd (rqi V0) (constant S_ .f32 0x00000000#32) reducesTo_S1x4112x4x8x64_S4112x4x8x64_d0 h_S_) transposes_S4112x4x8x64_S4x8x4112x64_1_2_0_3) (constant S_ .f32 0x00000000#32) pads_S4x8x4112x64_S4x8x4224x64_000_000_01120_000 h_S_

/-- One coordinate of a row turned back. -/
theorem unrope_coe (y c s : Fin 64 → ℝ) (d : Fin 64) :
    ((y d : ℝ) : EReal) * ((c d : ℝ) : EReal)
      + (if h : d.1 < 32 then ((y ⟨32 + d.1, by omega⟩ : ℝ) : EReal) * ((s ⟨32 + d.1, by omega⟩ : ℝ) : EReal)
        else -(((y ⟨d.1 - 32, by omega⟩ : ℝ) : EReal) * ((s ⟨d.1 - 32, by omega⟩ : ℝ) : EReal)))
      = ((unrope y c s d : ℝ) : EReal) := by
  unfold unrope turnT
  rw [EReal.coe_add, EReal.coe_mul, add_comm]
  congr 1
  split
  · simp only [Nat.add_comm, EReal.coe_mul]
  · rw [EReal.coe_neg, EReal.coe_mul]

/-- The block's gradient of the queries, by position. -/
theorem dq_blkR (D : Data) (h : Fin 4) (t : ℕ) (r : Fin 1024) (d : Fin 64) (hr : 128 * (t / 128) + (posn r).1 = t) :
    (D.blkR h (t / 128)).dq r d = unrope ((D.blkR h (t / 128)).dqr r) (cs t) (sn t) d := by
  show unrope _ (cs (128 * (t / 128) + (posn r).1)) (sn (128 * (t / 128) + (posn r).1)) d = _
  rw [hr]

variable {V0 : Valuation τ sig (Elt Ideal)} {D : Data} (hD : Holds V0 D)
include hD

variable {μ : Fin 33 → Fin 4 → Fin 8 → Fin 128 → ℝ} (hμ : ∀ i h g a,
    (Finset.univ : Finset (Fin 257)).fold (max : EReal → EReal → EReal) ⊥ (fun k => res_main_v118 V0 (ix6 0 i h g a k))
      = ((μ i h g a : ℝ) : EReal))
include hμ in
theorem dqt_val (t : Fin 4112) (h : Fin 4) (g : Fin 8) (d : Fin 64) :
    res_main_v193 V0 (ix5 0 t h g d)
      = (((D.blkR h (t.1 / 128)).dqr (row g ⟨t.1 % 128, Nat.mod_lt _ (by decide)⟩) d : ℝ) : EReal) := by
  unfold res_main_v193
  clean_types
  pointwise
  exact dqr_val hD hμ ⟨t.1, by omega⟩ h g d

include hμ in
theorem rqi_val (t : Fin 4112) (h : Fin 4) (g : Fin 8) (d : Fin 64) :
    rqi V0 (ix5 0 t h g d) = ((D.gq h g t.1 d : ℝ) : EReal) := by
  unfold rqi res_main_v205 res_main_v30 res_main_v31
  clean_types
  pointwise
  simp only [dqt_val hD hμ, cos_val, sin_val]
  unfold Data.gq
  rw [if_pos t.2]
  exact (unrope_coe _ _ _ d).trans (congrArg (fun x : ℝ => (x : EReal)) (dq_blkR D h t.1 _ d (by rw [posn_row]; exact Nat.div_add_mod t.1 128)).symm)

theorem rq_val (h : Fin 4) (g : Fin 8) (t : Fin 4224) (d : Fin 64) : rq V0 (ix4 h g t d) = ((D.gq h g t.1 d : ℝ) : EReal) := by
  obtain ⟨μ, hμ⟩ := max_val hD
  unfold rq
  have key := rqi_val hD hμ
  generalize rqi V0 = A at key ⊢
  clean_types
  pointwise
  split
  · rename_i ht
    rw [Finset.univ_unique, Finset.sum_singleton]
    exact key ⟨t.1, ht⟩ h g d
  · rename_i ht
    unfold Data.gq
    rw [if_neg ht]; rfl

end Cert.ReferenceIdeal.Value

end
-- ==== Proof.ROut.lean ====
/- The reference's other three results where the arguments are real numbers. -/
module

public import proofs.«01_k».proof.Proof.ROutQ

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Attn

/-- The results' terms, over the arguments. -/
abbrev rki (V0 : Valuation τ sig (Elt Ideal)) : FVec Ideal S1x4112x4x64 .f32 :=
  addf (mulf (res_main_v191 V0) (broadcastInDim S1x4112x4x64 ![0, 1, 2, 3] bcast_S1x4112x1x64_S1x4112x4x64_0_1_2_3 (res_main_v41 V0))) (concatenate S1x4112x4x64 3 [⟨S1x4112x4x32, (extractStridedSlice S1x4112x4x32 ![0, 0, 0, 32] (res_main_v196 V0) slices_S1x4112x4x64_S1x4112x4x32_0_0_0_32)⟩, ⟨S1x4112x4x32, (Host.negf (extractStridedSlice S1x4112x4x32 ![0, 0, 0, 0] (res_main_v196 V0) slices_S1x4112x4x64_S1x4112x4x32_0_0_0_0))⟩] concatenates_S1x4112x4x32_S1x4112x4x32_S1x4112x4x64_d3)
abbrev rk (V0 : Valuation τ sig (Elt Ideal)) : FVec Ideal S4x4224x64 .f32 :=
  pad S4x4224x64 ![0, 0, 0] ![0, 112, 0] ![0, 0, 0] (transpose S4x4112x64 [1, 0, 2] (Host.reduceAdd (rki V0) (constant S_ .f32 0x00000000#32) reducesTo_S1x4112x4x64_S4112x4x64_d0 h_S_) transposes_S4112x4x64_S4x4112x64_1_0_2) (constant S_ .f32 0x00000000#32) pads_S4x4112x64_S4x4224x64_000_01120_000 h_S_
abbrev rv (V0 : Valuation τ sig (Elt Ideal)) : FVec Ideal S4x4224x64 .f32 :=
  pad S4x4224x64 ![0, 0, 0] ![0, 112, 0] ![0, 0, 0] (transpose S4x4112x64 [1, 0, 2] (Host.reduceAdd (extractStridedSlice S1x4112x4x64 ![0, 0, 0, 0] (res_main_v178 V0) slices_S1x4224x4x64_S1x4112x4x64_0_0_0_0) (constant S_ .f32 0x00000000#32) reducesTo_S1x4112x4x64_S4112x4x64_d0 h_S_) transposes_S4112x4x64_S4x4112x64_1_0_2) (constant S_ .f32 0x00000000#32) pads_S4x4112x64_S4x4224x64_000_01120_000 h_S_
abbrev rs (V0 : Valuation τ sig (Elt Ideal)) : FVec Ideal S1x32 .f32 :=
  shapeCast _ (broadcastInDim S1x1x4x8x1x1 ![2, 3] bcast_S4x8_S1x1x4x8x1x1_2_3 (Host.reduceAdd (extractStridedSlice S1x33x4x8x128x1 ![0, 0, 0, 0, 0, 256] (res_main_v155 V0) slices_S1x33x4x8x128x257_S1x33x4x8x128x1_0_0_0_0_0_256) (constant S_ .f32 0x00000000#32) reducesTo_S1x33x4x8x128x1_S4x8_d0_1_4_5 h_S_)) shapeCasts_S1x1x4x8x1x1_S1x32

variable {V0 : Valuation τ sig (Elt Ideal)} {D : Data} (hD : Holds V0 D)
include hD

theorem rki_val (t : Fin 4112) (h : Fin 4) (d : Fin 64) : rki V0 (ix4 0 t h d) = ((D.gk h t.1 d : ℝ) : EReal) := by
  obtain ⟨μ, hμ⟩ := max_val hD
  have key : ∀ (t : Fin 4112) (h : Fin 4) (d : Fin 64), res_main_v191 V0 (ix4 0 t h d) = ((D.gkr h t.1 d : ℝ) : EReal) := by
    intro t h d
    unfold res_main_v191
    clean_types
    pointwise
    exact dkt_val hD hμ ⟨t.1, by omega⟩ h d
  unfold rki res_main_v196 res_main_v41 res_main_v42
  clean_types
  pointwise
  simp only [key, cos_val, sin_val]
  unfold Data.gk
  rw [if_pos t.2]
  exact unrope_coe (D.gkr h t.1) (cs t.1) (sn t.1) d

theorem rk_val (h : Fin 4) (t : Fin 4224) (d : Fin 64) : rk V0 (ix3 h t d) = ((D.gk h t.1 d : ℝ) : EReal) := by
  unfold rk
  have key := rki_val hD
  generalize rki V0 = A at key ⊢
  clean_types
  pointwise
  split
  · rename_i ht
    rw [Finset.univ_unique, Finset.sum_singleton]
    exact key ⟨t.1, ht⟩ h d
  · rename_i ht
    unfold Data.gk
    rw [if_neg ht]; rfl

theorem rv_val (h : Fin 4) (t : Fin 4224) (d : Fin 64) : rv V0 (ix3 h t d) = ((D.gv h t.1 d : ℝ) : EReal) := by
  obtain ⟨μ, hμ⟩ := max_val hD
  unfold rv
  have key := dvt_val hD hμ
  generalize res_main_v178 V0 = A at key ⊢
  clean_types
  pointwise
  split
  · rename_i ht
    rw [Finset.univ_unique, Finset.sum_singleton]
    exact key ⟨t.1, by omega⟩ h d ht
  · rename_i ht
    unfold Data.gv
    rw [if_neg ht]; rfl

theorem rs_val (h : Fin 4) (g : Fin 8) : rs V0 (ix2 0 ⟨h.1 * 8 + g.1, by omega⟩) = ((D.gs h g : ℝ) : EReal) := by
  obtain ⟨μ, hμ⟩ := max_val hD
  unfold rs
  clean_types
  pointwise
  rw [sum_head]
  pointwise
  have e : ∀ (i : Fin 33) (a : Fin 128), res_main_v155 V0 (ix6 0 i h g a 256) = (((D.blkR h i.1).dsk (row g a) : ℝ) : EReal) :=
    fun i a => dsk_val hD hμ i h g a
  have e2 : ∑ i : Fin 33, ∑ a : Fin 128, (((D.blkR h i.1).dsk (row g a) : ℝ) : EReal) = ((D.gs h g : ℝ) : EReal) := by
    simp only [coe_sum]
    rfl
  exact Eq.trans (Finset.sum_congr (M := EReal) rfl fun i _ => Finset.sum_congr (M := EReal) rfl fun a _ => e i a) e2

end Cert.ReferenceIdeal.Value

end
-- ==== Proof.PFin.lean ====
/- What the precondition says: every entry of the arguments is a real number. And the arguments' real numbers. -/
module

public import proofs.«01_k».proof.Proof.KTail
public import proofs.«01_k».proof.Proof.ROut
public import proofs.«01_k».proof.Defs

@[expose] public section

set_option maxRecDepth 16384

noncomputable section

open Idealize.ShloMosaic Idealize.ShloMosaic.TcCoe Idealize.SL.Sem

namespace Cert.Value

open Cert.Attn

theorem preFacts : Cert.Pre_finite.Facts where
  bcast_S_S4x8x4224x64 := by decide
  bcast_S_S4x4224x64 := by decide
  bcast_S_S1x32 := by decide
  bcast_S_S4x8x4112x64 := by decide

theorem inf_word : Ideal.ofBits .f32 2139095040#32 = ⊤ := by
  simp [Ideal.ofBits, Ideal.ieee]

theorem real_of (x : EReal) (h : BitVec.ofBool (decide (max x (-x) < (⊤ : EReal))) = 1#1) : ((x.toReal : ℝ) : EReal) = x := by
  have h1 : max x (-x) < ⊤ := by
    by_contra hn
    rw [decide_eq_false hn] at h
    exact absurd h (by decide)
  refine EReal.coe_toReal (fun e => ?_) (fun e => ?_)
  · rw [e] at h1; simp at h1
  · rw [e] at h1; simp at h1

section

variable [Cert.Pre_finite.Facts] (a0 : FVec Ideal Cert.Pre_finite.S4x8x4224x64 .f32) (a1 a2 : FVec Ideal Cert.Pre_finite.S4x4224x64 .f32)
  (a3 : FVec Ideal Cert.Pre_finite.S1x32 .f32) (a4 : FVec Ideal Cert.Pre_finite.S4x8x4112x64 .f32)

theorem fin0 (h : (Cert.Pre_finite.fn (F := Ideal) a0 a1 a2 a3 a4).1 = fun _ => 1#1) (i : Cert.Pre_finite.S4x8x4224x64.Idx) :
    ((EReal.toReal (a0 i) : ℝ) : EReal) = a0 i := by
  have e := congrFun h i
  have w : FloatOps.cmpf (F := Ideal) CmpFPredicate.olt (FloatOps.hostAbsf (a0 i)) (Ideal.ofBits .f32 2139095040#32) = 1#1 := e
  rw [inf_word] at w
  exact real_of _ w

theorem fin1 (h : (Cert.Pre_finite.fn (F := Ideal) a0 a1 a2 a3 a4).2.1 = fun _ => 1#1) (i : Cert.Pre_finite.S4x4224x64.Idx) :
    ((EReal.toReal (a1 i) : ℝ) : EReal) = a1 i := by
  have e := congrFun h i
  have w : FloatOps.cmpf (F := Ideal) CmpFPredicate.olt (FloatOps.hostAbsf (a1 i)) (Ideal.ofBits .f32 2139095040#32) = 1#1 := e
  rw [inf_word] at w
  exact real_of _ w

theorem fin2 (h : (Cert.Pre_finite.fn (F := Ideal) a0 a1 a2 a3 a4).2.2.1 = fun _ => 1#1) (i : Cert.Pre_finite.S4x4224x64.Idx) :
    ((EReal.toReal (a2 i) : ℝ) : EReal) = a2 i := by
  have e := congrFun h i
  have w : FloatOps.cmpf (F := Ideal) CmpFPredicate.olt (FloatOps.hostAbsf (a2 i)) (Ideal.ofBits .f32 2139095040#32) = 1#1 := e
  rw [inf_word] at w
  exact real_of _ w

theorem fin3 (h : (Cert.Pre_finite.fn (F := Ideal) a0 a1 a2 a3 a4).2.2.2.1 = fun _ => 1#1) (i : Cert.Pre_finite.S1x32.Idx) :
    ((EReal.toReal (a3 i) : ℝ) : EReal) = a3 i := by
  have e := congrFun h i
  have w : FloatOps.cmpf (F := Ideal) CmpFPredicate.olt (FloatOps.hostAbsf (a3 i)) (Ideal.ofBits .f32 2139095040#32) = 1#1 := e
  rw [inf_word] at w
  exact real_of _ w

theorem fin4 (h : (Cert.Pre_finite.fn (F := Ideal) a0 a1 a2 a3 a4).2.2.2.2 = fun _ => 1#1) (i : Cert.Pre_finite.S4x8x4112x64.Idx) :
    ((EReal.toReal (a4 i) : ℝ) : EReal) = a4 i := by
  have e := congrFun h i
  have w : FloatOps.cmpf (F := Ideal) CmpFPredicate.olt (FloatOps.hostAbsf (a4 i)) (Ideal.ofBits .f32 2139095040#32) = 1#1 := e
  rw [inf_word] at w
  exact real_of _ w

end

/-- The real numbers of five arrays. -/
def data (a0 : FVec Ideal Cert.KernelIdeal.S4x8x4224x64 .f32) (a1 a2 : FVec Ideal Cert.KernelIdeal.S4x4224x64 .f32)
    (a3 : FVec Ideal Cert.KernelIdeal.S1x32 .f32) (a4 : FVec Ideal Cert.KernelIdeal.S4x8x4112x64 .f32) : Data where
  q h g t d := if ht : t < 4224 then EReal.toReal (a0 (ix4 h g ⟨t, ht⟩ d)) else 0
  k h t d := if ht : t < 4224 then EReal.toReal (a1 (ix3 h ⟨t, ht⟩ d)) else 0
  v h t d := if ht : t < 4224 then EReal.toReal (a2 (ix3 h ⟨t, ht⟩ d)) else 0
  s h g := EReal.toReal (a3 (ix2 0 ⟨h.1 * 8 + g.1, by omega⟩))
  dO h g t d := if ht : t < 4112 then EReal.toReal (a4 (ix4 h g ⟨t, ht⟩ d)) else 0
  dO_off h g t d ht := dif_neg (by omega)

/-- The real numbers of a device's arguments. -/
abbrev dataOf (m : (ℓ : Loc Cert.KernelIdeal.nD Cert.KernelIdeal.τ Cert.KernelIdeal.sig) → Buf (Elt Ideal) ℓ) (c : Dev Cert.KernelIdeal.nD) : Data :=
  data (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

theorem holds_of (m : (ℓ : Loc Cert.KernelIdeal.nD Cert.KernelIdeal.τ Cert.KernelIdeal.sig) → Buf (Elt Ideal) ℓ)
    (hm : Cert.Pre_KernelIdeal_finite (hPre_finite := preFacts) m) (c : Dev Cert.KernelIdeal.nD) :
    Cert.KernelIdeal.Value.Holds m c (dataOf m c) where
  q h g t d := ((congrArg (fun x : ℝ => (x : EReal)) (dif_pos t.2)).trans
    (@fin0 preFacts _ _ _ _ _ (hm c).1 (ix4 h g t d))).symm
  k h t d := ((congrArg (fun x : ℝ => (x : EReal)) (dif_pos t.2)).trans
    (@fin1 preFacts _ _ _ _ _ (hm c).2.1 (ix3 h t d))).symm
  v h t d := ((congrArg (fun x : ℝ => (x : EReal)) (dif_pos t.2)).trans
    (@fin2 preFacts _ _ _ _ _ (hm c).2.2.1 (ix3 h t d))).symm
  s h g := (@fin3 preFacts _ _ _ _ _ (hm c).2.2.2.1 (ix2 0 ⟨h.1 * 8 + g.1, by omega⟩)).symm
  dO h g t d := ((congrArg (fun x : ℝ => (x : EReal)) (dif_pos t.2)).trans
    (@fin4 preFacts _ _ _ _ _ (hm c).2.2.2.2 (ix4 h g t d))).symm

end Cert.Value

end
-- ==== Proof.Half.lean ====
/- One half as the number a constant of the programs holds, and what it does to sums. -/
module

public import Idealize.ShloMosaic.Lib.Pipeline.ValueKit

@[expose] public section

noncomputable section

open Idealize.ShloMosaic

namespace Cert.Ffn

theorem half_word : Ideal.ofBits .f32 1056964608#32 = ((1 / 2 : ℝ) : EReal) := by
  simp [Ideal.ofBits, Ideal.ieee]
  rw [← EReal.coe_mul]; norm_num

/-- One half, as the constant's word. -/
abbrev half : EReal := Ideal.ofBits .f32 1056964608#32

theorem half_eq : half = ((1 / 2 : ℝ) : EReal) := half_word

theorem half_add (x y : EReal) : half * (x + y) = half * x + half * y := by
  rw [half, half_word]
  exact EReal.left_distrib_of_nonneg_of_ne_top (by exact_mod_cast (by norm_num : (0 : ℝ) ≤ 1 / 2)) (EReal.coe_ne_top _) _ _

/-- Half of a sum is the sum of the halves, whatever the terms. -/
theorem half_sum {n : ℕ} (f : Fin n → EReal) : half * ∑ k, f k = ∑ k, half * f k := by
  classical
  induction (Finset.univ : Finset (Fin n)) using Finset.induction_on with
  | empty => simp
  | insert a s ha h => rw [Finset.sum_insert ha, Finset.sum_insert ha, half_add, h]

/-- A product with half of each first factor is half of the product. -/
theorem half_dot {n : ℕ} (f g : Fin n → EReal) : ∑ k, half * f k * g k = half * ∑ k, f k * g k := by
  rw [half_sum]
  exact Finset.sum_congr rfl fun k _ => mul_assoc _ _ _

theorem zero_sub' (x : EReal) : 0 - x = -x := by rw [sub_eq_add_neg, zero_add]

end Cert.Ffn

end
-- ==== Proof.GateUpV.lean ====
/- The gate and up projections and their gated product: what the kernel leaves in its three results. -/
module

public import proofs.«01_k».proof.Proof.Gen.GateUpIdeal.Frame
public import proofs.«01_k».proof.Proof.Gen.GateUpRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.GateUp

open Cert.GateUpIdeal Cert.GateUpIdeal.Gen

variable (m : (ℓ : Loc nD τ sig) → Buf (Elt Ideal) ℓ)

/-- The reference's three terms over the arguments. -/
abbrev REF0 (NX : FVec Ideal S4224x2048 .bf16) (WG : FVec Ideal S4x2x2048x1408 .bf16) : FVec Ideal S4224x5632 .bf16 :=
  truncf .bf16 (Host.dotGeneral Cert.GateUpRefIdeal.dot_S4224x2048_S2048x5632_S4224x5632_1_0_0_1_n_n none (extf .f32 NX Cert.GateUpRefIdeal.Gen.bitsLt_bf16_f32) (shapeCast _ (transpose Cert.GateUpRefIdeal.S2048x4x1408 [1, 0, 2] (extf .f32 (shapeCast _ (extractStridedSlice Cert.GateUpRefIdeal.S4x1x2048x1408 ![0, 1, 0, 0] WG Cert.GateUpRefIdeal.Gen.slices_S4x2x2048x1408_S4x1x2048x1408_0_1_0_0) Cert.GateUpRefIdeal.Gen.shapeCasts_S4x1x2048x1408_S4x2048x1408) Cert.GateUpRefIdeal.Gen.bitsLt_bf16_f32) Cert.GateUpRefIdeal.Gen.transposes_S4x2048x1408_S2048x4x1408_1_0_2) Cert.GateUpRefIdeal.Gen.shapeCasts_S2048x4x1408_S2048x5632)) Cert.GateUpRefIdeal.Gen.bitsLt_bf16_f32

abbrev REF1 (NX : FVec Ideal S4224x2048 .bf16) (WU : FVec Ideal S4x2x2048x1408 .bf16) : FVec Ideal S4224x5632 .bf16 :=
  truncf .bf16 (Host.dotGeneral Cert.GateUpRefIdeal.dot_S4224x2048_S2048x5632_S4224x5632_1_0_0_1_n_n none (extf .f32 NX Cert.GateUpRefIdeal.Gen.bitsLt_bf16_f32) (shapeCast _ (transpose Cert.GateUpRefIdeal.S2048x4x1408 [1, 0, 2] (extf .f32 (shapeCast _ (extractStridedSlice Cert.GateUpRefIdeal.S4x1x2048x1408 ![0, 1, 0, 0] WU Cert.GateUpRefIdeal.Gen.slices_S4x2x2048x1408_S4x1x2048x1408_0_1_0_0) Cert.GateUpRefIdeal.Gen.shapeCasts_S4x1x2048x1408_S4x2048x1408) Cert.GateUpRefIdeal.Gen.bitsLt_bf16_f32) Cert.GateUpRefIdeal.Gen.transposes_S4x2048x1408_S2048x4x1408_1_0_2) Cert.GateUpRefIdeal.Gen.shapeCasts_S2048x4x1408_S2048x5632)) Cert.GateUpRefIdeal.Gen.bitsLt_bf16_f32

abbrev REF2 (NX : FVec Ideal S4224x2048 .bf16) (WG WU : FVec Ideal S4x2x2048x1408 .bf16) : FVec Ideal S4224x5632 .bf16 :=
  truncf .bf16 (mulf (mulf (Host.dotGeneral Cert.GateUpRefIdeal.dot_S4224x2048_S2048x5632_S4224x5632_1_0_0_1_n_n none (extf .f32 NX Cert.GateUpRefIdeal.Gen.bitsLt_bf16_f32) (shapeCast _ (transpose Cert.GateUpRefIdeal.S2048x4x1408 [1, 0, 2] (extf .f32 (shapeCast _ (extractStridedSlice Cert.GateUpRefIdeal.S4x1x2048x1408 ![0, 1, 0, 0] WG Cert.GateUpRefIdeal.Gen.slices_S4x2x2048x1408_S4x1x2048x1408_0_1_0_0) Cert.GateUpRefIdeal.Gen.shapeCasts_S4x1x2048x1408_S4x2048x1408) Cert.GateUpRefIdeal.Gen.bitsLt_bf16_f32) Cert.GateUpRefIdeal.Gen.transposes_S4x2048x1408_S2048x4x1408_1_0_2) Cert.GateUpRefIdeal.Gen.shapeCasts_S2048x4x1408_S2048x5632)) (Host.divf (broadcastInDim Cert.GateUpRefIdeal.S4224x5632 ![] Cert.GateUpRefIdeal.Gen.bcast_S_S4224x5632 (constant Cert.GateUpRefIdeal.S_ .f32 0x3F800000#32)) (addf (broadcastInDim Cert.GateUpRefIdeal.S4224x5632 ![] Cert.GateUpRefIdeal.Gen.bcast_S_S4224x5632 (constant Cert.GateUpRefIdeal.S_ .f32 0x3F800000#32)) (Host.exp (Host.negf (Host.dotGeneral Cert.GateUpRefIdeal.dot_S4224x2048_S2048x5632_S4224x5632_1_0_0_1_n_n none (extf .f32 NX Cert.GateUpRefIdeal.Gen.bitsLt_bf16_f32) (shapeCast _ (transpose Cert.GateUpRefIdeal.S2048x4x1408 [1, 0, 2] (extf .f32 (shapeCast _ (extractStridedSlice Cert.GateUpRefIdeal.S4x1x2048x1408 ![0, 1, 0, 0] WG Cert.GateUpRefIdeal.Gen.slices_S4x2x2048x1408_S4x1x2048x1408_0_1_0_0) Cert.GateUpRefIdeal.Gen.shapeCasts_S4x1x2048x1408_S4x2048x1408) Cert.GateUpRefIdeal.Gen.bitsLt_bf16_f32) Cert.GateUpRefIdeal.Gen.transposes_S4x2048x1408_S2048x4x1408_1_0_2) Cert.GateUpRefIdeal.Gen.shapeCasts_S2048x4x1408_S2048x5632))))))) (Host.dotGeneral Cert.GateUpRefIdeal.dot_S4224x2048_S2048x5632_S4224x5632_1_0_0_1_n_n none (extf .f32 NX Cert.GateUpRefIdeal.Gen.bitsLt_bf16_f32) (shapeCast _ (transpose Cert.GateUpRefIdeal.S2048x4x1408 [1, 0, 2] (extf .f32 (shapeCast _ (extractStridedSlice Cert.GateUpRefIdeal.S4x1x2048x1408 ![0, 1, 0, 0] WU Cert.GateUpRefIdeal.Gen.slices_S4x2x2048x1408_S4x1x2048x1408_0_1_0_0) Cert.GateUpRefIdeal.Gen.shapeCasts_S4x1x2048x1408_S4x2048x1408) Cert.GateUpRefIdeal.Gen.bitsLt_bf16_f32) Cert.GateUpRefIdeal.Gen.transposes_S4x2048x1408_S2048x4x1408_1_0_2) Cert.GateUpRefIdeal.Gen.shapeCasts_S2048x4x1408_S2048x5632))) Cert.GateUpRefIdeal.Gen.bitsLt_bf16_f32

theorem hzero (j : S2x704x1408.Idx) : k0_pay6 (F := Ideal) j = (0 : EReal) := by pointwise [k0_pay6]

/-- What one grid point adds to a sum: its columns of the product. -/
def part (x0 : FVec Ideal S704x512 .bf16) (x1 : FVec Ideal S1x1x512x1408 .bf16) (a : Fin 704) (b : Fin 1408) : EReal :=
  ∑ k : Fin 512, x0 (ix2 a k) * x1 (ix4 0 0 k b)

theorem hpay0 (acc : FVec Ideal S1x704x1408 .f32) (x0 : FVec Ideal S704x512 .bf16) (x1 : FVec Ideal S1x1x512x1408 .bf16)
    (j : S1x704x1408.Idx) : k0_pay7 (F := Ideal) acc x0 x1 j = acc j + part x0 x1 (j 1) (j 2) := by
  pointwise [k0_pay7, part]

theorem hpay1 (acc : FVec Ideal S1x704x1408 .f32) (x0 : FVec Ideal S704x512 .bf16) (x1 : FVec Ideal S1x1x512x1408 .bf16)
    (j : S1x704x1408.Idx) : k0_pay8 (F := Ideal) acc x0 x1 j = acc j + part x0 x1 (j 1) (j 2) := by
  pointwise [k0_pay8, part]

/-- The logistic function as both programs compute it. -/
abbrev lgs (g : EReal) : EReal := Ideal.div 1 (1 + Ideal.exp (-g))

/-- One entry of a product. -/
abbrev dot (NX : FVec Ideal S4224x2048 .bf16) (WG : FVec Ideal S4x2x2048x1408 .bf16) (j : S4224x5632.Idx) : EReal :=
  ∑ x : Fin 2048, NX (ix2 (j 0) x) * WG (ix4 ⟨(j 1).val / 1408, by idx_bounds; omega⟩ 1 x ⟨(j 1).val % 1408, by omega⟩)

theorem h0 (NX : FVec Ideal S4224x2048 .bf16) (WG : FVec Ideal S4x2x2048x1408 .bf16) (j : S4224x5632.Idx) :
    REF0 NX WG j = dot NX WG j := by
  pointwise [REF0]

theorem h1 (NX : FVec Ideal S4224x2048 .bf16) (WU : FVec Ideal S4x2x2048x1408 .bf16) (j : S4224x5632.Idx) :
    REF1 NX WU j = dot NX WU j := by
  pointwise [REF1]

theorem h2 (NX : FVec Ideal S4224x2048 .bf16) (WG WU : FVec Ideal S4x2x2048x1408 .bf16) (j : S4224x5632.Idx) :
    REF2 NX WG WU j = dot NX WG j * lgs (dot NX WG j) * dot NX WU j := by
  pointwise [REF2]

theorem ho2 (v w : FVec Ideal S1x704x1408 .f32) (j : S704x1408.Idx) :
    k0_pay5 (F := Ideal) v w j = v (ix3 0 (j 0) (j 1)) * lgs (v (ix3 0 (j 0) (j 1))) * w (ix3 0 (j 0) (j 1)) := by
  unfold lgs
  rw [← Cert.Ffn.zero_sub']
  pointwise [k0_pay5, k0_pay1, k0_pay2]

theorem ho0 (v : FVec Ideal S1x704x1408 .f32) (j : S704x1408.Idx) :
    k0_pay3 (F := Ideal) v j = v (ix3 0 (j 0) (j 1)) := by
  pointwise [k0_pay3, k0_pay1]

theorem ho1 (v : FVec Ideal S1x704x1408 .f32) (j : S704x1408.Idx) :
    k0_pay4 (F := Ideal) v j = v (ix3 0 (j 0) (j 1)) := by
  pointwise [k0_pay4, k0_pay2]

theorem idx : ∀ t : Fin cfg0.N, win0_0.index t = ![t.val / 16, t.val % 4] ∧ win0_1.index t = ![t.val / 16, t.val % 4]
    ∧ win0_2.index t = ![t.val / 4 % 4, 1, t.val % 4, 0] ∧ win0_3.index t = ![t.val / 4 % 4, 1, t.val % 4, 0]
    ∧ win0_4.index t = ![t.val / 16, t.val / 4 % 4] ∧ win0_5.index t = ![t.val / 16, t.val / 4 % 4]
    ∧ win0_6.index t = ![t.val / 16, t.val / 4 % 4] :=
  (by decide +kernel : ∀ t : Fin grid0.N, _)

/-- The two carried sums. -/
abbrev sc (c : Dev nD) (n : ℕ) (h : n < cfg0.N) : FVec Ideal S2x704x1408 .f32 := (outsAt0 (F := Ideal) m c n h).2.2.2

theorem inb0 : ∀ a : Fin S2x704x1408.rank, (![0, 0, 0] : Fin 3 → ℕ) a + (![1, 704, 1408] : Fin 3 → ℕ) a ≤ S2x704x1408.size a := by decide
theorem inb1 : ∀ a : Fin S2x704x1408.rank, (![1, 0, 0] : Fin 3 → ℕ) a + (![1, 704, 1408] : Fin 3 → ℕ) a ≤ S2x704x1408.size a := by decide

/-- The carried buffer's first half, the gate's sum, -/
abbrev r0 : Rect S2x704x1408 := Rect.unit ![0, 0, 0] ![1, 704, 1408] inb0
/-- and its second half, the up projection's. -/
abbrev r1 : Rect S2x704x1408 := Rect.unit ![1, 0, 0] ![1, 704, 1408] inb1

theorem emb0 (a : Fin 704) (b : Fin 1408) : r0.emb (ix3 0 a b : S1x704x1408.Idx) = ix3 (0 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem emb1 (a : Fin 704) (b : Fin 1408) : r1.emb (ix3 0 a b : S1x704x1408.Idx) = ix3 (1 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem canonEmb {S : Shape} (r : Rect S) (w : r.shape.Idx → Elt Ideal .f32) (L : List (View.Piece (Elt Ideal) S .f32))
    (x : r.shape.Idx) (y : S.Idx) (h : r.emb x = y) : View.canon (⟨r, w⟩ :: L) y = w x := by
  rw [← h]; exact View.canon_cons_emb r w L x

theorem canonSkip {S : Shape} (r : Rect S) (w : r.shape.Idx → Elt Ideal .f32) (L : List (View.Piece (Elt Ideal) S .f32))
    (y : S.Idx) (h : y ∉ r.set) : View.canon (⟨r, w⟩ :: L) y = View.canon L y :=
  View.canon_cons_of_not_mem ⟨r, w⟩ L h

theorem not1 (a : Fin 704) (b : Fin 1408) : (ix3 (0 : Fin 2) a b : S2x704x1408.Idx) ∉ r1.set := by
  intro h
  have h' : 1 ≤ 0 := (Rect.mem_set_unit.mp h 0).1
  omega

theorem canon1 (w : FVec Ideal S1x704x1408 .f32) (L : List (View.Piece (Elt Ideal) S2x704x1408 .f32)) (a : Fin 704) (b : Fin 1408) :
    View.canon (⟨r1, w⟩ :: L) (ix3 (1 : Fin 2) a b) = w (ix3 0 a b) :=
  canonEmb r1 w L (ix3 0 a b) _ (emb1 a b)

theorem canon0 (w : FVec Ideal S1x704x1408 .f32) (L : List (View.Piece (Elt Ideal) S2x704x1408 .f32)) (a : Fin 704) (b : Fin 1408) :
    View.canon (⟨r0, w⟩ :: L) (ix3 (0 : Fin 2) a b) = w (ix3 0 a b) :=
  canonEmb r0 w L (ix3 0 a b) _ (emb0 a b)

theorem skip1 (w : FVec Ideal S1x704x1408 .f32) (L : List (View.Piece (Elt Ideal) S2x704x1408 .f32)) (a : Fin 704) (b : Fin 1408) :
    View.canon (⟨r1, w⟩ :: L) (ix3 (0 : Fin 2) a b) = View.canon L (ix3 (0 : Fin 2) a b) :=
  canonSkip r1 w L _ (not1 a b)

theorem tA0 (c : Dev nD) (t : Fin cfg0.N) (h : t.val % 4 = 0) (a : Fin 704) (b : Fin 1408) :
    sc m c t.val t.isLt (ix3 0 a b) = (0 + part (iblk m c 0 t) (iblk m c 2 t) a b : EReal) := by
  unfold sc
  rw [outsAt0_A m c t h (by omega)]
  frame_out
  refine (skip1 _ _ a b).trans ((canon0 _ _ a b).trans ?_)
  rw [hpay0, View.readCov_fill _ _ _ _ _ (by decide)]
  exact congrArg (· + _) (hzero _)

theorem tA1 (c : Dev nD) (t : Fin cfg0.N) (h : t.val % 4 = 0) (a : Fin 704) (b : Fin 1408) :
    sc m c t.val t.isLt (ix3 1 a b) = (0 + part (iblk m c 1 t) (iblk m c 3 t) a b : EReal) := by
  unfold sc
  rw [outsAt0_A m c t h (by omega)]
  frame_out
  refine (canon1 _ _ a b).trans ?_
  rw [hpay1, View.readCov_skip _ _ _ _ _ (by decide), View.readCov_fill _ _ _ _ _ (by decide)]
  exact congrArg (· + _) (hzero _)

theorem tS0 (c : Dev nD) (t : Fin cfg0.N) (h : ¬ t.val % 4 = 0) (a : Fin 704) (b : Fin 1408) :
    sc m c t.val t.isLt (ix3 0 a b) = (sc m c (t.val - 1) (by omega) (ix3 0 a b) + part (iblk m c 0 t) (iblk m c 2 t) a b : EReal) := by
  unfold sc
  by_cases h1 : t.val % 4 = 3
  · rw [outsAt0_C m c t h h1]
    frame_out
    refine (skip1 _ _ a b).trans ((canon0 _ _ a b).trans ?_)
    rw [hpay0, read_unread_whole]
    exact congrArg (· + _) (congrArg _ (emb0 a b))
  · rw [outsAt0_B m c t h h1]
    frame_out
    refine (skip1 _ _ a b).trans ((canon0 _ _ a b).trans ?_)
    rw [hpay0, read_unread_whole]
    exact congrArg (· + _) (congrArg _ (emb0 a b))

theorem tS1 (c : Dev nD) (t : Fin cfg0.N) (h : ¬ t.val % 4 = 0) (a : Fin 704) (b : Fin 1408) :
    sc m c t.val t.isLt (ix3 1 a b) = (sc m c (t.val - 1) (by omega) (ix3 1 a b) + part (iblk m c 1 t) (iblk m c 3 t) a b : EReal) := by
  unfold sc
  by_cases h1 : t.val % 4 = 3
  · rw [outsAt0_C m c t h h1]
    frame_out
    refine (canon1 _ _ a b).trans ?_
    rw [hpay1, read_unread_whole]
    exact congrArg (· + _) (congrArg _ (emb1 a b))
  · rw [outsAt0_B m c t h h1]
    frame_out
    refine (canon1 _ _ a b).trans ?_
    rw [hpay1, read_unread_whole]
    exact congrArg (· + _) (congrArg _ (emb1 a b))

theorem left6 (c : Dev nD) (t : Fin cfg0.N) (h : t.val % 4 = 3) :
    (outsAt0 (F := Ideal) m c t.val t.isLt).2.2.1 = k0_pay5 (F := Ideal) (View.ld (sc m c t.val t.isLt) r0) (View.ld (sc m c t.val t.isLt) r1) := by
  unfold sc
  rw [outsAt0_C m c t (by omega) h]
  frame_out
  rw [View.readCov_eq_canon', View.readCov_eq_canon']

theorem left4 (c : Dev nD) (t : Fin cfg0.N) (h : t.val % 4 = 3) :
    (outsAt0 (F := Ideal) m c t.val t.isLt).1 = k0_pay3 (F := Ideal) (View.ld (sc m c t.val t.isLt) r0) := by
  unfold sc
  rw [outsAt0_C m c t (by omega) h]
  frame_out
  rw [View.readCov_eq_canon']

theorem left5 (c : Dev nD) (t : Fin cfg0.N) (h : t.val % 4 = 3) :
    (outsAt0 (F := Ideal) m c t.val t.isLt).2.1 = k0_pay4 (F := Ideal) (View.ld (sc m c t.val t.isLt) r1) := by
  unfold sc
  rw [outsAt0_C m c t (by omega) h]
  frame_out
  rw [View.readCov_eq_canon']

/-- The first half at the last point of a run: the four points' columns. -/
theorem carried0 (c : Dev nD) (t : Fin cfg0.N) (h : t.val % 4 = 3) (a : Fin 704) (b : Fin 1408) :
    sc m c t.val t.isLt (ix3 0 a b) = (∑ s : Fin 4, part (iblk m c 0 ⟨4 * (t.val / 4) + s.val, Pipeline.run_point_lt_of_flush t h s⟩)
      (iblk m c 2 ⟨4 * (t.val / 4) + s.val, Pipeline.run_point_lt_of_flush t h s⟩) a b : EReal) := by
  have e := Pipeline.eq_sum_fin_of_reset_step_apply_of_flush (fun n h (_ : Unit) => (sc m c n h (ix3 0 a b) : EReal)) 4 (fun _ => 0)
      (fun p _ => part (iblk m c 0 p) (iblk m c 2 p) a b)
      (fun t h _ => tA0 m c t h a b) (fun t h _ => tS0 m c t h a b) t h ()
  rw [zero_add] at e
  exact e

/-- … which is the whole product's entry. -/
theorem carried_dot0 (c : Dev nD) (t : Fin cfg0.N) (h : t.val % 4 = 3) (y : S704x1408.Idx) (j : S4224x5632.Idx)
    (h0 : (j 0).val = t.val / 16 * 704 + (y 0).val) (h1 : (j 1).val = t.val / 4 % 4 * 1408 + (y 1).val) :
    (View.ld (Val := Elt Ideal) (e' := .f32) (sc m c t.val t.isLt) r0 : FVec Ideal S1x704x1408 .f32) (ix3 0 (y 0) (y 1)) = dot (m ((c : Thread nD τ).loc main_arg0)) (m ((c : Thread nD τ).loc main_arg1)) j := by
  refine (congrArg (sc m c t.val t.isLt) (emb0 (y 0) (y 1))).trans ((carried0 m c t h (y 0) (y 1)).trans ?_)
  unfold part dot
  refine Fin.sum_mul_add_congr fun s k hl => ?_
  blk_point [iblk, V, idx t, idx ⟨_, Pipeline.run_point_lt_of_flush t h s⟩]

/-- The second half at the last point of a run. -/
theorem carried1 (c : Dev nD) (t : Fin cfg0.N) (h : t.val % 4 = 3) (a : Fin 704) (b : Fin 1408) :
    sc m c t.val t.isLt (ix3 1 a b) = (∑ s : Fin 4, part (iblk m c 1 ⟨4 * (t.val / 4) + s.val, Pipeline.run_point_lt_of_flush t h s⟩)
      (iblk m c 3 ⟨4 * (t.val / 4) + s.val, Pipeline.run_point_lt_of_flush t h s⟩) a b : EReal) := by
  have e := Pipeline.eq_sum_fin_of_reset_step_apply_of_flush (fun n h (_ : Unit) => (sc m c n h (ix3 1 a b) : EReal)) 4 (fun _ => 0)
      (fun p _ => part (iblk m c 1 p) (iblk m c 3 p) a b)
      (fun t h _ => tA1 m c t h a b) (fun t h _ => tS1 m c t h a b) t h ()
  rw [zero_add] at e
  exact e

/-- … which is the whole product's entry. -/
theorem carried_dot1 (c : Dev nD) (t : Fin cfg0.N) (h : t.val % 4 = 3) (y : S704x1408.Idx) (j : S4224x5632.Idx)
    (h0 : (j 0).val = t.val / 16 * 704 + (y 0).val) (h1 : (j 1).val = t.val / 4 % 4 * 1408 + (y 1).val) :
    (View.ld (Val := Elt Ideal) (e' := .f32) (sc m c t.val t.isLt) r1 : FVec Ideal S1x704x1408 .f32) (ix3 0 (y 0) (y 1)) = dot (m ((c : Thread nD τ).loc main_arg0)) (m ((c : Thread nD τ).loc main_arg2)) j := by
  refine (congrArg (sc m c t.val t.isLt) (emb1 (y 0) (y 1))).trans ((carried1 m c t h (y 0) (y 1)).trans ?_)
  unfold part dot
  refine Fin.sum_mul_add_congr fun s k hl => ?_
  blk_point [iblk, V, idx t, idx ⟨_, Pipeline.run_point_lt_of_flush t h s⟩]

theorem final4 (c : Dev nD) : (dats m 0 c).arrAt 4 (cfgs 0).N
    = REF0 (m ((c : Thread nD τ).loc main_arg0)) (m ((c : Thread nD τ).loc main_arg1)) := by
  refine (dats m 0 c).arrAt_eq_of_covers 4 _ (by decide +kernel) fun t hf y => ?_
  blk_simp
  rw [after0_4, left4 m c t ((flush0_4 t).mp hf), ho0,
    carried_dot0 m c t ((flush0_4 t).mp hf) _ (((cfg0.win 4).blk t).view.emb y) (by blk_simp [idx t]; try rfl) (by blk_simp [idx t]; try rfl), h0]

theorem final5 (c : Dev nD) : (dats m 0 c).arrAt 5 (cfgs 0).N
    = REF1 (m ((c : Thread nD τ).loc main_arg0)) (m ((c : Thread nD τ).loc main_arg2)) := by
  refine (dats m 0 c).arrAt_eq_of_covers 5 _ (by decide +kernel) fun t hf y => ?_
  blk_simp
  rw [after0_5, left5 m c t ((flush0_5 t).mp hf), ho1,
    carried_dot1 m c t ((flush0_5 t).mp hf) _ (((cfg0.win 5).blk t).view.emb y) (by blk_simp [idx t]; try rfl) (by blk_simp [idx t]; try rfl), h1]

theorem final6 (c : Dev nD) : (dats m 0 c).arrAt 6 (cfgs 0).N
    = REF2 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, left6 m c t ((flush0_6 t).mp hf), ho2,
    carried_dot0 m c t ((flush0_6 t).mp hf) _ (((cfg0.win 6).blk t).view.emb y) (by blk_simp [idx t]; try rfl) (by blk_simp [idx t]; try rfl),
    carried_dot1 m c t ((flush0_6 t).mp hf) _ (((cfg0.win 6).blk t).view.emb y) (by blk_simp [idx t]; try rfl) (by blk_simp [idx t]; try rfl), h2]

end Cert.Ffn.GateUp

end
-- ==== Proof.DownV.lean ====
/- The down projection and its half residual: what the kernel leaves in its result. -/
module

public import proofs.«01_k».proof.Proof.Gen.DownIdeal.Frame
public import proofs.«01_k».proof.Proof.Gen.DownRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.Down

open Cert.DownIdeal Cert.DownIdeal.Gen

variable (m : (ℓ : Loc nD τ sig) → Buf (Elt Ideal) ℓ)

/-- The reference's term over the three arguments. -/
abbrev REF (H : FVec Ideal S4224x2048 .f32) (A : FVec Ideal S4224x5632 .bf16) (WD : FVec Ideal S4x2x1408x2048 .bf16) : FVec Ideal S4224x2048 .f32 :=
  addf H (mulf (broadcastInDim Cert.DownRefIdeal.S4224x2048 ![] Cert.DownRefIdeal.Gen.bcast_S_S4224x2048 (constant Cert.DownRefIdeal.S_ .f32 0x3F000000#32)) (Host.dotGeneral Cert.DownRefIdeal.dot_S4224x5632_S5632x2048_S4224x2048_1_0_0_1_n_n none (extf .f32 A Cert.DownRefIdeal.Gen.bitsLt_bf16_f32) (shapeCast _ (extf .f32 (shapeCast _ (extractStridedSlice Cert.DownRefIdeal.S4x1x1408x2048 ![0, 1, 0, 0] WD Cert.DownRefIdeal.Gen.slices_S4x2x1408x2048_S4x1x1408x2048_0_1_0_0) Cert.DownRefIdeal.Gen.shapeCasts_S4x1x1408x2048_S4x1408x2048) Cert.DownRefIdeal.Gen.bitsLt_bf16_f32) Cert.DownRefIdeal.Gen.shapeCasts_S4x1408x2048_S5632x2048)))

theorem hzero (j : S1x1056x1024.Idx) : k0_pay1 (F := Ideal) j = (0 : EReal) := by pointwise [k0_pay1]

/-- What one grid point adds: its columns of the product. -/
def part (x0 : FVec Ideal S1056x1408 .bf16) (x1 : FVec Ideal S1x1x1408x1024 .bf16) (j : S1x1056x1024.Idx) : EReal :=
  ∑ k : Fin 1408, x0 (ix2 (j 1) k) * x1 (ix4 0 0 k (j 2))

theorem hpay (acc : FVec Ideal S1x1056x1024 .f32) (x0 : FVec Ideal S1056x1408 .bf16) (x1 : FVec Ideal S1x1x1408x1024 .bf16)
    (j : S1x1056x1024.Idx) : k0_pay2 (F := Ideal) acc x0 x1 j = acc j + part x0 x1 j := by
  pointwise [k0_pay2, part]

/-- One entry of the product. -/
abbrev dot (A : FVec Ideal S4224x5632 .bf16) (WD : FVec Ideal S4x2x1408x2048 .bf16) (j : S4224x2048.Idx) : EReal :=
  ∑ x : Fin 5632, A (ix2 (j 0) x) * WD (ix4 ⟨x.val / 1408, by omega⟩ 1 ⟨x.val % 1408, by omega⟩ (j 1))

theorem href (H : FVec Ideal S4224x2048 .f32) (A : FVec Ideal S4224x5632 .bf16) (WD : FVec Ideal S4x2x1408x2048 .bf16) (j : S4224x2048.Idx) :
    REF H A WD j = H j + Cert.Ffn.half * dot A WD j := by
  pointwise [REF]

theorem hout (v : FVec Ideal S1x1056x1024 .f32) (h : FVec Ideal S1056x1024 .f32) (j : S1056x1024.Idx) :
    k0_pay3 (F := Ideal) v h j = h j + Cert.Ffn.half * v (ix3 0 (j 0) (j 1)) := by
  pointwise [k0_pay3]

theorem idx : ∀ t : Fin cfg0.N, win0_0.index t = ![t.val / 8, t.val % 4] ∧ win0_1.index t = ![t.val % 4, 1, 0, t.val / 4 % 2]
    ∧ win0_2.index t = ![t.val / 8, t.val / 4 % 2] ∧ win0_3.index t = ![t.val / 8, t.val / 4 % 2] :=
  (by decide +kernel : ∀ t : Fin grid0.N, _)

/-- The last point of a run stores its rows and half of the sum it has carried. -/
theorem left3 (c : Dev nD) (t : Fin cfg0.N) (h : t.val % 4 = 3) :
    (outsAt0 (F := Ideal) m c t.val t.isLt).1 = k0_pay3 (F := Ideal) (outsAt0 (F := Ideal) m c t.val t.isLt).2 (iblk m c 2 t) := by
  rw [outsAt0_C m c t (by omega) h]
  frame_out

/-- The carried sum at the last point of a run: the four points' columns. -/
theorem carried (c : Dev nD) (t : Fin cfg0.N) (h : t.val % 4 = 3) (j : S1x1056x1024.Idx) :
    (outsAt0 (F := Ideal) m c t.val t.isLt).2 j = (∑ s : Fin 4, part (iblk m c 0 ⟨4 * (t.val / 4) + s.val, Pipeline.run_point_lt_of_flush t h s⟩)
      (iblk m c 1 ⟨4 * (t.val / 4) + s.val, Pipeline.run_point_lt_of_flush t h s⟩) j : EReal) := by
  rw [Pipeline.eq_sum_fin_of_reset_step_apply_of_flush (fun n h => (outsAt0 m c n h).2) 4 (fun _ => 0)
      (fun p j => part (iblk m c 0 p) (iblk m c 1 p) j)
      (fun t h j => by rw [outsAt0_A m c t h (by omega)]; frame_out; rw [hpay, hzero])
      (fun t h j => by
        by_cases h1 : t.val % 4 = 3
        · rw [outsAt0_C m c t h h1]; frame_out; rw [hpay, read_unread_whole]
        · rw [outsAt0_B m c t h h1]; frame_out; rw [hpay, read_unread_whole])
      t h j, zero_add]

/-- … which is the whole product's entry. -/
theorem carried_dot (c : Dev nD) (t : Fin cfg0.N) (h : t.val % 4 = 3) (y : S1056x1024.Idx) (j : S4224x2048.Idx)
    (h0 : (j 0).val = t.val / 8 * 1056 + (y 0).val) (h1 : (j 1).val = t.val / 4 % 2 * 1024 + (y 1).val) :
    (outsAt0 (F := Ideal) m c t.val t.isLt).2 (ix3 0 (y 0) (y 1))
      = dot (m ((c : Thread nD τ).loc main_arg1)) (m ((c : Thread nD τ).loc main_arg2)) j := by
  rw [carried m c t h]
  unfold part dot
  refine Fin.sum_mul_add_congr fun s k hl => ?_
  blk_point [iblk, V, idx t, idx ⟨_, Pipeline.run_point_lt_of_flush t h s⟩]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, left3 m c t ((flush0_3 t).mp hf), hout,
    carried_dot m c t ((flush0_3 t).mp hf) _ (((cfg0.win 3).blk t).view.emb y) (by blk_simp [idx t]; try rfl) (by blk_simp [idx t]; try rfl), href]
  blk_point [iblk, V, idx t]

end Cert.Ffn.Down

end
-- ==== Proof.DActV.lean ====
/- The gradients of the gate and of the up projection: what the kernel leaves in its two results. -/
module

public import Idealize.ShloMosaic.Lib.Pipeline.ReadBack
public import proofs.«01_k».proof.Proof.Gen.DActIdeal.Frame
public import proofs.«01_k».proof.Proof.Gen.DActRefIdeal
public import proofs.«01_k».proof.Proof.Half
public import proofs.«01_k».proof.Proof.Row

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.DAct

open Cert.DActIdeal Cert.DActIdeal.Gen

variable (m : (ℓ : Loc nD τ sig) → Buf (Elt Ideal) ℓ)

/-- The reference's two terms over the four arguments. -/
abbrev REF0 (D2 : FVec Ideal S4224x2048 .f32) (WD : FVec Ideal S4x2x1408x2048 .bf16) (G U : FVec Ideal S4224x5632 .bf16) : FVec Ideal S4224x5632 .bf16 :=
  truncf .bf16 (addf (mulf (mulf (Host.dotGeneral Cert.DActRefIdeal.dot_S4224x2048_S5632x2048_S4224x5632_1_1_0_0_n_n none (mulf (broadcastInDim Cert.DActRefIdeal.S4224x2048 ![] Cert.DActRefIdeal.Gen.bcast_S_S4224x2048 (constant Cert.DActRefIdeal.S_ .f32 0x3F000000#32)) D2) (shapeCast _ (extf .f32 (shapeCast _ (extractStridedSlice Cert.DActRefIdeal.S4x1x1408x2048 ![0, 1, 0, 0] WD Cert.DActRefIdeal.Gen.slices_S4x2x1408x2048_S4x1x1408x2048_0_1_0_0) Cert.DActRefIdeal.Gen.shapeCasts_S4x1x1408x2048_S4x1408x2048) Cert.DActRefIdeal.Gen.bitsLt_bf16_f32) Cert.DActRefIdeal.Gen.shapeCasts_S4x1408x2048_S5632x2048)) (extf .f32 U Cert.DActRefIdeal.Gen.bitsLt_bf16_f32)) (Host.divf (broadcastInDim Cert.DActRefIdeal.S4224x5632 ![] Cert.DActRefIdeal.Gen.bcast_S_S4224x5632 (constant Cert.DActRefIdeal.S_ .f32 0x3F800000#32)) (addf (broadcastInDim Cert.DActRefIdeal.S4224x5632 ![] Cert.DActRefIdeal.Gen.bcast_S_S4224x5632 (constant Cert.DActRefIdeal.S_ .f32 0x3F800000#32)) (Host.exp (Host.negf (extf .f32 G Cert.DActRefIdeal.Gen.bitsLt_bf16_f32)))))) (mulf (mulf (extf .f32 G Cert.DActRefIdeal.Gen.bitsLt_bf16_f32) (mulf (Host.dotGeneral Cert.DActRefIdeal.dot_S4224x2048_S5632x2048_S4224x5632_1_1_0_0_n_n none (mulf (broadcastInDim Cert.DActRefIdeal.S4224x2048 ![] Cert.DActRefIdeal.Gen.bcast_S_S4224x2048 (constant Cert.DActRefIdeal.S_ .f32 0x3F000000#32)) D2) (shapeCast _ (extf .f32 (shapeCast _ (extractStridedSlice Cert.DActRefIdeal.S4x1x1408x2048 ![0, 1, 0, 0] WD Cert.DActRefIdeal.Gen.slices_S4x2x1408x2048_S4x1x1408x2048_0_1_0_0) Cert.DActRefIdeal.Gen.shapeCasts_S4x1x1408x2048_S4x1408x2048) Cert.DActRefIdeal.Gen.bitsLt_bf16_f32) Cert.DActRefIdeal.Gen.shapeCasts_S4x1408x2048_S5632x2048)) (extf .f32 U Cert.DActRefIdeal.Gen.bitsLt_bf16_f32))) (mulf (Host.divf (broadcastInDim Cert.DActRefIdeal.S4224x5632 ![] Cert.DActRefIdeal.Gen.bcast_S_S4224x5632 (constant Cert.DActRefIdeal.S_ .f32 0x3F800000#32)) (addf (broadcastInDim Cert.DActRefIdeal.S4224x5632 ![] Cert.DActRefIdeal.Gen.bcast_S_S4224x5632 (constant Cert.DActRefIdeal.S_ .f32 0x3F800000#32)) (Host.exp (Host.negf (extf .f32 G Cert.DActRefIdeal.Gen.bitsLt_bf16_f32))))) (subf (broadcastInDim Cert.DActRefIdeal.S4224x5632 ![] Cert.DActRefIdeal.Gen.bcast_S_S4224x5632 (constant Cert.DActRefIdeal.S_ .f32 0x3F800000#32)) (Host.divf (broadcastInDim Cert.DActRefIdeal.S4224x5632 ![] Cert.DActRefIdeal.Gen.bcast_S_S4224x5632 (constant Cert.DActRefIdeal.S_ .f32 0x3F800000#32)) (addf (broadcastInDim Cert.DActRefIdeal.S4224x5632 ![] Cert.DActRefIdeal.Gen.bcast_S_S4224x5632 (constant Cert.DActRefIdeal.S_ .f32 0x3F800000#32)) (Host.exp (Host.negf (extf .f32 G Cert.DActRefIdeal.Gen.bitsLt_bf16_f32))))))))) Cert.DActRefIdeal.Gen.bitsLt_bf16_f32

abbrev REF1 (D2 : FVec Ideal S4224x2048 .f32) (WD : FVec Ideal S4x2x1408x2048 .bf16) (G U : FVec Ideal S4224x5632 .bf16) : FVec Ideal S4224x5632 .bf16 :=
  truncf .bf16 (mulf (mulf (extf .f32 G Cert.DActRefIdeal.Gen.bitsLt_bf16_f32) (Host.divf (broadcastInDim Cert.DActRefIdeal.S4224x5632 ![] Cert.DActRefIdeal.Gen.bcast_S_S4224x5632 (constant Cert.DActRefIdeal.S_ .f32 0x3F800000#32)) (addf (broadcastInDim Cert.DActRefIdeal.S4224x5632 ![] Cert.DActRefIdeal.Gen.bcast_S_S4224x5632 (constant Cert.DActRefIdeal.S_ .f32 0x3F800000#32)) (Host.exp (Host.negf (extf .f32 G Cert.DActRefIdeal.Gen.bitsLt_bf16_f32)))))) (Host.dotGeneral Cert.DActRefIdeal.dot_S4224x2048_S5632x2048_S4224x5632_1_1_0_0_n_n none (mulf (broadcastInDim Cert.DActRefIdeal.S4224x2048 ![] Cert.DActRefIdeal.Gen.bcast_S_S4224x2048 (constant Cert.DActRefIdeal.S_ .f32 0x3F000000#32)) D2) (shapeCast _ (extf .f32 (shapeCast _ (extractStridedSlice Cert.DActRefIdeal.S4x1x1408x2048 ![0, 1, 0, 0] WD Cert.DActRefIdeal.Gen.slices_S4x2x1408x2048_S4x1x1408x2048_0_1_0_0) Cert.DActRefIdeal.Gen.shapeCasts_S4x1x1408x2048_S4x1408x2048) Cert.DActRefIdeal.Gen.bitsLt_bf16_f32) Cert.DActRefIdeal.Gen.shapeCasts_S4x1408x2048_S5632x2048))) Cert.DActRefIdeal.Gen.bitsLt_bf16_f32

theorem hzero (j : S1x704x1408.Idx) : k0_pay1 (F := Ideal) j = (0 : EReal) := by pointwise [k0_pay1]

/-- What one grid point adds: its columns of the product. -/
def part (x0 : FVec Ideal S704x1024 .f32) (x1 : FVec Ideal S1x1x1408x1024 .bf16) (j : S1x704x1408.Idx) : EReal :=
  ∑ k : Fin 1024, x0 (ix2 (j 1) k) * x1 (ix4 0 0 (j 2) k)

theorem hpay (acc : FVec Ideal S1x704x1408 .f32) (x0 : FVec Ideal S704x1024 .f32) (x1 : FVec Ideal S1x1x1408x1024 .bf16)
    (j : S1x704x1408.Idx) : k0_pay2 (F := Ideal) acc x0 x1 j = acc j + part x0 x1 j := by
  pointwise [k0_pay2, part]

/-- The logistic function as both programs compute it. -/
abbrev lgs (g : EReal) : EReal := Ideal.div 1 (1 + Ideal.exp (-g))

/-- One entry of the product of the rows' gradient with the down projection. -/
abbrev dot (D2 : FVec Ideal S4224x2048 .f32) (WD : FVec Ideal S4x2x1408x2048 .bf16) (j : S4224x5632.Idx) : EReal :=
  ∑ x : Fin 2048, D2 (ix2 (j 0) x) * WD (ix4 ⟨(j 1).val / 1408, by idx_bounds; omega⟩ 1 ⟨(j 1).val % 1408, by omega⟩ x)

/-- What the kernel computes: one factored form for the gate's gradient, and the up projection's. -/
def K0 (D2 : FVec Ideal S4224x2048 .f32) (WD : FVec Ideal S4x2x1408x2048 .bf16) (G U : FVec Ideal S4224x5632 .bf16) : FVec Ideal S4224x5632 .bf16 :=
  fun j => (Cert.Ffn.half * dot D2 WD j * U j * (lgs (G j) * (1 + G j * (1 - lgs (G j)))) : EReal)

def K1 (D2 : FVec Ideal S4224x2048 .f32) (WD : FVec Ideal S4x2x1408x2048 .bf16) (G : FVec Ideal S4224x5632 .bf16) : FVec Ideal S4224x5632 .bf16 :=
  fun j => (Cert.Ffn.half * dot D2 WD j * (G j * lgs (G j)) : EReal)

theorem h0 (D2 : FVec Ideal S4224x2048 .f32) (WD : FVec Ideal S4x2x1408x2048 .bf16) (G U : FVec Ideal S4224x5632 .bf16) (j : S4224x5632.Idx) :
    REF0 D2 WD G U j = Cert.Ffn.half * dot D2 WD j * U j * lgs (G j)
      + G j * (Cert.Ffn.half * dot D2 WD j * U j) * (lgs (G j) * (1 - lgs (G j))) := by
  rw [← Cert.Ffn.half_dot]
  pointwise [REF0]

theorem h1 (D2 : FVec Ideal S4224x2048 .f32) (WD : FVec Ideal S4x2x1408x2048 .bf16) (G U : FVec Ideal S4224x5632 .bf16) (j : S4224x5632.Idx) :
    REF1 D2 WD G U j = G j * lgs (G j) * (Cert.Ffn.half * dot D2 WD j) := by
  rw [← Cert.Ffn.half_dot]
  pointwise [REF1]

theorem coe_lgs (g : ℝ) : lgs (g : EReal) = ((1 / (1 + Real.exp (-g)) : ℝ) : EReal) := by
  have e : (1 : EReal) + Ideal.exp (-(g : EReal)) = ((1 + Real.exp (-g) : ℝ) : EReal) := by
    rw [← EReal.coe_neg, Cert.Attn.coe_exp, EReal.coe_add, EReal.coe_one]
  have h := Cert.Attn.coe_div 1 (1 + Real.exp (-g)) (by positivity)
  rw [EReal.coe_one] at h
  rw [lgs, e, h]

theorem coe_dot (D2 : FVec Ideal S4224x2048 .f32) (WD : FVec Ideal S4x2x1408x2048 .bf16)
    (h2 : ∀ i, ((EReal.toReal (D2 i) : ℝ) : EReal) = D2 i)
    (hw : ∀ (a : Fin 4) (b : Fin 1408) (d : Fin 2048), ((EReal.toReal (WD (ix4 a 1 b d)) : ℝ) : EReal) = WD (ix4 a 1 b d)) (j : S4224x5632.Idx) :
    ∃ d : ℝ, dot D2 WD j = (d : EReal) := by
  refine ⟨∑ x : Fin 2048, EReal.toReal (D2 (ix2 (j 0) x)) * EReal.toReal (WD (ix4 ⟨(j 1).val / 1408, by idx_bounds; omega⟩ 1 ⟨(j 1).val % 1408, by omega⟩ x)), ?_⟩
  rw [← Cert.Attn.coe_sum]
  refine Finset.sum_congr rfl fun x _ => ?_
  rw [EReal.coe_mul, h2, hw]

theorem lgs_top : lgs ⊤ = 1 := by
  have e : Ideal.exp ⊥ = 0 := rfl
  rw [lgs, EReal.neg_top, e]
  simp [Ideal.div]

theorem lgs_bot : lgs ⊥ = 0 := by
  have e : Ideal.exp ⊤ = ⊤ := rfl
  rw [lgs, EReal.neg_bot, e, EReal.add_top_of_ne_bot (by decide)]
  simp [Ideal.div]

/-- The two forms of the gate's gradient are the same number for a real factor, at every gate, the infinite ones too. -/
theorem gate (p : ℝ) (g : EReal) :
    (p : EReal) * (lgs g * (1 + g * (1 - lgs g))) = p * lgs g + g * p * (lgs g * (1 - lgs g)) := by
  have e : (1 : EReal) - 1 = 0 := by rw [← EReal.coe_one, ← EReal.coe_sub, sub_self, EReal.coe_zero]
  induction g with
  | bot => rw [lgs_bot]; simp
  | top => rw [lgs_top, e]; simp
  | coe g =>
    rw [coe_lgs]
    generalize 1 / (1 + Real.exp (-g)) = s
    norm_cast
    congr 1
    ring

/-- Where the rows' gradient, the weights and the up projection are real numbers the two forms of the gate's gradient are the same array. -/
theorem eq0 (D2 : FVec Ideal S4224x2048 .f32) (WD : FVec Ideal S4x2x1408x2048 .bf16) (G U : FVec Ideal S4224x5632 .bf16)
    (h2 : ∀ i, ((EReal.toReal (D2 i) : ℝ) : EReal) = D2 i)
    (hw : ∀ (a : Fin 4) (b : Fin 1408) (d : Fin 2048), ((EReal.toReal (WD (ix4 a 1 b d)) : ℝ) : EReal) = WD (ix4 a 1 b d))
    (hu : ∀ i, ((EReal.toReal (U i) : ℝ) : EReal) = U i) :
    K0 D2 WD G U = REF0 D2 WD G U := by
  funext j
  rw [h0]
  obtain ⟨d, hd⟩ := coe_dot D2 WD h2 hw j
  show (Cert.Ffn.half * dot D2 WD j * U j * (lgs (G j) * (1 + G j * (1 - lgs (G j)))) : EReal) = _
  rw [hd, ← hu j, Cert.Ffn.half_eq, ← EReal.coe_mul, ← EReal.coe_mul]
  exact gate _ _

theorem eq1 (D2 : FVec Ideal S4224x2048 .f32) (WD : FVec Ideal S4x2x1408x2048 .bf16) (G U : FVec Ideal S4224x5632 .bf16) :
    K1 D2 WD G = REF1 D2 WD G U := by
  funext j
  rw [h1]
  exact mul_comm (Cert.Ffn.half * dot D2 WD j) _

theorem ho0 (v : FVec Ideal S1x704x1408 .f32) (g u : FVec Ideal S704x1408 .bf16) (j : S704x1408.Idx) :
    k0_pay6 (F := Ideal) v g u j = Cert.Ffn.half * v (ix3 0 (j 0) (j 1)) * u j * (lgs (g j) * (1 + g j * (1 - lgs (g j)))) := by
  unfold lgs
  rw [← Cert.Ffn.zero_sub']
  pointwise [k0_pay6, k0_pay5, k0_pay4, k0_pay3]

theorem ho1 (v : FVec Ideal S1x704x1408 .f32) (g : FVec Ideal S704x1408 .bf16) (j : S704x1408.Idx) :
    k0_pay7 (F := Ideal) v g j = Cert.Ffn.half * v (ix3 0 (j 0) (j 1)) * (g j * lgs (g j)) := by
  unfold lgs
  rw [← Cert.Ffn.zero_sub']
  pointwise [k0_pay7, k0_pay5, k0_pay4, k0_pay3]

theorem idx : ∀ t : Fin cfg0.N, win0_0.index t = ![t.val / 8, t.val % 2] ∧ win0_1.index t = ![t.val / 2 % 4, 1, 0, t.val % 2]
    ∧ win0_2.index t = ![t.val / 8, t.val / 2 % 4] ∧ win0_3.index t = ![t.val / 8, t.val / 2 % 4]
    ∧ win0_4.index t = ![t.val / 8, t.val / 2 % 4] ∧ win0_5.index t = ![t.val / 8, t.val / 2 % 4] :=
  (by decide +kernel : ∀ t : Fin grid0.N, _)

/-- The last point of a run stores both gradients from the sum it has carried. -/
theorem left4 (c : Dev nD) (t : Fin cfg0.N) (h : t.val % 2 = 1) :
    (outsAt0 (F := Ideal) m c t.val t.isLt).1 = k0_pay6 (F := Ideal) (outsAt0 (F := Ideal) m c t.val t.isLt).2.2 (iblk m c 2 t) (iblk m c 3 t) := by
  rw [outsAt0_B m c t (by omega) h]
  frame_out

theorem left5 (c : Dev nD) (t : Fin cfg0.N) (h : t.val % 2 = 1) :
    (outsAt0 (F := Ideal) m c t.val t.isLt).2.1 = k0_pay7 (F := Ideal) (outsAt0 (F := Ideal) m c t.val t.isLt).2.2 (iblk m c 2 t) := by
  rw [outsAt0_B m c t (by omega) h]
  frame_out

/-- The carried sum at the last point of a run: both points' columns. -/
theorem carried (c : Dev nD) (t : Fin cfg0.N) (h : t.val % 2 = 1) (j : S1x704x1408.Idx) :
    (outsAt0 (F := Ideal) m c t.val t.isLt).2.2 j = (∑ s : Fin 2, part (iblk m c 0 ⟨2 * (t.val / 2) + s.val, Pipeline.run_point_lt_of_flush t h s⟩)
      (iblk m c 1 ⟨2 * (t.val / 2) + s.val, Pipeline.run_point_lt_of_flush t h s⟩) j : EReal) := by
  rw [Pipeline.eq_sum_fin_of_reset_step_apply_of_flush (fun n h => (outsAt0 m c n h).2.2) 2 (fun _ => 0)
      (fun p j => part (iblk m c 0 p) (iblk m c 1 p) j)
      (fun t h j => by rw [outsAt0_A m c t h (by omega)]; frame_out; rw [hpay, hzero])
      (fun t h j => by rw [outsAt0_B m c t h (by omega)]; frame_out; rw [hpay, read_unread_whole])
      t h j, zero_add]

/-- … which is the whole product's entry. -/
theorem carried_dot (c : Dev nD) (t : Fin cfg0.N) (h : t.val % 2 = 1) (y : S704x1408.Idx) (j : S4224x5632.Idx)
    (h0 : (j 0).val = t.val / 8 * 704 + (y 0).val) (h1 : (j 1).val = t.val / 2 % 4 * 1408 + (y 1).val) :
    (outsAt0 (F := Ideal) m c t.val t.isLt).2.2 (ix3 0 (y 0) (y 1))
      = dot (m ((c : Thread nD τ).loc main_arg0)) (m ((c : Thread nD τ).loc main_arg1)) j := by
  rw [carried m c t h]
  unfold part dot
  refine Fin.sum_mul_add_congr fun s k hl => ?_
  blk_point [iblk, V, idx t, idx ⟨_, Pipeline.run_point_lt_of_flush t h s⟩]

theorem final4 (c : Dev nD) : (dats m 0 c).arrAt 4 (cfgs 0).N
    = K0 (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, left4 m c t ((flush0_4 t).mp hf), ho0,
    carried_dot m c t ((flush0_4 t).mp hf) _ (((cfg0.win 4).blk t).view.emb y) (by blk_simp [idx t]; try rfl) (by blk_simp [idx t]; try rfl)]
  unfold K0
  blk_point [iblk, V, idx t]

theorem final5 (c : Dev nD) : (dats m 0 c).arrAt 5 (cfgs 0).N
    = K1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, left5 m c t ((flush0_5 t).mp hf), ho1,
    carried_dot m c t ((flush0_5 t).mp hf) _ (((cfg0.win 5).blk t).view.emb y) (by blk_simp [idx t]; try rfl) (by blk_simp [idx t]; try rfl)]
  unfold K1
  blk_point [iblk, V, idx t]

end Cert.Ffn.DAct

end
-- ==== Proof.DDownV.lean ====
/- The gradient of the down projection: what the kernel leaves in its result. -/
module

public import proofs.«01_k».proof.Proof.Gen.DDownIdeal.Frame
public import proofs.«01_k».proof.Proof.Gen.DDownRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.DDown

open Cert.DDownIdeal Cert.DDownIdeal.Gen

variable (m : (ℓ : Loc nD τ sig) → Buf (Elt Ideal) ℓ)

/-- The reference's term over the three arguments. -/
abbrev REF (A : FVec Ideal S4224x5632 .bf16) (D2 : FVec Ideal S4224x2048 .f32) (GD : FVec Ideal S4x2x1408x2048 .bf16) : FVec Ideal S4x2x1408x2048 .bf16 :=
  concatenate Cert.DDownRefIdeal.S4x2x1408x2048 1 [⟨Cert.DDownRefIdeal.S4x1x1408x2048, (broadcastInDim Cert.DDownRefIdeal.S4x1x1408x2048 ![0, 2, 3] Cert.DDownRefIdeal.Gen.bcast_S4x1408x2048_S4x1x1408x2048_0_2_3 (shapeCast _ (extractStridedSlice Cert.DDownRefIdeal.S4x1x1408x2048 ![0, 0, 0, 0] GD Cert.DDownRefIdeal.Gen.slices_S4x2x1408x2048_S4x1x1408x2048_0_0_0_0) Cert.DDownRefIdeal.Gen.shapeCasts_S4x1x1408x2048_S4x1408x2048))⟩, ⟨Cert.DDownRefIdeal.S4x1x1408x2048, (broadcastInDim Cert.DDownRefIdeal.S4x1x1408x2048 ![0, 2, 3] Cert.DDownRefIdeal.Gen.bcast_S4x1408x2048_S4x1x1408x2048_0_2_3 (truncf .bf16 (shapeCast _ (transpose Cert.DDownRefIdeal.S5632x2048 [1, 0] (Host.dotGeneral Cert.DDownRefIdeal.dot_S4224x2048_S4224x5632_S2048x5632_0_0_1_1_n_n none (mulf (broadcastInDim Cert.DDownRefIdeal.S4224x2048 ![] Cert.DDownRefIdeal.Gen.bcast_S_S4224x2048 (constant Cert.DDownRefIdeal.S_ .f32 0x3F000000#32)) D2) (extf .f32 A Cert.DDownRefIdeal.Gen.bitsLt_bf16_f32)) Cert.DDownRefIdeal.Gen.transposes_S2048x5632_S5632x2048_1_0) Cert.DDownRefIdeal.Gen.shapeCasts_S5632x2048_S4x1408x2048) Cert.DDownRefIdeal.Gen.bitsLt_bf16_f32))⟩] Cert.DDownRefIdeal.Gen.concatenates_S4x1x1408x2048_S4x1x1408x2048_S4x2x1408x2048_d1

theorem hzero (j : S1x1408x1024.Idx) : k0_pay1 (F := Ideal) j = (0 : EReal) := by pointwise [k0_pay1]

/-- What one grid point adds: its rows of the product. -/
def part (x0 : FVec Ideal S1408x1408 .bf16) (x1 : FVec Ideal S1408x1024 .f32) (j : S1x1408x1024.Idx) : EReal :=
  ∑ k : Fin 1408, x0 (ix2 k (j 1)) * x1 (ix2 k (j 2))

theorem hpay (acc : FVec Ideal S1x1408x1024 .f32) (x0 : FVec Ideal S1408x1408 .bf16) (x1 : FVec Ideal S1408x1024 .f32)
    (j : S1x1408x1024.Idx) : k0_pay2 (F := Ideal) acc x0 x1 j = acc j + part x0 x1 j := by
  pointwise [k0_pay2, part]

/-- One entry of the weight's gradient, before its half. -/
abbrev dot (A : FVec Ideal S4224x5632 .bf16) (D2 : FVec Ideal S4224x2048 .f32) (j : S4x2x1408x2048.Idx) : EReal :=
  ∑ x : Fin 4224, D2 (ix2 x (j 3)) * A (ix2 x ⟨(j 0).val * 1408 + (j 2).val, by idx_bounds; omega⟩)

theorem href (A : FVec Ideal S4224x5632 .bf16) (D2 : FVec Ideal S4224x2048 .f32) (GD : FVec Ideal S4x2x1408x2048 .bf16) (j : S4x2x1408x2048.Idx) :
    REF A D2 GD j = if (j 1).val < 1 then GD (ix4 (j 0) 0 (j 2) (j 3)) else Cert.Ffn.half * dot A D2 j := by
  rw [← Cert.Ffn.half_dot]
  pointwise [REF]
  split_ifs <;> rfl

theorem hout (v : FVec Ideal S1x1408x1024 .f32) (j : S1x1x1408x1024.Idx) :
    k0_pay3 (F := Ideal) v j = Cert.Ffn.half * v (ix3 0 (j 2) (j 3)) := by
  pointwise [k0_pay3]

theorem idx : ∀ t : Fin cfg0.N, win0_0.index t = ![t.val % 3, t.val / 6] ∧ win0_1.index t = ![t.val % 3, t.val / 3 % 2]
    ∧ win0_2.index t = ![t.val / 6, 1, 0, t.val / 3 % 2] :=
  (by decide +kernel : ∀ t : Fin grid0.N, _)

/-- The last point of a run stores half of the sum it has carried. -/
theorem left2 (c : Dev nD) (t : Fin cfg0.N) (h : t.val % 3 = 2) :
    (outsAt0 (F := Ideal) m c t.val t.isLt).1 = k0_pay3 (F := Ideal) (outsAt0 (F := Ideal) m c t.val t.isLt).2 := by
  rw [outsAt0_C m c t (by omega) h]
  frame_out

/-- The carried sum at the last point of a run: the three points' rows. -/
theorem carried (c : Dev nD) (t : Fin cfg0.N) (h : t.val % 3 = 2) (j : S1x1408x1024.Idx) :
    (outsAt0 (F := Ideal) m c t.val t.isLt).2 j = (∑ s : Fin 3, part (iblk m c 0 ⟨3 * (t.val / 3) + s.val, Pipeline.run_point_lt_of_flush t h s⟩)
      (iblk m c 1 ⟨3 * (t.val / 3) + s.val, Pipeline.run_point_lt_of_flush t h s⟩) j : EReal) := by
  rw [Pipeline.eq_sum_fin_of_reset_step_apply_of_flush (fun n h => (outsAt0 m c n h).2) 3 (fun _ => 0)
      (fun p j => part (iblk m c 0 p) (iblk m c 1 p) j)
      (fun t h j => by rw [outsAt0_A m c t h (by omega)]; frame_out; rw [hpay, hzero])
      (fun t h j => by
        by_cases h1 : t.val % 3 = 2
        · rw [outsAt0_C m c t h h1]; frame_out; rw [hpay, read_unread_whole]
        · rw [outsAt0_B m c t h h1]; frame_out; rw [hpay, read_unread_whole])
      t h j, zero_add]

/-- … which is the whole product's entry. -/
theorem carried_dot (c : Dev nD) (t : Fin cfg0.N) (h : t.val % 3 = 2) (y : S1x1x1408x1024.Idx) (j : S4x2x1408x2048.Idx)
    (h0 : (j 0).val = t.val / 6) (h2 : (j 2).val = (y 2).val) (h3 : (j 3).val = t.val / 3 % 2 * 1024 + (y 3).val) :
    (outsAt0 (F := Ideal) m c t.val t.isLt).2 (ix3 0 (y 2) (y 3))
      = dot (m ((c : Thread nD τ).loc main_arg0)) (m ((c : Thread nD τ).loc main_arg1)) j := by
  rw [carried m c t h]
  unfold part dot
  refine Fin.sum_mul_add_congr fun s k hl => ?_
  refine (mul_comm (_ : EReal) _).trans ?_
  blk_point [iblk, V, idx t, idx ⟨_, Pipeline.run_point_lt_of_flush t h s⟩]

theorem entry (c : Dev nD) : V m c main_v0 = m ((c : Thread nD τ).loc main_arg2) := by
  unfold V
  after_results
  try rfl

theorem final2 (c : Dev nD) : (dats m 0 c).arrAt 2 (cfgs 0).N
    = fun i => if (i 1).val = 1 then REF (m ((c : Thread nD τ).loc main_arg0)) (m ((c : Thread nD τ).loc main_arg1))
        (m ((c : Thread nD τ).loc main_arg2)) i else V m c main_v0 i := by
  refine (dats m 0 c).arrAt_eq_of_coversWhere 2 _ (fun β => β 1 = 1) (by decide +kernel) (fun t hf y => ?_)
    (fun j => by blk_simp [Pipeline.Window.cell_apply]; try omega)
  blk_simp
  rw [after0_2, left2 m c t ((flush0_2 t).mp hf), hout,
    carried_dot m c t ((flush0_2 t).mp hf) _ (((cfg0.win 2).blk t).view.emb y) (by blk_simp [idx t] <;> (idx_bounds; omega))
      (by blk_simp [idx t]; try omega) (by blk_simp [idx t]; try omega), href]
  rw [if_neg (by blk_simp [idx t] <;> (idx_bounds; omega))]

/-- The result array is the reference's. -/
theorem final (c : Dev nD) : (dats m 0 c).arrAt 2 (cfgs 0).N
    = REF (m ((c : Thread nD τ).loc main_arg0)) (m ((c : Thread nD τ).loc main_arg1)) (m ((c : Thread nD τ).loc main_arg2)) := by
  rw [final2]
  funext i
  by_cases h : (i 1).val = 1
  · exact if_pos h
  · refine (if_neg h).trans ?_
    rw [entry, href, if_pos (by idx_bounds; omega)]
    blk_ext

end Cert.Ffn.DDown

end
-- ==== Proof.DGateUpV.lean ====
/- The gradients of the gate and up projections: what the kernel leaves in its two results. -/
module

public import proofs.«01_k».proof.Proof.Gen.DGateUpIdeal.Frame
public import proofs.«01_k».proof.Proof.Gen.DGateUpRefIdeal
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.DGateUp

open Cert.DGateUpIdeal Cert.DGateUpIdeal.Gen

variable (m : (ℓ : Loc nD τ sig) → Buf (Elt Ideal) ℓ)

/-- The reference's two terms over the arguments. -/
abbrev REF0 (NX : FVec Ideal S4224x2048 .bf16) (DG : FVec Ideal S4224x5632 .bf16) (GG : FVec Ideal S4x2x2048x1408 .bf16) : FVec Ideal S4x2x2048x1408 .bf16 :=
  concatenate Cert.DGateUpRefIdeal.S4x2x2048x1408 1 [⟨Cert.DGateUpRefIdeal.S4x1x2048x1408, (broadcastInDim Cert.DGateUpRefIdeal.S4x1x2048x1408 ![0, 2, 3] Cert.DGateUpRefIdeal.Gen.bcast_S4x2048x1408_S4x1x2048x1408_0_2_3 (shapeCast _ (extractStridedSlice Cert.DGateUpRefIdeal.S4x1x2048x1408 ![0, 0, 0, 0] GG Cert.DGateUpRefIdeal.Gen.slices_S4x2x2048x1408_S4x1x2048x1408_0_0_0_0) Cert.DGateUpRefIdeal.Gen.shapeCasts_S4x1x2048x1408_S4x2048x1408))⟩, ⟨Cert.DGateUpRefIdeal.S4x1x2048x1408, (broadcastInDim Cert.DGateUpRefIdeal.S4x1x2048x1408 ![0, 2, 3] Cert.DGateUpRefIdeal.Gen.bcast_S4x2048x1408_S4x1x2048x1408_0_2_3 (truncf .bf16 (transpose Cert.DGateUpRefIdeal.S4x2048x1408 [1, 0, 2] (shapeCast _ (transpose Cert.DGateUpRefIdeal.S2048x5632 [1, 0] (Host.dotGeneral Cert.DGateUpRefIdeal.dot_S4224x5632_S4224x2048_S5632x2048_0_0_1_1_n_n none (extf .f32 DG Cert.DGateUpRefIdeal.Gen.bitsLt_bf16_f32) (extf .f32 NX Cert.DGateUpRefIdeal.Gen.bitsLt_bf16_f32)) Cert.DGateUpRefIdeal.Gen.transposes_S5632x2048_S2048x5632_1_0) Cert.DGateUpRefIdeal.Gen.shapeCasts_S2048x5632_S2048x4x1408) Cert.DGateUpRefIdeal.Gen.transposes_S2048x4x1408_S4x2048x1408_1_0_2) Cert.DGateUpRefIdeal.Gen.bitsLt_bf16_f32))⟩] Cert.DGateUpRefIdeal.Gen.concatenates_S4x1x2048x1408_S4x1x2048x1408_S4x2x2048x1408_d1

abbrev REF1 (NX : FVec Ideal S4224x2048 .bf16) (DU : FVec Ideal S4224x5632 .bf16) (GU : FVec Ideal S4x2x2048x1408 .bf16) : FVec Ideal S4x2x2048x1408 .bf16 :=
  concatenate Cert.DGateUpRefIdeal.S4x2x2048x1408 1 [⟨Cert.DGateUpRefIdeal.S4x1x2048x1408, (broadcastInDim Cert.DGateUpRefIdeal.S4x1x2048x1408 ![0, 2, 3] Cert.DGateUpRefIdeal.Gen.bcast_S4x2048x1408_S4x1x2048x1408_0_2_3 (shapeCast _ (extractStridedSlice Cert.DGateUpRefIdeal.S4x1x2048x1408 ![0, 0, 0, 0] GU Cert.DGateUpRefIdeal.Gen.slices_S4x2x2048x1408_S4x1x2048x1408_0_0_0_0) Cert.DGateUpRefIdeal.Gen.shapeCasts_S4x1x2048x1408_S4x2048x1408))⟩, ⟨Cert.DGateUpRefIdeal.S4x1x2048x1408, (broadcastInDim Cert.DGateUpRefIdeal.S4x1x2048x1408 ![0, 2, 3] Cert.DGateUpRefIdeal.Gen.bcast_S4x2048x1408_S4x1x2048x1408_0_2_3 (truncf .bf16 (transpose Cert.DGateUpRefIdeal.S4x2048x1408 [1, 0, 2] (shapeCast _ (transpose Cert.DGateUpRefIdeal.S2048x5632 [1, 0] (Host.dotGeneral Cert.DGateUpRefIdeal.dot_S4224x5632_S4224x2048_S5632x2048_0_0_1_1_n_n none (extf .f32 DU Cert.DGateUpRefIdeal.Gen.bitsLt_bf16_f32) (extf .f32 NX Cert.DGateUpRefIdeal.Gen.bitsLt_bf16_f32)) Cert.DGateUpRefIdeal.Gen.transposes_S5632x2048_S2048x5632_1_0) Cert.DGateUpRefIdeal.Gen.shapeCasts_S2048x5632_S2048x4x1408) Cert.DGateUpRefIdeal.Gen.transposes_S2048x4x1408_S4x2048x1408_1_0_2) Cert.DGateUpRefIdeal.Gen.bitsLt_bf16_f32))⟩] Cert.DGateUpRefIdeal.Gen.concatenates_S4x1x2048x1408_S4x1x2048x1408_S4x2x2048x1408_d1

theorem hzero (j : S2x512x1408.Idx) : k0_pay1 (F := Ideal) j = (0 : EReal) := by pointwise [k0_pay1]

/-- What one grid point adds to a sum: its rows of the product. -/
def part (x0 : FVec Ideal S1408x512 .bf16) (x1 : FVec Ideal S1408x1408 .bf16) (a : Fin 512) (b : Fin 1408) : EReal :=
  ∑ k : Fin 1408, x0 (ix2 k a) * x1 (ix2 k b)

theorem hpay0 (acc : FVec Ideal S1x512x1408 .f32) (x0 : FVec Ideal S1408x512 .bf16) (x1 : FVec Ideal S1408x1408 .bf16)
    (j : S1x512x1408.Idx) : k0_pay2 (F := Ideal) acc x0 x1 j = acc j + part x0 x1 (j 1) (j 2) := by
  pointwise [k0_pay2, part]

theorem hpay1 (acc : FVec Ideal S1x512x1408 .f32) (x0 : FVec Ideal S1408x512 .bf16) (x1 : FVec Ideal S1408x1408 .bf16)
    (j : S1x512x1408.Idx) : k0_pay3 (F := Ideal) acc x0 x1 j = acc j + part x0 x1 (j 1) (j 2) := by
  pointwise [k0_pay3, part]

/-- One entry of a product, as the reference orders its factors. -/
abbrev dot (NX : FVec Ideal S4224x2048 .bf16) (DG : FVec Ideal S4224x5632 .bf16) (j : S4x2x2048x1408.Idx) : EReal :=
  ∑ x : Fin 4224, DG (ix2 x ⟨(j 0).val * 1408 + (j 3).val, by idx_bounds; omega⟩) * NX (ix2 x (j 2))

theorem href0 (NX : FVec Ideal S4224x2048 .bf16) (DG : FVec Ideal S4224x5632 .bf16) (GG : FVec Ideal S4x2x2048x1408 .bf16) (j : S4x2x2048x1408.Idx) :
    REF0 NX DG GG j = if (j 1).val < 1 then GG (ix4 (j 0) 0 (j 2) (j 3)) else dot NX DG j := by
  pointwise [REF0]
  split_ifs <;> rfl

theorem href1 (NX : FVec Ideal S4224x2048 .bf16) (DU : FVec Ideal S4224x5632 .bf16) (GU : FVec Ideal S4x2x2048x1408 .bf16) (j : S4x2x2048x1408.Idx) :
    REF1 NX DU GU j = if (j 1).val < 1 then GU (ix4 (j 0) 0 (j 2) (j 3)) else dot NX DU j := by
  pointwise [REF1]
  split_ifs <;> rfl

theorem hout0 (v : FVec Ideal S1x512x1408 .f32) (j : S1x1x512x1408.Idx) :
    k0_pay4 (F := Ideal) v j = v (ix3 0 (j 2) (j 3)) := by
  pointwise [k0_pay4]

theorem hout1 (v : FVec Ideal S1x512x1408 .f32) (j : S1x1x512x1408.Idx) :
    k0_pay5 (F := Ideal) v j = v (ix3 0 (j 2) (j 3)) := by
  pointwise [k0_pay5]

theorem idx : ∀ t : Fin cfg0.N, win0_0.index t = ![t.val % 3, t.val / 12] ∧ win0_1.index t = ![t.val % 3, t.val / 12]
    ∧ win0_2.index t = ![t.val % 3, t.val / 3 % 4] ∧ win0_3.index t = ![t.val % 3, t.val / 3 % 4]
    ∧ win0_4.index t = ![t.val / 3 % 4, 1, t.val / 12, 0] ∧ win0_5.index t = ![t.val / 3 % 4, 1, t.val / 12, 0] :=
  (by decide +kernel : ∀ t : Fin grid0.N, _)
/-- The two carried sums. -/
abbrev sc (c : Dev nD) (n : ℕ) (h : n < cfg0.N) : FVec Ideal S2x512x1408 .f32 := (outsAt0 (F := Ideal) m c n h).2.2

theorem inb0 : ∀ a : Fin S2x512x1408.rank, (![0, 0, 0] : Fin 3 → ℕ) a + (![1, 512, 1408] : Fin 3 → ℕ) a ≤ S2x512x1408.size a := by decide
theorem inb1 : ∀ a : Fin S2x512x1408.rank, (![1, 0, 0] : Fin 3 → ℕ) a + (![1, 512, 1408] : Fin 3 → ℕ) a ≤ S2x512x1408.size a := by decide

/-- The carried buffer's first half, the gate's sum, -/
abbrev r0 : Rect S2x512x1408 := Rect.unit ![0, 0, 0] ![1, 512, 1408] inb0
/-- and its second half, the up projection's. -/
abbrev r1 : Rect S2x512x1408 := Rect.unit ![1, 0, 0] ![1, 512, 1408] inb1

theorem emb0 (a : Fin 512) (b : Fin 1408) : r0.emb (ix3 0 a b : S1x512x1408.Idx) = ix3 (0 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem emb1 (a : Fin 512) (b : Fin 1408) : r1.emb (ix3 0 a b : S1x512x1408.Idx) = ix3 (1 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem canonEmb {S : Shape} (r : Rect S) (w : r.shape.Idx → Elt Ideal .f32) (L : List (View.Piece (Elt Ideal) S .f32))
    (x : r.shape.Idx) (y : S.Idx) (h : r.emb x = y) : View.canon (⟨r, w⟩ :: L) y = w x := by
  rw [← h]; exact View.canon_cons_emb r w L x

theorem canonSkip {S : Shape} (r : Rect S) (w : r.shape.Idx → Elt Ideal .f32) (L : List (View.Piece (Elt Ideal) S .f32))
    (y : S.Idx) (h : y ∉ r.set) : View.canon (⟨r, w⟩ :: L) y = View.canon L y :=
  View.canon_cons_of_not_mem ⟨r, w⟩ L h

theorem not1 (a : Fin 512) (b : Fin 1408) : (ix3 (0 : Fin 2) a b : S2x512x1408.Idx) ∉ r1.set := by
  intro h
  have h' : 1 ≤ 0 := (Rect.mem_set_unit.mp h 0).1
  omega

theorem canon1 (w : FVec Ideal S1x512x1408 .f32) (L : List (View.Piece (Elt Ideal) S2x512x1408 .f32)) (a : Fin 512) (b : Fin 1408) :
    View.canon (⟨r1, w⟩ :: L) (ix3 (1 : Fin 2) a b) = w (ix3 0 a b) :=
  canonEmb r1 w L (ix3 0 a b) _ (emb1 a b)

theorem canon0 (w : FVec Ideal S1x512x1408 .f32) (L : List (View.Piece (Elt Ideal) S2x512x1408 .f32)) (a : Fin 512) (b : Fin 1408) :
    View.canon (⟨r0, w⟩ :: L) (ix3 (0 : Fin 2) a b) = w (ix3 0 a b) :=
  canonEmb r0 w L (ix3 0 a b) _ (emb0 a b)

theorem skip1 (w : FVec Ideal S1x512x1408 .f32) (L : List (View.Piece (Elt Ideal) S2x512x1408 .f32)) (a : Fin 512) (b : Fin 1408) :
    View.canon (⟨r1, w⟩ :: L) (ix3 (0 : Fin 2) a b) = View.canon L (ix3 (0 : Fin 2) a b) :=
  canonSkip r1 w L _ (not1 a b)

theorem tA0 (c : Dev nD) (t : Fin cfg0.N) (h : t.val % 3 = 0) (a : Fin 512) (b : Fin 1408) :
    sc m c t.val t.isLt (ix3 0 a b) = (0 + part (iblk m c 0 t) (iblk m c 2 t) a b : EReal) := by
  unfold sc
  rw [outsAt0_A m c t h (by omega)]
  frame_out
  refine (skip1 _ _ a b).trans ((canon0 _ _ a b).trans ?_)
  rw [hpay0, View.readCov_fill _ _ _ _ _ (by decide)]
  exact congrArg (· + _) (hzero _)

theorem tA1 (c : Dev nD) (t : Fin cfg0.N) (h : t.val % 3 = 0) (a : Fin 512) (b : Fin 1408) :
    sc m c t.val t.isLt (ix3 1 a b) = (0 + part (iblk m c 1 t) (iblk m c 3 t) a b : EReal) := by
  unfold sc
  rw [outsAt0_A m c t h (by omega)]
  frame_out
  refine (canon1 _ _ a b).trans ?_
  rw [hpay1, View.readCov_skip _ _ _ _ _ (by decide), View.readCov_fill _ _ _ _ _ (by decide)]
  exact congrArg (· + _) (hzero _)

theorem tS0 (c : Dev nD) (t : Fin cfg0.N) (h : ¬ t.val % 3 = 0) (a : Fin 512) (b : Fin 1408) :
    sc m c t.val t.isLt (ix3 0 a b) = (sc m c (t.val - 1) (by omega) (ix3 0 a b) + part (iblk m c 0 t) (iblk m c 2 t) a b : EReal) := by
  unfold sc
  by_cases h1 : t.val % 3 = 2
  · rw [outsAt0_C m c t h h1]
    frame_out
    refine (skip1 _ _ a b).trans ((canon0 _ _ a b).trans ?_)
    rw [hpay0, read_unread_whole]
    exact congrArg (· + _) (congrArg _ (emb0 a b))
  · rw [outsAt0_B m c t h h1]
    frame_out
    refine (skip1 _ _ a b).trans ((canon0 _ _ a b).trans ?_)
    rw [hpay0, read_unread_whole]
    exact congrArg (· + _) (congrArg _ (emb0 a b))

theorem tS1 (c : Dev nD) (t : Fin cfg0.N) (h : ¬ t.val % 3 = 0) (a : Fin 512) (b : Fin 1408) :
    sc m c t.val t.isLt (ix3 1 a b) = (sc m c (t.val - 1) (by omega) (ix3 1 a b) + part (iblk m c 1 t) (iblk m c 3 t) a b : EReal) := by
  unfold sc
  by_cases h1 : t.val % 3 = 2
  · rw [outsAt0_C m c t h h1]
    frame_out
    refine (canon1 _ _ a b).trans ?_
    rw [hpay1, read_unread_whole]
    exact congrArg (· + _) (congrArg _ (emb1 a b))
  · rw [outsAt0_B m c t h h1]
    frame_out
    refine (canon1 _ _ a b).trans ?_
    rw [hpay1, read_unread_whole]
    exact congrArg (· + _) (congrArg _ (emb1 a b))

theorem left4 (c : Dev nD) (t : Fin cfg0.N) (h : t.val % 3 = 2) :
    (outsAt0 (F := Ideal) m c t.val t.isLt).1 = k0_pay4 (F := Ideal) (View.ld (sc m c t.val t.isLt) r0) := by
  unfold sc
  rw [outsAt0_C m c t (by omega) h]
  frame_out
  rw [View.readCov_eq_canon']

theorem left5 (c : Dev nD) (t : Fin cfg0.N) (h : t.val % 3 = 2) :
    (outsAt0 (F := Ideal) m c t.val t.isLt).2.1 = k0_pay5 (F := Ideal) (View.ld (sc m c t.val t.isLt) r1) := by
  unfold sc
  rw [outsAt0_C m c t (by omega) h]
  frame_out
  rw [View.readCov_eq_canon']

/-- The first half at the last point of a run: the three points' rows. -/
theorem carried0 (c : Dev nD) (t : Fin cfg0.N) (h : t.val % 3 = 2) (a : Fin 512) (b : Fin 1408) :
    sc m c t.val t.isLt (ix3 0 a b) = (∑ s : Fin 3, part (iblk m c 0 ⟨3 * (t.val / 3) + s.val, Pipeline.run_point_lt_of_flush t h s⟩)
      (iblk m c 2 ⟨3 * (t.val / 3) + s.val, Pipeline.run_point_lt_of_flush t h s⟩) a b : EReal) := by
  have e := Pipeline.eq_sum_fin_of_reset_step_apply_of_flush (fun n h (_ : Unit) => (sc m c n h (ix3 0 a b) : EReal)) 3 (fun _ => 0)
      (fun p _ => part (iblk m c 0 p) (iblk m c 2 p) a b)
      (fun t h _ => tA0 m c t h a b) (fun t h _ => tS0 m c t h a b) t h ()
  rw [zero_add] at e
  exact e

/-- … which is the whole product's entry. -/
theorem carried_dot0 (c : Dev nD) (t : Fin cfg0.N) (h : t.val % 3 = 2) (y : S1x1x512x1408.Idx) (j : S4x2x2048x1408.Idx)
    (h0 : (j 0).val = t.val / 3 % 4) (h2 : (j 2).val = t.val / 12 * 512 + (y 2).val) (h3 : (j 3).val = (y 3).val) :
    (View.ld (Val := Elt Ideal) (e' := .f32) (sc m c t.val t.isLt) r0 : FVec Ideal S1x512x1408 .f32) (ix3 0 (y 2) (y 3)) = dot (m ((c : Thread nD τ).loc main_arg0)) (m ((c : Thread nD τ).loc main_arg1)) j := by
  refine (congrArg (sc m c t.val t.isLt) (emb0 (y 2) (y 3))).trans ((carried0 m c t h (y 2) (y 3)).trans ?_)
  unfold part dot
  refine Fin.sum_mul_add_congr fun s k hl => ?_
  refine (mul_comm (_ : EReal) _).trans ?_
  blk_point [iblk, V, idx t, idx ⟨_, Pipeline.run_point_lt_of_flush t h s⟩]

/-- The second half at the last point of a run. -/
theorem carried1 (c : Dev nD) (t : Fin cfg0.N) (h : t.val % 3 = 2) (a : Fin 512) (b : Fin 1408) :
    sc m c t.val t.isLt (ix3 1 a b) = (∑ s : Fin 3, part (iblk m c 1 ⟨3 * (t.val / 3) + s.val, Pipeline.run_point_lt_of_flush t h s⟩)
      (iblk m c 3 ⟨3 * (t.val / 3) + s.val, Pipeline.run_point_lt_of_flush t h s⟩) a b : EReal) := by
  have e := Pipeline.eq_sum_fin_of_reset_step_apply_of_flush (fun n h (_ : Unit) => (sc m c n h (ix3 1 a b) : EReal)) 3 (fun _ => 0)
      (fun p _ => part (iblk m c 1 p) (iblk m c 3 p) a b)
      (fun t h _ => tA1 m c t h a b) (fun t h _ => tS1 m c t h a b) t h ()
  rw [zero_add] at e
  exact e

/-- … which is the whole product's entry. -/
theorem carried_dot1 (c : Dev nD) (t : Fin cfg0.N) (h : t.val % 3 = 2) (y : S1x1x512x1408.Idx) (j : S4x2x2048x1408.Idx)
    (h0 : (j 0).val = t.val / 3 % 4) (h2 : (j 2).val = t.val / 12 * 512 + (y 2).val) (h3 : (j 3).val = (y 3).val) :
    (View.ld (Val := Elt Ideal) (e' := .f32) (sc m c t.val t.isLt) r1 : FVec Ideal S1x512x1408 .f32) (ix3 0 (y 2) (y 3)) = dot (m ((c : Thread nD τ).loc main_arg0)) (m ((c : Thread nD τ).loc main_arg2)) j := by
  refine (congrArg (sc m c t.val t.isLt) (emb1 (y 2) (y 3))).trans ((carried1 m c t h (y 2) (y 3)).trans ?_)
  unfold part dot
  refine Fin.sum_mul_add_congr fun s k hl => ?_
  refine (mul_comm (_ : EReal) _).trans ?_
  blk_point [iblk, V, idx t, idx ⟨_, Pipeline.run_point_lt_of_flush t h s⟩]

theorem entry4 (c : Dev nD) : V m c main_v0_0 = m ((c : Thread nD τ).loc main_arg3) := by
  unfold V
  after_results
  try rfl

theorem cells4 (c : Dev nD) : (dats m 0 c).arrAt 4 (cfgs 0).N
    = fun i => if (i 1).val = 1 then REF0 (m ((c : Thread nD τ).loc main_arg0)) (m ((c : Thread nD τ).loc main_arg1))
        (m ((c : Thread nD τ).loc main_arg3)) i else V m c main_v0_0 i := by
  refine (dats m 0 c).arrAt_eq_of_coversWhere 4 _ (fun β => β 1 = 1) (by decide +kernel) (fun t hf y => ?_)
    (fun j => by blk_simp [Pipeline.Window.cell_apply]; try omega)
  blk_simp
  rw [after0_4, left4 m c t ((flush0_4 t).mp hf), hout0,
    carried_dot0 m c t ((flush0_4 t).mp hf) _ (((cfg0.win 4).blk t).view.emb y) (by blk_simp [idx t] <;> (idx_bounds; omega))
      (by blk_simp [idx t]; try omega) (by blk_simp [idx t]; try omega), href0]
  rw [if_neg (by blk_simp [idx t] <;> (idx_bounds; omega))]

/-- The result array is the reference's. -/
theorem final4 (c : Dev nD) : (dats m 0 c).arrAt 4 (cfgs 0).N
    = REF0 (m ((c : Thread nD τ).loc main_arg0)) (m ((c : Thread nD τ).loc main_arg1))
        (m ((c : Thread nD τ).loc main_arg3)) := by
  rw [cells4]
  funext i
  by_cases h : (i 1).val = 1
  · exact if_pos h
  · refine (if_neg h).trans ?_
    rw [entry4, href0, if_pos (by idx_bounds; omega)]
    blk_ext

theorem entry5 (c : Dev nD) : V m c main_v0_1 = m ((c : Thread nD τ).loc main_arg4) := by
  unfold V
  after_results
  try rfl

theorem cells5 (c : Dev nD) : (dats m 0 c).arrAt 5 (cfgs 0).N
    = fun i => if (i 1).val = 1 then REF1 (m ((c : Thread nD τ).loc main_arg0)) (m ((c : Thread nD τ).loc main_arg2))
        (m ((c : Thread nD τ).loc main_arg4)) i else V m c main_v0_1 i := by
  refine (dats m 0 c).arrAt_eq_of_coversWhere 5 _ (fun β => β 1 = 1) (by decide +kernel) (fun t hf y => ?_)
    (fun j => by blk_simp [Pipeline.Window.cell_apply]; try omega)
  blk_simp
  rw [after0_5, left5 m c t ((flush0_5 t).mp hf), hout1,
    carried_dot1 m c t ((flush0_5 t).mp hf) _ (((cfg0.win 5).blk t).view.emb y) (by blk_simp [idx t] <;> (idx_bounds; omega))
      (by blk_simp [idx t]; try omega) (by blk_simp [idx t]; try omega), href1]
  rw [if_neg (by blk_simp [idx t] <;> (idx_bounds; omega))]

/-- The result array is the reference's. -/
theorem final5 (c : Dev nD) : (dats m 0 c).arrAt 5 (cfgs 0).N
    = REF1 (m ((c : Thread nD τ).loc main_arg0)) (m ((c : Thread nD τ).loc main_arg2))
        (m ((c : Thread nD τ).loc main_arg4)) := by
  rw [cells5]
  funext i
  by_cases h : (i 1).val = 1
  · exact if_pos h
  · refine (if_neg h).trans ?_
    rw [entry5, href1, if_pos (by idx_bounds; omega)]
    blk_ext

end Cert.Ffn.DGateUp

end
-- ==== Proof.DNormV.lean ====
/- The gradient before the feed-forward norm: what the kernel leaves in its result, as the reference's term. -/
module

public import Idealize.ShloMosaic.Lib.Pipeline.ReadBack
public import proofs.«01_k».proof.Proof.Gen.DNormIdeal.Frame
public import proofs.«01_k».proof.Proof.Gen.DNormRefIdeal
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.DNorm

open Cert.DNormIdeal Cert.DNormIdeal.Gen

variable (m : (ℓ : Loc nD τ sig) → Buf (Elt Ideal) ℓ)

/-- The reference's term over the four arguments. -/
abbrev REF (DG DU : FVec Ideal S4224x5632 .bf16) (WG WU : FVec Ideal S4x2x2048x1408 .bf16) : FVec Ideal S4224x2048 .f32 :=
  addf (Host.dotGeneral Cert.DNormRefIdeal.dot_S4224x5632_S2048x5632_S4224x2048_1_1_0_0_n_n none (extf .f32 DU Cert.DNormRefIdeal.Gen.bitsLt_bf16_f32) (shapeCast _ (transpose Cert.DNormRefIdeal.S2048x4x1408 [1, 0, 2] (extf .f32 (shapeCast _ (extractStridedSlice Cert.DNormRefIdeal.S4x1x2048x1408 ![0, 1, 0, 0] WU Cert.DNormRefIdeal.Gen.slices_S4x2x2048x1408_S4x1x2048x1408_0_1_0_0) Cert.DNormRefIdeal.Gen.shapeCasts_S4x1x2048x1408_S4x2048x1408) Cert.DNormRefIdeal.Gen.bitsLt_bf16_f32) Cert.DNormRefIdeal.Gen.transposes_S4x2048x1408_S2048x4x1408_1_0_2) Cert.DNormRefIdeal.Gen.shapeCasts_S2048x4x1408_S2048x5632)) (Host.dotGeneral Cert.DNormRefIdeal.dot_S4224x5632_S2048x5632_S4224x2048_1_1_0_0_n_n none (extf .f32 DG Cert.DNormRefIdeal.Gen.bitsLt_bf16_f32) (shapeCast _ (transpose Cert.DNormRefIdeal.S2048x4x1408 [1, 0, 2] (extf .f32 (shapeCast _ (extractStridedSlice Cert.DNormRefIdeal.S4x1x2048x1408 ![0, 1, 0, 0] WG Cert.DNormRefIdeal.Gen.slices_S4x2x2048x1408_S4x1x2048x1408_0_1_0_0) Cert.DNormRefIdeal.Gen.shapeCasts_S4x1x2048x1408_S4x2048x1408) Cert.DNormRefIdeal.Gen.bitsLt_bf16_f32) Cert.DNormRefIdeal.Gen.transposes_S4x2048x1408_S2048x4x1408_1_0_2) Cert.DNormRefIdeal.Gen.shapeCasts_S2048x4x1408_S2048x5632))

theorem hzero (j : S1x704x1024.Idx) : k0_pay2 (F := Ideal) j = (0 : EReal) := by pointwise [k0_pay2]

/-- What one grid point adds: its columns of both products. -/
def part (x0 x1 : FVec Ideal S704x1408 .bf16) (x2 x3 : FVec Ideal S1x1x1024x1408 .bf16) (j : S1x704x1024.Idx) : EReal :=
  (∑ k : Fin 1408, x0 (ix2 (j 1) k) * x2 (ix4 0 0 (j 2) k)) + ∑ k : Fin 1408, x1 (ix2 (j 1) k) * x3 (ix4 0 0 (j 2) k)

theorem hpay (acc : FVec Ideal S1x704x1024 .f32) (x0 x1 : FVec Ideal S704x1408 .bf16) (x2 x3 : FVec Ideal S1x1x1024x1408 .bf16)
    (j : S1x704x1024.Idx) :
    k0_pay4 (F := Ideal) (k0_pay3 (F := Ideal) acc x0 x2) x1 x3 j = acc j + part x0 x1 x2 x3 j := by
  pointwise [k0_pay3, k0_pay4, part]
  exact add_assoc _ _ _

theorem hout (v : FVec Ideal S1x704x1024 .f32) (j : S704x1024.Idx) : k0_pay1 (F := Ideal) v j = v (ix3 0 (j 0) (j 1)) := by
  pointwise [k0_pay1]

theorem idx : ∀ t : Fin cfg0.N, win0_0.index t = ![t.val / 8, t.val % 4] ∧ win0_1.index t = ![t.val / 8, t.val % 4]
    ∧ win0_2.index t = ![t.val % 4, 1, t.val / 4 % 2, 0] ∧ win0_3.index t = ![t.val % 4, 1, t.val / 4 % 2, 0]
    ∧ win0_4.index t = ![t.val / 8, t.val / 4 % 2] :=
  (by decide +kernel : ∀ t : Fin grid0.N, _)

/-- The last point of a run stores the sum it has carried. -/
theorem left (c : Dev nD) (t : Fin cfg0.N) (h : t.val % 4 = 3) :
    (outsAt0 (F := Ideal) m c t.val t.isLt).1 = k0_pay1 (F := Ideal) (outsAt0 (F := Ideal) m c t.val t.isLt).2 := by
  rw [outsAt0_C m c t (by omega) h]
  frame_out

theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, left m c t ((flush0_4 t).mp hf), hout,
    Pipeline.eq_sum_fin_of_reset_step_apply_of_flush (fun n h => (outsAt0 m c n h).2) 4 (fun _ => 0)
      (fun p j => part (iblk m c 0 p) (iblk m c 1 p) (iblk m c 2 p) (iblk m c 3 p) j)
      (fun t h j => by rw [outsAt0_A m c t h (by omega)]; frame_out; rw [hpay, hzero])
      (fun t h j => by
        by_cases h1 : t.val % 4 = 3
        · rw [outsAt0_C m c t h h1]; frame_out; rw [hpay, read_unread_whole]
        · rw [outsAt0_B m c t h h1]; frame_out; rw [hpay, read_unread_whole])
      t ((flush0_4 t).mp hf) _, zero_add]
  pointwise [REF, part]
  refine (Finset.sum_add_distrib (M := EReal)).trans ((add_comm _ _).trans (congrArg₂ (· + ·) ?_ ?_))
  · refine Fin.sum_mul_add_congr fun s k hl => ?_
    blk_point [iblk, V, idx t, idx ⟨_, Pipeline.run_point_lt_of_flush t ((flush0_4 t).mp hf) s⟩]
  · refine Fin.sum_mul_add_congr fun s k hl => ?_
    blk_point [iblk, V, idx t, idx ⟨_, Pipeline.run_point_lt_of_flush t ((flush0_4 t).mp hf) s⟩]

end Cert.Ffn.DNorm

end
-- ==== Proof.Ffn.lean ====
/- The feed-forward layer's six calls: each kernel and its reference end with the same results, and each reference leaves its arguments as they were. -/
module

public import proofs.«01_k».proof.Defs
public import proofs.«01_k».proof.Proof.Half
public import proofs.«01_k».proof.Proof.PFin
public import proofs.«01_k».proof.Proof.Gen.GateUpIdeal.Value
public import proofs.«01_k».proof.Proof.Gen.GateUpRefIdeal.Run
public import proofs.«01_k».proof.Proof.GateUpV
public import proofs.«01_k».proof.Proof.Gen.DownIdeal.Value
public import proofs.«01_k».proof.Proof.Gen.DownRefIdeal.Run
public import proofs.«01_k».proof.Proof.DownV
public import proofs.«01_k».proof.Proof.Gen.DActIdeal.Value
public import proofs.«01_k».proof.Proof.Gen.DActRefIdeal.Run
public import proofs.«01_k».proof.Proof.DActV
public import proofs.«01_k».proof.Proof.Gen.DDownIdeal.Value
public import proofs.«01_k».proof.Proof.Gen.DDownRefIdeal.Run
public import proofs.«01_k».proof.Proof.DDownV
public import proofs.«01_k».proof.Proof.Gen.DGateUpIdeal.Value
public import proofs.«01_k».proof.Proof.Gen.DGateUpRefIdeal.Run
public import proofs.«01_k».proof.Proof.DGateUpV
public import proofs.«01_k».proof.Proof.Gen.DNormIdeal.Value
public import proofs.«01_k».proof.Proof.Gen.DNormRefIdeal.Run
public import proofs.«01_k».proof.Proof.DNormV
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Ffn

theorem cong2 {A B E : Sort _} (f : A → B → E) {a a' : A} {b b' : B} (ha : a = a') (hb : b = b') : f a b = f a' b' := by
  subst ha hb; rfl

theorem cong3 {A B C E : Sort _} (f : A → B → C → E) {a a' : A} {b b' : B} {c c' : C} (ha : a = a') (hb : b = b') (hc : c = c') :
    f a b c = f a' b' c' := by
  subst ha hb hc; rfl

theorem cong4 {A B C D E : Sort _} (f : A → B → C → D → E) {a a' : A} {b b' : B} {c c' : C} {d d' : D}
    (ha : a = a') (hb : b = b') (hc : c = c') (hd : d = d') : f a b c d = f a' b' c' d' := by
  subst ha hb hc hd; rfl

theorem preFacts : Cert.Pre_finite_dact.Facts where
  slices_S4x2x1408x2048_S4x1x1408x2048_0_1_0_0 := by decide
  bcast_S_S4224x2048 := by decide
  bitsLt_bf16_f32 := by decide
  bcast_S_S4x1x1408x2048 := by decide
  bcast_S_S4224x5632 := by decide

section

variable [Cert.Pre_finite_dact.Facts] (a0 : FVec Ideal Cert.Pre_finite_dact.S4224x2048 .f32) (a1 : FVec Ideal Cert.Pre_finite_dact.S4x2x1408x2048 .bf16)
  (a2 a3 : FVec Ideal Cert.Pre_finite_dact.S4224x5632 .bf16)

theorem fin0 (h : (Cert.Pre_finite_dact.fn (F := Ideal) a0 a1 a2 a3).1 = fun _ => 1#1) (i : Cert.Pre_finite_dact.S4224x2048.Idx) :
    ((EReal.toReal (a0 i) : ℝ) : EReal) = a0 i := by
  have e := congrFun h i
  have w : FloatOps.cmpf (F := Ideal) CmpFPredicate.olt (FloatOps.hostAbsf (a0 i)) (Ideal.ofBits .f32 2139095040#32) = 1#1 := e
  rw [Cert.Value.inf_word] at w
  exact Cert.Value.real_of _ w

theorem fin1 (h : (Cert.Pre_finite_dact.fn (F := Ideal) a0 a1 a2 a3).2.1 = fun _ => 1#1) (a : Fin 4) (b : Fin 1408) (d : Fin 2048) :
    ((EReal.toReal (a1 (ix4 a 1 b d)) : ℝ) : EReal) = a1 (ix4 a 1 b d) := by
  have e := congrFun h (ix4 a 0 b d)
  have s : extractStridedSlice Cert.Pre_finite_dact.S4x1x1408x2048 ![0, 1, 0, 0] a1
      Cert.Pre_finite_dact.Facts.slices_S4x2x1408x2048_S4x1x1408x2048_0_1_0_0 (ix4 a 0 b d) = a1 (ix4 a 1 b d) := by
    pointwise []
  have w : FloatOps.cmpf (F := Ideal) CmpFPredicate.olt (FloatOps.hostAbsf (extractStridedSlice Cert.Pre_finite_dact.S4x1x1408x2048 ![0, 1, 0, 0] a1
      Cert.Pre_finite_dact.Facts.slices_S4x2x1408x2048_S4x1x1408x2048_0_1_0_0 (ix4 a 0 b d))) (Ideal.ofBits .f32 2139095040#32) = 1#1 := e
  rw [s, Cert.Value.inf_word] at w
  exact Cert.Value.real_of _ w

theorem fin3 (h : (Cert.Pre_finite_dact.fn (F := Ideal) a0 a1 a2 a3).2.2 = fun _ => 1#1) (i : Cert.Pre_finite_dact.S4224x5632.Idx) :
    ((EReal.toReal (a3 i) : ℝ) : EReal) = a3 i := by
  have e := congrFun h i
  have w : FloatOps.cmpf (F := Ideal) CmpFPredicate.olt (FloatOps.hostAbsf (a3 i)) (Ideal.ofBits .f32 2139095040#32) = 1#1 := e
  rw [Cert.Value.inf_word] at w
  exact Cert.Value.real_of _ w

end

/-- The call for the gate and up projections: the kernel and the reference end with the same results. -/
theorem value_GateUp : Cert.algebraic_GateUpIdeal_GateUpRefIdeal (hGateUpIdeal := Cert.GateUpIdeal.Gen.facts)
    (hGateUpRefIdeal := Cert.GateUpRefIdeal.Gen.facts) := by
  intro m g m' g' hm ha
  refine ⟨fun c => GateUp.REF0 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)),
    fun c => GateUp.REF1 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg2)),
    fun c => GateUp.REF2 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)),
    (θ_run Cert.GateUpIdeal.defs _ _).mono (fun r h c => ⟨(h c).1.trans (GateUp.final4 m c), (h c).2.1.trans (GateUp.final5 m c), (h c).2.2.1.trans (GateUp.final6 m c), (h c).2.2.2⟩) (Cert.GateUpIdeal.Value.run_blocks m g),
    (θ_run Cert.GateUpRefIdeal.defs _ _).mono (fun r h c => ⟨(h c).1.trans (cong2 GateUp.REF0 ((ha c).1) ((ha c).2.1)),
      (h c).2.1.trans (cong2 GateUp.REF1 ((ha c).1) ((ha c).2.2)),
      (h c).2.2.1.trans (cong3 GateUp.REF2 ((ha c).1) ((ha c).2.1) ((ha c).2.2)), (h c).2.2.2⟩) (Cert.GateUpRefIdeal.Value.run m' g')⟩

/-- The reference of this call leaves its arguments as they were. -/
theorem frame_GateUp (m : (ℓ : Loc Cert.GateUpRefIdeal.nD Cert.GateUpRefIdeal.τ Cert.GateUpRefIdeal.sig) → Buf (Elt Ideal) ℓ) (ρ : Dev Cert.GateUpRefIdeal.nD → PrngReg) :
    θ_run (Cert.GateUpRefIdeal.defs (F := Ideal)) (onTc (τ := Cert.GateUpRefIdeal.τ) (Cert.GateUpRefIdeal.main (F := Ideal))) ⟨m, fun _ => 0, ρ⟩
      (fun r => (∀ c : Dev Cert.GateUpRefIdeal.nD, r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
        ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
        ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
        ∧ r.2.sem = fun _ => 0) :=
  (θ_run Cert.GateUpRefIdeal.defs _ _).mono
    (fun r h => ⟨fun c => (h c).2.2.2, sem_eq_zero_of_no_sems (by decide) r.2⟩)
    (Cert.GateUpRefIdeal.Value.run m ρ)

/-- The call for the down projection: the kernel and the reference end with the same results. -/
theorem value_Down : Cert.algebraic_DownIdeal_DownRefIdeal (hDownIdeal := Cert.DownIdeal.Gen.facts)
    (hDownRefIdeal := Cert.DownRefIdeal.Gen.facts) := by
  intro m g m' g' hm ha
  refine ⟨fun c => Down.REF (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run Cert.DownIdeal.defs _ _).mono (fun r h c => ⟨(h c).1.trans (Down.final m c), (h c).2⟩) (Cert.DownIdeal.Value.run_blocks m g),
    (θ_run Cert.DownRefIdeal.defs _ _).mono (fun r h c => ⟨(h c).1.trans (cong3 Down.REF ((ha c).1) ((ha c).2.1) ((ha c).2.2)), (h c).2⟩) (Cert.DownRefIdeal.Value.run m' g')⟩

/-- The reference of this call leaves its arguments as they were. -/
theorem frame_Down (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩
      (fun r => (∀ c : Dev Cert.DownRefIdeal.nD, r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
        ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
        ∧ r.2.sem = fun _ => 0) :=
  (θ_run Cert.DownRefIdeal.defs _ _).mono
    (fun r h => ⟨fun c => (h c).2, sem_eq_zero_of_no_sems (by decide) r.2⟩)
    (Cert.DownRefIdeal.Value.run m ρ)

/-- The call for the gradients of the gate and the up projection: the kernel and the reference end with the same results. -/
theorem value_DAct : Cert.algebraic_DActIdeal_DActRefIdeal_pre_finite_dact (hDActIdeal := Cert.DActIdeal.Gen.facts)
    (hDActRefIdeal := Cert.DActRefIdeal.Gen.facts) (hPre_finite_dact := preFacts) := by
  intro m g m' g' hm ha
  letI : Cert.Pre_finite_dact.Facts := preFacts
  have hf := fun (c : Dev Cert.DActIdeal.nD) => And.intro (fin0 (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3)) (hm c).1) (And.intro (fin1 (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3)) (hm c).2.1)
    (fin3 (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3)) (hm c).2.2))
  refine ⟨fun c => DAct.REF0 (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3)),
    fun c => DAct.REF1 (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3)),
    (θ_run Cert.DActIdeal.defs _ _).mono (fun r h c => ⟨(h c).1.trans ((DAct.final4 m c).trans (DAct.eq0 _ _ _ _ (hf c).1 (hf c).2.1 (hf c).2.2)), (h c).2.1.trans ((DAct.final5 m c).trans (DAct.eq1 _ _ _ _)), (h c).2.2⟩) (Cert.DActIdeal.Value.run_blocks m g),
    (θ_run Cert.DActRefIdeal.defs _ _).mono (fun r h c => ⟨(h c).1.trans (cong4 DAct.REF0 ((ha c).1) ((ha c).2.1) ((ha c).2.2.1) ((ha c).2.2.2)),
      (h c).2.1.trans (cong4 DAct.REF1 ((ha c).1) ((ha c).2.1) ((ha c).2.2.1) ((ha c).2.2.2)), (h c).2.2⟩) (Cert.DActRefIdeal.Value.run m' g')⟩

/-- The reference of this call leaves its arguments as they were. -/
theorem frame_DAct (m : (ℓ : Loc Cert.DActRefIdeal.nD Cert.DActRefIdeal.τ Cert.DActRefIdeal.sig) → Buf (Elt Ideal) ℓ) (ρ : Dev Cert.DActRefIdeal.nD → PrngReg) :
    θ_run (Cert.DActRefIdeal.defs (F := Ideal)) (onTc (τ := Cert.DActRefIdeal.τ) (Cert.DActRefIdeal.main (F := Ideal))) ⟨m, fun _ => 0, ρ⟩
      (fun r => (∀ c : Dev Cert.DActRefIdeal.nD, r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
        ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
        ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
        ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
        ∧ r.2.sem = fun _ => 0) :=
  (θ_run Cert.DActRefIdeal.defs _ _).mono
    (fun r h => ⟨fun c => (h c).2.2, sem_eq_zero_of_no_sems (by decide) r.2⟩)
    (Cert.DActRefIdeal.Value.run m ρ)

/-- The call for the down projection's weights' gradient: the kernel and the reference end with the same results. -/
theorem value_DDown : Cert.algebraic_DDownIdeal_DDownRefIdeal (hDDownIdeal := Cert.DDownIdeal.Gen.facts)
    (hDDownRefIdeal := Cert.DDownRefIdeal.Gen.facts) := by
  intro m g m' g' hm ha
  refine ⟨fun c => DDown.REF (m ((c.tc : Thread Cert.DDownIdeal.nD Cert.DDownIdeal.τ).loc Cert.DDownIdeal.main_arg0)) (m ((c.tc : Thread Cert.DDownIdeal.nD Cert.DDownIdeal.τ).loc Cert.DDownIdeal.main_arg1)) (m ((c.tc : Thread Cert.DDownIdeal.nD Cert.DDownIdeal.τ).loc Cert.DDownIdeal.main_arg2)),
    (θ_run Cert.DDownIdeal.defs _ _).mono (fun r h c => ⟨(h c).1.trans (DDown.final m c), (h c).2⟩) (Cert.DDownIdeal.Value.run_blocks m g),
    (θ_run Cert.DDownRefIdeal.defs _ _).mono (fun r h c => ⟨(h c).1.trans (cong3 DDown.REF ((ha c).1) ((ha c).2.1) ((ha c).2.2)), (h c).2⟩) (Cert.DDownRefIdeal.Value.run m' g')⟩

/-- The reference of this call leaves its arguments as they were. -/
theorem frame_DDown (m : (ℓ : Loc Cert.DDownRefIdeal.nD Cert.DDownRefIdeal.τ Cert.DDownRefIdeal.sig) → Buf (Elt Ideal) ℓ) (ρ : Dev Cert.DDownRefIdeal.nD → PrngReg) :
    θ_run (Cert.DDownRefIdeal.defs (F := Ideal)) (onTc (τ := Cert.DDownRefIdeal.τ) (Cert.DDownRefIdeal.main (F := Ideal))) ⟨m, fun _ => 0, ρ⟩
      (fun r => (∀ c : Dev Cert.DDownRefIdeal.nD, r.2.mem ((c.tc : Thread Cert.DDownRefIdeal.nD Cert.DDownRefIdeal.τ).loc Cert.DDownRefIdeal.main_arg0) = m ((c.tc : Thread Cert.DDownRefIdeal.nD Cert.DDownRefIdeal.τ).loc Cert.DDownRefIdeal.main_arg0)
        ∧ r.2.mem ((c.tc : Thread Cert.DDownRefIdeal.nD Cert.DDownRefIdeal.τ).loc Cert.DDownRefIdeal.main_arg1) = m ((c.tc : Thread Cert.DDownRefIdeal.nD Cert.DDownRefIdeal.τ).loc Cert.DDownRefIdeal.main_arg1)
        ∧ r.2.mem ((c.tc : Thread Cert.DDownRefIdeal.nD Cert.DDownRefIdeal.τ).loc Cert.DDownRefIdeal.main_arg2) = m ((c.tc : Thread Cert.DDownRefIdeal.nD Cert.DDownRefIdeal.τ).loc Cert.DDownRefIdeal.main_arg2))
        ∧ r.2.sem = fun _ => 0) :=
  (θ_run Cert.DDownRefIdeal.defs _ _).mono
    (fun r h => ⟨fun c => (h c).2, sem_eq_zero_of_no_sems (by decide) r.2⟩)
    (Cert.DDownRefIdeal.Value.run m ρ)

/-- The call for the gate's and the up projection's weights' gradients: the kernel and the reference end with the same results. -/
theorem value_DGateUp : Cert.algebraic_DGateUpIdeal_DGateUpRefIdeal (hDGateUpIdeal := Cert.DGateUpIdeal.Gen.facts)
    (hDGateUpRefIdeal := Cert.DGateUpRefIdeal.Gen.facts) := by
  intro m g m' g' hm ha
  refine ⟨fun c => DGateUp.REF0 (m ((c.tc : Thread Cert.DGateUpIdeal.nD Cert.DGateUpIdeal.τ).loc Cert.DGateUpIdeal.main_arg0)) (m ((c.tc : Thread Cert.DGateUpIdeal.nD Cert.DGateUpIdeal.τ).loc Cert.DGateUpIdeal.main_arg1)) (m ((c.tc : Thread Cert.DGateUpIdeal.nD Cert.DGateUpIdeal.τ).loc Cert.DGateUpIdeal.main_arg3)),
    fun c => DGateUp.REF1 (m ((c.tc : Thread Cert.DGateUpIdeal.nD Cert.DGateUpIdeal.τ).loc Cert.DGateUpIdeal.main_arg0)) (m ((c.tc : Thread Cert.DGateUpIdeal.nD Cert.DGateUpIdeal.τ).loc Cert.DGateUpIdeal.main_arg2)) (m ((c.tc : Thread Cert.DGateUpIdeal.nD Cert.DGateUpIdeal.τ).loc Cert.DGateUpIdeal.main_arg4)),
    (θ_run Cert.DGateUpIdeal.defs _ _).mono (fun r h c => ⟨(h c).1.trans (DGateUp.final4 m c), (h c).2.1.trans (DGateUp.final5 m c), (h c).2.2⟩) (Cert.DGateUpIdeal.Value.run_blocks m g),
    (θ_run Cert.DGateUpRefIdeal.defs _ _).mono (fun r h c => ⟨(h c).1.trans (cong3 DGateUp.REF0 ((ha c).1) ((ha c).2.1) ((ha c).2.2.2.1)),
      (h c).2.1.trans (cong3 DGateUp.REF1 ((ha c).1) ((ha c).2.2.1) ((ha c).2.2.2.2)), (h c).2.2⟩) (Cert.DGateUpRefIdeal.Value.run m' g')⟩

/-- The reference of this call leaves its arguments as they were. -/
theorem frame_DGateUp (m : (ℓ : Loc Cert.DGateUpRefIdeal.nD Cert.DGateUpRefIdeal.τ Cert.DGateUpRefIdeal.sig) → Buf (Elt Ideal) ℓ) (ρ : Dev Cert.DGateUpRefIdeal.nD → PrngReg) :
    θ_run (Cert.DGateUpRefIdeal.defs (F := Ideal)) (onTc (τ := Cert.DGateUpRefIdeal.τ) (Cert.DGateUpRefIdeal.main (F := Ideal))) ⟨m, fun _ => 0, ρ⟩
      (fun r => (∀ c : Dev Cert.DGateUpRefIdeal.nD, r.2.mem ((c.tc : Thread Cert.DGateUpRefIdeal.nD Cert.DGateUpRefIdeal.τ).loc Cert.DGateUpRefIdeal.main_arg0) = m ((c.tc : Thread Cert.DGateUpRefIdeal.nD Cert.DGateUpRefIdeal.τ).loc Cert.DGateUpRefIdeal.main_arg0)
        ∧ r.2.mem ((c.tc : Thread Cert.DGateUpRefIdeal.nD Cert.DGateUpRefIdeal.τ).loc Cert.DGateUpRefIdeal.main_arg1) = m ((c.tc : Thread Cert.DGateUpRefIdeal.nD Cert.DGateUpRefIdeal.τ).loc Cert.DGateUpRefIdeal.main_arg1)
        ∧ r.2.mem ((c.tc : Thread Cert.DGateUpRefIdeal.nD Cert.DGateUpRefIdeal.τ).loc Cert.DGateUpRefIdeal.main_arg2) = m ((c.tc : Thread Cert.DGateUpRefIdeal.nD Cert.DGateUpRefIdeal.τ).loc Cert.DGateUpRefIdeal.main_arg2)
        ∧ r.2.mem ((c.tc : Thread Cert.DGateUpRefIdeal.nD Cert.DGateUpRefIdeal.τ).loc Cert.DGateUpRefIdeal.main_arg3) = m ((c.tc : Thread Cert.DGateUpRefIdeal.nD Cert.DGateUpRefIdeal.τ).loc Cert.DGateUpRefIdeal.main_arg3)
        ∧ r.2.mem ((c.tc : Thread Cert.DGateUpRefIdeal.nD Cert.DGateUpRefIdeal.τ).loc Cert.DGateUpRefIdeal.main_arg4) = m ((c.tc : Thread Cert.DGateUpRefIdeal.nD Cert.DGateUpRefIdeal.τ).loc Cert.DGateUpRefIdeal.main_arg4))
        ∧ r.2.sem = fun _ => 0) :=
  (θ_run Cert.DGateUpRefIdeal.defs _ _).mono
    (fun r h => ⟨fun c => (h c).2.2, sem_eq_zero_of_no_sems (by decide) r.2⟩)
    (Cert.DGateUpRefIdeal.Value.run m ρ)

/-- The call for the normed rows' gradient: the kernel and the reference end with the same results. -/
theorem value_DNorm : Cert.algebraic_DNormIdeal_DNormRefIdeal (hDNormIdeal := Cert.DNormIdeal.Gen.facts)
    (hDNormRefIdeal := Cert.DNormRefIdeal.Gen.facts) := by
  intro m g m' g' hm ha
  refine ⟨fun c => DNorm.REF (m ((c.tc : Thread Cert.DNormIdeal.nD Cert.DNormIdeal.τ).loc Cert.DNormIdeal.main_arg0)) (m ((c.tc : Thread Cert.DNormIdeal.nD Cert.DNormIdeal.τ).loc Cert.DNormIdeal.main_arg1)) (m ((c.tc : Thread Cert.DNormIdeal.nD Cert.DNormIdeal.τ).loc Cert.DNormIdeal.main_arg2)) (m ((c.tc : Thread Cert.DNormIdeal.nD Cert.DNormIdeal.τ).loc Cert.DNormIdeal.main_arg3)),
    (θ_run Cert.DNormIdeal.defs _ _).mono (fun r h c => ⟨(h c).1.trans (DNorm.final m c), (h c).2⟩) (Cert.DNormIdeal.Value.run_blocks m g),
    (θ_run Cert.DNormRefIdeal.defs _ _).mono (fun r h c => ⟨(h c).1.trans (cong4 DNorm.REF ((ha c).1) ((ha c).2.1) ((ha c).2.2.1) ((ha c).2.2.2)), (h c).2⟩) (Cert.DNormRefIdeal.Value.run m' g')⟩

/-- The reference of this call leaves its arguments as they were. -/
theorem frame_DNorm (m : (ℓ : Loc Cert.DNormRefIdeal.nD Cert.DNormRefIdeal.τ Cert.DNormRefIdeal.sig) → Buf (Elt Ideal) ℓ) (ρ : Dev Cert.DNormRefIdeal.nD → PrngReg) :
    θ_run (Cert.DNormRefIdeal.defs (F := Ideal)) (onTc (τ := Cert.DNormRefIdeal.τ) (Cert.DNormRefIdeal.main (F := Ideal))) ⟨m, fun _ => 0, ρ⟩
      (fun r => (∀ c : Dev Cert.DNormRefIdeal.nD, r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
        ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
        ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
        ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3))
        ∧ r.2.sem = fun _ => 0) :=
  (θ_run Cert.DNormRefIdeal.defs _ _).mono
    (fun r h => ⟨fun c => (h c).2, sem_eq_zero_of_no_sems (by decide) r.2⟩)
    (Cert.DNormRefIdeal.Value.run m ρ)

end Cert.Ffn

end
-- ==== Proof.FirstGateUpV.lean ====
/- The gate and up projections and their gated product: what the kernel leaves in its three results. -/
module

public import proofs.«01_k».proof.Proof.Gen.FirstGateUpIdeal.Frame
public import proofs.«01_k».proof.Proof.Gen.FirstGateUpRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstGateUp

open Cert.FirstGateUpIdeal Cert.FirstGateUpIdeal.Gen

variable (m : (ℓ : Loc nD τ sig) → Buf (Elt Ideal) ℓ)

/-- The reference's three terms over the arguments. -/
abbrev REF0 (NX : FVec Ideal S4224x2048 .bf16) (WG : FVec Ideal S4x2x2048x1408 .bf16) : FVec Ideal S4224x5632 .bf16 :=
  truncf .bf16 (Host.dotGeneral Cert.FirstGateUpRefIdeal.dot_S4224x2048_S2048x5632_S4224x5632_1_0_0_1_n_n none (extf .f32 NX Cert.FirstGateUpRefIdeal.Gen.bitsLt_bf16_f32) (shapeCast _ (transpose Cert.FirstGateUpRefIdeal.S2048x4x1408 [1, 0, 2] (extf .f32 (shapeCast _ (extractStridedSlice Cert.FirstGateUpRefIdeal.S4x1x2048x1408 ![0, 0, 0, 0] WG Cert.FirstGateUpRefIdeal.Gen.slices_S4x2x2048x1408_S4x1x2048x1408_0_0_0_0) Cert.FirstGateUpRefIdeal.Gen.shapeCasts_S4x1x2048x1408_S4x2048x1408) Cert.FirstGateUpRefIdeal.Gen.bitsLt_bf16_f32) Cert.FirstGateUpRefIdeal.Gen.transposes_S4x2048x1408_S2048x4x1408_1_0_2) Cert.FirstGateUpRefIdeal.Gen.shapeCasts_S2048x4x1408_S2048x5632)) Cert.FirstGateUpRefIdeal.Gen.bitsLt_bf16_f32

abbrev REF1 (NX : FVec Ideal S4224x2048 .bf16) (WU : FVec Ideal S4x2x2048x1408 .bf16) : FVec Ideal S4224x5632 .bf16 :=
  truncf .bf16 (Host.dotGeneral Cert.FirstGateUpRefIdeal.dot_S4224x2048_S2048x5632_S4224x5632_1_0_0_1_n_n none (extf .f32 NX Cert.FirstGateUpRefIdeal.Gen.bitsLt_bf16_f32) (shapeCast _ (transpose Cert.FirstGateUpRefIdeal.S2048x4x1408 [1, 0, 2] (extf .f32 (shapeCast _ (extractStridedSlice Cert.FirstGateUpRefIdeal.S4x1x2048x1408 ![0, 0, 0, 0] WU Cert.FirstGateUpRefIdeal.Gen.slices_S4x2x2048x1408_S4x1x2048x1408_0_0_0_0) Cert.FirstGateUpRefIdeal.Gen.shapeCasts_S4x1x2048x1408_S4x2048x1408) Cert.FirstGateUpRefIdeal.Gen.bitsLt_bf16_f32) Cert.FirstGateUpRefIdeal.Gen.transposes_S4x2048x1408_S2048x4x1408_1_0_2) Cert.FirstGateUpRefIdeal.Gen.shapeCasts_S2048x4x1408_S2048x5632)) Cert.FirstGateUpRefIdeal.Gen.bitsLt_bf16_f32

abbrev REF2 (NX : FVec Ideal S4224x2048 .bf16) (WG WU : FVec Ideal S4x2x2048x1408 .bf16) : FVec Ideal S4224x5632 .bf16 :=
  truncf .bf16 (mulf (mulf (Host.dotGeneral Cert.FirstGateUpRefIdeal.dot_S4224x2048_S2048x5632_S4224x5632_1_0_0_1_n_n none (extf .f32 NX Cert.FirstGateUpRefIdeal.Gen.bitsLt_bf16_f32) (shapeCast _ (transpose Cert.FirstGateUpRefIdeal.S2048x4x1408 [1, 0, 2] (extf .f32 (shapeCast _ (extractStridedSlice Cert.FirstGateUpRefIdeal.S4x1x2048x1408 ![0, 0, 0, 0] WG Cert.FirstGateUpRefIdeal.Gen.slices_S4x2x2048x1408_S4x1x2048x1408_0_0_0_0) Cert.FirstGateUpRefIdeal.Gen.shapeCasts_S4x1x2048x1408_S4x2048x1408) Cert.FirstGateUpRefIdeal.Gen.bitsLt_bf16_f32) Cert.FirstGateUpRefIdeal.Gen.transposes_S4x2048x1408_S2048x4x1408_1_0_2) Cert.FirstGateUpRefIdeal.Gen.shapeCasts_S2048x4x1408_S2048x5632)) (Host.divf (broadcastInDim Cert.FirstGateUpRefIdeal.S4224x5632 ![] Cert.FirstGateUpRefIdeal.Gen.bcast_S_S4224x5632 (constant Cert.FirstGateUpRefIdeal.S_ .f32 0x3F800000#32)) (addf (broadcastInDim Cert.FirstGateUpRefIdeal.S4224x5632 ![] Cert.FirstGateUpRefIdeal.Gen.bcast_S_S4224x5632 (constant Cert.FirstGateUpRefIdeal.S_ .f32 0x3F800000#32)) (Host.exp (Host.negf (Host.dotGeneral Cert.FirstGateUpRefIdeal.dot_S4224x2048_S2048x5632_S4224x5632_1_0_0_1_n_n none (extf .f32 NX Cert.FirstGateUpRefIdeal.Gen.bitsLt_bf16_f32) (shapeCast _ (transpose Cert.FirstGateUpRefIdeal.S2048x4x1408 [1, 0, 2] (extf .f32 (shapeCast _ (extractStridedSlice Cert.FirstGateUpRefIdeal.S4x1x2048x1408 ![0, 0, 0, 0] WG Cert.FirstGateUpRefIdeal.Gen.slices_S4x2x2048x1408_S4x1x2048x1408_0_0_0_0) Cert.FirstGateUpRefIdeal.Gen.shapeCasts_S4x1x2048x1408_S4x2048x1408) Cert.FirstGateUpRefIdeal.Gen.bitsLt_bf16_f32) Cert.FirstGateUpRefIdeal.Gen.transposes_S4x2048x1408_S2048x4x1408_1_0_2) Cert.FirstGateUpRefIdeal.Gen.shapeCasts_S2048x4x1408_S2048x5632))))))) (Host.dotGeneral Cert.FirstGateUpRefIdeal.dot_S4224x2048_S2048x5632_S4224x5632_1_0_0_1_n_n none (extf .f32 NX Cert.FirstGateUpRefIdeal.Gen.bitsLt_bf16_f32) (shapeCast _ (transpose Cert.FirstGateUpRefIdeal.S2048x4x1408 [1, 0, 2] (extf .f32 (shapeCast _ (extractStridedSlice Cert.FirstGateUpRefIdeal.S4x1x2048x1408 ![0, 0, 0, 0] WU Cert.FirstGateUpRefIdeal.Gen.slices_S4x2x2048x1408_S4x1x2048x1408_0_0_0_0) Cert.FirstGateUpRefIdeal.Gen.shapeCasts_S4x1x2048x1408_S4x2048x1408) Cert.FirstGateUpRefIdeal.Gen.bitsLt_bf16_f32) Cert.FirstGateUpRefIdeal.Gen.transposes_S4x2048x1408_S2048x4x1408_1_0_2) Cert.FirstGateUpRefIdeal.Gen.shapeCasts_S2048x4x1408_S2048x5632))) Cert.FirstGateUpRefIdeal.Gen.bitsLt_bf16_f32

theorem hzero (j : S2x704x1408.Idx) : k0_pay6 (F := Ideal) j = (0 : EReal) := by pointwise [k0_pay6]

/-- What one grid point adds to a sum: its columns of the product. -/
def part (x0 : FVec Ideal S704x512 .bf16) (x1 : FVec Ideal S1x1x512x1408 .bf16) (a : Fin 704) (b : Fin 1408) : EReal :=
  ∑ k : Fin 512, x0 (ix2 a k) * x1 (ix4 0 0 k b)

theorem hpay0 (acc : FVec Ideal S1x704x1408 .f32) (x0 : FVec Ideal S704x512 .bf16) (x1 : FVec Ideal S1x1x512x1408 .bf16)
    (j : S1x704x1408.Idx) : k0_pay7 (F := Ideal) acc x0 x1 j = acc j + part x0 x1 (j 1) (j 2) := by
  pointwise [k0_pay7, part]

theorem hpay1 (acc : FVec Ideal S1x704x1408 .f32) (x0 : FVec Ideal S704x512 .bf16) (x1 : FVec Ideal S1x1x512x1408 .bf16)
    (j : S1x704x1408.Idx) : k0_pay8 (F := Ideal) acc x0 x1 j = acc j + part x0 x1 (j 1) (j 2) := by
  pointwise [k0_pay8, part]

/-- The logistic function as both programs compute it. -/
abbrev lgs (g : EReal) : EReal := Ideal.div 1 (1 + Ideal.exp (-g))

/-- One entry of a product. -/
abbrev dot (NX : FVec Ideal S4224x2048 .bf16) (WG : FVec Ideal S4x2x2048x1408 .bf16) (j : S4224x5632.Idx) : EReal :=
  ∑ x : Fin 2048, NX (ix2 (j 0) x) * WG (ix4 ⟨(j 1).val / 1408, by idx_bounds; omega⟩ 0 x ⟨(j 1).val % 1408, by omega⟩)

theorem h0 (NX : FVec Ideal S4224x2048 .bf16) (WG : FVec Ideal S4x2x2048x1408 .bf16) (j : S4224x5632.Idx) :
    REF0 NX WG j = dot NX WG j := by
  pointwise [REF0]

theorem h1 (NX : FVec Ideal S4224x2048 .bf16) (WU : FVec Ideal S4x2x2048x1408 .bf16) (j : S4224x5632.Idx) :
    REF1 NX WU j = dot NX WU j := by
  pointwise [REF1]

theorem h2 (NX : FVec Ideal S4224x2048 .bf16) (WG WU : FVec Ideal S4x2x2048x1408 .bf16) (j : S4224x5632.Idx) :
    REF2 NX WG WU j = dot NX WG j * lgs (dot NX WG j) * dot NX WU j := by
  pointwise [REF2]

theorem ho2 (v w : FVec Ideal S1x704x1408 .f32) (j : S704x1408.Idx) :
    k0_pay5 (F := Ideal) v w j = v (ix3 0 (j 0) (j 1)) * lgs (v (ix3 0 (j 0) (j 1))) * w (ix3 0 (j 0) (j 1)) := by
  unfold lgs
  rw [← Cert.Ffn.zero_sub']
  pointwise [k0_pay5, k0_pay1, k0_pay2]

theorem ho0 (v : FVec Ideal S1x704x1408 .f32) (j : S704x1408.Idx) :
    k0_pay3 (F := Ideal) v j = v (ix3 0 (j 0) (j 1)) := by
  pointwise [k0_pay3, k0_pay1]

theorem ho1 (v : FVec Ideal S1x704x1408 .f32) (j : S704x1408.Idx) :
    k0_pay4 (F := Ideal) v j = v (ix3 0 (j 0) (j 1)) := by
  pointwise [k0_pay4, k0_pay2]

theorem idx : ∀ t : Fin cfg0.N, win0_0.index t = ![t.val / 16, t.val % 4] ∧ win0_1.index t = ![t.val / 16, t.val % 4]
    ∧ win0_2.index t = ![t.val / 4 % 4, 0, t.val % 4, 0] ∧ win0_3.index t = ![t.val / 4 % 4, 0, t.val % 4, 0]
    ∧ win0_4.index t = ![t.val / 16, t.val / 4 % 4] ∧ win0_5.index t = ![t.val / 16, t.val / 4 % 4]
    ∧ win0_6.index t = ![t.val / 16, t.val / 4 % 4] :=
  (by decide +kernel : ∀ t : Fin grid0.N, _)

/-- The two carried sums. -/
abbrev sc (c : Dev nD) (n : ℕ) (h : n < cfg0.N) : FVec Ideal S2x704x1408 .f32 := (outsAt0 (F := Ideal) m c n h).2.2.2

theorem inb0 : ∀ a : Fin S2x704x1408.rank, (![0, 0, 0] : Fin 3 → ℕ) a + (![1, 704, 1408] : Fin 3 → ℕ) a ≤ S2x704x1408.size a := by decide
theorem inb1 : ∀ a : Fin S2x704x1408.rank, (![1, 0, 0] : Fin 3 → ℕ) a + (![1, 704, 1408] : Fin 3 → ℕ) a ≤ S2x704x1408.size a := by decide

/-- The carried buffer's first half, the gate's sum, -/
abbrev r0 : Rect S2x704x1408 := Rect.unit ![0, 0, 0] ![1, 704, 1408] inb0
/-- and its second half, the up projection's. -/
abbrev r1 : Rect S2x704x1408 := Rect.unit ![1, 0, 0] ![1, 704, 1408] inb1

theorem emb0 (a : Fin 704) (b : Fin 1408) : r0.emb (ix3 0 a b : S1x704x1408.Idx) = ix3 (0 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem emb1 (a : Fin 704) (b : Fin 1408) : r1.emb (ix3 0 a b : S1x704x1408.Idx) = ix3 (1 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem canonEmb {S : Shape} (r : Rect S) (w : r.shape.Idx → Elt Ideal .f32) (L : List (View.Piece (Elt Ideal) S .f32))
    (x : r.shape.Idx) (y : S.Idx) (h : r.emb x = y) : View.canon (⟨r, w⟩ :: L) y = w x := by
  rw [← h]; exact View.canon_cons_emb r w L x

theorem canonSkip {S : Shape} (r : Rect S) (w : r.shape.Idx → Elt Ideal .f32) (L : List (View.Piece (Elt Ideal) S .f32))
    (y : S.Idx) (h : y ∉ r.set) : View.canon (⟨r, w⟩ :: L) y = View.canon L y :=
  View.canon_cons_of_not_mem ⟨r, w⟩ L h

theorem not1 (a : Fin 704) (b : Fin 1408) : (ix3 (0 : Fin 2) a b : S2x704x1408.Idx) ∉ r1.set := by
  intro h
  have h' : 1 ≤ 0 := (Rect.mem_set_unit.mp h 0).1
  omega

theorem canon1 (w : FVec Ideal S1x704x1408 .f32) (L : List (View.Piece (Elt Ideal) S2x704x1408 .f32)) (a : Fin 704) (b : Fin 1408) :
    View.canon (⟨r1, w⟩ :: L) (ix3 (1 : Fin 2) a b) = w (ix3 0 a b) :=
  canonEmb r1 w L (ix3 0 a b) _ (emb1 a b)

theorem canon0 (w : FVec Ideal S1x704x1408 .f32) (L : List (View.Piece (Elt Ideal) S2x704x1408 .f32)) (a : Fin 704) (b : Fin 1408) :
    View.canon (⟨r0, w⟩ :: L) (ix3 (0 : Fin 2) a b) = w (ix3 0 a b) :=
  canonEmb r0 w L (ix3 0 a b) _ (emb0 a b)

theorem skip1 (w : FVec Ideal S1x704x1408 .f32) (L : List (View.Piece (Elt Ideal) S2x704x1408 .f32)) (a : Fin 704) (b : Fin 1408) :
    View.canon (⟨r1, w⟩ :: L) (ix3 (0 : Fin 2) a b) = View.canon L (ix3 (0 : Fin 2) a b) :=
  canonSkip r1 w L _ (not1 a b)

theorem tA0 (c : Dev nD) (t : Fin cfg0.N) (h : t.val % 4 = 0) (a : Fin 704) (b : Fin 1408) :
    sc m c t.val t.isLt (ix3 0 a b) = (0 + part (iblk m c 0 t) (iblk m c 2 t) a b : EReal) := by
  unfold sc
  rw [outsAt0_A m c t h (by omega)]
  frame_out
  refine (skip1 _ _ a b).trans ((canon0 _ _ a b).trans ?_)
  rw [hpay0, View.readCov_fill _ _ _ _ _ (by decide)]
  exact congrArg (· + _) (hzero _)

theorem tA1 (c : Dev nD) (t : Fin cfg0.N) (h : t.val % 4 = 0) (a : Fin 704) (b : Fin 1408) :
    sc m c t.val t.isLt (ix3 1 a b) = (0 + part (iblk m c 1 t) (iblk m c 3 t) a b : EReal) := by
  unfold sc
  rw [outsAt0_A m c t h (by omega)]
  frame_out
  refine (canon1 _ _ a b).trans ?_
  rw [hpay1, View.readCov_skip _ _ _ _ _ (by decide), View.readCov_fill _ _ _ _ _ (by decide)]
  exact congrArg (· + _) (hzero _)

theorem tS0 (c : Dev nD) (t : Fin cfg0.N) (h : ¬ t.val % 4 = 0) (a : Fin 704) (b : Fin 1408) :
    sc m c t.val t.isLt (ix3 0 a b) = (sc m c (t.val - 1) (by omega) (ix3 0 a b) + part (iblk m c 0 t) (iblk m c 2 t) a b : EReal) := by
  unfold sc
  by_cases h1 : t.val % 4 = 3
  · rw [outsAt0_C m c t h h1]
    frame_out
    refine (skip1 _ _ a b).trans ((canon0 _ _ a b).trans ?_)
    rw [hpay0, read_unread_whole]
    exact congrArg (· + _) (congrArg _ (emb0 a b))
  · rw [outsAt0_B m c t h h1]
    frame_out
    refine (skip1 _ _ a b).trans ((canon0 _ _ a b).trans ?_)
    rw [hpay0, read_unread_whole]
    exact congrArg (· + _) (congrArg _ (emb0 a b))

theorem tS1 (c : Dev nD) (t : Fin cfg0.N) (h : ¬ t.val % 4 = 0) (a : Fin 704) (b : Fin 1408) :
    sc m c t.val t.isLt (ix3 1 a b) = (sc m c (t.val - 1) (by omega) (ix3 1 a b) + part (iblk m c 1 t) (iblk m c 3 t) a b : EReal) := by
  unfold sc
  by_cases h1 : t.val % 4 = 3
  · rw [outsAt0_C m c t h h1]
    frame_out
    refine (canon1 _ _ a b).trans ?_
    rw [hpay1, read_unread_whole]
    exact congrArg (· + _) (congrArg _ (emb1 a b))
  · rw [outsAt0_B m c t h h1]
    frame_out
    refine (canon1 _ _ a b).trans ?_
    rw [hpay1, read_unread_whole]
    exact congrArg (· + _) (congrArg _ (emb1 a b))

theorem left6 (c : Dev nD) (t : Fin cfg0.N) (h : t.val % 4 = 3) :
    (outsAt0 (F := Ideal) m c t.val t.isLt).2.2.1 = k0_pay5 (F := Ideal) (View.ld (sc m c t.val t.isLt) r0) (View.ld (sc m c t.val t.isLt) r1) := by
  unfold sc
  rw [outsAt0_C m c t (by omega) h]
  frame_out
  rw [View.readCov_eq_canon', View.readCov_eq_canon']

theorem left4 (c : Dev nD) (t : Fin cfg0.N) (h : t.val % 4 = 3) :
    (outsAt0 (F := Ideal) m c t.val t.isLt).1 = k0_pay3 (F := Ideal) (View.ld (sc m c t.val t.isLt) r0) := by
  unfold sc
  rw [outsAt0_C m c t (by omega) h]
  frame_out
  rw [View.readCov_eq_canon']

theorem left5 (c : Dev nD) (t : Fin cfg0.N) (h : t.val % 4 = 3) :
    (outsAt0 (F := Ideal) m c t.val t.isLt).2.1 = k0_pay4 (F := Ideal) (View.ld (sc m c t.val t.isLt) r1) := by
  unfold sc
  rw [outsAt0_C m c t (by omega) h]
  frame_out
  rw [View.readCov_eq_canon']

/-- The first half at the last point of a run: the four points' columns. -/
theorem carried0 (c : Dev nD) (t : Fin cfg0.N) (h : t.val % 4 = 3) (a : Fin 704) (b : Fin 1408) :
    sc m c t.val t.isLt (ix3 0 a b) = (∑ s : Fin 4, part (iblk m c 0 ⟨4 * (t.val / 4) + s.val, Pipeline.run_point_lt_of_flush t h s⟩)
      (iblk m c 2 ⟨4 * (t.val / 4) + s.val, Pipeline.run_point_lt_of_flush t h s⟩) a b : EReal) := by
  have e := Pipeline.eq_sum_fin_of_reset_step_apply_of_flush (fun n h (_ : Unit) => (sc m c n h (ix3 0 a b) : EReal)) 4 (fun _ => 0)
      (fun p _ => part (iblk m c 0 p) (iblk m c 2 p) a b)
      (fun t h _ => tA0 m c t h a b) (fun t h _ => tS0 m c t h a b) t h ()
  rw [zero_add] at e
  exact e

/-- … which is the whole product's entry. -/
theorem carried_dot0 (c : Dev nD) (t : Fin cfg0.N) (h : t.val % 4 = 3) (y : S704x1408.Idx) (j : S4224x5632.Idx)
    (h0 : (j 0).val = t.val / 16 * 704 + (y 0).val) (h1 : (j 1).val = t.val / 4 % 4 * 1408 + (y 1).val) :
    (View.ld (Val := Elt Ideal) (e' := .f32) (sc m c t.val t.isLt) r0 : FVec Ideal S1x704x1408 .f32) (ix3 0 (y 0) (y 1)) = dot (m ((c : Thread nD τ).loc main_arg0)) (m ((c : Thread nD τ).loc main_arg1)) j := by
  refine (congrArg (sc m c t.val t.isLt) (emb0 (y 0) (y 1))).trans ((carried0 m c t h (y 0) (y 1)).trans ?_)
  unfold part dot
  refine Fin.sum_mul_add_congr fun s k hl => ?_
  blk_point [iblk, V, idx t, idx ⟨_, Pipeline.run_point_lt_of_flush t h s⟩]

/-- The second half at the last point of a run. -/
theorem carried1 (c : Dev nD) (t : Fin cfg0.N) (h : t.val % 4 = 3) (a : Fin 704) (b : Fin 1408) :
    sc m c t.val t.isLt (ix3 1 a b) = (∑ s : Fin 4, part (iblk m c 1 ⟨4 * (t.val / 4) + s.val, Pipeline.run_point_lt_of_flush t h s⟩)
      (iblk m c 3 ⟨4 * (t.val / 4) + s.val, Pipeline.run_point_lt_of_flush t h s⟩) a b : EReal) := by
  have e := Pipeline.eq_sum_fin_of_reset_step_apply_of_flush (fun n h (_ : Unit) => (sc m c n h (ix3 1 a b) : EReal)) 4 (fun _ => 0)
      (fun p _ => part (iblk m c 1 p) (iblk m c 3 p) a b)
      (fun t h _ => tA1 m c t h a b) (fun t h _ => tS1 m c t h a b) t h ()
  rw [zero_add] at e
  exact e

/-- … which is the whole product's entry. -/
theorem carried_dot1 (c : Dev nD) (t : Fin cfg0.N) (h : t.val % 4 = 3) (y : S704x1408.Idx) (j : S4224x5632.Idx)
    (h0 : (j 0).val = t.val / 16 * 704 + (y 0).val) (h1 : (j 1).val = t.val / 4 % 4 * 1408 + (y 1).val) :
    (View.ld (Val := Elt Ideal) (e' := .f32) (sc m c t.val t.isLt) r1 : FVec Ideal S1x704x1408 .f32) (ix3 0 (y 0) (y 1)) = dot (m ((c : Thread nD τ).loc main_arg0)) (m ((c : Thread nD τ).loc main_arg2)) j := by
  refine (congrArg (sc m c t.val t.isLt) (emb1 (y 0) (y 1))).trans ((carried1 m c t h (y 0) (y 1)).trans ?_)
  unfold part dot
  refine Fin.sum_mul_add_congr fun s k hl => ?_
  blk_point [iblk, V, idx t, idx ⟨_, Pipeline.run_point_lt_of_flush t h s⟩]

theorem final4 (c : Dev nD) : (dats m 0 c).arrAt 4 (cfgs 0).N
    = REF0 (m ((c : Thread nD τ).loc main_arg0)) (m ((c : Thread nD τ).loc main_arg1)) := by
  refine (dats m 0 c).arrAt_eq_of_covers 4 _ (by decide +kernel) fun t hf y => ?_
  blk_simp
  rw [after0_4, left4 m c t ((flush0_4 t).mp hf), ho0,
    carried_dot0 m c t ((flush0_4 t).mp hf) _ (((cfg0.win 4).blk t).view.emb y) (by blk_simp [idx t]; try rfl) (by blk_simp [idx t]; try rfl), h0]

theorem final5 (c : Dev nD) : (dats m 0 c).arrAt 5 (cfgs 0).N
    = REF1 (m ((c : Thread nD τ).loc main_arg0)) (m ((c : Thread nD τ).loc main_arg2)) := by
  refine (dats m 0 c).arrAt_eq_of_covers 5 _ (by decide +kernel) fun t hf y => ?_
  blk_simp
  rw [after0_5, left5 m c t ((flush0_5 t).mp hf), ho1,
    carried_dot1 m c t ((flush0_5 t).mp hf) _ (((cfg0.win 5).blk t).view.emb y) (by blk_simp [idx t]; try rfl) (by blk_simp [idx t]; try rfl), h1]

theorem final6 (c : Dev nD) : (dats m 0 c).arrAt 6 (cfgs 0).N
    = REF2 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, left6 m c t ((flush0_6 t).mp hf), ho2,
    carried_dot0 m c t ((flush0_6 t).mp hf) _ (((cfg0.win 6).blk t).view.emb y) (by blk_simp [idx t]; try rfl) (by blk_simp [idx t]; try rfl),
    carried_dot1 m c t ((flush0_6 t).mp hf) _ (((cfg0.win 6).blk t).view.emb y) (by blk_simp [idx t]; try rfl) (by blk_simp [idx t]; try rfl), h2]

end Cert.Ffn.FirstGateUp

end
-- ==== Proof.FirstDownV.lean ====
/- The down projection and its half residual: what the kernel leaves in its result. -/
module

public import proofs.«01_k».proof.Proof.Gen.FirstDownIdeal.Frame
public import proofs.«01_k».proof.Proof.Gen.FirstDownRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstDown

open Cert.FirstDownIdeal Cert.FirstDownIdeal.Gen

variable (m : (ℓ : Loc nD τ sig) → Buf (Elt Ideal) ℓ)

/-- The reference's term over the three arguments. -/
abbrev REF (H : FVec Ideal S4224x2048 .f32) (A : FVec Ideal S4224x5632 .bf16) (WD : FVec Ideal S4x2x1408x2048 .bf16) : FVec Ideal S4224x2048 .f32 :=
  addf H (mulf (broadcastInDim Cert.FirstDownRefIdeal.S4224x2048 ![] Cert.FirstDownRefIdeal.Gen.bcast_S_S4224x2048 (constant Cert.FirstDownRefIdeal.S_ .f32 0x3F000000#32)) (Host.dotGeneral Cert.FirstDownRefIdeal.dot_S4224x5632_S5632x2048_S4224x2048_1_0_0_1_n_n none (extf .f32 A Cert.FirstDownRefIdeal.Gen.bitsLt_bf16_f32) (shapeCast _ (extf .f32 (shapeCast _ (extractStridedSlice Cert.FirstDownRefIdeal.S4x1x1408x2048 ![0, 0, 0, 0] WD Cert.FirstDownRefIdeal.Gen.slices_S4x2x1408x2048_S4x1x1408x2048_0_0_0_0) Cert.FirstDownRefIdeal.Gen.shapeCasts_S4x1x1408x2048_S4x1408x2048) Cert.FirstDownRefIdeal.Gen.bitsLt_bf16_f32) Cert.FirstDownRefIdeal.Gen.shapeCasts_S4x1408x2048_S5632x2048)))

theorem hzero (j : S1x1056x1024.Idx) : k0_pay1 (F := Ideal) j = (0 : EReal) := by pointwise [k0_pay1]

/-- What one grid point adds: its columns of the product. -/
def part (x0 : FVec Ideal S1056x1408 .bf16) (x1 : FVec Ideal S1x1x1408x1024 .bf16) (j : S1x1056x1024.Idx) : EReal :=
  ∑ k : Fin 1408, x0 (ix2 (j 1) k) * x1 (ix4 0 0 k (j 2))

theorem hpay (acc : FVec Ideal S1x1056x1024 .f32) (x0 : FVec Ideal S1056x1408 .bf16) (x1 : FVec Ideal S1x1x1408x1024 .bf16)
    (j : S1x1056x1024.Idx) : k0_pay2 (F := Ideal) acc x0 x1 j = acc j + part x0 x1 j := by
  pointwise [k0_pay2, part]

/-- One entry of the product. -/
abbrev dot (A : FVec Ideal S4224x5632 .bf16) (WD : FVec Ideal S4x2x1408x2048 .bf16) (j : S4224x2048.Idx) : EReal :=
  ∑ x : Fin 5632, A (ix2 (j 0) x) * WD (ix4 ⟨x.val / 1408, by omega⟩ 0 ⟨x.val % 1408, by omega⟩ (j 1))

theorem href (H : FVec Ideal S4224x2048 .f32) (A : FVec Ideal S4224x5632 .bf16) (WD : FVec Ideal S4x2x1408x2048 .bf16) (j : S4224x2048.Idx) :
    REF H A WD j = H j + Cert.Ffn.half * dot A WD j := by
  pointwise [REF]

theorem hout (v : FVec Ideal S1x1056x1024 .f32) (h : FVec Ideal S1056x1024 .f32) (j : S1056x1024.Idx) :
    k0_pay3 (F := Ideal) v h j = h j + Cert.Ffn.half * v (ix3 0 (j 0) (j 1)) := by
  pointwise [k0_pay3]

theorem idx : ∀ t : Fin cfg0.N, win0_0.index t = ![t.val / 8, t.val % 4] ∧ win0_1.index t = ![t.val % 4, 0, 0, t.val / 4 % 2]
    ∧ win0_2.index t = ![t.val / 8, t.val / 4 % 2] ∧ win0_3.index t = ![t.val / 8, t.val / 4 % 2] :=
  (by decide +kernel : ∀ t : Fin grid0.N, _)

/-- The last point of a run stores its rows and half of the sum it has carried. -/
theorem left3 (c : Dev nD) (t : Fin cfg0.N) (h : t.val % 4 = 3) :
    (outsAt0 (F := Ideal) m c t.val t.isLt).1 = k0_pay3 (F := Ideal) (outsAt0 (F := Ideal) m c t.val t.isLt).2 (iblk m c 2 t) := by
  rw [outsAt0_C m c t (by omega) h]
  frame_out

/-- The carried sum at the last point of a run: the four points' columns. -/
theorem carried (c : Dev nD) (t : Fin cfg0.N) (h : t.val % 4 = 3) (j : S1x1056x1024.Idx) :
    (outsAt0 (F := Ideal) m c t.val t.isLt).2 j = (∑ s : Fin 4, part (iblk m c 0 ⟨4 * (t.val / 4) + s.val, Pipeline.run_point_lt_of_flush t h s⟩)
      (iblk m c 1 ⟨4 * (t.val / 4) + s.val, Pipeline.run_point_lt_of_flush t h s⟩) j : EReal) := by
  rw [Pipeline.eq_sum_fin_of_reset_step_apply_of_flush (fun n h => (outsAt0 m c n h).2) 4 (fun _ => 0)
      (fun p j => part (iblk m c 0 p) (iblk m c 1 p) j)
      (fun t h j => by rw [outsAt0_A m c t h (by omega)]; frame_out; rw [hpay, hzero])
      (fun t h j => by
        by_cases h1 : t.val % 4 = 3
        · rw [outsAt0_C m c t h h1]; frame_out; rw [hpay, read_unread_whole]
        · rw [outsAt0_B m c t h h1]; frame_out; rw [hpay, read_unread_whole])
      t h j, zero_add]

/-- … which is the whole product's entry. -/
theorem carried_dot (c : Dev nD) (t : Fin cfg0.N) (h : t.val % 4 = 3) (y : S1056x1024.Idx) (j : S4224x2048.Idx)
    (h0 : (j 0).val = t.val / 8 * 1056 + (y 0).val) (h1 : (j 1).val = t.val / 4 % 2 * 1024 + (y 1).val) :
    (outsAt0 (F := Ideal) m c t.val t.isLt).2 (ix3 0 (y 0) (y 1))
      = dot (m ((c : Thread nD τ).loc main_arg1)) (m ((c : Thread nD τ).loc main_arg2)) j := by
  rw [carried m c t h]
  unfold part dot
  refine Fin.sum_mul_add_congr fun s k hl => ?_
  blk_point [iblk, V, idx t, idx ⟨_, Pipeline.run_point_lt_of_flush t h s⟩]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, left3 m c t ((flush0_3 t).mp hf), hout,
    carried_dot m c t ((flush0_3 t).mp hf) _ (((cfg0.win 3).blk t).view.emb y) (by blk_simp [idx t]; try rfl) (by blk_simp [idx t]; try rfl), href]
  blk_point [iblk, V, idx t]

end Cert.Ffn.FirstDown

end
-- ==== Proof.FirstDActV.lean ====
/- The gradients of the gate and of the up projection: what the kernel leaves in its two results. -/
module

public import Idealize.ShloMosaic.Lib.Pipeline.ReadBack
public import proofs.«01_k».proof.Proof.Gen.FirstDActIdeal.Frame
public import proofs.«01_k».proof.Proof.Gen.FirstDActRefIdeal
public import proofs.«01_k».proof.Proof.Half
public import proofs.«01_k».proof.Proof.Row

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstDAct

open Cert.FirstDActIdeal Cert.FirstDActIdeal.Gen

variable (m : (ℓ : Loc nD τ sig) → Buf (Elt Ideal) ℓ)

/-- The reference's two terms over the four arguments. -/
abbrev REF0 (D2 : FVec Ideal S4224x2048 .f32) (WD : FVec Ideal S4x2x1408x2048 .bf16) (G U : FVec Ideal S4224x5632 .bf16) : FVec Ideal S4224x5632 .bf16 :=
  truncf .bf16 (addf (mulf (mulf (Host.dotGeneral Cert.FirstDActRefIdeal.dot_S4224x2048_S5632x2048_S4224x5632_1_1_0_0_n_n none (mulf (broadcastInDim Cert.FirstDActRefIdeal.S4224x2048 ![] Cert.FirstDActRefIdeal.Gen.bcast_S_S4224x2048 (constant Cert.FirstDActRefIdeal.S_ .f32 0x3F000000#32)) D2) (shapeCast _ (extf .f32 (shapeCast _ (extractStridedSlice Cert.FirstDActRefIdeal.S4x1x1408x2048 ![0, 0, 0, 0] WD Cert.FirstDActRefIdeal.Gen.slices_S4x2x1408x2048_S4x1x1408x2048_0_0_0_0) Cert.FirstDActRefIdeal.Gen.shapeCasts_S4x1x1408x2048_S4x1408x2048) Cert.FirstDActRefIdeal.Gen.bitsLt_bf16_f32) Cert.FirstDActRefIdeal.Gen.shapeCasts_S4x1408x2048_S5632x2048)) (extf .f32 U Cert.FirstDActRefIdeal.Gen.bitsLt_bf16_f32)) (Host.divf (broadcastInDim Cert.FirstDActRefIdeal.S4224x5632 ![] Cert.FirstDActRefIdeal.Gen.bcast_S_S4224x5632 (constant Cert.FirstDActRefIdeal.S_ .f32 0x3F800000#32)) (addf (broadcastInDim Cert.FirstDActRefIdeal.S4224x5632 ![] Cert.FirstDActRefIdeal.Gen.bcast_S_S4224x5632 (constant Cert.FirstDActRefIdeal.S_ .f32 0x3F800000#32)) (Host.exp (Host.negf (extf .f32 G Cert.FirstDActRefIdeal.Gen.bitsLt_bf16_f32)))))) (mulf (mulf (extf .f32 G Cert.FirstDActRefIdeal.Gen.bitsLt_bf16_f32) (mulf (Host.dotGeneral Cert.FirstDActRefIdeal.dot_S4224x2048_S5632x2048_S4224x5632_1_1_0_0_n_n none (mulf (broadcastInDim Cert.FirstDActRefIdeal.S4224x2048 ![] Cert.FirstDActRefIdeal.Gen.bcast_S_S4224x2048 (constant Cert.FirstDActRefIdeal.S_ .f32 0x3F000000#32)) D2) (shapeCast _ (extf .f32 (shapeCast _ (extractStridedSlice Cert.FirstDActRefIdeal.S4x1x1408x2048 ![0, 0, 0, 0] WD Cert.FirstDActRefIdeal.Gen.slices_S4x2x1408x2048_S4x1x1408x2048_0_0_0_0) Cert.FirstDActRefIdeal.Gen.shapeCasts_S4x1x1408x2048_S4x1408x2048) Cert.FirstDActRefIdeal.Gen.bitsLt_bf16_f32) Cert.FirstDActRefIdeal.Gen.shapeCasts_S4x1408x2048_S5632x2048)) (extf .f32 U Cert.FirstDActRefIdeal.Gen.bitsLt_bf16_f32))) (mulf (Host.divf (broadcastInDim Cert.FirstDActRefIdeal.S4224x5632 ![] Cert.FirstDActRefIdeal.Gen.bcast_S_S4224x5632 (constant Cert.FirstDActRefIdeal.S_ .f32 0x3F800000#32)) (addf (broadcastInDim Cert.FirstDActRefIdeal.S4224x5632 ![] Cert.FirstDActRefIdeal.Gen.bcast_S_S4224x5632 (constant Cert.FirstDActRefIdeal.S_ .f32 0x3F800000#32)) (Host.exp (Host.negf (extf .f32 G Cert.FirstDActRefIdeal.Gen.bitsLt_bf16_f32))))) (subf (broadcastInDim Cert.FirstDActRefIdeal.S4224x5632 ![] Cert.FirstDActRefIdeal.Gen.bcast_S_S4224x5632 (constant Cert.FirstDActRefIdeal.S_ .f32 0x3F800000#32)) (Host.divf (broadcastInDim Cert.FirstDActRefIdeal.S4224x5632 ![] Cert.FirstDActRefIdeal.Gen.bcast_S_S4224x5632 (constant Cert.FirstDActRefIdeal.S_ .f32 0x3F800000#32)) (addf (broadcastInDim Cert.FirstDActRefIdeal.S4224x5632 ![] Cert.FirstDActRefIdeal.Gen.bcast_S_S4224x5632 (constant Cert.FirstDActRefIdeal.S_ .f32 0x3F800000#32)) (Host.exp (Host.negf (extf .f32 G Cert.FirstDActRefIdeal.Gen.bitsLt_bf16_f32))))))))) Cert.FirstDActRefIdeal.Gen.bitsLt_bf16_f32

abbrev REF1 (D2 : FVec Ideal S4224x2048 .f32) (WD : FVec Ideal S4x2x1408x2048 .bf16) (G U : FVec Ideal S4224x5632 .bf16) : FVec Ideal S4224x5632 .bf16 :=
  truncf .bf16 (mulf (mulf (extf .f32 G Cert.FirstDActRefIdeal.Gen.bitsLt_bf16_f32) (Host.divf (broadcastInDim Cert.FirstDActRefIdeal.S4224x5632 ![] Cert.FirstDActRefIdeal.Gen.bcast_S_S4224x5632 (constant Cert.FirstDActRefIdeal.S_ .f32 0x3F800000#32)) (addf (broadcastInDim Cert.FirstDActRefIdeal.S4224x5632 ![] Cert.FirstDActRefIdeal.Gen.bcast_S_S4224x5632 (constant Cert.FirstDActRefIdeal.S_ .f32 0x3F800000#32)) (Host.exp (Host.negf (extf .f32 G Cert.FirstDActRefIdeal.Gen.bitsLt_bf16_f32)))))) (Host.dotGeneral Cert.FirstDActRefIdeal.dot_S4224x2048_S5632x2048_S4224x5632_1_1_0_0_n_n none (mulf (broadcastInDim Cert.FirstDActRefIdeal.S4224x2048 ![] Cert.FirstDActRefIdeal.Gen.bcast_S_S4224x2048 (constant Cert.FirstDActRefIdeal.S_ .f32 0x3F000000#32)) D2) (shapeCast _ (extf .f32 (shapeCast _ (extractStridedSlice Cert.FirstDActRefIdeal.S4x1x1408x2048 ![0, 0, 0, 0] WD Cert.FirstDActRefIdeal.Gen.slices_S4x2x1408x2048_S4x1x1408x2048_0_0_0_0) Cert.FirstDActRefIdeal.Gen.shapeCasts_S4x1x1408x2048_S4x1408x2048) Cert.FirstDActRefIdeal.Gen.bitsLt_bf16_f32) Cert.FirstDActRefIdeal.Gen.shapeCasts_S4x1408x2048_S5632x2048))) Cert.FirstDActRefIdeal.Gen.bitsLt_bf16_f32

theorem hzero (j : S1x704x1408.Idx) : k0_pay1 (F := Ideal) j = (0 : EReal) := by pointwise [k0_pay1]

/-- What one grid point adds: its columns of the product. -/
def part (x0 : FVec Ideal S704x1024 .f32) (x1 : FVec Ideal S1x1x1408x1024 .bf16) (j : S1x704x1408.Idx) : EReal :=
  ∑ k : Fin 1024, x0 (ix2 (j 1) k) * x1 (ix4 0 0 (j 2) k)

theorem hpay (acc : FVec Ideal S1x704x1408 .f32) (x0 : FVec Ideal S704x1024 .f32) (x1 : FVec Ideal S1x1x1408x1024 .bf16)
    (j : S1x704x1408.Idx) : k0_pay2 (F := Ideal) acc x0 x1 j = acc j + part x0 x1 j := by
  pointwise [k0_pay2, part]

/-- The logistic function as both programs compute it. -/
abbrev lgs (g : EReal) : EReal := Ideal.div 1 (1 + Ideal.exp (-g))

/-- One entry of the product of the rows' gradient with the down projection. -/
abbrev dot (D2 : FVec Ideal S4224x2048 .f32) (WD : FVec Ideal S4x2x1408x2048 .bf16) (j : S4224x5632.Idx) : EReal :=
  ∑ x : Fin 2048, D2 (ix2 (j 0) x) * WD (ix4 ⟨(j 1).val / 1408, by idx_bounds; omega⟩ 0 ⟨(j 1).val % 1408, by omega⟩ x)

/-- What the kernel computes: one factored form for the gate's gradient, and the up projection's. -/
def K0 (D2 : FVec Ideal S4224x2048 .f32) (WD : FVec Ideal S4x2x1408x2048 .bf16) (G U : FVec Ideal S4224x5632 .bf16) : FVec Ideal S4224x5632 .bf16 :=
  fun j => (Cert.Ffn.half * dot D2 WD j * U j * (lgs (G j) * (1 + G j * (1 - lgs (G j)))) : EReal)

def K1 (D2 : FVec Ideal S4224x2048 .f32) (WD : FVec Ideal S4x2x1408x2048 .bf16) (G : FVec Ideal S4224x5632 .bf16) : FVec Ideal S4224x5632 .bf16 :=
  fun j => (Cert.Ffn.half * dot D2 WD j * (G j * lgs (G j)) : EReal)

theorem h0 (D2 : FVec Ideal S4224x2048 .f32) (WD : FVec Ideal S4x2x1408x2048 .bf16) (G U : FVec Ideal S4224x5632 .bf16) (j : S4224x5632.Idx) :
    REF0 D2 WD G U j = Cert.Ffn.half * dot D2 WD j * U j * lgs (G j)
      + G j * (Cert.Ffn.half * dot D2 WD j * U j) * (lgs (G j) * (1 - lgs (G j))) := by
  rw [← Cert.Ffn.half_dot]
  pointwise [REF0]

theorem h1 (D2 : FVec Ideal S4224x2048 .f32) (WD : FVec Ideal S4x2x1408x2048 .bf16) (G U : FVec Ideal S4224x5632 .bf16) (j : S4224x5632.Idx) :
    REF1 D2 WD G U j = G j * lgs (G j) * (Cert.Ffn.half * dot D2 WD j) := by
  rw [← Cert.Ffn.half_dot]
  pointwise [REF1]

theorem coe_lgs (g : ℝ) : lgs (g : EReal) = ((1 / (1 + Real.exp (-g)) : ℝ) : EReal) := by
  have e : (1 : EReal) + Ideal.exp (-(g : EReal)) = ((1 + Real.exp (-g) : ℝ) : EReal) := by
    rw [← EReal.coe_neg, Cert.Attn.coe_exp, EReal.coe_add, EReal.coe_one]
  have h := Cert.Attn.coe_div 1 (1 + Real.exp (-g)) (by positivity)
  rw [EReal.coe_one] at h
  rw [lgs, e, h]

theorem coe_dot (D2 : FVec Ideal S4224x2048 .f32) (WD : FVec Ideal S4x2x1408x2048 .bf16)
    (h2 : ∀ i, ((EReal.toReal (D2 i) : ℝ) : EReal) = D2 i)
    (hw : ∀ (a : Fin 4) (b : Fin 1408) (d : Fin 2048), ((EReal.toReal (WD (ix4 a 0 b d)) : ℝ) : EReal) = WD (ix4 a 0 b d)) (j : S4224x5632.Idx) :
    ∃ d : ℝ, dot D2 WD j = (d : EReal) := by
  refine ⟨∑ x : Fin 2048, EReal.toReal (D2 (ix2 (j 0) x)) * EReal.toReal (WD (ix4 ⟨(j 1).val / 1408, by idx_bounds; omega⟩ 0 ⟨(j 1).val % 1408, by omega⟩ x)), ?_⟩
  rw [← Cert.Attn.coe_sum]
  refine Finset.sum_congr rfl fun x _ => ?_
  rw [EReal.coe_mul, h2, hw]

theorem lgs_top : lgs ⊤ = 1 := by
  have e : Ideal.exp ⊥ = 0 := rfl
  rw [lgs, EReal.neg_top, e]
  simp [Ideal.div]

theorem lgs_bot : lgs ⊥ = 0 := by
  have e : Ideal.exp ⊤ = ⊤ := rfl
  rw [lgs, EReal.neg_bot, e, EReal.add_top_of_ne_bot (by decide)]
  simp [Ideal.div]

/-- The two forms of the gate's gradient are the same number for a real factor, at every gate, the infinite ones too. -/
theorem gate (p : ℝ) (g : EReal) :
    (p : EReal) * (lgs g * (1 + g * (1 - lgs g))) = p * lgs g + g * p * (lgs g * (1 - lgs g)) := by
  have e : (1 : EReal) - 1 = 0 := by rw [← EReal.coe_one, ← EReal.coe_sub, sub_self, EReal.coe_zero]
  induction g with
  | bot => rw [lgs_bot]; simp
  | top => rw [lgs_top, e]; simp
  | coe g =>
    rw [coe_lgs]
    generalize 1 / (1 + Real.exp (-g)) = s
    norm_cast
    congr 1
    ring

/-- Where the rows' gradient, the weights and the up projection are real numbers the two forms of the gate's gradient are the same array. -/
theorem eq0 (D2 : FVec Ideal S4224x2048 .f32) (WD : FVec Ideal S4x2x1408x2048 .bf16) (G U : FVec Ideal S4224x5632 .bf16)
    (h2 : ∀ i, ((EReal.toReal (D2 i) : ℝ) : EReal) = D2 i)
    (hw : ∀ (a : Fin 4) (b : Fin 1408) (d : Fin 2048), ((EReal.toReal (WD (ix4 a 0 b d)) : ℝ) : EReal) = WD (ix4 a 0 b d))
    (hu : ∀ i, ((EReal.toReal (U i) : ℝ) : EReal) = U i) :
    K0 D2 WD G U = REF0 D2 WD G U := by
  funext j
  rw [h0]
  obtain ⟨d, hd⟩ := coe_dot D2 WD h2 hw j
  show (Cert.Ffn.half * dot D2 WD j * U j * (lgs (G j) * (1 + G j * (1 - lgs (G j)))) : EReal) = _
  rw [hd, ← hu j, Cert.Ffn.half_eq, ← EReal.coe_mul, ← EReal.coe_mul]
  exact gate _ _

theorem eq1 (D2 : FVec Ideal S4224x2048 .f32) (WD : FVec Ideal S4x2x1408x2048 .bf16) (G U : FVec Ideal S4224x5632 .bf16) :
    K1 D2 WD G = REF1 D2 WD G U := by
  funext j
  rw [h1]
  exact mul_comm (Cert.Ffn.half * dot D2 WD j) _

theorem ho0 (v : FVec Ideal S1x704x1408 .f32) (g u : FVec Ideal S704x1408 .bf16) (j : S704x1408.Idx) :
    k0_pay6 (F := Ideal) v g u j = Cert.Ffn.half * v (ix3 0 (j 0) (j 1)) * u j * (lgs (g j) * (1 + g j * (1 - lgs (g j)))) := by
  unfold lgs
  rw [← Cert.Ffn.zero_sub']
  pointwise [k0_pay6, k0_pay5, k0_pay4, k0_pay3]

theorem ho1 (v : FVec Ideal S1x704x1408 .f32) (g : FVec Ideal S704x1408 .bf16) (j : S704x1408.Idx) :
    k0_pay7 (F := Ideal) v g j = Cert.Ffn.half * v (ix3 0 (j 0) (j 1)) * (g j * lgs (g j)) := by
  unfold lgs
  rw [← Cert.Ffn.zero_sub']
  pointwise [k0_pay7, k0_pay5, k0_pay4, k0_pay3]

theorem idx : ∀ t : Fin cfg0.N, win0_0.index t = ![t.val / 8, t.val % 2] ∧ win0_1.index t = ![t.val / 2 % 4, 0, 0, t.val % 2]
    ∧ win0_2.index t = ![t.val / 8, t.val / 2 % 4] ∧ win0_3.index t = ![t.val / 8, t.val / 2 % 4]
    ∧ win0_4.index t = ![t.val / 8, t.val / 2 % 4] ∧ win0_5.index t = ![t.val / 8, t.val / 2 % 4] :=
  (by decide +kernel : ∀ t : Fin grid0.N, _)

/-- The last point of a run stores both gradients from the sum it has carried. -/
theorem left4 (c : Dev nD) (t : Fin cfg0.N) (h : t.val % 2 = 1) :
    (outsAt0 (F := Ideal) m c t.val t.isLt).1 = k0_pay6 (F := Ideal) (outsAt0 (F := Ideal) m c t.val t.isLt).2.2 (iblk m c 2 t) (iblk m c 3 t) := by
  rw [outsAt0_B m c t (by omega) h]
  frame_out

theorem left5 (c : Dev nD) (t : Fin cfg0.N) (h : t.val % 2 = 1) :
    (outsAt0 (F := Ideal) m c t.val t.isLt).2.1 = k0_pay7 (F := Ideal) (outsAt0 (F := Ideal) m c t.val t.isLt).2.2 (iblk m c 2 t) := by
  rw [outsAt0_B m c t (by omega) h]
  frame_out

/-- The carried sum at the last point of a run: both points' columns. -/
theorem carried (c : Dev nD) (t : Fin cfg0.N) (h : t.val % 2 = 1) (j : S1x704x1408.Idx) :
    (outsAt0 (F := Ideal) m c t.val t.isLt).2.2 j = (∑ s : Fin 2, part (iblk m c 0 ⟨2 * (t.val / 2) + s.val, Pipeline.run_point_lt_of_flush t h s⟩)
      (iblk m c 1 ⟨2 * (t.val / 2) + s.val, Pipeline.run_point_lt_of_flush t h s⟩) j : EReal) := by
  rw [Pipeline.eq_sum_fin_of_reset_step_apply_of_flush (fun n h => (outsAt0 m c n h).2.2) 2 (fun _ => 0)
      (fun p j => part (iblk m c 0 p) (iblk m c 1 p) j)
      (fun t h j => by rw [outsAt0_A m c t h (by omega)]; frame_out; rw [hpay, hzero])
      (fun t h j => by rw [outsAt0_B m c t h (by omega)]; frame_out; rw [hpay, read_unread_whole])
      t h j, zero_add]

/-- … which is the whole product's entry. -/
theorem carried_dot (c : Dev nD) (t : Fin cfg0.N) (h : t.val % 2 = 1) (y : S704x1408.Idx) (j : S4224x5632.Idx)
    (h0 : (j 0).val = t.val / 8 * 704 + (y 0).val) (h1 : (j 1).val = t.val / 2 % 4 * 1408 + (y 1).val) :
    (outsAt0 (F := Ideal) m c t.val t.isLt).2.2 (ix3 0 (y 0) (y 1))
      = dot (m ((c : Thread nD τ).loc main_arg0)) (m ((c : Thread nD τ).loc main_arg1)) j := by
  rw [carried m c t h]
  unfold part dot
  refine Fin.sum_mul_add_congr fun s k hl => ?_
  blk_point [iblk, V, idx t, idx ⟨_, Pipeline.run_point_lt_of_flush t h s⟩]

theorem final4 (c : Dev nD) : (dats m 0 c).arrAt 4 (cfgs 0).N
    = K0 (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, left4 m c t ((flush0_4 t).mp hf), ho0,
    carried_dot m c t ((flush0_4 t).mp hf) _ (((cfg0.win 4).blk t).view.emb y) (by blk_simp [idx t]; try rfl) (by blk_simp [idx t]; try rfl)]
  unfold K0
  blk_point [iblk, V, idx t]

theorem final5 (c : Dev nD) : (dats m 0 c).arrAt 5 (cfgs 0).N
    = K1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, left5 m c t ((flush0_5 t).mp hf), ho1,
    carried_dot m c t ((flush0_5 t).mp hf) _ (((cfg0.win 5).blk t).view.emb y) (by blk_simp [idx t]; try rfl) (by blk_simp [idx t]; try rfl)]
  unfold K1
  blk_point [iblk, V, idx t]

end Cert.Ffn.FirstDAct

end
-- ==== Proof.FirstDDownV.lean ====
/- The gradient of the down projection: what the kernel leaves in its result. -/
module

public import proofs.«01_k».proof.Proof.Gen.FirstDDownIdeal.Frame
public import proofs.«01_k».proof.Proof.Gen.FirstDDownRefIdeal
public import Idealize.ShloMosaic.Lib.Pipeline.ReadBack
public import proofs.«01_k».proof.Proof.Half

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstDDown

open Cert.FirstDDownIdeal Cert.FirstDDownIdeal.Gen

variable (m : (ℓ : Loc nD τ sig) → Buf (Elt Ideal) ℓ)

/-- The reference's term over the three arguments. -/
abbrev REF (A : FVec Ideal S4224x5632 .bf16) (D2 : FVec Ideal S4224x2048 .f32) (GD : FVec Ideal S4x2x1408x2048 .bf16) : FVec Ideal S4x2x1408x2048 .bf16 :=
  concatenate Cert.FirstDDownRefIdeal.S4x2x1408x2048 1 [⟨Cert.FirstDDownRefIdeal.S4x1x1408x2048, (broadcastInDim Cert.FirstDDownRefIdeal.S4x1x1408x2048 ![0, 2, 3] Cert.FirstDDownRefIdeal.Gen.bcast_S4x1408x2048_S4x1x1408x2048_0_2_3 (truncf .bf16 (shapeCast _ (transpose Cert.FirstDDownRefIdeal.S5632x2048 [1, 0] (Host.dotGeneral Cert.FirstDDownRefIdeal.dot_S4224x2048_S4224x5632_S2048x5632_0_0_1_1_n_n none (mulf (broadcastInDim Cert.FirstDDownRefIdeal.S4224x2048 ![] Cert.FirstDDownRefIdeal.Gen.bcast_S_S4224x2048 (constant Cert.FirstDDownRefIdeal.S_ .f32 0x3F000000#32)) D2) (extf .f32 A Cert.FirstDDownRefIdeal.Gen.bitsLt_bf16_f32)) Cert.FirstDDownRefIdeal.Gen.transposes_S2048x5632_S5632x2048_1_0) Cert.FirstDDownRefIdeal.Gen.shapeCasts_S5632x2048_S4x1408x2048) Cert.FirstDDownRefIdeal.Gen.bitsLt_bf16_f32))⟩, ⟨Cert.FirstDDownRefIdeal.S4x1x1408x2048, (broadcastInDim Cert.FirstDDownRefIdeal.S4x1x1408x2048 ![0, 2, 3] Cert.FirstDDownRefIdeal.Gen.bcast_S4x1408x2048_S4x1x1408x2048_0_2_3 (shapeCast _ (extractStridedSlice Cert.FirstDDownRefIdeal.S4x1x1408x2048 ![0, 1, 0, 0] GD Cert.FirstDDownRefIdeal.Gen.slices_S4x2x1408x2048_S4x1x1408x2048_0_1_0_0) Cert.FirstDDownRefIdeal.Gen.shapeCasts_S4x1x1408x2048_S4x1408x2048))⟩] Cert.FirstDDownRefIdeal.Gen.concatenates_S4x1x1408x2048_S4x1x1408x2048_S4x2x1408x2048_d1

theorem hzero (j : S1x1408x1024.Idx) : k0_pay1 (F := Ideal) j = (0 : EReal) := by pointwise [k0_pay1]

/-- What one grid point adds: its rows of the product. -/
def part (x0 : FVec Ideal S1408x1408 .bf16) (x1 : FVec Ideal S1408x1024 .f32) (j : S1x1408x1024.Idx) : EReal :=
  ∑ k : Fin 1408, x0 (ix2 k (j 1)) * x1 (ix2 k (j 2))

theorem hpay (acc : FVec Ideal S1x1408x1024 .f32) (x0 : FVec Ideal S1408x1408 .bf16) (x1 : FVec Ideal S1408x1024 .f32)
    (j : S1x1408x1024.Idx) : k0_pay2 (F := Ideal) acc x0 x1 j = acc j + part x0 x1 j := by
  pointwise [k0_pay2, part]

/-- One entry of the weight's gradient, before its half. -/
abbrev dot (A : FVec Ideal S4224x5632 .bf16) (D2 : FVec Ideal S4224x2048 .f32) (j : S4x2x1408x2048.Idx) : EReal :=
  ∑ x : Fin 4224, D2 (ix2 x (j 3)) * A (ix2 x ⟨(j 0).val * 1408 + (j 2).val, by idx_bounds; omega⟩)

theorem href (A : FVec Ideal S4224x5632 .bf16) (D2 : FVec Ideal S4224x2048 .f32) (GD : FVec Ideal S4x2x1408x2048 .bf16) (j : S4x2x1408x2048.Idx) :
    REF A D2 GD j = if (j 1).val < 1 then Cert.Ffn.half * dot A D2 j else GD (ix4 (j 0) 1 (j 2) (j 3)) := by
  rw [← Cert.Ffn.half_dot]
  pointwise [REF]
  split_ifs <;> rfl

theorem hout (v : FVec Ideal S1x1408x1024 .f32) (j : S1x1x1408x1024.Idx) :
    k0_pay3 (F := Ideal) v j = Cert.Ffn.half * v (ix3 0 (j 2) (j 3)) := by
  pointwise [k0_pay3]

theorem idx : ∀ t : Fin cfg0.N, win0_0.index t = ![t.val % 3, t.val / 6] ∧ win0_1.index t = ![t.val % 3, t.val / 3 % 2]
    ∧ win0_2.index t = ![t.val / 6, 0, 0, t.val / 3 % 2] :=
  (by decide +kernel : ∀ t : Fin grid0.N, _)

/-- The last point of a run stores half of the sum it has carried. -/
theorem left2 (c : Dev nD) (t : Fin cfg0.N) (h : t.val % 3 = 2) :
    (outsAt0 (F := Ideal) m c t.val t.isLt).1 = k0_pay3 (F := Ideal) (outsAt0 (F := Ideal) m c t.val t.isLt).2 := by
  rw [outsAt0_C m c t (by omega) h]
  frame_out

/-- The carried sum at the last point of a run: the three points' rows. -/
theorem carried (c : Dev nD) (t : Fin cfg0.N) (h : t.val % 3 = 2) (j : S1x1408x1024.Idx) :
    (outsAt0 (F := Ideal) m c t.val t.isLt).2 j = (∑ s : Fin 3, part (iblk m c 0 ⟨3 * (t.val / 3) + s.val, Pipeline.run_point_lt_of_flush t h s⟩)
      (iblk m c 1 ⟨3 * (t.val / 3) + s.val, Pipeline.run_point_lt_of_flush t h s⟩) j : EReal) := by
  rw [Pipeline.eq_sum_fin_of_reset_step_apply_of_flush (fun n h => (outsAt0 m c n h).2) 3 (fun _ => 0)
      (fun p j => part (iblk m c 0 p) (iblk m c 1 p) j)
      (fun t h j => by rw [outsAt0_A m c t h (by omega)]; frame_out; rw [hpay, hzero])
      (fun t h j => by
        by_cases h1 : t.val % 3 = 2
        · rw [outsAt0_C m c t h h1]; frame_out; rw [hpay, read_unread_whole]
        · rw [outsAt0_B m c t h h1]; frame_out; rw [hpay, read_unread_whole])
      t h j, zero_add]

/-- … which is the whole product's entry. -/
theorem carried_dot (c : Dev nD) (t : Fin cfg0.N) (h : t.val % 3 = 2) (y : S1x1x1408x1024.Idx) (j : S4x2x1408x2048.Idx)
    (h0 : (j 0).val = t.val / 6) (h2 : (j 2).val = (y 2).val) (h3 : (j 3).val = t.val / 3 % 2 * 1024 + (y 3).val) :
    (outsAt0 (F := Ideal) m c t.val t.isLt).2 (ix3 0 (y 2) (y 3))
      = dot (m ((c : Thread nD τ).loc main_arg0)) (m ((c : Thread nD τ).loc main_arg1)) j := by
  rw [carried m c t h]
  unfold part dot
  refine Fin.sum_mul_add_congr fun s k hl => ?_
  refine (mul_comm (_ : EReal) _).trans ?_
  blk_point [iblk, V, idx t, idx ⟨_, Pipeline.run_point_lt_of_flush t h s⟩]

theorem entry (c : Dev nD) : V m c main_v0 = m ((c : Thread nD τ).loc main_arg2) := by
  unfold V
  after_results
  try rfl

theorem final2 (c : Dev nD) : (dats m 0 c).arrAt 2 (cfgs 0).N
    = fun i => if (i 1).val = 0 then REF (m ((c : Thread nD τ).loc main_arg0)) (m ((c : Thread nD τ).loc main_arg1))
        (m ((c : Thread nD τ).loc main_arg2)) i else V m c main_v0 i := by
  refine (dats m 0 c).arrAt_eq_of_coversWhere 2 _ (fun β => β 1 = 0) (by decide +kernel) (fun t hf y => ?_)
    (fun j => by blk_simp [Pipeline.Window.cell_apply]; try omega)
  blk_simp
  rw [after0_2, left2 m c t ((flush0_2 t).mp hf), hout,
    carried_dot m c t ((flush0_2 t).mp hf) _ (((cfg0.win 2).blk t).view.emb y) (by blk_simp [idx t] <;> (idx_bounds; omega))
      (by blk_simp [idx t]; try omega) (by blk_simp [idx t]; try omega), href]
  rw [if_pos (by blk_simp [idx t] <;> (idx_bounds; omega))]

/-- The result array is the reference's. -/
theorem final (c : Dev nD) : (dats m 0 c).arrAt 2 (cfgs 0).N
    = REF (m ((c : Thread nD τ).loc main_arg0)) (m ((c : Thread nD τ).loc main_arg1)) (m ((c : Thread nD τ).loc main_arg2)) := by
  rw [final2]
  funext i
  by_cases h : (i 1).val = 0
  · exact if_pos h
  · refine (if_neg h).trans ?_
    rw [entry, href, if_neg (by idx_bounds; omega)]
    blk_ext

end Cert.Ffn.FirstDDown

end
-- ==== Proof.FirstDGateUpV.lean ====
/- The gradients of the gate and up projections: what the kernel leaves in its two results. -/
module

public import proofs.«01_k».proof.Proof.Gen.FirstDGateUpIdeal.Frame
public import proofs.«01_k».proof.Proof.Gen.FirstDGateUpRefIdeal
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstDGateUp

open Cert.FirstDGateUpIdeal Cert.FirstDGateUpIdeal.Gen

variable (m : (ℓ : Loc nD τ sig) → Buf (Elt Ideal) ℓ)

/-- The reference's two terms over the arguments. -/
abbrev REF0 (NX : FVec Ideal S4224x2048 .bf16) (DG : FVec Ideal S4224x5632 .bf16) (GG : FVec Ideal S4x2x2048x1408 .bf16) : FVec Ideal S4x2x2048x1408 .bf16 :=
  concatenate Cert.FirstDGateUpRefIdeal.S4x2x2048x1408 1 [⟨Cert.FirstDGateUpRefIdeal.S4x1x2048x1408, (broadcastInDim Cert.FirstDGateUpRefIdeal.S4x1x2048x1408 ![0, 2, 3] Cert.FirstDGateUpRefIdeal.Gen.bcast_S4x2048x1408_S4x1x2048x1408_0_2_3 (truncf .bf16 (transpose Cert.FirstDGateUpRefIdeal.S4x2048x1408 [1, 0, 2] (shapeCast _ (transpose Cert.FirstDGateUpRefIdeal.S2048x5632 [1, 0] (Host.dotGeneral Cert.FirstDGateUpRefIdeal.dot_S4224x5632_S4224x2048_S5632x2048_0_0_1_1_n_n none (extf .f32 DG Cert.FirstDGateUpRefIdeal.Gen.bitsLt_bf16_f32) (extf .f32 NX Cert.FirstDGateUpRefIdeal.Gen.bitsLt_bf16_f32)) Cert.FirstDGateUpRefIdeal.Gen.transposes_S5632x2048_S2048x5632_1_0) Cert.FirstDGateUpRefIdeal.Gen.shapeCasts_S2048x5632_S2048x4x1408) Cert.FirstDGateUpRefIdeal.Gen.transposes_S2048x4x1408_S4x2048x1408_1_0_2) Cert.FirstDGateUpRefIdeal.Gen.bitsLt_bf16_f32))⟩, ⟨Cert.FirstDGateUpRefIdeal.S4x1x2048x1408, (broadcastInDim Cert.FirstDGateUpRefIdeal.S4x1x2048x1408 ![0, 2, 3] Cert.FirstDGateUpRefIdeal.Gen.bcast_S4x2048x1408_S4x1x2048x1408_0_2_3 (shapeCast _ (extractStridedSlice Cert.FirstDGateUpRefIdeal.S4x1x2048x1408 ![0, 1, 0, 0] GG Cert.FirstDGateUpRefIdeal.Gen.slices_S4x2x2048x1408_S4x1x2048x1408_0_1_0_0) Cert.FirstDGateUpRefIdeal.Gen.shapeCasts_S4x1x2048x1408_S4x2048x1408))⟩] Cert.FirstDGateUpRefIdeal.Gen.concatenates_S4x1x2048x1408_S4x1x2048x1408_S4x2x2048x1408_d1

abbrev REF1 (NX : FVec Ideal S4224x2048 .bf16) (DU : FVec Ideal S4224x5632 .bf16) (GU : FVec Ideal S4x2x2048x1408 .bf16) : FVec Ideal S4x2x2048x1408 .bf16 :=
  concatenate Cert.FirstDGateUpRefIdeal.S4x2x2048x1408 1 [⟨Cert.FirstDGateUpRefIdeal.S4x1x2048x1408, (broadcastInDim Cert.FirstDGateUpRefIdeal.S4x1x2048x1408 ![0, 2, 3] Cert.FirstDGateUpRefIdeal.Gen.bcast_S4x2048x1408_S4x1x2048x1408_0_2_3 (truncf .bf16 (transpose Cert.FirstDGateUpRefIdeal.S4x2048x1408 [1, 0, 2] (shapeCast _ (transpose Cert.FirstDGateUpRefIdeal.S2048x5632 [1, 0] (Host.dotGeneral Cert.FirstDGateUpRefIdeal.dot_S4224x5632_S4224x2048_S5632x2048_0_0_1_1_n_n none (extf .f32 DU Cert.FirstDGateUpRefIdeal.Gen.bitsLt_bf16_f32) (extf .f32 NX Cert.FirstDGateUpRefIdeal.Gen.bitsLt_bf16_f32)) Cert.FirstDGateUpRefIdeal.Gen.transposes_S5632x2048_S2048x5632_1_0) Cert.FirstDGateUpRefIdeal.Gen.shapeCasts_S2048x5632_S2048x4x1408) Cert.FirstDGateUpRefIdeal.Gen.transposes_S2048x4x1408_S4x2048x1408_1_0_2) Cert.FirstDGateUpRefIdeal.Gen.bitsLt_bf16_f32))⟩, ⟨Cert.FirstDGateUpRefIdeal.S4x1x2048x1408, (broadcastInDim Cert.FirstDGateUpRefIdeal.S4x1x2048x1408 ![0, 2, 3] Cert.FirstDGateUpRefIdeal.Gen.bcast_S4x2048x1408_S4x1x2048x1408_0_2_3 (shapeCast _ (extractStridedSlice Cert.FirstDGateUpRefIdeal.S4x1x2048x1408 ![0, 1, 0, 0] GU Cert.FirstDGateUpRefIdeal.Gen.slices_S4x2x2048x1408_S4x1x2048x1408_0_1_0_0) Cert.FirstDGateUpRefIdeal.Gen.shapeCasts_S4x1x2048x1408_S4x2048x1408))⟩] Cert.FirstDGateUpRefIdeal.Gen.concatenates_S4x1x2048x1408_S4x1x2048x1408_S4x2x2048x1408_d1

theorem hzero (j : S2x512x1408.Idx) : k0_pay1 (F := Ideal) j = (0 : EReal) := by pointwise [k0_pay1]

/-- What one grid point adds to a sum: its rows of the product. -/
def part (x0 : FVec Ideal S1408x512 .bf16) (x1 : FVec Ideal S1408x1408 .bf16) (a : Fin 512) (b : Fin 1408) : EReal :=
  ∑ k : Fin 1408, x0 (ix2 k a) * x1 (ix2 k b)

theorem hpay0 (acc : FVec Ideal S1x512x1408 .f32) (x0 : FVec Ideal S1408x512 .bf16) (x1 : FVec Ideal S1408x1408 .bf16)
    (j : S1x512x1408.Idx) : k0_pay2 (F := Ideal) acc x0 x1 j = acc j + part x0 x1 (j 1) (j 2) := by
  pointwise [k0_pay2, part]

theorem hpay1 (acc : FVec Ideal S1x512x1408 .f32) (x0 : FVec Ideal S1408x512 .bf16) (x1 : FVec Ideal S1408x1408 .bf16)
    (j : S1x512x1408.Idx) : k0_pay3 (F := Ideal) acc x0 x1 j = acc j + part x0 x1 (j 1) (j 2) := by
  pointwise [k0_pay3, part]

/-- One entry of a product, as the reference orders its factors. -/
abbrev dot (NX : FVec Ideal S4224x2048 .bf16) (DG : FVec Ideal S4224x5632 .bf16) (j : S4x2x2048x1408.Idx) : EReal :=
  ∑ x : Fin 4224, DG (ix2 x ⟨(j 0).val * 1408 + (j 3).val, by idx_bounds; omega⟩) * NX (ix2 x (j 2))

theorem href0 (NX : FVec Ideal S4224x2048 .bf16) (DG : FVec Ideal S4224x5632 .bf16) (GG : FVec Ideal S4x2x2048x1408 .bf16) (j : S4x2x2048x1408.Idx) :
    REF0 NX DG GG j = if (j 1).val < 1 then dot NX DG j else GG (ix4 (j 0) 1 (j 2) (j 3)) := by
  pointwise [REF0]
  split_ifs <;> rfl

theorem href1 (NX : FVec Ideal S4224x2048 .bf16) (DU : FVec Ideal S4224x5632 .bf16) (GU : FVec Ideal S4x2x2048x1408 .bf16) (j : S4x2x2048x1408.Idx) :
    REF1 NX DU GU j = if (j 1).val < 1 then dot NX DU j else GU (ix4 (j 0) 1 (j 2) (j 3)) := by
  pointwise [REF1]
  split_ifs <;> rfl

theorem hout0 (v : FVec Ideal S1x512x1408 .f32) (j : S1x1x512x1408.Idx) :
    k0_pay4 (F := Ideal) v j = v (ix3 0 (j 2) (j 3)) := by
  pointwise [k0_pay4]

theorem hout1 (v : FVec Ideal S1x512x1408 .f32) (j : S1x1x512x1408.Idx) :
    k0_pay5 (F := Ideal) v j = v (ix3 0 (j 2) (j 3)) := by
  pointwise [k0_pay5]

theorem idx : ∀ t : Fin cfg0.N, win0_0.index t = ![t.val % 3, t.val / 12] ∧ win0_1.index t = ![t.val % 3, t.val / 12]
    ∧ win0_2.index t = ![t.val % 3, t.val / 3 % 4] ∧ win0_3.index t = ![t.val % 3, t.val / 3 % 4]
    ∧ win0_4.index t = ![t.val / 3 % 4, 0, t.val / 12, 0] ∧ win0_5.index t = ![t.val / 3 % 4, 0, t.val / 12, 0] :=
  (by decide +kernel : ∀ t : Fin grid0.N, _)
/-- The two carried sums. -/
abbrev sc (c : Dev nD) (n : ℕ) (h : n < cfg0.N) : FVec Ideal S2x512x1408 .f32 := (outsAt0 (F := Ideal) m c n h).2.2

theorem inb0 : ∀ a : Fin S2x512x1408.rank, (![0, 0, 0] : Fin 3 → ℕ) a + (![1, 512, 1408] : Fin 3 → ℕ) a ≤ S2x512x1408.size a := by decide
theorem inb1 : ∀ a : Fin S2x512x1408.rank, (![1, 0, 0] : Fin 3 → ℕ) a + (![1, 512, 1408] : Fin 3 → ℕ) a ≤ S2x512x1408.size a := by decide

/-- The carried buffer's first half, the gate's sum, -/
abbrev r0 : Rect S2x512x1408 := Rect.unit ![0, 0, 0] ![1, 512, 1408] inb0
/-- and its second half, the up projection's. -/
abbrev r1 : Rect S2x512x1408 := Rect.unit ![1, 0, 0] ![1, 512, 1408] inb1

theorem emb0 (a : Fin 512) (b : Fin 1408) : r0.emb (ix3 0 a b : S1x512x1408.Idx) = ix3 (0 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem emb1 (a : Fin 512) (b : Fin 1408) : r1.emb (ix3 0 a b : S1x512x1408.Idx) = ix3 (1 : Fin 2) a b := by
  funext x
  refine Fin.ext ((ValueKit.rect_emb_unit_val _ _ _ _ x).trans ?_)
  revert x
  change ∀ x : Fin 3, _
  intro x
  match x with
  | 0 => rfl
  | 1 => exact Nat.zero_add _
  | 2 => exact Nat.zero_add _

theorem canonEmb {S : Shape} (r : Rect S) (w : r.shape.Idx → Elt Ideal .f32) (L : List (View.Piece (Elt Ideal) S .f32))
    (x : r.shape.Idx) (y : S.Idx) (h : r.emb x = y) : View.canon (⟨r, w⟩ :: L) y = w x := by
  rw [← h]; exact View.canon_cons_emb r w L x

theorem canonSkip {S : Shape} (r : Rect S) (w : r.shape.Idx → Elt Ideal .f32) (L : List (View.Piece (Elt Ideal) S .f32))
    (y : S.Idx) (h : y ∉ r.set) : View.canon (⟨r, w⟩ :: L) y = View.canon L y :=
  View.canon_cons_of_not_mem ⟨r, w⟩ L h

theorem not1 (a : Fin 512) (b : Fin 1408) : (ix3 (0 : Fin 2) a b : S2x512x1408.Idx) ∉ r1.set := by
  intro h
  have h' : 1 ≤ 0 := (Rect.mem_set_unit.mp h 0).1
  omega

theorem canon1 (w : FVec Ideal S1x512x1408 .f32) (L : List (View.Piece (Elt Ideal) S2x512x1408 .f32)) (a : Fin 512) (b : Fin 1408) :
    View.canon (⟨r1, w⟩ :: L) (ix3 (1 : Fin 2) a b) = w (ix3 0 a b) :=
  canonEmb r1 w L (ix3 0 a b) _ (emb1 a b)

theorem canon0 (w : FVec Ideal S1x512x1408 .f32) (L : List (View.Piece (Elt Ideal) S2x512x1408 .f32)) (a : Fin 512) (b : Fin 1408) :
    View.canon (⟨r0, w⟩ :: L) (ix3 (0 : Fin 2) a b) = w (ix3 0 a b) :=
  canonEmb r0 w L (ix3 0 a b) _ (emb0 a b)

theorem skip1 (w : FVec Ideal S1x512x1408 .f32) (L : List (View.Piece (Elt Ideal) S2x512x1408 .f32)) (a : Fin 512) (b : Fin 1408) :
    View.canon (⟨r1, w⟩ :: L) (ix3 (0 : Fin 2) a b) = View.canon L (ix3 (0 : Fin 2) a b) :=
  canonSkip r1 w L _ (not1 a b)

theorem tA0 (c : Dev nD) (t : Fin cfg0.N) (h : t.val % 3 = 0) (a : Fin 512) (b : Fin 1408) :
    sc m c t.val t.isLt (ix3 0 a b) = (0 + part (iblk m c 0 t) (iblk m c 2 t) a b : EReal) := by
  unfold sc
  rw [outsAt0_A m c t h (by omega)]
  frame_out
  refine (skip1 _ _ a b).trans ((canon0 _ _ a b).trans ?_)
  rw [hpay0, View.readCov_fill _ _ _ _ _ (by decide)]
  exact congrArg (· + _) (hzero _)

theorem tA1 (c : Dev nD) (t : Fin cfg0.N) (h : t.val % 3 = 0) (a : Fin 512) (b : Fin 1408) :
    sc m c t.val t.isLt (ix3 1 a b) = (0 + part (iblk m c 1 t) (iblk m c 3 t) a b : EReal) := by
  unfold sc
  rw [outsAt0_A m c t h (by omega)]
  frame_out
  refine (canon1 _ _ a b).trans ?_
  rw [hpay1, View.readCov_skip _ _ _ _ _ (by decide), View.readCov_fill _ _ _ _ _ (by decide)]
  exact congrArg (· + _) (hzero _)

theorem tS0 (c : Dev nD) (t : Fin cfg0.N) (h : ¬ t.val % 3 = 0) (a : Fin 512) (b : Fin 1408) :
    sc m c t.val t.isLt (ix3 0 a b) = (sc m c (t.val - 1) (by omega) (ix3 0 a b) + part (iblk m c 0 t) (iblk m c 2 t) a b : EReal) := by
  unfold sc
  by_cases h1 : t.val % 3 = 2
  · rw [outsAt0_C m c t h h1]
    frame_out
    refine (skip1 _ _ a b).trans ((canon0 _ _ a b).trans ?_)
    rw [hpay0, read_unread_whole]
    exact congrArg (· + _) (congrArg _ (emb0 a b))
  · rw [outsAt0_B m c t h h1]
    frame_out
    refine (skip1 _ _ a b).trans ((canon0 _ _ a b).trans ?_)
    rw [hpay0, read_unread_whole]
    exact congrArg (· + _) (congrArg _ (emb0 a b))

theorem tS1 (c : Dev nD) (t : Fin cfg0.N) (h : ¬ t.val % 3 = 0) (a : Fin 512) (b : Fin 1408) :
    sc m c t.val t.isLt (ix3 1 a b) = (sc m c (t.val - 1) (by omega) (ix3 1 a b) + part (iblk m c 1 t) (iblk m c 3 t) a b : EReal) := by
  unfold sc
  by_cases h1 : t.val % 3 = 2
  · rw [outsAt0_C m c t h h1]
    frame_out
    refine (canon1 _ _ a b).trans ?_
    rw [hpay1, read_unread_whole]
    exact congrArg (· + _) (congrArg _ (emb1 a b))
  · rw [outsAt0_B m c t h h1]
    frame_out
    refine (canon1 _ _ a b).trans ?_
    rw [hpay1, read_unread_whole]
    exact congrArg (· + _) (congrArg _ (emb1 a b))

theorem left4 (c : Dev nD) (t : Fin cfg0.N) (h : t.val % 3 = 2) :
    (outsAt0 (F := Ideal) m c t.val t.isLt).1 = k0_pay4 (F := Ideal) (View.ld (sc m c t.val t.isLt) r0) := by
  unfold sc
  rw [outsAt0_C m c t (by omega) h]
  frame_out
  rw [View.readCov_eq_canon']

theorem left5 (c : Dev nD) (t : Fin cfg0.N) (h : t.val % 3 = 2) :
    (outsAt0 (F := Ideal) m c t.val t.isLt).2.1 = k0_pay5 (F := Ideal) (View.ld (sc m c t.val t.isLt) r1) := by
  unfold sc
  rw [outsAt0_C m c t (by omega) h]
  frame_out
  rw [View.readCov_eq_canon']

/-- The first half at the last point of a run: the three points' rows. -/
theorem carried0 (c : Dev nD) (t : Fin cfg0.N) (h : t.val % 3 = 2) (a : Fin 512) (b : Fin 1408) :
    sc m c t.val t.isLt (ix3 0 a b) = (∑ s : Fin 3, part (iblk m c 0 ⟨3 * (t.val / 3) + s.val, Pipeline.run_point_lt_of_flush t h s⟩)
      (iblk m c 2 ⟨3 * (t.val / 3) + s.val, Pipeline.run_point_lt_of_flush t h s⟩) a b : EReal) := by
  have e := Pipeline.eq_sum_fin_of_reset_step_apply_of_flush (fun n h (_ : Unit) => (sc m c n h (ix3 0 a b) : EReal)) 3 (fun _ => 0)
      (fun p _ => part (iblk m c 0 p) (iblk m c 2 p) a b)
      (fun t h _ => tA0 m c t h a b) (fun t h _ => tS0 m c t h a b) t h ()
  rw [zero_add] at e
  exact e

/-- … which is the whole product's entry. -/
theorem carried_dot0 (c : Dev nD) (t : Fin cfg0.N) (h : t.val % 3 = 2) (y : S1x1x512x1408.Idx) (j : S4x2x2048x1408.Idx)
    (h0 : (j 0).val = t.val / 3 % 4) (h2 : (j 2).val = t.val / 12 * 512 + (y 2).val) (h3 : (j 3).val = (y 3).val) :
    (View.ld (Val := Elt Ideal) (e' := .f32) (sc m c t.val t.isLt) r0 : FVec Ideal S1x512x1408 .f32) (ix3 0 (y 2) (y 3)) = dot (m ((c : Thread nD τ).loc main_arg0)) (m ((c : Thread nD τ).loc main_arg1)) j := by
  refine (congrArg (sc m c t.val t.isLt) (emb0 (y 2) (y 3))).trans ((carried0 m c t h (y 2) (y 3)).trans ?_)
  unfold part dot
  refine Fin.sum_mul_add_congr fun s k hl => ?_
  refine (mul_comm (_ : EReal) _).trans ?_
  blk_point [iblk, V, idx t, idx ⟨_, Pipeline.run_point_lt_of_flush t h s⟩]

/-- The second half at the last point of a run. -/
theorem carried1 (c : Dev nD) (t : Fin cfg0.N) (h : t.val % 3 = 2) (a : Fin 512) (b : Fin 1408) :
    sc m c t.val t.isLt (ix3 1 a b) = (∑ s : Fin 3, part (iblk m c 1 ⟨3 * (t.val / 3) + s.val, Pipeline.run_point_lt_of_flush t h s⟩)
      (iblk m c 3 ⟨3 * (t.val / 3) + s.val, Pipeline.run_point_lt_of_flush t h s⟩) a b : EReal) := by
  have e := Pipeline.eq_sum_fin_of_reset_step_apply_of_flush (fun n h (_ : Unit) => (sc m c n h (ix3 1 a b) : EReal)) 3 (fun _ => 0)
      (fun p _ => part (iblk m c 1 p) (iblk m c 3 p) a b)
      (fun t h _ => tA1 m c t h a b) (fun t h _ => tS1 m c t h a b) t h ()
  rw [zero_add] at e
  exact e

/-- … which is the whole product's entry. -/
theorem carried_dot1 (c : Dev nD) (t : Fin cfg0.N) (h : t.val % 3 = 2) (y : S1x1x512x1408.Idx) (j : S4x2x2048x1408.Idx)
    (h0 : (j 0).val = t.val / 3 % 4) (h2 : (j 2).val = t.val / 12 * 512 + (y 2).val) (h3 : (j 3).val = (y 3).val) :
    (View.ld (Val := Elt Ideal) (e' := .f32) (sc m c t.val t.isLt) r1 : FVec Ideal S1x512x1408 .f32) (ix3 0 (y 2) (y 3)) = dot (m ((c : Thread nD τ).loc main_arg0)) (m ((c : Thread nD τ).loc main_arg2)) j := by
  refine (congrArg (sc m c t.val t.isLt) (emb1 (y 2) (y 3))).trans ((carried1 m c t h (y 2) (y 3)).trans ?_)
  unfold part dot
  refine Fin.sum_mul_add_congr fun s k hl => ?_
  refine (mul_comm (_ : EReal) _).trans ?_
  blk_point [iblk, V, idx t, idx ⟨_, Pipeline.run_point_lt_of_flush t h s⟩]

theorem entry4 (c : Dev nD) : V m c main_v0_0 = m ((c : Thread nD τ).loc main_arg3) := by
  unfold V
  after_results
  try rfl

theorem cells4 (c : Dev nD) : (dats m 0 c).arrAt 4 (cfgs 0).N
    = fun i => if (i 1).val = 0 then REF0 (m ((c : Thread nD τ).loc main_arg0)) (m ((c : Thread nD τ).loc main_arg1))
        (m ((c : Thread nD τ).loc main_arg3)) i else V m c main_v0_0 i := by
  refine (dats m 0 c).arrAt_eq_of_coversWhere 4 _ (fun β => β 1 = 0) (by decide +kernel) (fun t hf y => ?_)
    (fun j => by blk_simp [Pipeline.Window.cell_apply]; try omega)
  blk_simp
  rw [after0_4, left4 m c t ((flush0_4 t).mp hf), hout0,
    carried_dot0 m c t ((flush0_4 t).mp hf) _ (((cfg0.win 4).blk t).view.emb y) (by blk_simp [idx t] <;> (idx_bounds; omega))
      (by blk_simp [idx t]; try omega) (by blk_simp [idx t]; try omega), href0]
  rw [if_pos (by blk_simp [idx t] <;> (idx_bounds; omega))]

/-- The result array is the reference's. -/
theorem final4 (c : Dev nD) : (dats m 0 c).arrAt 4 (cfgs 0).N
    = REF0 (m ((c : Thread nD τ).loc main_arg0)) (m ((c : Thread nD τ).loc main_arg1))
        (m ((c : Thread nD τ).loc main_arg3)) := by
  rw [cells4]
  funext i
  by_cases h : (i 1).val = 0
  · exact if_pos h
  · refine (if_neg h).trans ?_
    rw [entry4, href0, if_neg (by idx_bounds; omega)]
    blk_ext

theorem entry5 (c : Dev nD) : V m c main_v0_1 = m ((c : Thread nD τ).loc main_arg4) := by
  unfold V
  after_results
  try rfl

theorem cells5 (c : Dev nD) : (dats m 0 c).arrAt 5 (cfgs 0).N
    = fun i => if (i 1).val = 0 then REF1 (m ((c : Thread nD τ).loc main_arg0)) (m ((c : Thread nD τ).loc main_arg2))
        (m ((c : Thread nD τ).loc main_arg4)) i else V m c main_v0_1 i := by
  refine (dats m 0 c).arrAt_eq_of_coversWhere 5 _ (fun β => β 1 = 0) (by decide +kernel) (fun t hf y => ?_)
    (fun j => by blk_simp [Pipeline.Window.cell_apply]; try omega)
  blk_simp
  rw [after0_5, left5 m c t ((flush0_5 t).mp hf), hout1,
    carried_dot1 m c t ((flush0_5 t).mp hf) _ (((cfg0.win 5).blk t).view.emb y) (by blk_simp [idx t] <;> (idx_bounds; omega))
      (by blk_simp [idx t]; try omega) (by blk_simp [idx t]; try omega), href1]
  rw [if_pos (by blk_simp [idx t] <;> (idx_bounds; omega))]

/-- The result array is the reference's. -/
theorem final5 (c : Dev nD) : (dats m 0 c).arrAt 5 (cfgs 0).N
    = REF1 (m ((c : Thread nD τ).loc main_arg0)) (m ((c : Thread nD τ).loc main_arg2))
        (m ((c : Thread nD τ).loc main_arg4)) := by
  rw [cells5]
  funext i
  by_cases h : (i 1).val = 0
  · exact if_pos h
  · refine (if_neg h).trans ?_
    rw [entry5, href1, if_neg (by idx_bounds; omega)]
    blk_ext

end Cert.Ffn.FirstDGateUp

end
-- ==== Proof.FirstDNormV.lean ====
/- The gradient before the feed-forward norm: what the kernel leaves in its result, as the reference's term. -/
module

public import Idealize.ShloMosaic.Lib.Pipeline.ReadBack
public import proofs.«01_k».proof.Proof.Gen.FirstDNormIdeal.Frame
public import proofs.«01_k».proof.Proof.Gen.FirstDNormRefIdeal
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Ffn.FirstDNorm

open Cert.FirstDNormIdeal Cert.FirstDNormIdeal.Gen

variable (m : (ℓ : Loc nD τ sig) → Buf (Elt Ideal) ℓ)

/-- The reference's term over the four arguments. -/
abbrev REF (DG DU : FVec Ideal S4224x5632 .bf16) (WG WU : FVec Ideal S4x2x2048x1408 .bf16) : FVec Ideal S4224x2048 .f32 :=
  addf (Host.dotGeneral Cert.FirstDNormRefIdeal.dot_S4224x5632_S2048x5632_S4224x2048_1_1_0_0_n_n none (extf .f32 DU Cert.FirstDNormRefIdeal.Gen.bitsLt_bf16_f32) (shapeCast _ (transpose Cert.FirstDNormRefIdeal.S2048x4x1408 [1, 0, 2] (extf .f32 (shapeCast _ (extractStridedSlice Cert.FirstDNormRefIdeal.S4x1x2048x1408 ![0, 0, 0, 0] WU Cert.FirstDNormRefIdeal.Gen.slices_S4x2x2048x1408_S4x1x2048x1408_0_0_0_0) Cert.FirstDNormRefIdeal.Gen.shapeCasts_S4x1x2048x1408_S4x2048x1408) Cert.FirstDNormRefIdeal.Gen.bitsLt_bf16_f32) Cert.FirstDNormRefIdeal.Gen.transposes_S4x2048x1408_S2048x4x1408_1_0_2) Cert.FirstDNormRefIdeal.Gen.shapeCasts_S2048x4x1408_S2048x5632)) (Host.dotGeneral Cert.FirstDNormRefIdeal.dot_S4224x5632_S2048x5632_S4224x2048_1_1_0_0_n_n none (extf .f32 DG Cert.FirstDNormRefIdeal.Gen.bitsLt_bf16_f32) (shapeCast _ (transpose Cert.FirstDNormRefIdeal.S2048x4x1408 [1, 0, 2] (extf .f32 (shapeCast _ (extractStridedSlice Cert.FirstDNormRefIdeal.S4x1x2048x1408 ![0, 0, 0, 0] WG Cert.FirstDNormRefIdeal.Gen.slices_S4x2x2048x1408_S4x1x2048x1408_0_0_0_0) Cert.FirstDNormRefIdeal.Gen.shapeCasts_S4x1x2048x1408_S4x2048x1408) Cert.FirstDNormRefIdeal.Gen.bitsLt_bf16_f32) Cert.FirstDNormRefIdeal.Gen.transposes_S4x2048x1408_S2048x4x1408_1_0_2) Cert.FirstDNormRefIdeal.Gen.shapeCasts_S2048x4x1408_S2048x5632))

theorem hzero (j : S1x704x1024.Idx) : k0_pay2 (F := Ideal) j = (0 : EReal) := by pointwise [k0_pay2]

/-- What one grid point adds: its columns of both products. -/
def part (x0 x1 : FVec Ideal S704x1408 .bf16) (x2 x3 : FVec Ideal S1x1x1024x1408 .bf16) (j : S1x704x1024.Idx) : EReal :=
  (∑ k : Fin 1408, x0 (ix2 (j 1) k) * x2 (ix4 0 0 (j 2) k)) + ∑ k : Fin 1408, x1 (ix2 (j 1) k) * x3 (ix4 0 0 (j 2) k)

theorem hpay (acc : FVec Ideal S1x704x1024 .f32) (x0 x1 : FVec Ideal S704x1408 .bf16) (x2 x3 : FVec Ideal S1x1x1024x1408 .bf16)
    (j : S1x704x1024.Idx) :
    k0_pay4 (F := Ideal) (k0_pay3 (F := Ideal) acc x0 x2) x1 x3 j = acc j + part x0 x1 x2 x3 j := by
  pointwise [k0_pay3, k0_pay4, part]
  exact add_assoc _ _ _

theorem hout (v : FVec Ideal S1x704x1024 .f32) (j : S704x1024.Idx) : k0_pay1 (F := Ideal) v j = v (ix3 0 (j 0) (j 1)) := by
  pointwise [k0_pay1]

theorem idx : ∀ t : Fin cfg0.N, win0_0.index t = ![t.val / 8, t.val % 4] ∧ win0_1.index t = ![t.val / 8, t.val % 4]
    ∧ win0_2.index t = ![t.val % 4, 0, t.val / 4 % 2, 0] ∧ win0_3.index t = ![t.val % 4, 0, t.val / 4 % 2, 0]
    ∧ win0_4.index t = ![t.val / 8, t.val / 4 % 2] :=
  (by decide +kernel : ∀ t : Fin grid0.N, _)

/-- The last point of a run stores the sum it has carried. -/
theorem left (c : Dev nD) (t : Fin cfg0.N) (h : t.val % 4 = 3) :
    (outsAt0 (F := Ideal) m c t.val t.isLt).1 = k0_pay1 (F := Ideal) (outsAt0 (F := Ideal) m c t.val t.isLt).2 := by
  rw [outsAt0_C m c t (by omega) h]
  frame_out

theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, left m c t ((flush0_4 t).mp hf), hout,
    Pipeline.eq_sum_fin_of_reset_step_apply_of_flush (fun n h => (outsAt0 m c n h).2) 4 (fun _ => 0)
      (fun p j => part (iblk m c 0 p) (iblk m c 1 p) (iblk m c 2 p) (iblk m c 3 p) j)
      (fun t h j => by rw [outsAt0_A m c t h (by omega)]; frame_out; rw [hpay, hzero])
      (fun t h j => by
        by_cases h1 : t.val % 4 = 3
        · rw [outsAt0_C m c t h h1]; frame_out; rw [hpay, read_unread_whole]
        · rw [outsAt0_B m c t h h1]; frame_out; rw [hpay, read_unread_whole])
      t ((flush0_4 t).mp hf) _, zero_add]
  pointwise [REF, part]
  refine (Finset.sum_add_distrib (M := EReal)).trans ((add_comm _ _).trans (congrArg₂ (· + ·) ?_ ?_))
  · refine Fin.sum_mul_add_congr fun s k hl => ?_
    blk_point [iblk, V, idx t, idx ⟨_, Pipeline.run_point_lt_of_flush t ((flush0_4 t).mp hf) s⟩]
  · refine Fin.sum_mul_add_congr fun s k hl => ?_
    blk_point [iblk, V, idx t, idx ⟨_, Pipeline.run_point_lt_of_flush t ((flush0_4 t).mp hf) s⟩]

end Cert.Ffn.FirstDNorm

end
-- ==== Proof.FirstFfn.lean ====
/- The same six calls for a layer's first half step: each kernel and its reference end with the same results, and each reference leaves its arguments as they were. -/
module

public import proofs.«01_k».proof.Defs
public import proofs.«01_k».proof.Proof.Half
public import proofs.«01_k».proof.Proof.PFin
public import proofs.«01_k».proof.Proof.Ffn
public import proofs.«01_k».proof.Proof.Gen.FirstGateUpIdeal.Value
public import proofs.«01_k».proof.Proof.Gen.FirstGateUpRefIdeal.Run
public import proofs.«01_k».proof.Proof.FirstGateUpV
public import proofs.«01_k».proof.Proof.Gen.FirstDownIdeal.Value
public import proofs.«01_k».proof.Proof.Gen.FirstDownRefIdeal.Run
public import proofs.«01_k».proof.Proof.FirstDownV
public import proofs.«01_k».proof.Proof.Gen.FirstDActIdeal.Value
public import proofs.«01_k».proof.Proof.Gen.FirstDActRefIdeal.Run
public import proofs.«01_k».proof.Proof.FirstDActV
public import proofs.«01_k».proof.Proof.Gen.FirstDDownIdeal.Value
public import proofs.«01_k».proof.Proof.Gen.FirstDDownRefIdeal.Run
public import proofs.«01_k».proof.Proof.FirstDDownV
public import proofs.«01_k».proof.Proof.Gen.FirstDGateUpIdeal.Value
public import proofs.«01_k».proof.Proof.Gen.FirstDGateUpRefIdeal.Run
public import proofs.«01_k».proof.Proof.FirstDGateUpV
public import proofs.«01_k».proof.Proof.Gen.FirstDNormIdeal.Value
public import proofs.«01_k».proof.Proof.Gen.FirstDNormRefIdeal.Run
public import proofs.«01_k».proof.Proof.FirstDNormV
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Ffn

theorem preFactsFirst : Cert.Pre_finite_first_dact.Facts where
  slices_S4x2x1408x2048_S4x1x1408x2048_0_0_0_0 := by decide
  bcast_S_S4224x2048 := by decide
  bitsLt_bf16_f32 := by decide
  bcast_S_S4x1x1408x2048 := by decide
  bcast_S_S4224x5632 := by decide

section

variable [Cert.Pre_finite_first_dact.Facts] (a0 : FVec Ideal Cert.Pre_finite_first_dact.S4224x2048 .f32) (a1 : FVec Ideal Cert.Pre_finite_first_dact.S4x2x1408x2048 .bf16)
  (a2 a3 : FVec Ideal Cert.Pre_finite_first_dact.S4224x5632 .bf16)

theorem first0 (h : (Cert.Pre_finite_first_dact.fn (F := Ideal) a0 a1 a2 a3).1 = fun _ => 1#1) (i : Cert.Pre_finite_first_dact.S4224x2048.Idx) :
    ((EReal.toReal (a0 i) : ℝ) : EReal) = a0 i := by
  have e := congrFun h i
  have w : FloatOps.cmpf (F := Ideal) CmpFPredicate.olt (FloatOps.hostAbsf (a0 i)) (Ideal.ofBits .f32 2139095040#32) = 1#1 := e
  rw [Cert.Value.inf_word] at w
  exact Cert.Value.real_of _ w

theorem first1 (h : (Cert.Pre_finite_first_dact.fn (F := Ideal) a0 a1 a2 a3).2.1 = fun _ => 1#1) (a : Fin 4) (b : Fin 1408) (d : Fin 2048) :
    ((EReal.toReal (a1 (ix4 a 0 b d)) : ℝ) : EReal) = a1 (ix4 a 0 b d) := by
  have e := congrFun h (ix4 a 0 b d)
  have s : extractStridedSlice Cert.Pre_finite_first_dact.S4x1x1408x2048 ![0, 0, 0, 0] a1
      Cert.Pre_finite_first_dact.Facts.slices_S4x2x1408x2048_S4x1x1408x2048_0_0_0_0 (ix4 a 0 b d) = a1 (ix4 a 0 b d) := by
    pointwise []
  have w : FloatOps.cmpf (F := Ideal) CmpFPredicate.olt (FloatOps.hostAbsf (extractStridedSlice Cert.Pre_finite_first_dact.S4x1x1408x2048 ![0, 0, 0, 0] a1
      Cert.Pre_finite_first_dact.Facts.slices_S4x2x1408x2048_S4x1x1408x2048_0_0_0_0 (ix4 a 0 b d))) (Ideal.ofBits .f32 2139095040#32) = 1#1 := e
  rw [s, Cert.Value.inf_word] at w
  exact Cert.Value.real_of _ w

theorem first3 (h : (Cert.Pre_finite_first_dact.fn (F := Ideal) a0 a1 a2 a3).2.2 = fun _ => 1#1) (i : Cert.Pre_finite_first_dact.S4224x5632.Idx) :
    ((EReal.toReal (a3 i) : ℝ) : EReal) = a3 i := by
  have e := congrFun h i
  have w : FloatOps.cmpf (F := Ideal) CmpFPredicate.olt (FloatOps.hostAbsf (a3 i)) (Ideal.ofBits .f32 2139095040#32) = 1#1 := e
  rw [Cert.Value.inf_word] at w
  exact Cert.Value.real_of _ w

end

/-- The first half step, the call for the gate and up projections: the kernel and the reference end with the same results. -/
theorem value_FirstGateUp : Cert.algebraic_FirstGateUpIdeal_FirstGateUpRefIdeal (hFirstGateUpIdeal := Cert.FirstGateUpIdeal.Gen.facts)
    (hFirstGateUpRefIdeal := Cert.FirstGateUpRefIdeal.Gen.facts) := by
  intro m g m' g' hm ha
  refine ⟨fun c => FirstGateUp.REF0 (m ((c.tc : Thread Cert.FirstGateUpIdeal.nD Cert.FirstGateUpIdeal.τ).loc Cert.FirstGateUpIdeal.main_arg0)) (m ((c.tc : Thread Cert.FirstGateUpIdeal.nD Cert.FirstGateUpIdeal.τ).loc Cert.FirstGateUpIdeal.main_arg1)),
    fun c => FirstGateUp.REF1 (m ((c.tc : Thread Cert.FirstGateUpIdeal.nD Cert.FirstGateUpIdeal.τ).loc Cert.FirstGateUpIdeal.main_arg0)) (m ((c.tc : Thread Cert.FirstGateUpIdeal.nD Cert.FirstGateUpIdeal.τ).loc Cert.FirstGateUpIdeal.main_arg2)),
    fun c => FirstGateUp.REF2 (m ((c.tc : Thread Cert.FirstGateUpIdeal.nD Cert.FirstGateUpIdeal.τ).loc Cert.FirstGateUpIdeal.main_arg0)) (m ((c.tc : Thread Cert.FirstGateUpIdeal.nD Cert.FirstGateUpIdeal.τ).loc Cert.FirstGateUpIdeal.main_arg1)) (m ((c.tc : Thread Cert.FirstGateUpIdeal.nD Cert.FirstGateUpIdeal.τ).loc Cert.FirstGateUpIdeal.main_arg2)),
    (θ_run Cert.FirstGateUpIdeal.defs _ _).mono (fun r h c => ⟨(h c).1.trans (FirstGateUp.final4 m c), (h c).2.1.trans (FirstGateUp.final5 m c), (h c).2.2.1.trans (FirstGateUp.final6 m c), (h c).2.2.2⟩) (Cert.FirstGateUpIdeal.Value.run_blocks m g),
    (θ_run Cert.FirstGateUpRefIdeal.defs _ _).mono (fun r h c => ⟨(h c).1.trans (cong2 FirstGateUp.REF0 ((ha c).1) ((ha c).2.1)),
      (h c).2.1.trans (cong2 FirstGateUp.REF1 ((ha c).1) ((ha c).2.2)),
      (h c).2.2.1.trans (cong3 FirstGateUp.REF2 ((ha c).1) ((ha c).2.1) ((ha c).2.2)), (h c).2.2.2⟩) (Cert.FirstGateUpRefIdeal.Value.run m' g')⟩

/-- The reference of this call leaves its arguments as they were. -/
theorem frame_FirstGateUp (m : (ℓ : Loc Cert.FirstGateUpRefIdeal.nD Cert.FirstGateUpRefIdeal.τ Cert.FirstGateUpRefIdeal.sig) → Buf (Elt Ideal) ℓ) (ρ : Dev Cert.FirstGateUpRefIdeal.nD → PrngReg) :
    θ_run (Cert.FirstGateUpRefIdeal.defs (F := Ideal)) (onTc (τ := Cert.FirstGateUpRefIdeal.τ) (Cert.FirstGateUpRefIdeal.main (F := Ideal))) ⟨m, fun _ => 0, ρ⟩
      (fun r => (∀ c : Dev Cert.FirstGateUpRefIdeal.nD, r.2.mem ((c.tc : Thread Cert.FirstGateUpRefIdeal.nD Cert.FirstGateUpRefIdeal.τ).loc Cert.FirstGateUpRefIdeal.main_arg0) = m ((c.tc : Thread Cert.FirstGateUpRefIdeal.nD Cert.FirstGateUpRefIdeal.τ).loc Cert.FirstGateUpRefIdeal.main_arg0)
        ∧ r.2.mem ((c.tc : Thread Cert.FirstGateUpRefIdeal.nD Cert.FirstGateUpRefIdeal.τ).loc Cert.FirstGateUpRefIdeal.main_arg1) = m ((c.tc : Thread Cert.FirstGateUpRefIdeal.nD Cert.FirstGateUpRefIdeal.τ).loc Cert.FirstGateUpRefIdeal.main_arg1)
        ∧ r.2.mem ((c.tc : Thread Cert.FirstGateUpRefIdeal.nD Cert.FirstGateUpRefIdeal.τ).loc Cert.FirstGateUpRefIdeal.main_arg2) = m ((c.tc : Thread Cert.FirstGateUpRefIdeal.nD Cert.FirstGateUpRefIdeal.τ).loc Cert.FirstGateUpRefIdeal.main_arg2))
        ∧ r.2.sem = fun _ => 0) :=
  (θ_run Cert.FirstGateUpRefIdeal.defs _ _).mono
    (fun r h => ⟨fun c => (h c).2.2.2, sem_eq_zero_of_no_sems (by decide) r.2⟩)
    (Cert.FirstGateUpRefIdeal.Value.run m ρ)

/-- The first half step, the call for the down projection: the kernel and the reference end with the same results. -/
theorem value_FirstDown : Cert.algebraic_FirstDownIdeal_FirstDownRefIdeal (hFirstDownIdeal := Cert.FirstDownIdeal.Gen.facts)
    (hFirstDownRefIdeal := Cert.FirstDownRefIdeal.Gen.facts) := by
  intro m g m' g' hm ha
  refine ⟨fun c => FirstDown.REF (m ((c.tc : Thread Cert.FirstDownIdeal.nD Cert.FirstDownIdeal.τ).loc Cert.FirstDownIdeal.main_arg0)) (m ((c.tc : Thread Cert.FirstDownIdeal.nD Cert.FirstDownIdeal.τ).loc Cert.FirstDownIdeal.main_arg1)) (m ((c.tc : Thread Cert.FirstDownIdeal.nD Cert.FirstDownIdeal.τ).loc Cert.FirstDownIdeal.main_arg2)),
    (θ_run Cert.FirstDownIdeal.defs _ _).mono (fun r h c => ⟨(h c).1.trans (FirstDown.final m c), (h c).2⟩) (Cert.FirstDownIdeal.Value.run_blocks m g),
    (θ_run Cert.FirstDownRefIdeal.defs _ _).mono (fun r h c => ⟨(h c).1.trans (cong3 FirstDown.REF ((ha c).1) ((ha c).2.1) ((ha c).2.2)), (h c).2⟩) (Cert.FirstDownRefIdeal.Value.run m' g')⟩

/-- The reference of this call leaves its arguments as they were. -/
theorem frame_FirstDown (m : (ℓ : Loc Cert.FirstDownRefIdeal.nD Cert.FirstDownRefIdeal.τ Cert.FirstDownRefIdeal.sig) → Buf (Elt Ideal) ℓ) (ρ : Dev Cert.FirstDownRefIdeal.nD → PrngReg) :
    θ_run (Cert.FirstDownRefIdeal.defs (F := Ideal)) (onTc (τ := Cert.FirstDownRefIdeal.τ) (Cert.FirstDownRefIdeal.main (F := Ideal))) ⟨m, fun _ => 0, ρ⟩
      (fun r => (∀ c : Dev Cert.FirstDownRefIdeal.nD, r.2.mem ((c.tc : Thread Cert.FirstDownRefIdeal.nD Cert.FirstDownRefIdeal.τ).loc Cert.FirstDownRefIdeal.main_arg0) = m ((c.tc : Thread Cert.FirstDownRefIdeal.nD Cert.FirstDownRefIdeal.τ).loc Cert.FirstDownRefIdeal.main_arg0)
        ∧ r.2.mem ((c.tc : Thread Cert.FirstDownRefIdeal.nD Cert.FirstDownRefIdeal.τ).loc Cert.FirstDownRefIdeal.main_arg1) = m ((c.tc : Thread Cert.FirstDownRefIdeal.nD Cert.FirstDownRefIdeal.τ).loc Cert.FirstDownRefIdeal.main_arg1)
        ∧ r.2.mem ((c.tc : Thread Cert.FirstDownRefIdeal.nD Cert.FirstDownRefIdeal.τ).loc Cert.FirstDownRefIdeal.main_arg2) = m ((c.tc : Thread Cert.FirstDownRefIdeal.nD Cert.FirstDownRefIdeal.τ).loc Cert.FirstDownRefIdeal.main_arg2))
        ∧ r.2.sem = fun _ => 0) :=
  (θ_run Cert.FirstDownRefIdeal.defs _ _).mono
    (fun r h => ⟨fun c => (h c).2, sem_eq_zero_of_no_sems (by decide) r.2⟩)
    (Cert.FirstDownRefIdeal.Value.run m ρ)

/-- The first half step, the call for the gradients of the gate and the up projection: the kernel and the reference end with the same results. -/
theorem value_FirstDAct : Cert.algebraic_FirstDActIdeal_FirstDActRefIdeal_pre_finite_first_dact (hFirstDActIdeal := Cert.FirstDActIdeal.Gen.facts)
    (hFirstDActRefIdeal := Cert.FirstDActRefIdeal.Gen.facts) (hPre_finite_first_dact := preFactsFirst) := by
  intro m g m' g' hm ha
  letI : Cert.Pre_finite_first_dact.Facts := preFactsFirst
  have hf := fun (c : Dev Cert.FirstDActIdeal.nD) => And.intro (first0 (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3)) (hm c).1) (And.intro (first1 (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3)) (hm c).2.1)
    (first3 (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3)) (hm c).2.2))
  refine ⟨fun c => FirstDAct.REF0 (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3)),
    fun c => FirstDAct.REF1 (m ((c.tc : Thread Cert.FirstDActIdeal.nD Cert.FirstDActIdeal.τ).loc Cert.FirstDActIdeal.main_arg0)) (m ((c.tc : Thread Cert.FirstDActIdeal.nD Cert.FirstDActIdeal.τ).loc Cert.FirstDActIdeal.main_arg1)) (m ((c.tc : Thread Cert.FirstDActIdeal.nD Cert.FirstDActIdeal.τ).loc Cert.FirstDActIdeal.main_arg2)) (m ((c.tc : Thread Cert.FirstDActIdeal.nD Cert.FirstDActIdeal.τ).loc Cert.FirstDActIdeal.main_arg3)),
    (θ_run Cert.FirstDActIdeal.defs _ _).mono (fun r h c => ⟨(h c).1.trans ((FirstDAct.final4 m c).trans (FirstDAct.eq0 _ _ _ _ (hf c).1 (hf c).2.1 (hf c).2.2)), (h c).2.1.trans ((FirstDAct.final5 m c).trans (FirstDAct.eq1 _ _ _ _)), (h c).2.2⟩) (Cert.FirstDActIdeal.Value.run_blocks m g),
    (θ_run Cert.FirstDActRefIdeal.defs _ _).mono (fun r h c => ⟨(h c).1.trans (cong4 FirstDAct.REF0 ((ha c).1) ((ha c).2.1) ((ha c).2.2.1) ((ha c).2.2.2)),
      (h c).2.1.trans (cong4 FirstDAct.REF1 ((ha c).1) ((ha c).2.1) ((ha c).2.2.1) ((ha c).2.2.2)), (h c).2.2⟩) (Cert.FirstDActRefIdeal.Value.run m' g')⟩

/-- The reference of this call leaves its arguments as they were. -/
theorem frame_FirstDAct (m : (ℓ : Loc Cert.FirstDActRefIdeal.nD Cert.FirstDActRefIdeal.τ Cert.FirstDActRefIdeal.sig) → Buf (Elt Ideal) ℓ) (ρ : Dev Cert.FirstDActRefIdeal.nD → PrngReg) :
    θ_run (Cert.FirstDActRefIdeal.defs (F := Ideal)) (onTc (τ := Cert.FirstDActRefIdeal.τ) (Cert.FirstDActRefIdeal.main (F := Ideal))) ⟨m, fun _ => 0, ρ⟩
      (fun r => (∀ c : Dev Cert.FirstDActRefIdeal.nD, r.2.mem ((c.tc : Thread Cert.FirstDActRefIdeal.nD Cert.FirstDActRefIdeal.τ).loc Cert.FirstDActRefIdeal.main_arg0) = m ((c.tc : Thread Cert.FirstDActRefIdeal.nD Cert.FirstDActRefIdeal.τ).loc Cert.FirstDActRefIdeal.main_arg0)
        ∧ r.2.mem ((c.tc : Thread Cert.FirstDActRefIdeal.nD Cert.FirstDActRefIdeal.τ).loc Cert.FirstDActRefIdeal.main_arg1) = m ((c.tc : Thread Cert.FirstDActRefIdeal.nD Cert.FirstDActRefIdeal.τ).loc Cert.FirstDActRefIdeal.main_arg1)
        ∧ r.2.mem ((c.tc : Thread Cert.FirstDActRefIdeal.nD Cert.FirstDActRefIdeal.τ).loc Cert.FirstDActRefIdeal.main_arg2) = m ((c.tc : Thread Cert.FirstDActRefIdeal.nD Cert.FirstDActRefIdeal.τ).loc Cert.FirstDActRefIdeal.main_arg2)
        ∧ r.2.mem ((c.tc : Thread Cert.FirstDActRefIdeal.nD Cert.FirstDActRefIdeal.τ).loc Cert.FirstDActRefIdeal.main_arg3) = m ((c.tc : Thread Cert.FirstDActRefIdeal.nD Cert.FirstDActRefIdeal.τ).loc Cert.FirstDActRefIdeal.main_arg3))
        ∧ r.2.sem = fun _ => 0) :=
  (θ_run Cert.FirstDActRefIdeal.defs _ _).mono
    (fun r h => ⟨fun c => (h c).2.2, sem_eq_zero_of_no_sems (by decide) r.2⟩)
    (Cert.FirstDActRefIdeal.Value.run m ρ)

/-- The first half step, the call for the down projection's weights' gradient: the kernel and the reference end with the same results. -/
theorem value_FirstDDown : Cert.algebraic_FirstDDownIdeal_FirstDDownRefIdeal (hFirstDDownIdeal := Cert.FirstDDownIdeal.Gen.facts)
    (hFirstDDownRefIdeal := Cert.FirstDDownRefIdeal.Gen.facts) := by
  intro m g m' g' hm ha
  refine ⟨fun c => FirstDDown.REF (m ((c.tc : Thread Cert.FirstDDownIdeal.nD Cert.FirstDDownIdeal.τ).loc Cert.FirstDDownIdeal.main_arg0)) (m ((c.tc : Thread Cert.FirstDDownIdeal.nD Cert.FirstDDownIdeal.τ).loc Cert.FirstDDownIdeal.main_arg1)) (m ((c.tc : Thread Cert.FirstDDownIdeal.nD Cert.FirstDDownIdeal.τ).loc Cert.FirstDDownIdeal.main_arg2)),
    (θ_run Cert.FirstDDownIdeal.defs _ _).mono (fun r h c => ⟨(h c).1.trans (FirstDDown.final m c), (h c).2⟩) (Cert.FirstDDownIdeal.Value.run_blocks m g),
    (θ_run Cert.FirstDDownRefIdeal.defs _ _).mono (fun r h c => ⟨(h c).1.trans (cong3 FirstDDown.REF ((ha c).1) ((ha c).2.1) ((ha c).2.2)), (h c).2⟩) (Cert.FirstDDownRefIdeal.Value.run m' g')⟩

/-- The reference of this call leaves its arguments as they were. -/
theorem frame_FirstDDown (m : (ℓ : Loc Cert.FirstDDownRefIdeal.nD Cert.FirstDDownRefIdeal.τ Cert.FirstDDownRefIdeal.sig) → Buf (Elt Ideal) ℓ) (ρ : Dev Cert.FirstDDownRefIdeal.nD → PrngReg) :
    θ_run (Cert.FirstDDownRefIdeal.defs (F := Ideal)) (onTc (τ := Cert.FirstDDownRefIdeal.τ) (Cert.FirstDDownRefIdeal.main (F := Ideal))) ⟨m, fun _ => 0, ρ⟩
      (fun r => (∀ c : Dev Cert.FirstDDownRefIdeal.nD, r.2.mem ((c.tc : Thread Cert.FirstDDownRefIdeal.nD Cert.FirstDDownRefIdeal.τ).loc Cert.FirstDDownRefIdeal.main_arg0) = m ((c.tc : Thread Cert.FirstDDownRefIdeal.nD Cert.FirstDDownRefIdeal.τ).loc Cert.FirstDDownRefIdeal.main_arg0)
        ∧ r.2.mem ((c.tc : Thread Cert.FirstDDownRefIdeal.nD Cert.FirstDDownRefIdeal.τ).loc Cert.FirstDDownRefIdeal.main_arg1) = m ((c.tc : Thread Cert.FirstDDownRefIdeal.nD Cert.FirstDDownRefIdeal.τ).loc Cert.FirstDDownRefIdeal.main_arg1)
        ∧ r.2.mem ((c.tc : Thread Cert.FirstDDownRefIdeal.nD Cert.FirstDDownRefIdeal.τ).loc Cert.FirstDDownRefIdeal.main_arg2) = m ((c.tc : Thread Cert.FirstDDownRefIdeal.nD Cert.FirstDDownRefIdeal.τ).loc Cert.FirstDDownRefIdeal.main_arg2))
        ∧ r.2.sem = fun _ => 0) :=
  (θ_run Cert.FirstDDownRefIdeal.defs _ _).mono
    (fun r h => ⟨fun c => (h c).2, sem_eq_zero_of_no_sems (by decide) r.2⟩)
    (Cert.FirstDDownRefIdeal.Value.run m ρ)

/-- The first half step, the call for the gate's and the up projection's weights' gradients: the kernel and the reference end with the same results. -/
theorem value_FirstDGateUp : Cert.algebraic_FirstDGateUpIdeal_FirstDGateUpRefIdeal (hFirstDGateUpIdeal := Cert.FirstDGateUpIdeal.Gen.facts)
    (hFirstDGateUpRefIdeal := Cert.FirstDGateUpRefIdeal.Gen.facts) := by
  intro m g m' g' hm ha
  refine ⟨fun c => FirstDGateUp.REF0 (m ((c.tc : Thread Cert.FirstDGateUpIdeal.nD Cert.FirstDGateUpIdeal.τ).loc Cert.FirstDGateUpIdeal.main_arg0)) (m ((c.tc : Thread Cert.FirstDGateUpIdeal.nD Cert.FirstDGateUpIdeal.τ).loc Cert.FirstDGateUpIdeal.main_arg1)) (m ((c.tc : Thread Cert.FirstDGateUpIdeal.nD Cert.FirstDGateUpIdeal.τ).loc Cert.FirstDGateUpIdeal.main_arg3)),
    fun c => FirstDGateUp.REF1 (m ((c.tc : Thread Cert.FirstDGateUpIdeal.nD Cert.FirstDGateUpIdeal.τ).loc Cert.FirstDGateUpIdeal.main_arg0)) (m ((c.tc : Thread Cert.FirstDGateUpIdeal.nD Cert.FirstDGateUpIdeal.τ).loc Cert.FirstDGateUpIdeal.main_arg2)) (m ((c.tc : Thread Cert.FirstDGateUpIdeal.nD Cert.FirstDGateUpIdeal.τ).loc Cert.FirstDGateUpIdeal.main_arg4)),
    (θ_run Cert.FirstDGateUpIdeal.defs _ _).mono (fun r h c => ⟨(h c).1.trans (FirstDGateUp.final4 m c), (h c).2.1.trans (FirstDGateUp.final5 m c), (h c).2.2⟩) (Cert.FirstDGateUpIdeal.Value.run_blocks m g),
    (θ_run Cert.FirstDGateUpRefIdeal.defs _ _).mono (fun r h c => ⟨(h c).1.trans (cong3 FirstDGateUp.REF0 ((ha c).1) ((ha c).2.1) ((ha c).2.2.2.1)),
      (h c).2.1.trans (cong3 FirstDGateUp.REF1 ((ha c).1) ((ha c).2.2.1) ((ha c).2.2.2.2)), (h c).2.2⟩) (Cert.FirstDGateUpRefIdeal.Value.run m' g')⟩

/-- The reference of this call leaves its arguments as they were. -/
theorem frame_FirstDGateUp (m : (ℓ : Loc Cert.FirstDGateUpRefIdeal.nD Cert.FirstDGateUpRefIdeal.τ Cert.FirstDGateUpRefIdeal.sig) → Buf (Elt Ideal) ℓ) (ρ : Dev Cert.FirstDGateUpRefIdeal.nD → PrngReg) :
    θ_run (Cert.FirstDGateUpRefIdeal.defs (F := Ideal)) (onTc (τ := Cert.FirstDGateUpRefIdeal.τ) (Cert.FirstDGateUpRefIdeal.main (F := Ideal))) ⟨m, fun _ => 0, ρ⟩
      (fun r => (∀ c : Dev Cert.FirstDGateUpRefIdeal.nD, r.2.mem ((c.tc : Thread Cert.FirstDGateUpRefIdeal.nD Cert.FirstDGateUpRefIdeal.τ).loc Cert.FirstDGateUpRefIdeal.main_arg0) = m ((c.tc : Thread Cert.FirstDGateUpRefIdeal.nD Cert.FirstDGateUpRefIdeal.τ).loc Cert.FirstDGateUpRefIdeal.main_arg0)
        ∧ r.2.mem ((c.tc : Thread Cert.FirstDGateUpRefIdeal.nD Cert.FirstDGateUpRefIdeal.τ).loc Cert.FirstDGateUpRefIdeal.main_arg1) = m ((c.tc : Thread Cert.FirstDGateUpRefIdeal.nD Cert.FirstDGateUpRefIdeal.τ).loc Cert.FirstDGateUpRefIdeal.main_arg1)
        ∧ r.2.mem ((c.tc : Thread Cert.FirstDGateUpRefIdeal.nD Cert.FirstDGateUpRefIdeal.τ).loc Cert.FirstDGateUpRefIdeal.main_arg2) = m ((c.tc : Thread Cert.FirstDGateUpRefIdeal.nD Cert.FirstDGateUpRefIdeal.τ).loc Cert.FirstDGateUpRefIdeal.main_arg2)
        ∧ r.2.mem ((c.tc : Thread Cert.FirstDGateUpRefIdeal.nD Cert.FirstDGateUpRefIdeal.τ).loc Cert.FirstDGateUpRefIdeal.main_arg3) = m ((c.tc : Thread Cert.FirstDGateUpRefIdeal.nD Cert.FirstDGateUpRefIdeal.τ).loc Cert.FirstDGateUpRefIdeal.main_arg3)
        ∧ r.2.mem ((c.tc : Thread Cert.FirstDGateUpRefIdeal.nD Cert.FirstDGateUpRefIdeal.τ).loc Cert.FirstDGateUpRefIdeal.main_arg4) = m ((c.tc : Thread Cert.FirstDGateUpRefIdeal.nD Cert.FirstDGateUpRefIdeal.τ).loc Cert.FirstDGateUpRefIdeal.main_arg4))
        ∧ r.2.sem = fun _ => 0) :=
  (θ_run Cert.FirstDGateUpRefIdeal.defs _ _).mono
    (fun r h => ⟨fun c => (h c).2.2, sem_eq_zero_of_no_sems (by decide) r.2⟩)
    (Cert.FirstDGateUpRefIdeal.Value.run m ρ)

/-- The first half step, the call for the normed rows' gradient: the kernel and the reference end with the same results. -/
theorem value_FirstDNorm : Cert.algebraic_FirstDNormIdeal_FirstDNormRefIdeal (hFirstDNormIdeal := Cert.FirstDNormIdeal.Gen.facts)
    (hFirstDNormRefIdeal := Cert.FirstDNormRefIdeal.Gen.facts) := by
  intro m g m' g' hm ha
  refine ⟨fun c => FirstDNorm.REF (m ((c.tc : Thread Cert.FirstDNormIdeal.nD Cert.FirstDNormIdeal.τ).loc Cert.FirstDNormIdeal.main_arg0)) (m ((c.tc : Thread Cert.FirstDNormIdeal.nD Cert.FirstDNormIdeal.τ).loc Cert.FirstDNormIdeal.main_arg1)) (m ((c.tc : Thread Cert.FirstDNormIdeal.nD Cert.FirstDNormIdeal.τ).loc Cert.FirstDNormIdeal.main_arg2)) (m ((c.tc : Thread Cert.FirstDNormIdeal.nD Cert.FirstDNormIdeal.τ).loc Cert.FirstDNormIdeal.main_arg3)),
    (θ_run Cert.FirstDNormIdeal.defs _ _).mono (fun r h c => ⟨(h c).1.trans (FirstDNorm.final m c), (h c).2⟩) (Cert.FirstDNormIdeal.Value.run_blocks m g),
    (θ_run Cert.FirstDNormRefIdeal.defs _ _).mono (fun r h c => ⟨(h c).1.trans (cong4 FirstDNorm.REF ((ha c).1) ((ha c).2.1) ((ha c).2.2.1) ((ha c).2.2.2)), (h c).2⟩) (Cert.FirstDNormRefIdeal.Value.run m' g')⟩

/-- The reference of this call leaves its arguments as they were. -/
theorem frame_FirstDNorm (m : (ℓ : Loc Cert.FirstDNormRefIdeal.nD Cert.FirstDNormRefIdeal.τ Cert.FirstDNormRefIdeal.sig) → Buf (Elt Ideal) ℓ) (ρ : Dev Cert.FirstDNormRefIdeal.nD → PrngReg) :
    θ_run (Cert.FirstDNormRefIdeal.defs (F := Ideal)) (onTc (τ := Cert.FirstDNormRefIdeal.τ) (Cert.FirstDNormRefIdeal.main (F := Ideal))) ⟨m, fun _ => 0, ρ⟩
      (fun r => (∀ c : Dev Cert.FirstDNormRefIdeal.nD, r.2.mem ((c.tc : Thread Cert.FirstDNormRefIdeal.nD Cert.FirstDNormRefIdeal.τ).loc Cert.FirstDNormRefIdeal.main_arg0) = m ((c.tc : Thread Cert.FirstDNormRefIdeal.nD Cert.FirstDNormRefIdeal.τ).loc Cert.FirstDNormRefIdeal.main_arg0)
        ∧ r.2.mem ((c.tc : Thread Cert.FirstDNormRefIdeal.nD Cert.FirstDNormRefIdeal.τ).loc Cert.FirstDNormRefIdeal.main_arg1) = m ((c.tc : Thread Cert.FirstDNormRefIdeal.nD Cert.FirstDNormRefIdeal.τ).loc Cert.FirstDNormRefIdeal.main_arg1)
        ∧ r.2.mem ((c.tc : Thread Cert.FirstDNormRefIdeal.nD Cert.FirstDNormRefIdeal.τ).loc Cert.FirstDNormRefIdeal.main_arg2) = m ((c.tc : Thread Cert.FirstDNormRefIdeal.nD Cert.FirstDNormRefIdeal.τ).loc Cert.FirstDNormRefIdeal.main_arg2)
        ∧ r.2.mem ((c.tc : Thread Cert.FirstDNormRefIdeal.nD Cert.FirstDNormRefIdeal.τ).loc Cert.FirstDNormRefIdeal.main_arg3) = m ((c.tc : Thread Cert.FirstDNormRefIdeal.nD Cert.FirstDNormRefIdeal.τ).loc Cert.FirstDNormRefIdeal.main_arg3))
        ∧ r.2.sem = fun _ => 0) :=
  (θ_run Cert.FirstDNormRefIdeal.defs _ _).mono
    (fun r h => ⟨fun c => (h c).2, sem_eq_zero_of_no_sems (by decide) r.2⟩)
    (Cert.FirstDNormRefIdeal.Value.run m ρ)

end Cert.Ffn

end
-- ==== Proof.Adam.lean ====
/- One step of the optimiser on numbers: the new mean, the new square and the change of the weight. -/
module

public import Idealize.ShloMosaic.Lib.Pipeline.ReadBack
public import Idealize.ShloMosaic.Lib.Pipeline.ValueKit

@[expose] public section

noncomputable section

open Idealize.ShloMosaic

namespace Cert.Optimiser

/-- The number that a word means. -/
abbrev num (w : BitVec 32) : EReal := Ideal.ofBits .f32 w

/-- The mean of the gradients: nine parts of the old one and one part of the gradient. -/
def mean (g m : EReal) : EReal := num 0x3F666666#32 * m + num 0x3DCCCCCD#32 * g

/-- The mean of their squares. -/
def square (g v : EReal) : EReal := num 0x3F7FBE77#32 * v + num 0x3A83126F#32 * (g * g)

/-- The change of the weight: the corrected mean over the root of the corrected square, and the weight's decay. -/
def delta (w g m v : EReal) : EReal :=
  num 0xBA83126F#32 * (Ideal.div (Ideal.div (mean g m) (num 0x3F26BD02#32))
    (Ideal.sqrt (Ideal.div (square g v) (num 0x3C231ACC#32)) + num 0x322BCC77#32) + num 0x3C23D70A#32 * w)

theorem mean_congr {g g' m m' : EReal} (hg : g = g') (hm : m = m') : mean g m = mean g' m' := by rw [hg, hm]

theorem square_congr {g g' v v' : EReal} (hg : g = g') (hv : v = v') : square g v = square g' v' := by rw [hg, hv]

theorem delta_congr {w w' g g' m m' v v' : EReal} (hw : w = w') (hg : g = g') (hm : m = m') (hv : v = v') :
    delta w g m v = delta w' g' m' v' := by rw [hw, hg, hm, hv]

end Cert.Optimiser

end
-- ==== Proof.AdamFfnColumnsV.lean ====
/- The optimiser's call on arrays of shape S4x2x2048x1408: what the kernel leaves in its results. -/
module

public import proofs.«01_k».proof.Proof.Gen.AdamFfnColumnsIdeal.Frame
public import proofs.«01_k».proof.Proof.Gen.AdamFfnColumnsRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamFfnColumns

open Cert.AdamFfnColumnsIdeal Cert.AdamFfnColumnsIdeal.Gen

variable (m : (ℓ : Loc nD τ sig) → Buf (Elt Ideal) ℓ)

/-- The reference's three terms over the arguments. -/
abbrev REF0 (W G M V : FVec Ideal S4x2x2048x1408 .f32) : FVec Ideal S16384x1408 .f32 :=
  shapeCast _ (mulf (broadcastInDim Cert.AdamFfnColumnsRefIdeal.S4x2x2048x1408 ![] Cert.AdamFfnColumnsRefIdeal.Gen.bcast_S_S4x2x2048x1408 (constant Cert.AdamFfnColumnsRefIdeal.S_ .f32 0xBA83126F#32)) (addf (Host.divf (Host.divf (addf (mulf (broadcastInDim Cert.AdamFfnColumnsRefIdeal.S4x2x2048x1408 ![] Cert.AdamFfnColumnsRefIdeal.Gen.bcast_S_S4x2x2048x1408 (constant Cert.AdamFfnColumnsRefIdeal.S_ .f32 0x3F666666#32)) M) (mulf (broadcastInDim Cert.AdamFfnColumnsRefIdeal.S4x2x2048x1408 ![] Cert.AdamFfnColumnsRefIdeal.Gen.bcast_S_S4x2x2048x1408 (constant Cert.AdamFfnColumnsRefIdeal.S_ .f32 0x3DCCCCCD#32)) G)) (broadcastInDim Cert.AdamFfnColumnsRefIdeal.S4x2x2048x1408 ![] Cert.AdamFfnColumnsRefIdeal.Gen.bcast_S_S4x2x2048x1408 (constant Cert.AdamFfnColumnsRefIdeal.S_ .f32 0x3F26BD02#32))) (addf (Host.sqrt (Host.divf (addf (mulf (broadcastInDim Cert.AdamFfnColumnsRefIdeal.S4x2x2048x1408 ![] Cert.AdamFfnColumnsRefIdeal.Gen.bcast_S_S4x2x2048x1408 (constant Cert.AdamFfnColumnsRefIdeal.S_ .f32 0x3F7FBE77#32)) V) (mulf (broadcastInDim Cert.AdamFfnColumnsRefIdeal.S4x2x2048x1408 ![] Cert.AdamFfnColumnsRefIdeal.Gen.bcast_S_S4x2x2048x1408 (constant Cert.AdamFfnColumnsRefIdeal.S_ .f32 0x3A83126F#32)) (mulf G G))) (broadcastInDim Cert.AdamFfnColumnsRefIdeal.S4x2x2048x1408 ![] Cert.AdamFfnColumnsRefIdeal.Gen.bcast_S_S4x2x2048x1408 (constant Cert.AdamFfnColumnsRefIdeal.S_ .f32 0x3C231ACC#32)))) (broadcastInDim Cert.AdamFfnColumnsRefIdeal.S4x2x2048x1408 ![] Cert.AdamFfnColumnsRefIdeal.Gen.bcast_S_S4x2x2048x1408 (constant Cert.AdamFfnColumnsRefIdeal.S_ .f32 0x322BCC77#32)))) (mulf (broadcastInDim Cert.AdamFfnColumnsRefIdeal.S4x2x2048x1408 ![] Cert.AdamFfnColumnsRefIdeal.Gen.bcast_S_S4x2x2048x1408 (constant Cert.AdamFfnColumnsRefIdeal.S_ .f32 0x3C23D70A#32)) W))) Cert.AdamFfnColumnsRefIdeal.Gen.shapeCasts_S4x2x2048x1408_S16384x1408

abbrev REF1 (G M : FVec Ideal S4x2x2048x1408 .f32) : FVec Ideal S16384x1408 .f32 :=
  shapeCast _ (addf (mulf (broadcastInDim Cert.AdamFfnColumnsRefIdeal.S4x2x2048x1408 ![] Cert.AdamFfnColumnsRefIdeal.Gen.bcast_S_S4x2x2048x1408 (constant Cert.AdamFfnColumnsRefIdeal.S_ .f32 0x3F666666#32)) M) (mulf (broadcastInDim Cert.AdamFfnColumnsRefIdeal.S4x2x2048x1408 ![] Cert.AdamFfnColumnsRefIdeal.Gen.bcast_S_S4x2x2048x1408 (constant Cert.AdamFfnColumnsRefIdeal.S_ .f32 0x3DCCCCCD#32)) G)) Cert.AdamFfnColumnsRefIdeal.Gen.shapeCasts_S4x2x2048x1408_S16384x1408

abbrev REF2 (G V : FVec Ideal S4x2x2048x1408 .f32) : FVec Ideal S16384x1408 .f32 :=
  shapeCast _ (addf (mulf (broadcastInDim Cert.AdamFfnColumnsRefIdeal.S4x2x2048x1408 ![] Cert.AdamFfnColumnsRefIdeal.Gen.bcast_S_S4x2x2048x1408 (constant Cert.AdamFfnColumnsRefIdeal.S_ .f32 0x3F7FBE77#32)) V) (mulf (broadcastInDim Cert.AdamFfnColumnsRefIdeal.S4x2x2048x1408 ![] Cert.AdamFfnColumnsRefIdeal.Gen.bcast_S_S4x2x2048x1408 (constant Cert.AdamFfnColumnsRefIdeal.S_ .f32 0x3A83126F#32)) (mulf G G))) Cert.AdamFfnColumnsRefIdeal.Gen.shapeCasts_S4x2x2048x1408_S16384x1408

/-- Input 0 of the region is argument 0, its leading axes made one. -/
theorem in0 (c : Dev nD) : V m c main_v0 = shapeCast S16384x1408 (m ((c : Thread nD τ).loc main_arg0) : FVec Ideal S4x2x2048x1408 .f32) shapeCasts_S4x2x2048x1408_S16384x1408 := by
  unfold V
  after_results
  try rfl

/-- Input 1 of the region is argument 1, its leading axes made one. -/
theorem in1 (c : Dev nD) : V m c main_v1 = shapeCast S16384x1408 (m ((c : Thread nD τ).loc main_arg1) : FVec Ideal S4x2x2048x1408 .f32) shapeCasts_S4x2x2048x1408_S16384x1408 := by
  unfold V
  after_results
  try rfl

/-- Input 2 of the region is argument 2, its leading axes made one. -/
theorem in2 (c : Dev nD) : V m c main_v2 = shapeCast S16384x1408 (m ((c : Thread nD τ).loc main_arg2) : FVec Ideal S4x2x2048x1408 .f32) shapeCasts_S4x2x2048x1408_S16384x1408 := by
  unfold V
  after_results
  try rfl

/-- Input 3 of the region is argument 3, its leading axes made one. -/
theorem in3 (c : Dev nD) : V m c main_v3 = shapeCast S16384x1408 (m ((c : Thread nD τ).loc main_arg3) : FVec Ideal S4x2x2048x1408 .f32) shapeCasts_S4x2x2048x1408_S16384x1408 := by
  unfold V
  after_results
  try rfl

theorem left4 (x0 x1 x2 x3 : FVec Ideal S128x1408 .f32) : out0_4 (F := Ideal) x0 x1 x2 x3 = k0_pay4 (F := Ideal) x1 x2 x3 x0 := by
  unfold out0_4
  frame_out

theorem hout4 (x0 x1 x2 x3 : FVec Ideal S128x1408 .f32) (j : S128x1408.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S4x2x2048x1408 .f32) (j : S16384x1408.Idx) :
    REF0 W G M V j = Cert.Optimiser.delta (shapeCast S16384x1408 W shapeCasts_S4x2x2048x1408_S16384x1408 j) (shapeCast S16384x1408 G shapeCasts_S4x2x2048x1408_S16384x1408 j) (shapeCast S16384x1408 M shapeCasts_S4x2x2048x1408_S16384x1408 j) (shapeCast S16384x1408 V shapeCasts_S4x2x2048x1408_S16384x1408 j) := by
  rfl

theorem left5 (x0 x1 x2 x3 : FVec Ideal S128x1408 .f32) : out0_5 (F := Ideal) x0 x1 x2 x3 = k0_pay2 (F := Ideal) x1 x2 := by
  unfold out0_5
  frame_out

theorem hout5 (x1 x2 : FVec Ideal S128x1408 .f32) (j : S128x1408.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S4x2x2048x1408 .f32) (j : S16384x1408.Idx) :
    REF1 G M j = Cert.Optimiser.mean (shapeCast S16384x1408 G shapeCasts_S4x2x2048x1408_S16384x1408 j) (shapeCast S16384x1408 M shapeCasts_S4x2x2048x1408_S16384x1408 j) := by
  rfl

theorem left6 (x0 x1 x2 x3 : FVec Ideal S128x1408 .f32) : out0_6 (F := Ideal) x0 x1 x2 x3 = k0_pay3 (F := Ideal) x1 x3 := by
  unfold out0_6
  frame_out

theorem hout6 (x1 x3 : FVec Ideal S128x1408 .f32) (j : S128x1408.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S4x2x2048x1408 .f32) (j : S16384x1408.Idx) :
    REF2 G V j = Cert.Optimiser.square (shapeCast S16384x1408 G shapeCasts_S4x2x2048x1408_S16384x1408 j) (shapeCast S16384x1408 V shapeCasts_S4x2x2048x1408_S16384x1408 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamFfnColumns

end
-- ==== Proof.AdamFfnRowsV.lean ====
/- The optimiser's call on arrays of shape S4x2x1408x2048: what the kernel leaves in its results. -/
module

public import proofs.«01_k».proof.Proof.Gen.AdamFfnRowsIdeal.Frame
public import proofs.«01_k».proof.Proof.Gen.AdamFfnRowsRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamFfnRows

open Cert.AdamFfnRowsIdeal Cert.AdamFfnRowsIdeal.Gen

variable (m : (ℓ : Loc nD τ sig) → Buf (Elt Ideal) ℓ)

/-- The reference's three terms over the arguments. -/
abbrev REF0 (W G M V : FVec Ideal S4x2x1408x2048 .f32) : FVec Ideal S11264x2048 .f32 :=
  shapeCast _ (mulf (broadcastInDim Cert.AdamFfnRowsRefIdeal.S4x2x1408x2048 ![] Cert.AdamFfnRowsRefIdeal.Gen.bcast_S_S4x2x1408x2048 (constant Cert.AdamFfnRowsRefIdeal.S_ .f32 0xBA83126F#32)) (addf (Host.divf (Host.divf (addf (mulf (broadcastInDim Cert.AdamFfnRowsRefIdeal.S4x2x1408x2048 ![] Cert.AdamFfnRowsRefIdeal.Gen.bcast_S_S4x2x1408x2048 (constant Cert.AdamFfnRowsRefIdeal.S_ .f32 0x3F666666#32)) M) (mulf (broadcastInDim Cert.AdamFfnRowsRefIdeal.S4x2x1408x2048 ![] Cert.AdamFfnRowsRefIdeal.Gen.bcast_S_S4x2x1408x2048 (constant Cert.AdamFfnRowsRefIdeal.S_ .f32 0x3DCCCCCD#32)) G)) (broadcastInDim Cert.AdamFfnRowsRefIdeal.S4x2x1408x2048 ![] Cert.AdamFfnRowsRefIdeal.Gen.bcast_S_S4x2x1408x2048 (constant Cert.AdamFfnRowsRefIdeal.S_ .f32 0x3F26BD02#32))) (addf (Host.sqrt (Host.divf (addf (mulf (broadcastInDim Cert.AdamFfnRowsRefIdeal.S4x2x1408x2048 ![] Cert.AdamFfnRowsRefIdeal.Gen.bcast_S_S4x2x1408x2048 (constant Cert.AdamFfnRowsRefIdeal.S_ .f32 0x3F7FBE77#32)) V) (mulf (broadcastInDim Cert.AdamFfnRowsRefIdeal.S4x2x1408x2048 ![] Cert.AdamFfnRowsRefIdeal.Gen.bcast_S_S4x2x1408x2048 (constant Cert.AdamFfnRowsRefIdeal.S_ .f32 0x3A83126F#32)) (mulf G G))) (broadcastInDim Cert.AdamFfnRowsRefIdeal.S4x2x1408x2048 ![] Cert.AdamFfnRowsRefIdeal.Gen.bcast_S_S4x2x1408x2048 (constant Cert.AdamFfnRowsRefIdeal.S_ .f32 0x3C231ACC#32)))) (broadcastInDim Cert.AdamFfnRowsRefIdeal.S4x2x1408x2048 ![] Cert.AdamFfnRowsRefIdeal.Gen.bcast_S_S4x2x1408x2048 (constant Cert.AdamFfnRowsRefIdeal.S_ .f32 0x322BCC77#32)))) (mulf (broadcastInDim Cert.AdamFfnRowsRefIdeal.S4x2x1408x2048 ![] Cert.AdamFfnRowsRefIdeal.Gen.bcast_S_S4x2x1408x2048 (constant Cert.AdamFfnRowsRefIdeal.S_ .f32 0x3C23D70A#32)) W))) Cert.AdamFfnRowsRefIdeal.Gen.shapeCasts_S4x2x1408x2048_S11264x2048

abbrev REF1 (G M : FVec Ideal S4x2x1408x2048 .f32) : FVec Ideal S11264x2048 .f32 :=
  shapeCast _ (addf (mulf (broadcastInDim Cert.AdamFfnRowsRefIdeal.S4x2x1408x2048 ![] Cert.AdamFfnRowsRefIdeal.Gen.bcast_S_S4x2x1408x2048 (constant Cert.AdamFfnRowsRefIdeal.S_ .f32 0x3F666666#32)) M) (mulf (broadcastInDim Cert.AdamFfnRowsRefIdeal.S4x2x1408x2048 ![] Cert.AdamFfnRowsRefIdeal.Gen.bcast_S_S4x2x1408x2048 (constant Cert.AdamFfnRowsRefIdeal.S_ .f32 0x3DCCCCCD#32)) G)) Cert.AdamFfnRowsRefIdeal.Gen.shapeCasts_S4x2x1408x2048_S11264x2048

abbrev REF2 (G V : FVec Ideal S4x2x1408x2048 .f32) : FVec Ideal S11264x2048 .f32 :=
  shapeCast _ (addf (mulf (broadcastInDim Cert.AdamFfnRowsRefIdeal.S4x2x1408x2048 ![] Cert.AdamFfnRowsRefIdeal.Gen.bcast_S_S4x2x1408x2048 (constant Cert.AdamFfnRowsRefIdeal.S_ .f32 0x3F7FBE77#32)) V) (mulf (broadcastInDim Cert.AdamFfnRowsRefIdeal.S4x2x1408x2048 ![] Cert.AdamFfnRowsRefIdeal.Gen.bcast_S_S4x2x1408x2048 (constant Cert.AdamFfnRowsRefIdeal.S_ .f32 0x3A83126F#32)) (mulf G G))) Cert.AdamFfnRowsRefIdeal.Gen.shapeCasts_S4x2x1408x2048_S11264x2048

/-- Input 0 of the region is argument 0, its leading axes made one. -/
theorem in0 (c : Dev nD) : V m c main_v0 = shapeCast S11264x2048 (m ((c : Thread nD τ).loc main_arg0) : FVec Ideal S4x2x1408x2048 .f32) shapeCasts_S4x2x1408x2048_S11264x2048 := by
  unfold V
  after_results
  try rfl

/-- Input 1 of the region is argument 1, its leading axes made one. -/
theorem in1 (c : Dev nD) : V m c main_v1 = shapeCast S11264x2048 (m ((c : Thread nD τ).loc main_arg1) : FVec Ideal S4x2x1408x2048 .f32) shapeCasts_S4x2x1408x2048_S11264x2048 := by
  unfold V
  after_results
  try rfl

/-- Input 2 of the region is argument 2, its leading axes made one. -/
theorem in2 (c : Dev nD) : V m c main_v2 = shapeCast S11264x2048 (m ((c : Thread nD τ).loc main_arg2) : FVec Ideal S4x2x1408x2048 .f32) shapeCasts_S4x2x1408x2048_S11264x2048 := by
  unfold V
  after_results
  try rfl

/-- Input 3 of the region is argument 3, its leading axes made one. -/
theorem in3 (c : Dev nD) : V m c main_v3 = shapeCast S11264x2048 (m ((c : Thread nD τ).loc main_arg3) : FVec Ideal S4x2x1408x2048 .f32) shapeCasts_S4x2x1408x2048_S11264x2048 := by
  unfold V
  after_results
  try rfl

theorem left4 (x0 x1 x2 x3 : FVec Ideal S128x2048 .f32) : out0_4 (F := Ideal) x0 x1 x2 x3 = k0_pay4 (F := Ideal) x1 x2 x3 x0 := by
  unfold out0_4
  frame_out

theorem hout4 (x0 x1 x2 x3 : FVec Ideal S128x2048 .f32) (j : S128x2048.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S4x2x1408x2048 .f32) (j : S11264x2048.Idx) :
    REF0 W G M V j = Cert.Optimiser.delta (shapeCast S11264x2048 W shapeCasts_S4x2x1408x2048_S11264x2048 j) (shapeCast S11264x2048 G shapeCasts_S4x2x1408x2048_S11264x2048 j) (shapeCast S11264x2048 M shapeCasts_S4x2x1408x2048_S11264x2048 j) (shapeCast S11264x2048 V shapeCasts_S4x2x1408x2048_S11264x2048 j) := by
  rfl

theorem left5 (x0 x1 x2 x3 : FVec Ideal S128x2048 .f32) : out0_5 (F := Ideal) x0 x1 x2 x3 = k0_pay2 (F := Ideal) x1 x2 := by
  unfold out0_5
  frame_out

theorem hout5 (x1 x2 : FVec Ideal S128x2048 .f32) (j : S128x2048.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S4x2x1408x2048 .f32) (j : S11264x2048.Idx) :
    REF1 G M j = Cert.Optimiser.mean (shapeCast S11264x2048 G shapeCasts_S4x2x1408x2048_S11264x2048 j) (shapeCast S11264x2048 M shapeCasts_S4x2x1408x2048_S11264x2048 j) := by
  rfl

theorem left6 (x0 x1 x2 x3 : FVec Ideal S128x2048 .f32) : out0_6 (F := Ideal) x0 x1 x2 x3 = k0_pay3 (F := Ideal) x1 x3 := by
  unfold out0_6
  frame_out

theorem hout6 (x1 x3 : FVec Ideal S128x2048 .f32) (j : S128x2048.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S4x2x1408x2048 .f32) (j : S11264x2048.Idx) :
    REF2 G V j = Cert.Optimiser.square (shapeCast S11264x2048 G shapeCasts_S4x2x1408x2048_S11264x2048 j) (shapeCast S11264x2048 V shapeCasts_S4x2x1408x2048_S11264x2048 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamFfnRows

end
-- ==== Proof.AdamMetaV.lean ====
/- The optimiser's call on arrays of shape S16x512: what the kernel leaves in its results. -/
module

public import proofs.«01_k».proof.Proof.Gen.AdamMetaIdeal.Frame
public import proofs.«01_k».proof.Proof.Gen.AdamMetaRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamMeta

open Cert.AdamMetaIdeal Cert.AdamMetaIdeal.Gen

variable (m : (ℓ : Loc nD τ sig) → Buf (Elt Ideal) ℓ)

/-- The reference's three terms over the arguments. -/
abbrev REF0 (W G M V : FVec Ideal S16x512 .f32) : FVec Ideal S16x512 .f32 :=
  mulf (broadcastInDim Cert.AdamMetaRefIdeal.S16x512 ![] Cert.AdamMetaRefIdeal.Gen.bcast_S_S16x512 (constant Cert.AdamMetaRefIdeal.S_ .f32 0xBA83126F#32)) (addf (Host.divf (Host.divf (addf (mulf (broadcastInDim Cert.AdamMetaRefIdeal.S16x512 ![] Cert.AdamMetaRefIdeal.Gen.bcast_S_S16x512 (constant Cert.AdamMetaRefIdeal.S_ .f32 0x3F666666#32)) M) (mulf (broadcastInDim Cert.AdamMetaRefIdeal.S16x512 ![] Cert.AdamMetaRefIdeal.Gen.bcast_S_S16x512 (constant Cert.AdamMetaRefIdeal.S_ .f32 0x3DCCCCCD#32)) G)) (broadcastInDim Cert.AdamMetaRefIdeal.S16x512 ![] Cert.AdamMetaRefIdeal.Gen.bcast_S_S16x512 (constant Cert.AdamMetaRefIdeal.S_ .f32 0x3F26BD02#32))) (addf (Host.sqrt (Host.divf (addf (mulf (broadcastInDim Cert.AdamMetaRefIdeal.S16x512 ![] Cert.AdamMetaRefIdeal.Gen.bcast_S_S16x512 (constant Cert.AdamMetaRefIdeal.S_ .f32 0x3F7FBE77#32)) V) (mulf (broadcastInDim Cert.AdamMetaRefIdeal.S16x512 ![] Cert.AdamMetaRefIdeal.Gen.bcast_S_S16x512 (constant Cert.AdamMetaRefIdeal.S_ .f32 0x3A83126F#32)) (mulf G G))) (broadcastInDim Cert.AdamMetaRefIdeal.S16x512 ![] Cert.AdamMetaRefIdeal.Gen.bcast_S_S16x512 (constant Cert.AdamMetaRefIdeal.S_ .f32 0x3C231ACC#32)))) (broadcastInDim Cert.AdamMetaRefIdeal.S16x512 ![] Cert.AdamMetaRefIdeal.Gen.bcast_S_S16x512 (constant Cert.AdamMetaRefIdeal.S_ .f32 0x322BCC77#32)))) (mulf (broadcastInDim Cert.AdamMetaRefIdeal.S16x512 ![] Cert.AdamMetaRefIdeal.Gen.bcast_S_S16x512 (constant Cert.AdamMetaRefIdeal.S_ .f32 0x3C23D70A#32)) W))

abbrev REF1 (G M : FVec Ideal S16x512 .f32) : FVec Ideal S16x512 .f32 :=
  addf (mulf (broadcastInDim Cert.AdamMetaRefIdeal.S16x512 ![] Cert.AdamMetaRefIdeal.Gen.bcast_S_S16x512 (constant Cert.AdamMetaRefIdeal.S_ .f32 0x3F666666#32)) M) (mulf (broadcastInDim Cert.AdamMetaRefIdeal.S16x512 ![] Cert.AdamMetaRefIdeal.Gen.bcast_S_S16x512 (constant Cert.AdamMetaRefIdeal.S_ .f32 0x3DCCCCCD#32)) G)

abbrev REF2 (G V : FVec Ideal S16x512 .f32) : FVec Ideal S16x512 .f32 :=
  addf (mulf (broadcastInDim Cert.AdamMetaRefIdeal.S16x512 ![] Cert.AdamMetaRefIdeal.Gen.bcast_S_S16x512 (constant Cert.AdamMetaRefIdeal.S_ .f32 0x3F7FBE77#32)) V) (mulf (broadcastInDim Cert.AdamMetaRefIdeal.S16x512 ![] Cert.AdamMetaRefIdeal.Gen.bcast_S_S16x512 (constant Cert.AdamMetaRefIdeal.S_ .f32 0x3A83126F#32)) (mulf G G))

theorem left4 (x0 x1 x2 x3 : FVec Ideal S16x512 .f32) : out0_4 (F := Ideal) x0 x1 x2 x3 = k0_pay3 (F := Ideal) x1 x2 x3 x0 := by
  unfold out0_4
  frame_out

theorem hout4 (x0 x1 x2 x3 : FVec Ideal S16x512 .f32) (j : S16x512.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S16x512 .f32) (j : S16x512.Idx) :
    REF0 W G M V j = Cert.Optimiser.delta (W j) (G j) (M j) (V j) := by
  rfl

theorem left5 (x0 x1 x2 x3 : FVec Ideal S16x512 .f32) : out0_5 (F := Ideal) x0 x1 x2 x3 = k0_pay1 (F := Ideal) x1 x2 := by
  unfold out0_5
  frame_out

theorem hout5 (x1 x2 : FVec Ideal S16x512 .f32) (j : S16x512.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S16x512 .f32) (j : S16x512.Idx) :
    REF1 G M j = Cert.Optimiser.mean (G j) (M j) := by
  rfl

theorem left6 (x0 x1 x2 x3 : FVec Ideal S16x512 .f32) : out0_6 (F := Ideal) x0 x1 x2 x3 = k0_pay2 (F := Ideal) x1 x3 := by
  unfold out0_6
  frame_out

theorem hout6 (x1 x3 : FVec Ideal S16x512 .f32) (j : S16x512.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S16x512 .f32) (j : S16x512.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamMeta

end
-- ==== Proof.AdamNormsV.lean ====
/- The optimiser's call on arrays of shape S4x3x512: what the kernel leaves in its results. -/
module

public import proofs.«01_k».proof.Proof.Gen.AdamNormsIdeal.Frame
public import proofs.«01_k».proof.Proof.Gen.AdamNormsRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamNorms

open Cert.AdamNormsIdeal Cert.AdamNormsIdeal.Gen

variable (m : (ℓ : Loc nD τ sig) → Buf (Elt Ideal) ℓ)

/-- The reference's three terms over the arguments. -/
abbrev REF0 (W G M V : FVec Ideal S4x3x512 .f32) : FVec Ideal S12x512 .f32 :=
  shapeCast _ (mulf (broadcastInDim Cert.AdamNormsRefIdeal.S4x3x512 ![] Cert.AdamNormsRefIdeal.Gen.bcast_S_S4x3x512 (constant Cert.AdamNormsRefIdeal.S_ .f32 0xBA83126F#32)) (addf (Host.divf (Host.divf (addf (mulf (broadcastInDim Cert.AdamNormsRefIdeal.S4x3x512 ![] Cert.AdamNormsRefIdeal.Gen.bcast_S_S4x3x512 (constant Cert.AdamNormsRefIdeal.S_ .f32 0x3F666666#32)) M) (mulf (broadcastInDim Cert.AdamNormsRefIdeal.S4x3x512 ![] Cert.AdamNormsRefIdeal.Gen.bcast_S_S4x3x512 (constant Cert.AdamNormsRefIdeal.S_ .f32 0x3DCCCCCD#32)) G)) (broadcastInDim Cert.AdamNormsRefIdeal.S4x3x512 ![] Cert.AdamNormsRefIdeal.Gen.bcast_S_S4x3x512 (constant Cert.AdamNormsRefIdeal.S_ .f32 0x3F26BD02#32))) (addf (Host.sqrt (Host.divf (addf (mulf (broadcastInDim Cert.AdamNormsRefIdeal.S4x3x512 ![] Cert.AdamNormsRefIdeal.Gen.bcast_S_S4x3x512 (constant Cert.AdamNormsRefIdeal.S_ .f32 0x3F7FBE77#32)) V) (mulf (broadcastInDim Cert.AdamNormsRefIdeal.S4x3x512 ![] Cert.AdamNormsRefIdeal.Gen.bcast_S_S4x3x512 (constant Cert.AdamNormsRefIdeal.S_ .f32 0x3A83126F#32)) (mulf G G))) (broadcastInDim Cert.AdamNormsRefIdeal.S4x3x512 ![] Cert.AdamNormsRefIdeal.Gen.bcast_S_S4x3x512 (constant Cert.AdamNormsRefIdeal.S_ .f32 0x3C231ACC#32)))) (broadcastInDim Cert.AdamNormsRefIdeal.S4x3x512 ![] Cert.AdamNormsRefIdeal.Gen.bcast_S_S4x3x512 (constant Cert.AdamNormsRefIdeal.S_ .f32 0x322BCC77#32)))) (mulf (broadcastInDim Cert.AdamNormsRefIdeal.S4x3x512 ![] Cert.AdamNormsRefIdeal.Gen.bcast_S_S4x3x512 (constant Cert.AdamNormsRefIdeal.S_ .f32 0x3C23D70A#32)) W))) Cert.AdamNormsRefIdeal.Gen.shapeCasts_S4x3x512_S12x512

abbrev REF1 (G M : FVec Ideal S4x3x512 .f32) : FVec Ideal S12x512 .f32 :=
  shapeCast _ (addf (mulf (broadcastInDim Cert.AdamNormsRefIdeal.S4x3x512 ![] Cert.AdamNormsRefIdeal.Gen.bcast_S_S4x3x512 (constant Cert.AdamNormsRefIdeal.S_ .f32 0x3F666666#32)) M) (mulf (broadcastInDim Cert.AdamNormsRefIdeal.S4x3x512 ![] Cert.AdamNormsRefIdeal.Gen.bcast_S_S4x3x512 (constant Cert.AdamNormsRefIdeal.S_ .f32 0x3DCCCCCD#32)) G)) Cert.AdamNormsRefIdeal.Gen.shapeCasts_S4x3x512_S12x512

abbrev REF2 (G V : FVec Ideal S4x3x512 .f32) : FVec Ideal S12x512 .f32 :=
  shapeCast _ (addf (mulf (broadcastInDim Cert.AdamNormsRefIdeal.S4x3x512 ![] Cert.AdamNormsRefIdeal.Gen.bcast_S_S4x3x512 (constant Cert.AdamNormsRefIdeal.S_ .f32 0x3F7FBE77#32)) V) (mulf (broadcastInDim Cert.AdamNormsRefIdeal.S4x3x512 ![] Cert.AdamNormsRefIdeal.Gen.bcast_S_S4x3x512 (constant Cert.AdamNormsRefIdeal.S_ .f32 0x3A83126F#32)) (mulf G G))) Cert.AdamNormsRefIdeal.Gen.shapeCasts_S4x3x512_S12x512

/-- Input 0 of the region is argument 0, its leading axes made one. -/
theorem in0 (c : Dev nD) : V m c main_v0 = shapeCast S12x512 (m ((c : Thread nD τ).loc main_arg0) : FVec Ideal S4x3x512 .f32) shapeCasts_S4x3x512_S12x512 := by
  unfold V
  after_results
  try rfl

/-- Input 1 of the region is argument 1, its leading axes made one. -/
theorem in1 (c : Dev nD) : V m c main_v1 = shapeCast S12x512 (m ((c : Thread nD τ).loc main_arg1) : FVec Ideal S4x3x512 .f32) shapeCasts_S4x3x512_S12x512 := by
  unfold V
  after_results
  try rfl

/-- Input 2 of the region is argument 2, its leading axes made one. -/
theorem in2 (c : Dev nD) : V m c main_v2 = shapeCast S12x512 (m ((c : Thread nD τ).loc main_arg2) : FVec Ideal S4x3x512 .f32) shapeCasts_S4x3x512_S12x512 := by
  unfold V
  after_results
  try rfl

/-- Input 3 of the region is argument 3, its leading axes made one. -/
theorem in3 (c : Dev nD) : V m c main_v3 = shapeCast S12x512 (m ((c : Thread nD τ).loc main_arg3) : FVec Ideal S4x3x512 .f32) shapeCasts_S4x3x512_S12x512 := by
  unfold V
  after_results
  try rfl

theorem left4 (x0 x1 x2 x3 : FVec Ideal S12x512 .f32) : out0_4 (F := Ideal) x0 x1 x2 x3 = k0_pay4 (F := Ideal) x1 x2 x3 x0 := by
  unfold out0_4
  frame_out

theorem hout4 (x0 x1 x2 x3 : FVec Ideal S12x512 .f32) (j : S12x512.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S4x3x512 .f32) (j : S12x512.Idx) :
    REF0 W G M V j = Cert.Optimiser.delta (shapeCast S12x512 W shapeCasts_S4x3x512_S12x512 j) (shapeCast S12x512 G shapeCasts_S4x3x512_S12x512 j) (shapeCast S12x512 M shapeCasts_S4x3x512_S12x512 j) (shapeCast S12x512 V shapeCasts_S4x3x512_S12x512 j) := by
  rfl

theorem left5 (x0 x1 x2 x3 : FVec Ideal S12x512 .f32) : out0_5 (F := Ideal) x0 x1 x2 x3 = k0_pay2 (F := Ideal) x1 x2 := by
  unfold out0_5
  frame_out

theorem hout5 (x1 x2 : FVec Ideal S12x512 .f32) (j : S12x512.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S4x3x512 .f32) (j : S12x512.Idx) :
    REF1 G M j = Cert.Optimiser.mean (shapeCast S12x512 G shapeCasts_S4x3x512_S12x512 j) (shapeCast S12x512 M shapeCasts_S4x3x512_S12x512 j) := by
  rfl

theorem left6 (x0 x1 x2 x3 : FVec Ideal S12x512 .f32) : out0_6 (F := Ideal) x0 x1 x2 x3 = k0_pay3 (F := Ideal) x1 x3 := by
  unfold out0_6
  frame_out

theorem hout6 (x1 x3 : FVec Ideal S12x512 .f32) (j : S12x512.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S4x3x512 .f32) (j : S12x512.Idx) :
    REF2 G V j = Cert.Optimiser.square (shapeCast S12x512 G shapeCasts_S4x3x512_S12x512 j) (shapeCast S12x512 V shapeCasts_S4x3x512_S12x512 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamNorms

end
-- ==== Proof.AdamMlstmInV.lean ====
/- The optimiser's call on arrays of shape S1x2048x1540: what the kernel leaves in its results. -/
module

public import proofs.«01_k».proof.Proof.Gen.AdamMlstmInIdeal.Frame
public import proofs.«01_k».proof.Proof.Gen.AdamMlstmInRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamMlstmIn

open Cert.AdamMlstmInIdeal Cert.AdamMlstmInIdeal.Gen

variable (m : (ℓ : Loc nD τ sig) → Buf (Elt Ideal) ℓ)

/-- The reference's three terms over the arguments. -/
abbrev REF0 (W G M V : FVec Ideal S1x2048x1540 .f32) : FVec Ideal S2048x1540 .f32 :=
  shapeCast _ (mulf (broadcastInDim Cert.AdamMlstmInRefIdeal.S1x2048x1540 ![] Cert.AdamMlstmInRefIdeal.Gen.bcast_S_S1x2048x1540 (constant Cert.AdamMlstmInRefIdeal.S_ .f32 0xBA83126F#32)) (addf (Host.divf (Host.divf (addf (mulf (broadcastInDim Cert.AdamMlstmInRefIdeal.S1x2048x1540 ![] Cert.AdamMlstmInRefIdeal.Gen.bcast_S_S1x2048x1540 (constant Cert.AdamMlstmInRefIdeal.S_ .f32 0x3F666666#32)) M) (mulf (broadcastInDim Cert.AdamMlstmInRefIdeal.S1x2048x1540 ![] Cert.AdamMlstmInRefIdeal.Gen.bcast_S_S1x2048x1540 (constant Cert.AdamMlstmInRefIdeal.S_ .f32 0x3DCCCCCD#32)) G)) (broadcastInDim Cert.AdamMlstmInRefIdeal.S1x2048x1540 ![] Cert.AdamMlstmInRefIdeal.Gen.bcast_S_S1x2048x1540 (constant Cert.AdamMlstmInRefIdeal.S_ .f32 0x3F26BD02#32))) (addf (Host.sqrt (Host.divf (addf (mulf (broadcastInDim Cert.AdamMlstmInRefIdeal.S1x2048x1540 ![] Cert.AdamMlstmInRefIdeal.Gen.bcast_S_S1x2048x1540 (constant Cert.AdamMlstmInRefIdeal.S_ .f32 0x3F7FBE77#32)) V) (mulf (broadcastInDim Cert.AdamMlstmInRefIdeal.S1x2048x1540 ![] Cert.AdamMlstmInRefIdeal.Gen.bcast_S_S1x2048x1540 (constant Cert.AdamMlstmInRefIdeal.S_ .f32 0x3A83126F#32)) (mulf G G))) (broadcastInDim Cert.AdamMlstmInRefIdeal.S1x2048x1540 ![] Cert.AdamMlstmInRefIdeal.Gen.bcast_S_S1x2048x1540 (constant Cert.AdamMlstmInRefIdeal.S_ .f32 0x3C231ACC#32)))) (broadcastInDim Cert.AdamMlstmInRefIdeal.S1x2048x1540 ![] Cert.AdamMlstmInRefIdeal.Gen.bcast_S_S1x2048x1540 (constant Cert.AdamMlstmInRefIdeal.S_ .f32 0x322BCC77#32)))) (mulf (broadcastInDim Cert.AdamMlstmInRefIdeal.S1x2048x1540 ![] Cert.AdamMlstmInRefIdeal.Gen.bcast_S_S1x2048x1540 (constant Cert.AdamMlstmInRefIdeal.S_ .f32 0x3C23D70A#32)) W))) Cert.AdamMlstmInRefIdeal.Gen.shapeCasts_S1x2048x1540_S2048x1540

abbrev REF1 (G M : FVec Ideal S1x2048x1540 .f32) : FVec Ideal S2048x1540 .f32 :=
  shapeCast _ (addf (mulf (broadcastInDim Cert.AdamMlstmInRefIdeal.S1x2048x1540 ![] Cert.AdamMlstmInRefIdeal.Gen.bcast_S_S1x2048x1540 (constant Cert.AdamMlstmInRefIdeal.S_ .f32 0x3F666666#32)) M) (mulf (broadcastInDim Cert.AdamMlstmInRefIdeal.S1x2048x1540 ![] Cert.AdamMlstmInRefIdeal.Gen.bcast_S_S1x2048x1540 (constant Cert.AdamMlstmInRefIdeal.S_ .f32 0x3DCCCCCD#32)) G)) Cert.AdamMlstmInRefIdeal.Gen.shapeCasts_S1x2048x1540_S2048x1540

abbrev REF2 (G V : FVec Ideal S1x2048x1540 .f32) : FVec Ideal S2048x1540 .f32 :=
  shapeCast _ (addf (mulf (broadcastInDim Cert.AdamMlstmInRefIdeal.S1x2048x1540 ![] Cert.AdamMlstmInRefIdeal.Gen.bcast_S_S1x2048x1540 (constant Cert.AdamMlstmInRefIdeal.S_ .f32 0x3F7FBE77#32)) V) (mulf (broadcastInDim Cert.AdamMlstmInRefIdeal.S1x2048x1540 ![] Cert.AdamMlstmInRefIdeal.Gen.bcast_S_S1x2048x1540 (constant Cert.AdamMlstmInRefIdeal.S_ .f32 0x3A83126F#32)) (mulf G G))) Cert.AdamMlstmInRefIdeal.Gen.shapeCasts_S1x2048x1540_S2048x1540

/-- Input 0 of the region is argument 0, its leading axes made one. -/
theorem in0 (c : Dev nD) : V m c main_v0 = shapeCast S2048x1540 (m ((c : Thread nD τ).loc main_arg0) : FVec Ideal S1x2048x1540 .f32) shapeCasts_S1x2048x1540_S2048x1540 := by
  unfold V
  after_results
  try rfl

/-- Input 1 of the region is argument 1, its leading axes made one. -/
theorem in1 (c : Dev nD) : V m c main_v1 = shapeCast S2048x1540 (m ((c : Thread nD τ).loc main_arg1) : FVec Ideal S1x2048x1540 .f32) shapeCasts_S1x2048x1540_S2048x1540 := by
  unfold V
  after_results
  try rfl

/-- Input 2 of the region is argument 2, its leading axes made one. -/
theorem in2 (c : Dev nD) : V m c main_v2 = shapeCast S2048x1540 (m ((c : Thread nD τ).loc main_arg2) : FVec Ideal S1x2048x1540 .f32) shapeCasts_S1x2048x1540_S2048x1540 := by
  unfold V
  after_results
  try rfl

/-- Input 3 of the region is argument 3, its leading axes made one. -/
theorem in3 (c : Dev nD) : V m c main_v3 = shapeCast S2048x1540 (m ((c : Thread nD τ).loc main_arg3) : FVec Ideal S1x2048x1540 .f32) shapeCasts_S1x2048x1540_S2048x1540 := by
  unfold V
  after_results
  try rfl

theorem left4 (x0 x1 x2 x3 : FVec Ideal S128x1540 .f32) : out0_4 (F := Ideal) x0 x1 x2 x3 = k0_pay4 (F := Ideal) x1 x2 x3 x0 := by
  unfold out0_4
  frame_out

theorem hout4 (x0 x1 x2 x3 : FVec Ideal S128x1540 .f32) (j : S128x1540.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x2048x1540 .f32) (j : S2048x1540.Idx) :
    REF0 W G M V j = Cert.Optimiser.delta (shapeCast S2048x1540 W shapeCasts_S1x2048x1540_S2048x1540 j) (shapeCast S2048x1540 G shapeCasts_S1x2048x1540_S2048x1540 j) (shapeCast S2048x1540 M shapeCasts_S1x2048x1540_S2048x1540 j) (shapeCast S2048x1540 V shapeCasts_S1x2048x1540_S2048x1540 j) := by
  rfl

theorem left5 (x0 x1 x2 x3 : FVec Ideal S128x1540 .f32) : out0_5 (F := Ideal) x0 x1 x2 x3 = k0_pay2 (F := Ideal) x1 x2 := by
  unfold out0_5
  frame_out

theorem hout5 (x1 x2 : FVec Ideal S128x1540 .f32) (j : S128x1540.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x2048x1540 .f32) (j : S2048x1540.Idx) :
    REF1 G M j = Cert.Optimiser.mean (shapeCast S2048x1540 G shapeCasts_S1x2048x1540_S2048x1540 j) (shapeCast S2048x1540 M shapeCasts_S1x2048x1540_S2048x1540 j) := by
  rfl

theorem left6 (x0 x1 x2 x3 : FVec Ideal S128x1540 .f32) : out0_6 (F := Ideal) x0 x1 x2 x3 = k0_pay3 (F := Ideal) x1 x3 := by
  unfold out0_6
  frame_out

theorem hout6 (x1 x3 : FVec Ideal S128x1540 .f32) (j : S128x1540.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x2048x1540 .f32) (j : S2048x1540.Idx) :
    REF2 G V j = Cert.Optimiser.square (shapeCast S2048x1540 G shapeCasts_S1x2048x1540_S2048x1540 j) (shapeCast S2048x1540 V shapeCasts_S1x2048x1540_S2048x1540 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamMlstmIn

end
-- ==== Proof.AdamSquareOutV.lean ====
/- The optimiser's call on arrays of shape S1x512x2048: what the kernel leaves in its results. -/
module

public import proofs.«01_k».proof.Proof.Gen.AdamSquareOutIdeal.Frame
public import proofs.«01_k».proof.Proof.Gen.AdamSquareOutRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamSquareOut

open Cert.AdamSquareOutIdeal Cert.AdamSquareOutIdeal.Gen

variable (m : (ℓ : Loc nD τ sig) → Buf (Elt Ideal) ℓ)

/-- The reference's three terms over the arguments. -/
abbrev REF0 (W G M V : FVec Ideal S1x512x2048 .f32) : FVec Ideal S512x2048 .f32 :=
  shapeCast _ (mulf (broadcastInDim Cert.AdamSquareOutRefIdeal.S1x512x2048 ![] Cert.AdamSquareOutRefIdeal.Gen.bcast_S_S1x512x2048 (constant Cert.AdamSquareOutRefIdeal.S_ .f32 0xBA83126F#32)) (addf (Host.divf (Host.divf (addf (mulf (broadcastInDim Cert.AdamSquareOutRefIdeal.S1x512x2048 ![] Cert.AdamSquareOutRefIdeal.Gen.bcast_S_S1x512x2048 (constant Cert.AdamSquareOutRefIdeal.S_ .f32 0x3F666666#32)) M) (mulf (broadcastInDim Cert.AdamSquareOutRefIdeal.S1x512x2048 ![] Cert.AdamSquareOutRefIdeal.Gen.bcast_S_S1x512x2048 (constant Cert.AdamSquareOutRefIdeal.S_ .f32 0x3DCCCCCD#32)) G)) (broadcastInDim Cert.AdamSquareOutRefIdeal.S1x512x2048 ![] Cert.AdamSquareOutRefIdeal.Gen.bcast_S_S1x512x2048 (constant Cert.AdamSquareOutRefIdeal.S_ .f32 0x3F26BD02#32))) (addf (Host.sqrt (Host.divf (addf (mulf (broadcastInDim Cert.AdamSquareOutRefIdeal.S1x512x2048 ![] Cert.AdamSquareOutRefIdeal.Gen.bcast_S_S1x512x2048 (constant Cert.AdamSquareOutRefIdeal.S_ .f32 0x3F7FBE77#32)) V) (mulf (broadcastInDim Cert.AdamSquareOutRefIdeal.S1x512x2048 ![] Cert.AdamSquareOutRefIdeal.Gen.bcast_S_S1x512x2048 (constant Cert.AdamSquareOutRefIdeal.S_ .f32 0x3A83126F#32)) (mulf G G))) (broadcastInDim Cert.AdamSquareOutRefIdeal.S1x512x2048 ![] Cert.AdamSquareOutRefIdeal.Gen.bcast_S_S1x512x2048 (constant Cert.AdamSquareOutRefIdeal.S_ .f32 0x3C231ACC#32)))) (broadcastInDim Cert.AdamSquareOutRefIdeal.S1x512x2048 ![] Cert.AdamSquareOutRefIdeal.Gen.bcast_S_S1x512x2048 (constant Cert.AdamSquareOutRefIdeal.S_ .f32 0x322BCC77#32)))) (mulf (broadcastInDim Cert.AdamSquareOutRefIdeal.S1x512x2048 ![] Cert.AdamSquareOutRefIdeal.Gen.bcast_S_S1x512x2048 (constant Cert.AdamSquareOutRefIdeal.S_ .f32 0x3C23D70A#32)) W))) Cert.AdamSquareOutRefIdeal.Gen.shapeCasts_S1x512x2048_S512x2048

abbrev REF1 (G M : FVec Ideal S1x512x2048 .f32) : FVec Ideal S512x2048 .f32 :=
  shapeCast _ (addf (mulf (broadcastInDim Cert.AdamSquareOutRefIdeal.S1x512x2048 ![] Cert.AdamSquareOutRefIdeal.Gen.bcast_S_S1x512x2048 (constant Cert.AdamSquareOutRefIdeal.S_ .f32 0x3F666666#32)) M) (mulf (broadcastInDim Cert.AdamSquareOutRefIdeal.S1x512x2048 ![] Cert.AdamSquareOutRefIdeal.Gen.bcast_S_S1x512x2048 (constant Cert.AdamSquareOutRefIdeal.S_ .f32 0x3DCCCCCD#32)) G)) Cert.AdamSquareOutRefIdeal.Gen.shapeCasts_S1x512x2048_S512x2048

abbrev REF2 (G V : FVec Ideal S1x512x2048 .f32) : FVec Ideal S512x2048 .f32 :=
  shapeCast _ (addf (mulf (broadcastInDim Cert.AdamSquareOutRefIdeal.S1x512x2048 ![] Cert.AdamSquareOutRefIdeal.Gen.bcast_S_S1x512x2048 (constant Cert.AdamSquareOutRefIdeal.S_ .f32 0x3F7FBE77#32)) V) (mulf (broadcastInDim Cert.AdamSquareOutRefIdeal.S1x512x2048 ![] Cert.AdamSquareOutRefIdeal.Gen.bcast_S_S1x512x2048 (constant Cert.AdamSquareOutRefIdeal.S_ .f32 0x3A83126F#32)) (mulf G G))) Cert.AdamSquareOutRefIdeal.Gen.shapeCasts_S1x512x2048_S512x2048

/-- Input 0 of the region is argument 0, its leading axes made one. -/
theorem in0 (c : Dev nD) : V m c main_v0 = shapeCast S512x2048 (m ((c : Thread nD τ).loc main_arg0) : FVec Ideal S1x512x2048 .f32) shapeCasts_S1x512x2048_S512x2048 := by
  unfold V
  after_results
  try rfl

/-- Input 1 of the region is argument 1, its leading axes made one. -/
theorem in1 (c : Dev nD) : V m c main_v1 = shapeCast S512x2048 (m ((c : Thread nD τ).loc main_arg1) : FVec Ideal S1x512x2048 .f32) shapeCasts_S1x512x2048_S512x2048 := by
  unfold V
  after_results
  try rfl

/-- Input 2 of the region is argument 2, its leading axes made one. -/
theorem in2 (c : Dev nD) : V m c main_v2 = shapeCast S512x2048 (m ((c : Thread nD τ).loc main_arg2) : FVec Ideal S1x512x2048 .f32) shapeCasts_S1x512x2048_S512x2048 := by
  unfold V
  after_results
  try rfl

/-- Input 3 of the region is argument 3, its leading axes made one. -/
theorem in3 (c : Dev nD) : V m c main_v3 = shapeCast S512x2048 (m ((c : Thread nD τ).loc main_arg3) : FVec Ideal S1x512x2048 .f32) shapeCasts_S1x512x2048_S512x2048 := by
  unfold V
  after_results
  try rfl

theorem left4 (x0 x1 x2 x3 : FVec Ideal S128x2048 .f32) : out0_4 (F := Ideal) x0 x1 x2 x3 = k0_pay4 (F := Ideal) x1 x2 x3 x0 := by
  unfold out0_4
  frame_out

theorem hout4 (x0 x1 x2 x3 : FVec Ideal S128x2048 .f32) (j : S128x2048.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x512x2048 .f32) (j : S512x2048.Idx) :
    REF0 W G M V j = Cert.Optimiser.delta (shapeCast S512x2048 W shapeCasts_S1x512x2048_S512x2048 j) (shapeCast S512x2048 G shapeCasts_S1x512x2048_S512x2048 j) (shapeCast S512x2048 M shapeCasts_S1x512x2048_S512x2048 j) (shapeCast S512x2048 V shapeCasts_S1x512x2048_S512x2048 j) := by
  rfl

theorem left5 (x0 x1 x2 x3 : FVec Ideal S128x2048 .f32) : out0_5 (F := Ideal) x0 x1 x2 x3 = k0_pay2 (F := Ideal) x1 x2 := by
  unfold out0_5
  frame_out

theorem hout5 (x1 x2 : FVec Ideal S128x2048 .f32) (j : S128x2048.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x512x2048 .f32) (j : S512x2048.Idx) :
    REF1 G M j = Cert.Optimiser.mean (shapeCast S512x2048 G shapeCasts_S1x512x2048_S512x2048 j) (shapeCast S512x2048 M shapeCasts_S1x512x2048_S512x2048 j) := by
  rfl

theorem left6 (x0 x1 x2 x3 : FVec Ideal S128x2048 .f32) : out0_6 (F := Ideal) x0 x1 x2 x3 = k0_pay3 (F := Ideal) x1 x3 := by
  unfold out0_6
  frame_out

theorem hout6 (x1 x3 : FVec Ideal S128x2048 .f32) (j : S128x2048.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x512x2048 .f32) (j : S512x2048.Idx) :
    REF2 G V j = Cert.Optimiser.square (shapeCast S512x2048 G shapeCasts_S1x512x2048_S512x2048 j) (shapeCast S512x2048 V shapeCasts_S1x512x2048_S512x2048 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamSquareOut

end
-- ==== Proof.AdamMlstmBiasV.lean ====
/- The optimiser's call on arrays of shape S1x16: what the kernel leaves in its results. -/
module

public import proofs.«01_k».proof.Proof.Gen.AdamMlstmBiasIdeal.Frame
public import proofs.«01_k».proof.Proof.Gen.AdamMlstmBiasRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamMlstmBias

open Cert.AdamMlstmBiasIdeal Cert.AdamMlstmBiasIdeal.Gen

variable (m : (ℓ : Loc nD τ sig) → Buf (Elt Ideal) ℓ)

/-- The reference's three terms over the arguments. -/
abbrev REF0 (W G M V : FVec Ideal S1x16 .f32) : FVec Ideal S1x16 .f32 :=
  mulf (broadcastInDim Cert.AdamMlstmBiasRefIdeal.S1x16 ![] Cert.AdamMlstmBiasRefIdeal.Gen.bcast_S_S1x16 (constant Cert.AdamMlstmBiasRefIdeal.S_ .f32 0xBA83126F#32)) (addf (Host.divf (Host.divf (addf (mulf (broadcastInDim Cert.AdamMlstmBiasRefIdeal.S1x16 ![] Cert.AdamMlstmBiasRefIdeal.Gen.bcast_S_S1x16 (constant Cert.AdamMlstmBiasRefIdeal.S_ .f32 0x3F666666#32)) M) (mulf (broadcastInDim Cert.AdamMlstmBiasRefIdeal.S1x16 ![] Cert.AdamMlstmBiasRefIdeal.Gen.bcast_S_S1x16 (constant Cert.AdamMlstmBiasRefIdeal.S_ .f32 0x3DCCCCCD#32)) G)) (broadcastInDim Cert.AdamMlstmBiasRefIdeal.S1x16 ![] Cert.AdamMlstmBiasRefIdeal.Gen.bcast_S_S1x16 (constant Cert.AdamMlstmBiasRefIdeal.S_ .f32 0x3F26BD02#32))) (addf (Host.sqrt (Host.divf (addf (mulf (broadcastInDim Cert.AdamMlstmBiasRefIdeal.S1x16 ![] Cert.AdamMlstmBiasRefIdeal.Gen.bcast_S_S1x16 (constant Cert.AdamMlstmBiasRefIdeal.S_ .f32 0x3F7FBE77#32)) V) (mulf (broadcastInDim Cert.AdamMlstmBiasRefIdeal.S1x16 ![] Cert.AdamMlstmBiasRefIdeal.Gen.bcast_S_S1x16 (constant Cert.AdamMlstmBiasRefIdeal.S_ .f32 0x3A83126F#32)) (mulf G G))) (broadcastInDim Cert.AdamMlstmBiasRefIdeal.S1x16 ![] Cert.AdamMlstmBiasRefIdeal.Gen.bcast_S_S1x16 (constant Cert.AdamMlstmBiasRefIdeal.S_ .f32 0x3C231ACC#32)))) (broadcastInDim Cert.AdamMlstmBiasRefIdeal.S1x16 ![] Cert.AdamMlstmBiasRefIdeal.Gen.bcast_S_S1x16 (constant Cert.AdamMlstmBiasRefIdeal.S_ .f32 0x322BCC77#32)))) (mulf (broadcastInDim Cert.AdamMlstmBiasRefIdeal.S1x16 ![] Cert.AdamMlstmBiasRefIdeal.Gen.bcast_S_S1x16 (constant Cert.AdamMlstmBiasRefIdeal.S_ .f32 0x3C23D70A#32)) W))

abbrev REF1 (G M : FVec Ideal S1x16 .f32) : FVec Ideal S1x16 .f32 :=
  addf (mulf (broadcastInDim Cert.AdamMlstmBiasRefIdeal.S1x16 ![] Cert.AdamMlstmBiasRefIdeal.Gen.bcast_S_S1x16 (constant Cert.AdamMlstmBiasRefIdeal.S_ .f32 0x3F666666#32)) M) (mulf (broadcastInDim Cert.AdamMlstmBiasRefIdeal.S1x16 ![] Cert.AdamMlstmBiasRefIdeal.Gen.bcast_S_S1x16 (constant Cert.AdamMlstmBiasRefIdeal.S_ .f32 0x3DCCCCCD#32)) G)

abbrev REF2 (G V : FVec Ideal S1x16 .f32) : FVec Ideal S1x16 .f32 :=
  addf (mulf (broadcastInDim Cert.AdamMlstmBiasRefIdeal.S1x16 ![] Cert.AdamMlstmBiasRefIdeal.Gen.bcast_S_S1x16 (constant Cert.AdamMlstmBiasRefIdeal.S_ .f32 0x3F7FBE77#32)) V) (mulf (broadcastInDim Cert.AdamMlstmBiasRefIdeal.S1x16 ![] Cert.AdamMlstmBiasRefIdeal.Gen.bcast_S_S1x16 (constant Cert.AdamMlstmBiasRefIdeal.S_ .f32 0x3A83126F#32)) (mulf G G))

theorem left4 (x0 x1 x2 x3 : FVec Ideal S1x16 .f32) : out0_4 (F := Ideal) x0 x1 x2 x3 = k0_pay3 (F := Ideal) x1 x2 x3 x0 := by
  unfold out0_4
  frame_out

theorem hout4 (x0 x1 x2 x3 : FVec Ideal S1x16 .f32) (j : S1x16.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x16 .f32) (j : S1x16.Idx) :
    REF0 W G M V j = Cert.Optimiser.delta (W j) (G j) (M j) (V j) := by
  rfl

theorem left5 (x0 x1 x2 x3 : FVec Ideal S1x16 .f32) : out0_5 (F := Ideal) x0 x1 x2 x3 = k0_pay1 (F := Ideal) x1 x2 := by
  unfold out0_5
  frame_out

theorem hout5 (x1 x2 : FVec Ideal S1x16 .f32) (j : S1x16.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x16 .f32) (j : S1x16.Idx) :
    REF1 G M j = Cert.Optimiser.mean (G j) (M j) := by
  rfl

theorem left6 (x0 x1 x2 x3 : FVec Ideal S1x16 .f32) : out0_6 (F := Ideal) x0 x1 x2 x3 = k0_pay2 (F := Ideal) x1 x3 := by
  unfold out0_6
  frame_out

theorem hout6 (x1 x3 : FVec Ideal S1x16 .f32) (j : S1x16.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x16 .f32) (j : S1x16.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamMlstmBias

end
-- ==== Proof.AdamRow2048V.lean ====
/- The optimiser's call on arrays of shape S1x2048: what the kernel leaves in its results. -/
module

public import proofs.«01_k».proof.Proof.Gen.AdamRow2048Ideal.Frame
public import proofs.«01_k».proof.Proof.Gen.AdamRow2048RefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamRow2048

open Cert.AdamRow2048Ideal Cert.AdamRow2048Ideal.Gen

variable (m : (ℓ : Loc nD τ sig) → Buf (Elt Ideal) ℓ)

/-- The reference's three terms over the arguments. -/
abbrev REF0 (W G M V : FVec Ideal S1x2048 .f32) : FVec Ideal S1x2048 .f32 :=
  mulf (broadcastInDim Cert.AdamRow2048RefIdeal.S1x2048 ![] Cert.AdamRow2048RefIdeal.Gen.bcast_S_S1x2048 (constant Cert.AdamRow2048RefIdeal.S_ .f32 0xBA83126F#32)) (addf (Host.divf (Host.divf (addf (mulf (broadcastInDim Cert.AdamRow2048RefIdeal.S1x2048 ![] Cert.AdamRow2048RefIdeal.Gen.bcast_S_S1x2048 (constant Cert.AdamRow2048RefIdeal.S_ .f32 0x3F666666#32)) M) (mulf (broadcastInDim Cert.AdamRow2048RefIdeal.S1x2048 ![] Cert.AdamRow2048RefIdeal.Gen.bcast_S_S1x2048 (constant Cert.AdamRow2048RefIdeal.S_ .f32 0x3DCCCCCD#32)) G)) (broadcastInDim Cert.AdamRow2048RefIdeal.S1x2048 ![] Cert.AdamRow2048RefIdeal.Gen.bcast_S_S1x2048 (constant Cert.AdamRow2048RefIdeal.S_ .f32 0x3F26BD02#32))) (addf (Host.sqrt (Host.divf (addf (mulf (broadcastInDim Cert.AdamRow2048RefIdeal.S1x2048 ![] Cert.AdamRow2048RefIdeal.Gen.bcast_S_S1x2048 (constant Cert.AdamRow2048RefIdeal.S_ .f32 0x3F7FBE77#32)) V) (mulf (broadcastInDim Cert.AdamRow2048RefIdeal.S1x2048 ![] Cert.AdamRow2048RefIdeal.Gen.bcast_S_S1x2048 (constant Cert.AdamRow2048RefIdeal.S_ .f32 0x3A83126F#32)) (mulf G G))) (broadcastInDim Cert.AdamRow2048RefIdeal.S1x2048 ![] Cert.AdamRow2048RefIdeal.Gen.bcast_S_S1x2048 (constant Cert.AdamRow2048RefIdeal.S_ .f32 0x3C231ACC#32)))) (broadcastInDim Cert.AdamRow2048RefIdeal.S1x2048 ![] Cert.AdamRow2048RefIdeal.Gen.bcast_S_S1x2048 (constant Cert.AdamRow2048RefIdeal.S_ .f32 0x322BCC77#32)))) (mulf (broadcastInDim Cert.AdamRow2048RefIdeal.S1x2048 ![] Cert.AdamRow2048RefIdeal.Gen.bcast_S_S1x2048 (constant Cert.AdamRow2048RefIdeal.S_ .f32 0x3C23D70A#32)) W))

abbrev REF1 (G M : FVec Ideal S1x2048 .f32) : FVec Ideal S1x2048 .f32 :=
  addf (mulf (broadcastInDim Cert.AdamRow2048RefIdeal.S1x2048 ![] Cert.AdamRow2048RefIdeal.Gen.bcast_S_S1x2048 (constant Cert.AdamRow2048RefIdeal.S_ .f32 0x3F666666#32)) M) (mulf (broadcastInDim Cert.AdamRow2048RefIdeal.S1x2048 ![] Cert.AdamRow2048RefIdeal.Gen.bcast_S_S1x2048 (constant Cert.AdamRow2048RefIdeal.S_ .f32 0x3DCCCCCD#32)) G)

abbrev REF2 (G V : FVec Ideal S1x2048 .f32) : FVec Ideal S1x2048 .f32 :=
  addf (mulf (broadcastInDim Cert.AdamRow2048RefIdeal.S1x2048 ![] Cert.AdamRow2048RefIdeal.Gen.bcast_S_S1x2048 (constant Cert.AdamRow2048RefIdeal.S_ .f32 0x3F7FBE77#32)) V) (mulf (broadcastInDim Cert.AdamRow2048RefIdeal.S1x2048 ![] Cert.AdamRow2048RefIdeal.Gen.bcast_S_S1x2048 (constant Cert.AdamRow2048RefIdeal.S_ .f32 0x3A83126F#32)) (mulf G G))

theorem left4 (x0 x1 x2 x3 : FVec Ideal S1x2048 .f32) : out0_4 (F := Ideal) x0 x1 x2 x3 = k0_pay3 (F := Ideal) x1 x2 x3 x0 := by
  unfold out0_4
  frame_out

theorem hout4 (x0 x1 x2 x3 : FVec Ideal S1x2048 .f32) (j : S1x2048.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x2048 .f32) (j : S1x2048.Idx) :
    REF0 W G M V j = Cert.Optimiser.delta (W j) (G j) (M j) (V j) := by
  rfl

theorem left5 (x0 x1 x2 x3 : FVec Ideal S1x2048 .f32) : out0_5 (F := Ideal) x0 x1 x2 x3 = k0_pay1 (F := Ideal) x1 x2 := by
  unfold out0_5
  frame_out

theorem hout5 (x1 x2 : FVec Ideal S1x2048 .f32) (j : S1x2048.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x2048 .f32) (j : S1x2048.Idx) :
    REF1 G M j = Cert.Optimiser.mean (G j) (M j) := by
  rfl

theorem left6 (x0 x1 x2 x3 : FVec Ideal S1x2048 .f32) : out0_6 (F := Ideal) x0 x1 x2 x3 = k0_pay2 (F := Ideal) x1 x3 := by
  unfold out0_6
  frame_out

theorem hout6 (x1 x3 : FVec Ideal S1x2048 .f32) (j : S1x2048.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x2048 .f32) (j : S1x2048.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamRow2048

end
-- ==== Proof.AdamPoolWeightV.lean ====
/- The optimiser's call on arrays of shape S1x4x128x512: what the kernel leaves in its results. -/
module

public import proofs.«01_k».proof.Proof.Gen.AdamPoolWeightIdeal.Frame
public import proofs.«01_k».proof.Proof.Gen.AdamPoolWeightRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamPoolWeight

open Cert.AdamPoolWeightIdeal Cert.AdamPoolWeightIdeal.Gen

variable (m : (ℓ : Loc nD τ sig) → Buf (Elt Ideal) ℓ)

/-- The reference's three terms over the arguments. -/
abbrev REF0 (W G M V : FVec Ideal S1x4x128x512 .f32) : FVec Ideal S512x512 .f32 :=
  shapeCast _ (mulf (broadcastInDim Cert.AdamPoolWeightRefIdeal.S1x4x128x512 ![] Cert.AdamPoolWeightRefIdeal.Gen.bcast_S_S1x4x128x512 (constant Cert.AdamPoolWeightRefIdeal.S_ .f32 0xBA83126F#32)) (addf (Host.divf (Host.divf (addf (mulf (broadcastInDim Cert.AdamPoolWeightRefIdeal.S1x4x128x512 ![] Cert.AdamPoolWeightRefIdeal.Gen.bcast_S_S1x4x128x512 (constant Cert.AdamPoolWeightRefIdeal.S_ .f32 0x3F666666#32)) M) (mulf (broadcastInDim Cert.AdamPoolWeightRefIdeal.S1x4x128x512 ![] Cert.AdamPoolWeightRefIdeal.Gen.bcast_S_S1x4x128x512 (constant Cert.AdamPoolWeightRefIdeal.S_ .f32 0x3DCCCCCD#32)) G)) (broadcastInDim Cert.AdamPoolWeightRefIdeal.S1x4x128x512 ![] Cert.AdamPoolWeightRefIdeal.Gen.bcast_S_S1x4x128x512 (constant Cert.AdamPoolWeightRefIdeal.S_ .f32 0x3F26BD02#32))) (addf (Host.sqrt (Host.divf (addf (mulf (broadcastInDim Cert.AdamPoolWeightRefIdeal.S1x4x128x512 ![] Cert.AdamPoolWeightRefIdeal.Gen.bcast_S_S1x4x128x512 (constant Cert.AdamPoolWeightRefIdeal.S_ .f32 0x3F7FBE77#32)) V) (mulf (broadcastInDim Cert.AdamPoolWeightRefIdeal.S1x4x128x512 ![] Cert.AdamPoolWeightRefIdeal.Gen.bcast_S_S1x4x128x512 (constant Cert.AdamPoolWeightRefIdeal.S_ .f32 0x3A83126F#32)) (mulf G G))) (broadcastInDim Cert.AdamPoolWeightRefIdeal.S1x4x128x512 ![] Cert.AdamPoolWeightRefIdeal.Gen.bcast_S_S1x4x128x512 (constant Cert.AdamPoolWeightRefIdeal.S_ .f32 0x3C231ACC#32)))) (broadcastInDim Cert.AdamPoolWeightRefIdeal.S1x4x128x512 ![] Cert.AdamPoolWeightRefIdeal.Gen.bcast_S_S1x4x128x512 (constant Cert.AdamPoolWeightRefIdeal.S_ .f32 0x322BCC77#32)))) (mulf (broadcastInDim Cert.AdamPoolWeightRefIdeal.S1x4x128x512 ![] Cert.AdamPoolWeightRefIdeal.Gen.bcast_S_S1x4x128x512 (constant Cert.AdamPoolWeightRefIdeal.S_ .f32 0x3C23D70A#32)) W))) Cert.AdamPoolWeightRefIdeal.Gen.shapeCasts_S1x4x128x512_S512x512

abbrev REF1 (G M : FVec Ideal S1x4x128x512 .f32) : FVec Ideal S512x512 .f32 :=
  shapeCast _ (addf (mulf (broadcastInDim Cert.AdamPoolWeightRefIdeal.S1x4x128x512 ![] Cert.AdamPoolWeightRefIdeal.Gen.bcast_S_S1x4x128x512 (constant Cert.AdamPoolWeightRefIdeal.S_ .f32 0x3F666666#32)) M) (mulf (broadcastInDim Cert.AdamPoolWeightRefIdeal.S1x4x128x512 ![] Cert.AdamPoolWeightRefIdeal.Gen.bcast_S_S1x4x128x512 (constant Cert.AdamPoolWeightRefIdeal.S_ .f32 0x3DCCCCCD#32)) G)) Cert.AdamPoolWeightRefIdeal.Gen.shapeCasts_S1x4x128x512_S512x512

abbrev REF2 (G V : FVec Ideal S1x4x128x512 .f32) : FVec Ideal S512x512 .f32 :=
  shapeCast _ (addf (mulf (broadcastInDim Cert.AdamPoolWeightRefIdeal.S1x4x128x512 ![] Cert.AdamPoolWeightRefIdeal.Gen.bcast_S_S1x4x128x512 (constant Cert.AdamPoolWeightRefIdeal.S_ .f32 0x3F7FBE77#32)) V) (mulf (broadcastInDim Cert.AdamPoolWeightRefIdeal.S1x4x128x512 ![] Cert.AdamPoolWeightRefIdeal.Gen.bcast_S_S1x4x128x512 (constant Cert.AdamPoolWeightRefIdeal.S_ .f32 0x3A83126F#32)) (mulf G G))) Cert.AdamPoolWeightRefIdeal.Gen.shapeCasts_S1x4x128x512_S512x512

/-- Input 0 of the region is argument 0, its leading axes made one. -/
theorem in0 (c : Dev nD) : V m c main_v0 = shapeCast S512x512 (m ((c : Thread nD τ).loc main_arg0) : FVec Ideal S1x4x128x512 .f32) shapeCasts_S1x4x128x512_S512x512 := by
  unfold V
  after_results
  try rfl

/-- Input 1 of the region is argument 1, its leading axes made one. -/
theorem in1 (c : Dev nD) : V m c main_v1 = shapeCast S512x512 (m ((c : Thread nD τ).loc main_arg1) : FVec Ideal S1x4x128x512 .f32) shapeCasts_S1x4x128x512_S512x512 := by
  unfold V
  after_results
  try rfl

/-- Input 2 of the region is argument 2, its leading axes made one. -/
theorem in2 (c : Dev nD) : V m c main_v2 = shapeCast S512x512 (m ((c : Thread nD τ).loc main_arg2) : FVec Ideal S1x4x128x512 .f32) shapeCasts_S1x4x128x512_S512x512 := by
  unfold V
  after_results
  try rfl

/-- Input 3 of the region is argument 3, its leading axes made one. -/
theorem in3 (c : Dev nD) : V m c main_v3 = shapeCast S512x512 (m ((c : Thread nD τ).loc main_arg3) : FVec Ideal S1x4x128x512 .f32) shapeCasts_S1x4x128x512_S512x512 := by
  unfold V
  after_results
  try rfl

theorem left4 (x0 x1 x2 x3 : FVec Ideal S512x512 .f32) : out0_4 (F := Ideal) x0 x1 x2 x3 = k0_pay4 (F := Ideal) x1 x2 x3 x0 := by
  unfold out0_4
  frame_out

theorem hout4 (x0 x1 x2 x3 : FVec Ideal S512x512 .f32) (j : S512x512.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x4x128x512 .f32) (j : S512x512.Idx) :
    REF0 W G M V j = Cert.Optimiser.delta (shapeCast S512x512 W shapeCasts_S1x4x128x512_S512x512 j) (shapeCast S512x512 G shapeCasts_S1x4x128x512_S512x512 j) (shapeCast S512x512 M shapeCasts_S1x4x128x512_S512x512 j) (shapeCast S512x512 V shapeCasts_S1x4x128x512_S512x512 j) := by
  rfl

theorem left5 (x0 x1 x2 x3 : FVec Ideal S512x512 .f32) : out0_5 (F := Ideal) x0 x1 x2 x3 = k0_pay2 (F := Ideal) x1 x2 := by
  unfold out0_5
  frame_out

theorem hout5 (x1 x2 : FVec Ideal S512x512 .f32) (j : S512x512.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x4x128x512 .f32) (j : S512x512.Idx) :
    REF1 G M j = Cert.Optimiser.mean (shapeCast S512x512 G shapeCasts_S1x4x128x512_S512x512 j) (shapeCast S512x512 M shapeCasts_S1x4x128x512_S512x512 j) := by
  rfl

theorem left6 (x0 x1 x2 x3 : FVec Ideal S512x512 .f32) : out0_6 (F := Ideal) x0 x1 x2 x3 = k0_pay3 (F := Ideal) x1 x3 := by
  unfold out0_6
  frame_out

theorem hout6 (x1 x3 : FVec Ideal S512x512 .f32) (j : S512x512.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x4x128x512 .f32) (j : S512x512.Idx) :
    REF2 G V j = Cert.Optimiser.square (shapeCast S512x512 G shapeCasts_S1x4x128x512_S512x512 j) (shapeCast S512x512 V shapeCasts_S1x4x128x512_S512x512 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamPoolWeight

end
-- ==== Proof.AdamRow512V.lean ====
/- The optimiser's call on arrays of shape S1x512: what the kernel leaves in its results. -/
module

public import proofs.«01_k».proof.Proof.Gen.AdamRow512Ideal.Frame
public import proofs.«01_k».proof.Proof.Gen.AdamRow512RefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamRow512

open Cert.AdamRow512Ideal Cert.AdamRow512Ideal.Gen

variable (m : (ℓ : Loc nD τ sig) → Buf (Elt Ideal) ℓ)

/-- The reference's three terms over the arguments. -/
abbrev REF0 (W G M V : FVec Ideal S1x512 .f32) : FVec Ideal S1x512 .f32 :=
  mulf (broadcastInDim Cert.AdamRow512RefIdeal.S1x512 ![] Cert.AdamRow512RefIdeal.Gen.bcast_S_S1x512 (constant Cert.AdamRow512RefIdeal.S_ .f32 0xBA83126F#32)) (addf (Host.divf (Host.divf (addf (mulf (broadcastInDim Cert.AdamRow512RefIdeal.S1x512 ![] Cert.AdamRow512RefIdeal.Gen.bcast_S_S1x512 (constant Cert.AdamRow512RefIdeal.S_ .f32 0x3F666666#32)) M) (mulf (broadcastInDim Cert.AdamRow512RefIdeal.S1x512 ![] Cert.AdamRow512RefIdeal.Gen.bcast_S_S1x512 (constant Cert.AdamRow512RefIdeal.S_ .f32 0x3DCCCCCD#32)) G)) (broadcastInDim Cert.AdamRow512RefIdeal.S1x512 ![] Cert.AdamRow512RefIdeal.Gen.bcast_S_S1x512 (constant Cert.AdamRow512RefIdeal.S_ .f32 0x3F26BD02#32))) (addf (Host.sqrt (Host.divf (addf (mulf (broadcastInDim Cert.AdamRow512RefIdeal.S1x512 ![] Cert.AdamRow512RefIdeal.Gen.bcast_S_S1x512 (constant Cert.AdamRow512RefIdeal.S_ .f32 0x3F7FBE77#32)) V) (mulf (broadcastInDim Cert.AdamRow512RefIdeal.S1x512 ![] Cert.AdamRow512RefIdeal.Gen.bcast_S_S1x512 (constant Cert.AdamRow512RefIdeal.S_ .f32 0x3A83126F#32)) (mulf G G))) (broadcastInDim Cert.AdamRow512RefIdeal.S1x512 ![] Cert.AdamRow512RefIdeal.Gen.bcast_S_S1x512 (constant Cert.AdamRow512RefIdeal.S_ .f32 0x3C231ACC#32)))) (broadcastInDim Cert.AdamRow512RefIdeal.S1x512 ![] Cert.AdamRow512RefIdeal.Gen.bcast_S_S1x512 (constant Cert.AdamRow512RefIdeal.S_ .f32 0x322BCC77#32)))) (mulf (broadcastInDim Cert.AdamRow512RefIdeal.S1x512 ![] Cert.AdamRow512RefIdeal.Gen.bcast_S_S1x512 (constant Cert.AdamRow512RefIdeal.S_ .f32 0x3C23D70A#32)) W))

abbrev REF1 (G M : FVec Ideal S1x512 .f32) : FVec Ideal S1x512 .f32 :=
  addf (mulf (broadcastInDim Cert.AdamRow512RefIdeal.S1x512 ![] Cert.AdamRow512RefIdeal.Gen.bcast_S_S1x512 (constant Cert.AdamRow512RefIdeal.S_ .f32 0x3F666666#32)) M) (mulf (broadcastInDim Cert.AdamRow512RefIdeal.S1x512 ![] Cert.AdamRow512RefIdeal.Gen.bcast_S_S1x512 (constant Cert.AdamRow512RefIdeal.S_ .f32 0x3DCCCCCD#32)) G)

abbrev REF2 (G V : FVec Ideal S1x512 .f32) : FVec Ideal S1x512 .f32 :=
  addf (mulf (broadcastInDim Cert.AdamRow512RefIdeal.S1x512 ![] Cert.AdamRow512RefIdeal.Gen.bcast_S_S1x512 (constant Cert.AdamRow512RefIdeal.S_ .f32 0x3F7FBE77#32)) V) (mulf (broadcastInDim Cert.AdamRow512RefIdeal.S1x512 ![] Cert.AdamRow512RefIdeal.Gen.bcast_S_S1x512 (constant Cert.AdamRow512RefIdeal.S_ .f32 0x3A83126F#32)) (mulf G G))

theorem left4 (x0 x1 x2 x3 : FVec Ideal S1x512 .f32) : out0_4 (F := Ideal) x0 x1 x2 x3 = k0_pay3 (F := Ideal) x1 x2 x3 x0 := by
  unfold out0_4
  frame_out

theorem hout4 (x0 x1 x2 x3 : FVec Ideal S1x512 .f32) (j : S1x512.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x512 .f32) (j : S1x512.Idx) :
    REF0 W G M V j = Cert.Optimiser.delta (W j) (G j) (M j) (V j) := by
  rfl

theorem left5 (x0 x1 x2 x3 : FVec Ideal S1x512 .f32) : out0_5 (F := Ideal) x0 x1 x2 x3 = k0_pay1 (F := Ideal) x1 x2 := by
  unfold out0_5
  frame_out

theorem hout5 (x1 x2 : FVec Ideal S1x512 .f32) (j : S1x512.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x512 .f32) (j : S1x512.Idx) :
    REF1 G M j = Cert.Optimiser.mean (G j) (M j) := by
  rfl

theorem left6 (x0 x1 x2 x3 : FVec Ideal S1x512 .f32) : out0_6 (F := Ideal) x0 x1 x2 x3 = k0_pay2 (F := Ideal) x1 x3 := by
  unfold out0_6
  frame_out

theorem hout6 (x1 x3 : FVec Ideal S1x512 .f32) (j : S1x512.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x512 .f32) (j : S1x512.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamRow512

end
-- ==== Proof.AdamGdnInV.lean ====
/- The optimiser's call on arrays of shape S1x2048x3088: what the kernel leaves in its results. -/
module

public import proofs.«01_k».proof.Proof.Gen.AdamGdnInIdeal.Frame
public import proofs.«01_k».proof.Proof.Gen.AdamGdnInRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamGdnIn

open Cert.AdamGdnInIdeal Cert.AdamGdnInIdeal.Gen

variable (m : (ℓ : Loc nD τ sig) → Buf (Elt Ideal) ℓ)

/-- The reference's three terms over the arguments. -/
abbrev REF0 (W G M V : FVec Ideal S1x2048x3088 .f32) : FVec Ideal S2048x3088 .f32 :=
  shapeCast _ (mulf (broadcastInDim Cert.AdamGdnInRefIdeal.S1x2048x3088 ![] Cert.AdamGdnInRefIdeal.Gen.bcast_S_S1x2048x3088 (constant Cert.AdamGdnInRefIdeal.S_ .f32 0xBA83126F#32)) (addf (Host.divf (Host.divf (addf (mulf (broadcastInDim Cert.AdamGdnInRefIdeal.S1x2048x3088 ![] Cert.AdamGdnInRefIdeal.Gen.bcast_S_S1x2048x3088 (constant Cert.AdamGdnInRefIdeal.S_ .f32 0x3F666666#32)) M) (mulf (broadcastInDim Cert.AdamGdnInRefIdeal.S1x2048x3088 ![] Cert.AdamGdnInRefIdeal.Gen.bcast_S_S1x2048x3088 (constant Cert.AdamGdnInRefIdeal.S_ .f32 0x3DCCCCCD#32)) G)) (broadcastInDim Cert.AdamGdnInRefIdeal.S1x2048x3088 ![] Cert.AdamGdnInRefIdeal.Gen.bcast_S_S1x2048x3088 (constant Cert.AdamGdnInRefIdeal.S_ .f32 0x3F26BD02#32))) (addf (Host.sqrt (Host.divf (addf (mulf (broadcastInDim Cert.AdamGdnInRefIdeal.S1x2048x3088 ![] Cert.AdamGdnInRefIdeal.Gen.bcast_S_S1x2048x3088 (constant Cert.AdamGdnInRefIdeal.S_ .f32 0x3F7FBE77#32)) V) (mulf (broadcastInDim Cert.AdamGdnInRefIdeal.S1x2048x3088 ![] Cert.AdamGdnInRefIdeal.Gen.bcast_S_S1x2048x3088 (constant Cert.AdamGdnInRefIdeal.S_ .f32 0x3A83126F#32)) (mulf G G))) (broadcastInDim Cert.AdamGdnInRefIdeal.S1x2048x3088 ![] Cert.AdamGdnInRefIdeal.Gen.bcast_S_S1x2048x3088 (constant Cert.AdamGdnInRefIdeal.S_ .f32 0x3C231ACC#32)))) (broadcastInDim Cert.AdamGdnInRefIdeal.S1x2048x3088 ![] Cert.AdamGdnInRefIdeal.Gen.bcast_S_S1x2048x3088 (constant Cert.AdamGdnInRefIdeal.S_ .f32 0x322BCC77#32)))) (mulf (broadcastInDim Cert.AdamGdnInRefIdeal.S1x2048x3088 ![] Cert.AdamGdnInRefIdeal.Gen.bcast_S_S1x2048x3088 (constant Cert.AdamGdnInRefIdeal.S_ .f32 0x3C23D70A#32)) W))) Cert.AdamGdnInRefIdeal.Gen.shapeCasts_S1x2048x3088_S2048x3088

abbrev REF1 (G M : FVec Ideal S1x2048x3088 .f32) : FVec Ideal S2048x3088 .f32 :=
  shapeCast _ (addf (mulf (broadcastInDim Cert.AdamGdnInRefIdeal.S1x2048x3088 ![] Cert.AdamGdnInRefIdeal.Gen.bcast_S_S1x2048x3088 (constant Cert.AdamGdnInRefIdeal.S_ .f32 0x3F666666#32)) M) (mulf (broadcastInDim Cert.AdamGdnInRefIdeal.S1x2048x3088 ![] Cert.AdamGdnInRefIdeal.Gen.bcast_S_S1x2048x3088 (constant Cert.AdamGdnInRefIdeal.S_ .f32 0x3DCCCCCD#32)) G)) Cert.AdamGdnInRefIdeal.Gen.shapeCasts_S1x2048x3088_S2048x3088

abbrev REF2 (G V : FVec Ideal S1x2048x3088 .f32) : FVec Ideal S2048x3088 .f32 :=
  shapeCast _ (addf (mulf (broadcastInDim Cert.AdamGdnInRefIdeal.S1x2048x3088 ![] Cert.AdamGdnInRefIdeal.Gen.bcast_S_S1x2048x3088 (constant Cert.AdamGdnInRefIdeal.S_ .f32 0x3F7FBE77#32)) V) (mulf (broadcastInDim Cert.AdamGdnInRefIdeal.S1x2048x3088 ![] Cert.AdamGdnInRefIdeal.Gen.bcast_S_S1x2048x3088 (constant Cert.AdamGdnInRefIdeal.S_ .f32 0x3A83126F#32)) (mulf G G))) Cert.AdamGdnInRefIdeal.Gen.shapeCasts_S1x2048x3088_S2048x3088

/-- Input 0 of the region is argument 0, its leading axes made one. -/
theorem in0 (c : Dev nD) : V m c main_v0 = shapeCast S2048x3088 (m ((c : Thread nD τ).loc main_arg0) : FVec Ideal S1x2048x3088 .f32) shapeCasts_S1x2048x3088_S2048x3088 := by
  unfold V
  after_results
  try rfl

/-- Input 1 of the region is argument 1, its leading axes made one. -/
theorem in1 (c : Dev nD) : V m c main_v1 = shapeCast S2048x3088 (m ((c : Thread nD τ).loc main_arg1) : FVec Ideal S1x2048x3088 .f32) shapeCasts_S1x2048x3088_S2048x3088 := by
  unfold V
  after_results
  try rfl

/-- Input 2 of the region is argument 2, its leading axes made one. -/
theorem in2 (c : Dev nD) : V m c main_v2 = shapeCast S2048x3088 (m ((c : Thread nD τ).loc main_arg2) : FVec Ideal S1x2048x3088 .f32) shapeCasts_S1x2048x3088_S2048x3088 := by
  unfold V
  after_results
  try rfl

/-- Input 3 of the region is argument 3, its leading axes made one. -/
theorem in3 (c : Dev nD) : V m c main_v3 = shapeCast S2048x3088 (m ((c : Thread nD τ).loc main_arg3) : FVec Ideal S1x2048x3088 .f32) shapeCasts_S1x2048x3088_S2048x3088 := by
  unfold V
  after_results
  try rfl

theorem left4 (x0 x1 x2 x3 : FVec Ideal S64x3088 .f32) : out0_4 (F := Ideal) x0 x1 x2 x3 = k0_pay4 (F := Ideal) x1 x2 x3 x0 := by
  unfold out0_4
  frame_out

theorem hout4 (x0 x1 x2 x3 : FVec Ideal S64x3088 .f32) (j : S64x3088.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x2048x3088 .f32) (j : S2048x3088.Idx) :
    REF0 W G M V j = Cert.Optimiser.delta (shapeCast S2048x3088 W shapeCasts_S1x2048x3088_S2048x3088 j) (shapeCast S2048x3088 G shapeCasts_S1x2048x3088_S2048x3088 j) (shapeCast S2048x3088 M shapeCasts_S1x2048x3088_S2048x3088 j) (shapeCast S2048x3088 V shapeCasts_S1x2048x3088_S2048x3088 j) := by
  rfl

theorem left5 (x0 x1 x2 x3 : FVec Ideal S64x3088 .f32) : out0_5 (F := Ideal) x0 x1 x2 x3 = k0_pay2 (F := Ideal) x1 x2 := by
  unfold out0_5
  frame_out

theorem hout5 (x1 x2 : FVec Ideal S64x3088 .f32) (j : S64x3088.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x2048x3088 .f32) (j : S2048x3088.Idx) :
    REF1 G M j = Cert.Optimiser.mean (shapeCast S2048x3088 G shapeCasts_S1x2048x3088_S2048x3088 j) (shapeCast S2048x3088 M shapeCasts_S1x2048x3088_S2048x3088 j) := by
  rfl

theorem left6 (x0 x1 x2 x3 : FVec Ideal S64x3088 .f32) : out0_6 (F := Ideal) x0 x1 x2 x3 = k0_pay3 (F := Ideal) x1 x3 := by
  unfold out0_6
  frame_out

theorem hout6 (x1 x3 : FVec Ideal S64x3088 .f32) (j : S64x3088.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x2048x3088 .f32) (j : S2048x3088.Idx) :
    REF2 G V j = Cert.Optimiser.square (shapeCast S2048x3088 G shapeCasts_S1x2048x3088_S2048x3088 j) (shapeCast S2048x3088 V shapeCasts_S1x2048x3088_S2048x3088 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamGdnIn

end
-- ==== Proof.AdamGdnConvV.lean ====
/- The optimiser's call on arrays of shape S1x4x2048: what the kernel leaves in its results. -/
module

public import proofs.«01_k».proof.Proof.Gen.AdamGdnConvIdeal.Frame
public import proofs.«01_k».proof.Proof.Gen.AdamGdnConvRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamGdnConv

open Cert.AdamGdnConvIdeal Cert.AdamGdnConvIdeal.Gen

variable (m : (ℓ : Loc nD τ sig) → Buf (Elt Ideal) ℓ)

/-- The reference's three terms over the arguments. -/
abbrev REF0 (W G M V : FVec Ideal S1x4x2048 .f32) : FVec Ideal S4x2048 .f32 :=
  shapeCast _ (mulf (broadcastInDim Cert.AdamGdnConvRefIdeal.S1x4x2048 ![] Cert.AdamGdnConvRefIdeal.Gen.bcast_S_S1x4x2048 (constant Cert.AdamGdnConvRefIdeal.S_ .f32 0xBA83126F#32)) (addf (Host.divf (Host.divf (addf (mulf (broadcastInDim Cert.AdamGdnConvRefIdeal.S1x4x2048 ![] Cert.AdamGdnConvRefIdeal.Gen.bcast_S_S1x4x2048 (constant Cert.AdamGdnConvRefIdeal.S_ .f32 0x3F666666#32)) M) (mulf (broadcastInDim Cert.AdamGdnConvRefIdeal.S1x4x2048 ![] Cert.AdamGdnConvRefIdeal.Gen.bcast_S_S1x4x2048 (constant Cert.AdamGdnConvRefIdeal.S_ .f32 0x3DCCCCCD#32)) G)) (broadcastInDim Cert.AdamGdnConvRefIdeal.S1x4x2048 ![] Cert.AdamGdnConvRefIdeal.Gen.bcast_S_S1x4x2048 (constant Cert.AdamGdnConvRefIdeal.S_ .f32 0x3F26BD02#32))) (addf (Host.sqrt (Host.divf (addf (mulf (broadcastInDim Cert.AdamGdnConvRefIdeal.S1x4x2048 ![] Cert.AdamGdnConvRefIdeal.Gen.bcast_S_S1x4x2048 (constant Cert.AdamGdnConvRefIdeal.S_ .f32 0x3F7FBE77#32)) V) (mulf (broadcastInDim Cert.AdamGdnConvRefIdeal.S1x4x2048 ![] Cert.AdamGdnConvRefIdeal.Gen.bcast_S_S1x4x2048 (constant Cert.AdamGdnConvRefIdeal.S_ .f32 0x3A83126F#32)) (mulf G G))) (broadcastInDim Cert.AdamGdnConvRefIdeal.S1x4x2048 ![] Cert.AdamGdnConvRefIdeal.Gen.bcast_S_S1x4x2048 (constant Cert.AdamGdnConvRefIdeal.S_ .f32 0x3C231ACC#32)))) (broadcastInDim Cert.AdamGdnConvRefIdeal.S1x4x2048 ![] Cert.AdamGdnConvRefIdeal.Gen.bcast_S_S1x4x2048 (constant Cert.AdamGdnConvRefIdeal.S_ .f32 0x322BCC77#32)))) (mulf (broadcastInDim Cert.AdamGdnConvRefIdeal.S1x4x2048 ![] Cert.AdamGdnConvRefIdeal.Gen.bcast_S_S1x4x2048 (constant Cert.AdamGdnConvRefIdeal.S_ .f32 0x3C23D70A#32)) W))) Cert.AdamGdnConvRefIdeal.Gen.shapeCasts_S1x4x2048_S4x2048

abbrev REF1 (G M : FVec Ideal S1x4x2048 .f32) : FVec Ideal S4x2048 .f32 :=
  shapeCast _ (addf (mulf (broadcastInDim Cert.AdamGdnConvRefIdeal.S1x4x2048 ![] Cert.AdamGdnConvRefIdeal.Gen.bcast_S_S1x4x2048 (constant Cert.AdamGdnConvRefIdeal.S_ .f32 0x3F666666#32)) M) (mulf (broadcastInDim Cert.AdamGdnConvRefIdeal.S1x4x2048 ![] Cert.AdamGdnConvRefIdeal.Gen.bcast_S_S1x4x2048 (constant Cert.AdamGdnConvRefIdeal.S_ .f32 0x3DCCCCCD#32)) G)) Cert.AdamGdnConvRefIdeal.Gen.shapeCasts_S1x4x2048_S4x2048

abbrev REF2 (G V : FVec Ideal S1x4x2048 .f32) : FVec Ideal S4x2048 .f32 :=
  shapeCast _ (addf (mulf (broadcastInDim Cert.AdamGdnConvRefIdeal.S1x4x2048 ![] Cert.AdamGdnConvRefIdeal.Gen.bcast_S_S1x4x2048 (constant Cert.AdamGdnConvRefIdeal.S_ .f32 0x3F7FBE77#32)) V) (mulf (broadcastInDim Cert.AdamGdnConvRefIdeal.S1x4x2048 ![] Cert.AdamGdnConvRefIdeal.Gen.bcast_S_S1x4x2048 (constant Cert.AdamGdnConvRefIdeal.S_ .f32 0x3A83126F#32)) (mulf G G))) Cert.AdamGdnConvRefIdeal.Gen.shapeCasts_S1x4x2048_S4x2048

/-- Input 0 of the region is argument 0, its leading axes made one. -/
theorem in0 (c : Dev nD) : V m c main_v0 = shapeCast S4x2048 (m ((c : Thread nD τ).loc main_arg0) : FVec Ideal S1x4x2048 .f32) shapeCasts_S1x4x2048_S4x2048 := by
  unfold V
  after_results
  try rfl

/-- Input 1 of the region is argument 1, its leading axes made one. -/
theorem in1 (c : Dev nD) : V m c main_v1 = shapeCast S4x2048 (m ((c : Thread nD τ).loc main_arg1) : FVec Ideal S1x4x2048 .f32) shapeCasts_S1x4x2048_S4x2048 := by
  unfold V
  after_results
  try rfl

/-- Input 2 of the region is argument 2, its leading axes made one. -/
theorem in2 (c : Dev nD) : V m c main_v2 = shapeCast S4x2048 (m ((c : Thread nD τ).loc main_arg2) : FVec Ideal S1x4x2048 .f32) shapeCasts_S1x4x2048_S4x2048 := by
  unfold V
  after_results
  try rfl

/-- Input 3 of the region is argument 3, its leading axes made one. -/
theorem in3 (c : Dev nD) : V m c main_v3 = shapeCast S4x2048 (m ((c : Thread nD τ).loc main_arg3) : FVec Ideal S1x4x2048 .f32) shapeCasts_S1x4x2048_S4x2048 := by
  unfold V
  after_results
  try rfl

theorem left4 (x0 x1 x2 x3 : FVec Ideal S4x2048 .f32) : out0_4 (F := Ideal) x0 x1 x2 x3 = k0_pay4 (F := Ideal) x1 x2 x3 x0 := by
  unfold out0_4
  frame_out

theorem hout4 (x0 x1 x2 x3 : FVec Ideal S4x2048 .f32) (j : S4x2048.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x4x2048 .f32) (j : S4x2048.Idx) :
    REF0 W G M V j = Cert.Optimiser.delta (shapeCast S4x2048 W shapeCasts_S1x4x2048_S4x2048 j) (shapeCast S4x2048 G shapeCasts_S1x4x2048_S4x2048 j) (shapeCast S4x2048 M shapeCasts_S1x4x2048_S4x2048 j) (shapeCast S4x2048 V shapeCasts_S1x4x2048_S4x2048 j) := by
  rfl

theorem left5 (x0 x1 x2 x3 : FVec Ideal S4x2048 .f32) : out0_5 (F := Ideal) x0 x1 x2 x3 = k0_pay2 (F := Ideal) x1 x2 := by
  unfold out0_5
  frame_out

theorem hout5 (x1 x2 : FVec Ideal S4x2048 .f32) (j : S4x2048.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x4x2048 .f32) (j : S4x2048.Idx) :
    REF1 G M j = Cert.Optimiser.mean (shapeCast S4x2048 G shapeCasts_S1x4x2048_S4x2048 j) (shapeCast S4x2048 M shapeCasts_S1x4x2048_S4x2048 j) := by
  rfl

theorem left6 (x0 x1 x2 x3 : FVec Ideal S4x2048 .f32) : out0_6 (F := Ideal) x0 x1 x2 x3 = k0_pay3 (F := Ideal) x1 x3 := by
  unfold out0_6
  frame_out

theorem hout6 (x1 x3 : FVec Ideal S4x2048 .f32) (j : S4x2048.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x4x2048 .f32) (j : S4x2048.Idx) :
    REF2 G V j = Cert.Optimiser.square (shapeCast S4x2048 G shapeCasts_S1x4x2048_S4x2048 j) (shapeCast S4x2048 V shapeCasts_S1x4x2048_S4x2048 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamGdnConv

end
-- ==== Proof.AdamRow32V.lean ====
/- The optimiser's call on arrays of shape S1x32: what the kernel leaves in its results. -/
module

public import proofs.«01_k».proof.Proof.Gen.AdamRow32Ideal.Frame
public import proofs.«01_k».proof.Proof.Gen.AdamRow32RefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamRow32

open Cert.AdamRow32Ideal Cert.AdamRow32Ideal.Gen

variable (m : (ℓ : Loc nD τ sig) → Buf (Elt Ideal) ℓ)

/-- The reference's three terms over the arguments. -/
abbrev REF0 (W G M V : FVec Ideal S1x32 .f32) : FVec Ideal S1x32 .f32 :=
  mulf (broadcastInDim Cert.AdamRow32RefIdeal.S1x32 ![] Cert.AdamRow32RefIdeal.Gen.bcast_S_S1x32 (constant Cert.AdamRow32RefIdeal.S_ .f32 0xBA83126F#32)) (addf (Host.divf (Host.divf (addf (mulf (broadcastInDim Cert.AdamRow32RefIdeal.S1x32 ![] Cert.AdamRow32RefIdeal.Gen.bcast_S_S1x32 (constant Cert.AdamRow32RefIdeal.S_ .f32 0x3F666666#32)) M) (mulf (broadcastInDim Cert.AdamRow32RefIdeal.S1x32 ![] Cert.AdamRow32RefIdeal.Gen.bcast_S_S1x32 (constant Cert.AdamRow32RefIdeal.S_ .f32 0x3DCCCCCD#32)) G)) (broadcastInDim Cert.AdamRow32RefIdeal.S1x32 ![] Cert.AdamRow32RefIdeal.Gen.bcast_S_S1x32 (constant Cert.AdamRow32RefIdeal.S_ .f32 0x3F26BD02#32))) (addf (Host.sqrt (Host.divf (addf (mulf (broadcastInDim Cert.AdamRow32RefIdeal.S1x32 ![] Cert.AdamRow32RefIdeal.Gen.bcast_S_S1x32 (constant Cert.AdamRow32RefIdeal.S_ .f32 0x3F7FBE77#32)) V) (mulf (broadcastInDim Cert.AdamRow32RefIdeal.S1x32 ![] Cert.AdamRow32RefIdeal.Gen.bcast_S_S1x32 (constant Cert.AdamRow32RefIdeal.S_ .f32 0x3A83126F#32)) (mulf G G))) (broadcastInDim Cert.AdamRow32RefIdeal.S1x32 ![] Cert.AdamRow32RefIdeal.Gen.bcast_S_S1x32 (constant Cert.AdamRow32RefIdeal.S_ .f32 0x3C231ACC#32)))) (broadcastInDim Cert.AdamRow32RefIdeal.S1x32 ![] Cert.AdamRow32RefIdeal.Gen.bcast_S_S1x32 (constant Cert.AdamRow32RefIdeal.S_ .f32 0x322BCC77#32)))) (mulf (broadcastInDim Cert.AdamRow32RefIdeal.S1x32 ![] Cert.AdamRow32RefIdeal.Gen.bcast_S_S1x32 (constant Cert.AdamRow32RefIdeal.S_ .f32 0x3C23D70A#32)) W))

abbrev REF1 (G M : FVec Ideal S1x32 .f32) : FVec Ideal S1x32 .f32 :=
  addf (mulf (broadcastInDim Cert.AdamRow32RefIdeal.S1x32 ![] Cert.AdamRow32RefIdeal.Gen.bcast_S_S1x32 (constant Cert.AdamRow32RefIdeal.S_ .f32 0x3F666666#32)) M) (mulf (broadcastInDim Cert.AdamRow32RefIdeal.S1x32 ![] Cert.AdamRow32RefIdeal.Gen.bcast_S_S1x32 (constant Cert.AdamRow32RefIdeal.S_ .f32 0x3DCCCCCD#32)) G)

abbrev REF2 (G V : FVec Ideal S1x32 .f32) : FVec Ideal S1x32 .f32 :=
  addf (mulf (broadcastInDim Cert.AdamRow32RefIdeal.S1x32 ![] Cert.AdamRow32RefIdeal.Gen.bcast_S_S1x32 (constant Cert.AdamRow32RefIdeal.S_ .f32 0x3F7FBE77#32)) V) (mulf (broadcastInDim Cert.AdamRow32RefIdeal.S1x32 ![] Cert.AdamRow32RefIdeal.Gen.bcast_S_S1x32 (constant Cert.AdamRow32RefIdeal.S_ .f32 0x3A83126F#32)) (mulf G G))

theorem left4 (x0 x1 x2 x3 : FVec Ideal S1x32 .f32) : out0_4 (F := Ideal) x0 x1 x2 x3 = k0_pay3 (F := Ideal) x1 x2 x3 x0 := by
  unfold out0_4
  frame_out

theorem hout4 (x0 x1 x2 x3 : FVec Ideal S1x32 .f32) (j : S1x32.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x32 .f32) (j : S1x32.Idx) :
    REF0 W G M V j = Cert.Optimiser.delta (W j) (G j) (M j) (V j) := by
  rfl

theorem left5 (x0 x1 x2 x3 : FVec Ideal S1x32 .f32) : out0_5 (F := Ideal) x0 x1 x2 x3 = k0_pay1 (F := Ideal) x1 x2 := by
  unfold out0_5
  frame_out

theorem hout5 (x1 x2 : FVec Ideal S1x32 .f32) (j : S1x32.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x32 .f32) (j : S1x32.Idx) :
    REF1 G M j = Cert.Optimiser.mean (G j) (M j) := by
  rfl

theorem left6 (x0 x1 x2 x3 : FVec Ideal S1x32 .f32) : out0_6 (F := Ideal) x0 x1 x2 x3 = k0_pay2 (F := Ideal) x1 x3 := by
  unfold out0_6
  frame_out

theorem hout6 (x1 x3 : FVec Ideal S1x32 .f32) (j : S1x32.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x32 .f32) (j : S1x32.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamRow32

end
-- ==== Proof.AdamRow128V.lean ====
/- The optimiser's call on arrays of shape S1x128: what the kernel leaves in its results. -/
module

public import proofs.«01_k».proof.Proof.Gen.AdamRow128Ideal.Frame
public import proofs.«01_k».proof.Proof.Gen.AdamRow128RefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamRow128

open Cert.AdamRow128Ideal Cert.AdamRow128Ideal.Gen

variable (m : (ℓ : Loc nD τ sig) → Buf (Elt Ideal) ℓ)

/-- The reference's three terms over the arguments. -/
abbrev REF0 (W G M V : FVec Ideal S1x128 .f32) : FVec Ideal S1x128 .f32 :=
  mulf (broadcastInDim Cert.AdamRow128RefIdeal.S1x128 ![] Cert.AdamRow128RefIdeal.Gen.bcast_S_S1x128 (constant Cert.AdamRow128RefIdeal.S_ .f32 0xBA83126F#32)) (addf (Host.divf (Host.divf (addf (mulf (broadcastInDim Cert.AdamRow128RefIdeal.S1x128 ![] Cert.AdamRow128RefIdeal.Gen.bcast_S_S1x128 (constant Cert.AdamRow128RefIdeal.S_ .f32 0x3F666666#32)) M) (mulf (broadcastInDim Cert.AdamRow128RefIdeal.S1x128 ![] Cert.AdamRow128RefIdeal.Gen.bcast_S_S1x128 (constant Cert.AdamRow128RefIdeal.S_ .f32 0x3DCCCCCD#32)) G)) (broadcastInDim Cert.AdamRow128RefIdeal.S1x128 ![] Cert.AdamRow128RefIdeal.Gen.bcast_S_S1x128 (constant Cert.AdamRow128RefIdeal.S_ .f32 0x3F26BD02#32))) (addf (Host.sqrt (Host.divf (addf (mulf (broadcastInDim Cert.AdamRow128RefIdeal.S1x128 ![] Cert.AdamRow128RefIdeal.Gen.bcast_S_S1x128 (constant Cert.AdamRow128RefIdeal.S_ .f32 0x3F7FBE77#32)) V) (mulf (broadcastInDim Cert.AdamRow128RefIdeal.S1x128 ![] Cert.AdamRow128RefIdeal.Gen.bcast_S_S1x128 (constant Cert.AdamRow128RefIdeal.S_ .f32 0x3A83126F#32)) (mulf G G))) (broadcastInDim Cert.AdamRow128RefIdeal.S1x128 ![] Cert.AdamRow128RefIdeal.Gen.bcast_S_S1x128 (constant Cert.AdamRow128RefIdeal.S_ .f32 0x3C231ACC#32)))) (broadcastInDim Cert.AdamRow128RefIdeal.S1x128 ![] Cert.AdamRow128RefIdeal.Gen.bcast_S_S1x128 (constant Cert.AdamRow128RefIdeal.S_ .f32 0x322BCC77#32)))) (mulf (broadcastInDim Cert.AdamRow128RefIdeal.S1x128 ![] Cert.AdamRow128RefIdeal.Gen.bcast_S_S1x128 (constant Cert.AdamRow128RefIdeal.S_ .f32 0x3C23D70A#32)) W))

abbrev REF1 (G M : FVec Ideal S1x128 .f32) : FVec Ideal S1x128 .f32 :=
  addf (mulf (broadcastInDim Cert.AdamRow128RefIdeal.S1x128 ![] Cert.AdamRow128RefIdeal.Gen.bcast_S_S1x128 (constant Cert.AdamRow128RefIdeal.S_ .f32 0x3F666666#32)) M) (mulf (broadcastInDim Cert.AdamRow128RefIdeal.S1x128 ![] Cert.AdamRow128RefIdeal.Gen.bcast_S_S1x128 (constant Cert.AdamRow128RefIdeal.S_ .f32 0x3DCCCCCD#32)) G)

abbrev REF2 (G V : FVec Ideal S1x128 .f32) : FVec Ideal S1x128 .f32 :=
  addf (mulf (broadcastInDim Cert.AdamRow128RefIdeal.S1x128 ![] Cert.AdamRow128RefIdeal.Gen.bcast_S_S1x128 (constant Cert.AdamRow128RefIdeal.S_ .f32 0x3F7FBE77#32)) V) (mulf (broadcastInDim Cert.AdamRow128RefIdeal.S1x128 ![] Cert.AdamRow128RefIdeal.Gen.bcast_S_S1x128 (constant Cert.AdamRow128RefIdeal.S_ .f32 0x3A83126F#32)) (mulf G G))

theorem left4 (x0 x1 x2 x3 : FVec Ideal S1x128 .f32) : out0_4 (F := Ideal) x0 x1 x2 x3 = k0_pay3 (F := Ideal) x1 x2 x3 x0 := by
  unfold out0_4
  frame_out

theorem hout4 (x0 x1 x2 x3 : FVec Ideal S1x128 .f32) (j : S1x128.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x128 .f32) (j : S1x128.Idx) :
    REF0 W G M V j = Cert.Optimiser.delta (W j) (G j) (M j) (V j) := by
  rfl

theorem left5 (x0 x1 x2 x3 : FVec Ideal S1x128 .f32) : out0_5 (F := Ideal) x0 x1 x2 x3 = k0_pay1 (F := Ideal) x1 x2 := by
  unfold out0_5
  frame_out

theorem hout5 (x1 x2 : FVec Ideal S1x128 .f32) (j : S1x128.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x128 .f32) (j : S1x128.Idx) :
    REF1 G M j = Cert.Optimiser.mean (G j) (M j) := by
  rfl

theorem left6 (x0 x1 x2 x3 : FVec Ideal S1x128 .f32) : out0_6 (F := Ideal) x0 x1 x2 x3 = k0_pay2 (F := Ideal) x1 x3 := by
  unfold out0_6
  frame_out

theorem hout6 (x1 x3 : FVec Ideal S1x128 .f32) (j : S1x128.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x128 .f32) (j : S1x128.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamRow128

end
-- ==== Proof.AdamGdnOutV.lean ====
/- The optimiser's call on arrays of shape S1x1024x2048: what the kernel leaves in its results. -/
module

public import proofs.«01_k».proof.Proof.Gen.AdamGdnOutIdeal.Frame
public import proofs.«01_k».proof.Proof.Gen.AdamGdnOutRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamGdnOut

open Cert.AdamGdnOutIdeal Cert.AdamGdnOutIdeal.Gen

variable (m : (ℓ : Loc nD τ sig) → Buf (Elt Ideal) ℓ)

/-- The reference's three terms over the arguments. -/
abbrev REF0 (W G M V : FVec Ideal S1x1024x2048 .f32) : FVec Ideal S1024x2048 .f32 :=
  shapeCast _ (mulf (broadcastInDim Cert.AdamGdnOutRefIdeal.S1x1024x2048 ![] Cert.AdamGdnOutRefIdeal.Gen.bcast_S_S1x1024x2048 (constant Cert.AdamGdnOutRefIdeal.S_ .f32 0xBA83126F#32)) (addf (Host.divf (Host.divf (addf (mulf (broadcastInDim Cert.AdamGdnOutRefIdeal.S1x1024x2048 ![] Cert.AdamGdnOutRefIdeal.Gen.bcast_S_S1x1024x2048 (constant Cert.AdamGdnOutRefIdeal.S_ .f32 0x3F666666#32)) M) (mulf (broadcastInDim Cert.AdamGdnOutRefIdeal.S1x1024x2048 ![] Cert.AdamGdnOutRefIdeal.Gen.bcast_S_S1x1024x2048 (constant Cert.AdamGdnOutRefIdeal.S_ .f32 0x3DCCCCCD#32)) G)) (broadcastInDim Cert.AdamGdnOutRefIdeal.S1x1024x2048 ![] Cert.AdamGdnOutRefIdeal.Gen.bcast_S_S1x1024x2048 (constant Cert.AdamGdnOutRefIdeal.S_ .f32 0x3F26BD02#32))) (addf (Host.sqrt (Host.divf (addf (mulf (broadcastInDim Cert.AdamGdnOutRefIdeal.S1x1024x2048 ![] Cert.AdamGdnOutRefIdeal.Gen.bcast_S_S1x1024x2048 (constant Cert.AdamGdnOutRefIdeal.S_ .f32 0x3F7FBE77#32)) V) (mulf (broadcastInDim Cert.AdamGdnOutRefIdeal.S1x1024x2048 ![] Cert.AdamGdnOutRefIdeal.Gen.bcast_S_S1x1024x2048 (constant Cert.AdamGdnOutRefIdeal.S_ .f32 0x3A83126F#32)) (mulf G G))) (broadcastInDim Cert.AdamGdnOutRefIdeal.S1x1024x2048 ![] Cert.AdamGdnOutRefIdeal.Gen.bcast_S_S1x1024x2048 (constant Cert.AdamGdnOutRefIdeal.S_ .f32 0x3C231ACC#32)))) (broadcastInDim Cert.AdamGdnOutRefIdeal.S1x1024x2048 ![] Cert.AdamGdnOutRefIdeal.Gen.bcast_S_S1x1024x2048 (constant Cert.AdamGdnOutRefIdeal.S_ .f32 0x322BCC77#32)))) (mulf (broadcastInDim Cert.AdamGdnOutRefIdeal.S1x1024x2048 ![] Cert.AdamGdnOutRefIdeal.Gen.bcast_S_S1x1024x2048 (constant Cert.AdamGdnOutRefIdeal.S_ .f32 0x3C23D70A#32)) W))) Cert.AdamGdnOutRefIdeal.Gen.shapeCasts_S1x1024x2048_S1024x2048

abbrev REF1 (G M : FVec Ideal S1x1024x2048 .f32) : FVec Ideal S1024x2048 .f32 :=
  shapeCast _ (addf (mulf (broadcastInDim Cert.AdamGdnOutRefIdeal.S1x1024x2048 ![] Cert.AdamGdnOutRefIdeal.Gen.bcast_S_S1x1024x2048 (constant Cert.AdamGdnOutRefIdeal.S_ .f32 0x3F666666#32)) M) (mulf (broadcastInDim Cert.AdamGdnOutRefIdeal.S1x1024x2048 ![] Cert.AdamGdnOutRefIdeal.Gen.bcast_S_S1x1024x2048 (constant Cert.AdamGdnOutRefIdeal.S_ .f32 0x3DCCCCCD#32)) G)) Cert.AdamGdnOutRefIdeal.Gen.shapeCasts_S1x1024x2048_S1024x2048

abbrev REF2 (G V : FVec Ideal S1x1024x2048 .f32) : FVec Ideal S1024x2048 .f32 :=
  shapeCast _ (addf (mulf (broadcastInDim Cert.AdamGdnOutRefIdeal.S1x1024x2048 ![] Cert.AdamGdnOutRefIdeal.Gen.bcast_S_S1x1024x2048 (constant Cert.AdamGdnOutRefIdeal.S_ .f32 0x3F7FBE77#32)) V) (mulf (broadcastInDim Cert.AdamGdnOutRefIdeal.S1x1024x2048 ![] Cert.AdamGdnOutRefIdeal.Gen.bcast_S_S1x1024x2048 (constant Cert.AdamGdnOutRefIdeal.S_ .f32 0x3A83126F#32)) (mulf G G))) Cert.AdamGdnOutRefIdeal.Gen.shapeCasts_S1x1024x2048_S1024x2048

/-- Input 0 of the region is argument 0, its leading axes made one. -/
theorem in0 (c : Dev nD) : V m c main_v0 = shapeCast S1024x2048 (m ((c : Thread nD τ).loc main_arg0) : FVec Ideal S1x1024x2048 .f32) shapeCasts_S1x1024x2048_S1024x2048 := by
  unfold V
  after_results
  try rfl

/-- Input 1 of the region is argument 1, its leading axes made one. -/
theorem in1 (c : Dev nD) : V m c main_v1 = shapeCast S1024x2048 (m ((c : Thread nD τ).loc main_arg1) : FVec Ideal S1x1024x2048 .f32) shapeCasts_S1x1024x2048_S1024x2048 := by
  unfold V
  after_results
  try rfl

/-- Input 2 of the region is argument 2, its leading axes made one. -/
theorem in2 (c : Dev nD) : V m c main_v2 = shapeCast S1024x2048 (m ((c : Thread nD τ).loc main_arg2) : FVec Ideal S1x1024x2048 .f32) shapeCasts_S1x1024x2048_S1024x2048 := by
  unfold V
  after_results
  try rfl

/-- Input 3 of the region is argument 3, its leading axes made one. -/
theorem in3 (c : Dev nD) : V m c main_v3 = shapeCast S1024x2048 (m ((c : Thread nD τ).loc main_arg3) : FVec Ideal S1x1024x2048 .f32) shapeCasts_S1x1024x2048_S1024x2048 := by
  unfold V
  after_results
  try rfl

theorem left4 (x0 x1 x2 x3 : FVec Ideal S128x2048 .f32) : out0_4 (F := Ideal) x0 x1 x2 x3 = k0_pay4 (F := Ideal) x1 x2 x3 x0 := by
  unfold out0_4
  frame_out

theorem hout4 (x0 x1 x2 x3 : FVec Ideal S128x2048 .f32) (j : S128x2048.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x1024x2048 .f32) (j : S1024x2048.Idx) :
    REF0 W G M V j = Cert.Optimiser.delta (shapeCast S1024x2048 W shapeCasts_S1x1024x2048_S1024x2048 j) (shapeCast S1024x2048 G shapeCasts_S1x1024x2048_S1024x2048 j) (shapeCast S1024x2048 M shapeCasts_S1x1024x2048_S1024x2048 j) (shapeCast S1024x2048 V shapeCasts_S1x1024x2048_S1024x2048 j) := by
  rfl

theorem left5 (x0 x1 x2 x3 : FVec Ideal S128x2048 .f32) : out0_5 (F := Ideal) x0 x1 x2 x3 = k0_pay2 (F := Ideal) x1 x2 := by
  unfold out0_5
  frame_out

theorem hout5 (x1 x2 : FVec Ideal S128x2048 .f32) (j : S128x2048.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x1024x2048 .f32) (j : S1024x2048.Idx) :
    REF1 G M j = Cert.Optimiser.mean (shapeCast S1024x2048 G shapeCasts_S1x1024x2048_S1024x2048 j) (shapeCast S1024x2048 M shapeCasts_S1x1024x2048_S1024x2048 j) := by
  rfl

theorem left6 (x0 x1 x2 x3 : FVec Ideal S128x2048 .f32) : out0_6 (F := Ideal) x0 x1 x2 x3 = k0_pay3 (F := Ideal) x1 x3 := by
  unfold out0_6
  frame_out

theorem hout6 (x1 x3 : FVec Ideal S128x2048 .f32) (j : S128x2048.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x1024x2048 .f32) (j : S1024x2048.Idx) :
    REF2 G V j = Cert.Optimiser.square (shapeCast S1024x2048 G shapeCasts_S1x1024x2048_S1024x2048 j) (shapeCast S1024x2048 V shapeCasts_S1x1024x2048_S1024x2048 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamGdnOut

end
-- ==== Proof.AdamSwaInV.lean ====
/- The optimiser's call on arrays of shape S1x2048x640: what the kernel leaves in its results. -/
module

public import proofs.«01_k».proof.Proof.Gen.AdamSwaInIdeal.Frame
public import proofs.«01_k».proof.Proof.Gen.AdamSwaInRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamSwaIn

open Cert.AdamSwaInIdeal Cert.AdamSwaInIdeal.Gen

variable (m : (ℓ : Loc nD τ sig) → Buf (Elt Ideal) ℓ)

/-- The reference's three terms over the arguments. -/
abbrev REF0 (W G M V : FVec Ideal S1x2048x640 .f32) : FVec Ideal S2048x640 .f32 :=
  shapeCast _ (mulf (broadcastInDim Cert.AdamSwaInRefIdeal.S1x2048x640 ![] Cert.AdamSwaInRefIdeal.Gen.bcast_S_S1x2048x640 (constant Cert.AdamSwaInRefIdeal.S_ .f32 0xBA83126F#32)) (addf (Host.divf (Host.divf (addf (mulf (broadcastInDim Cert.AdamSwaInRefIdeal.S1x2048x640 ![] Cert.AdamSwaInRefIdeal.Gen.bcast_S_S1x2048x640 (constant Cert.AdamSwaInRefIdeal.S_ .f32 0x3F666666#32)) M) (mulf (broadcastInDim Cert.AdamSwaInRefIdeal.S1x2048x640 ![] Cert.AdamSwaInRefIdeal.Gen.bcast_S_S1x2048x640 (constant Cert.AdamSwaInRefIdeal.S_ .f32 0x3DCCCCCD#32)) G)) (broadcastInDim Cert.AdamSwaInRefIdeal.S1x2048x640 ![] Cert.AdamSwaInRefIdeal.Gen.bcast_S_S1x2048x640 (constant Cert.AdamSwaInRefIdeal.S_ .f32 0x3F26BD02#32))) (addf (Host.sqrt (Host.divf (addf (mulf (broadcastInDim Cert.AdamSwaInRefIdeal.S1x2048x640 ![] Cert.AdamSwaInRefIdeal.Gen.bcast_S_S1x2048x640 (constant Cert.AdamSwaInRefIdeal.S_ .f32 0x3F7FBE77#32)) V) (mulf (broadcastInDim Cert.AdamSwaInRefIdeal.S1x2048x640 ![] Cert.AdamSwaInRefIdeal.Gen.bcast_S_S1x2048x640 (constant Cert.AdamSwaInRefIdeal.S_ .f32 0x3A83126F#32)) (mulf G G))) (broadcastInDim Cert.AdamSwaInRefIdeal.S1x2048x640 ![] Cert.AdamSwaInRefIdeal.Gen.bcast_S_S1x2048x640 (constant Cert.AdamSwaInRefIdeal.S_ .f32 0x3C231ACC#32)))) (broadcastInDim Cert.AdamSwaInRefIdeal.S1x2048x640 ![] Cert.AdamSwaInRefIdeal.Gen.bcast_S_S1x2048x640 (constant Cert.AdamSwaInRefIdeal.S_ .f32 0x322BCC77#32)))) (mulf (broadcastInDim Cert.AdamSwaInRefIdeal.S1x2048x640 ![] Cert.AdamSwaInRefIdeal.Gen.bcast_S_S1x2048x640 (constant Cert.AdamSwaInRefIdeal.S_ .f32 0x3C23D70A#32)) W))) Cert.AdamSwaInRefIdeal.Gen.shapeCasts_S1x2048x640_S2048x640

abbrev REF1 (G M : FVec Ideal S1x2048x640 .f32) : FVec Ideal S2048x640 .f32 :=
  shapeCast _ (addf (mulf (broadcastInDim Cert.AdamSwaInRefIdeal.S1x2048x640 ![] Cert.AdamSwaInRefIdeal.Gen.bcast_S_S1x2048x640 (constant Cert.AdamSwaInRefIdeal.S_ .f32 0x3F666666#32)) M) (mulf (broadcastInDim Cert.AdamSwaInRefIdeal.S1x2048x640 ![] Cert.AdamSwaInRefIdeal.Gen.bcast_S_S1x2048x640 (constant Cert.AdamSwaInRefIdeal.S_ .f32 0x3DCCCCCD#32)) G)) Cert.AdamSwaInRefIdeal.Gen.shapeCasts_S1x2048x640_S2048x640

abbrev REF2 (G V : FVec Ideal S1x2048x640 .f32) : FVec Ideal S2048x640 .f32 :=
  shapeCast _ (addf (mulf (broadcastInDim Cert.AdamSwaInRefIdeal.S1x2048x640 ![] Cert.AdamSwaInRefIdeal.Gen.bcast_S_S1x2048x640 (constant Cert.AdamSwaInRefIdeal.S_ .f32 0x3F7FBE77#32)) V) (mulf (broadcastInDim Cert.AdamSwaInRefIdeal.S1x2048x640 ![] Cert.AdamSwaInRefIdeal.Gen.bcast_S_S1x2048x640 (constant Cert.AdamSwaInRefIdeal.S_ .f32 0x3A83126F#32)) (mulf G G))) Cert.AdamSwaInRefIdeal.Gen.shapeCasts_S1x2048x640_S2048x640

/-- Input 0 of the region is argument 0, its leading axes made one. -/
theorem in0 (c : Dev nD) : V m c main_v0 = shapeCast S2048x640 (m ((c : Thread nD τ).loc main_arg0) : FVec Ideal S1x2048x640 .f32) shapeCasts_S1x2048x640_S2048x640 := by
  unfold V
  after_results
  try rfl

/-- Input 1 of the region is argument 1, its leading axes made one. -/
theorem in1 (c : Dev nD) : V m c main_v1 = shapeCast S2048x640 (m ((c : Thread nD τ).loc main_arg1) : FVec Ideal S1x2048x640 .f32) shapeCasts_S1x2048x640_S2048x640 := by
  unfold V
  after_results
  try rfl

/-- Input 2 of the region is argument 2, its leading axes made one. -/
theorem in2 (c : Dev nD) : V m c main_v2 = shapeCast S2048x640 (m ((c : Thread nD τ).loc main_arg2) : FVec Ideal S1x2048x640 .f32) shapeCasts_S1x2048x640_S2048x640 := by
  unfold V
  after_results
  try rfl

/-- Input 3 of the region is argument 3, its leading axes made one. -/
theorem in3 (c : Dev nD) : V m c main_v3 = shapeCast S2048x640 (m ((c : Thread nD τ).loc main_arg3) : FVec Ideal S1x2048x640 .f32) shapeCasts_S1x2048x640_S2048x640 := by
  unfold V
  after_results
  try rfl

theorem left4 (x0 x1 x2 x3 : FVec Ideal S512x640 .f32) : out0_4 (F := Ideal) x0 x1 x2 x3 = k0_pay4 (F := Ideal) x1 x2 x3 x0 := by
  unfold out0_4
  frame_out

theorem hout4 (x0 x1 x2 x3 : FVec Ideal S512x640 .f32) (j : S512x640.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S1x2048x640 .f32) (j : S2048x640.Idx) :
    REF0 W G M V j = Cert.Optimiser.delta (shapeCast S2048x640 W shapeCasts_S1x2048x640_S2048x640 j) (shapeCast S2048x640 G shapeCasts_S1x2048x640_S2048x640 j) (shapeCast S2048x640 M shapeCasts_S1x2048x640_S2048x640 j) (shapeCast S2048x640 V shapeCasts_S1x2048x640_S2048x640 j) := by
  rfl

theorem left5 (x0 x1 x2 x3 : FVec Ideal S512x640 .f32) : out0_5 (F := Ideal) x0 x1 x2 x3 = k0_pay2 (F := Ideal) x1 x2 := by
  unfold out0_5
  frame_out

theorem hout5 (x1 x2 : FVec Ideal S512x640 .f32) (j : S512x640.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S1x2048x640 .f32) (j : S2048x640.Idx) :
    REF1 G M j = Cert.Optimiser.mean (shapeCast S2048x640 G shapeCasts_S1x2048x640_S2048x640 j) (shapeCast S2048x640 M shapeCasts_S1x2048x640_S2048x640 j) := by
  rfl

theorem left6 (x0 x1 x2 x3 : FVec Ideal S512x640 .f32) : out0_6 (F := Ideal) x0 x1 x2 x3 = k0_pay3 (F := Ideal) x1 x3 := by
  unfold out0_6
  frame_out

theorem hout6 (x1 x3 : FVec Ideal S512x640 .f32) (j : S512x640.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S1x2048x640 .f32) (j : S2048x640.Idx) :
    REF2 G V j = Cert.Optimiser.square (shapeCast S2048x640 G shapeCasts_S1x2048x640_S2048x640 j) (shapeCast S2048x640 V shapeCasts_S1x2048x640_S2048x640 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamSwaIn

end
-- ==== Proof.AdamRow640V.lean ====
/- The optimiser's call on arrays of shape S1x640: what the kernel leaves in its results. -/
module

public import proofs.«01_k».proof.Proof.Gen.AdamRow640Ideal.Frame
public import proofs.«01_k».proof.Proof.Gen.AdamRow640RefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamRow640

open Cert.AdamRow640Ideal Cert.AdamRow640Ideal.Gen

variable (m : (ℓ : Loc nD τ sig) → Buf (Elt Ideal) ℓ)

/-- The reference's three terms over the arguments. -/
abbrev REF0 (W G M V : FVec Ideal S1x640 .f32) : FVec Ideal S1x640 .f32 :=
  mulf (broadcastInDim Cert.AdamRow640RefIdeal.S1x640 ![] Cert.AdamRow640RefIdeal.Gen.bcast_S_S1x640 (constant Cert.AdamRow640RefIdeal.S_ .f32 0xBA83126F#32)) (addf (Host.divf (Host.divf (addf (mulf (broadcastInDim Cert.AdamRow640RefIdeal.S1x640 ![] Cert.AdamRow640RefIdeal.Gen.bcast_S_S1x640 (constant Cert.AdamRow640RefIdeal.S_ .f32 0x3F666666#32)) M) (mulf (broadcastInDim Cert.AdamRow640RefIdeal.S1x640 ![] Cert.AdamRow640RefIdeal.Gen.bcast_S_S1x640 (constant Cert.AdamRow640RefIdeal.S_ .f32 0x3DCCCCCD#32)) G)) (broadcastInDim Cert.AdamRow640RefIdeal.S1x640 ![] Cert.AdamRow640RefIdeal.Gen.bcast_S_S1x640 (constant Cert.AdamRow640RefIdeal.S_ .f32 0x3F26BD02#32))) (addf (Host.sqrt (Host.divf (addf (mulf (broadcastInDim Cert.AdamRow640RefIdeal.S1x640 ![] Cert.AdamRow640RefIdeal.Gen.bcast_S_S1x640 (constant Cert.AdamRow640RefIdeal.S_ .f32 0x3F7FBE77#32)) V) (mulf (broadcastInDim Cert.AdamRow640RefIdeal.S1x640 ![] Cert.AdamRow640RefIdeal.Gen.bcast_S_S1x640 (constant Cert.AdamRow640RefIdeal.S_ .f32 0x3A83126F#32)) (mulf G G))) (broadcastInDim Cert.AdamRow640RefIdeal.S1x640 ![] Cert.AdamRow640RefIdeal.Gen.bcast_S_S1x640 (constant Cert.AdamRow640RefIdeal.S_ .f32 0x3C231ACC#32)))) (broadcastInDim Cert.AdamRow640RefIdeal.S1x640 ![] Cert.AdamRow640RefIdeal.Gen.bcast_S_S1x640 (constant Cert.AdamRow640RefIdeal.S_ .f32 0x322BCC77#32)))) (mulf (broadcastInDim Cert.AdamRow640RefIdeal.S1x640 ![] Cert.AdamRow640RefIdeal.Gen.bcast_S_S1x640 (constant Cert.AdamRow640RefIdeal.S_ .f32 0x3C23D70A#32)) W))

abbrev REF1 (G M : FVec Ideal S1x640 .f32) : FVec Ideal S1x640 .f32 :=
  addf (mulf (broadcastInDim Cert.AdamRow640RefIdeal.S1x640 ![] Cert.AdamRow640RefIdeal.Gen.bcast_S_S1x640 (constant Cert.AdamRow640RefIdeal.S_ .f32 0x3F666666#32)) M) (mulf (broadcastInDim Cert.AdamRow640RefIdeal.S1x640 ![] Cert.AdamRow640RefIdeal.Gen.bcast_S_S1x640 (constant Cert.AdamRow640RefIdeal.S_ .f32 0x3DCCCCCD#32)) G)

abbrev REF2 (G V : FVec Ideal S1x640 .f32) : FVec Ideal S1x640 .f32 :=
  addf (mulf (broadcastInDim Cert.AdamRow640RefIdeal.S1x640 ![] Cert.AdamRow640RefIdeal.Gen.bcast_S_S1x640 (constant Cert.AdamRow640RefIdeal.S_ .f32 0x3F7FBE77#32)) V) (mulf (broadcastInDim Cert.AdamRow640RefIdeal.S1x640 ![] Cert.AdamRow640RefIdeal.Gen.bcast_S_S1x640 (constant Cert.AdamRow640RefIdeal.S_ .f32 0x3A83126F#32)) (mulf G G))

theorem left4 (x0 x1 x2 x3 : FVec Ideal S1x640 .f32) : out0_4 (F := Ideal) x0 x1 x2 x3 = k0_pay3 (F := Ideal) x1 x2 x3 x0 := by
  unfold out0_4
  frame_out

theorem hout4 (x0 x1 x2 x3 : FVec Ideal S1x640 .f32) (j : S1x640.Idx) :
    k0_pay3 (F := Ideal) x1 x2 x3 x0 j = Cert.Optimiser.delta (x0 j) (x1 j) (x2 j) (x3 j) := by
  pointwise [k0_pay1, k0_pay2, k0_pay3, Cert.Optimiser.delta, Cert.Optimiser.mean, Cert.Optimiser.square]

theorem href0 (W G M V : FVec Ideal S1x640 .f32) (j : S1x640.Idx) :
    REF0 W G M V j = Cert.Optimiser.delta (W j) (G j) (M j) (V j) := by
  rfl

theorem left5 (x0 x1 x2 x3 : FVec Ideal S1x640 .f32) : out0_5 (F := Ideal) x0 x1 x2 x3 = k0_pay1 (F := Ideal) x1 x2 := by
  unfold out0_5
  frame_out

theorem hout5 (x1 x2 : FVec Ideal S1x640 .f32) (j : S1x640.Idx) :
    k0_pay1 (F := Ideal) x1 x2 j = Cert.Optimiser.mean (x1 j) (x2 j) := by
  pointwise [k0_pay1, k0_pay2, k0_pay3, Cert.Optimiser.delta, Cert.Optimiser.mean, Cert.Optimiser.square]

theorem href1 (G M : FVec Ideal S1x640 .f32) (j : S1x640.Idx) :
    REF1 G M j = Cert.Optimiser.mean (G j) (M j) := by
  rfl

theorem left6 (x0 x1 x2 x3 : FVec Ideal S1x640 .f32) : out0_6 (F := Ideal) x0 x1 x2 x3 = k0_pay2 (F := Ideal) x1 x3 := by
  unfold out0_6
  frame_out

theorem hout6 (x1 x3 : FVec Ideal S1x640 .f32) (j : S1x640.Idx) :
    k0_pay2 (F := Ideal) x1 x3 j = Cert.Optimiser.square (x1 j) (x3 j) := by
  pointwise [k0_pay1, k0_pay2, k0_pay3, Cert.Optimiser.delta, Cert.Optimiser.mean, Cert.Optimiser.square]

theorem href2 (G V : FVec Ideal S1x640 .f32) (j : S1x640.Idx) :
    REF2 G V j = Cert.Optimiser.square (G j) (V j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (V_main_arg0 m c) _) (congrFun (V_main_arg1 m c) _) (congrFun (V_main_arg2 m c) _) (congrFun (V_main_arg3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (V_main_arg1 m c) _) (congrFun (V_main_arg2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (V_main_arg1 m c) _) (congrFun (V_main_arg3 m c) _)

end Cert.Optimiser.AdamRow640

end
-- ==== Proof.AdamFinalNormV.lean ====
/- The optimiser's call on arrays of shape S2048: what the kernel leaves in its results. -/
module

public import proofs.«01_k».proof.Proof.Gen.AdamFinalNormIdeal.Frame
public import proofs.«01_k».proof.Proof.Gen.AdamFinalNormRefIdeal
public import proofs.«01_k».proof.Proof.Adam

@[expose] public section

set_option maxRecDepth 16384

noncomputable section

open Idealize.ShloMosaic Idealize.ShloMosaic.TcCoe Idealize.SL.Sem Idealize.ShloMosaic.StableHlo
open Idealize.ShloMosaic.Pipeline (Dat)

namespace Cert.Optimiser.AdamFinalNorm

open Cert.AdamFinalNormIdeal Cert.AdamFinalNormIdeal.Gen

variable (m : (ℓ : Loc nD τ sig) → Buf (Elt Ideal) ℓ)

/-- The reference's three terms over the arguments. -/
abbrev REF0 (W G M V : FVec Ideal S2048 .f32) : FVec Ideal S1x2048 .f32 :=
  shapeCast _ (mulf (broadcastInDim Cert.AdamFinalNormRefIdeal.S2048 ![] Cert.AdamFinalNormRefIdeal.Gen.bcast_S_S2048 (constant Cert.AdamFinalNormRefIdeal.S_ .f32 0xBA83126F#32)) (addf (Host.divf (Host.divf (addf (mulf (broadcastInDim Cert.AdamFinalNormRefIdeal.S2048 ![] Cert.AdamFinalNormRefIdeal.Gen.bcast_S_S2048 (constant Cert.AdamFinalNormRefIdeal.S_ .f32 0x3F666666#32)) M) (mulf (broadcastInDim Cert.AdamFinalNormRefIdeal.S2048 ![] Cert.AdamFinalNormRefIdeal.Gen.bcast_S_S2048 (constant Cert.AdamFinalNormRefIdeal.S_ .f32 0x3DCCCCCD#32)) G)) (broadcastInDim Cert.AdamFinalNormRefIdeal.S2048 ![] Cert.AdamFinalNormRefIdeal.Gen.bcast_S_S2048 (constant Cert.AdamFinalNormRefIdeal.S_ .f32 0x3F26BD02#32))) (addf (Host.sqrt (Host.divf (addf (mulf (broadcastInDim Cert.AdamFinalNormRefIdeal.S2048 ![] Cert.AdamFinalNormRefIdeal.Gen.bcast_S_S2048 (constant Cert.AdamFinalNormRefIdeal.S_ .f32 0x3F7FBE77#32)) V) (mulf (broadcastInDim Cert.AdamFinalNormRefIdeal.S2048 ![] Cert.AdamFinalNormRefIdeal.Gen.bcast_S_S2048 (constant Cert.AdamFinalNormRefIdeal.S_ .f32 0x3A83126F#32)) (mulf G G))) (broadcastInDim Cert.AdamFinalNormRefIdeal.S2048 ![] Cert.AdamFinalNormRefIdeal.Gen.bcast_S_S2048 (constant Cert.AdamFinalNormRefIdeal.S_ .f32 0x3C231ACC#32)))) (broadcastInDim Cert.AdamFinalNormRefIdeal.S2048 ![] Cert.AdamFinalNormRefIdeal.Gen.bcast_S_S2048 (constant Cert.AdamFinalNormRefIdeal.S_ .f32 0x322BCC77#32)))) (mulf (broadcastInDim Cert.AdamFinalNormRefIdeal.S2048 ![] Cert.AdamFinalNormRefIdeal.Gen.bcast_S_S2048 (constant Cert.AdamFinalNormRefIdeal.S_ .f32 0x3C23D70A#32)) W))) Cert.AdamFinalNormRefIdeal.Gen.shapeCasts_S2048_S1x2048

abbrev REF1 (G M : FVec Ideal S2048 .f32) : FVec Ideal S1x2048 .f32 :=
  shapeCast _ (addf (mulf (broadcastInDim Cert.AdamFinalNormRefIdeal.S2048 ![] Cert.AdamFinalNormRefIdeal.Gen.bcast_S_S2048 (constant Cert.AdamFinalNormRefIdeal.S_ .f32 0x3F666666#32)) M) (mulf (broadcastInDim Cert.AdamFinalNormRefIdeal.S2048 ![] Cert.AdamFinalNormRefIdeal.Gen.bcast_S_S2048 (constant Cert.AdamFinalNormRefIdeal.S_ .f32 0x3DCCCCCD#32)) G)) Cert.AdamFinalNormRefIdeal.Gen.shapeCasts_S2048_S1x2048

abbrev REF2 (G V : FVec Ideal S2048 .f32) : FVec Ideal S1x2048 .f32 :=
  shapeCast _ (addf (mulf (broadcastInDim Cert.AdamFinalNormRefIdeal.S2048 ![] Cert.AdamFinalNormRefIdeal.Gen.bcast_S_S2048 (constant Cert.AdamFinalNormRefIdeal.S_ .f32 0x3F7FBE77#32)) V) (mulf (broadcastInDim Cert.AdamFinalNormRefIdeal.S2048 ![] Cert.AdamFinalNormRefIdeal.Gen.bcast_S_S2048 (constant Cert.AdamFinalNormRefIdeal.S_ .f32 0x3A83126F#32)) (mulf G G))) Cert.AdamFinalNormRefIdeal.Gen.shapeCasts_S2048_S1x2048

/-- Input 0 of the region is argument 0, its leading axes made one. -/
theorem in0 (c : Dev nD) : V m c main_v0 = shapeCast S1x2048 (m ((c : Thread nD τ).loc main_arg0) : FVec Ideal S2048 .f32) shapeCasts_S2048_S1x2048 := by
  unfold V
  after_results
  try rfl

/-- Input 1 of the region is argument 1, its leading axes made one. -/
theorem in1 (c : Dev nD) : V m c main_v1 = shapeCast S1x2048 (m ((c : Thread nD τ).loc main_arg1) : FVec Ideal S2048 .f32) shapeCasts_S2048_S1x2048 := by
  unfold V
  after_results
  try rfl

/-- Input 2 of the region is argument 2, its leading axes made one. -/
theorem in2 (c : Dev nD) : V m c main_v2 = shapeCast S1x2048 (m ((c : Thread nD τ).loc main_arg2) : FVec Ideal S2048 .f32) shapeCasts_S2048_S1x2048 := by
  unfold V
  after_results
  try rfl

/-- Input 3 of the region is argument 3, its leading axes made one. -/
theorem in3 (c : Dev nD) : V m c main_v3 = shapeCast S1x2048 (m ((c : Thread nD τ).loc main_arg3) : FVec Ideal S2048 .f32) shapeCasts_S2048_S1x2048 := by
  unfold V
  after_results
  try rfl

theorem left4 (x0 x1 x2 x3 : FVec Ideal S1x2048 .f32) : out0_4 (F := Ideal) x0 x1 x2 x3 = k0_pay4 (F := Ideal) x1 x2 x3 x0 := by
  unfold out0_4
  frame_out

theorem hout4 (x0 x1 x2 x3 : FVec Ideal S1x2048 .f32) (j : S1x2048.Idx) :
    k0_pay4 (F := Ideal) x1 x2 x3 x0 j = Cert.Optimiser.delta (x0 j) (x1 j) (x2 j) (x3 j) := by
  pointwise [k0_pay1, k0_pay2, k0_pay3, k0_pay4, Cert.Optimiser.delta, Cert.Optimiser.mean, Cert.Optimiser.square]

theorem href0 (W G M V : FVec Ideal S2048 .f32) (j : S1x2048.Idx) :
    REF0 W G M V j = Cert.Optimiser.delta (shapeCast S1x2048 W shapeCasts_S2048_S1x2048 j) (shapeCast S1x2048 G shapeCasts_S2048_S1x2048 j) (shapeCast S1x2048 M shapeCasts_S2048_S1x2048 j) (shapeCast S1x2048 V shapeCasts_S2048_S1x2048 j) := by
  rfl

theorem left5 (x0 x1 x2 x3 : FVec Ideal S1x2048 .f32) : out0_5 (F := Ideal) x0 x1 x2 x3 = k0_pay2 (F := Ideal) x1 x2 := by
  unfold out0_5
  frame_out

theorem hout5 (x1 x2 : FVec Ideal S1x2048 .f32) (j : S1x2048.Idx) :
    k0_pay2 (F := Ideal) x1 x2 j = Cert.Optimiser.mean (x1 j) (x2 j) := by
  pointwise [k0_pay1, k0_pay2, k0_pay3, k0_pay4, Cert.Optimiser.delta, Cert.Optimiser.mean, Cert.Optimiser.square]

theorem href1 (G M : FVec Ideal S2048 .f32) (j : S1x2048.Idx) :
    REF1 G M j = Cert.Optimiser.mean (shapeCast S1x2048 G shapeCasts_S2048_S1x2048 j) (shapeCast S1x2048 M shapeCasts_S2048_S1x2048 j) := by
  rfl

theorem left6 (x0 x1 x2 x3 : FVec Ideal S1x2048 .f32) : out0_6 (F := Ideal) x0 x1 x2 x3 = k0_pay3 (F := Ideal) x1 x3 := by
  unfold out0_6
  frame_out

theorem hout6 (x1 x3 : FVec Ideal S1x2048 .f32) (j : S1x2048.Idx) :
    k0_pay3 (F := Ideal) x1 x3 j = Cert.Optimiser.square (x1 j) (x3 j) := by
  pointwise [k0_pay1, k0_pay2, k0_pay3, k0_pay4, Cert.Optimiser.delta, Cert.Optimiser.mean, Cert.Optimiser.square]

theorem href2 (G V : FVec Ideal S2048 .f32) (j : S1x2048.Idx) :
    REF2 G V j = Cert.Optimiser.square (shapeCast S1x2048 G shapeCasts_S2048_S1x2048 j) (shapeCast S1x2048 V shapeCasts_S2048_S1x2048 j) := by
  rfl

/-- The result array is the reference's: the change of the weight. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left4, hout4, href0]
  exact Cert.Optimiser.delta_congr (congrFun (in0 m c) _) (congrFun (in1 m c) _) (congrFun (in2 m c) _) (congrFun (in3 m c) _)

/-- The result array is the reference's: the new mean. -/
theorem final5 (c : Dev nD) : (dats m 0 c).arrAt 5 (cfgs 0).N
    = REF1 (m ((c : Thread nD τ).loc main_arg1)) (m ((c : Thread nD τ).loc main_arg2)) := by
  refine (dats m 0 c).arrAt_eq_of_covers 5 _ (by decide +kernel) fun t hf y => ?_
  blk_simp
  rw [after0_5, left5, hout5, href1]
  exact Cert.Optimiser.mean_congr (congrFun (in1 m c) _) (congrFun (in2 m c) _)

/-- The result array is the reference's: the new square. -/
theorem final6 (c : Dev nD) : (dats m 0 c).arrAt 6 (cfgs 0).N
    = REF2 (m ((c : Thread nD τ).loc main_arg1)) (m ((c : Thread nD τ).loc main_arg3)) := by
  refine (dats m 0 c).arrAt_eq_of_covers 6 _ (by decide +kernel) fun t hf y => ?_
  blk_simp
  rw [after0_6, left6, hout6, href2]
  exact Cert.Optimiser.square_congr (congrFun (in1 m c) _) (congrFun (in3 m c) _)

end Cert.Optimiser.AdamFinalNorm

end
-- ==== Proof.Optimiser.lean ====
/- The optimiser's calls, one program for each shape of a weight: each kernel and its reference end with the same results, and each reference leaves its arguments as they were. -/
module

public import proofs.«01_k».proof.Defs
public import proofs.«01_k».proof.Proof.Ffn
public import proofs.«01_k».proof.Proof.Gen.AdamFfnColumnsIdeal.Value
public import proofs.«01_k».proof.Proof.Gen.AdamFfnColumnsRefIdeal.Run
public import proofs.«01_k».proof.Proof.AdamFfnColumnsV
public import proofs.«01_k».proof.Proof.Gen.AdamFfnRowsIdeal.Value
public import proofs.«01_k».proof.Proof.Gen.AdamFfnRowsRefIdeal.Run
public import proofs.«01_k».proof.Proof.AdamFfnRowsV
public import proofs.«01_k».proof.Proof.Gen.AdamMetaIdeal.Value
public import proofs.«01_k».proof.Proof.Gen.AdamMetaRefIdeal.Run
public import proofs.«01_k».proof.Proof.AdamMetaV
public import proofs.«01_k».proof.Proof.Gen.AdamNormsIdeal.Value
public import proofs.«01_k».proof.Proof.Gen.AdamNormsRefIdeal.Run
public import proofs.«01_k».proof.Proof.AdamNormsV
public import proofs.«01_k».proof.Proof.Gen.AdamMlstmInIdeal.Value
public import proofs.«01_k».proof.Proof.Gen.AdamMlstmInRefIdeal.Run
public import proofs.«01_k».proof.Proof.AdamMlstmInV
public import proofs.«01_k».proof.Proof.Gen.AdamSquareOutIdeal.Value
public import proofs.«01_k».proof.Proof.Gen.AdamSquareOutRefIdeal.Run
public import proofs.«01_k».proof.Proof.AdamSquareOutV
public import proofs.«01_k».proof.Proof.Gen.AdamMlstmBiasIdeal.Value
public import proofs.«01_k».proof.Proof.Gen.AdamMlstmBiasRefIdeal.Run
public import proofs.«01_k».proof.Proof.AdamMlstmBiasV
public import proofs.«01_k».proof.Proof.Gen.AdamRow2048Ideal.Value
public import proofs.«01_k».proof.Proof.Gen.AdamRow2048RefIdeal.Run
public import proofs.«01_k».proof.Proof.AdamRow2048V
public import proofs.«01_k».proof.Proof.Gen.AdamPoolWeightIdeal.Value
public import proofs.«01_k».proof.Proof.Gen.AdamPoolWeightRefIdeal.Run
public import proofs.«01_k».proof.Proof.AdamPoolWeightV
public import proofs.«01_k».proof.Proof.Gen.AdamRow512Ideal.Value
public import proofs.«01_k».proof.Proof.Gen.AdamRow512RefIdeal.Run
public import proofs.«01_k».proof.Proof.AdamRow512V
public import proofs.«01_k».proof.Proof.Gen.AdamGdnInIdeal.Value
public import proofs.«01_k».proof.Proof.Gen.AdamGdnInRefIdeal.Run
public import proofs.«01_k».proof.Proof.AdamGdnInV
public import proofs.«01_k».proof.Proof.Gen.AdamGdnConvIdeal.Value
public import proofs.«01_k».proof.Proof.Gen.AdamGdnConvRefIdeal.Run
public import proofs.«01_k».proof.Proof.AdamGdnConvV
public import proofs.«01_k».proof.Proof.Gen.AdamRow32Ideal.Value
public import proofs.«01_k».proof.Proof.Gen.AdamRow32RefIdeal.Run
public import proofs.«01_k».proof.Proof.AdamRow32V
public import proofs.«01_k».proof.Proof.Gen.AdamRow128Ideal.Value
public import proofs.«01_k».proof.Proof.Gen.AdamRow128RefIdeal.Run
public import proofs.«01_k».proof.Proof.AdamRow128V
public import proofs.«01_k».proof.Proof.Gen.AdamGdnOutIdeal.Value
public import proofs.«01_k».proof.Proof.Gen.AdamGdnOutRefIdeal.Run
public import proofs.«01_k».proof.Proof.AdamGdnOutV
public import proofs.«01_k».proof.Proof.Gen.AdamSwaInIdeal.Value
public import proofs.«01_k».proof.Proof.Gen.AdamSwaInRefIdeal.Run
public import proofs.«01_k».proof.Proof.AdamSwaInV
public import proofs.«01_k».proof.Proof.Gen.AdamRow640Ideal.Value
public import proofs.«01_k».proof.Proof.Gen.AdamRow640RefIdeal.Run
public import proofs.«01_k».proof.Proof.AdamRow640V
public import proofs.«01_k».proof.Proof.Gen.AdamFinalNormIdeal.Value
public import proofs.«01_k».proof.Proof.Gen.AdamFinalNormRefIdeal.Run
public import proofs.«01_k».proof.Proof.AdamFinalNormV
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Optimiser

open Cert.Ffn (cong2 cong4)

/-- The call on weights of shape 4 by 2 by 2048 by 1408: the kernel and the reference end with the same results. -/
theorem value_AdamFfnColumns : Cert.algebraic_AdamFfnColumnsIdeal_AdamFfnColumnsRefIdeal (hAdamFfnColumnsIdeal := Cert.AdamFfnColumnsIdeal.Gen.facts)
    (hAdamFfnColumnsRefIdeal := Cert.AdamFfnColumnsRefIdeal.Gen.facts) := by
  intro m g m' g' hm ha
  refine ⟨fun c => AdamFfnColumns.REF0 (m ((c.tc : Thread Cert.AdamFfnColumnsIdeal.nD Cert.AdamFfnColumnsIdeal.τ).loc Cert.AdamFfnColumnsIdeal.main_arg0)) (m ((c.tc : Thread Cert.AdamFfnColumnsIdeal.nD Cert.AdamFfnColumnsIdeal.τ).loc Cert.AdamFfnColumnsIdeal.main_arg1)) (m ((c.tc : Thread Cert.AdamFfnColumnsIdeal.nD Cert.AdamFfnColumnsIdeal.τ).loc Cert.AdamFfnColumnsIdeal.main_arg2)) (m ((c.tc : Thread Cert.AdamFfnColumnsIdeal.nD Cert.AdamFfnColumnsIdeal.τ).loc Cert.AdamFfnColumnsIdeal.main_arg3)),
    fun c => AdamFfnColumns.REF1 (m ((c.tc : Thread Cert.AdamFfnColumnsIdeal.nD Cert.AdamFfnColumnsIdeal.τ).loc Cert.AdamFfnColumnsIdeal.main_arg1)) (m ((c.tc : Thread Cert.AdamFfnColumnsIdeal.nD Cert.AdamFfnColumnsIdeal.τ).loc Cert.AdamFfnColumnsIdeal.main_arg2)),
    fun c => AdamFfnColumns.REF2 (m ((c.tc : Thread Cert.AdamFfnColumnsIdeal.nD Cert.AdamFfnColumnsIdeal.τ).loc Cert.AdamFfnColumnsIdeal.main_arg1)) (m ((c.tc : Thread Cert.AdamFfnColumnsIdeal.nD Cert.AdamFfnColumnsIdeal.τ).loc Cert.AdamFfnColumnsIdeal.main_arg3)),
    (θ_run Cert.AdamFfnColumnsIdeal.defs _ _).mono (fun r h c => ⟨(h c).1.trans (AdamFfnColumns.final4 m c), (h c).2.1.trans (AdamFfnColumns.final5 m c), (h c).2.2.1.trans (AdamFfnColumns.final6 m c), (h c).2.2.2⟩) (Cert.AdamFfnColumnsIdeal.Value.run_blocks m g),
    (θ_run Cert.AdamFfnColumnsRefIdeal.defs _ _).mono (fun r h c => ⟨(h c).1.trans (cong4 AdamFfnColumns.REF0 ((ha c).1) ((ha c).2.1) ((ha c).2.2.1) ((ha c).2.2.2)),
      (h c).2.1.trans (cong2 AdamFfnColumns.REF1 ((ha c).2.1) ((ha c).2.2.1)),
      (h c).2.2.1.trans (cong2 AdamFfnColumns.REF2 ((ha c).2.1) ((ha c).2.2.2)), (h c).2.2.2⟩) (Cert.AdamFfnColumnsRefIdeal.Value.run m' g')⟩

/-- The reference of this call leaves its arguments as they were. -/
theorem frame_AdamFfnColumns (m : (ℓ : Loc Cert.AdamFfnColumnsRefIdeal.nD Cert.AdamFfnColumnsRefIdeal.τ Cert.AdamFfnColumnsRefIdeal.sig) → Buf (Elt Ideal) ℓ) (ρ : Dev Cert.AdamFfnColumnsRefIdeal.nD → PrngReg) :
    θ_run (Cert.AdamFfnColumnsRefIdeal.defs (F := Ideal)) (onTc (τ := Cert.AdamFfnColumnsRefIdeal.τ) (Cert.AdamFfnColumnsRefIdeal.main (F := Ideal))) ⟨m, fun _ => 0, ρ⟩
      (fun r => (∀ c : Dev Cert.AdamFfnColumnsRefIdeal.nD, r.2.mem ((c.tc : Thread Cert.AdamFfnColumnsRefIdeal.nD Cert.AdamFfnColumnsRefIdeal.τ).loc Cert.AdamFfnColumnsRefIdeal.main_arg0) = m ((c.tc : Thread Cert.AdamFfnColumnsRefIdeal.nD Cert.AdamFfnColumnsRefIdeal.τ).loc Cert.AdamFfnColumnsRefIdeal.main_arg0)
        ∧ r.2.mem ((c.tc : Thread Cert.AdamFfnColumnsRefIdeal.nD Cert.AdamFfnColumnsRefIdeal.τ).loc Cert.AdamFfnColumnsRefIdeal.main_arg1) = m ((c.tc : Thread Cert.AdamFfnColumnsRefIdeal.nD Cert.AdamFfnColumnsRefIdeal.τ).loc Cert.AdamFfnColumnsRefIdeal.main_arg1)
        ∧ r.2.mem ((c.tc : Thread Cert.AdamFfnColumnsRefIdeal.nD Cert.AdamFfnColumnsRefIdeal.τ).loc Cert.AdamFfnColumnsRefIdeal.main_arg2) = m ((c.tc : Thread Cert.AdamFfnColumnsRefIdeal.nD Cert.AdamFfnColumnsRefIdeal.τ).loc Cert.AdamFfnColumnsRefIdeal.main_arg2)
        ∧ r.2.mem ((c.tc : Thread Cert.AdamFfnColumnsRefIdeal.nD Cert.AdamFfnColumnsRefIdeal.τ).loc Cert.AdamFfnColumnsRefIdeal.main_arg3) = m ((c.tc : Thread Cert.AdamFfnColumnsRefIdeal.nD Cert.AdamFfnColumnsRefIdeal.τ).loc Cert.AdamFfnColumnsRefIdeal.main_arg3))
        ∧ r.2.sem = fun _ => 0) :=
  (θ_run Cert.AdamFfnColumnsRefIdeal.defs _ _).mono
    (fun r h => ⟨fun c => (h c).2.2.2, sem_eq_zero_of_no_sems (by decide) r.2⟩)
    (Cert.AdamFfnColumnsRefIdeal.Value.run m ρ)

/-- The call on weights of shape 4 by 2 by 1408 by 2048: the kernel and the reference end with the same results. -/
theorem value_AdamFfnRows : Cert.algebraic_AdamFfnRowsIdeal_AdamFfnRowsRefIdeal (hAdamFfnRowsIdeal := Cert.AdamFfnRowsIdeal.Gen.facts)
    (hAdamFfnRowsRefIdeal := Cert.AdamFfnRowsRefIdeal.Gen.facts) := by
  intro m g m' g' hm ha
  refine ⟨fun c => AdamFfnRows.REF0 (m ((c.tc : Thread Cert.AdamFfnRowsIdeal.nD Cert.AdamFfnRowsIdeal.τ).loc Cert.AdamFfnRowsIdeal.main_arg0)) (m ((c.tc : Thread Cert.AdamFfnRowsIdeal.nD Cert.AdamFfnRowsIdeal.τ).loc Cert.AdamFfnRowsIdeal.main_arg1)) (m ((c.tc : Thread Cert.AdamFfnRowsIdeal.nD Cert.AdamFfnRowsIdeal.τ).loc Cert.AdamFfnRowsIdeal.main_arg2)) (m ((c.tc : Thread Cert.AdamFfnRowsIdeal.nD Cert.AdamFfnRowsIdeal.τ).loc Cert.AdamFfnRowsIdeal.main_arg3)),
    fun c => AdamFfnRows.REF1 (m ((c.tc : Thread Cert.AdamFfnRowsIdeal.nD Cert.AdamFfnRowsIdeal.τ).loc Cert.AdamFfnRowsIdeal.main_arg1)) (m ((c.tc : Thread Cert.AdamFfnRowsIdeal.nD Cert.AdamFfnRowsIdeal.τ).loc Cert.AdamFfnRowsIdeal.main_arg2)),
    fun c => AdamFfnRows.REF2 (m ((c.tc : Thread Cert.AdamFfnRowsIdeal.nD Cert.AdamFfnRowsIdeal.τ).loc Cert.AdamFfnRowsIdeal.main_arg1)) (m ((c.tc : Thread Cert.AdamFfnRowsIdeal.nD Cert.AdamFfnRowsIdeal.τ).loc Cert.AdamFfnRowsIdeal.main_arg3)),
    (θ_run Cert.AdamFfnRowsIdeal.defs _ _).mono (fun r h c => ⟨(h c).1.trans (AdamFfnRows.final4 m c), (h c).2.1.trans (AdamFfnRows.final5 m c), (h c).2.2.1.trans (AdamFfnRows.final6 m c), (h c).2.2.2⟩) (Cert.AdamFfnRowsIdeal.Value.run_blocks m g),
    (θ_run Cert.AdamFfnRowsRefIdeal.defs _ _).mono (fun r h c => ⟨(h c).1.trans (cong4 AdamFfnRows.REF0 ((ha c).1) ((ha c).2.1) ((ha c).2.2.1) ((ha c).2.2.2)),
      (h c).2.1.trans (cong2 AdamFfnRows.REF1 ((ha c).2.1) ((ha c).2.2.1)),
      (h c).2.2.1.trans (cong2 AdamFfnRows.REF2 ((ha c).2.1) ((ha c).2.2.2)), (h c).2.2.2⟩) (Cert.AdamFfnRowsRefIdeal.Value.run m' g')⟩

/-- The reference of this call leaves its arguments as they were. -/
theorem frame_AdamFfnRows (m : (ℓ : Loc Cert.AdamFfnRowsRefIdeal.nD Cert.AdamFfnRowsRefIdeal.τ Cert.AdamFfnRowsRefIdeal.sig) → Buf (Elt Ideal) ℓ) (ρ : Dev Cert.AdamFfnRowsRefIdeal.nD → PrngReg) :
    θ_run (Cert.AdamFfnRowsRefIdeal.defs (F := Ideal)) (onTc (τ := Cert.AdamFfnRowsRefIdeal.τ) (Cert.AdamFfnRowsRefIdeal.main (F := Ideal))) ⟨m, fun _ => 0, ρ⟩
      (fun r => (∀ c : Dev Cert.AdamFfnRowsRefIdeal.nD, r.2.mem ((c.tc : Thread Cert.AdamFfnRowsRefIdeal.nD Cert.AdamFfnRowsRefIdeal.τ).loc Cert.AdamFfnRowsRefIdeal.main_arg0) = m ((c.tc : Thread Cert.AdamFfnRowsRefIdeal.nD Cert.AdamFfnRowsRefIdeal.τ).loc Cert.AdamFfnRowsRefIdeal.main_arg0)
        ∧ r.2.mem ((c.tc : Thread Cert.AdamFfnRowsRefIdeal.nD Cert.AdamFfnRowsRefIdeal.τ).loc Cert.AdamFfnRowsRefIdeal.main_arg1) = m ((c.tc : Thread Cert.AdamFfnRowsRefIdeal.nD Cert.AdamFfnRowsRefIdeal.τ).loc Cert.AdamFfnRowsRefIdeal.main_arg1)
        ∧ r.2.mem ((c.tc : Thread Cert.AdamFfnRowsRefIdeal.nD Cert.AdamFfnRowsRefIdeal.τ).loc Cert.AdamFfnRowsRefIdeal.main_arg2) = m ((c.tc : Thread Cert.AdamFfnRowsRefIdeal.nD Cert.AdamFfnRowsRefIdeal.τ).loc Cert.AdamFfnRowsRefIdeal.main_arg2)
        ∧ r.2.mem ((c.tc : Thread Cert.AdamFfnRowsRefIdeal.nD Cert.AdamFfnRowsRefIdeal.τ).loc Cert.AdamFfnRowsRefIdeal.main_arg3) = m ((c.tc : Thread Cert.AdamFfnRowsRefIdeal.nD Cert.AdamFfnRowsRefIdeal.τ).loc Cert.AdamFfnRowsRefIdeal.main_arg3))
        ∧ r.2.sem = fun _ => 0) :=
  (θ_run Cert.AdamFfnRowsRefIdeal.defs _ _).mono
    (fun r h => ⟨fun c => (h c).2.2.2, sem_eq_zero_of_no_sems (by decide) r.2⟩)
    (Cert.AdamFfnRowsRefIdeal.Value.run m ρ)

/-- The call on weights of shape 16 by 512: the kernel and the reference end with the same results. -/
theorem value_AdamMeta : Cert.algebraic_AdamMetaIdeal_AdamMetaRefIdeal (hAdamMetaIdeal := Cert.AdamMetaIdeal.Gen.facts)
    (hAdamMetaRefIdeal := Cert.AdamMetaRefIdeal.Gen.facts) := by
  intro m g m' g' hm ha
  refine ⟨fun c => AdamMeta.REF0 (m ((c.tc : Thread Cert.AdamMetaIdeal.nD Cert.AdamMetaIdeal.τ).loc Cert.AdamMetaIdeal.main_arg0)) (m ((c.tc : Thread Cert.AdamMetaIdeal.nD Cert.AdamMetaIdeal.τ).loc Cert.AdamMetaIdeal.main_arg1)) (m ((c.tc : Thread Cert.AdamMetaIdeal.nD Cert.AdamMetaIdeal.τ).loc Cert.AdamMetaIdeal.main_arg2)) (m ((c.tc : Thread Cert.AdamMetaIdeal.nD Cert.AdamMetaIdeal.τ).loc Cert.AdamMetaIdeal.main_arg3)),
    fun c => AdamMeta.REF1 (m ((c.tc : Thread Cert.AdamMetaIdeal.nD Cert.AdamMetaIdeal.τ).loc Cert.AdamMetaIdeal.main_arg1)) (m ((c.tc : Thread Cert.AdamMetaIdeal.nD Cert.AdamMetaIdeal.τ).loc Cert.AdamMetaIdeal.main_arg2)),
    fun c => AdamMeta.REF2 (m ((c.tc : Thread Cert.AdamMetaIdeal.nD Cert.AdamMetaIdeal.τ).loc Cert.AdamMetaIdeal.main_arg1)) (m ((c.tc : Thread Cert.AdamMetaIdeal.nD Cert.AdamMetaIdeal.τ).loc Cert.AdamMetaIdeal.main_arg3)),
    (θ_run Cert.AdamMetaIdeal.defs _ _).mono (fun r h c => ⟨(h c).1.trans (AdamMeta.final4 m c), (h c).2.1.trans (AdamMeta.final5 m c), (h c).2.2.1.trans (AdamMeta.final6 m c), (h c).2.2.2⟩) (Cert.AdamMetaIdeal.Value.run_blocks m g),
    (θ_run Cert.AdamMetaRefIdeal.defs _ _).mono (fun r h c => ⟨(h c).1.trans (cong4 AdamMeta.REF0 ((ha c).1) ((ha c).2.1) ((ha c).2.2.1) ((ha c).2.2.2)),
      (h c).2.1.trans (cong2 AdamMeta.REF1 ((ha c).2.1) ((ha c).2.2.1)),
      (h c).2.2.1.trans (cong2 AdamMeta.REF2 ((ha c).2.1) ((ha c).2.2.2)), (h c).2.2.2⟩) (Cert.AdamMetaRefIdeal.Value.run m' g')⟩

/-- The reference of this call leaves its arguments as they were. -/
theorem frame_AdamMeta (m : (ℓ : Loc Cert.AdamMetaRefIdeal.nD Cert.AdamMetaRefIdeal.τ Cert.AdamMetaRefIdeal.sig) → Buf (Elt Ideal) ℓ) (ρ : Dev Cert.AdamMetaRefIdeal.nD → PrngReg) :
    θ_run (Cert.AdamMetaRefIdeal.defs (F := Ideal)) (onTc (τ := Cert.AdamMetaRefIdeal.τ) (Cert.AdamMetaRefIdeal.main (F := Ideal))) ⟨m, fun _ => 0, ρ⟩
      (fun r => (∀ c : Dev Cert.AdamMetaRefIdeal.nD, r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
        ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
        ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
        ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
        ∧ r.2.sem = fun _ => 0) :=
  (θ_run Cert.AdamMetaRefIdeal.defs _ _).mono
    (fun r h => ⟨fun c => (h c).2.2.2, sem_eq_zero_of_no_sems (by decide) r.2⟩)
    (Cert.AdamMetaRefIdeal.Value.run m ρ)

/-- The call on weights of shape 4 by 3 by 512: the kernel and the reference end with the same results. -/
theorem value_AdamNorms : Cert.algebraic_AdamNormsIdeal_AdamNormsRefIdeal (hAdamNormsIdeal := Cert.AdamNormsIdeal.Gen.facts)
    (hAdamNormsRefIdeal := Cert.AdamNormsRefIdeal.Gen.facts) := by
  intro m g m' g' hm ha
  refine ⟨fun c => AdamNorms.REF0 (m ((c.tc : Thread Cert.AdamNormsIdeal.nD Cert.AdamNormsIdeal.τ).loc Cert.AdamNormsIdeal.main_arg0)) (m ((c.tc : Thread Cert.AdamNormsIdeal.nD Cert.AdamNormsIdeal.τ).loc Cert.AdamNormsIdeal.main_arg1)) (m ((c.tc : Thread Cert.AdamNormsIdeal.nD Cert.AdamNormsIdeal.τ).loc Cert.AdamNormsIdeal.main_arg2)) (m ((c.tc : Thread Cert.AdamNormsIdeal.nD Cert.AdamNormsIdeal.τ).loc Cert.AdamNormsIdeal.main_arg3)),
    fun c => AdamNorms.REF1 (m ((c.tc : Thread Cert.AdamNormsIdeal.nD Cert.AdamNormsIdeal.τ).loc Cert.AdamNormsIdeal.main_arg1)) (m ((c.tc : Thread Cert.AdamNormsIdeal.nD Cert.AdamNormsIdeal.τ).loc Cert.AdamNormsIdeal.main_arg2)),
    fun c => AdamNorms.REF2 (m ((c.tc : Thread Cert.AdamNormsIdeal.nD Cert.AdamNormsIdeal.τ).loc Cert.AdamNormsIdeal.main_arg1)) (m ((c.tc : Thread Cert.AdamNormsIdeal.nD Cert.AdamNormsIdeal.τ).loc Cert.AdamNormsIdeal.main_arg3)),
    (θ_run Cert.AdamNormsIdeal.defs _ _).mono (fun r h c => ⟨(h c).1.trans (AdamNorms.final4 m c), (h c).2.1.trans (AdamNorms.final5 m c), (h c).2.2.1.trans (AdamNorms.final6 m c), (h c).2.2.2⟩) (Cert.AdamNormsIdeal.Value.run_blocks m g),
    (θ_run Cert.AdamNormsRefIdeal.defs _ _).mono (fun r h c => ⟨(h c).1.trans (cong4 AdamNorms.REF0 ((ha c).1) ((ha c).2.1) ((ha c).2.2.1) ((ha c).2.2.2)),
      (h c).2.1.trans (cong2 AdamNorms.REF1 ((ha c).2.1) ((ha c).2.2.1)),
      (h c).2.2.1.trans (cong2 AdamNorms.REF2 ((ha c).2.1) ((ha c).2.2.2)), (h c).2.2.2⟩) (Cert.AdamNormsRefIdeal.Value.run m' g')⟩

/-- The reference of this call leaves its arguments as they were. -/
theorem frame_AdamNorms (m : (ℓ : Loc Cert.AdamNormsRefIdeal.nD Cert.AdamNormsRefIdeal.τ Cert.AdamNormsRefIdeal.sig) → Buf (Elt Ideal) ℓ) (ρ : Dev Cert.AdamNormsRefIdeal.nD → PrngReg) :
    θ_run (Cert.AdamNormsRefIdeal.defs (F := Ideal)) (onTc (τ := Cert.AdamNormsRefIdeal.τ) (Cert.AdamNormsRefIdeal.main (F := Ideal))) ⟨m, fun _ => 0, ρ⟩
      (fun r => (∀ c : Dev Cert.AdamNormsRefIdeal.nD, r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
        ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
        ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
        ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3))
        ∧ r.2.sem = fun _ => 0) :=
  (θ_run Cert.AdamNormsRefIdeal.defs _ _).mono
    (fun r h => ⟨fun c => (h c).2.2.2, sem_eq_zero_of_no_sems (by decide) r.2⟩)
    (Cert.AdamNormsRefIdeal.Value.run m ρ)

/-- The call on weights of shape 1 by 2048 by 1540: the kernel and the reference end with the same results. -/
theorem value_AdamMlstmIn : Cert.algebraic_AdamMlstmInIdeal_AdamMlstmInRefIdeal (hAdamMlstmInIdeal := Cert.AdamMlstmInIdeal.Gen.facts)
    (hAdamMlstmInRefIdeal := Cert.AdamMlstmInRefIdeal.Gen.facts) := by
  intro m g m' g' hm ha
  refine ⟨fun c => AdamMlstmIn.REF0 (m ((c.tc : Thread Cert.AdamMlstmInIdeal.nD Cert.AdamMlstmInIdeal.τ).loc Cert.AdamMlstmInIdeal.main_arg0)) (m ((c.tc : Thread Cert.AdamMlstmInIdeal.nD Cert.AdamMlstmInIdeal.τ).loc Cert.AdamMlstmInIdeal.main_arg1)) (m ((c.tc : Thread Cert.AdamMlstmInIdeal.nD Cert.AdamMlstmInIdeal.τ).loc Cert.AdamMlstmInIdeal.main_arg2)) (m ((c.tc : Thread Cert.AdamMlstmInIdeal.nD Cert.AdamMlstmInIdeal.τ).loc Cert.AdamMlstmInIdeal.main_arg3)),
    fun c => AdamMlstmIn.REF1 (m ((c.tc : Thread Cert.AdamMlstmInIdeal.nD Cert.AdamMlstmInIdeal.τ).loc Cert.AdamMlstmInIdeal.main_arg1)) (m ((c.tc : Thread Cert.AdamMlstmInIdeal.nD Cert.AdamMlstmInIdeal.τ).loc Cert.AdamMlstmInIdeal.main_arg2)),
    fun c => AdamMlstmIn.REF2 (m ((c.tc : Thread Cert.AdamMlstmInIdeal.nD Cert.AdamMlstmInIdeal.τ).loc Cert.AdamMlstmInIdeal.main_arg1)) (m ((c.tc : Thread Cert.AdamMlstmInIdeal.nD Cert.AdamMlstmInIdeal.τ).loc Cert.AdamMlstmInIdeal.main_arg3)),
    (θ_run Cert.AdamMlstmInIdeal.defs _ _).mono (fun r h c => ⟨(h c).1.trans (AdamMlstmIn.final4 m c), (h c).2.1.trans (AdamMlstmIn.final5 m c), (h c).2.2.1.trans (AdamMlstmIn.final6 m c), (h c).2.2.2⟩) (Cert.AdamMlstmInIdeal.Value.run_blocks m g),
    (θ_run Cert.AdamMlstmInRefIdeal.defs _ _).mono (fun r h c => ⟨(h c).1.trans (cong4 AdamMlstmIn.REF0 ((ha c).1) ((ha c).2.1) ((ha c).2.2.1) ((ha c).2.2.2)),
      (h c).2.1.trans (cong2 AdamMlstmIn.REF1 ((ha c).2.1) ((ha c).2.2.1)),
      (h c).2.2.1.trans (cong2 AdamMlstmIn.REF2 ((ha c).2.1) ((ha c).2.2.2)), (h c).2.2.2⟩) (Cert.AdamMlstmInRefIdeal.Value.run m' g')⟩

/-- The reference of this call leaves its arguments as they were. -/
theorem frame_AdamMlstmIn (m : (ℓ : Loc Cert.AdamMlstmInRefIdeal.nD Cert.AdamMlstmInRefIdeal.τ Cert.AdamMlstmInRefIdeal.sig) → Buf (Elt Ideal) ℓ) (ρ : Dev Cert.AdamMlstmInRefIdeal.nD → PrngReg) :
    θ_run (Cert.AdamMlstmInRefIdeal.defs (F := Ideal)) (onTc (τ := Cert.AdamMlstmInRefIdeal.τ) (Cert.AdamMlstmInRefIdeal.main (F := Ideal))) ⟨m, fun _ => 0, ρ⟩
      (fun r => (∀ c : Dev Cert.AdamMlstmInRefIdeal.nD, r.2.mem ((c.tc : Thread Cert.AdamMlstmInRefIdeal.nD Cert.AdamMlstmInRefIdeal.τ).loc Cert.AdamMlstmInRefIdeal.main_arg0) = m ((c.tc : Thread Cert.AdamMlstmInRefIdeal.nD Cert.AdamMlstmInRefIdeal.τ).loc Cert.AdamMlstmInRefIdeal.main_arg0)
        ∧ r.2.mem ((c.tc : Thread Cert.AdamMlstmInRefIdeal.nD Cert.AdamMlstmInRefIdeal.τ).loc Cert.AdamMlstmInRefIdeal.main_arg1) = m ((c.tc : Thread Cert.AdamMlstmInRefIdeal.nD Cert.AdamMlstmInRefIdeal.τ).loc Cert.AdamMlstmInRefIdeal.main_arg1)
        ∧ r.2.mem ((c.tc : Thread Cert.AdamMlstmInRefIdeal.nD Cert.AdamMlstmInRefIdeal.τ).loc Cert.AdamMlstmInRefIdeal.main_arg2) = m ((c.tc : Thread Cert.AdamMlstmInRefIdeal.nD Cert.AdamMlstmInRefIdeal.τ).loc Cert.AdamMlstmInRefIdeal.main_arg2)
        ∧ r.2.mem ((c.tc : Thread Cert.AdamMlstmInRefIdeal.nD Cert.AdamMlstmInRefIdeal.τ).loc Cert.AdamMlstmInRefIdeal.main_arg3) = m ((c.tc : Thread Cert.AdamMlstmInRefIdeal.nD Cert.AdamMlstmInRefIdeal.τ).loc Cert.AdamMlstmInRefIdeal.main_arg3))
        ∧ r.2.sem = fun _ => 0) :=
  (θ_run Cert.AdamMlstmInRefIdeal.defs _ _).mono
    (fun r h => ⟨fun c => (h c).2.2.2, sem_eq_zero_of_no_sems (by decide) r.2⟩)
    (Cert.AdamMlstmInRefIdeal.Value.run m ρ)

/-- The call on weights of shape 1 by 512 by 2048: the kernel and the reference end with the same results. -/
theorem value_AdamSquareOut : Cert.algebraic_AdamSquareOutIdeal_AdamSquareOutRefIdeal (hAdamSquareOutIdeal := Cert.AdamSquareOutIdeal.Gen.facts)
    (hAdamSquareOutRefIdeal := Cert.AdamSquareOutRefIdeal.Gen.facts) := by
  intro m g m' g' hm ha
  refine ⟨fun c => AdamSquareOut.REF0 (m ((c.tc : Thread Cert.AdamSquareOutIdeal.nD Cert.AdamSquareOutIdeal.τ).loc Cert.AdamSquareOutIdeal.main_arg0)) (m ((c.tc : Thread Cert.AdamSquareOutIdeal.nD Cert.AdamSquareOutIdeal.τ).loc Cert.AdamSquareOutIdeal.main_arg1)) (m ((c.tc : Thread Cert.AdamSquareOutIdeal.nD Cert.AdamSquareOutIdeal.τ).loc Cert.AdamSquareOutIdeal.main_arg2)) (m ((c.tc : Thread Cert.AdamSquareOutIdeal.nD Cert.AdamSquareOutIdeal.τ).loc Cert.AdamSquareOutIdeal.main_arg3)),
    fun c => AdamSquareOut.REF1 (m ((c.tc : Thread Cert.AdamSquareOutIdeal.nD Cert.AdamSquareOutIdeal.τ).loc Cert.AdamSquareOutIdeal.main_arg1)) (m ((c.tc : Thread Cert.AdamSquareOutIdeal.nD Cert.AdamSquareOutIdeal.τ).loc Cert.AdamSquareOutIdeal.main_arg2)),
    fun c => AdamSquareOut.REF2 (m ((c.tc : Thread Cert.AdamSquareOutIdeal.nD Cert.AdamSquareOutIdeal.τ).loc Cert.AdamSquareOutIdeal.main_arg1)) (m ((c.tc : Thread Cert.AdamSquareOutIdeal.nD Cert.AdamSquareOutIdeal.τ).loc Cert.AdamSquareOutIdeal.main_arg3)),
    (θ_run Cert.AdamSquareOutIdeal.defs _ _).mono (fun r h c => ⟨(h c).1.trans (AdamSquareOut.final4 m c), (h c).2.1.trans (AdamSquareOut.final5 m c), (h c).2.2.1.trans (AdamSquareOut.final6 m c), (h c).2.2.2⟩) (Cert.AdamSquareOutIdeal.Value.run_blocks m g),
    (θ_run Cert.AdamSquareOutRefIdeal.defs _ _).mono (fun r h c => ⟨(h c).1.trans (cong4 AdamSquareOut.REF0 ((ha c).1) ((ha c).2.1) ((ha c).2.2.1) ((ha c).2.2.2)),
      (h c).2.1.trans (cong2 AdamSquareOut.REF1 ((ha c).2.1) ((ha c).2.2.1)),
      (h c).2.2.1.trans (cong2 AdamSquareOut.REF2 ((ha c).2.1) ((ha c).2.2.2)), (h c).2.2.2⟩) (Cert.AdamSquareOutRefIdeal.Value.run m' g')⟩

/-- The reference of this call leaves its arguments as they were. -/
theorem frame_AdamSquareOut (m : (ℓ : Loc Cert.AdamSquareOutRefIdeal.nD Cert.AdamSquareOutRefIdeal.τ Cert.AdamSquareOutRefIdeal.sig) → Buf (Elt Ideal) ℓ) (ρ : Dev Cert.AdamSquareOutRefIdeal.nD → PrngReg) :
    θ_run (Cert.AdamSquareOutRefIdeal.defs (F := Ideal)) (onTc (τ := Cert.AdamSquareOutRefIdeal.τ) (Cert.AdamSquareOutRefIdeal.main (F := Ideal))) ⟨m, fun _ => 0, ρ⟩
      (fun r => (∀ c : Dev Cert.AdamSquareOutRefIdeal.nD, r.2.mem ((c.tc : Thread Cert.AdamSquareOutRefIdeal.nD Cert.AdamSquareOutRefIdeal.τ).loc Cert.AdamSquareOutRefIdeal.main_arg0) = m ((c.tc : Thread Cert.AdamSquareOutRefIdeal.nD Cert.AdamSquareOutRefIdeal.τ).loc Cert.AdamSquareOutRefIdeal.main_arg0)
        ∧ r.2.mem ((c.tc : Thread Cert.AdamSquareOutRefIdeal.nD Cert.AdamSquareOutRefIdeal.τ).loc Cert.AdamSquareOutRefIdeal.main_arg1) = m ((c.tc : Thread Cert.AdamSquareOutRefIdeal.nD Cert.AdamSquareOutRefIdeal.τ).loc Cert.AdamSquareOutRefIdeal.main_arg1)
        ∧ r.2.mem ((c.tc : Thread Cert.AdamSquareOutRefIdeal.nD Cert.AdamSquareOutRefIdeal.τ).loc Cert.AdamSquareOutRefIdeal.main_arg2) = m ((c.tc : Thread Cert.AdamSquareOutRefIdeal.nD Cert.AdamSquareOutRefIdeal.τ).loc Cert.AdamSquareOutRefIdeal.main_arg2)
        ∧ r.2.mem ((c.tc : Thread Cert.AdamSquareOutRefIdeal.nD Cert.AdamSquareOutRefIdeal.τ).loc Cert.AdamSquareOutRefIdeal.main_arg3) = m ((c.tc : Thread Cert.AdamSquareOutRefIdeal.nD Cert.AdamSquareOutRefIdeal.τ).loc Cert.AdamSquareOutRefIdeal.main_arg3))
        ∧ r.2.sem = fun _ => 0) :=
  (θ_run Cert.AdamSquareOutRefIdeal.defs _ _).mono
    (fun r h => ⟨fun c => (h c).2.2.2, sem_eq_zero_of_no_sems (by decide) r.2⟩)
    (Cert.AdamSquareOutRefIdeal.Value.run m ρ)

/-- The call on weights of shape 1 by 16: the kernel and the reference end with the same results. -/
theorem value_AdamMlstmBias : Cert.algebraic_AdamMlstmBiasIdeal_AdamMlstmBiasRefIdeal (hAdamMlstmBiasIdeal := Cert.AdamMlstmBiasIdeal.Gen.facts)
    (hAdamMlstmBiasRefIdeal := Cert.AdamMlstmBiasRefIdeal.Gen.facts) := by
  intro m g m' g' hm ha
  refine ⟨fun c => AdamMlstmBias.REF0 (m ((c.tc : Thread Cert.AdamMlstmBiasIdeal.nD Cert.AdamMlstmBiasIdeal.τ).loc Cert.AdamMlstmBiasIdeal.main_arg0)) (m ((c.tc : Thread Cert.AdamMlstmBiasIdeal.nD Cert.AdamMlstmBiasIdeal.τ).loc Cert.AdamMlstmBiasIdeal.main_arg1)) (m ((c.tc : Thread Cert.AdamMlstmBiasIdeal.nD Cert.AdamMlstmBiasIdeal.τ).loc Cert.AdamMlstmBiasIdeal.main_arg2)) (m ((c.tc : Thread Cert.AdamMlstmBiasIdeal.nD Cert.AdamMlstmBiasIdeal.τ).loc Cert.AdamMlstmBiasIdeal.main_arg3)),
    fun c => AdamMlstmBias.REF1 (m ((c.tc : Thread Cert.AdamMlstmBiasIdeal.nD Cert.AdamMlstmBiasIdeal.τ).loc Cert.AdamMlstmBiasIdeal.main_arg1)) (m ((c.tc : Thread Cert.AdamMlstmBiasIdeal.nD Cert.AdamMlstmBiasIdeal.τ).loc Cert.AdamMlstmBiasIdeal.main_arg2)),
    fun c => AdamMlstmBias.REF2 (m ((c.tc : Thread Cert.AdamMlstmBiasIdeal.nD Cert.AdamMlstmBiasIdeal.τ).loc Cert.AdamMlstmBiasIdeal.main_arg1)) (m ((c.tc : Thread Cert.AdamMlstmBiasIdeal.nD Cert.AdamMlstmBiasIdeal.τ).loc Cert.AdamMlstmBiasIdeal.main_arg3)),
    (θ_run Cert.AdamMlstmBiasIdeal.defs _ _).mono (fun r h c => ⟨(h c).1.trans (AdamMlstmBias.final4 m c), (h c).2.1.trans (AdamMlstmBias.final5 m c), (h c).2.2.1.trans (AdamMlstmBias.final6 m c), (h c).2.2.2⟩) (Cert.AdamMlstmBiasIdeal.Value.run_blocks m g),
    (θ_run Cert.AdamMlstmBiasRefIdeal.defs _ _).mono (fun r h c => ⟨(h c).1.trans (cong4 AdamMlstmBias.REF0 ((ha c).1) ((ha c).2.1) ((ha c).2.2.1) ((ha c).2.2.2)),
      (h c).2.1.trans (cong2 AdamMlstmBias.REF1 ((ha c).2.1) ((ha c).2.2.1)),
      (h c).2.2.1.trans (cong2 AdamMlstmBias.REF2 ((ha c).2.1) ((ha c).2.2.2)), (h c).2.2.2⟩) (Cert.AdamMlstmBiasRefIdeal.Value.run m' g')⟩

/-- The reference of this call leaves its arguments as they were. -/
theorem frame_AdamMlstmBias (m : (ℓ : Loc Cert.AdamMlstmBiasRefIdeal.nD Cert.AdamMlstmBiasRefIdeal.τ Cert.AdamMlstmBiasRefIdeal.sig) → Buf (Elt Ideal) ℓ) (ρ : Dev Cert.AdamMlstmBiasRefIdeal.nD → PrngReg) :
    θ_run (Cert.AdamMlstmBiasRefIdeal.defs (F := Ideal)) (onTc (τ := Cert.AdamMlstmBiasRefIdeal.τ) (Cert.AdamMlstmBiasRefIdeal.main (F := Ideal))) ⟨m, fun _ => 0, ρ⟩
      (fun r => (∀ c : Dev Cert.AdamMlstmBiasRefIdeal.nD, r.2.mem ((c.tc : Thread Cert.AdamMlstmBiasRefIdeal.nD Cert.AdamMlstmBiasRefIdeal.τ).loc Cert.AdamMlstmBiasRefIdeal.main_arg0) = m ((c.tc : Thread Cert.AdamMlstmBiasRefIdeal.nD Cert.AdamMlstmBiasRefIdeal.τ).loc Cert.AdamMlstmBiasRefIdeal.main_arg0)
        ∧ r.2.mem ((c.tc : Thread Cert.AdamMlstmBiasRefIdeal.nD Cert.AdamMlstmBiasRefIdeal.τ).loc Cert.AdamMlstmBiasRefIdeal.main_arg1) = m ((c.tc : Thread Cert.AdamMlstmBiasRefIdeal.nD Cert.AdamMlstmBiasRefIdeal.τ).loc Cert.AdamMlstmBiasRefIdeal.main_arg1)
        ∧ r.2.mem ((c.tc : Thread Cert.AdamMlstmBiasRefIdeal.nD Cert.AdamMlstmBiasRefIdeal.τ).loc Cert.AdamMlstmBiasRefIdeal.main_arg2) = m ((c.tc : Thread Cert.AdamMlstmBiasRefIdeal.nD Cert.AdamMlstmBiasRefIdeal.τ).loc Cert.AdamMlstmBiasRefIdeal.main_arg2)
        ∧ r.2.mem ((c.tc : Thread Cert.AdamMlstmBiasRefIdeal.nD Cert.AdamMlstmBiasRefIdeal.τ).loc Cert.AdamMlstmBiasRefIdeal.main_arg3) = m ((c.tc : Thread Cert.AdamMlstmBiasRefIdeal.nD Cert.AdamMlstmBiasRefIdeal.τ).loc Cert.AdamMlstmBiasRefIdeal.main_arg3))
        ∧ r.2.sem = fun _ => 0) :=
  (θ_run Cert.AdamMlstmBiasRefIdeal.defs _ _).mono
    (fun r h => ⟨fun c => (h c).2.2.2, sem_eq_zero_of_no_sems (by decide) r.2⟩)
    (Cert.AdamMlstmBiasRefIdeal.Value.run m ρ)

/-- The call on weights of shape 1 by 2048: the kernel and the reference end with the same results. -/
theorem value_AdamRow2048 : Cert.algebraic_AdamRow2048Ideal_AdamRow2048RefIdeal (hAdamRow2048Ideal := Cert.AdamRow2048Ideal.Gen.facts)
    (hAdamRow2048RefIdeal := Cert.AdamRow2048RefIdeal.Gen.facts) := by
  intro m g m' g' hm ha
  refine ⟨fun c => AdamRow2048.REF0 (m ((c.tc : Thread Cert.AdamRow2048Ideal.nD Cert.AdamRow2048Ideal.τ).loc Cert.AdamRow2048Ideal.main_arg0)) (m ((c.tc : Thread Cert.AdamRow2048Ideal.nD Cert.AdamRow2048Ideal.τ).loc Cert.AdamRow2048Ideal.main_arg1)) (m ((c.tc : Thread Cert.AdamRow2048Ideal.nD Cert.AdamRow2048Ideal.τ).loc Cert.AdamRow2048Ideal.main_arg2)) (m ((c.tc : Thread Cert.AdamRow2048Ideal.nD Cert.AdamRow2048Ideal.τ).loc Cert.AdamRow2048Ideal.main_arg3)),
    fun c => AdamRow2048.REF1 (m ((c.tc : Thread Cert.AdamRow2048Ideal.nD Cert.AdamRow2048Ideal.τ).loc Cert.AdamRow2048Ideal.main_arg1)) (m ((c.tc : Thread Cert.AdamRow2048Ideal.nD Cert.AdamRow2048Ideal.τ).loc Cert.AdamRow2048Ideal.main_arg2)),
    fun c => AdamRow2048.REF2 (m ((c.tc : Thread Cert.AdamRow2048Ideal.nD Cert.AdamRow2048Ideal.τ).loc Cert.AdamRow2048Ideal.main_arg1)) (m ((c.tc : Thread Cert.AdamRow2048Ideal.nD Cert.AdamRow2048Ideal.τ).loc Cert.AdamRow2048Ideal.main_arg3)),
    (θ_run Cert.AdamRow2048Ideal.defs _ _).mono (fun r h c => ⟨(h c).1.trans (AdamRow2048.final4 m c), (h c).2.1.trans (AdamRow2048.final5 m c), (h c).2.2.1.trans (AdamRow2048.final6 m c), (h c).2.2.2⟩) (Cert.AdamRow2048Ideal.Value.run_blocks m g),
    (θ_run Cert.AdamRow2048RefIdeal.defs _ _).mono (fun r h c => ⟨(h c).1.trans (cong4 AdamRow2048.REF0 ((ha c).1) ((ha c).2.1) ((ha c).2.2.1) ((ha c).2.2.2)),
      (h c).2.1.trans (cong2 AdamRow2048.REF1 ((ha c).2.1) ((ha c).2.2.1)),
      (h c).2.2.1.trans (cong2 AdamRow2048.REF2 ((ha c).2.1) ((ha c).2.2.2)), (h c).2.2.2⟩) (Cert.AdamRow2048RefIdeal.Value.run m' g')⟩

/-- The reference of this call leaves its arguments as they were. -/
theorem frame_AdamRow2048 (m : (ℓ : Loc Cert.AdamRow2048RefIdeal.nD Cert.AdamRow2048RefIdeal.τ Cert.AdamRow2048RefIdeal.sig) → Buf (Elt Ideal) ℓ) (ρ : Dev Cert.AdamRow2048RefIdeal.nD → PrngReg) :
    θ_run (Cert.AdamRow2048RefIdeal.defs (F := Ideal)) (onTc (τ := Cert.AdamRow2048RefIdeal.τ) (Cert.AdamRow2048RefIdeal.main (F := Ideal))) ⟨m, fun _ => 0, ρ⟩
      (fun r => (∀ c : Dev Cert.AdamRow2048RefIdeal.nD, r.2.mem ((c.tc : Thread Cert.AdamRow2048RefIdeal.nD Cert.AdamRow2048RefIdeal.τ).loc Cert.AdamRow2048RefIdeal.main_arg0) = m ((c.tc : Thread Cert.AdamRow2048RefIdeal.nD Cert.AdamRow2048RefIdeal.τ).loc Cert.AdamRow2048RefIdeal.main_arg0)
        ∧ r.2.mem ((c.tc : Thread Cert.AdamRow2048RefIdeal.nD Cert.AdamRow2048RefIdeal.τ).loc Cert.AdamRow2048RefIdeal.main_arg1) = m ((c.tc : Thread Cert.AdamRow2048RefIdeal.nD Cert.AdamRow2048RefIdeal.τ).loc Cert.AdamRow2048RefIdeal.main_arg1)
        ∧ r.2.mem ((c.tc : Thread Cert.AdamRow2048RefIdeal.nD Cert.AdamRow2048RefIdeal.τ).loc Cert.AdamRow2048RefIdeal.main_arg2) = m ((c.tc : Thread Cert.AdamRow2048RefIdeal.nD Cert.AdamRow2048RefIdeal.τ).loc Cert.AdamRow2048RefIdeal.main_arg2)
        ∧ r.2.mem ((c.tc : Thread Cert.AdamRow2048RefIdeal.nD Cert.AdamRow2048RefIdeal.τ).loc Cert.AdamRow2048RefIdeal.main_arg3) = m ((c.tc : Thread Cert.AdamRow2048RefIdeal.nD Cert.AdamRow2048RefIdeal.τ).loc Cert.AdamRow2048RefIdeal.main_arg3))
        ∧ r.2.sem = fun _ => 0) :=
  (θ_run Cert.AdamRow2048RefIdeal.defs _ _).mono
    (fun r h => ⟨fun c => (h c).2.2.2, sem_eq_zero_of_no_sems (by decide) r.2⟩)
    (Cert.AdamRow2048RefIdeal.Value.run m ρ)

/-- The call on weights of shape 1 by 4 by 128 by 512: the kernel and the reference end with the same results. -/
theorem value_AdamPoolWeight : Cert.algebraic_AdamPoolWeightIdeal_AdamPoolWeightRefIdeal (hAdamPoolWeightIdeal := Cert.AdamPoolWeightIdeal.Gen.facts)
    (hAdamPoolWeightRefIdeal := Cert.AdamPoolWeightRefIdeal.Gen.facts) := by
  intro m g m' g' hm ha
  refine ⟨fun c => AdamPoolWeight.REF0 (m ((c.tc : Thread Cert.AdamPoolWeightIdeal.nD Cert.AdamPoolWeightIdeal.τ).loc Cert.AdamPoolWeightIdeal.main_arg0)) (m ((c.tc : Thread Cert.AdamPoolWeightIdeal.nD Cert.AdamPoolWeightIdeal.τ).loc Cert.AdamPoolWeightIdeal.main_arg1)) (m ((c.tc : Thread Cert.AdamPoolWeightIdeal.nD Cert.AdamPoolWeightIdeal.τ).loc Cert.AdamPoolWeightIdeal.main_arg2)) (m ((c.tc : Thread Cert.AdamPoolWeightIdeal.nD Cert.AdamPoolWeightIdeal.τ).loc Cert.AdamPoolWeightIdeal.main_arg3)),
    fun c => AdamPoolWeight.REF1 (m ((c.tc : Thread Cert.AdamPoolWeightIdeal.nD Cert.AdamPoolWeightIdeal.τ).loc Cert.AdamPoolWeightIdeal.main_arg1)) (m ((c.tc : Thread Cert.AdamPoolWeightIdeal.nD Cert.AdamPoolWeightIdeal.τ).loc Cert.AdamPoolWeightIdeal.main_arg2)),
    fun c => AdamPoolWeight.REF2 (m ((c.tc : Thread Cert.AdamPoolWeightIdeal.nD Cert.AdamPoolWeightIdeal.τ).loc Cert.AdamPoolWeightIdeal.main_arg1)) (m ((c.tc : Thread Cert.AdamPoolWeightIdeal.nD Cert.AdamPoolWeightIdeal.τ).loc Cert.AdamPoolWeightIdeal.main_arg3)),
    (θ_run Cert.AdamPoolWeightIdeal.defs _ _).mono (fun r h c => ⟨(h c).1.trans (AdamPoolWeight.final4 m c), (h c).2.1.trans (AdamPoolWeight.final5 m c), (h c).2.2.1.trans (AdamPoolWeight.final6 m c), (h c).2.2.2⟩) (Cert.AdamPoolWeightIdeal.Value.run_blocks m g),
    (θ_run Cert.AdamPoolWeightRefIdeal.defs _ _).mono (fun r h c => ⟨(h c).1.trans (cong4 AdamPoolWeight.REF0 ((ha c).1) ((ha c).2.1) ((ha c).2.2.1) ((ha c).2.2.2)),
      (h c).2.1.trans (cong2 AdamPoolWeight.REF1 ((ha c).2.1) ((ha c).2.2.1)),
      (h c).2.2.1.trans (cong2 AdamPoolWeight.REF2 ((ha c).2.1) ((ha c).2.2.2)), (h c).2.2.2⟩) (Cert.AdamPoolWeightRefIdeal.Value.run m' g')⟩

/-- The reference of this call leaves its arguments as they were. -/
theorem frame_AdamPoolWeight (m : (ℓ : Loc Cert.AdamPoolWeightRefIdeal.nD Cert.AdamPoolWeightRefIdeal.τ Cert.AdamPoolWeightRefIdeal.sig) → Buf (Elt Ideal) ℓ) (ρ : Dev Cert.AdamPoolWeightRefIdeal.nD → PrngReg) :
    θ_run (Cert.AdamPoolWeightRefIdeal.defs (F := Ideal)) (onTc (τ := Cert.AdamPoolWeightRefIdeal.τ) (Cert.AdamPoolWeightRefIdeal.main (F := Ideal))) ⟨m, fun _ => 0, ρ⟩
      (fun r => (∀ c : Dev Cert.AdamPoolWeightRefIdeal.nD, r.2.mem ((c.tc : Thread Cert.AdamPoolWeightRefIdeal.nD Cert.AdamPoolWeightRefIdeal.τ).loc Cert.AdamPoolWeightRefIdeal.main_arg0) = m ((c.tc : Thread Cert.AdamPoolWeightRefIdeal.nD Cert.AdamPoolWeightRefIdeal.τ).loc Cert.AdamPoolWeightRefIdeal.main_arg0)
        ∧ r.2.mem ((c.tc : Thread Cert.AdamPoolWeightRefIdeal.nD Cert.AdamPoolWeightRefIdeal.τ).loc Cert.AdamPoolWeightRefIdeal.main_arg1) = m ((c.tc : Thread Cert.AdamPoolWeightRefIdeal.nD Cert.AdamPoolWeightRefIdeal.τ).loc Cert.AdamPoolWeightRefIdeal.main_arg1)
        ∧ r.2.mem ((c.tc : Thread Cert.AdamPoolWeightRefIdeal.nD Cert.AdamPoolWeightRefIdeal.τ).loc Cert.AdamPoolWeightRefIdeal.main_arg2) = m ((c.tc : Thread Cert.AdamPoolWeightRefIdeal.nD Cert.AdamPoolWeightRefIdeal.τ).loc Cert.AdamPoolWeightRefIdeal.main_arg2)
        ∧ r.2.mem ((c.tc : Thread Cert.AdamPoolWeightRefIdeal.nD Cert.AdamPoolWeightRefIdeal.τ).loc Cert.AdamPoolWeightRefIdeal.main_arg3) = m ((c.tc : Thread Cert.AdamPoolWeightRefIdeal.nD Cert.AdamPoolWeightRefIdeal.τ).loc Cert.AdamPoolWeightRefIdeal.main_arg3))
        ∧ r.2.sem = fun _ => 0) :=
  (θ_run Cert.AdamPoolWeightRefIdeal.defs _ _).mono
    (fun r h => ⟨fun c => (h c).2.2.2, sem_eq_zero_of_no_sems (by decide) r.2⟩)
    (Cert.AdamPoolWeightRefIdeal.Value.run m ρ)

/-- The call on weights of shape 1 by 512: the kernel and the reference end with the same results. -/
theorem value_AdamRow512 : Cert.algebraic_AdamRow512Ideal_AdamRow512RefIdeal (hAdamRow512Ideal := Cert.AdamRow512Ideal.Gen.facts)
    (hAdamRow512RefIdeal := Cert.AdamRow512RefIdeal.Gen.facts) := by
  intro m g m' g' hm ha
  refine ⟨fun c => AdamRow512.REF0 (m ((c.tc : Thread Cert.AdamRow512Ideal.nD Cert.AdamRow512Ideal.τ).loc Cert.AdamRow512Ideal.main_arg0)) (m ((c.tc : Thread Cert.AdamRow512Ideal.nD Cert.AdamRow512Ideal.τ).loc Cert.AdamRow512Ideal.main_arg1)) (m ((c.tc : Thread Cert.AdamRow512Ideal.nD Cert.AdamRow512Ideal.τ).loc Cert.AdamRow512Ideal.main_arg2)) (m ((c.tc : Thread Cert.AdamRow512Ideal.nD Cert.AdamRow512Ideal.τ).loc Cert.AdamRow512Ideal.main_arg3)),
    fun c => AdamRow512.REF1 (m ((c.tc : Thread Cert.AdamRow512Ideal.nD Cert.AdamRow512Ideal.τ).loc Cert.AdamRow512Ideal.main_arg1)) (m ((c.tc : Thread Cert.AdamRow512Ideal.nD Cert.AdamRow512Ideal.τ).loc Cert.AdamRow512Ideal.main_arg2)),
    fun c => AdamRow512.REF2 (m ((c.tc : Thread Cert.AdamRow512Ideal.nD Cert.AdamRow512Ideal.τ).loc Cert.AdamRow512Ideal.main_arg1)) (m ((c.tc : Thread Cert.AdamRow512Ideal.nD Cert.AdamRow512Ideal.τ).loc Cert.AdamRow512Ideal.main_arg3)),
    (θ_run Cert.AdamRow512Ideal.defs _ _).mono (fun r h c => ⟨(h c).1.trans (AdamRow512.final4 m c), (h c).2.1.trans (AdamRow512.final5 m c), (h c).2.2.1.trans (AdamRow512.final6 m c), (h c).2.2.2⟩) (Cert.AdamRow512Ideal.Value.run_blocks m g),
    (θ_run Cert.AdamRow512RefIdeal.defs _ _).mono (fun r h c => ⟨(h c).1.trans (cong4 AdamRow512.REF0 ((ha c).1) ((ha c).2.1) ((ha c).2.2.1) ((ha c).2.2.2)),
      (h c).2.1.trans (cong2 AdamRow512.REF1 ((ha c).2.1) ((ha c).2.2.1)),
      (h c).2.2.1.trans (cong2 AdamRow512.REF2 ((ha c).2.1) ((ha c).2.2.2)), (h c).2.2.2⟩) (Cert.AdamRow512RefIdeal.Value.run m' g')⟩

/-- The reference of this call leaves its arguments as they were. -/
theorem frame_AdamRow512 (m : (ℓ : Loc Cert.AdamRow512RefIdeal.nD Cert.AdamRow512RefIdeal.τ Cert.AdamRow512RefIdeal.sig) → Buf (Elt Ideal) ℓ) (ρ : Dev Cert.AdamRow512RefIdeal.nD → PrngReg) :
    θ_run (Cert.AdamRow512RefIdeal.defs (F := Ideal)) (onTc (τ := Cert.AdamRow512RefIdeal.τ) (Cert.AdamRow512RefIdeal.main (F := Ideal))) ⟨m, fun _ => 0, ρ⟩
      (fun r => (∀ c : Dev Cert.AdamRow512RefIdeal.nD, r.2.mem ((c.tc : Thread Cert.AdamRow512RefIdeal.nD Cert.AdamRow512RefIdeal.τ).loc Cert.AdamRow512RefIdeal.main_arg0) = m ((c.tc : Thread Cert.AdamRow512RefIdeal.nD Cert.AdamRow512RefIdeal.τ).loc Cert.AdamRow512RefIdeal.main_arg0)
        ∧ r.2.mem ((c.tc : Thread Cert.AdamRow512RefIdeal.nD Cert.AdamRow512RefIdeal.τ).loc Cert.AdamRow512RefIdeal.main_arg1) = m ((c.tc : Thread Cert.AdamRow512RefIdeal.nD Cert.AdamRow512RefIdeal.τ).loc Cert.AdamRow512RefIdeal.main_arg1)
        ∧ r.2.mem ((c.tc : Thread Cert.AdamRow512RefIdeal.nD Cert.AdamRow512RefIdeal.τ).loc Cert.AdamRow512RefIdeal.main_arg2) = m ((c.tc : Thread Cert.AdamRow512RefIdeal.nD Cert.AdamRow512RefIdeal.τ).loc Cert.AdamRow512RefIdeal.main_arg2)
        ∧ r.2.mem ((c.tc : Thread Cert.AdamRow512RefIdeal.nD Cert.AdamRow512RefIdeal.τ).loc Cert.AdamRow512RefIdeal.main_arg3) = m ((c.tc : Thread Cert.AdamRow512RefIdeal.nD Cert.AdamRow512RefIdeal.τ).loc Cert.AdamRow512RefIdeal.main_arg3))
        ∧ r.2.sem = fun _ => 0) :=
  (θ_run Cert.AdamRow512RefIdeal.defs _ _).mono
    (fun r h => ⟨fun c => (h c).2.2.2, sem_eq_zero_of_no_sems (by decide) r.2⟩)
    (Cert.AdamRow512RefIdeal.Value.run m ρ)

/-- The call on weights of shape 1 by 2048 by 3088: the kernel and the reference end with the same results. -/
theorem value_AdamGdnIn : Cert.algebraic_AdamGdnInIdeal_AdamGdnInRefIdeal (hAdamGdnInIdeal := Cert.AdamGdnInIdeal.Gen.facts)
    (hAdamGdnInRefIdeal := Cert.AdamGdnInRefIdeal.Gen.facts) := by
  intro m g m' g' hm ha
  refine ⟨fun c => AdamGdnIn.REF0 (m ((c.tc : Thread Cert.AdamGdnInIdeal.nD Cert.AdamGdnInIdeal.τ).loc Cert.AdamGdnInIdeal.main_arg0)) (m ((c.tc : Thread Cert.AdamGdnInIdeal.nD Cert.AdamGdnInIdeal.τ).loc Cert.AdamGdnInIdeal.main_arg1)) (m ((c.tc : Thread Cert.AdamGdnInIdeal.nD Cert.AdamGdnInIdeal.τ).loc Cert.AdamGdnInIdeal.main_arg2)) (m ((c.tc : Thread Cert.AdamGdnInIdeal.nD Cert.AdamGdnInIdeal.τ).loc Cert.AdamGdnInIdeal.main_arg3)),
    fun c => AdamGdnIn.REF1 (m ((c.tc : Thread Cert.AdamGdnInIdeal.nD Cert.AdamGdnInIdeal.τ).loc Cert.AdamGdnInIdeal.main_arg1)) (m ((c.tc : Thread Cert.AdamGdnInIdeal.nD Cert.AdamGdnInIdeal.τ).loc Cert.AdamGdnInIdeal.main_arg2)),
    fun c => AdamGdnIn.REF2 (m ((c.tc : Thread Cert.AdamGdnInIdeal.nD Cert.AdamGdnInIdeal.τ).loc Cert.AdamGdnInIdeal.main_arg1)) (m ((c.tc : Thread Cert.AdamGdnInIdeal.nD Cert.AdamGdnInIdeal.τ).loc Cert.AdamGdnInIdeal.main_arg3)),
    (θ_run Cert.AdamGdnInIdeal.defs _ _).mono (fun r h c => ⟨(h c).1.trans (AdamGdnIn.final4 m c), (h c).2.1.trans (AdamGdnIn.final5 m c), (h c).2.2.1.trans (AdamGdnIn.final6 m c), (h c).2.2.2⟩) (Cert.AdamGdnInIdeal.Value.run_blocks m g),
    (θ_run Cert.AdamGdnInRefIdeal.defs _ _).mono (fun r h c => ⟨(h c).1.trans (cong4 AdamGdnIn.REF0 ((ha c).1) ((ha c).2.1) ((ha c).2.2.1) ((ha c).2.2.2)),
      (h c).2.1.trans (cong2 AdamGdnIn.REF1 ((ha c).2.1) ((ha c).2.2.1)),
      (h c).2.2.1.trans (cong2 AdamGdnIn.REF2 ((ha c).2.1) ((ha c).2.2.2)), (h c).2.2.2⟩) (Cert.AdamGdnInRefIdeal.Value.run m' g')⟩

/-- The reference of this call leaves its arguments as they were. -/
theorem frame_AdamGdnIn (m : (ℓ : Loc Cert.AdamGdnInRefIdeal.nD Cert.AdamGdnInRefIdeal.τ Cert.AdamGdnInRefIdeal.sig) → Buf (Elt Ideal) ℓ) (ρ : Dev Cert.AdamGdnInRefIdeal.nD → PrngReg) :
    θ_run (Cert.AdamGdnInRefIdeal.defs (F := Ideal)) (onTc (τ := Cert.AdamGdnInRefIdeal.τ) (Cert.AdamGdnInRefIdeal.main (F := Ideal))) ⟨m, fun _ => 0, ρ⟩
      (fun r => (∀ c : Dev Cert.AdamGdnInRefIdeal.nD, r.2.mem ((c.tc : Thread Cert.AdamGdnInRefIdeal.nD Cert.AdamGdnInRefIdeal.τ).loc Cert.AdamGdnInRefIdeal.main_arg0) = m ((c.tc : Thread Cert.AdamGdnInRefIdeal.nD Cert.AdamGdnInRefIdeal.τ).loc Cert.AdamGdnInRefIdeal.main_arg0)
        ∧ r.2.mem ((c.tc : Thread Cert.AdamGdnInRefIdeal.nD Cert.AdamGdnInRefIdeal.τ).loc Cert.AdamGdnInRefIdeal.main_arg1) = m ((c.tc : Thread Cert.AdamGdnInRefIdeal.nD Cert.AdamGdnInRefIdeal.τ).loc Cert.AdamGdnInRefIdeal.main_arg1)
        ∧ r.2.mem ((c.tc : Thread Cert.AdamGdnInRefIdeal.nD Cert.AdamGdnInRefIdeal.τ).loc Cert.AdamGdnInRefIdeal.main_arg2) = m ((c.tc : Thread Cert.AdamGdnInRefIdeal.nD Cert.AdamGdnInRefIdeal.τ).loc Cert.AdamGdnInRefIdeal.main_arg2)
        ∧ r.2.mem ((c.tc : Thread Cert.AdamGdnInRefIdeal.nD Cert.AdamGdnInRefIdeal.τ).loc Cert.AdamGdnInRefIdeal.main_arg3) = m ((c.tc : Thread Cert.AdamGdnInRefIdeal.nD Cert.AdamGdnInRefIdeal.τ).loc Cert.AdamGdnInRefIdeal.main_arg3))
        ∧ r.2.sem = fun _ => 0) :=
  (θ_run Cert.AdamGdnInRefIdeal.defs _ _).mono
    (fun r h => ⟨fun c => (h c).2.2.2, sem_eq_zero_of_no_sems (by decide) r.2⟩)
    (Cert.AdamGdnInRefIdeal.Value.run m ρ)

/-- The call on weights of shape 1 by 4 by 2048: the kernel and the reference end with the same results. -/
theorem value_AdamGdnConv : Cert.algebraic_AdamGdnConvIdeal_AdamGdnConvRefIdeal (hAdamGdnConvIdeal := Cert.AdamGdnConvIdeal.Gen.facts)
    (hAdamGdnConvRefIdeal := Cert.AdamGdnConvRefIdeal.Gen.facts) := by
  intro m g m' g' hm ha
  refine ⟨fun c => AdamGdnConv.REF0 (m ((c.tc : Thread Cert.AdamGdnConvIdeal.nD Cert.AdamGdnConvIdeal.τ).loc Cert.AdamGdnConvIdeal.main_arg0)) (m ((c.tc : Thread Cert.AdamGdnConvIdeal.nD Cert.AdamGdnConvIdeal.τ).loc Cert.AdamGdnConvIdeal.main_arg1)) (m ((c.tc : Thread Cert.AdamGdnConvIdeal.nD Cert.AdamGdnConvIdeal.τ).loc Cert.AdamGdnConvIdeal.main_arg2)) (m ((c.tc : Thread Cert.AdamGdnConvIdeal.nD Cert.AdamGdnConvIdeal.τ).loc Cert.AdamGdnConvIdeal.main_arg3)),
    fun c => AdamGdnConv.REF1 (m ((c.tc : Thread Cert.AdamGdnConvIdeal.nD Cert.AdamGdnConvIdeal.τ).loc Cert.AdamGdnConvIdeal.main_arg1)) (m ((c.tc : Thread Cert.AdamGdnConvIdeal.nD Cert.AdamGdnConvIdeal.τ).loc Cert.AdamGdnConvIdeal.main_arg2)),
    fun c => AdamGdnConv.REF2 (m ((c.tc : Thread Cert.AdamGdnConvIdeal.nD Cert.AdamGdnConvIdeal.τ).loc Cert.AdamGdnConvIdeal.main_arg1)) (m ((c.tc : Thread Cert.AdamGdnConvIdeal.nD Cert.AdamGdnConvIdeal.τ).loc Cert.AdamGdnConvIdeal.main_arg3)),
    (θ_run Cert.AdamGdnConvIdeal.defs _ _).mono (fun r h c => ⟨(h c).1.trans (AdamGdnConv.final4 m c), (h c).2.1.trans (AdamGdnConv.final5 m c), (h c).2.2.1.trans (AdamGdnConv.final6 m c), (h c).2.2.2⟩) (Cert.AdamGdnConvIdeal.Value.run_blocks m g),
    (θ_run Cert.AdamGdnConvRefIdeal.defs _ _).mono (fun r h c => ⟨(h c).1.trans (cong4 AdamGdnConv.REF0 ((ha c).1) ((ha c).2.1) ((ha c).2.2.1) ((ha c).2.2.2)),
      (h c).2.1.trans (cong2 AdamGdnConv.REF1 ((ha c).2.1) ((ha c).2.2.1)),
      (h c).2.2.1.trans (cong2 AdamGdnConv.REF2 ((ha c).2.1) ((ha c).2.2.2)), (h c).2.2.2⟩) (Cert.AdamGdnConvRefIdeal.Value.run m' g')⟩

/-- The reference of this call leaves its arguments as they were. -/
theorem frame_AdamGdnConv (m : (ℓ : Loc Cert.AdamGdnConvRefIdeal.nD Cert.AdamGdnConvRefIdeal.τ Cert.AdamGdnConvRefIdeal.sig) → Buf (Elt Ideal) ℓ) (ρ : Dev Cert.AdamGdnConvRefIdeal.nD → PrngReg) :
    θ_run (Cert.AdamGdnConvRefIdeal.defs (F := Ideal)) (onTc (τ := Cert.AdamGdnConvRefIdeal.τ) (Cert.AdamGdnConvRefIdeal.main (F := Ideal))) ⟨m, fun _ => 0, ρ⟩
      (fun r => (∀ c : Dev Cert.AdamGdnConvRefIdeal.nD, r.2.mem ((c.tc : Thread Cert.AdamGdnConvRefIdeal.nD Cert.AdamGdnConvRefIdeal.τ).loc Cert.AdamGdnConvRefIdeal.main_arg0) = m ((c.tc : Thread Cert.AdamGdnConvRefIdeal.nD Cert.AdamGdnConvRefIdeal.τ).loc Cert.AdamGdnConvRefIdeal.main_arg0)
        ∧ r.2.mem ((c.tc : Thread Cert.AdamGdnConvRefIdeal.nD Cert.AdamGdnConvRefIdeal.τ).loc Cert.AdamGdnConvRefIdeal.main_arg1) = m ((c.tc : Thread Cert.AdamGdnConvRefIdeal.nD Cert.AdamGdnConvRefIdeal.τ).loc Cert.AdamGdnConvRefIdeal.main_arg1)
        ∧ r.2.mem ((c.tc : Thread Cert.AdamGdnConvRefIdeal.nD Cert.AdamGdnConvRefIdeal.τ).loc Cert.AdamGdnConvRefIdeal.main_arg2) = m ((c.tc : Thread Cert.AdamGdnConvRefIdeal.nD Cert.AdamGdnConvRefIdeal.τ).loc Cert.AdamGdnConvRefIdeal.main_arg2)
        ∧ r.2.mem ((c.tc : Thread Cert.AdamGdnConvRefIdeal.nD Cert.AdamGdnConvRefIdeal.τ).loc Cert.AdamGdnConvRefIdeal.main_arg3) = m ((c.tc : Thread Cert.AdamGdnConvRefIdeal.nD Cert.AdamGdnConvRefIdeal.τ).loc Cert.AdamGdnConvRefIdeal.main_arg3))
        ∧ r.2.sem = fun _ => 0) :=
  (θ_run Cert.AdamGdnConvRefIdeal.defs _ _).mono
    (fun r h => ⟨fun c => (h c).2.2.2, sem_eq_zero_of_no_sems (by decide) r.2⟩)
    (Cert.AdamGdnConvRefIdeal.Value.run m ρ)

/-- The call on weights of shape 1 by 32: the kernel and the reference end with the same results. -/
theorem value_AdamRow32 : Cert.algebraic_AdamRow32Ideal_AdamRow32RefIdeal (hAdamRow32Ideal := Cert.AdamRow32Ideal.Gen.facts)
    (hAdamRow32RefIdeal := Cert.AdamRow32RefIdeal.Gen.facts) := by
  intro m g m' g' hm ha
  refine ⟨fun c => AdamRow32.REF0 (m ((c.tc : Thread Cert.AdamRow32Ideal.nD Cert.AdamRow32Ideal.τ).loc Cert.AdamRow32Ideal.main_arg0)) (m ((c.tc : Thread Cert.AdamRow32Ideal.nD Cert.AdamRow32Ideal.τ).loc Cert.AdamRow32Ideal.main_arg1)) (m ((c.tc : Thread Cert.AdamRow32Ideal.nD Cert.AdamRow32Ideal.τ).loc Cert.AdamRow32Ideal.main_arg2)) (m ((c.tc : Thread Cert.AdamRow32Ideal.nD Cert.AdamRow32Ideal.τ).loc Cert.AdamRow32Ideal.main_arg3)),
    fun c => AdamRow32.REF1 (m ((c.tc : Thread Cert.AdamRow32Ideal.nD Cert.AdamRow32Ideal.τ).loc Cert.AdamRow32Ideal.main_arg1)) (m ((c.tc : Thread Cert.AdamRow32Ideal.nD Cert.AdamRow32Ideal.τ).loc Cert.AdamRow32Ideal.main_arg2)),
    fun c => AdamRow32.REF2 (m ((c.tc : Thread Cert.AdamRow32Ideal.nD Cert.AdamRow32Ideal.τ).loc Cert.AdamRow32Ideal.main_arg1)) (m ((c.tc : Thread Cert.AdamRow32Ideal.nD Cert.AdamRow32Ideal.τ).loc Cert.AdamRow32Ideal.main_arg3)),
    (θ_run Cert.AdamRow32Ideal.defs _ _).mono (fun r h c => ⟨(h c).1.trans (AdamRow32.final4 m c), (h c).2.1.trans (AdamRow32.final5 m c), (h c).2.2.1.trans (AdamRow32.final6 m c), (h c).2.2.2⟩) (Cert.AdamRow32Ideal.Value.run_blocks m g),
    (θ_run Cert.AdamRow32RefIdeal.defs _ _).mono (fun r h c => ⟨(h c).1.trans (cong4 AdamRow32.REF0 ((ha c).1) ((ha c).2.1) ((ha c).2.2.1) ((ha c).2.2.2)),
      (h c).2.1.trans (cong2 AdamRow32.REF1 ((ha c).2.1) ((ha c).2.2.1)),
      (h c).2.2.1.trans (cong2 AdamRow32.REF2 ((ha c).2.1) ((ha c).2.2.2)), (h c).2.2.2⟩) (Cert.AdamRow32RefIdeal.Value.run m' g')⟩

/-- The reference of this call leaves its arguments as they were. -/
theorem frame_AdamRow32 (m : (ℓ : Loc Cert.AdamRow32RefIdeal.nD Cert.AdamRow32RefIdeal.τ Cert.AdamRow32RefIdeal.sig) → Buf (Elt Ideal) ℓ) (ρ : Dev Cert.AdamRow32RefIdeal.nD → PrngReg) :
    θ_run (Cert.AdamRow32RefIdeal.defs (F := Ideal)) (onTc (τ := Cert.AdamRow32RefIdeal.τ) (Cert.AdamRow32RefIdeal.main (F := Ideal))) ⟨m, fun _ => 0, ρ⟩
      (fun r => (∀ c : Dev Cert.AdamRow32RefIdeal.nD, r.2.mem ((c.tc : Thread Cert.AdamRow32RefIdeal.nD Cert.AdamRow32RefIdeal.τ).loc Cert.AdamRow32RefIdeal.main_arg0) = m ((c.tc : Thread Cert.AdamRow32RefIdeal.nD Cert.AdamRow32RefIdeal.τ).loc Cert.AdamRow32RefIdeal.main_arg0)
        ∧ r.2.mem ((c.tc : Thread Cert.AdamRow32RefIdeal.nD Cert.AdamRow32RefIdeal.τ).loc Cert.AdamRow32RefIdeal.main_arg1) = m ((c.tc : Thread Cert.AdamRow32RefIdeal.nD Cert.AdamRow32RefIdeal.τ).loc Cert.AdamRow32RefIdeal.main_arg1)
        ∧ r.2.mem ((c.tc : Thread Cert.AdamRow32RefIdeal.nD Cert.AdamRow32RefIdeal.τ).loc Cert.AdamRow32RefIdeal.main_arg2) = m ((c.tc : Thread Cert.AdamRow32RefIdeal.nD Cert.AdamRow32RefIdeal.τ).loc Cert.AdamRow32RefIdeal.main_arg2)
        ∧ r.2.mem ((c.tc : Thread Cert.AdamRow32RefIdeal.nD Cert.AdamRow32RefIdeal.τ).loc Cert.AdamRow32RefIdeal.main_arg3) = m ((c.tc : Thread Cert.AdamRow32RefIdeal.nD Cert.AdamRow32RefIdeal.τ).loc Cert.AdamRow32RefIdeal.main_arg3))
        ∧ r.2.sem = fun _ => 0) :=
  (θ_run Cert.AdamRow32RefIdeal.defs _ _).mono
    (fun r h => ⟨fun c => (h c).2.2.2, sem_eq_zero_of_no_sems (by decide) r.2⟩)
    (Cert.AdamRow32RefIdeal.Value.run m ρ)

/-- The call on weights of shape 1 by 128: the kernel and the reference end with the same results. -/
theorem value_AdamRow128 : Cert.algebraic_AdamRow128Ideal_AdamRow128RefIdeal (hAdamRow128Ideal := Cert.AdamRow128Ideal.Gen.facts)
    (hAdamRow128RefIdeal := Cert.AdamRow128RefIdeal.Gen.facts) := by
  intro m g m' g' hm ha
  refine ⟨fun c => AdamRow128.REF0 (m ((c.tc : Thread Cert.AdamRow128Ideal.nD Cert.AdamRow128Ideal.τ).loc Cert.AdamRow128Ideal.main_arg0)) (m ((c.tc : Thread Cert.AdamRow128Ideal.nD Cert.AdamRow128Ideal.τ).loc Cert.AdamRow128Ideal.main_arg1)) (m ((c.tc : Thread Cert.AdamRow128Ideal.nD Cert.AdamRow128Ideal.τ).loc Cert.AdamRow128Ideal.main_arg2)) (m ((c.tc : Thread Cert.AdamRow128Ideal.nD Cert.AdamRow128Ideal.τ).loc Cert.AdamRow128Ideal.main_arg3)),
    fun c => AdamRow128.REF1 (m ((c.tc : Thread Cert.AdamRow128Ideal.nD Cert.AdamRow128Ideal.τ).loc Cert.AdamRow128Ideal.main_arg1)) (m ((c.tc : Thread Cert.AdamRow128Ideal.nD Cert.AdamRow128Ideal.τ).loc Cert.AdamRow128Ideal.main_arg2)),
    fun c => AdamRow128.REF2 (m ((c.tc : Thread Cert.AdamRow128Ideal.nD Cert.AdamRow128Ideal.τ).loc Cert.AdamRow128Ideal.main_arg1)) (m ((c.tc : Thread Cert.AdamRow128Ideal.nD Cert.AdamRow128Ideal.τ).loc Cert.AdamRow128Ideal.main_arg3)),
    (θ_run Cert.AdamRow128Ideal.defs _ _).mono (fun r h c => ⟨(h c).1.trans (AdamRow128.final4 m c), (h c).2.1.trans (AdamRow128.final5 m c), (h c).2.2.1.trans (AdamRow128.final6 m c), (h c).2.2.2⟩) (Cert.AdamRow128Ideal.Value.run_blocks m g),
    (θ_run Cert.AdamRow128RefIdeal.defs _ _).mono (fun r h c => ⟨(h c).1.trans (cong4 AdamRow128.REF0 ((ha c).1) ((ha c).2.1) ((ha c).2.2.1) ((ha c).2.2.2)),
      (h c).2.1.trans (cong2 AdamRow128.REF1 ((ha c).2.1) ((ha c).2.2.1)),
      (h c).2.2.1.trans (cong2 AdamRow128.REF2 ((ha c).2.1) ((ha c).2.2.2)), (h c).2.2.2⟩) (Cert.AdamRow128RefIdeal.Value.run m' g')⟩

/-- The reference of this call leaves its arguments as they were. -/
theorem frame_AdamRow128 (m : (ℓ : Loc Cert.AdamRow128RefIdeal.nD Cert.AdamRow128RefIdeal.τ Cert.AdamRow128RefIdeal.sig) → Buf (Elt Ideal) ℓ) (ρ : Dev Cert.AdamRow128RefIdeal.nD → PrngReg) :
    θ_run (Cert.AdamRow128RefIdeal.defs (F := Ideal)) (onTc (τ := Cert.AdamRow128RefIdeal.τ) (Cert.AdamRow128RefIdeal.main (F := Ideal))) ⟨m, fun _ => 0, ρ⟩
      (fun r => (∀ c : Dev Cert.AdamRow128RefIdeal.nD, r.2.mem ((c.tc : Thread Cert.AdamRow128RefIdeal.nD Cert.AdamRow128RefIdeal.τ).loc Cert.AdamRow128RefIdeal.main_arg0) = m ((c.tc : Thread Cert.AdamRow128RefIdeal.nD Cert.AdamRow128RefIdeal.τ).loc Cert.AdamRow128RefIdeal.main_arg0)
        ∧ r.2.mem ((c.tc : Thread Cert.AdamRow128RefIdeal.nD Cert.AdamRow128RefIdeal.τ).loc Cert.AdamRow128RefIdeal.main_arg1) = m ((c.tc : Thread Cert.AdamRow128RefIdeal.nD Cert.AdamRow128RefIdeal.τ).loc Cert.AdamRow128RefIdeal.main_arg1)
        ∧ r.2.mem ((c.tc : Thread Cert.AdamRow128RefIdeal.nD Cert.AdamRow128RefIdeal.τ).loc Cert.AdamRow128RefIdeal.main_arg2) = m ((c.tc : Thread Cert.AdamRow128RefIdeal.nD Cert.AdamRow128RefIdeal.τ).loc Cert.AdamRow128RefIdeal.main_arg2)
        ∧ r.2.mem ((c.tc : Thread Cert.AdamRow128RefIdeal.nD Cert.AdamRow128RefIdeal.τ).loc Cert.AdamRow128RefIdeal.main_arg3) = m ((c.tc : Thread Cert.AdamRow128RefIdeal.nD Cert.AdamRow128RefIdeal.τ).loc Cert.AdamRow128RefIdeal.main_arg3))
        ∧ r.2.sem = fun _ => 0) :=
  (θ_run Cert.AdamRow128RefIdeal.defs _ _).mono
    (fun r h => ⟨fun c => (h c).2.2.2, sem_eq_zero_of_no_sems (by decide) r.2⟩)
    (Cert.AdamRow128RefIdeal.Value.run m ρ)

/-- The call on weights of shape 1 by 1024 by 2048: the kernel and the reference end with the same results. -/
theorem value_AdamGdnOut : Cert.algebraic_AdamGdnOutIdeal_AdamGdnOutRefIdeal (hAdamGdnOutIdeal := Cert.AdamGdnOutIdeal.Gen.facts)
    (hAdamGdnOutRefIdeal := Cert.AdamGdnOutRefIdeal.Gen.facts) := by
  intro m g m' g' hm ha
  refine ⟨fun c => AdamGdnOut.REF0 (m ((c.tc : Thread Cert.AdamGdnOutIdeal.nD Cert.AdamGdnOutIdeal.τ).loc Cert.AdamGdnOutIdeal.main_arg0)) (m ((c.tc : Thread Cert.AdamGdnOutIdeal.nD Cert.AdamGdnOutIdeal.τ).loc Cert.AdamGdnOutIdeal.main_arg1)) (m ((c.tc : Thread Cert.AdamGdnOutIdeal.nD Cert.AdamGdnOutIdeal.τ).loc Cert.AdamGdnOutIdeal.main_arg2)) (m ((c.tc : Thread Cert.AdamGdnOutIdeal.nD Cert.AdamGdnOutIdeal.τ).loc Cert.AdamGdnOutIdeal.main_arg3)),
    fun c => AdamGdnOut.REF1 (m ((c.tc : Thread Cert.AdamGdnOutIdeal.nD Cert.AdamGdnOutIdeal.τ).loc Cert.AdamGdnOutIdeal.main_arg1)) (m ((c.tc : Thread Cert.AdamGdnOutIdeal.nD Cert.AdamGdnOutIdeal.τ).loc Cert.AdamGdnOutIdeal.main_arg2)),
    fun c => AdamGdnOut.REF2 (m ((c.tc : Thread Cert.AdamGdnOutIdeal.nD Cert.AdamGdnOutIdeal.τ).loc Cert.AdamGdnOutIdeal.main_arg1)) (m ((c.tc : Thread Cert.AdamGdnOutIdeal.nD Cert.AdamGdnOutIdeal.τ).loc Cert.AdamGdnOutIdeal.main_arg3)),
    (θ_run Cert.AdamGdnOutIdeal.defs _ _).mono (fun r h c => ⟨(h c).1.trans (AdamGdnOut.final4 m c), (h c).2.1.trans (AdamGdnOut.final5 m c), (h c).2.2.1.trans (AdamGdnOut.final6 m c), (h c).2.2.2⟩) (Cert.AdamGdnOutIdeal.Value.run_blocks m g),
    (θ_run Cert.AdamGdnOutRefIdeal.defs _ _).mono (fun r h c => ⟨(h c).1.trans (cong4 AdamGdnOut.REF0 ((ha c).1) ((ha c).2.1) ((ha c).2.2.1) ((ha c).2.2.2)),
      (h c).2.1.trans (cong2 AdamGdnOut.REF1 ((ha c).2.1) ((ha c).2.2.1)),
      (h c).2.2.1.trans (cong2 AdamGdnOut.REF2 ((ha c).2.1) ((ha c).2.2.2)), (h c).2.2.2⟩) (Cert.AdamGdnOutRefIdeal.Value.run m' g')⟩

/-- The reference of this call leaves its arguments as they were. -/
theorem frame_AdamGdnOut (m : (ℓ : Loc Cert.AdamGdnOutRefIdeal.nD Cert.AdamGdnOutRefIdeal.τ Cert.AdamGdnOutRefIdeal.sig) → Buf (Elt Ideal) ℓ) (ρ : Dev Cert.AdamGdnOutRefIdeal.nD → PrngReg) :
    θ_run (Cert.AdamGdnOutRefIdeal.defs (F := Ideal)) (onTc (τ := Cert.AdamGdnOutRefIdeal.τ) (Cert.AdamGdnOutRefIdeal.main (F := Ideal))) ⟨m, fun _ => 0, ρ⟩
      (fun r => (∀ c : Dev Cert.AdamGdnOutRefIdeal.nD, r.2.mem ((c.tc : Thread Cert.AdamGdnOutRefIdeal.nD Cert.AdamGdnOutRefIdeal.τ).loc Cert.AdamGdnOutRefIdeal.main_arg0) = m ((c.tc : Thread Cert.AdamGdnOutRefIdeal.nD Cert.AdamGdnOutRefIdeal.τ).loc Cert.AdamGdnOutRefIdeal.main_arg0)
        ∧ r.2.mem ((c.tc : Thread Cert.AdamGdnOutRefIdeal.nD Cert.AdamGdnOutRefIdeal.τ).loc Cert.AdamGdnOutRefIdeal.main_arg1) = m ((c.tc : Thread Cert.AdamGdnOutRefIdeal.nD Cert.AdamGdnOutRefIdeal.τ).loc Cert.AdamGdnOutRefIdeal.main_arg1)
        ∧ r.2.mem ((c.tc : Thread Cert.AdamGdnOutRefIdeal.nD Cert.AdamGdnOutRefIdeal.τ).loc Cert.AdamGdnOutRefIdeal.main_arg2) = m ((c.tc : Thread Cert.AdamGdnOutRefIdeal.nD Cert.AdamGdnOutRefIdeal.τ).loc Cert.AdamGdnOutRefIdeal.main_arg2)
        ∧ r.2.mem ((c.tc : Thread Cert.AdamGdnOutRefIdeal.nD Cert.AdamGdnOutRefIdeal.τ).loc Cert.AdamGdnOutRefIdeal.main_arg3) = m ((c.tc : Thread Cert.AdamGdnOutRefIdeal.nD Cert.AdamGdnOutRefIdeal.τ).loc Cert.AdamGdnOutRefIdeal.main_arg3))
        ∧ r.2.sem = fun _ => 0) :=
  (θ_run Cert.AdamGdnOutRefIdeal.defs _ _).mono
    (fun r h => ⟨fun c => (h c).2.2.2, sem_eq_zero_of_no_sems (by decide) r.2⟩)
    (Cert.AdamGdnOutRefIdeal.Value.run m ρ)

/-- The call on weights of shape 1 by 2048 by 640: the kernel and the reference end with the same results. -/
theorem value_AdamSwaIn : Cert.algebraic_AdamSwaInIdeal_AdamSwaInRefIdeal (hAdamSwaInIdeal := Cert.AdamSwaInIdeal.Gen.facts)
    (hAdamSwaInRefIdeal := Cert.AdamSwaInRefIdeal.Gen.facts) := by
  intro m g m' g' hm ha
  refine ⟨fun c => AdamSwaIn.REF0 (m ((c.tc : Thread Cert.AdamSwaInIdeal.nD Cert.AdamSwaInIdeal.τ).loc Cert.AdamSwaInIdeal.main_arg0)) (m ((c.tc : Thread Cert.AdamSwaInIdeal.nD Cert.AdamSwaInIdeal.τ).loc Cert.AdamSwaInIdeal.main_arg1)) (m ((c.tc : Thread Cert.AdamSwaInIdeal.nD Cert.AdamSwaInIdeal.τ).loc Cert.AdamSwaInIdeal.main_arg2)) (m ((c.tc : Thread Cert.AdamSwaInIdeal.nD Cert.AdamSwaInIdeal.τ).loc Cert.AdamSwaInIdeal.main_arg3)),
    fun c => AdamSwaIn.REF1 (m ((c.tc : Thread Cert.AdamSwaInIdeal.nD Cert.AdamSwaInIdeal.τ).loc Cert.AdamSwaInIdeal.main_arg1)) (m ((c.tc : Thread Cert.AdamSwaInIdeal.nD Cert.AdamSwaInIdeal.τ).loc Cert.AdamSwaInIdeal.main_arg2)),
    fun c => AdamSwaIn.REF2 (m ((c.tc : Thread Cert.AdamSwaInIdeal.nD Cert.AdamSwaInIdeal.τ).loc Cert.AdamSwaInIdeal.main_arg1)) (m ((c.tc : Thread Cert.AdamSwaInIdeal.nD Cert.AdamSwaInIdeal.τ).loc Cert.AdamSwaInIdeal.main_arg3)),
    (θ_run Cert.AdamSwaInIdeal.defs _ _).mono (fun r h c => ⟨(h c).1.trans (AdamSwaIn.final4 m c), (h c).2.1.trans (AdamSwaIn.final5 m c), (h c).2.2.1.trans (AdamSwaIn.final6 m c), (h c).2.2.2⟩) (Cert.AdamSwaInIdeal.Value.run_blocks m g),
    (θ_run Cert.AdamSwaInRefIdeal.defs _ _).mono (fun r h c => ⟨(h c).1.trans (cong4 AdamSwaIn.REF0 ((ha c).1) ((ha c).2.1) ((ha c).2.2.1) ((ha c).2.2.2)),
      (h c).2.1.trans (cong2 AdamSwaIn.REF1 ((ha c).2.1) ((ha c).2.2.1)),
      (h c).2.2.1.trans (cong2 AdamSwaIn.REF2 ((ha c).2.1) ((ha c).2.2.2)), (h c).2.2.2⟩) (Cert.AdamSwaInRefIdeal.Value.run m' g')⟩

/-- The reference of this call leaves its arguments as they were. -/
theorem frame_AdamSwaIn (m : (ℓ : Loc Cert.AdamSwaInRefIdeal.nD Cert.AdamSwaInRefIdeal.τ Cert.AdamSwaInRefIdeal.sig) → Buf (Elt Ideal) ℓ) (ρ : Dev Cert.AdamSwaInRefIdeal.nD → PrngReg) :
    θ_run (Cert.AdamSwaInRefIdeal.defs (F := Ideal)) (onTc (τ := Cert.AdamSwaInRefIdeal.τ) (Cert.AdamSwaInRefIdeal.main (F := Ideal))) ⟨m, fun _ => 0, ρ⟩
      (fun r => (∀ c : Dev Cert.AdamSwaInRefIdeal.nD, r.2.mem ((c.tc : Thread Cert.AdamSwaInRefIdeal.nD Cert.AdamSwaInRefIdeal.τ).loc Cert.AdamSwaInRefIdeal.main_arg0) = m ((c.tc : Thread Cert.AdamSwaInRefIdeal.nD Cert.AdamSwaInRefIdeal.τ).loc Cert.AdamSwaInRefIdeal.main_arg0)
        ∧ r.2.mem ((c.tc : Thread Cert.AdamSwaInRefIdeal.nD Cert.AdamSwaInRefIdeal.τ).loc Cert.AdamSwaInRefIdeal.main_arg1) = m ((c.tc : Thread Cert.AdamSwaInRefIdeal.nD Cert.AdamSwaInRefIdeal.τ).loc Cert.AdamSwaInRefIdeal.main_arg1)
        ∧ r.2.mem ((c.tc : Thread Cert.AdamSwaInRefIdeal.nD Cert.AdamSwaInRefIdeal.τ).loc Cert.AdamSwaInRefIdeal.main_arg2) = m ((c.tc : Thread Cert.AdamSwaInRefIdeal.nD Cert.AdamSwaInRefIdeal.τ).loc Cert.AdamSwaInRefIdeal.main_arg2)
        ∧ r.2.mem ((c.tc : Thread Cert.AdamSwaInRefIdeal.nD Cert.AdamSwaInRefIdeal.τ).loc Cert.AdamSwaInRefIdeal.main_arg3) = m ((c.tc : Thread Cert.AdamSwaInRefIdeal.nD Cert.AdamSwaInRefIdeal.τ).loc Cert.AdamSwaInRefIdeal.main_arg3))
        ∧ r.2.sem = fun _ => 0) :=
  (θ_run Cert.AdamSwaInRefIdeal.defs _ _).mono
    (fun r h => ⟨fun c => (h c).2.2.2, sem_eq_zero_of_no_sems (by decide) r.2⟩)
    (Cert.AdamSwaInRefIdeal.Value.run m ρ)

/-- The call on weights of shape 1 by 640: the kernel and the reference end with the same results. -/
theorem value_AdamRow640 : Cert.algebraic_AdamRow640Ideal_AdamRow640RefIdeal (hAdamRow640Ideal := Cert.AdamRow640Ideal.Gen.facts)
    (hAdamRow640RefIdeal := Cert.AdamRow640RefIdeal.Gen.facts) := by
  intro m g m' g' hm ha
  refine ⟨fun c => AdamRow640.REF0 (m ((c.tc : Thread Cert.AdamRow640Ideal.nD Cert.AdamRow640Ideal.τ).loc Cert.AdamRow640Ideal.main_arg0)) (m ((c.tc : Thread Cert.AdamRow640Ideal.nD Cert.AdamRow640Ideal.τ).loc Cert.AdamRow640Ideal.main_arg1)) (m ((c.tc : Thread Cert.AdamRow640Ideal.nD Cert.AdamRow640Ideal.τ).loc Cert.AdamRow640Ideal.main_arg2)) (m ((c.tc : Thread Cert.AdamRow640Ideal.nD Cert.AdamRow640Ideal.τ).loc Cert.AdamRow640Ideal.main_arg3)),
    fun c => AdamRow640.REF1 (m ((c.tc : Thread Cert.AdamRow640Ideal.nD Cert.AdamRow640Ideal.τ).loc Cert.AdamRow640Ideal.main_arg1)) (m ((c.tc : Thread Cert.AdamRow640Ideal.nD Cert.AdamRow640Ideal.τ).loc Cert.AdamRow640Ideal.main_arg2)),
    fun c => AdamRow640.REF2 (m ((c.tc : Thread Cert.AdamRow640Ideal.nD Cert.AdamRow640Ideal.τ).loc Cert.AdamRow640Ideal.main_arg1)) (m ((c.tc : Thread Cert.AdamRow640Ideal.nD Cert.AdamRow640Ideal.τ).loc Cert.AdamRow640Ideal.main_arg3)),
    (θ_run Cert.AdamRow640Ideal.defs _ _).mono (fun r h c => ⟨(h c).1.trans (AdamRow640.final4 m c), (h c).2.1.trans (AdamRow640.final5 m c), (h c).2.2.1.trans (AdamRow640.final6 m c), (h c).2.2.2⟩) (Cert.AdamRow640Ideal.Value.run_blocks m g),
    (θ_run Cert.AdamRow640RefIdeal.defs _ _).mono (fun r h c => ⟨(h c).1.trans (cong4 AdamRow640.REF0 ((ha c).1) ((ha c).2.1) ((ha c).2.2.1) ((ha c).2.2.2)),
      (h c).2.1.trans (cong2 AdamRow640.REF1 ((ha c).2.1) ((ha c).2.2.1)),
      (h c).2.2.1.trans (cong2 AdamRow640.REF2 ((ha c).2.1) ((ha c).2.2.2)), (h c).2.2.2⟩) (Cert.AdamRow640RefIdeal.Value.run m' g')⟩

/-- The reference of this call leaves its arguments as they were. -/
theorem frame_AdamRow640 (m : (ℓ : Loc Cert.AdamRow640RefIdeal.nD Cert.AdamRow640RefIdeal.τ Cert.AdamRow640RefIdeal.sig) → Buf (Elt Ideal) ℓ) (ρ : Dev Cert.AdamRow640RefIdeal.nD → PrngReg) :
    θ_run (Cert.AdamRow640RefIdeal.defs (F := Ideal)) (onTc (τ := Cert.AdamRow640RefIdeal.τ) (Cert.AdamRow640RefIdeal.main (F := Ideal))) ⟨m, fun _ => 0, ρ⟩
      (fun r => (∀ c : Dev Cert.AdamRow640RefIdeal.nD, r.2.mem ((c.tc : Thread Cert.AdamRow640RefIdeal.nD Cert.AdamRow640RefIdeal.τ).loc Cert.AdamRow640RefIdeal.main_arg0) = m ((c.tc : Thread Cert.AdamRow640RefIdeal.nD Cert.AdamRow640RefIdeal.τ).loc Cert.AdamRow640RefIdeal.main_arg0)
        ∧ r.2.mem ((c.tc : Thread Cert.AdamRow640RefIdeal.nD Cert.AdamRow640RefIdeal.τ).loc Cert.AdamRow640RefIdeal.main_arg1) = m ((c.tc : Thread Cert.AdamRow640RefIdeal.nD Cert.AdamRow640RefIdeal.τ).loc Cert.AdamRow640RefIdeal.main_arg1)
        ∧ r.2.mem ((c.tc : Thread Cert.AdamRow640RefIdeal.nD Cert.AdamRow640RefIdeal.τ).loc Cert.AdamRow640RefIdeal.main_arg2) = m ((c.tc : Thread Cert.AdamRow640RefIdeal.nD Cert.AdamRow640RefIdeal.τ).loc Cert.AdamRow640RefIdeal.main_arg2)
        ∧ r.2.mem ((c.tc : Thread Cert.AdamRow640RefIdeal.nD Cert.AdamRow640RefIdeal.τ).loc Cert.AdamRow640RefIdeal.main_arg3) = m ((c.tc : Thread Cert.AdamRow640RefIdeal.nD Cert.AdamRow640RefIdeal.τ).loc Cert.AdamRow640RefIdeal.main_arg3))
        ∧ r.2.sem = fun _ => 0) :=
  (θ_run Cert.AdamRow640RefIdeal.defs _ _).mono
    (fun r h => ⟨fun c => (h c).2.2.2, sem_eq_zero_of_no_sems (by decide) r.2⟩)
    (Cert.AdamRow640RefIdeal.Value.run m ρ)

/-- The call on weights of shape 2048: the kernel and the reference end with the same results. -/
theorem value_AdamFinalNorm : Cert.algebraic_AdamFinalNormIdeal_AdamFinalNormRefIdeal (hAdamFinalNormIdeal := Cert.AdamFinalNormIdeal.Gen.facts)
    (hAdamFinalNormRefIdeal := Cert.AdamFinalNormRefIdeal.Gen.facts) := by
  intro m g m' g' hm ha
  refine ⟨fun c => AdamFinalNorm.REF0 (m ((c.tc : Thread Cert.AdamFinalNormIdeal.nD Cert.AdamFinalNormIdeal.τ).loc Cert.AdamFinalNormIdeal.main_arg0)) (m ((c.tc : Thread Cert.AdamFinalNormIdeal.nD Cert.AdamFinalNormIdeal.τ).loc Cert.AdamFinalNormIdeal.main_arg1)) (m ((c.tc : Thread Cert.AdamFinalNormIdeal.nD Cert.AdamFinalNormIdeal.τ).loc Cert.AdamFinalNormIdeal.main_arg2)) (m ((c.tc : Thread Cert.AdamFinalNormIdeal.nD Cert.AdamFinalNormIdeal.τ).loc Cert.AdamFinalNormIdeal.main_arg3)),
    fun c => AdamFinalNorm.REF1 (m ((c.tc : Thread Cert.AdamFinalNormIdeal.nD Cert.AdamFinalNormIdeal.τ).loc Cert.AdamFinalNormIdeal.main_arg1)) (m ((c.tc : Thread Cert.AdamFinalNormIdeal.nD Cert.AdamFinalNormIdeal.τ).loc Cert.AdamFinalNormIdeal.main_arg2)),
    fun c => AdamFinalNorm.REF2 (m ((c.tc : Thread Cert.AdamFinalNormIdeal.nD Cert.AdamFinalNormIdeal.τ).loc Cert.AdamFinalNormIdeal.main_arg1)) (m ((c.tc : Thread Cert.AdamFinalNormIdeal.nD Cert.AdamFinalNormIdeal.τ).loc Cert.AdamFinalNormIdeal.main_arg3)),
    (θ_run Cert.AdamFinalNormIdeal.defs _ _).mono (fun r h c => ⟨(h c).1.trans (AdamFinalNorm.final4 m c), (h c).2.1.trans (AdamFinalNorm.final5 m c), (h c).2.2.1.trans (AdamFinalNorm.final6 m c), (h c).2.2.2⟩) (Cert.AdamFinalNormIdeal.Value.run_blocks m g),
    (θ_run Cert.AdamFinalNormRefIdeal.defs _ _).mono (fun r h c => ⟨(h c).1.trans (cong4 AdamFinalNorm.REF0 ((ha c).1) ((ha c).2.1) ((ha c).2.2.1) ((ha c).2.2.2)),
      (h c).2.1.trans (cong2 AdamFinalNorm.REF1 ((ha c).2.1) ((ha c).2.2.1)),
      (h c).2.2.1.trans (cong2 AdamFinalNorm.REF2 ((ha c).2.1) ((ha c).2.2.2)), (h c).2.2.2⟩) (Cert.AdamFinalNormRefIdeal.Value.run m' g')⟩

/-- The reference of this call leaves its arguments as they were. -/
theorem frame_AdamFinalNorm (m : (ℓ : Loc Cert.AdamFinalNormRefIdeal.nD Cert.AdamFinalNormRefIdeal.τ Cert.AdamFinalNormRefIdeal.sig) → Buf (Elt Ideal) ℓ) (ρ : Dev Cert.AdamFinalNormRefIdeal.nD → PrngReg) :
    θ_run (Cert.AdamFinalNormRefIdeal.defs (F := Ideal)) (onTc (τ := Cert.AdamFinalNormRefIdeal.τ) (Cert.AdamFinalNormRefIdeal.main (F := Ideal))) ⟨m, fun _ => 0, ρ⟩
      (fun r => (∀ c : Dev Cert.AdamFinalNormRefIdeal.nD, r.2.mem ((c.tc : Thread Cert.AdamFinalNormRefIdeal.nD Cert.AdamFinalNormRefIdeal.τ).loc Cert.AdamFinalNormRefIdeal.main_arg0) = m ((c.tc : Thread Cert.AdamFinalNormRefIdeal.nD Cert.AdamFinalNormRefIdeal.τ).loc Cert.AdamFinalNormRefIdeal.main_arg0)
        ∧ r.2.mem ((c.tc : Thread Cert.AdamFinalNormRefIdeal.nD Cert.AdamFinalNormRefIdeal.τ).loc Cert.AdamFinalNormRefIdeal.main_arg1) = m ((c.tc : Thread Cert.AdamFinalNormRefIdeal.nD Cert.AdamFinalNormRefIdeal.τ).loc Cert.AdamFinalNormRefIdeal.main_arg1)
        ∧ r.2.mem ((c.tc : Thread Cert.AdamFinalNormRefIdeal.nD Cert.AdamFinalNormRefIdeal.τ).loc Cert.AdamFinalNormRefIdeal.main_arg2) = m ((c.tc : Thread Cert.AdamFinalNormRefIdeal.nD Cert.AdamFinalNormRefIdeal.τ).loc Cert.AdamFinalNormRefIdeal.main_arg2)
        ∧ r.2.mem ((c.tc : Thread Cert.AdamFinalNormRefIdeal.nD Cert.AdamFinalNormRefIdeal.τ).loc Cert.AdamFinalNormRefIdeal.main_arg3) = m ((c.tc : Thread Cert.AdamFinalNormRefIdeal.nD Cert.AdamFinalNormRefIdeal.τ).loc Cert.AdamFinalNormRefIdeal.main_arg3))
        ∧ r.2.sem = fun _ => 0) :=
  (θ_run Cert.AdamFinalNormRefIdeal.defs _ _).mono
    (fun r h => ⟨fun c => (h c).2.2.2, sem_eq_zero_of_no_sems (by decide) r.2⟩)
    (Cert.AdamFinalNormRefIdeal.Value.run m ρ)

end Cert.Optimiser

end
-- ==== Proof.lean ====
/- The whole claim. The kernels' frames are those of their runs. The attention kernel's and its reference's results are both the
   gradients of `Cert.Attn.Data`; the feed-forward calls' values are those of `Cert.Ffn`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init
public import proofs.«01_k».proof.Proof.PFin
public import proofs.«01_k».proof.Proof.Ffn
public import proofs.«01_k».proof.Proof.FirstFfn
public import proofs.«01_k».proof.Proof.Optimiser
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DDown
public import proofs.«01_k».proof.Proof.Gen.DDown.Frame
public import proofs.«01_k».proof.Proof.Gen.DDownIdeal
public import proofs.«01_k».proof.Proof.Gen.DDownIdeal.Frame
public import proofs.«01_k».proof.Proof.Gen.DDownIdeal.Value
public import proofs.«01_k».proof.Proof.Gen.DDownRefIdeal
public import proofs.«01_k».proof.Proof.Gen.DDownRefIdeal.Run
public import proofs.«01_k».proof.Proof.Gen.DGateUp
public import proofs.«01_k».proof.Proof.Gen.DGateUp.Frame
public import proofs.«01_k».proof.Proof.Gen.DGateUpIdeal
public import proofs.«01_k».proof.Proof.Gen.DGateUpIdeal.Frame
public import proofs.«01_k».proof.Proof.Gen.DGateUpIdeal.Value
public import proofs.«01_k».proof.Proof.Gen.DGateUpRefIdeal
public import proofs.«01_k».proof.Proof.Gen.DGateUpRefIdeal.Run
public import proofs.«01_k».proof.Proof.Gen.DNorm
public import proofs.«01_k».proof.Proof.Gen.DNorm.Frame
public import proofs.«01_k».proof.Proof.Gen.DNormIdeal
public import proofs.«01_k».proof.Proof.Gen.DNormIdeal.Frame
public import proofs.«01_k».proof.Proof.Gen.DNormIdeal.Value
public import proofs.«01_k».proof.Proof.Gen.DNormRefIdeal
public import proofs.«01_k».proof.Proof.Gen.DNormRefIdeal.Run
public import proofs.«01_k».proof.Proof.Gen.FirstGateUp
public import proofs.«01_k».proof.Proof.Gen.FirstGateUp.Frame
public import proofs.«01_k».proof.Proof.Gen.FirstGateUpIdeal
public import proofs.«01_k».proof.Proof.Gen.FirstGateUpIdeal.Frame
public import proofs.«01_k».proof.Proof.Gen.FirstGateUpIdeal.Value
public import proofs.«01_k».proof.Proof.Gen.FirstGateUpRefIdeal
public import proofs.«01_k».proof.Proof.Gen.FirstGateUpRefIdeal.Run
public import proofs.«01_k».proof.Proof.Gen.FirstDown
public import proofs.«01_k».proof.Proof.Gen.FirstDown.Frame
public import proofs.«01_k».proof.Proof.Gen.FirstDownIdeal
public import proofs.«01_k».proof.Proof.Gen.FirstDownIdeal.Frame
public import proofs.«01_k».proof.Proof.Gen.FirstDownIdeal.Value
public import proofs.«01_k».proof.Proof.Gen.FirstDownRefIdeal
public import proofs.«01_k».proof.Proof.Gen.FirstDownRefIdeal.Run
public import proofs.«01_k».proof.Proof.Gen.FirstDAct
public import proofs.«01_k».proof.Proof.Gen.FirstDAct.Frame
public import proofs.«01_k».proof.Proof.Gen.FirstDActIdeal
public import proofs.«01_k».proof.Proof.Gen.FirstDActIdeal.Frame
public import proofs.«01_k».proof.Proof.Gen.FirstDActIdeal.Value
public import proofs.«01_k».proof.Proof.Gen.FirstDActRefIdeal
public import proofs.«01_k».proof.Proof.Gen.FirstDActRefIdeal.Run
public import proofs.«01_k».proof.Proof.Gen.FirstDDown
public import proofs.«01_k».proof.Proof.Gen.FirstDDown.Frame
public import proofs.«01_k».proof.Proof.Gen.FirstDDownIdeal
public import proofs.«01_k».proof.Proof.Gen.FirstDDownIdeal.Frame
public import proofs.«01_k».proof.Proof.Gen.FirstDDownIdeal.Value
public import proofs.«01_k».proof.Proof.Gen.FirstDDownRefIdeal
public import proofs.«01_k».proof.Proof.Gen.FirstDDownRefIdeal.Run
public import proofs.«01_k».proof.Proof.Gen.FirstDGateUp
public import proofs.«01_k».proof.Proof.Gen.FirstDGateUp.Frame
public import proofs.«01_k».proof.Proof.Gen.FirstDGateUpIdeal
public import proofs.«01_k».proof.Proof.Gen.FirstDGateUpIdeal.Frame
public import proofs.«01_k».proof.Proof.Gen.FirstDGateUpIdeal.Value
public import proofs.«01_k».proof.Proof.Gen.FirstDGateUpRefIdeal
public import proofs.«01_k».proof.Proof.Gen.FirstDGateUpRefIdeal.Run
public import proofs.«01_k».proof.Proof.Gen.FirstDNorm
public import proofs.«01_k».proof.Proof.Gen.FirstDNorm.Frame
public import proofs.«01_k».proof.Proof.Gen.FirstDNormIdeal
public import proofs.«01_k».proof.Proof.Gen.FirstDNormIdeal.Frame
public import proofs.«01_k».proof.Proof.Gen.FirstDNormIdeal.Value
public import proofs.«01_k».proof.Proof.Gen.FirstDNormRefIdeal
public import proofs.«01_k».proof.Proof.Gen.FirstDNormRefIdeal.Run
public import proofs.«01_k».proof.Proof.Gen.AdamFfnColumns
public import proofs.«01_k».proof.Proof.Gen.AdamFfnColumns.Frame
public import proofs.«01_k».proof.Proof.Gen.AdamFfnColumnsIdeal
public import proofs.«01_k».proof.Proof.Gen.AdamFfnColumnsIdeal.Frame
public import proofs.«01_k».proof.Proof.Gen.AdamFfnColumnsIdeal.Value
public import proofs.«01_k».proof.Proof.Gen.AdamFfnColumnsRefIdeal
public import proofs.«01_k».proof.Proof.Gen.AdamFfnColumnsRefIdeal.Run
public import proofs.«01_k».proof.Proof.Gen.AdamFfnRows
public import proofs.«01_k».proof.Proof.Gen.AdamFfnRows.Frame
public import proofs.«01_k».proof.Proof.Gen.AdamFfnRowsIdeal
public import proofs.«01_k».proof.Proof.Gen.AdamFfnRowsIdeal.Frame
public import proofs.«01_k».proof.Proof.Gen.AdamFfnRowsIdeal.Value
public import proofs.«01_k».proof.Proof.Gen.AdamFfnRowsRefIdeal
public import proofs.«01_k».proof.Proof.Gen.AdamFfnRowsRefIdeal.Run
public import proofs.«01_k».proof.Proof.Gen.AdamMeta
public import proofs.«01_k».proof.Proof.Gen.AdamMeta.Frame
public import proofs.«01_k».proof.Proof.Gen.AdamMetaIdeal
public import proofs.«01_k».proof.Proof.Gen.AdamMetaIdeal.Frame
public import proofs.«01_k».proof.Proof.Gen.AdamMetaIdeal.Value
public import proofs.«01_k».proof.Proof.Gen.AdamMetaRefIdeal
public import proofs.«01_k».proof.Proof.Gen.AdamMetaRefIdeal.Run
public import proofs.«01_k».proof.Proof.Gen.AdamNorms
public import proofs.«01_k».proof.Proof.Gen.AdamNorms.Frame
public import proofs.«01_k».proof.Proof.Gen.AdamNormsIdeal
public import proofs.«01_k».proof.Proof.Gen.AdamNormsIdeal.Frame
public import proofs.«01_k».proof.Proof.Gen.AdamNormsIdeal.Value
public import proofs.«01_k».proof.Proof.Gen.AdamNormsRefIdeal
public import proofs.«01_k».proof.Proof.Gen.AdamNormsRefIdeal.Run
public import proofs.«01_k».proof.Proof.Gen.AdamMlstmIn
public import proofs.«01_k».proof.Proof.Gen.AdamMlstmIn.Frame
public import proofs.«01_k».proof.Proof.Gen.AdamMlstmInIdeal
public import proofs.«01_k».proof.Proof.Gen.AdamMlstmInIdeal.Frame
public import proofs.«01_k».proof.Proof.Gen.AdamMlstmInIdeal.Value
public import proofs.«01_k».proof.Proof.Gen.AdamMlstmInRefIdeal
public import proofs.«01_k».proof.Proof.Gen.AdamMlstmInRefIdeal.Run
public import proofs.«01_k».proof.Proof.Gen.AdamSquareOut
public import proofs.«01_k».proof.Proof.Gen.AdamSquareOut.Frame
public import proofs.«01_k».proof.Proof.Gen.AdamSquareOutIdeal
public import proofs.«01_k».proof.Proof.Gen.AdamSquareOutIdeal.Frame
public import proofs.«01_k».proof.Proof.Gen.AdamSquareOutIdeal.Value
public import proofs.«01_k».proof.Proof.Gen.AdamSquareOutRefIdeal
public import proofs.«01_k».proof.Proof.Gen.AdamSquareOutRefIdeal.Run
public import proofs.«01_k».proof.Proof.Gen.AdamMlstmBias
public import proofs.«01_k».proof.Proof.Gen.AdamMlstmBias.Frame
public import proofs.«01_k».proof.Proof.Gen.AdamMlstmBiasIdeal
public import proofs.«01_k».proof.Proof.Gen.AdamMlstmBiasIdeal.Frame
public import proofs.«01_k».proof.Proof.Gen.AdamMlstmBiasIdeal.Value
public import proofs.«01_k».proof.Proof.Gen.AdamMlstmBiasRefIdeal
public import proofs.«01_k».proof.Proof.Gen.AdamMlstmBiasRefIdeal.Run
public import proofs.«01_k».proof.Proof.Gen.AdamRow2048
public import proofs.«01_k».proof.Proof.Gen.AdamRow2048.Frame
public import proofs.«01_k».proof.Proof.Gen.AdamRow2048Ideal
public import proofs.«01_k».proof.Proof.Gen.AdamRow2048Ideal.Frame
public import proofs.«01_k».proof.Proof.Gen.AdamRow2048Ideal.Value
public import proofs.«01_k».proof.Proof.Gen.AdamRow2048RefIdeal
public import proofs.«01_k».proof.Proof.Gen.AdamRow2048RefIdeal.Run
public import proofs.«01_k».proof.Proof.Gen.AdamPoolWeight
public import proofs.«01_k».proof.Proof.Gen.AdamPoolWeight.Frame
public import proofs.«01_k».proof.Proof.Gen.AdamPoolWeightIdeal
public import proofs.«01_k».proof.Proof.Gen.AdamPoolWeightIdeal.Frame
public import proofs.«01_k».proof.Proof.Gen.AdamPoolWeightIdeal.Value
public import proofs.«01_k».proof.Proof.Gen.AdamPoolWeightRefIdeal
public import proofs.«01_k».proof.Proof.Gen.AdamPoolWeightRefIdeal.Run
public import proofs.«01_k».proof.Proof.Gen.AdamRow512
public import proofs.«01_k».proof.Proof.Gen.AdamRow512.Frame
public import proofs.«01_k».proof.Proof.Gen.AdamRow512Ideal
public import proofs.«01_k».proof.Proof.Gen.AdamRow512Ideal.Frame
public import proofs.«01_k».proof.Proof.Gen.AdamRow512Ideal.Value
public import proofs.«01_k».proof.Proof.Gen.AdamRow512RefIdeal
public import proofs.«01_k».proof.Proof.Gen.AdamRow512RefIdeal.Run
public import proofs.«01_k».proof.Proof.Gen.AdamGdnIn
public import proofs.«01_k».proof.Proof.Gen.AdamGdnIn.Frame
public import proofs.«01_k».proof.Proof.Gen.AdamGdnInIdeal
public import proofs.«01_k».proof.Proof.Gen.AdamGdnInIdeal.Frame
public import proofs.«01_k».proof.Proof.Gen.AdamGdnInIdeal.Value
public import proofs.«01_k».proof.Proof.Gen.AdamGdnInRefIdeal
public import proofs.«01_k».proof.Proof.Gen.AdamGdnInRefIdeal.Run
public import proofs.«01_k».proof.Proof.Gen.AdamGdnConv
public import proofs.«01_k».proof.Proof.Gen.AdamGdnConv.Frame
public import proofs.«01_k».proof.Proof.Gen.AdamGdnConvIdeal
public import proofs.«01_k».proof.Proof.Gen.AdamGdnConvIdeal.Frame
public import proofs.«01_k».proof.Proof.Gen.AdamGdnConvIdeal.Value
public import proofs.«01_k».proof.Proof.Gen.AdamGdnConvRefIdeal
public import proofs.«01_k».proof.Proof.Gen.AdamGdnConvRefIdeal.Run
public import proofs.«01_k».proof.Proof.Gen.AdamRow32
public import proofs.«01_k».proof.Proof.Gen.AdamRow32.Frame
public import proofs.«01_k».proof.Proof.Gen.AdamRow32Ideal
public import proofs.«01_k».proof.Proof.Gen.AdamRow32Ideal.Frame
public import proofs.«01_k».proof.Proof.Gen.AdamRow32Ideal.Value
public import proofs.«01_k».proof.Proof.Gen.AdamRow32RefIdeal
public import proofs.«01_k».proof.Proof.Gen.AdamRow32RefIdeal.Run
public import proofs.«01_k».proof.Proof.Gen.AdamRow128
public import proofs.«01_k».proof.Proof.Gen.AdamRow128.Frame
public import proofs.«01_k».proof.Proof.Gen.AdamRow128Ideal
public import proofs.«01_k».proof.Proof.Gen.AdamRow128Ideal.Frame
public import proofs.«01_k».proof.Proof.Gen.AdamRow128Ideal.Value
public import proofs.«01_k».proof.Proof.Gen.AdamRow128RefIdeal
public import proofs.«01_k».proof.Proof.Gen.AdamRow128RefIdeal.Run
public import proofs.«01_k».proof.Proof.Gen.AdamGdnOut
public import proofs.«01_k».proof.Proof.Gen.AdamGdnOut.Frame
public import proofs.«01_k».proof.Proof.Gen.AdamGdnOutIdeal
public import proofs.«01_k».proof.Proof.Gen.AdamGdnOutIdeal.Frame
public import proofs.«01_k».proof.Proof.Gen.AdamGdnOutIdeal.Value
public import proofs.«01_k».proof.Proof.Gen.AdamGdnOutRefIdeal
public import proofs.«01_k».proof.Proof.Gen.AdamGdnOutRefIdeal.Run
public import proofs.«01_k».proof.Proof.Gen.AdamSwaIn
public import proofs.«01_k».proof.Proof.Gen.AdamSwaIn.Frame
public import proofs.«01_k».proof.Proof.Gen.AdamSwaInIdeal
public import proofs.«01_k».proof.Proof.Gen.AdamSwaInIdeal.Frame
public import proofs.«01_k».proof.Proof.Gen.AdamSwaInIdeal.Value
public import proofs.«01_k».proof.Proof.Gen.AdamSwaInRefIdeal
public import proofs.«01_k».proof.Proof.Gen.AdamSwaInRefIdeal.Run
public import proofs.«01_k».proof.Proof.Gen.AdamRow640
public import proofs.«01_k».proof.Proof.Gen.AdamRow640.Frame
public import proofs.«01_k».proof.Proof.Gen.AdamRow640Ideal
public import proofs.«01_k».proof.Proof.Gen.AdamRow640Ideal.Frame
public import proofs.«01_k».proof.Proof.Gen.AdamRow640Ideal.Value
public import proofs.«01_k».proof.Proof.Gen.AdamRow640RefIdeal
public import proofs.«01_k».proof.Proof.Gen.AdamRow640RefIdeal.Run
public import proofs.«01_k».proof.Proof.Gen.AdamFinalNorm
public import proofs.«01_k».proof.Proof.Gen.AdamFinalNorm.Frame
public import proofs.«01_k».proof.Proof.Gen.AdamFinalNormIdeal
public import proofs.«01_k».proof.Proof.Gen.AdamFinalNormIdeal.Frame
public import proofs.«01_k».proof.Proof.Gen.AdamFinalNormIdeal.Value
public import proofs.«01_k».proof.Proof.Gen.AdamFinalNormRefIdeal
public import proofs.«01_k».proof.Proof.Gen.AdamFinalNormRefIdeal.Run

@[expose] public section

set_option maxRecDepth 16384

noncomputable section

open Idealize.ShloMosaic Idealize.ShloMosaic.TcCoe Idealize.SL.Sem Idealize.ShloMosaic.StableHlo

namespace Cert.Proof

open Cert.Attn Cert.Value

/-- The reference's arguments hold the kernel's numbers. -/
theorem ref_holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    {D : Data} (h : Cert.KernelIdeal.Value.Holds m c D) : Cert.ReferenceIdeal.Value.Holds (launchContents m' c) D where
  q a g t d := (congrFun ha.1 (ix4 a g t d)).trans (h.q a g t d)
  k a t d := (congrFun ha.2.1 (ix3 a t d)).trans (h.k a t d)
  v a t d := (congrFun ha.2.2.1 (ix3 a t d)).trans (h.v a t d)
  s a g := (congrFun ha.2.2.2.1 (ix2 0 ⟨a.1 * 8 + g.1, by omega⟩)).trans (h.s a g)
  dO a g t d := (congrFun ha.2.2.2.2 (ix4 a g t d)).trans (h.dO a g t d)

section

open Cert.ReferenceIdeal.Value

variable {V0 : Valuation Cert.ReferenceIdeal.τ Cert.ReferenceIdeal.sig (Elt Ideal)} {D : Data} (hD : Holds V0 D)
include hD

theorem rq_eq : rq V0 = Cert.KernelIdeal.Value.outQ D := by
  funext x
  idx_vars x
  exact rq_val hD _ _ _ _

theorem rk_eq : rk V0 = Cert.KernelIdeal.Value.outK D := by
  funext x
  idx_vars x
  exact rk_val hD _ _ _

theorem rv_eq : rv V0 = Cert.KernelIdeal.Value.outV D := by
  funext x
  idx_vars x
  exact rv_val hD _ _ _

theorem rs_eq : rs V0 = Cert.KernelIdeal.Value.outS D := Cert.KernelIdeal.Value.sinks_ext _ fun h g => rs_val hD h g

end

/-- The kernel and the reference end with the same gradients. -/
theorem value : Cert.algebraic_KernelIdeal_ReferenceIdeal_pre_finite (hKernelIdeal := Cert.KernelIdeal.Gen.facts)
    (hReferenceIdeal := Cert.ReferenceIdeal.Gen.facts) (hPre_finite := preFacts) := by
  intro m g m' g' hm ha
  have hD := holds_of m hm
  refine ⟨fun c => Cert.KernelIdeal.Value.outQ (dataOf m c), fun c => Cert.KernelIdeal.Value.outK (dataOf m c),
    fun c => Cert.KernelIdeal.Value.outV (dataOf m c), fun c => Cert.KernelIdeal.Value.outS (dataOf m c),
    Cert.KernelIdeal.Value.run g (dataOf m) hD,
    (θ_run Cert.ReferenceIdeal.defs _ _).mono (fun r h c => ?_) (Cert.ReferenceIdeal.Value.run m' g')⟩
  have hR := ref_holds m m' c (ha c) (hD c)
  exact ⟨(h c).1.trans (rq_eq hR), (h c).2.1.trans (rk_eq hR), (h c).2.2.1.trans (rv_eq hR),
    (h c).2.2.2.1.trans (rs_eq hR), (h c).2.2.2.2⟩

/-- The reference leaves its arguments as they were. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.DAct.Gen.facts, Cert.DActIdeal.Gen.facts, Cert.DActRefIdeal.Gen.facts,
    Cert.DDown.Gen.facts, Cert.DDownIdeal.Gen.facts, Cert.DDownRefIdeal.Gen.facts,
    Cert.DGateUp.Gen.facts, Cert.DGateUpIdeal.Gen.facts, Cert.DGateUpRefIdeal.Gen.facts,
    Cert.DNorm.Gen.facts, Cert.DNormIdeal.Gen.facts, Cert.DNormRefIdeal.Gen.facts,
    Cert.FirstGateUp.Gen.facts, Cert.FirstGateUpIdeal.Gen.facts, Cert.FirstGateUpRefIdeal.Gen.facts,
    Cert.FirstDown.Gen.facts, Cert.FirstDownIdeal.Gen.facts, Cert.FirstDownRefIdeal.Gen.facts,
    Cert.FirstDAct.Gen.facts, Cert.FirstDActIdeal.Gen.facts, Cert.FirstDActRefIdeal.Gen.facts,
    Cert.FirstDDown.Gen.facts, Cert.FirstDDownIdeal.Gen.facts, Cert.FirstDDownRefIdeal.Gen.facts,
    Cert.FirstDGateUp.Gen.facts, Cert.FirstDGateUpIdeal.Gen.facts, Cert.FirstDGateUpRefIdeal.Gen.facts,
    Cert.FirstDNorm.Gen.facts, Cert.FirstDNormIdeal.Gen.facts, Cert.FirstDNormRefIdeal.Gen.facts,
    Cert.AdamFfnColumns.Gen.facts, Cert.AdamFfnColumnsIdeal.Gen.facts, Cert.AdamFfnColumnsRefIdeal.Gen.facts,
    Cert.AdamFfnRows.Gen.facts, Cert.AdamFfnRowsIdeal.Gen.facts, Cert.AdamFfnRowsRefIdeal.Gen.facts,
    Cert.AdamMeta.Gen.facts, Cert.AdamMetaIdeal.Gen.facts, Cert.AdamMetaRefIdeal.Gen.facts,
    Cert.AdamNorms.Gen.facts, Cert.AdamNormsIdeal.Gen.facts, Cert.AdamNormsRefIdeal.Gen.facts,
    Cert.AdamMlstmIn.Gen.facts, Cert.AdamMlstmInIdeal.Gen.facts, Cert.AdamMlstmInRefIdeal.Gen.facts,
    Cert.AdamSquareOut.Gen.facts, Cert.AdamSquareOutIdeal.Gen.facts, Cert.AdamSquareOutRefIdeal.Gen.facts,
    Cert.AdamMlstmBias.Gen.facts, Cert.AdamMlstmBiasIdeal.Gen.facts, Cert.AdamMlstmBiasRefIdeal.Gen.facts,
    Cert.AdamRow2048.Gen.facts, Cert.AdamRow2048Ideal.Gen.facts, Cert.AdamRow2048RefIdeal.Gen.facts,
    Cert.AdamPoolWeight.Gen.facts, Cert.AdamPoolWeightIdeal.Gen.facts, Cert.AdamPoolWeightRefIdeal.Gen.facts,
    Cert.AdamRow512.Gen.facts, Cert.AdamRow512Ideal.Gen.facts, Cert.AdamRow512RefIdeal.Gen.facts,
    Cert.AdamGdnIn.Gen.facts, Cert.AdamGdnInIdeal.Gen.facts, Cert.AdamGdnInRefIdeal.Gen.facts,
    Cert.AdamGdnConv.Gen.facts, Cert.AdamGdnConvIdeal.Gen.facts, Cert.AdamGdnConvRefIdeal.Gen.facts,
    Cert.AdamRow32.Gen.facts, Cert.AdamRow32Ideal.Gen.facts, Cert.AdamRow32RefIdeal.Gen.facts,
    Cert.AdamRow128.Gen.facts, Cert.AdamRow128Ideal.Gen.facts, Cert.AdamRow128RefIdeal.Gen.facts,
    Cert.AdamGdnOut.Gen.facts, Cert.AdamGdnOutIdeal.Gen.facts, Cert.AdamGdnOutRefIdeal.Gen.facts,
    Cert.AdamSwaIn.Gen.facts, Cert.AdamSwaInIdeal.Gen.facts, Cert.AdamSwaInRefIdeal.Gen.facts,
    Cert.AdamRow640.Gen.facts, Cert.AdamRow640Ideal.Gen.facts, Cert.AdamRow640RefIdeal.Gen.facts,
    Cert.AdamFinalNorm.Gen.facts, Cert.AdamFinalNormIdeal.Gen.facts, Cert.AdamFinalNormRefIdeal.Gen.facts,
    preFacts, Cert.Ffn.preFacts, Cert.Ffn.preFactsFirst,
    fun m ρ _ => Cert.Kernel.Gen.frame m ρ,
    fun m ρ _ => Cert.KernelIdeal.Gen.frame m ρ,
    fun m ρ _ => Cert.KernelIdeal.Gen.frame m ρ,
    fun m ρ _ => ref_frame m ρ,
    fun m ρ _ => ref_frame m ρ,
    fun m ρ _ => Cert.GateUp.Gen.frame m ρ,
    fun m ρ _ => Cert.GateUpIdeal.Gen.frame m ρ,
    fun m ρ _ => Cert.Ffn.frame_GateUp m ρ,
    fun m ρ _ => Cert.Down.Gen.frame m ρ,
    fun m ρ _ => Cert.DownIdeal.Gen.frame m ρ,
    fun m ρ _ => Cert.Ffn.frame_Down m ρ,
    fun m ρ _ => Cert.DAct.Gen.frame m ρ,
    fun m ρ _ => Cert.DActIdeal.Gen.frame m ρ,
    fun m ρ _ => Cert.DActIdeal.Gen.frame m ρ,
    fun m ρ _ => Cert.Ffn.frame_DAct m ρ,
    fun m ρ _ => Cert.Ffn.frame_DAct m ρ,
    fun m ρ _ => Cert.DDown.Gen.frame m ρ,
    fun m ρ _ => Cert.DDownIdeal.Gen.frame m ρ,
    fun m ρ _ => Cert.Ffn.frame_DDown m ρ,
    fun m ρ _ => Cert.DGateUp.Gen.frame m ρ,
    fun m ρ _ => Cert.DGateUpIdeal.Gen.frame m ρ,
    fun m ρ _ => Cert.Ffn.frame_DGateUp m ρ,
    fun m ρ _ => Cert.DNorm.Gen.frame m ρ,
    fun m ρ _ => Cert.DNormIdeal.Gen.frame m ρ,
    fun m ρ _ => Cert.Ffn.frame_DNorm m ρ,
    fun m ρ _ => Cert.FirstGateUp.Gen.frame m ρ,
    fun m ρ _ => Cert.FirstGateUpIdeal.Gen.frame m ρ,
    fun m ρ _ => Cert.Ffn.frame_FirstGateUp m ρ,
    fun m ρ _ => Cert.FirstDown.Gen.frame m ρ,
    fun m ρ _ => Cert.FirstDownIdeal.Gen.frame m ρ,
    fun m ρ _ => Cert.Ffn.frame_FirstDown m ρ,
    fun m ρ _ => Cert.FirstDAct.Gen.frame m ρ,
    fun m ρ _ => Cert.FirstDActIdeal.Gen.frame m ρ,
    fun m ρ _ => Cert.FirstDActIdeal.Gen.frame m ρ,
    fun m ρ _ => Cert.Ffn.frame_FirstDAct m ρ,
    fun m ρ _ => Cert.Ffn.frame_FirstDAct m ρ,
    fun m ρ _ => Cert.FirstDDown.Gen.frame m ρ,
    fun m ρ _ => Cert.FirstDDownIdeal.Gen.frame m ρ,
    fun m ρ _ => Cert.Ffn.frame_FirstDDown m ρ,
    fun m ρ _ => Cert.FirstDGateUp.Gen.frame m ρ,
    fun m ρ _ => Cert.FirstDGateUpIdeal.Gen.frame m ρ,
    fun m ρ _ => Cert.Ffn.frame_FirstDGateUp m ρ,
    fun m ρ _ => Cert.FirstDNorm.Gen.frame m ρ,
    fun m ρ _ => Cert.FirstDNormIdeal.Gen.frame m ρ,
    fun m ρ _ => Cert.Ffn.frame_FirstDNorm m ρ,
    fun m ρ _ => Cert.AdamFfnColumns.Gen.frame m ρ,
    fun m ρ _ => Cert.AdamFfnColumnsIdeal.Gen.frame m ρ,
    fun m ρ _ => Cert.Optimiser.frame_AdamFfnColumns m ρ,
    fun m ρ _ => Cert.AdamFfnRows.Gen.frame m ρ,
    fun m ρ _ => Cert.AdamFfnRowsIdeal.Gen.frame m ρ,
    fun m ρ _ => Cert.Optimiser.frame_AdamFfnRows m ρ,
    fun m ρ _ => Cert.AdamMeta.Gen.frame m ρ,
    fun m ρ _ => Cert.AdamMetaIdeal.Gen.frame m ρ,
    fun m ρ _ => Cert.Optimiser.frame_AdamMeta m ρ,
    fun m ρ _ => Cert.AdamNorms.Gen.frame m ρ,
    fun m ρ _ => Cert.AdamNormsIdeal.Gen.frame m ρ,
    fun m ρ _ => Cert.Optimiser.frame_AdamNorms m ρ,
    fun m ρ _ => Cert.AdamMlstmIn.Gen.frame m ρ,
    fun m ρ _ => Cert.AdamMlstmInIdeal.Gen.frame m ρ,
    fun m ρ _ => Cert.Optimiser.frame_AdamMlstmIn m ρ,
    fun m ρ _ => Cert.AdamSquareOut.Gen.frame m ρ,
    fun m ρ _ => Cert.AdamSquareOutIdeal.Gen.frame m ρ,
    fun m ρ _ => Cert.Optimiser.frame_AdamSquareOut m ρ,
    fun m ρ _ => Cert.AdamMlstmBias.Gen.frame m ρ,
    fun m ρ _ => Cert.AdamMlstmBiasIdeal.Gen.frame m ρ,
    fun m ρ _ => Cert.Optimiser.frame_AdamMlstmBias m ρ,
    fun m ρ _ => Cert.AdamRow2048.Gen.frame m ρ,
    fun m ρ _ => Cert.AdamRow2048Ideal.Gen.frame m ρ,
    fun m ρ _ => Cert.Optimiser.frame_AdamRow2048 m ρ,
    fun m ρ _ => Cert.AdamPoolWeight.Gen.frame m ρ,
    fun m ρ _ => Cert.AdamPoolWeightIdeal.Gen.frame m ρ,
    fun m ρ _ => Cert.Optimiser.frame_AdamPoolWeight m ρ,
    fun m ρ _ => Cert.AdamRow512.Gen.frame m ρ,
    fun m ρ _ => Cert.AdamRow512Ideal.Gen.frame m ρ,
    fun m ρ _ => Cert.Optimiser.frame_AdamRow512 m ρ,
    fun m ρ _ => Cert.AdamGdnIn.Gen.frame m ρ,
    fun m ρ _ => Cert.AdamGdnInIdeal.Gen.frame m ρ,
    fun m ρ _ => Cert.Optimiser.frame_AdamGdnIn m ρ,
    fun m ρ _ => Cert.AdamGdnConv.Gen.frame m ρ,
    fun m ρ _ => Cert.AdamGdnConvIdeal.Gen.frame m ρ,
    fun m ρ _ => Cert.Optimiser.frame_AdamGdnConv m ρ,
    fun m ρ _ => Cert.AdamRow32.Gen.frame m ρ,
    fun m ρ _ => Cert.AdamRow32Ideal.Gen.frame m ρ,
    fun m ρ _ => Cert.Optimiser.frame_AdamRow32 m ρ,
    fun m ρ _ => Cert.AdamRow128.Gen.frame m ρ,
    fun m ρ _ => Cert.AdamRow128Ideal.Gen.frame m ρ,
    fun m ρ _ => Cert.Optimiser.frame_AdamRow128 m ρ,
    fun m ρ _ => Cert.AdamGdnOut.Gen.frame m ρ,
    fun m ρ _ => Cert.AdamGdnOutIdeal.Gen.frame m ρ,
    fun m ρ _ => Cert.Optimiser.frame_AdamGdnOut m ρ,
    fun m ρ _ => Cert.AdamSwaIn.Gen.frame m ρ,
    fun m ρ _ => Cert.AdamSwaInIdeal.Gen.frame m ρ,
    fun m ρ _ => Cert.Optimiser.frame_AdamSwaIn m ρ,
    fun m ρ _ => Cert.AdamRow640.Gen.frame m ρ,
    fun m ρ _ => Cert.AdamRow640Ideal.Gen.frame m ρ,
    fun m ρ _ => Cert.Optimiser.frame_AdamRow640 m ρ,
    fun m ρ _ => Cert.AdamFinalNorm.Gen.frame m ρ,
    fun m ρ _ => Cert.AdamFinalNormIdeal.Gen.frame m ρ,
    fun m ρ _ => Cert.Optimiser.frame_AdamFinalNorm m ρ,
    trivial, value,
    trivial, Cert.Ffn.value_GateUp,
    trivial, Cert.Ffn.value_Down,
    trivial, Cert.Ffn.value_DAct,
    trivial, Cert.Ffn.value_DDown,
    trivial, Cert.Ffn.value_DGateUp,
    trivial, Cert.Ffn.value_DNorm,
    trivial, Cert.Ffn.value_FirstGateUp,
    trivial, Cert.Ffn.value_FirstDown,
    trivial, Cert.Ffn.value_FirstDAct,
    trivial, Cert.Ffn.value_FirstDDown,
    trivial, Cert.Ffn.value_FirstDGateUp,
    trivial, Cert.Ffn.value_FirstDNorm,
    trivial, Cert.Optimiser.value_AdamFfnColumns,
    trivial, Cert.Optimiser.value_AdamFfnRows,
    trivial, Cert.Optimiser.value_AdamMeta,
    trivial, Cert.Optimiser.value_AdamNorms,
    trivial, Cert.Optimiser.value_AdamMlstmIn,
    trivial, Cert.Optimiser.value_AdamSquareOut,
    trivial, Cert.Optimiser.value_AdamMlstmBias,
    trivial, Cert.Optimiser.value_AdamRow2048,
    trivial, Cert.Optimiser.value_AdamPoolWeight,
    trivial, Cert.Optimiser.value_AdamRow512,
    trivial, Cert.Optimiser.value_AdamGdnIn,
    trivial, Cert.Optimiser.value_AdamGdnConv,
    trivial, Cert.Optimiser.value_AdamRow32,
    trivial, Cert.Optimiser.value_AdamRow128,
    trivial, Cert.Optimiser.value_AdamGdnOut,
    trivial, Cert.Optimiser.value_AdamSwaIn,
    trivial, Cert.Optimiser.value_AdamRow640,
    trivial, Cert.Optimiser.value_AdamFinalNorm⟩

end Cert.Proof

end
